-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "seventh" .f32 0x3E124925#32 ((7⁻¹ : ℝ) : EReal)

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_rows : Cert.Pre_in_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ preserves_Kernel_KernelIdeal
    ∧ algebraic_KernelIdeal_ReferenceIdeal (hKernelIdeal := hKernelIdeal) (hReferenceIdeal := hReferenceIdeal) (hPre_in_rows := hPre_in_rows)
-- ==== Pre_in_rows.lean ====
abbrev S163842x128x2 : Shape := ⟨3, ![163842, 128, 2]⟩
abbrev S286734 : Shape := ⟨1, ![286734]⟩
abbrev S_ : Shape := ⟨0, ![]⟩

class Facts : Prop where
  bcast_S_S286734 : S_.BroadcastsInDim S286734 (![] : Fin 0 → Fin S286734.rank)
  reducesTo_S286734_S_d0 : S286734.ReducesTo [0] S_
  h_S_ : 0 < S_.numel

variable [Facts]

def fn {F : FTy → Type} [FloatOps F] (main_arg0 : FVec F S163842x128x2 .f32) (main_arg1 : IVec S286734 32) : IVec S_ 1 :=
  let main_c : IVec S_ 32 := constantI S_ 32 0#32
  let main_v0 : IVec S286734 32 := broadcastInDim S286734 ![] bcast_S_S286734 main_c
  let main_v1 : IVec S286734 1 := cmpi .sge main_arg1 main_v0
  let main_c_0 : IVec S_ 32 := constantI S_ 32 163842#32
  let main_v2 : IVec S286734 32 := broadcastInDim S286734 ![] bcast_S_S286734 main_c_0
  let main_v3 : IVec S286734 1 := cmpi .slt main_arg1 main_v2
  let main_v4 : IVec S286734 1 := andi main_v1 main_v3
  let main_c_1 : IVec S_ 1 := constantI S_ 1 1#1
  let main_v5 : IVec S_ 1 := (fun x v => Host.reduce IntOp.andi x v reducesTo_S286734_S_d0 h_S_) main_v4 main_c_1
  main_v5
-- ==== Kernel.lean ====
abbrev S163842x128x2 : Shape := ⟨3, ![163842, 128, 2]⟩
abbrev S286734 : Shape := ⟨1, ![286734]⟩
abbrev S163842x2x128 : Shape := ⟨3, ![163842, 2, 128]⟩
abbrev S_ : Shape := ⟨0, ![]⟩
abbrev S10738 : Shape := ⟨1, ![10738]⟩
abbrev S297472 : Shape := ⟨1, ![297472]⟩
abbrev S40962x2x128 : Shape := ⟨3, ![40962, 2, 128]⟩
abbrev S12096 : Shape := ⟨1, ![12096]⟩
abbrev S224x2x128 : Shape := ⟨3, ![224, 2, 128]⟩
abbrev S32x2x128 : Shape := ⟨3, ![32, 2, 128]⟩
abbrev S16 : Shape := ⟨1, ![16]⟩
abbrev S112x2x128 : Shape := ⟨3, ![112, 2, 128]⟩
abbrev S112 : Shape := ⟨1, ![112]⟩
abbrev S16x2x128 : Shape := ⟨3, ![16, 2, 128]⟩
abbrev S1x1x16 : Shape := ⟨3, ![1, 1, 16]⟩
abbrev S2x2x128 : Shape := ⟨3, ![2, 2, 128]⟩
abbrev S40962x128x2 : Shape := ⟨3, ![40962, 128, 2]⟩

abbrev nBuf : Table → Nat
  | .hbm => 8
  | .local .scVector .vmem => 3
  | _ => 0

abbrev bufTy : (tb : Table) → Fin (nBuf tb) → BufTy
  | .hbm, ⟨0, _⟩ => ⟨S163842x128x2, .f32⟩
  | .hbm, ⟨1, _⟩ => ⟨S286734, .i32⟩
  | .hbm, ⟨2, _⟩ => ⟨S163842x2x128, .f32⟩
  | .hbm, ⟨3, _⟩ => ⟨S_, .i32⟩
  | .hbm, ⟨4, _⟩ => ⟨S10738, .i32⟩
  | .hbm, ⟨5, _⟩ => ⟨S297472, .i32⟩
  | .hbm, ⟨6, _⟩ => ⟨S40962x2x128, .f32⟩
  | .hbm, ⟨7, _⟩ => ⟨S40962x128x2, .f32⟩
  | .local .scVector .vmem, ⟨0, _⟩ => ⟨S12096, .i32⟩
  | .local .scVector .vmem, ⟨1, _⟩ => ⟨S224x2x128, .f32⟩
  | .local .scVector .vmem, ⟨2, _⟩ => ⟨S32x2x128, .f32⟩
  | _, _ => ⟨S163842x128x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 2, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c112_i32 : BitVec 32 := 112#32
  let v6 : BitVec 32 := Scalar.muli v4 c112_i32
  ![v6.toNat]
@[reducible] def k0_t1_loop (i : grid0.Coords) : Scf.Loop 32 :=
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_9 : BitVec 32 := 1#32
  ⟨c0_i32_8, v17, c1_i32_9⟩
def k0_off2 (i : grid0.Coords) (k0_t1 : Fin (k0_t1_loop i).trips) : Fin 1 → Nat :=
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let c112_i32_20 : BitVec 32 := 112#32
  let v34 : BitVec 32 := Scalar.muli v33 c112_i32_20
  ![v34.toNat]
def k0_off3 (i : grid0.Coords) (k0_t1 : Fin (k0_t1_loop i).trips) : Fin 1 → Nat :=
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let c1_i32_27 : BitVec 32 := 1#32
  let v38 : BitVec 32 := Scalar.addi v33 c1_i32_27
  let c112_i32_28 : BitVec 32 := 112#32
  let v39 : BitVec 32 := Scalar.muli v38 c112_i32_28
  ![v39.toNat]
def k0_cond1 (i : grid0.Coords) (k0_t1 : Fin (k0_t1_loop i).trips) : BitVec 1 :=
  let c0_i32_8 : BitVec 32 := 0#32
  let c1_i32_9 : BitVec 32 := 1#32
  let arg12 : BitVec 32 := Scf.iv c0_i32_8 c1_i32_9 k0_t1
  let c0_i32_35 : BitVec 32 := 0#32
  let v43 : BitVec 1 := Scalar.cmpi .sgt arg12 c0_i32_35
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let v33 : BitVec 32 := Scalar.muli c2_i32_19 arg12
  let c2_i32_36 : BitVec 32 := 2#32
  let v44 : BitVec 32 := Scalar.subi v33 c2_i32_36
  let v45 : BitVec 32 := Scalar.addi v4 v44
  let c1_i32_37 : BitVec 32 := 1#32
  let v46 : BitVec 32 := Scalar.addi v45 c1_i32_37
  let c16_i32_38 : BitVec 32 := 16#32
  let v47 : BitVec 32 := Scalar.muli v46 c16_i32_38
  let c40962_i32_39 : BitVec 32 := 40962#32
  let v48 : BitVec 1 := Scalar.cmpi .sle v47 c40962_i32_39
  let v49 : BitVec 1 := Scalar.andi v43 v48
  let v50 : BitVec 32 := Scalar.extui v49
  let c0_i32_40 : BitVec 32 := 0#32
  let v51 : BitVec 1 := Scalar.cmpi .ne v50 c0_i32_40
  v51

def k0_off4 (i : grid0.Coords) (k0_t1 : Fin (k0_t1_loop i).trips) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let c2_i32_700 : BitVec 32 := 2#32
  let v1265 : BitVec 32 := Scalar.subi v33 c2_i32_700
  let v1266 : BitVec 32 := Scalar.addi v4 v1265
  let c16_i32_701 : BitVec 32 := 16#32
  let v1267 : BitVec 32 := Scalar.muli v1266 c16_i32_701
  let c0_i32_705 : BitVec 32 := 0#32
  let c0_i32_706 : BitVec 32 := 0#32
  ![v1267.toNat, 0, 0]
@[reducible] def k0_t2_loop : Scf.Loop 32 :=
  let c0_i32_71 : BitVec 32 := 0#32
  let c8_i32 : BitVec 32 := 8#32
  let v124 : BitVec 32 := Scalar.addi c0_i32_71 c8_i32
  let c1_i32_72 : BitVec 32 := 1#32
  ⟨c0_i32_71, v124, c1_i32_72⟩

def k0_chk1 (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v85] : Fin 3 → IVec S16 32) a x).toNat < S224x2x128.size a) ∧
  (∀ a x, ((![v1272, v1286, v89] : Fin 3 → IVec S16 32) a x).toNat < S224x2x128.size a) ∧
  (∀ a x, ((![v1274, v1286, v93] : Fin 3 → IVec S16 32) a x).toNat < S224x2x128.size a) ∧
  (∀ a x, ((![v1276, v1286, v97] : Fin 3 → IVec S16 32) a x).toNat < S224x2x128.size a) ∧
  (∀ a x, ((![v1278, v1286, v101] : Fin 3 → IVec S16 32) a x).toNat < S224x2x128.size a) ∧
  (∀ a x, ((![v1280, v1286, v105] : Fin 3 → IVec S16 32) a x).toNat < S224x2x128.size a) ∧
  (∀ a x, ((![v1282, v1286, v109] : Fin 3 → IVec S16 32) a x).toNat < S224x2x128.size a)
theorem k0_idx1_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw1 : k0_chk1 v85 v89 v93 v97 v101 v105 v109 v1270 v1272 v1274 v1276 v1278 v1280 v1282 v1286), ∀ a x, ((![v1270, v1286, v85] : Fin 3 → IVec S16 32) a x).toNat < S224x2x128.size a := fun v85 v89 v93 v97 v101 v105 v109 v1270 v1272 v1274 v1276 v1278 v1280 v1282 v1286 k0_hw1 => k0_hw1.1
theorem k0_idx2_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw1 : k0_chk1 v85 v89 v93 v97 v101 v105 v109 v1270 v1272 v1274 v1276 v1278 v1280 v1282 v1286), ∀ a x, ((![v1272, v1286, v89] : Fin 3 → IVec S16 32) a x).toNat < S224x2x128.size a := fun v85 v89 v93 v97 v101 v105 v109 v1270 v1272 v1274 v1276 v1278 v1280 v1282 v1286 k0_hw1 => k0_hw1.2.1
theorem k0_idx3_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw1 : k0_chk1 v85 v89 v93 v97 v101 v105 v109 v1270 v1272 v1274 v1276 v1278 v1280 v1282 v1286), ∀ a x, ((![v1274, v1286, v93] : Fin 3 → IVec S16 32) a x).toNat < S224x2x128.size a := fun v85 v89 v93 v97 v101 v105 v109 v1270 v1272 v1274 v1276 v1278 v1280 v1282 v1286 k0_hw1 => k0_hw1.2.2.1
theorem k0_idx4_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw1 : k0_chk1 v85 v89 v93 v97 v101 v105 v109 v1270 v1272 v1274 v1276 v1278 v1280 v1282 v1286), ∀ a x, ((![v1276, v1286, v97] : Fin 3 → IVec S16 32) a x).toNat < S224x2x128.size a := fun v85 v89 v93 v97 v101 v105 v109 v1270 v1272 v1274 v1276 v1278 v1280 v1282 v1286 k0_hw1 => k0_hw1.2.2.2.1
theorem k0_idx5_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw1 : k0_chk1 v85 v89 v93 v97 v101 v105 v109 v1270 v1272 v1274 v1276 v1278 v1280 v1282 v1286), ∀ a x, ((![v1278, v1286, v101] : Fin 3 → IVec S16 32) a x).toNat < S224x2x128.size a := fun v85 v89 v93 v97 v101 v105 v109 v1270 v1272 v1274 v1276 v1278 v1280 v1282 v1286 k0_hw1 => k0_hw1.2.2.2.2.1
theorem k0_idx6_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw1 : k0_chk1 v85 v89 v93 v97 v101 v105 v109 v1270 v1272 v1274 v1276 v1278 v1280 v1282 v1286), ∀ a x, ((![v1280, v1286, v105] : Fin 3 → IVec S16 32) a x).toNat < S224x2x128.size a := fun v85 v89 v93 v97 v101 v105 v109 v1270 v1272 v1274 v1276 v1278 v1280 v1282 v1286 k0_hw1 => k0_hw1.2.2.2.2.2.1
theorem k0_idx7_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw1 : k0_chk1 v85 v89 v93 v97 v101 v105 v109 v1270 v1272 v1274 v1276 v1278 v1280 v1282 v1286), ∀ a x, ((![v1282, v1286, v109] : Fin 3 → IVec S16 32) a x).toNat < S224x2x128.size a := fun v85 v89 v93 v97 v101 v105 v109 v1270 v1272 v1274 v1276 v1278 v1280 v1282 v1286 k0_hw1 => k0_hw1.2.2.2.2.2.2
def k0_off5 (k0_t2 : Fin k0_t2_loop.trips) : Fin 3 → Nat :=
  let c0_i32_706 : BitVec 32 := 0#32
  let c2_i32_700 : BitVec 32 := 2#32
  let c0_i32_71 : BitVec 32 := 0#32
  let c1_i32_72 : BitVec 32 := 1#32
  let arg13 : BitVec 32 := Scf.iv c0_i32_71 c1_i32_72 k0_t2
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c0 : Index := 0#32
  ![v1303.toNat, 0, 0]

def k0_chk2 (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v85] : Fin 3 → IVec S16 32) a x).toNat < S224x2x128.size a) ∧
  (∀ a x, ((![v1272, v1309, v89] : Fin 3 → IVec S16 32) a x).toNat < S224x2x128.size a) ∧
  (∀ a x, ((![v1274, v1309, v93] : Fin 3 → IVec S16 32) a x).toNat < S224x2x128.size a) ∧
  (∀ a x, ((![v1276, v1309, v97] : Fin 3 → IVec S16 32) a x).toNat < S224x2x128.size a) ∧
  (∀ a x, ((![v1278, v1309, v101] : Fin 3 → IVec S16 32) a x).toNat < S224x2x128.size a) ∧
  (∀ a x, ((![v1280, v1309, v105] : Fin 3 → IVec S16 32) a x).toNat < S224x2x128.size a) ∧
  (∀ a x, ((![v1282, v1309, v109] : Fin 3 → IVec S16 32) a x).toNat < S224x2x128.size a)
theorem k0_idx8_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw2 : k0_chk2 v85 v89 v93 v97 v101 v105 v109 v1270 v1272 v1274 v1276 v1278 v1280 v1282 v1309), ∀ a x, ((![v1270, v1309, v85] : Fin 3 → IVec S16 32) a x).toNat < S224x2x128.size a := fun v85 v89 v93 v97 v101 v105 v109 v1270 v1272 v1274 v1276 v1278 v1280 v1282 v1309 k0_hw2 => k0_hw2.1
theorem k0_idx9_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw2 : k0_chk2 v85 v89 v93 v97 v101 v105 v109 v1270 v1272 v1274 v1276 v1278 v1280 v1282 v1309), ∀ a x, ((![v1272, v1309, v89] : Fin 3 → IVec S16 32) a x).toNat < S224x2x128.size a := fun v85 v89 v93 v97 v101 v105 v109 v1270 v1272 v1274 v1276 v1278 v1280 v1282 v1309 k0_hw2 => k0_hw2.2.1
theorem k0_idx10_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw2 : k0_chk2 v85 v89 v93 v97 v101 v105 v109 v1270 v1272 v1274 v1276 v1278 v1280 v1282 v1309), ∀ a x, ((![v1274, v1309, v93] : Fin 3 → IVec S16 32) a x).toNat < S224x2x128.size a := fun v85 v89 v93 v97 v101 v105 v109 v1270 v1272 v1274 v1276 v1278 v1280 v1282 v1309 k0_hw2 => k0_hw2.2.2.1
theorem k0_idx11_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw2 : k0_chk2 v85 v89 v93 v97 v101 v105 v109 v1270 v1272 v1274 v1276 v1278 v1280 v1282 v1309), ∀ a x, ((![v1276, v1309, v97] : Fin 3 → IVec S16 32) a x).toNat < S224x2x128.size a := fun v85 v89 v93 v97 v101 v105 v109 v1270 v1272 v1274 v1276 v1278 v1280 v1282 v1309 k0_hw2 => k0_hw2.2.2.2.1
theorem k0_idx12_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw2 : k0_chk2 v85 v89 v93 v97 v101 v105 v109 v1270 v1272 v1274 v1276 v1278 v1280 v1282 v1309), ∀ a x, ((![v1278, v1309, v101] : Fin 3 → IVec S16 32) a x).toNat < S224x2x128.size a := fun v85 v89 v93 v97 v101 v105 v109 v1270 v1272 v1274 v1276 v1278 v1280 v1282 v1309 k0_hw2 => k0_hw2.2.2.2.2.1
theorem k0_idx13_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw2 : k0_chk2 v85 v89 v93 v97 v101 v105 v109 v1270 v1272 v1274 v1276 v1278 v1280 v1282 v1309), ∀ a x, ((![v1280, v1309, v105] : Fin 3 → IVec S16 32) a x).toNat < S224x2x128.size a := fun v85 v89 v93 v97 v101 v105 v109 v1270 v1272 v1274 v1276 v1278 v1280 v1282 v1309 k0_hw2 => k0_hw2.2.2.2.2.2.1
theorem k0_idx14_inb : ∀ (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw2 : k0_chk2 v85 v89 v93 v97 v101 v105 v109 v1270 v1272 v1274 v1276 v1278 v1280 v1282 v1309), ∀ a x, ((![v1282, v1309, v109] : Fin 3 → IVec S16 32) a x).toNat < S224x2x128.size a := fun v85 v89 v93 v97 v101 v105 v109 v1270 v1272 v1274 v1276 v1278 v1280 v1282 v1309 k0_hw2 => k0_hw2.2.2.2.2.2.2
def k0_off6 (k0_t2 : Fin k0_t2_loop.trips) : Fin 3 → Nat :=
  let c0_i32_711 : BitVec 32 := 0#32
  let c2_i32_700 : BitVec 32 := 2#32
  let c0_i32_71 : BitVec 32 := 0#32
  let c1_i32_72 : BitVec 32 := 1#32
  let arg13 : BitVec 32 := Scf.iv c0_i32_71 c1_i32_72 k0_t2
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c0_713 : Index := 0#32
  ![v1326.toNat, 1, 0]

def k0_chk3 (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v85] : Fin 3 → IVec S16 32) a x).toNat < S224x2x128.size a) ∧
  (∀ a x, ((![v1336, v1350, v89] : Fin 3 → IVec S16 32) a x).toNat < S224x2x128.size a) ∧
  (∀ a x, ((![v1338, v1350, v93] : Fin 3 → IVec S16 32) a x).toNat < S224x2x128.size a) ∧
  (∀ a x, ((![v1340, v1350, v97] : Fin 3 → IVec S16 32) a x).toNat < S224x2x128.size a) ∧
  (∀ a x, ((![v1342, v1350, v101] : Fin 3 → IVec S16 32) a x).toNat < S224x2x128.size a) ∧
  (∀ a x, ((![v1344, v1350, v105] : Fin 3 → IVec S16 32) a x).toNat < S224x2x128.size a) ∧
  (∀ a x, ((![v1346, v1350, v109] : Fin 3 → IVec S16 32) a x).toNat < S224x2x128.size a)
theorem k0_idx15_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw3 : k0_chk3 v85 v89 v93 v97 v101 v105 v109 v1334 v1336 v1338 v1340 v1342 v1344 v1346 v1350), ∀ a x, ((![v1334, v1350, v85] : Fin 3 → IVec S16 32) a x).toNat < S224x2x128.size a := fun v85 v89 v93 v97 v101 v105 v109 v1334 v1336 v1338 v1340 v1342 v1344 v1346 v1350 k0_hw3 => k0_hw3.1
theorem k0_idx16_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw3 : k0_chk3 v85 v89 v93 v97 v101 v105 v109 v1334 v1336 v1338 v1340 v1342 v1344 v1346 v1350), ∀ a x, ((![v1336, v1350, v89] : Fin 3 → IVec S16 32) a x).toNat < S224x2x128.size a := fun v85 v89 v93 v97 v101 v105 v109 v1334 v1336 v1338 v1340 v1342 v1344 v1346 v1350 k0_hw3 => k0_hw3.2.1
theorem k0_idx17_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw3 : k0_chk3 v85 v89 v93 v97 v101 v105 v109 v1334 v1336 v1338 v1340 v1342 v1344 v1346 v1350), ∀ a x, ((![v1338, v1350, v93] : Fin 3 → IVec S16 32) a x).toNat < S224x2x128.size a := fun v85 v89 v93 v97 v101 v105 v109 v1334 v1336 v1338 v1340 v1342 v1344 v1346 v1350 k0_hw3 => k0_hw3.2.2.1
theorem k0_idx18_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw3 : k0_chk3 v85 v89 v93 v97 v101 v105 v109 v1334 v1336 v1338 v1340 v1342 v1344 v1346 v1350), ∀ a x, ((![v1340, v1350, v97] : Fin 3 → IVec S16 32) a x).toNat < S224x2x128.size a := fun v85 v89 v93 v97 v101 v105 v109 v1334 v1336 v1338 v1340 v1342 v1344 v1346 v1350 k0_hw3 => k0_hw3.2.2.2.1
theorem k0_idx19_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw3 : k0_chk3 v85 v89 v93 v97 v101 v105 v109 v1334 v1336 v1338 v1340 v1342 v1344 v1346 v1350), ∀ a x, ((![v1342, v1350, v101] : Fin 3 → IVec S16 32) a x).toNat < S224x2x128.size a := fun v85 v89 v93 v97 v101 v105 v109 v1334 v1336 v1338 v1340 v1342 v1344 v1346 v1350 k0_hw3 => k0_hw3.2.2.2.2.1
theorem k0_idx20_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw3 : k0_chk3 v85 v89 v93 v97 v101 v105 v109 v1334 v1336 v1338 v1340 v1342 v1344 v1346 v1350), ∀ a x, ((![v1344, v1350, v105] : Fin 3 → IVec S16 32) a x).toNat < S224x2x128.size a := fun v85 v89 v93 v97 v101 v105 v109 v1334 v1336 v1338 v1340 v1342 v1344 v1346 v1350 k0_hw3 => k0_hw3.2.2.2.2.2.1
theorem k0_idx21_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw3 : k0_chk3 v85 v89 v93 v97 v101 v105 v109 v1334 v1336 v1338 v1340 v1342 v1344 v1346 v1350), ∀ a x, ((![v1346, v1350, v109] : Fin 3 → IVec S16 32) a x).toNat < S224x2x128.size a := fun v85 v89 v93 v97 v101 v105 v109 v1334 v1336 v1338 v1340 v1342 v1344 v1346 v1350 k0_hw3 => k0_hw3.2.2.2.2.2.2
def k0_off7 (k0_t2 : Fin k0_t2_loop.trips) : Fin 3 → Nat :=
  let c0_i32_721 : BitVec 32 := 0#32
  let c2_i32_714 : BitVec 32 := 2#32
  let c0_i32_71 : BitVec 32 := 0#32
  let c1_i32_72 : BitVec 32 := 1#32
  let arg13 : BitVec 32 := Scf.iv c0_i32_71 c1_i32_72 k0_t2
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c0_723 : Index := 0#32
  ![v1367.toNat, 0, 0]

def k0_chk4 (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v85] : Fin 3 → IVec S16 32) a x).toNat < S224x2x128.size a) ∧
  (∀ a x, ((![v1336, v1373, v89] : Fin 3 → IVec S16 32) a x).toNat < S224x2x128.size a) ∧
  (∀ a x, ((![v1338, v1373, v93] : Fin 3 → IVec S16 32) a x).toNat < S224x2x128.size a) ∧
  (∀ a x, ((![v1340, v1373, v97] : Fin 3 → IVec S16 32) a x).toNat < S224x2x128.size a) ∧
  (∀ a x, ((![v1342, v1373, v101] : Fin 3 → IVec S16 32) a x).toNat < S224x2x128.size a) ∧
  (∀ a x, ((![v1344, v1373, v105] : Fin 3 → IVec S16 32) a x).toNat < S224x2x128.size a) ∧
  (∀ a x, ((![v1346, v1373, v109] : Fin 3 → IVec S16 32) a x).toNat < S224x2x128.size a)
theorem k0_idx22_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw4 : k0_chk4 v85 v89 v93 v97 v101 v105 v109 v1334 v1336 v1338 v1340 v1342 v1344 v1346 v1373), ∀ a x, ((![v1334, v1373, v85] : Fin 3 → IVec S16 32) a x).toNat < S224x2x128.size a := fun v85 v89 v93 v97 v101 v105 v109 v1334 v1336 v1338 v1340 v1342 v1344 v1346 v1373 k0_hw4 => k0_hw4.1
theorem k0_idx23_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw4 : k0_chk4 v85 v89 v93 v97 v101 v105 v109 v1334 v1336 v1338 v1340 v1342 v1344 v1346 v1373), ∀ a x, ((![v1336, v1373, v89] : Fin 3 → IVec S16 32) a x).toNat < S224x2x128.size a := fun v85 v89 v93 v97 v101 v105 v109 v1334 v1336 v1338 v1340 v1342 v1344 v1346 v1373 k0_hw4 => k0_hw4.2.1
theorem k0_idx24_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw4 : k0_chk4 v85 v89 v93 v97 v101 v105 v109 v1334 v1336 v1338 v1340 v1342 v1344 v1346 v1373), ∀ a x, ((![v1338, v1373, v93] : Fin 3 → IVec S16 32) a x).toNat < S224x2x128.size a := fun v85 v89 v93 v97 v101 v105 v109 v1334 v1336 v1338 v1340 v1342 v1344 v1346 v1373 k0_hw4 => k0_hw4.2.2.1
theorem k0_idx25_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw4 : k0_chk4 v85 v89 v93 v97 v101 v105 v109 v1334 v1336 v1338 v1340 v1342 v1344 v1346 v1373), ∀ a x, ((![v1340, v1373, v97] : Fin 3 → IVec S16 32) a x).toNat < S224x2x128.size a := fun v85 v89 v93 v97 v101 v105 v109 v1334 v1336 v1338 v1340 v1342 v1344 v1346 v1373 k0_hw4 => k0_hw4.2.2.2.1
theorem k0_idx26_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw4 : k0_chk4 v85 v89 v93 v97 v101 v105 v109 v1334 v1336 v1338 v1340 v1342 v1344 v1346 v1373), ∀ a x, ((![v1342, v1373, v101] : Fin 3 → IVec S16 32) a x).toNat < S224x2x128.size a := fun v85 v89 v93 v97 v101 v105 v109 v1334 v1336 v1338 v1340 v1342 v1344 v1346 v1373 k0_hw4 => k0_hw4.2.2.2.2.1
theorem k0_idx27_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw4 : k0_chk4 v85 v89 v93 v97 v101 v105 v109 v1334 v1336 v1338 v1340 v1342 v1344 v1346 v1373), ∀ a x, ((![v1344, v1373, v105] : Fin 3 → IVec S16 32) a x).toNat < S224x2x128.size a := fun v85 v89 v93 v97 v101 v105 v109 v1334 v1336 v1338 v1340 v1342 v1344 v1346 v1373 k0_hw4 => k0_hw4.2.2.2.2.2.1
theorem k0_idx28_inb : ∀ (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw4 : k0_chk4 v85 v89 v93 v97 v101 v105 v109 v1334 v1336 v1338 v1340 v1342 v1344 v1346 v1373), ∀ a x, ((![v1346, v1373, v109] : Fin 3 → IVec S16 32) a x).toNat < S224x2x128.size a := fun v85 v89 v93 v97 v101 v105 v109 v1334 v1336 v1338 v1340 v1342 v1344 v1346 v1373 k0_hw4 => k0_hw4.2.2.2.2.2.2
def k0_off8 (k0_t2 : Fin k0_t2_loop.trips) : Fin 3 → Nat :=
  let c0_i32_727 : BitVec 32 := 0#32
  let c2_i32_714 : BitVec 32 := 2#32
  let c0_i32_71 : BitVec 32 := 0#32
  let c1_i32_72 : BitVec 32 := 1#32
  let arg13 : BitVec 32 := Scf.iv c0_i32_71 c1_i32_72 k0_t2
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c0_729 : Index := 0#32
  ![v1390.toNat, 1, 0]
@[reducible] def k0_t3_loop : Scf.Loop 32 :=
  let c0_i32_110 : BitVec 32 := 0#32
  let c8_i32_111 : BitVec 32 := 8#32
  let v197 : BitVec 32 := Scalar.addi c0_i32_110 c8_i32_111
  let c1_i32_112 : BitVec 32 := 1#32
  ⟨c0_i32_110, v197, c1_i32_112⟩

def k0_chk5 (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v158] : Fin 3 → IVec S16 32) a x).toNat < S224x2x128.size a) ∧
  (∀ a x, ((![v1272, v1286, v162] : Fin 3 → IVec S16 32) a x).toNat < S224x2x128.size a) ∧
  (∀ a x, ((![v1274, v1286, v166] : Fin 3 → IVec S16 32) a x).toNat < S224x2x128.size a) ∧
  (∀ a x, ((![v1276, v1286, v170] : Fin 3 → IVec S16 32) a x).toNat < S224x2x128.size a) ∧
  (∀ a x, ((![v1278, v1286, v174] : Fin 3 → IVec S16 32) a x).toNat < S224x2x128.size a) ∧
  (∀ a x, ((![v1280, v1286, v178] : Fin 3 → IVec S16 32) a x).toNat < S224x2x128.size a) ∧
  (∀ a x, ((![v1282, v1286, v182] : Fin 3 → IVec S16 32) a x).toNat < S224x2x128.size a)
theorem k0_idx29_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw5 : k0_chk5 v158 v162 v166 v170 v174 v178 v182 v1270 v1272 v1274 v1276 v1278 v1280 v1282 v1286), ∀ a x, ((![v1270, v1286, v158] : Fin 3 → IVec S16 32) a x).toNat < S224x2x128.size a := fun v158 v162 v166 v170 v174 v178 v182 v1270 v1272 v1274 v1276 v1278 v1280 v1282 v1286 k0_hw5 => k0_hw5.1
theorem k0_idx30_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw5 : k0_chk5 v158 v162 v166 v170 v174 v178 v182 v1270 v1272 v1274 v1276 v1278 v1280 v1282 v1286), ∀ a x, ((![v1272, v1286, v162] : Fin 3 → IVec S16 32) a x).toNat < S224x2x128.size a := fun v158 v162 v166 v170 v174 v178 v182 v1270 v1272 v1274 v1276 v1278 v1280 v1282 v1286 k0_hw5 => k0_hw5.2.1
theorem k0_idx31_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw5 : k0_chk5 v158 v162 v166 v170 v174 v178 v182 v1270 v1272 v1274 v1276 v1278 v1280 v1282 v1286), ∀ a x, ((![v1274, v1286, v166] : Fin 3 → IVec S16 32) a x).toNat < S224x2x128.size a := fun v158 v162 v166 v170 v174 v178 v182 v1270 v1272 v1274 v1276 v1278 v1280 v1282 v1286 k0_hw5 => k0_hw5.2.2.1
theorem k0_idx32_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw5 : k0_chk5 v158 v162 v166 v170 v174 v178 v182 v1270 v1272 v1274 v1276 v1278 v1280 v1282 v1286), ∀ a x, ((![v1276, v1286, v170] : Fin 3 → IVec S16 32) a x).toNat < S224x2x128.size a := fun v158 v162 v166 v170 v174 v178 v182 v1270 v1272 v1274 v1276 v1278 v1280 v1282 v1286 k0_hw5 => k0_hw5.2.2.2.1
theorem k0_idx33_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw5 : k0_chk5 v158 v162 v166 v170 v174 v178 v182 v1270 v1272 v1274 v1276 v1278 v1280 v1282 v1286), ∀ a x, ((![v1278, v1286, v174] : Fin 3 → IVec S16 32) a x).toNat < S224x2x128.size a := fun v158 v162 v166 v170 v174 v178 v182 v1270 v1272 v1274 v1276 v1278 v1280 v1282 v1286 k0_hw5 => k0_hw5.2.2.2.2.1
theorem k0_idx34_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw5 : k0_chk5 v158 v162 v166 v170 v174 v178 v182 v1270 v1272 v1274 v1276 v1278 v1280 v1282 v1286), ∀ a x, ((![v1280, v1286, v178] : Fin 3 → IVec S16 32) a x).toNat < S224x2x128.size a := fun v158 v162 v166 v170 v174 v178 v182 v1270 v1272 v1274 v1276 v1278 v1280 v1282 v1286 k0_hw5 => k0_hw5.2.2.2.2.2.1
theorem k0_idx35_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw5 : k0_chk5 v158 v162 v166 v170 v174 v178 v182 v1270 v1272 v1274 v1276 v1278 v1280 v1282 v1286), ∀ a x, ((![v1282, v1286, v182] : Fin 3 → IVec S16 32) a x).toNat < S224x2x128.size a := fun v158 v162 v166 v170 v174 v178 v182 v1270 v1272 v1274 v1276 v1278 v1280 v1282 v1286 k0_hw5 => k0_hw5.2.2.2.2.2.2
def k0_off9 (k0_t3 : Fin k0_t3_loop.trips) : Fin 3 → Nat :=
  let c0_i32_706 : BitVec 32 := 0#32
  let c2_i32_700 : BitVec 32 := 2#32
  let c0_i32_110 : BitVec 32 := 0#32
  let c1_i32_112 : BitVec 32 := 1#32
  let arg13 : BitVec 32 := Scf.iv c0_i32_110 c1_i32_112 k0_t3
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c16 : Index := 16#32
  ![v1303.toNat, 0, 16]

def k0_chk6 (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v158] : Fin 3 → IVec S16 32) a x).toNat < S224x2x128.size a) ∧
  (∀ a x, ((![v1272, v1309, v162] : Fin 3 → IVec S16 32) a x).toNat < S224x2x128.size a) ∧
  (∀ a x, ((![v1274, v1309, v166] : Fin 3 → IVec S16 32) a x).toNat < S224x2x128.size a) ∧
  (∀ a x, ((![v1276, v1309, v170] : Fin 3 → IVec S16 32) a x).toNat < S224x2x128.size a) ∧
  (∀ a x, ((![v1278, v1309, v174] : Fin 3 → IVec S16 32) a x).toNat < S224x2x128.size a) ∧
  (∀ a x, ((![v1280, v1309, v178] : Fin 3 → IVec S16 32) a x).toNat < S224x2x128.size a) ∧
  (∀ a x, ((![v1282, v1309, v182] : Fin 3 → IVec S16 32) a x).toNat < S224x2x128.size a)
theorem k0_idx36_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw6 : k0_chk6 v158 v162 v166 v170 v174 v178 v182 v1270 v1272 v1274 v1276 v1278 v1280 v1282 v1309), ∀ a x, ((![v1270, v1309, v158] : Fin 3 → IVec S16 32) a x).toNat < S224x2x128.size a := fun v158 v162 v166 v170 v174 v178 v182 v1270 v1272 v1274 v1276 v1278 v1280 v1282 v1309 k0_hw6 => k0_hw6.1
theorem k0_idx37_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw6 : k0_chk6 v158 v162 v166 v170 v174 v178 v182 v1270 v1272 v1274 v1276 v1278 v1280 v1282 v1309), ∀ a x, ((![v1272, v1309, v162] : Fin 3 → IVec S16 32) a x).toNat < S224x2x128.size a := fun v158 v162 v166 v170 v174 v178 v182 v1270 v1272 v1274 v1276 v1278 v1280 v1282 v1309 k0_hw6 => k0_hw6.2.1
theorem k0_idx38_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw6 : k0_chk6 v158 v162 v166 v170 v174 v178 v182 v1270 v1272 v1274 v1276 v1278 v1280 v1282 v1309), ∀ a x, ((![v1274, v1309, v166] : Fin 3 → IVec S16 32) a x).toNat < S224x2x128.size a := fun v158 v162 v166 v170 v174 v178 v182 v1270 v1272 v1274 v1276 v1278 v1280 v1282 v1309 k0_hw6 => k0_hw6.2.2.1
theorem k0_idx39_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw6 : k0_chk6 v158 v162 v166 v170 v174 v178 v182 v1270 v1272 v1274 v1276 v1278 v1280 v1282 v1309), ∀ a x, ((![v1276, v1309, v170] : Fin 3 → IVec S16 32) a x).toNat < S224x2x128.size a := fun v158 v162 v166 v170 v174 v178 v182 v1270 v1272 v1274 v1276 v1278 v1280 v1282 v1309 k0_hw6 => k0_hw6.2.2.2.1
theorem k0_idx40_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw6 : k0_chk6 v158 v162 v166 v170 v174 v178 v182 v1270 v1272 v1274 v1276 v1278 v1280 v1282 v1309), ∀ a x, ((![v1278, v1309, v174] : Fin 3 → IVec S16 32) a x).toNat < S224x2x128.size a := fun v158 v162 v166 v170 v174 v178 v182 v1270 v1272 v1274 v1276 v1278 v1280 v1282 v1309 k0_hw6 => k0_hw6.2.2.2.2.1
theorem k0_idx41_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw6 : k0_chk6 v158 v162 v166 v170 v174 v178 v182 v1270 v1272 v1274 v1276 v1278 v1280 v1282 v1309), ∀ a x, ((![v1280, v1309, v178] : Fin 3 → IVec S16 32) a x).toNat < S224x2x128.size a := fun v158 v162 v166 v170 v174 v178 v182 v1270 v1272 v1274 v1276 v1278 v1280 v1282 v1309 k0_hw6 => k0_hw6.2.2.2.2.2.1
theorem k0_idx42_inb : ∀ (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw6 : k0_chk6 v158 v162 v166 v170 v174 v178 v182 v1270 v1272 v1274 v1276 v1278 v1280 v1282 v1309), ∀ a x, ((![v1282, v1309, v182] : Fin 3 → IVec S16 32) a x).toNat < S224x2x128.size a := fun v158 v162 v166 v170 v174 v178 v182 v1270 v1272 v1274 v1276 v1278 v1280 v1282 v1309 k0_hw6 => k0_hw6.2.2.2.2.2.2
def k0_off10 (k0_t3 : Fin k0_t3_loop.trips) : Fin 3 → Nat :=
  let c0_i32_711 : BitVec 32 := 0#32
  let c2_i32_700 : BitVec 32 := 2#32
  let c0_i32_110 : BitVec 32 := 0#32
  let c1_i32_112 : BitVec 32 := 1#32
  let arg13 : BitVec 32 := Scf.iv c0_i32_110 c1_i32_112 k0_t3
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c16_713 : Index := 16#32
  ![v1326.toNat, 1, 16]

def k0_chk7 (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v158] : Fin 3 → IVec S16 32) a x).toNat < S224x2x128.size a) ∧
  (∀ a x, ((![v1336, v1350, v162] : Fin 3 → IVec S16 32) a x).toNat < S224x2x128.size a) ∧
  (∀ a x, ((![v1338, v1350, v166] : Fin 3 → IVec S16 32) a x).toNat < S224x2x128.size a) ∧
  (∀ a x, ((![v1340, v1350, v170] : Fin 3 → IVec S16 32) a x).toNat < S224x2x128.size a) ∧
  (∀ a x, ((![v1342, v1350, v174] : Fin 3 → IVec S16 32) a x).toNat < S224x2x128.size a) ∧
  (∀ a x, ((![v1344, v1350, v178] : Fin 3 → IVec S16 32) a x).toNat < S224x2x128.size a) ∧
  (∀ a x, ((![v1346, v1350, v182] : Fin 3 → IVec S16 32) a x).toNat < S224x2x128.size a)
theorem k0_idx43_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw7 : k0_chk7 v158 v162 v166 v170 v174 v178 v182 v1334 v1336 v1338 v1340 v1342 v1344 v1346 v1350), ∀ a x, ((![v1334, v1350, v158] : Fin 3 → IVec S16 32) a x).toNat < S224x2x128.size a := fun v158 v162 v166 v170 v174 v178 v182 v1334 v1336 v1338 v1340 v1342 v1344 v1346 v1350 k0_hw7 => k0_hw7.1
theorem k0_idx44_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw7 : k0_chk7 v158 v162 v166 v170 v174 v178 v182 v1334 v1336 v1338 v1340 v1342 v1344 v1346 v1350), ∀ a x, ((![v1336, v1350, v162] : Fin 3 → IVec S16 32) a x).toNat < S224x2x128.size a := fun v158 v162 v166 v170 v174 v178 v182 v1334 v1336 v1338 v1340 v1342 v1344 v1346 v1350 k0_hw7 => k0_hw7.2.1
theorem k0_idx45_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw7 : k0_chk7 v158 v162 v166 v170 v174 v178 v182 v1334 v1336 v1338 v1340 v1342 v1344 v1346 v1350), ∀ a x, ((![v1338, v1350, v166] : Fin 3 → IVec S16 32) a x).toNat < S224x2x128.size a := fun v158 v162 v166 v170 v174 v178 v182 v1334 v1336 v1338 v1340 v1342 v1344 v1346 v1350 k0_hw7 => k0_hw7.2.2.1
theorem k0_idx46_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw7 : k0_chk7 v158 v162 v166 v170 v174 v178 v182 v1334 v1336 v1338 v1340 v1342 v1344 v1346 v1350), ∀ a x, ((![v1340, v1350, v170] : Fin 3 → IVec S16 32) a x).toNat < S224x2x128.size a := fun v158 v162 v166 v170 v174 v178 v182 v1334 v1336 v1338 v1340 v1342 v1344 v1346 v1350 k0_hw7 => k0_hw7.2.2.2.1
theorem k0_idx47_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw7 : k0_chk7 v158 v162 v166 v170 v174 v178 v182 v1334 v1336 v1338 v1340 v1342 v1344 v1346 v1350), ∀ a x, ((![v1342, v1350, v174] : Fin 3 → IVec S16 32) a x).toNat < S224x2x128.size a := fun v158 v162 v166 v170 v174 v178 v182 v1334 v1336 v1338 v1340 v1342 v1344 v1346 v1350 k0_hw7 => k0_hw7.2.2.2.2.1
theorem k0_idx48_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw7 : k0_chk7 v158 v162 v166 v170 v174 v178 v182 v1334 v1336 v1338 v1340 v1342 v1344 v1346 v1350), ∀ a x, ((![v1344, v1350, v178] : Fin 3 → IVec S16 32) a x).toNat < S224x2x128.size a := fun v158 v162 v166 v170 v174 v178 v182 v1334 v1336 v1338 v1340 v1342 v1344 v1346 v1350 k0_hw7 => k0_hw7.2.2.2.2.2.1
theorem k0_idx49_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw7 : k0_chk7 v158 v162 v166 v170 v174 v178 v182 v1334 v1336 v1338 v1340 v1342 v1344 v1346 v1350), ∀ a x, ((![v1346, v1350, v182] : Fin 3 → IVec S16 32) a x).toNat < S224x2x128.size a := fun v158 v162 v166 v170 v174 v178 v182 v1334 v1336 v1338 v1340 v1342 v1344 v1346 v1350 k0_hw7 => k0_hw7.2.2.2.2.2.2
def k0_off11 (k0_t3 : Fin k0_t3_loop.trips) : Fin 3 → Nat :=
  let c0_i32_721 : BitVec 32 := 0#32
  let c2_i32_714 : BitVec 32 := 2#32
  let c0_i32_110 : BitVec 32 := 0#32
  let c1_i32_112 : BitVec 32 := 1#32
  let arg13 : BitVec 32 := Scf.iv c0_i32_110 c1_i32_112 k0_t3
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c16_723 : Index := 16#32
  ![v1367.toNat, 0, 16]

def k0_chk8 (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v158] : Fin 3 → IVec S16 32) a x).toNat < S224x2x128.size a) ∧
  (∀ a x, ((![v1336, v1373, v162] : Fin 3 → IVec S16 32) a x).toNat < S224x2x128.size a) ∧
  (∀ a x, ((![v1338, v1373, v166] : Fin 3 → IVec S16 32) a x).toNat < S224x2x128.size a) ∧
  (∀ a x, ((![v1340, v1373, v170] : Fin 3 → IVec S16 32) a x).toNat < S224x2x128.size a) ∧
  (∀ a x, ((![v1342, v1373, v174] : Fin 3 → IVec S16 32) a x).toNat < S224x2x128.size a) ∧
  (∀ a x, ((![v1344, v1373, v178] : Fin 3 → IVec S16 32) a x).toNat < S224x2x128.size a) ∧
  (∀ a x, ((![v1346, v1373, v182] : Fin 3 → IVec S16 32) a x).toNat < S224x2x128.size a)
theorem k0_idx50_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw8 : k0_chk8 v158 v162 v166 v170 v174 v178 v182 v1334 v1336 v1338 v1340 v1342 v1344 v1346 v1373), ∀ a x, ((![v1334, v1373, v158] : Fin 3 → IVec S16 32) a x).toNat < S224x2x128.size a := fun v158 v162 v166 v170 v174 v178 v182 v1334 v1336 v1338 v1340 v1342 v1344 v1346 v1373 k0_hw8 => k0_hw8.1
theorem k0_idx51_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw8 : k0_chk8 v158 v162 v166 v170 v174 v178 v182 v1334 v1336 v1338 v1340 v1342 v1344 v1346 v1373), ∀ a x, ((![v1336, v1373, v162] : Fin 3 → IVec S16 32) a x).toNat < S224x2x128.size a := fun v158 v162 v166 v170 v174 v178 v182 v1334 v1336 v1338 v1340 v1342 v1344 v1346 v1373 k0_hw8 => k0_hw8.2.1
theorem k0_idx52_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw8 : k0_chk8 v158 v162 v166 v170 v174 v178 v182 v1334 v1336 v1338 v1340 v1342 v1344 v1346 v1373), ∀ a x, ((![v1338, v1373, v166] : Fin 3 → IVec S16 32) a x).toNat < S224x2x128.size a := fun v158 v162 v166 v170 v174 v178 v182 v1334 v1336 v1338 v1340 v1342 v1344 v1346 v1373 k0_hw8 => k0_hw8.2.2.1
theorem k0_idx53_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw8 : k0_chk8 v158 v162 v166 v170 v174 v178 v182 v1334 v1336 v1338 v1340 v1342 v1344 v1346 v1373), ∀ a x, ((![v1340, v1373, v170] : Fin 3 → IVec S16 32) a x).toNat < S224x2x128.size a := fun v158 v162 v166 v170 v174 v178 v182 v1334 v1336 v1338 v1340 v1342 v1344 v1346 v1373 k0_hw8 => k0_hw8.2.2.2.1
theorem k0_idx54_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw8 : k0_chk8 v158 v162 v166 v170 v174 v178 v182 v1334 v1336 v1338 v1340 v1342 v1344 v1346 v1373), ∀ a x, ((![v1342, v1373, v174] : Fin 3 → IVec S16 32) a x).toNat < S224x2x128.size a := fun v158 v162 v166 v170 v174 v178 v182 v1334 v1336 v1338 v1340 v1342 v1344 v1346 v1373 k0_hw8 => k0_hw8.2.2.2.2.1
theorem k0_idx55_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw8 : k0_chk8 v158 v162 v166 v170 v174 v178 v182 v1334 v1336 v1338 v1340 v1342 v1344 v1346 v1373), ∀ a x, ((![v1344, v1373, v178] : Fin 3 → IVec S16 32) a x).toNat < S224x2x128.size a := fun v158 v162 v166 v170 v174 v178 v182 v1334 v1336 v1338 v1340 v1342 v1344 v1346 v1373 k0_hw8 => k0_hw8.2.2.2.2.2.1
theorem k0_idx56_inb : ∀ (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw8 : k0_chk8 v158 v162 v166 v170 v174 v178 v182 v1334 v1336 v1338 v1340 v1342 v1344 v1346 v1373), ∀ a x, ((![v1346, v1373, v182] : Fin 3 → IVec S16 32) a x).toNat < S224x2x128.size a := fun v158 v162 v166 v170 v174 v178 v182 v1334 v1336 v1338 v1340 v1342 v1344 v1346 v1373 k0_hw8 => k0_hw8.2.2.2.2.2.2
def k0_off12 (k0_t3 : Fin k0_t3_loop.trips) : Fin 3 → Nat :=
  let c0_i32_727 : BitVec 32 := 0#32
  let c2_i32_714 : BitVec 32 := 2#32
  let c0_i32_110 : BitVec 32 := 0#32
  let c1_i32_112 : BitVec 32 := 1#32
  let arg13 : BitVec 32 := Scf.iv c0_i32_110 c1_i32_112 k0_t3
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c16_729 : Index := 16#32
  ![v1390.toNat, 1, 16]
@[reducible] def k0_t4_loop : Scf.Loop 32 :=
  let c0_i32_149 : BitVec 32 := 0#32
  let c8_i32_150 : BitVec 32 := 8#32
  let v270 : BitVec 32 := Scalar.addi c0_i32_149 c8_i32_150
  let c1_i32_151 : BitVec 32 := 1#32
  ⟨c0_i32_149, v270, c1_i32_151⟩

def k0_chk9 (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v231] : Fin 3 → IVec S16 32) a x).toNat < S224x2x128.size a) ∧
  (∀ a x, ((![v1272, v1286, v235] : Fin 3 → IVec S16 32) a x).toNat < S224x2x128.size a) ∧
  (∀ a x, ((![v1274, v1286, v239] : Fin 3 → IVec S16 32) a x).toNat < S224x2x128.size a) ∧
  (∀ a x, ((![v1276, v1286, v243] : Fin 3 → IVec S16 32) a x).toNat < S224x2x128.size a) ∧
  (∀ a x, ((![v1278, v1286, v247] : Fin 3 → IVec S16 32) a x).toNat < S224x2x128.size a) ∧
  (∀ a x, ((![v1280, v1286, v251] : Fin 3 → IVec S16 32) a x).toNat < S224x2x128.size a) ∧
  (∀ a x, ((![v1282, v1286, v255] : Fin 3 → IVec S16 32) a x).toNat < S224x2x128.size a)
theorem k0_idx57_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw9 : k0_chk9 v231 v235 v239 v243 v247 v251 v255 v1270 v1272 v1274 v1276 v1278 v1280 v1282 v1286), ∀ a x, ((![v1270, v1286, v231] : Fin 3 → IVec S16 32) a x).toNat < S224x2x128.size a := fun v231 v235 v239 v243 v247 v251 v255 v1270 v1272 v1274 v1276 v1278 v1280 v1282 v1286 k0_hw9 => k0_hw9.1
theorem k0_idx58_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw9 : k0_chk9 v231 v235 v239 v243 v247 v251 v255 v1270 v1272 v1274 v1276 v1278 v1280 v1282 v1286), ∀ a x, ((![v1272, v1286, v235] : Fin 3 → IVec S16 32) a x).toNat < S224x2x128.size a := fun v231 v235 v239 v243 v247 v251 v255 v1270 v1272 v1274 v1276 v1278 v1280 v1282 v1286 k0_hw9 => k0_hw9.2.1
theorem k0_idx59_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw9 : k0_chk9 v231 v235 v239 v243 v247 v251 v255 v1270 v1272 v1274 v1276 v1278 v1280 v1282 v1286), ∀ a x, ((![v1274, v1286, v239] : Fin 3 → IVec S16 32) a x).toNat < S224x2x128.size a := fun v231 v235 v239 v243 v247 v251 v255 v1270 v1272 v1274 v1276 v1278 v1280 v1282 v1286 k0_hw9 => k0_hw9.2.2.1
theorem k0_idx60_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw9 : k0_chk9 v231 v235 v239 v243 v247 v251 v255 v1270 v1272 v1274 v1276 v1278 v1280 v1282 v1286), ∀ a x, ((![v1276, v1286, v243] : Fin 3 → IVec S16 32) a x).toNat < S224x2x128.size a := fun v231 v235 v239 v243 v247 v251 v255 v1270 v1272 v1274 v1276 v1278 v1280 v1282 v1286 k0_hw9 => k0_hw9.2.2.2.1
theorem k0_idx61_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw9 : k0_chk9 v231 v235 v239 v243 v247 v251 v255 v1270 v1272 v1274 v1276 v1278 v1280 v1282 v1286), ∀ a x, ((![v1278, v1286, v247] : Fin 3 → IVec S16 32) a x).toNat < S224x2x128.size a := fun v231 v235 v239 v243 v247 v251 v255 v1270 v1272 v1274 v1276 v1278 v1280 v1282 v1286 k0_hw9 => k0_hw9.2.2.2.2.1
theorem k0_idx62_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw9 : k0_chk9 v231 v235 v239 v243 v247 v251 v255 v1270 v1272 v1274 v1276 v1278 v1280 v1282 v1286), ∀ a x, ((![v1280, v1286, v251] : Fin 3 → IVec S16 32) a x).toNat < S224x2x128.size a := fun v231 v235 v239 v243 v247 v251 v255 v1270 v1272 v1274 v1276 v1278 v1280 v1282 v1286 k0_hw9 => k0_hw9.2.2.2.2.2.1
theorem k0_idx63_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw9 : k0_chk9 v231 v235 v239 v243 v247 v251 v255 v1270 v1272 v1274 v1276 v1278 v1280 v1282 v1286), ∀ a x, ((![v1282, v1286, v255] : Fin 3 → IVec S16 32) a x).toNat < S224x2x128.size a := fun v231 v235 v239 v243 v247 v251 v255 v1270 v1272 v1274 v1276 v1278 v1280 v1282 v1286 k0_hw9 => k0_hw9.2.2.2.2.2.2
def k0_off13 (k0_t4 : Fin k0_t4_loop.trips) : Fin 3 → Nat :=
  let c0_i32_706 : BitVec 32 := 0#32
  let c2_i32_700 : BitVec 32 := 2#32
  let c0_i32_149 : BitVec 32 := 0#32
  let c1_i32_151 : BitVec 32 := 1#32
  let arg13 : BitVec 32 := Scf.iv c0_i32_149 c1_i32_151 k0_t4
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c32 : Index := 32#32
  ![v1303.toNat, 0, 32]

def k0_chk10 (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v231] : Fin 3 → IVec S16 32) a x).toNat < S224x2x128.size a) ∧
  (∀ a x, ((![v1272, v1309, v235] : Fin 3 → IVec S16 32) a x).toNat < S224x2x128.size a) ∧
  (∀ a x, ((![v1274, v1309, v239] : Fin 3 → IVec S16 32) a x).toNat < S224x2x128.size a) ∧
  (∀ a x, ((![v1276, v1309, v243] : Fin 3 → IVec S16 32) a x).toNat < S224x2x128.size a) ∧
  (∀ a x, ((![v1278, v1309, v247] : Fin 3 → IVec S16 32) a x).toNat < S224x2x128.size a) ∧
  (∀ a x, ((![v1280, v1309, v251] : Fin 3 → IVec S16 32) a x).toNat < S224x2x128.size a) ∧
  (∀ a x, ((![v1282, v1309, v255] : Fin 3 → IVec S16 32) a x).toNat < S224x2x128.size a)
theorem k0_idx64_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw10 : k0_chk10 v231 v235 v239 v243 v247 v251 v255 v1270 v1272 v1274 v1276 v1278 v1280 v1282 v1309), ∀ a x, ((![v1270, v1309, v231] : Fin 3 → IVec S16 32) a x).toNat < S224x2x128.size a := fun v231 v235 v239 v243 v247 v251 v255 v1270 v1272 v1274 v1276 v1278 v1280 v1282 v1309 k0_hw10 => k0_hw10.1
theorem k0_idx65_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw10 : k0_chk10 v231 v235 v239 v243 v247 v251 v255 v1270 v1272 v1274 v1276 v1278 v1280 v1282 v1309), ∀ a x, ((![v1272, v1309, v235] : Fin 3 → IVec S16 32) a x).toNat < S224x2x128.size a := fun v231 v235 v239 v243 v247 v251 v255 v1270 v1272 v1274 v1276 v1278 v1280 v1282 v1309 k0_hw10 => k0_hw10.2.1
theorem k0_idx66_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw10 : k0_chk10 v231 v235 v239 v243 v247 v251 v255 v1270 v1272 v1274 v1276 v1278 v1280 v1282 v1309), ∀ a x, ((![v1274, v1309, v239] : Fin 3 → IVec S16 32) a x).toNat < S224x2x128.size a := fun v231 v235 v239 v243 v247 v251 v255 v1270 v1272 v1274 v1276 v1278 v1280 v1282 v1309 k0_hw10 => k0_hw10.2.2.1
theorem k0_idx67_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw10 : k0_chk10 v231 v235 v239 v243 v247 v251 v255 v1270 v1272 v1274 v1276 v1278 v1280 v1282 v1309), ∀ a x, ((![v1276, v1309, v243] : Fin 3 → IVec S16 32) a x).toNat < S224x2x128.size a := fun v231 v235 v239 v243 v247 v251 v255 v1270 v1272 v1274 v1276 v1278 v1280 v1282 v1309 k0_hw10 => k0_hw10.2.2.2.1
theorem k0_idx68_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw10 : k0_chk10 v231 v235 v239 v243 v247 v251 v255 v1270 v1272 v1274 v1276 v1278 v1280 v1282 v1309), ∀ a x, ((![v1278, v1309, v247] : Fin 3 → IVec S16 32) a x).toNat < S224x2x128.size a := fun v231 v235 v239 v243 v247 v251 v255 v1270 v1272 v1274 v1276 v1278 v1280 v1282 v1309 k0_hw10 => k0_hw10.2.2.2.2.1
theorem k0_idx69_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw10 : k0_chk10 v231 v235 v239 v243 v247 v251 v255 v1270 v1272 v1274 v1276 v1278 v1280 v1282 v1309), ∀ a x, ((![v1280, v1309, v251] : Fin 3 → IVec S16 32) a x).toNat < S224x2x128.size a := fun v231 v235 v239 v243 v247 v251 v255 v1270 v1272 v1274 v1276 v1278 v1280 v1282 v1309 k0_hw10 => k0_hw10.2.2.2.2.2.1
theorem k0_idx70_inb : ∀ (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw10 : k0_chk10 v231 v235 v239 v243 v247 v251 v255 v1270 v1272 v1274 v1276 v1278 v1280 v1282 v1309), ∀ a x, ((![v1282, v1309, v255] : Fin 3 → IVec S16 32) a x).toNat < S224x2x128.size a := fun v231 v235 v239 v243 v247 v251 v255 v1270 v1272 v1274 v1276 v1278 v1280 v1282 v1309 k0_hw10 => k0_hw10.2.2.2.2.2.2
def k0_off14 (k0_t4 : Fin k0_t4_loop.trips) : Fin 3 → Nat :=
  let c0_i32_711 : BitVec 32 := 0#32
  let c2_i32_700 : BitVec 32 := 2#32
  let c0_i32_149 : BitVec 32 := 0#32
  let c1_i32_151 : BitVec 32 := 1#32
  let arg13 : BitVec 32 := Scf.iv c0_i32_149 c1_i32_151 k0_t4
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c32_713 : Index := 32#32
  ![v1326.toNat, 1, 32]

def k0_chk11 (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v231] : Fin 3 → IVec S16 32) a x).toNat < S224x2x128.size a) ∧
  (∀ a x, ((![v1336, v1350, v235] : Fin 3 → IVec S16 32) a x).toNat < S224x2x128.size a) ∧
  (∀ a x, ((![v1338, v1350, v239] : Fin 3 → IVec S16 32) a x).toNat < S224x2x128.size a) ∧
  (∀ a x, ((![v1340, v1350, v243] : Fin 3 → IVec S16 32) a x).toNat < S224x2x128.size a) ∧
  (∀ a x, ((![v1342, v1350, v247] : Fin 3 → IVec S16 32) a x).toNat < S224x2x128.size a) ∧
  (∀ a x, ((![v1344, v1350, v251] : Fin 3 → IVec S16 32) a x).toNat < S224x2x128.size a) ∧
  (∀ a x, ((![v1346, v1350, v255] : Fin 3 → IVec S16 32) a x).toNat < S224x2x128.size a)
theorem k0_idx71_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw11 : k0_chk11 v231 v235 v239 v243 v247 v251 v255 v1334 v1336 v1338 v1340 v1342 v1344 v1346 v1350), ∀ a x, ((![v1334, v1350, v231] : Fin 3 → IVec S16 32) a x).toNat < S224x2x128.size a := fun v231 v235 v239 v243 v247 v251 v255 v1334 v1336 v1338 v1340 v1342 v1344 v1346 v1350 k0_hw11 => k0_hw11.1
theorem k0_idx72_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw11 : k0_chk11 v231 v235 v239 v243 v247 v251 v255 v1334 v1336 v1338 v1340 v1342 v1344 v1346 v1350), ∀ a x, ((![v1336, v1350, v235] : Fin 3 → IVec S16 32) a x).toNat < S224x2x128.size a := fun v231 v235 v239 v243 v247 v251 v255 v1334 v1336 v1338 v1340 v1342 v1344 v1346 v1350 k0_hw11 => k0_hw11.2.1
theorem k0_idx73_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw11 : k0_chk11 v231 v235 v239 v243 v247 v251 v255 v1334 v1336 v1338 v1340 v1342 v1344 v1346 v1350), ∀ a x, ((![v1338, v1350, v239] : Fin 3 → IVec S16 32) a x).toNat < S224x2x128.size a := fun v231 v235 v239 v243 v247 v251 v255 v1334 v1336 v1338 v1340 v1342 v1344 v1346 v1350 k0_hw11 => k0_hw11.2.2.1
theorem k0_idx74_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw11 : k0_chk11 v231 v235 v239 v243 v247 v251 v255 v1334 v1336 v1338 v1340 v1342 v1344 v1346 v1350), ∀ a x, ((![v1340, v1350, v243] : Fin 3 → IVec S16 32) a x).toNat < S224x2x128.size a := fun v231 v235 v239 v243 v247 v251 v255 v1334 v1336 v1338 v1340 v1342 v1344 v1346 v1350 k0_hw11 => k0_hw11.2.2.2.1
theorem k0_idx75_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw11 : k0_chk11 v231 v235 v239 v243 v247 v251 v255 v1334 v1336 v1338 v1340 v1342 v1344 v1346 v1350), ∀ a x, ((![v1342, v1350, v247] : Fin 3 → IVec S16 32) a x).toNat < S224x2x128.size a := fun v231 v235 v239 v243 v247 v251 v255 v1334 v1336 v1338 v1340 v1342 v1344 v1346 v1350 k0_hw11 => k0_hw11.2.2.2.2.1
theorem k0_idx76_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw11 : k0_chk11 v231 v235 v239 v243 v247 v251 v255 v1334 v1336 v1338 v1340 v1342 v1344 v1346 v1350), ∀ a x, ((![v1344, v1350, v251] : Fin 3 → IVec S16 32) a x).toNat < S224x2x128.size a := fun v231 v235 v239 v243 v247 v251 v255 v1334 v1336 v1338 v1340 v1342 v1344 v1346 v1350 k0_hw11 => k0_hw11.2.2.2.2.2.1
theorem k0_idx77_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw11 : k0_chk11 v231 v235 v239 v243 v247 v251 v255 v1334 v1336 v1338 v1340 v1342 v1344 v1346 v1350), ∀ a x, ((![v1346, v1350, v255] : Fin 3 → IVec S16 32) a x).toNat < S224x2x128.size a := fun v231 v235 v239 v243 v247 v251 v255 v1334 v1336 v1338 v1340 v1342 v1344 v1346 v1350 k0_hw11 => k0_hw11.2.2.2.2.2.2
def k0_off15 (k0_t4 : Fin k0_t4_loop.trips) : Fin 3 → Nat :=
  let c0_i32_721 : BitVec 32 := 0#32
  let c2_i32_714 : BitVec 32 := 2#32
  let c0_i32_149 : BitVec 32 := 0#32
  let c1_i32_151 : BitVec 32 := 1#32
  let arg13 : BitVec 32 := Scf.iv c0_i32_149 c1_i32_151 k0_t4
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c32_723 : Index := 32#32
  ![v1367.toNat, 0, 32]

def k0_chk12 (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v231] : Fin 3 → IVec S16 32) a x).toNat < S224x2x128.size a) ∧
  (∀ a x, ((![v1336, v1373, v235] : Fin 3 → IVec S16 32) a x).toNat < S224x2x128.size a) ∧
  (∀ a x, ((![v1338, v1373, v239] : Fin 3 → IVec S16 32) a x).toNat < S224x2x128.size a) ∧
  (∀ a x, ((![v1340, v1373, v243] : Fin 3 → IVec S16 32) a x).toNat < S224x2x128.size a) ∧
  (∀ a x, ((![v1342, v1373, v247] : Fin 3 → IVec S16 32) a x).toNat < S224x2x128.size a) ∧
  (∀ a x, ((![v1344, v1373, v251] : Fin 3 → IVec S16 32) a x).toNat < S224x2x128.size a) ∧
  (∀ a x, ((![v1346, v1373, v255] : Fin 3 → IVec S16 32) a x).toNat < S224x2x128.size a)
theorem k0_idx78_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw12 : k0_chk12 v231 v235 v239 v243 v247 v251 v255 v1334 v1336 v1338 v1340 v1342 v1344 v1346 v1373), ∀ a x, ((![v1334, v1373, v231] : Fin 3 → IVec S16 32) a x).toNat < S224x2x128.size a := fun v231 v235 v239 v243 v247 v251 v255 v1334 v1336 v1338 v1340 v1342 v1344 v1346 v1373 k0_hw12 => k0_hw12.1
theorem k0_idx79_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw12 : k0_chk12 v231 v235 v239 v243 v247 v251 v255 v1334 v1336 v1338 v1340 v1342 v1344 v1346 v1373), ∀ a x, ((![v1336, v1373, v235] : Fin 3 → IVec S16 32) a x).toNat < S224x2x128.size a := fun v231 v235 v239 v243 v247 v251 v255 v1334 v1336 v1338 v1340 v1342 v1344 v1346 v1373 k0_hw12 => k0_hw12.2.1
theorem k0_idx80_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw12 : k0_chk12 v231 v235 v239 v243 v247 v251 v255 v1334 v1336 v1338 v1340 v1342 v1344 v1346 v1373), ∀ a x, ((![v1338, v1373, v239] : Fin 3 → IVec S16 32) a x).toNat < S224x2x128.size a := fun v231 v235 v239 v243 v247 v251 v255 v1334 v1336 v1338 v1340 v1342 v1344 v1346 v1373 k0_hw12 => k0_hw12.2.2.1
theorem k0_idx81_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw12 : k0_chk12 v231 v235 v239 v243 v247 v251 v255 v1334 v1336 v1338 v1340 v1342 v1344 v1346 v1373), ∀ a x, ((![v1340, v1373, v243] : Fin 3 → IVec S16 32) a x).toNat < S224x2x128.size a := fun v231 v235 v239 v243 v247 v251 v255 v1334 v1336 v1338 v1340 v1342 v1344 v1346 v1373 k0_hw12 => k0_hw12.2.2.2.1
theorem k0_idx82_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw12 : k0_chk12 v231 v235 v239 v243 v247 v251 v255 v1334 v1336 v1338 v1340 v1342 v1344 v1346 v1373), ∀ a x, ((![v1342, v1373, v247] : Fin 3 → IVec S16 32) a x).toNat < S224x2x128.size a := fun v231 v235 v239 v243 v247 v251 v255 v1334 v1336 v1338 v1340 v1342 v1344 v1346 v1373 k0_hw12 => k0_hw12.2.2.2.2.1
theorem k0_idx83_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw12 : k0_chk12 v231 v235 v239 v243 v247 v251 v255 v1334 v1336 v1338 v1340 v1342 v1344 v1346 v1373), ∀ a x, ((![v1344, v1373, v251] : Fin 3 → IVec S16 32) a x).toNat < S224x2x128.size a := fun v231 v235 v239 v243 v247 v251 v255 v1334 v1336 v1338 v1340 v1342 v1344 v1346 v1373 k0_hw12 => k0_hw12.2.2.2.2.2.1
theorem k0_idx84_inb : ∀ (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw12 : k0_chk12 v231 v235 v239 v243 v247 v251 v255 v1334 v1336 v1338 v1340 v1342 v1344 v1346 v1373), ∀ a x, ((![v1346, v1373, v255] : Fin 3 → IVec S16 32) a x).toNat < S224x2x128.size a := fun v231 v235 v239 v243 v247 v251 v255 v1334 v1336 v1338 v1340 v1342 v1344 v1346 v1373 k0_hw12 => k0_hw12.2.2.2.2.2.2
def k0_off16 (k0_t4 : Fin k0_t4_loop.trips) : Fin 3 → Nat :=
  let c0_i32_727 : BitVec 32 := 0#32
  let c2_i32_714 : BitVec 32 := 2#32
  let c0_i32_149 : BitVec 32 := 0#32
  let c1_i32_151 : BitVec 32 := 1#32
  let arg13 : BitVec 32 := Scf.iv c0_i32_149 c1_i32_151 k0_t4
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c32_729 : Index := 32#32
  ![v1390.toNat, 1, 32]
@[reducible] def k0_t5_loop : Scf.Loop 32 :=
  let c0_i32_188 : BitVec 32 := 0#32
  let c8_i32_189 : BitVec 32 := 8#32
  let v343 : BitVec 32 := Scalar.addi c0_i32_188 c8_i32_189
  let c1_i32_190 : BitVec 32 := 1#32
  ⟨c0_i32_188, v343, c1_i32_190⟩

def k0_chk13 (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v304] : Fin 3 → IVec S16 32) a x).toNat < S224x2x128.size a) ∧
  (∀ a x, ((![v1272, v1286, v308] : Fin 3 → IVec S16 32) a x).toNat < S224x2x128.size a) ∧
  (∀ a x, ((![v1274, v1286, v312] : Fin 3 → IVec S16 32) a x).toNat < S224x2x128.size a) ∧
  (∀ a x, ((![v1276, v1286, v316] : Fin 3 → IVec S16 32) a x).toNat < S224x2x128.size a) ∧
  (∀ a x, ((![v1278, v1286, v320] : Fin 3 → IVec S16 32) a x).toNat < S224x2x128.size a) ∧
  (∀ a x, ((![v1280, v1286, v324] : Fin 3 → IVec S16 32) a x).toNat < S224x2x128.size a) ∧
  (∀ a x, ((![v1282, v1286, v328] : Fin 3 → IVec S16 32) a x).toNat < S224x2x128.size a)
theorem k0_idx85_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw13 : k0_chk13 v304 v308 v312 v316 v320 v324 v328 v1270 v1272 v1274 v1276 v1278 v1280 v1282 v1286), ∀ a x, ((![v1270, v1286, v304] : Fin 3 → IVec S16 32) a x).toNat < S224x2x128.size a := fun v304 v308 v312 v316 v320 v324 v328 v1270 v1272 v1274 v1276 v1278 v1280 v1282 v1286 k0_hw13 => k0_hw13.1
theorem k0_idx86_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw13 : k0_chk13 v304 v308 v312 v316 v320 v324 v328 v1270 v1272 v1274 v1276 v1278 v1280 v1282 v1286), ∀ a x, ((![v1272, v1286, v308] : Fin 3 → IVec S16 32) a x).toNat < S224x2x128.size a := fun v304 v308 v312 v316 v320 v324 v328 v1270 v1272 v1274 v1276 v1278 v1280 v1282 v1286 k0_hw13 => k0_hw13.2.1
theorem k0_idx87_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw13 : k0_chk13 v304 v308 v312 v316 v320 v324 v328 v1270 v1272 v1274 v1276 v1278 v1280 v1282 v1286), ∀ a x, ((![v1274, v1286, v312] : Fin 3 → IVec S16 32) a x).toNat < S224x2x128.size a := fun v304 v308 v312 v316 v320 v324 v328 v1270 v1272 v1274 v1276 v1278 v1280 v1282 v1286 k0_hw13 => k0_hw13.2.2.1
theorem k0_idx88_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw13 : k0_chk13 v304 v308 v312 v316 v320 v324 v328 v1270 v1272 v1274 v1276 v1278 v1280 v1282 v1286), ∀ a x, ((![v1276, v1286, v316] : Fin 3 → IVec S16 32) a x).toNat < S224x2x128.size a := fun v304 v308 v312 v316 v320 v324 v328 v1270 v1272 v1274 v1276 v1278 v1280 v1282 v1286 k0_hw13 => k0_hw13.2.2.2.1
theorem k0_idx89_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw13 : k0_chk13 v304 v308 v312 v316 v320 v324 v328 v1270 v1272 v1274 v1276 v1278 v1280 v1282 v1286), ∀ a x, ((![v1278, v1286, v320] : Fin 3 → IVec S16 32) a x).toNat < S224x2x128.size a := fun v304 v308 v312 v316 v320 v324 v328 v1270 v1272 v1274 v1276 v1278 v1280 v1282 v1286 k0_hw13 => k0_hw13.2.2.2.2.1
theorem k0_idx90_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw13 : k0_chk13 v304 v308 v312 v316 v320 v324 v328 v1270 v1272 v1274 v1276 v1278 v1280 v1282 v1286), ∀ a x, ((![v1280, v1286, v324] : Fin 3 → IVec S16 32) a x).toNat < S224x2x128.size a := fun v304 v308 v312 v316 v320 v324 v328 v1270 v1272 v1274 v1276 v1278 v1280 v1282 v1286 k0_hw13 => k0_hw13.2.2.2.2.2.1
theorem k0_idx91_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw13 : k0_chk13 v304 v308 v312 v316 v320 v324 v328 v1270 v1272 v1274 v1276 v1278 v1280 v1282 v1286), ∀ a x, ((![v1282, v1286, v328] : Fin 3 → IVec S16 32) a x).toNat < S224x2x128.size a := fun v304 v308 v312 v316 v320 v324 v328 v1270 v1272 v1274 v1276 v1278 v1280 v1282 v1286 k0_hw13 => k0_hw13.2.2.2.2.2.2
def k0_off17 (k0_t5 : Fin k0_t5_loop.trips) : Fin 3 → Nat :=
  let c0_i32_706 : BitVec 32 := 0#32
  let c2_i32_700 : BitVec 32 := 2#32
  let c0_i32_188 : BitVec 32 := 0#32
  let c1_i32_190 : BitVec 32 := 1#32
  let arg13 : BitVec 32 := Scf.iv c0_i32_188 c1_i32_190 k0_t5
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c48 : Index := 48#32
  ![v1303.toNat, 0, 48]

def k0_chk14 (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v304] : Fin 3 → IVec S16 32) a x).toNat < S224x2x128.size a) ∧
  (∀ a x, ((![v1272, v1309, v308] : Fin 3 → IVec S16 32) a x).toNat < S224x2x128.size a) ∧
  (∀ a x, ((![v1274, v1309, v312] : Fin 3 → IVec S16 32) a x).toNat < S224x2x128.size a) ∧
  (∀ a x, ((![v1276, v1309, v316] : Fin 3 → IVec S16 32) a x).toNat < S224x2x128.size a) ∧
  (∀ a x, ((![v1278, v1309, v320] : Fin 3 → IVec S16 32) a x).toNat < S224x2x128.size a) ∧
  (∀ a x, ((![v1280, v1309, v324] : Fin 3 → IVec S16 32) a x).toNat < S224x2x128.size a) ∧
  (∀ a x, ((![v1282, v1309, v328] : Fin 3 → IVec S16 32) a x).toNat < S224x2x128.size a)
theorem k0_idx92_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw14 : k0_chk14 v304 v308 v312 v316 v320 v324 v328 v1270 v1272 v1274 v1276 v1278 v1280 v1282 v1309), ∀ a x, ((![v1270, v1309, v304] : Fin 3 → IVec S16 32) a x).toNat < S224x2x128.size a := fun v304 v308 v312 v316 v320 v324 v328 v1270 v1272 v1274 v1276 v1278 v1280 v1282 v1309 k0_hw14 => k0_hw14.1
theorem k0_idx93_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw14 : k0_chk14 v304 v308 v312 v316 v320 v324 v328 v1270 v1272 v1274 v1276 v1278 v1280 v1282 v1309), ∀ a x, ((![v1272, v1309, v308] : Fin 3 → IVec S16 32) a x).toNat < S224x2x128.size a := fun v304 v308 v312 v316 v320 v324 v328 v1270 v1272 v1274 v1276 v1278 v1280 v1282 v1309 k0_hw14 => k0_hw14.2.1
theorem k0_idx94_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw14 : k0_chk14 v304 v308 v312 v316 v320 v324 v328 v1270 v1272 v1274 v1276 v1278 v1280 v1282 v1309), ∀ a x, ((![v1274, v1309, v312] : Fin 3 → IVec S16 32) a x).toNat < S224x2x128.size a := fun v304 v308 v312 v316 v320 v324 v328 v1270 v1272 v1274 v1276 v1278 v1280 v1282 v1309 k0_hw14 => k0_hw14.2.2.1
theorem k0_idx95_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw14 : k0_chk14 v304 v308 v312 v316 v320 v324 v328 v1270 v1272 v1274 v1276 v1278 v1280 v1282 v1309), ∀ a x, ((![v1276, v1309, v316] : Fin 3 → IVec S16 32) a x).toNat < S224x2x128.size a := fun v304 v308 v312 v316 v320 v324 v328 v1270 v1272 v1274 v1276 v1278 v1280 v1282 v1309 k0_hw14 => k0_hw14.2.2.2.1
theorem k0_idx96_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw14 : k0_chk14 v304 v308 v312 v316 v320 v324 v328 v1270 v1272 v1274 v1276 v1278 v1280 v1282 v1309), ∀ a x, ((![v1278, v1309, v320] : Fin 3 → IVec S16 32) a x).toNat < S224x2x128.size a := fun v304 v308 v312 v316 v320 v324 v328 v1270 v1272 v1274 v1276 v1278 v1280 v1282 v1309 k0_hw14 => k0_hw14.2.2.2.2.1
theorem k0_idx97_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw14 : k0_chk14 v304 v308 v312 v316 v320 v324 v328 v1270 v1272 v1274 v1276 v1278 v1280 v1282 v1309), ∀ a x, ((![v1280, v1309, v324] : Fin 3 → IVec S16 32) a x).toNat < S224x2x128.size a := fun v304 v308 v312 v316 v320 v324 v328 v1270 v1272 v1274 v1276 v1278 v1280 v1282 v1309 k0_hw14 => k0_hw14.2.2.2.2.2.1
theorem k0_idx98_inb : ∀ (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw14 : k0_chk14 v304 v308 v312 v316 v320 v324 v328 v1270 v1272 v1274 v1276 v1278 v1280 v1282 v1309), ∀ a x, ((![v1282, v1309, v328] : Fin 3 → IVec S16 32) a x).toNat < S224x2x128.size a := fun v304 v308 v312 v316 v320 v324 v328 v1270 v1272 v1274 v1276 v1278 v1280 v1282 v1309 k0_hw14 => k0_hw14.2.2.2.2.2.2
def k0_off18 (k0_t5 : Fin k0_t5_loop.trips) : Fin 3 → Nat :=
  let c0_i32_711 : BitVec 32 := 0#32
  let c2_i32_700 : BitVec 32 := 2#32
  let c0_i32_188 : BitVec 32 := 0#32
  let c1_i32_190 : BitVec 32 := 1#32
  let arg13 : BitVec 32 := Scf.iv c0_i32_188 c1_i32_190 k0_t5
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c48_713 : Index := 48#32
  ![v1326.toNat, 1, 48]

def k0_chk15 (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v304] : Fin 3 → IVec S16 32) a x).toNat < S224x2x128.size a) ∧
  (∀ a x, ((![v1336, v1350, v308] : Fin 3 → IVec S16 32) a x).toNat < S224x2x128.size a) ∧
  (∀ a x, ((![v1338, v1350, v312] : Fin 3 → IVec S16 32) a x).toNat < S224x2x128.size a) ∧
  (∀ a x, ((![v1340, v1350, v316] : Fin 3 → IVec S16 32) a x).toNat < S224x2x128.size a) ∧
  (∀ a x, ((![v1342, v1350, v320] : Fin 3 → IVec S16 32) a x).toNat < S224x2x128.size a) ∧
  (∀ a x, ((![v1344, v1350, v324] : Fin 3 → IVec S16 32) a x).toNat < S224x2x128.size a) ∧
  (∀ a x, ((![v1346, v1350, v328] : Fin 3 → IVec S16 32) a x).toNat < S224x2x128.size a)
theorem k0_idx99_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw15 : k0_chk15 v304 v308 v312 v316 v320 v324 v328 v1334 v1336 v1338 v1340 v1342 v1344 v1346 v1350), ∀ a x, ((![v1334, v1350, v304] : Fin 3 → IVec S16 32) a x).toNat < S224x2x128.size a := fun v304 v308 v312 v316 v320 v324 v328 v1334 v1336 v1338 v1340 v1342 v1344 v1346 v1350 k0_hw15 => k0_hw15.1
theorem k0_idx100_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw15 : k0_chk15 v304 v308 v312 v316 v320 v324 v328 v1334 v1336 v1338 v1340 v1342 v1344 v1346 v1350), ∀ a x, ((![v1336, v1350, v308] : Fin 3 → IVec S16 32) a x).toNat < S224x2x128.size a := fun v304 v308 v312 v316 v320 v324 v328 v1334 v1336 v1338 v1340 v1342 v1344 v1346 v1350 k0_hw15 => k0_hw15.2.1
theorem k0_idx101_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw15 : k0_chk15 v304 v308 v312 v316 v320 v324 v328 v1334 v1336 v1338 v1340 v1342 v1344 v1346 v1350), ∀ a x, ((![v1338, v1350, v312] : Fin 3 → IVec S16 32) a x).toNat < S224x2x128.size a := fun v304 v308 v312 v316 v320 v324 v328 v1334 v1336 v1338 v1340 v1342 v1344 v1346 v1350 k0_hw15 => k0_hw15.2.2.1
theorem k0_idx102_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw15 : k0_chk15 v304 v308 v312 v316 v320 v324 v328 v1334 v1336 v1338 v1340 v1342 v1344 v1346 v1350), ∀ a x, ((![v1340, v1350, v316] : Fin 3 → IVec S16 32) a x).toNat < S224x2x128.size a := fun v304 v308 v312 v316 v320 v324 v328 v1334 v1336 v1338 v1340 v1342 v1344 v1346 v1350 k0_hw15 => k0_hw15.2.2.2.1
theorem k0_idx103_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw15 : k0_chk15 v304 v308 v312 v316 v320 v324 v328 v1334 v1336 v1338 v1340 v1342 v1344 v1346 v1350), ∀ a x, ((![v1342, v1350, v320] : Fin 3 → IVec S16 32) a x).toNat < S224x2x128.size a := fun v304 v308 v312 v316 v320 v324 v328 v1334 v1336 v1338 v1340 v1342 v1344 v1346 v1350 k0_hw15 => k0_hw15.2.2.2.2.1
theorem k0_idx104_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw15 : k0_chk15 v304 v308 v312 v316 v320 v324 v328 v1334 v1336 v1338 v1340 v1342 v1344 v1346 v1350), ∀ a x, ((![v1344, v1350, v324] : Fin 3 → IVec S16 32) a x).toNat < S224x2x128.size a := fun v304 v308 v312 v316 v320 v324 v328 v1334 v1336 v1338 v1340 v1342 v1344 v1346 v1350 k0_hw15 => k0_hw15.2.2.2.2.2.1
theorem k0_idx105_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw15 : k0_chk15 v304 v308 v312 v316 v320 v324 v328 v1334 v1336 v1338 v1340 v1342 v1344 v1346 v1350), ∀ a x, ((![v1346, v1350, v328] : Fin 3 → IVec S16 32) a x).toNat < S224x2x128.size a := fun v304 v308 v312 v316 v320 v324 v328 v1334 v1336 v1338 v1340 v1342 v1344 v1346 v1350 k0_hw15 => k0_hw15.2.2.2.2.2.2
def k0_off19 (k0_t5 : Fin k0_t5_loop.trips) : Fin 3 → Nat :=
  let c0_i32_721 : BitVec 32 := 0#32
  let c2_i32_714 : BitVec 32 := 2#32
  let c0_i32_188 : BitVec 32 := 0#32
  let c1_i32_190 : BitVec 32 := 1#32
  let arg13 : BitVec 32 := Scf.iv c0_i32_188 c1_i32_190 k0_t5
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c48_723 : Index := 48#32
  ![v1367.toNat, 0, 48]

def k0_chk16 (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v304] : Fin 3 → IVec S16 32) a x).toNat < S224x2x128.size a) ∧
  (∀ a x, ((![v1336, v1373, v308] : Fin 3 → IVec S16 32) a x).toNat < S224x2x128.size a) ∧
  (∀ a x, ((![v1338, v1373, v312] : Fin 3 → IVec S16 32) a x).toNat < S224x2x128.size a) ∧
  (∀ a x, ((![v1340, v1373, v316] : Fin 3 → IVec S16 32) a x).toNat < S224x2x128.size a) ∧
  (∀ a x, ((![v1342, v1373, v320] : Fin 3 → IVec S16 32) a x).toNat < S224x2x128.size a) ∧
  (∀ a x, ((![v1344, v1373, v324] : Fin 3 → IVec S16 32) a x).toNat < S224x2x128.size a) ∧
  (∀ a x, ((![v1346, v1373, v328] : Fin 3 → IVec S16 32) a x).toNat < S224x2x128.size a)
theorem k0_idx106_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw16 : k0_chk16 v304 v308 v312 v316 v320 v324 v328 v1334 v1336 v1338 v1340 v1342 v1344 v1346 v1373), ∀ a x, ((![v1334, v1373, v304] : Fin 3 → IVec S16 32) a x).toNat < S224x2x128.size a := fun v304 v308 v312 v316 v320 v324 v328 v1334 v1336 v1338 v1340 v1342 v1344 v1346 v1373 k0_hw16 => k0_hw16.1
theorem k0_idx107_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw16 : k0_chk16 v304 v308 v312 v316 v320 v324 v328 v1334 v1336 v1338 v1340 v1342 v1344 v1346 v1373), ∀ a x, ((![v1336, v1373, v308] : Fin 3 → IVec S16 32) a x).toNat < S224x2x128.size a := fun v304 v308 v312 v316 v320 v324 v328 v1334 v1336 v1338 v1340 v1342 v1344 v1346 v1373 k0_hw16 => k0_hw16.2.1
theorem k0_idx108_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw16 : k0_chk16 v304 v308 v312 v316 v320 v324 v328 v1334 v1336 v1338 v1340 v1342 v1344 v1346 v1373), ∀ a x, ((![v1338, v1373, v312] : Fin 3 → IVec S16 32) a x).toNat < S224x2x128.size a := fun v304 v308 v312 v316 v320 v324 v328 v1334 v1336 v1338 v1340 v1342 v1344 v1346 v1373 k0_hw16 => k0_hw16.2.2.1
theorem k0_idx109_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw16 : k0_chk16 v304 v308 v312 v316 v320 v324 v328 v1334 v1336 v1338 v1340 v1342 v1344 v1346 v1373), ∀ a x, ((![v1340, v1373, v316] : Fin 3 → IVec S16 32) a x).toNat < S224x2x128.size a := fun v304 v308 v312 v316 v320 v324 v328 v1334 v1336 v1338 v1340 v1342 v1344 v1346 v1373 k0_hw16 => k0_hw16.2.2.2.1
theorem k0_idx110_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw16 : k0_chk16 v304 v308 v312 v316 v320 v324 v328 v1334 v1336 v1338 v1340 v1342 v1344 v1346 v1373), ∀ a x, ((![v1342, v1373, v320] : Fin 3 → IVec S16 32) a x).toNat < S224x2x128.size a := fun v304 v308 v312 v316 v320 v324 v328 v1334 v1336 v1338 v1340 v1342 v1344 v1346 v1373 k0_hw16 => k0_hw16.2.2.2.2.1
theorem k0_idx111_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw16 : k0_chk16 v304 v308 v312 v316 v320 v324 v328 v1334 v1336 v1338 v1340 v1342 v1344 v1346 v1373), ∀ a x, ((![v1344, v1373, v324] : Fin 3 → IVec S16 32) a x).toNat < S224x2x128.size a := fun v304 v308 v312 v316 v320 v324 v328 v1334 v1336 v1338 v1340 v1342 v1344 v1346 v1373 k0_hw16 => k0_hw16.2.2.2.2.2.1
theorem k0_idx112_inb : ∀ (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw16 : k0_chk16 v304 v308 v312 v316 v320 v324 v328 v1334 v1336 v1338 v1340 v1342 v1344 v1346 v1373), ∀ a x, ((![v1346, v1373, v328] : Fin 3 → IVec S16 32) a x).toNat < S224x2x128.size a := fun v304 v308 v312 v316 v320 v324 v328 v1334 v1336 v1338 v1340 v1342 v1344 v1346 v1373 k0_hw16 => k0_hw16.2.2.2.2.2.2
def k0_off20 (k0_t5 : Fin k0_t5_loop.trips) : Fin 3 → Nat :=
  let c0_i32_727 : BitVec 32 := 0#32
  let c2_i32_714 : BitVec 32 := 2#32
  let c0_i32_188 : BitVec 32 := 0#32
  let c1_i32_190 : BitVec 32 := 1#32
  let arg13 : BitVec 32 := Scf.iv c0_i32_188 c1_i32_190 k0_t5
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c48_729 : Index := 48#32
  ![v1390.toNat, 1, 48]
@[reducible] def k0_t6_loop : Scf.Loop 32 :=
  let c0_i32_227 : BitVec 32 := 0#32
  let c8_i32_228 : BitVec 32 := 8#32
  let v416 : BitVec 32 := Scalar.addi c0_i32_227 c8_i32_228
  let c1_i32_229 : BitVec 32 := 1#32
  ⟨c0_i32_227, v416, c1_i32_229⟩

def k0_chk17 (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v377] : Fin 3 → IVec S16 32) a x).toNat < S224x2x128.size a) ∧
  (∀ a x, ((![v1272, v1286, v381] : Fin 3 → IVec S16 32) a x).toNat < S224x2x128.size a) ∧
  (∀ a x, ((![v1274, v1286, v385] : Fin 3 → IVec S16 32) a x).toNat < S224x2x128.size a) ∧
  (∀ a x, ((![v1276, v1286, v389] : Fin 3 → IVec S16 32) a x).toNat < S224x2x128.size a) ∧
  (∀ a x, ((![v1278, v1286, v393] : Fin 3 → IVec S16 32) a x).toNat < S224x2x128.size a) ∧
  (∀ a x, ((![v1280, v1286, v397] : Fin 3 → IVec S16 32) a x).toNat < S224x2x128.size a) ∧
  (∀ a x, ((![v1282, v1286, v401] : Fin 3 → IVec S16 32) a x).toNat < S224x2x128.size a)
theorem k0_idx113_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw17 : k0_chk17 v377 v381 v385 v389 v393 v397 v401 v1270 v1272 v1274 v1276 v1278 v1280 v1282 v1286), ∀ a x, ((![v1270, v1286, v377] : Fin 3 → IVec S16 32) a x).toNat < S224x2x128.size a := fun v377 v381 v385 v389 v393 v397 v401 v1270 v1272 v1274 v1276 v1278 v1280 v1282 v1286 k0_hw17 => k0_hw17.1
theorem k0_idx114_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw17 : k0_chk17 v377 v381 v385 v389 v393 v397 v401 v1270 v1272 v1274 v1276 v1278 v1280 v1282 v1286), ∀ a x, ((![v1272, v1286, v381] : Fin 3 → IVec S16 32) a x).toNat < S224x2x128.size a := fun v377 v381 v385 v389 v393 v397 v401 v1270 v1272 v1274 v1276 v1278 v1280 v1282 v1286 k0_hw17 => k0_hw17.2.1
theorem k0_idx115_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw17 : k0_chk17 v377 v381 v385 v389 v393 v397 v401 v1270 v1272 v1274 v1276 v1278 v1280 v1282 v1286), ∀ a x, ((![v1274, v1286, v385] : Fin 3 → IVec S16 32) a x).toNat < S224x2x128.size a := fun v377 v381 v385 v389 v393 v397 v401 v1270 v1272 v1274 v1276 v1278 v1280 v1282 v1286 k0_hw17 => k0_hw17.2.2.1
theorem k0_idx116_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw17 : k0_chk17 v377 v381 v385 v389 v393 v397 v401 v1270 v1272 v1274 v1276 v1278 v1280 v1282 v1286), ∀ a x, ((![v1276, v1286, v389] : Fin 3 → IVec S16 32) a x).toNat < S224x2x128.size a := fun v377 v381 v385 v389 v393 v397 v401 v1270 v1272 v1274 v1276 v1278 v1280 v1282 v1286 k0_hw17 => k0_hw17.2.2.2.1
theorem k0_idx117_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw17 : k0_chk17 v377 v381 v385 v389 v393 v397 v401 v1270 v1272 v1274 v1276 v1278 v1280 v1282 v1286), ∀ a x, ((![v1278, v1286, v393] : Fin 3 → IVec S16 32) a x).toNat < S224x2x128.size a := fun v377 v381 v385 v389 v393 v397 v401 v1270 v1272 v1274 v1276 v1278 v1280 v1282 v1286 k0_hw17 => k0_hw17.2.2.2.2.1
theorem k0_idx118_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw17 : k0_chk17 v377 v381 v385 v389 v393 v397 v401 v1270 v1272 v1274 v1276 v1278 v1280 v1282 v1286), ∀ a x, ((![v1280, v1286, v397] : Fin 3 → IVec S16 32) a x).toNat < S224x2x128.size a := fun v377 v381 v385 v389 v393 v397 v401 v1270 v1272 v1274 v1276 v1278 v1280 v1282 v1286 k0_hw17 => k0_hw17.2.2.2.2.2.1
theorem k0_idx119_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw17 : k0_chk17 v377 v381 v385 v389 v393 v397 v401 v1270 v1272 v1274 v1276 v1278 v1280 v1282 v1286), ∀ a x, ((![v1282, v1286, v401] : Fin 3 → IVec S16 32) a x).toNat < S224x2x128.size a := fun v377 v381 v385 v389 v393 v397 v401 v1270 v1272 v1274 v1276 v1278 v1280 v1282 v1286 k0_hw17 => k0_hw17.2.2.2.2.2.2
def k0_off21 (k0_t6 : Fin k0_t6_loop.trips) : Fin 3 → Nat :=
  let c0_i32_706 : BitVec 32 := 0#32
  let c2_i32_700 : BitVec 32 := 2#32
  let c0_i32_227 : BitVec 32 := 0#32
  let c1_i32_229 : BitVec 32 := 1#32
  let arg13 : BitVec 32 := Scf.iv c0_i32_227 c1_i32_229 k0_t6
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c64 : Index := 64#32
  ![v1303.toNat, 0, 64]

def k0_chk18 (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v377] : Fin 3 → IVec S16 32) a x).toNat < S224x2x128.size a) ∧
  (∀ a x, ((![v1272, v1309, v381] : Fin 3 → IVec S16 32) a x).toNat < S224x2x128.size a) ∧
  (∀ a x, ((![v1274, v1309, v385] : Fin 3 → IVec S16 32) a x).toNat < S224x2x128.size a) ∧
  (∀ a x, ((![v1276, v1309, v389] : Fin 3 → IVec S16 32) a x).toNat < S224x2x128.size a) ∧
  (∀ a x, ((![v1278, v1309, v393] : Fin 3 → IVec S16 32) a x).toNat < S224x2x128.size a) ∧
  (∀ a x, ((![v1280, v1309, v397] : Fin 3 → IVec S16 32) a x).toNat < S224x2x128.size a) ∧
  (∀ a x, ((![v1282, v1309, v401] : Fin 3 → IVec S16 32) a x).toNat < S224x2x128.size a)
theorem k0_idx120_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw18 : k0_chk18 v377 v381 v385 v389 v393 v397 v401 v1270 v1272 v1274 v1276 v1278 v1280 v1282 v1309), ∀ a x, ((![v1270, v1309, v377] : Fin 3 → IVec S16 32) a x).toNat < S224x2x128.size a := fun v377 v381 v385 v389 v393 v397 v401 v1270 v1272 v1274 v1276 v1278 v1280 v1282 v1309 k0_hw18 => k0_hw18.1
theorem k0_idx121_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw18 : k0_chk18 v377 v381 v385 v389 v393 v397 v401 v1270 v1272 v1274 v1276 v1278 v1280 v1282 v1309), ∀ a x, ((![v1272, v1309, v381] : Fin 3 → IVec S16 32) a x).toNat < S224x2x128.size a := fun v377 v381 v385 v389 v393 v397 v401 v1270 v1272 v1274 v1276 v1278 v1280 v1282 v1309 k0_hw18 => k0_hw18.2.1
theorem k0_idx122_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw18 : k0_chk18 v377 v381 v385 v389 v393 v397 v401 v1270 v1272 v1274 v1276 v1278 v1280 v1282 v1309), ∀ a x, ((![v1274, v1309, v385] : Fin 3 → IVec S16 32) a x).toNat < S224x2x128.size a := fun v377 v381 v385 v389 v393 v397 v401 v1270 v1272 v1274 v1276 v1278 v1280 v1282 v1309 k0_hw18 => k0_hw18.2.2.1
theorem k0_idx123_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw18 : k0_chk18 v377 v381 v385 v389 v393 v397 v401 v1270 v1272 v1274 v1276 v1278 v1280 v1282 v1309), ∀ a x, ((![v1276, v1309, v389] : Fin 3 → IVec S16 32) a x).toNat < S224x2x128.size a := fun v377 v381 v385 v389 v393 v397 v401 v1270 v1272 v1274 v1276 v1278 v1280 v1282 v1309 k0_hw18 => k0_hw18.2.2.2.1
theorem k0_idx124_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw18 : k0_chk18 v377 v381 v385 v389 v393 v397 v401 v1270 v1272 v1274 v1276 v1278 v1280 v1282 v1309), ∀ a x, ((![v1278, v1309, v393] : Fin 3 → IVec S16 32) a x).toNat < S224x2x128.size a := fun v377 v381 v385 v389 v393 v397 v401 v1270 v1272 v1274 v1276 v1278 v1280 v1282 v1309 k0_hw18 => k0_hw18.2.2.2.2.1
theorem k0_idx125_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw18 : k0_chk18 v377 v381 v385 v389 v393 v397 v401 v1270 v1272 v1274 v1276 v1278 v1280 v1282 v1309), ∀ a x, ((![v1280, v1309, v397] : Fin 3 → IVec S16 32) a x).toNat < S224x2x128.size a := fun v377 v381 v385 v389 v393 v397 v401 v1270 v1272 v1274 v1276 v1278 v1280 v1282 v1309 k0_hw18 => k0_hw18.2.2.2.2.2.1
theorem k0_idx126_inb : ∀ (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw18 : k0_chk18 v377 v381 v385 v389 v393 v397 v401 v1270 v1272 v1274 v1276 v1278 v1280 v1282 v1309), ∀ a x, ((![v1282, v1309, v401] : Fin 3 → IVec S16 32) a x).toNat < S224x2x128.size a := fun v377 v381 v385 v389 v393 v397 v401 v1270 v1272 v1274 v1276 v1278 v1280 v1282 v1309 k0_hw18 => k0_hw18.2.2.2.2.2.2
def k0_off22 (k0_t6 : Fin k0_t6_loop.trips) : Fin 3 → Nat :=
  let c0_i32_711 : BitVec 32 := 0#32
  let c2_i32_700 : BitVec 32 := 2#32
  let c0_i32_227 : BitVec 32 := 0#32
  let c1_i32_229 : BitVec 32 := 1#32
  let arg13 : BitVec 32 := Scf.iv c0_i32_227 c1_i32_229 k0_t6
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c64_713 : Index := 64#32
  ![v1326.toNat, 1, 64]

def k0_chk19 (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v377] : Fin 3 → IVec S16 32) a x).toNat < S224x2x128.size a) ∧
  (∀ a x, ((![v1336, v1350, v381] : Fin 3 → IVec S16 32) a x).toNat < S224x2x128.size a) ∧
  (∀ a x, ((![v1338, v1350, v385] : Fin 3 → IVec S16 32) a x).toNat < S224x2x128.size a) ∧
  (∀ a x, ((![v1340, v1350, v389] : Fin 3 → IVec S16 32) a x).toNat < S224x2x128.size a) ∧
  (∀ a x, ((![v1342, v1350, v393] : Fin 3 → IVec S16 32) a x).toNat < S224x2x128.size a) ∧
  (∀ a x, ((![v1344, v1350, v397] : Fin 3 → IVec S16 32) a x).toNat < S224x2x128.size a) ∧
  (∀ a x, ((![v1346, v1350, v401] : Fin 3 → IVec S16 32) a x).toNat < S224x2x128.size a)
theorem k0_idx127_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw19 : k0_chk19 v377 v381 v385 v389 v393 v397 v401 v1334 v1336 v1338 v1340 v1342 v1344 v1346 v1350), ∀ a x, ((![v1334, v1350, v377] : Fin 3 → IVec S16 32) a x).toNat < S224x2x128.size a := fun v377 v381 v385 v389 v393 v397 v401 v1334 v1336 v1338 v1340 v1342 v1344 v1346 v1350 k0_hw19 => k0_hw19.1
theorem k0_idx128_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw19 : k0_chk19 v377 v381 v385 v389 v393 v397 v401 v1334 v1336 v1338 v1340 v1342 v1344 v1346 v1350), ∀ a x, ((![v1336, v1350, v381] : Fin 3 → IVec S16 32) a x).toNat < S224x2x128.size a := fun v377 v381 v385 v389 v393 v397 v401 v1334 v1336 v1338 v1340 v1342 v1344 v1346 v1350 k0_hw19 => k0_hw19.2.1
theorem k0_idx129_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw19 : k0_chk19 v377 v381 v385 v389 v393 v397 v401 v1334 v1336 v1338 v1340 v1342 v1344 v1346 v1350), ∀ a x, ((![v1338, v1350, v385] : Fin 3 → IVec S16 32) a x).toNat < S224x2x128.size a := fun v377 v381 v385 v389 v393 v397 v401 v1334 v1336 v1338 v1340 v1342 v1344 v1346 v1350 k0_hw19 => k0_hw19.2.2.1
theorem k0_idx130_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw19 : k0_chk19 v377 v381 v385 v389 v393 v397 v401 v1334 v1336 v1338 v1340 v1342 v1344 v1346 v1350), ∀ a x, ((![v1340, v1350, v389] : Fin 3 → IVec S16 32) a x).toNat < S224x2x128.size a := fun v377 v381 v385 v389 v393 v397 v401 v1334 v1336 v1338 v1340 v1342 v1344 v1346 v1350 k0_hw19 => k0_hw19.2.2.2.1
theorem k0_idx131_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw19 : k0_chk19 v377 v381 v385 v389 v393 v397 v401 v1334 v1336 v1338 v1340 v1342 v1344 v1346 v1350), ∀ a x, ((![v1342, v1350, v393] : Fin 3 → IVec S16 32) a x).toNat < S224x2x128.size a := fun v377 v381 v385 v389 v393 v397 v401 v1334 v1336 v1338 v1340 v1342 v1344 v1346 v1350 k0_hw19 => k0_hw19.2.2.2.2.1
theorem k0_idx132_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw19 : k0_chk19 v377 v381 v385 v389 v393 v397 v401 v1334 v1336 v1338 v1340 v1342 v1344 v1346 v1350), ∀ a x, ((![v1344, v1350, v397] : Fin 3 → IVec S16 32) a x).toNat < S224x2x128.size a := fun v377 v381 v385 v389 v393 v397 v401 v1334 v1336 v1338 v1340 v1342 v1344 v1346 v1350 k0_hw19 => k0_hw19.2.2.2.2.2.1
theorem k0_idx133_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw19 : k0_chk19 v377 v381 v385 v389 v393 v397 v401 v1334 v1336 v1338 v1340 v1342 v1344 v1346 v1350), ∀ a x, ((![v1346, v1350, v401] : Fin 3 → IVec S16 32) a x).toNat < S224x2x128.size a := fun v377 v381 v385 v389 v393 v397 v401 v1334 v1336 v1338 v1340 v1342 v1344 v1346 v1350 k0_hw19 => k0_hw19.2.2.2.2.2.2
def k0_off23 (k0_t6 : Fin k0_t6_loop.trips) : Fin 3 → Nat :=
  let c0_i32_721 : BitVec 32 := 0#32
  let c2_i32_714 : BitVec 32 := 2#32
  let c0_i32_227 : BitVec 32 := 0#32
  let c1_i32_229 : BitVec 32 := 1#32
  let arg13 : BitVec 32 := Scf.iv c0_i32_227 c1_i32_229 k0_t6
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c64_723 : Index := 64#32
  ![v1367.toNat, 0, 64]

def k0_chk20 (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v377] : Fin 3 → IVec S16 32) a x).toNat < S224x2x128.size a) ∧
  (∀ a x, ((![v1336, v1373, v381] : Fin 3 → IVec S16 32) a x).toNat < S224x2x128.size a) ∧
  (∀ a x, ((![v1338, v1373, v385] : Fin 3 → IVec S16 32) a x).toNat < S224x2x128.size a) ∧
  (∀ a x, ((![v1340, v1373, v389] : Fin 3 → IVec S16 32) a x).toNat < S224x2x128.size a) ∧
  (∀ a x, ((![v1342, v1373, v393] : Fin 3 → IVec S16 32) a x).toNat < S224x2x128.size a) ∧
  (∀ a x, ((![v1344, v1373, v397] : Fin 3 → IVec S16 32) a x).toNat < S224x2x128.size a) ∧
  (∀ a x, ((![v1346, v1373, v401] : Fin 3 → IVec S16 32) a x).toNat < S224x2x128.size a)
theorem k0_idx134_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw20 : k0_chk20 v377 v381 v385 v389 v393 v397 v401 v1334 v1336 v1338 v1340 v1342 v1344 v1346 v1373), ∀ a x, ((![v1334, v1373, v377] : Fin 3 → IVec S16 32) a x).toNat < S224x2x128.size a := fun v377 v381 v385 v389 v393 v397 v401 v1334 v1336 v1338 v1340 v1342 v1344 v1346 v1373 k0_hw20 => k0_hw20.1
theorem k0_idx135_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw20 : k0_chk20 v377 v381 v385 v389 v393 v397 v401 v1334 v1336 v1338 v1340 v1342 v1344 v1346 v1373), ∀ a x, ((![v1336, v1373, v381] : Fin 3 → IVec S16 32) a x).toNat < S224x2x128.size a := fun v377 v381 v385 v389 v393 v397 v401 v1334 v1336 v1338 v1340 v1342 v1344 v1346 v1373 k0_hw20 => k0_hw20.2.1
theorem k0_idx136_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw20 : k0_chk20 v377 v381 v385 v389 v393 v397 v401 v1334 v1336 v1338 v1340 v1342 v1344 v1346 v1373), ∀ a x, ((![v1338, v1373, v385] : Fin 3 → IVec S16 32) a x).toNat < S224x2x128.size a := fun v377 v381 v385 v389 v393 v397 v401 v1334 v1336 v1338 v1340 v1342 v1344 v1346 v1373 k0_hw20 => k0_hw20.2.2.1
theorem k0_idx137_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw20 : k0_chk20 v377 v381 v385 v389 v393 v397 v401 v1334 v1336 v1338 v1340 v1342 v1344 v1346 v1373), ∀ a x, ((![v1340, v1373, v389] : Fin 3 → IVec S16 32) a x).toNat < S224x2x128.size a := fun v377 v381 v385 v389 v393 v397 v401 v1334 v1336 v1338 v1340 v1342 v1344 v1346 v1373 k0_hw20 => k0_hw20.2.2.2.1
theorem k0_idx138_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw20 : k0_chk20 v377 v381 v385 v389 v393 v397 v401 v1334 v1336 v1338 v1340 v1342 v1344 v1346 v1373), ∀ a x, ((![v1342, v1373, v393] : Fin 3 → IVec S16 32) a x).toNat < S224x2x128.size a := fun v377 v381 v385 v389 v393 v397 v401 v1334 v1336 v1338 v1340 v1342 v1344 v1346 v1373 k0_hw20 => k0_hw20.2.2.2.2.1
theorem k0_idx139_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw20 : k0_chk20 v377 v381 v385 v389 v393 v397 v401 v1334 v1336 v1338 v1340 v1342 v1344 v1346 v1373), ∀ a x, ((![v1344, v1373, v397] : Fin 3 → IVec S16 32) a x).toNat < S224x2x128.size a := fun v377 v381 v385 v389 v393 v397 v401 v1334 v1336 v1338 v1340 v1342 v1344 v1346 v1373 k0_hw20 => k0_hw20.2.2.2.2.2.1
theorem k0_idx140_inb : ∀ (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw20 : k0_chk20 v377 v381 v385 v389 v393 v397 v401 v1334 v1336 v1338 v1340 v1342 v1344 v1346 v1373), ∀ a x, ((![v1346, v1373, v401] : Fin 3 → IVec S16 32) a x).toNat < S224x2x128.size a := fun v377 v381 v385 v389 v393 v397 v401 v1334 v1336 v1338 v1340 v1342 v1344 v1346 v1373 k0_hw20 => k0_hw20.2.2.2.2.2.2
def k0_off24 (k0_t6 : Fin k0_t6_loop.trips) : Fin 3 → Nat :=
  let c0_i32_727 : BitVec 32 := 0#32
  let c2_i32_714 : BitVec 32 := 2#32
  let c0_i32_227 : BitVec 32 := 0#32
  let c1_i32_229 : BitVec 32 := 1#32
  let arg13 : BitVec 32 := Scf.iv c0_i32_227 c1_i32_229 k0_t6
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c64_729 : Index := 64#32
  ![v1390.toNat, 1, 64]
@[reducible] def k0_t7_loop : Scf.Loop 32 :=
  let c0_i32_266 : BitVec 32 := 0#32
  let c8_i32_267 : BitVec 32 := 8#32
  let v489 : BitVec 32 := Scalar.addi c0_i32_266 c8_i32_267
  let c1_i32_268 : BitVec 32 := 1#32
  ⟨c0_i32_266, v489, c1_i32_268⟩

def k0_chk21 (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v450] : Fin 3 → IVec S16 32) a x).toNat < S224x2x128.size a) ∧
  (∀ a x, ((![v1272, v1286, v454] : Fin 3 → IVec S16 32) a x).toNat < S224x2x128.size a) ∧
  (∀ a x, ((![v1274, v1286, v458] : Fin 3 → IVec S16 32) a x).toNat < S224x2x128.size a) ∧
  (∀ a x, ((![v1276, v1286, v462] : Fin 3 → IVec S16 32) a x).toNat < S224x2x128.size a) ∧
  (∀ a x, ((![v1278, v1286, v466] : Fin 3 → IVec S16 32) a x).toNat < S224x2x128.size a) ∧
  (∀ a x, ((![v1280, v1286, v470] : Fin 3 → IVec S16 32) a x).toNat < S224x2x128.size a) ∧
  (∀ a x, ((![v1282, v1286, v474] : Fin 3 → IVec S16 32) a x).toNat < S224x2x128.size a)
theorem k0_idx141_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw21 : k0_chk21 v450 v454 v458 v462 v466 v470 v474 v1270 v1272 v1274 v1276 v1278 v1280 v1282 v1286), ∀ a x, ((![v1270, v1286, v450] : Fin 3 → IVec S16 32) a x).toNat < S224x2x128.size a := fun v450 v454 v458 v462 v466 v470 v474 v1270 v1272 v1274 v1276 v1278 v1280 v1282 v1286 k0_hw21 => k0_hw21.1
theorem k0_idx142_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw21 : k0_chk21 v450 v454 v458 v462 v466 v470 v474 v1270 v1272 v1274 v1276 v1278 v1280 v1282 v1286), ∀ a x, ((![v1272, v1286, v454] : Fin 3 → IVec S16 32) a x).toNat < S224x2x128.size a := fun v450 v454 v458 v462 v466 v470 v474 v1270 v1272 v1274 v1276 v1278 v1280 v1282 v1286 k0_hw21 => k0_hw21.2.1
theorem k0_idx143_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw21 : k0_chk21 v450 v454 v458 v462 v466 v470 v474 v1270 v1272 v1274 v1276 v1278 v1280 v1282 v1286), ∀ a x, ((![v1274, v1286, v458] : Fin 3 → IVec S16 32) a x).toNat < S224x2x128.size a := fun v450 v454 v458 v462 v466 v470 v474 v1270 v1272 v1274 v1276 v1278 v1280 v1282 v1286 k0_hw21 => k0_hw21.2.2.1
theorem k0_idx144_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw21 : k0_chk21 v450 v454 v458 v462 v466 v470 v474 v1270 v1272 v1274 v1276 v1278 v1280 v1282 v1286), ∀ a x, ((![v1276, v1286, v462] : Fin 3 → IVec S16 32) a x).toNat < S224x2x128.size a := fun v450 v454 v458 v462 v466 v470 v474 v1270 v1272 v1274 v1276 v1278 v1280 v1282 v1286 k0_hw21 => k0_hw21.2.2.2.1
theorem k0_idx145_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw21 : k0_chk21 v450 v454 v458 v462 v466 v470 v474 v1270 v1272 v1274 v1276 v1278 v1280 v1282 v1286), ∀ a x, ((![v1278, v1286, v466] : Fin 3 → IVec S16 32) a x).toNat < S224x2x128.size a := fun v450 v454 v458 v462 v466 v470 v474 v1270 v1272 v1274 v1276 v1278 v1280 v1282 v1286 k0_hw21 => k0_hw21.2.2.2.2.1
theorem k0_idx146_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw21 : k0_chk21 v450 v454 v458 v462 v466 v470 v474 v1270 v1272 v1274 v1276 v1278 v1280 v1282 v1286), ∀ a x, ((![v1280, v1286, v470] : Fin 3 → IVec S16 32) a x).toNat < S224x2x128.size a := fun v450 v454 v458 v462 v466 v470 v474 v1270 v1272 v1274 v1276 v1278 v1280 v1282 v1286 k0_hw21 => k0_hw21.2.2.2.2.2.1
theorem k0_idx147_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw21 : k0_chk21 v450 v454 v458 v462 v466 v470 v474 v1270 v1272 v1274 v1276 v1278 v1280 v1282 v1286), ∀ a x, ((![v1282, v1286, v474] : Fin 3 → IVec S16 32) a x).toNat < S224x2x128.size a := fun v450 v454 v458 v462 v466 v470 v474 v1270 v1272 v1274 v1276 v1278 v1280 v1282 v1286 k0_hw21 => k0_hw21.2.2.2.2.2.2
def k0_off25 (k0_t7 : Fin k0_t7_loop.trips) : Fin 3 → Nat :=
  let c0_i32_706 : BitVec 32 := 0#32
  let c2_i32_700 : BitVec 32 := 2#32
  let c0_i32_266 : BitVec 32 := 0#32
  let c1_i32_268 : BitVec 32 := 1#32
  let arg13 : BitVec 32 := Scf.iv c0_i32_266 c1_i32_268 k0_t7
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c80 : Index := 80#32
  ![v1303.toNat, 0, 80]

def k0_chk22 (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v450] : Fin 3 → IVec S16 32) a x).toNat < S224x2x128.size a) ∧
  (∀ a x, ((![v1272, v1309, v454] : Fin 3 → IVec S16 32) a x).toNat < S224x2x128.size a) ∧
  (∀ a x, ((![v1274, v1309, v458] : Fin 3 → IVec S16 32) a x).toNat < S224x2x128.size a) ∧
  (∀ a x, ((![v1276, v1309, v462] : Fin 3 → IVec S16 32) a x).toNat < S224x2x128.size a) ∧
  (∀ a x, ((![v1278, v1309, v466] : Fin 3 → IVec S16 32) a x).toNat < S224x2x128.size a) ∧
  (∀ a x, ((![v1280, v1309, v470] : Fin 3 → IVec S16 32) a x).toNat < S224x2x128.size a) ∧
  (∀ a x, ((![v1282, v1309, v474] : Fin 3 → IVec S16 32) a x).toNat < S224x2x128.size a)
theorem k0_idx148_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw22 : k0_chk22 v450 v454 v458 v462 v466 v470 v474 v1270 v1272 v1274 v1276 v1278 v1280 v1282 v1309), ∀ a x, ((![v1270, v1309, v450] : Fin 3 → IVec S16 32) a x).toNat < S224x2x128.size a := fun v450 v454 v458 v462 v466 v470 v474 v1270 v1272 v1274 v1276 v1278 v1280 v1282 v1309 k0_hw22 => k0_hw22.1
theorem k0_idx149_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw22 : k0_chk22 v450 v454 v458 v462 v466 v470 v474 v1270 v1272 v1274 v1276 v1278 v1280 v1282 v1309), ∀ a x, ((![v1272, v1309, v454] : Fin 3 → IVec S16 32) a x).toNat < S224x2x128.size a := fun v450 v454 v458 v462 v466 v470 v474 v1270 v1272 v1274 v1276 v1278 v1280 v1282 v1309 k0_hw22 => k0_hw22.2.1
theorem k0_idx150_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw22 : k0_chk22 v450 v454 v458 v462 v466 v470 v474 v1270 v1272 v1274 v1276 v1278 v1280 v1282 v1309), ∀ a x, ((![v1274, v1309, v458] : Fin 3 → IVec S16 32) a x).toNat < S224x2x128.size a := fun v450 v454 v458 v462 v466 v470 v474 v1270 v1272 v1274 v1276 v1278 v1280 v1282 v1309 k0_hw22 => k0_hw22.2.2.1
theorem k0_idx151_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw22 : k0_chk22 v450 v454 v458 v462 v466 v470 v474 v1270 v1272 v1274 v1276 v1278 v1280 v1282 v1309), ∀ a x, ((![v1276, v1309, v462] : Fin 3 → IVec S16 32) a x).toNat < S224x2x128.size a := fun v450 v454 v458 v462 v466 v470 v474 v1270 v1272 v1274 v1276 v1278 v1280 v1282 v1309 k0_hw22 => k0_hw22.2.2.2.1
theorem k0_idx152_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw22 : k0_chk22 v450 v454 v458 v462 v466 v470 v474 v1270 v1272 v1274 v1276 v1278 v1280 v1282 v1309), ∀ a x, ((![v1278, v1309, v466] : Fin 3 → IVec S16 32) a x).toNat < S224x2x128.size a := fun v450 v454 v458 v462 v466 v470 v474 v1270 v1272 v1274 v1276 v1278 v1280 v1282 v1309 k0_hw22 => k0_hw22.2.2.2.2.1
theorem k0_idx153_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw22 : k0_chk22 v450 v454 v458 v462 v466 v470 v474 v1270 v1272 v1274 v1276 v1278 v1280 v1282 v1309), ∀ a x, ((![v1280, v1309, v470] : Fin 3 → IVec S16 32) a x).toNat < S224x2x128.size a := fun v450 v454 v458 v462 v466 v470 v474 v1270 v1272 v1274 v1276 v1278 v1280 v1282 v1309 k0_hw22 => k0_hw22.2.2.2.2.2.1
theorem k0_idx154_inb : ∀ (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw22 : k0_chk22 v450 v454 v458 v462 v466 v470 v474 v1270 v1272 v1274 v1276 v1278 v1280 v1282 v1309), ∀ a x, ((![v1282, v1309, v474] : Fin 3 → IVec S16 32) a x).toNat < S224x2x128.size a := fun v450 v454 v458 v462 v466 v470 v474 v1270 v1272 v1274 v1276 v1278 v1280 v1282 v1309 k0_hw22 => k0_hw22.2.2.2.2.2.2
def k0_off26 (k0_t7 : Fin k0_t7_loop.trips) : Fin 3 → Nat :=
  let c0_i32_711 : BitVec 32 := 0#32
  let c2_i32_700 : BitVec 32 := 2#32
  let c0_i32_266 : BitVec 32 := 0#32
  let c1_i32_268 : BitVec 32 := 1#32
  let arg13 : BitVec 32 := Scf.iv c0_i32_266 c1_i32_268 k0_t7
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c80_713 : Index := 80#32
  ![v1326.toNat, 1, 80]

def k0_chk23 (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v450] : Fin 3 → IVec S16 32) a x).toNat < S224x2x128.size a) ∧
  (∀ a x, ((![v1336, v1350, v454] : Fin 3 → IVec S16 32) a x).toNat < S224x2x128.size a) ∧
  (∀ a x, ((![v1338, v1350, v458] : Fin 3 → IVec S16 32) a x).toNat < S224x2x128.size a) ∧
  (∀ a x, ((![v1340, v1350, v462] : Fin 3 → IVec S16 32) a x).toNat < S224x2x128.size a) ∧
  (∀ a x, ((![v1342, v1350, v466] : Fin 3 → IVec S16 32) a x).toNat < S224x2x128.size a) ∧
  (∀ a x, ((![v1344, v1350, v470] : Fin 3 → IVec S16 32) a x).toNat < S224x2x128.size a) ∧
  (∀ a x, ((![v1346, v1350, v474] : Fin 3 → IVec S16 32) a x).toNat < S224x2x128.size a)
theorem k0_idx155_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw23 : k0_chk23 v450 v454 v458 v462 v466 v470 v474 v1334 v1336 v1338 v1340 v1342 v1344 v1346 v1350), ∀ a x, ((![v1334, v1350, v450] : Fin 3 → IVec S16 32) a x).toNat < S224x2x128.size a := fun v450 v454 v458 v462 v466 v470 v474 v1334 v1336 v1338 v1340 v1342 v1344 v1346 v1350 k0_hw23 => k0_hw23.1
theorem k0_idx156_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw23 : k0_chk23 v450 v454 v458 v462 v466 v470 v474 v1334 v1336 v1338 v1340 v1342 v1344 v1346 v1350), ∀ a x, ((![v1336, v1350, v454] : Fin 3 → IVec S16 32) a x).toNat < S224x2x128.size a := fun v450 v454 v458 v462 v466 v470 v474 v1334 v1336 v1338 v1340 v1342 v1344 v1346 v1350 k0_hw23 => k0_hw23.2.1
theorem k0_idx157_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw23 : k0_chk23 v450 v454 v458 v462 v466 v470 v474 v1334 v1336 v1338 v1340 v1342 v1344 v1346 v1350), ∀ a x, ((![v1338, v1350, v458] : Fin 3 → IVec S16 32) a x).toNat < S224x2x128.size a := fun v450 v454 v458 v462 v466 v470 v474 v1334 v1336 v1338 v1340 v1342 v1344 v1346 v1350 k0_hw23 => k0_hw23.2.2.1
theorem k0_idx158_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw23 : k0_chk23 v450 v454 v458 v462 v466 v470 v474 v1334 v1336 v1338 v1340 v1342 v1344 v1346 v1350), ∀ a x, ((![v1340, v1350, v462] : Fin 3 → IVec S16 32) a x).toNat < S224x2x128.size a := fun v450 v454 v458 v462 v466 v470 v474 v1334 v1336 v1338 v1340 v1342 v1344 v1346 v1350 k0_hw23 => k0_hw23.2.2.2.1
theorem k0_idx159_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw23 : k0_chk23 v450 v454 v458 v462 v466 v470 v474 v1334 v1336 v1338 v1340 v1342 v1344 v1346 v1350), ∀ a x, ((![v1342, v1350, v466] : Fin 3 → IVec S16 32) a x).toNat < S224x2x128.size a := fun v450 v454 v458 v462 v466 v470 v474 v1334 v1336 v1338 v1340 v1342 v1344 v1346 v1350 k0_hw23 => k0_hw23.2.2.2.2.1
theorem k0_idx160_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw23 : k0_chk23 v450 v454 v458 v462 v466 v470 v474 v1334 v1336 v1338 v1340 v1342 v1344 v1346 v1350), ∀ a x, ((![v1344, v1350, v470] : Fin 3 → IVec S16 32) a x).toNat < S224x2x128.size a := fun v450 v454 v458 v462 v466 v470 v474 v1334 v1336 v1338 v1340 v1342 v1344 v1346 v1350 k0_hw23 => k0_hw23.2.2.2.2.2.1
theorem k0_idx161_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw23 : k0_chk23 v450 v454 v458 v462 v466 v470 v474 v1334 v1336 v1338 v1340 v1342 v1344 v1346 v1350), ∀ a x, ((![v1346, v1350, v474] : Fin 3 → IVec S16 32) a x).toNat < S224x2x128.size a := fun v450 v454 v458 v462 v466 v470 v474 v1334 v1336 v1338 v1340 v1342 v1344 v1346 v1350 k0_hw23 => k0_hw23.2.2.2.2.2.2
def k0_off27 (k0_t7 : Fin k0_t7_loop.trips) : Fin 3 → Nat :=
  let c0_i32_721 : BitVec 32 := 0#32
  let c2_i32_714 : BitVec 32 := 2#32
  let c0_i32_266 : BitVec 32 := 0#32
  let c1_i32_268 : BitVec 32 := 1#32
  let arg13 : BitVec 32 := Scf.iv c0_i32_266 c1_i32_268 k0_t7
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c80_723 : Index := 80#32
  ![v1367.toNat, 0, 80]

def k0_chk24 (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v450] : Fin 3 → IVec S16 32) a x).toNat < S224x2x128.size a) ∧
  (∀ a x, ((![v1336, v1373, v454] : Fin 3 → IVec S16 32) a x).toNat < S224x2x128.size a) ∧
  (∀ a x, ((![v1338, v1373, v458] : Fin 3 → IVec S16 32) a x).toNat < S224x2x128.size a) ∧
  (∀ a x, ((![v1340, v1373, v462] : Fin 3 → IVec S16 32) a x).toNat < S224x2x128.size a) ∧
  (∀ a x, ((![v1342, v1373, v466] : Fin 3 → IVec S16 32) a x).toNat < S224x2x128.size a) ∧
  (∀ a x, ((![v1344, v1373, v470] : Fin 3 → IVec S16 32) a x).toNat < S224x2x128.size a) ∧
  (∀ a x, ((![v1346, v1373, v474] : Fin 3 → IVec S16 32) a x).toNat < S224x2x128.size a)
theorem k0_idx162_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw24 : k0_chk24 v450 v454 v458 v462 v466 v470 v474 v1334 v1336 v1338 v1340 v1342 v1344 v1346 v1373), ∀ a x, ((![v1334, v1373, v450] : Fin 3 → IVec S16 32) a x).toNat < S224x2x128.size a := fun v450 v454 v458 v462 v466 v470 v474 v1334 v1336 v1338 v1340 v1342 v1344 v1346 v1373 k0_hw24 => k0_hw24.1
theorem k0_idx163_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw24 : k0_chk24 v450 v454 v458 v462 v466 v470 v474 v1334 v1336 v1338 v1340 v1342 v1344 v1346 v1373), ∀ a x, ((![v1336, v1373, v454] : Fin 3 → IVec S16 32) a x).toNat < S224x2x128.size a := fun v450 v454 v458 v462 v466 v470 v474 v1334 v1336 v1338 v1340 v1342 v1344 v1346 v1373 k0_hw24 => k0_hw24.2.1
theorem k0_idx164_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw24 : k0_chk24 v450 v454 v458 v462 v466 v470 v474 v1334 v1336 v1338 v1340 v1342 v1344 v1346 v1373), ∀ a x, ((![v1338, v1373, v458] : Fin 3 → IVec S16 32) a x).toNat < S224x2x128.size a := fun v450 v454 v458 v462 v466 v470 v474 v1334 v1336 v1338 v1340 v1342 v1344 v1346 v1373 k0_hw24 => k0_hw24.2.2.1
theorem k0_idx165_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw24 : k0_chk24 v450 v454 v458 v462 v466 v470 v474 v1334 v1336 v1338 v1340 v1342 v1344 v1346 v1373), ∀ a x, ((![v1340, v1373, v462] : Fin 3 → IVec S16 32) a x).toNat < S224x2x128.size a := fun v450 v454 v458 v462 v466 v470 v474 v1334 v1336 v1338 v1340 v1342 v1344 v1346 v1373 k0_hw24 => k0_hw24.2.2.2.1
theorem k0_idx166_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw24 : k0_chk24 v450 v454 v458 v462 v466 v470 v474 v1334 v1336 v1338 v1340 v1342 v1344 v1346 v1373), ∀ a x, ((![v1342, v1373, v466] : Fin 3 → IVec S16 32) a x).toNat < S224x2x128.size a := fun v450 v454 v458 v462 v466 v470 v474 v1334 v1336 v1338 v1340 v1342 v1344 v1346 v1373 k0_hw24 => k0_hw24.2.2.2.2.1
theorem k0_idx167_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw24 : k0_chk24 v450 v454 v458 v462 v466 v470 v474 v1334 v1336 v1338 v1340 v1342 v1344 v1346 v1373), ∀ a x, ((![v1344, v1373, v470] : Fin 3 → IVec S16 32) a x).toNat < S224x2x128.size a := fun v450 v454 v458 v462 v466 v470 v474 v1334 v1336 v1338 v1340 v1342 v1344 v1346 v1373 k0_hw24 => k0_hw24.2.2.2.2.2.1
theorem k0_idx168_inb : ∀ (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw24 : k0_chk24 v450 v454 v458 v462 v466 v470 v474 v1334 v1336 v1338 v1340 v1342 v1344 v1346 v1373), ∀ a x, ((![v1346, v1373, v474] : Fin 3 → IVec S16 32) a x).toNat < S224x2x128.size a := fun v450 v454 v458 v462 v466 v470 v474 v1334 v1336 v1338 v1340 v1342 v1344 v1346 v1373 k0_hw24 => k0_hw24.2.2.2.2.2.2
def k0_off28 (k0_t7 : Fin k0_t7_loop.trips) : Fin 3 → Nat :=
  let c0_i32_727 : BitVec 32 := 0#32
  let c2_i32_714 : BitVec 32 := 2#32
  let c0_i32_266 : BitVec 32 := 0#32
  let c1_i32_268 : BitVec 32 := 1#32
  let arg13 : BitVec 32 := Scf.iv c0_i32_266 c1_i32_268 k0_t7
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c80_729 : Index := 80#32
  ![v1390.toNat, 1, 80]
@[reducible] def k0_t8_loop : Scf.Loop 32 :=
  let c0_i32_305 : BitVec 32 := 0#32
  let c8_i32_306 : BitVec 32 := 8#32
  let v562 : BitVec 32 := Scalar.addi c0_i32_305 c8_i32_306
  let c1_i32_307 : BitVec 32 := 1#32
  ⟨c0_i32_305, v562, c1_i32_307⟩

def k0_chk25 (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v523] : Fin 3 → IVec S16 32) a x).toNat < S224x2x128.size a) ∧
  (∀ a x, ((![v1272, v1286, v527] : Fin 3 → IVec S16 32) a x).toNat < S224x2x128.size a) ∧
  (∀ a x, ((![v1274, v1286, v531] : Fin 3 → IVec S16 32) a x).toNat < S224x2x128.size a) ∧
  (∀ a x, ((![v1276, v1286, v535] : Fin 3 → IVec S16 32) a x).toNat < S224x2x128.size a) ∧
  (∀ a x, ((![v1278, v1286, v539] : Fin 3 → IVec S16 32) a x).toNat < S224x2x128.size a) ∧
  (∀ a x, ((![v1280, v1286, v543] : Fin 3 → IVec S16 32) a x).toNat < S224x2x128.size a) ∧
  (∀ a x, ((![v1282, v1286, v547] : Fin 3 → IVec S16 32) a x).toNat < S224x2x128.size a)
theorem k0_idx169_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw25 : k0_chk25 v523 v527 v531 v535 v539 v543 v547 v1270 v1272 v1274 v1276 v1278 v1280 v1282 v1286), ∀ a x, ((![v1270, v1286, v523] : Fin 3 → IVec S16 32) a x).toNat < S224x2x128.size a := fun v523 v527 v531 v535 v539 v543 v547 v1270 v1272 v1274 v1276 v1278 v1280 v1282 v1286 k0_hw25 => k0_hw25.1
theorem k0_idx170_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw25 : k0_chk25 v523 v527 v531 v535 v539 v543 v547 v1270 v1272 v1274 v1276 v1278 v1280 v1282 v1286), ∀ a x, ((![v1272, v1286, v527] : Fin 3 → IVec S16 32) a x).toNat < S224x2x128.size a := fun v523 v527 v531 v535 v539 v543 v547 v1270 v1272 v1274 v1276 v1278 v1280 v1282 v1286 k0_hw25 => k0_hw25.2.1
theorem k0_idx171_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw25 : k0_chk25 v523 v527 v531 v535 v539 v543 v547 v1270 v1272 v1274 v1276 v1278 v1280 v1282 v1286), ∀ a x, ((![v1274, v1286, v531] : Fin 3 → IVec S16 32) a x).toNat < S224x2x128.size a := fun v523 v527 v531 v535 v539 v543 v547 v1270 v1272 v1274 v1276 v1278 v1280 v1282 v1286 k0_hw25 => k0_hw25.2.2.1
theorem k0_idx172_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw25 : k0_chk25 v523 v527 v531 v535 v539 v543 v547 v1270 v1272 v1274 v1276 v1278 v1280 v1282 v1286), ∀ a x, ((![v1276, v1286, v535] : Fin 3 → IVec S16 32) a x).toNat < S224x2x128.size a := fun v523 v527 v531 v535 v539 v543 v547 v1270 v1272 v1274 v1276 v1278 v1280 v1282 v1286 k0_hw25 => k0_hw25.2.2.2.1
theorem k0_idx173_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw25 : k0_chk25 v523 v527 v531 v535 v539 v543 v547 v1270 v1272 v1274 v1276 v1278 v1280 v1282 v1286), ∀ a x, ((![v1278, v1286, v539] : Fin 3 → IVec S16 32) a x).toNat < S224x2x128.size a := fun v523 v527 v531 v535 v539 v543 v547 v1270 v1272 v1274 v1276 v1278 v1280 v1282 v1286 k0_hw25 => k0_hw25.2.2.2.2.1
theorem k0_idx174_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw25 : k0_chk25 v523 v527 v531 v535 v539 v543 v547 v1270 v1272 v1274 v1276 v1278 v1280 v1282 v1286), ∀ a x, ((![v1280, v1286, v543] : Fin 3 → IVec S16 32) a x).toNat < S224x2x128.size a := fun v523 v527 v531 v535 v539 v543 v547 v1270 v1272 v1274 v1276 v1278 v1280 v1282 v1286 k0_hw25 => k0_hw25.2.2.2.2.2.1
theorem k0_idx175_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw25 : k0_chk25 v523 v527 v531 v535 v539 v543 v547 v1270 v1272 v1274 v1276 v1278 v1280 v1282 v1286), ∀ a x, ((![v1282, v1286, v547] : Fin 3 → IVec S16 32) a x).toNat < S224x2x128.size a := fun v523 v527 v531 v535 v539 v543 v547 v1270 v1272 v1274 v1276 v1278 v1280 v1282 v1286 k0_hw25 => k0_hw25.2.2.2.2.2.2
def k0_off29 (k0_t8 : Fin k0_t8_loop.trips) : Fin 3 → Nat :=
  let c0_i32_706 : BitVec 32 := 0#32
  let c2_i32_700 : BitVec 32 := 2#32
  let c0_i32_305 : BitVec 32 := 0#32
  let c1_i32_307 : BitVec 32 := 1#32
  let arg13 : BitVec 32 := Scf.iv c0_i32_305 c1_i32_307 k0_t8
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c96 : Index := 96#32
  ![v1303.toNat, 0, 96]

def k0_chk26 (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v523] : Fin 3 → IVec S16 32) a x).toNat < S224x2x128.size a) ∧
  (∀ a x, ((![v1272, v1309, v527] : Fin 3 → IVec S16 32) a x).toNat < S224x2x128.size a) ∧
  (∀ a x, ((![v1274, v1309, v531] : Fin 3 → IVec S16 32) a x).toNat < S224x2x128.size a) ∧
  (∀ a x, ((![v1276, v1309, v535] : Fin 3 → IVec S16 32) a x).toNat < S224x2x128.size a) ∧
  (∀ a x, ((![v1278, v1309, v539] : Fin 3 → IVec S16 32) a x).toNat < S224x2x128.size a) ∧
  (∀ a x, ((![v1280, v1309, v543] : Fin 3 → IVec S16 32) a x).toNat < S224x2x128.size a) ∧
  (∀ a x, ((![v1282, v1309, v547] : Fin 3 → IVec S16 32) a x).toNat < S224x2x128.size a)
theorem k0_idx176_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw26 : k0_chk26 v523 v527 v531 v535 v539 v543 v547 v1270 v1272 v1274 v1276 v1278 v1280 v1282 v1309), ∀ a x, ((![v1270, v1309, v523] : Fin 3 → IVec S16 32) a x).toNat < S224x2x128.size a := fun v523 v527 v531 v535 v539 v543 v547 v1270 v1272 v1274 v1276 v1278 v1280 v1282 v1309 k0_hw26 => k0_hw26.1
theorem k0_idx177_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw26 : k0_chk26 v523 v527 v531 v535 v539 v543 v547 v1270 v1272 v1274 v1276 v1278 v1280 v1282 v1309), ∀ a x, ((![v1272, v1309, v527] : Fin 3 → IVec S16 32) a x).toNat < S224x2x128.size a := fun v523 v527 v531 v535 v539 v543 v547 v1270 v1272 v1274 v1276 v1278 v1280 v1282 v1309 k0_hw26 => k0_hw26.2.1
theorem k0_idx178_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw26 : k0_chk26 v523 v527 v531 v535 v539 v543 v547 v1270 v1272 v1274 v1276 v1278 v1280 v1282 v1309), ∀ a x, ((![v1274, v1309, v531] : Fin 3 → IVec S16 32) a x).toNat < S224x2x128.size a := fun v523 v527 v531 v535 v539 v543 v547 v1270 v1272 v1274 v1276 v1278 v1280 v1282 v1309 k0_hw26 => k0_hw26.2.2.1
theorem k0_idx179_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw26 : k0_chk26 v523 v527 v531 v535 v539 v543 v547 v1270 v1272 v1274 v1276 v1278 v1280 v1282 v1309), ∀ a x, ((![v1276, v1309, v535] : Fin 3 → IVec S16 32) a x).toNat < S224x2x128.size a := fun v523 v527 v531 v535 v539 v543 v547 v1270 v1272 v1274 v1276 v1278 v1280 v1282 v1309 k0_hw26 => k0_hw26.2.2.2.1
theorem k0_idx180_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw26 : k0_chk26 v523 v527 v531 v535 v539 v543 v547 v1270 v1272 v1274 v1276 v1278 v1280 v1282 v1309), ∀ a x, ((![v1278, v1309, v539] : Fin 3 → IVec S16 32) a x).toNat < S224x2x128.size a := fun v523 v527 v531 v535 v539 v543 v547 v1270 v1272 v1274 v1276 v1278 v1280 v1282 v1309 k0_hw26 => k0_hw26.2.2.2.2.1
theorem k0_idx181_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw26 : k0_chk26 v523 v527 v531 v535 v539 v543 v547 v1270 v1272 v1274 v1276 v1278 v1280 v1282 v1309), ∀ a x, ((![v1280, v1309, v543] : Fin 3 → IVec S16 32) a x).toNat < S224x2x128.size a := fun v523 v527 v531 v535 v539 v543 v547 v1270 v1272 v1274 v1276 v1278 v1280 v1282 v1309 k0_hw26 => k0_hw26.2.2.2.2.2.1
theorem k0_idx182_inb : ∀ (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw26 : k0_chk26 v523 v527 v531 v535 v539 v543 v547 v1270 v1272 v1274 v1276 v1278 v1280 v1282 v1309), ∀ a x, ((![v1282, v1309, v547] : Fin 3 → IVec S16 32) a x).toNat < S224x2x128.size a := fun v523 v527 v531 v535 v539 v543 v547 v1270 v1272 v1274 v1276 v1278 v1280 v1282 v1309 k0_hw26 => k0_hw26.2.2.2.2.2.2
def k0_off30 (k0_t8 : Fin k0_t8_loop.trips) : Fin 3 → Nat :=
  let c0_i32_711 : BitVec 32 := 0#32
  let c2_i32_700 : BitVec 32 := 2#32
  let c0_i32_305 : BitVec 32 := 0#32
  let c1_i32_307 : BitVec 32 := 1#32
  let arg13 : BitVec 32 := Scf.iv c0_i32_305 c1_i32_307 k0_t8
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c96_713 : Index := 96#32
  ![v1326.toNat, 1, 96]

def k0_chk27 (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v523] : Fin 3 → IVec S16 32) a x).toNat < S224x2x128.size a) ∧
  (∀ a x, ((![v1336, v1350, v527] : Fin 3 → IVec S16 32) a x).toNat < S224x2x128.size a) ∧
  (∀ a x, ((![v1338, v1350, v531] : Fin 3 → IVec S16 32) a x).toNat < S224x2x128.size a) ∧
  (∀ a x, ((![v1340, v1350, v535] : Fin 3 → IVec S16 32) a x).toNat < S224x2x128.size a) ∧
  (∀ a x, ((![v1342, v1350, v539] : Fin 3 → IVec S16 32) a x).toNat < S224x2x128.size a) ∧
  (∀ a x, ((![v1344, v1350, v543] : Fin 3 → IVec S16 32) a x).toNat < S224x2x128.size a) ∧
  (∀ a x, ((![v1346, v1350, v547] : Fin 3 → IVec S16 32) a x).toNat < S224x2x128.size a)
theorem k0_idx183_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw27 : k0_chk27 v523 v527 v531 v535 v539 v543 v547 v1334 v1336 v1338 v1340 v1342 v1344 v1346 v1350), ∀ a x, ((![v1334, v1350, v523] : Fin 3 → IVec S16 32) a x).toNat < S224x2x128.size a := fun v523 v527 v531 v535 v539 v543 v547 v1334 v1336 v1338 v1340 v1342 v1344 v1346 v1350 k0_hw27 => k0_hw27.1
theorem k0_idx184_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw27 : k0_chk27 v523 v527 v531 v535 v539 v543 v547 v1334 v1336 v1338 v1340 v1342 v1344 v1346 v1350), ∀ a x, ((![v1336, v1350, v527] : Fin 3 → IVec S16 32) a x).toNat < S224x2x128.size a := fun v523 v527 v531 v535 v539 v543 v547 v1334 v1336 v1338 v1340 v1342 v1344 v1346 v1350 k0_hw27 => k0_hw27.2.1
theorem k0_idx185_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw27 : k0_chk27 v523 v527 v531 v535 v539 v543 v547 v1334 v1336 v1338 v1340 v1342 v1344 v1346 v1350), ∀ a x, ((![v1338, v1350, v531] : Fin 3 → IVec S16 32) a x).toNat < S224x2x128.size a := fun v523 v527 v531 v535 v539 v543 v547 v1334 v1336 v1338 v1340 v1342 v1344 v1346 v1350 k0_hw27 => k0_hw27.2.2.1
theorem k0_idx186_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw27 : k0_chk27 v523 v527 v531 v535 v539 v543 v547 v1334 v1336 v1338 v1340 v1342 v1344 v1346 v1350), ∀ a x, ((![v1340, v1350, v535] : Fin 3 → IVec S16 32) a x).toNat < S224x2x128.size a := fun v523 v527 v531 v535 v539 v543 v547 v1334 v1336 v1338 v1340 v1342 v1344 v1346 v1350 k0_hw27 => k0_hw27.2.2.2.1
theorem k0_idx187_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw27 : k0_chk27 v523 v527 v531 v535 v539 v543 v547 v1334 v1336 v1338 v1340 v1342 v1344 v1346 v1350), ∀ a x, ((![v1342, v1350, v539] : Fin 3 → IVec S16 32) a x).toNat < S224x2x128.size a := fun v523 v527 v531 v535 v539 v543 v547 v1334 v1336 v1338 v1340 v1342 v1344 v1346 v1350 k0_hw27 => k0_hw27.2.2.2.2.1
theorem k0_idx188_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw27 : k0_chk27 v523 v527 v531 v535 v539 v543 v547 v1334 v1336 v1338 v1340 v1342 v1344 v1346 v1350), ∀ a x, ((![v1344, v1350, v543] : Fin 3 → IVec S16 32) a x).toNat < S224x2x128.size a := fun v523 v527 v531 v535 v539 v543 v547 v1334 v1336 v1338 v1340 v1342 v1344 v1346 v1350 k0_hw27 => k0_hw27.2.2.2.2.2.1
theorem k0_idx189_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw27 : k0_chk27 v523 v527 v531 v535 v539 v543 v547 v1334 v1336 v1338 v1340 v1342 v1344 v1346 v1350), ∀ a x, ((![v1346, v1350, v547] : Fin 3 → IVec S16 32) a x).toNat < S224x2x128.size a := fun v523 v527 v531 v535 v539 v543 v547 v1334 v1336 v1338 v1340 v1342 v1344 v1346 v1350 k0_hw27 => k0_hw27.2.2.2.2.2.2
def k0_off31 (k0_t8 : Fin k0_t8_loop.trips) : Fin 3 → Nat :=
  let c0_i32_721 : BitVec 32 := 0#32
  let c2_i32_714 : BitVec 32 := 2#32
  let c0_i32_305 : BitVec 32 := 0#32
  let c1_i32_307 : BitVec 32 := 1#32
  let arg13 : BitVec 32 := Scf.iv c0_i32_305 c1_i32_307 k0_t8
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c96_723 : Index := 96#32
  ![v1367.toNat, 0, 96]

def k0_chk28 (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v523] : Fin 3 → IVec S16 32) a x).toNat < S224x2x128.size a) ∧
  (∀ a x, ((![v1336, v1373, v527] : Fin 3 → IVec S16 32) a x).toNat < S224x2x128.size a) ∧
  (∀ a x, ((![v1338, v1373, v531] : Fin 3 → IVec S16 32) a x).toNat < S224x2x128.size a) ∧
  (∀ a x, ((![v1340, v1373, v535] : Fin 3 → IVec S16 32) a x).toNat < S224x2x128.size a) ∧
  (∀ a x, ((![v1342, v1373, v539] : Fin 3 → IVec S16 32) a x).toNat < S224x2x128.size a) ∧
  (∀ a x, ((![v1344, v1373, v543] : Fin 3 → IVec S16 32) a x).toNat < S224x2x128.size a) ∧
  (∀ a x, ((![v1346, v1373, v547] : Fin 3 → IVec S16 32) a x).toNat < S224x2x128.size a)
theorem k0_idx190_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw28 : k0_chk28 v523 v527 v531 v535 v539 v543 v547 v1334 v1336 v1338 v1340 v1342 v1344 v1346 v1373), ∀ a x, ((![v1334, v1373, v523] : Fin 3 → IVec S16 32) a x).toNat < S224x2x128.size a := fun v523 v527 v531 v535 v539 v543 v547 v1334 v1336 v1338 v1340 v1342 v1344 v1346 v1373 k0_hw28 => k0_hw28.1
theorem k0_idx191_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw28 : k0_chk28 v523 v527 v531 v535 v539 v543 v547 v1334 v1336 v1338 v1340 v1342 v1344 v1346 v1373), ∀ a x, ((![v1336, v1373, v527] : Fin 3 → IVec S16 32) a x).toNat < S224x2x128.size a := fun v523 v527 v531 v535 v539 v543 v547 v1334 v1336 v1338 v1340 v1342 v1344 v1346 v1373 k0_hw28 => k0_hw28.2.1
theorem k0_idx192_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw28 : k0_chk28 v523 v527 v531 v535 v539 v543 v547 v1334 v1336 v1338 v1340 v1342 v1344 v1346 v1373), ∀ a x, ((![v1338, v1373, v531] : Fin 3 → IVec S16 32) a x).toNat < S224x2x128.size a := fun v523 v527 v531 v535 v539 v543 v547 v1334 v1336 v1338 v1340 v1342 v1344 v1346 v1373 k0_hw28 => k0_hw28.2.2.1
theorem k0_idx193_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw28 : k0_chk28 v523 v527 v531 v535 v539 v543 v547 v1334 v1336 v1338 v1340 v1342 v1344 v1346 v1373), ∀ a x, ((![v1340, v1373, v535] : Fin 3 → IVec S16 32) a x).toNat < S224x2x128.size a := fun v523 v527 v531 v535 v539 v543 v547 v1334 v1336 v1338 v1340 v1342 v1344 v1346 v1373 k0_hw28 => k0_hw28.2.2.2.1
theorem k0_idx194_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw28 : k0_chk28 v523 v527 v531 v535 v539 v543 v547 v1334 v1336 v1338 v1340 v1342 v1344 v1346 v1373), ∀ a x, ((![v1342, v1373, v539] : Fin 3 → IVec S16 32) a x).toNat < S224x2x128.size a := fun v523 v527 v531 v535 v539 v543 v547 v1334 v1336 v1338 v1340 v1342 v1344 v1346 v1373 k0_hw28 => k0_hw28.2.2.2.2.1
theorem k0_idx195_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw28 : k0_chk28 v523 v527 v531 v535 v539 v543 v547 v1334 v1336 v1338 v1340 v1342 v1344 v1346 v1373), ∀ a x, ((![v1344, v1373, v543] : Fin 3 → IVec S16 32) a x).toNat < S224x2x128.size a := fun v523 v527 v531 v535 v539 v543 v547 v1334 v1336 v1338 v1340 v1342 v1344 v1346 v1373 k0_hw28 => k0_hw28.2.2.2.2.2.1
theorem k0_idx196_inb : ∀ (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw28 : k0_chk28 v523 v527 v531 v535 v539 v543 v547 v1334 v1336 v1338 v1340 v1342 v1344 v1346 v1373), ∀ a x, ((![v1346, v1373, v547] : Fin 3 → IVec S16 32) a x).toNat < S224x2x128.size a := fun v523 v527 v531 v535 v539 v543 v547 v1334 v1336 v1338 v1340 v1342 v1344 v1346 v1373 k0_hw28 => k0_hw28.2.2.2.2.2.2
def k0_off32 (k0_t8 : Fin k0_t8_loop.trips) : Fin 3 → Nat :=
  let c0_i32_727 : BitVec 32 := 0#32
  let c2_i32_714 : BitVec 32 := 2#32
  let c0_i32_305 : BitVec 32 := 0#32
  let c1_i32_307 : BitVec 32 := 1#32
  let arg13 : BitVec 32 := Scf.iv c0_i32_305 c1_i32_307 k0_t8
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c96_729 : Index := 96#32
  ![v1390.toNat, 1, 96]
@[reducible] def k0_t9_loop : Scf.Loop 32 :=
  let c0_i32_344 : BitVec 32 := 0#32
  let c8_i32_345 : BitVec 32 := 8#32
  let v635 : BitVec 32 := Scalar.addi c0_i32_344 c8_i32_345
  let c1_i32_346 : BitVec 32 := 1#32
  ⟨c0_i32_344, v635, c1_i32_346⟩

def k0_chk29 (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v596] : Fin 3 → IVec S16 32) a x).toNat < S224x2x128.size a) ∧
  (∀ a x, ((![v1272, v1286, v600] : Fin 3 → IVec S16 32) a x).toNat < S224x2x128.size a) ∧
  (∀ a x, ((![v1274, v1286, v604] : Fin 3 → IVec S16 32) a x).toNat < S224x2x128.size a) ∧
  (∀ a x, ((![v1276, v1286, v608] : Fin 3 → IVec S16 32) a x).toNat < S224x2x128.size a) ∧
  (∀ a x, ((![v1278, v1286, v612] : Fin 3 → IVec S16 32) a x).toNat < S224x2x128.size a) ∧
  (∀ a x, ((![v1280, v1286, v616] : Fin 3 → IVec S16 32) a x).toNat < S224x2x128.size a) ∧
  (∀ a x, ((![v1282, v1286, v620] : Fin 3 → IVec S16 32) a x).toNat < S224x2x128.size a)
theorem k0_idx197_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw29 : k0_chk29 v596 v600 v604 v608 v612 v616 v620 v1270 v1272 v1274 v1276 v1278 v1280 v1282 v1286), ∀ a x, ((![v1270, v1286, v596] : Fin 3 → IVec S16 32) a x).toNat < S224x2x128.size a := fun v596 v600 v604 v608 v612 v616 v620 v1270 v1272 v1274 v1276 v1278 v1280 v1282 v1286 k0_hw29 => k0_hw29.1
theorem k0_idx198_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw29 : k0_chk29 v596 v600 v604 v608 v612 v616 v620 v1270 v1272 v1274 v1276 v1278 v1280 v1282 v1286), ∀ a x, ((![v1272, v1286, v600] : Fin 3 → IVec S16 32) a x).toNat < S224x2x128.size a := fun v596 v600 v604 v608 v612 v616 v620 v1270 v1272 v1274 v1276 v1278 v1280 v1282 v1286 k0_hw29 => k0_hw29.2.1
theorem k0_idx199_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw29 : k0_chk29 v596 v600 v604 v608 v612 v616 v620 v1270 v1272 v1274 v1276 v1278 v1280 v1282 v1286), ∀ a x, ((![v1274, v1286, v604] : Fin 3 → IVec S16 32) a x).toNat < S224x2x128.size a := fun v596 v600 v604 v608 v612 v616 v620 v1270 v1272 v1274 v1276 v1278 v1280 v1282 v1286 k0_hw29 => k0_hw29.2.2.1
theorem k0_idx200_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw29 : k0_chk29 v596 v600 v604 v608 v612 v616 v620 v1270 v1272 v1274 v1276 v1278 v1280 v1282 v1286), ∀ a x, ((![v1276, v1286, v608] : Fin 3 → IVec S16 32) a x).toNat < S224x2x128.size a := fun v596 v600 v604 v608 v612 v616 v620 v1270 v1272 v1274 v1276 v1278 v1280 v1282 v1286 k0_hw29 => k0_hw29.2.2.2.1
theorem k0_idx201_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw29 : k0_chk29 v596 v600 v604 v608 v612 v616 v620 v1270 v1272 v1274 v1276 v1278 v1280 v1282 v1286), ∀ a x, ((![v1278, v1286, v612] : Fin 3 → IVec S16 32) a x).toNat < S224x2x128.size a := fun v596 v600 v604 v608 v612 v616 v620 v1270 v1272 v1274 v1276 v1278 v1280 v1282 v1286 k0_hw29 => k0_hw29.2.2.2.2.1
theorem k0_idx202_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw29 : k0_chk29 v596 v600 v604 v608 v612 v616 v620 v1270 v1272 v1274 v1276 v1278 v1280 v1282 v1286), ∀ a x, ((![v1280, v1286, v616] : Fin 3 → IVec S16 32) a x).toNat < S224x2x128.size a := fun v596 v600 v604 v608 v612 v616 v620 v1270 v1272 v1274 v1276 v1278 v1280 v1282 v1286 k0_hw29 => k0_hw29.2.2.2.2.2.1
theorem k0_idx203_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw29 : k0_chk29 v596 v600 v604 v608 v612 v616 v620 v1270 v1272 v1274 v1276 v1278 v1280 v1282 v1286), ∀ a x, ((![v1282, v1286, v620] : Fin 3 → IVec S16 32) a x).toNat < S224x2x128.size a := fun v596 v600 v604 v608 v612 v616 v620 v1270 v1272 v1274 v1276 v1278 v1280 v1282 v1286 k0_hw29 => k0_hw29.2.2.2.2.2.2
def k0_off33 (k0_t9 : Fin k0_t9_loop.trips) : Fin 3 → Nat :=
  let c0_i32_706 : BitVec 32 := 0#32
  let c2_i32_700 : BitVec 32 := 2#32
  let c0_i32_344 : BitVec 32 := 0#32
  let c1_i32_346 : BitVec 32 := 1#32
  let arg13 : BitVec 32 := Scf.iv c0_i32_344 c1_i32_346 k0_t9
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c112 : Index := 112#32
  ![v1303.toNat, 0, 112]

def k0_chk30 (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v596] : Fin 3 → IVec S16 32) a x).toNat < S224x2x128.size a) ∧
  (∀ a x, ((![v1272, v1309, v600] : Fin 3 → IVec S16 32) a x).toNat < S224x2x128.size a) ∧
  (∀ a x, ((![v1274, v1309, v604] : Fin 3 → IVec S16 32) a x).toNat < S224x2x128.size a) ∧
  (∀ a x, ((![v1276, v1309, v608] : Fin 3 → IVec S16 32) a x).toNat < S224x2x128.size a) ∧
  (∀ a x, ((![v1278, v1309, v612] : Fin 3 → IVec S16 32) a x).toNat < S224x2x128.size a) ∧
  (∀ a x, ((![v1280, v1309, v616] : Fin 3 → IVec S16 32) a x).toNat < S224x2x128.size a) ∧
  (∀ a x, ((![v1282, v1309, v620] : Fin 3 → IVec S16 32) a x).toNat < S224x2x128.size a)
theorem k0_idx204_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw30 : k0_chk30 v596 v600 v604 v608 v612 v616 v620 v1270 v1272 v1274 v1276 v1278 v1280 v1282 v1309), ∀ a x, ((![v1270, v1309, v596] : Fin 3 → IVec S16 32) a x).toNat < S224x2x128.size a := fun v596 v600 v604 v608 v612 v616 v620 v1270 v1272 v1274 v1276 v1278 v1280 v1282 v1309 k0_hw30 => k0_hw30.1
theorem k0_idx205_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw30 : k0_chk30 v596 v600 v604 v608 v612 v616 v620 v1270 v1272 v1274 v1276 v1278 v1280 v1282 v1309), ∀ a x, ((![v1272, v1309, v600] : Fin 3 → IVec S16 32) a x).toNat < S224x2x128.size a := fun v596 v600 v604 v608 v612 v616 v620 v1270 v1272 v1274 v1276 v1278 v1280 v1282 v1309 k0_hw30 => k0_hw30.2.1
theorem k0_idx206_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw30 : k0_chk30 v596 v600 v604 v608 v612 v616 v620 v1270 v1272 v1274 v1276 v1278 v1280 v1282 v1309), ∀ a x, ((![v1274, v1309, v604] : Fin 3 → IVec S16 32) a x).toNat < S224x2x128.size a := fun v596 v600 v604 v608 v612 v616 v620 v1270 v1272 v1274 v1276 v1278 v1280 v1282 v1309 k0_hw30 => k0_hw30.2.2.1
theorem k0_idx207_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw30 : k0_chk30 v596 v600 v604 v608 v612 v616 v620 v1270 v1272 v1274 v1276 v1278 v1280 v1282 v1309), ∀ a x, ((![v1276, v1309, v608] : Fin 3 → IVec S16 32) a x).toNat < S224x2x128.size a := fun v596 v600 v604 v608 v612 v616 v620 v1270 v1272 v1274 v1276 v1278 v1280 v1282 v1309 k0_hw30 => k0_hw30.2.2.2.1
theorem k0_idx208_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw30 : k0_chk30 v596 v600 v604 v608 v612 v616 v620 v1270 v1272 v1274 v1276 v1278 v1280 v1282 v1309), ∀ a x, ((![v1278, v1309, v612] : Fin 3 → IVec S16 32) a x).toNat < S224x2x128.size a := fun v596 v600 v604 v608 v612 v616 v620 v1270 v1272 v1274 v1276 v1278 v1280 v1282 v1309 k0_hw30 => k0_hw30.2.2.2.2.1
theorem k0_idx209_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw30 : k0_chk30 v596 v600 v604 v608 v612 v616 v620 v1270 v1272 v1274 v1276 v1278 v1280 v1282 v1309), ∀ a x, ((![v1280, v1309, v616] : Fin 3 → IVec S16 32) a x).toNat < S224x2x128.size a := fun v596 v600 v604 v608 v612 v616 v620 v1270 v1272 v1274 v1276 v1278 v1280 v1282 v1309 k0_hw30 => k0_hw30.2.2.2.2.2.1
theorem k0_idx210_inb : ∀ (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw30 : k0_chk30 v596 v600 v604 v608 v612 v616 v620 v1270 v1272 v1274 v1276 v1278 v1280 v1282 v1309), ∀ a x, ((![v1282, v1309, v620] : Fin 3 → IVec S16 32) a x).toNat < S224x2x128.size a := fun v596 v600 v604 v608 v612 v616 v620 v1270 v1272 v1274 v1276 v1278 v1280 v1282 v1309 k0_hw30 => k0_hw30.2.2.2.2.2.2
def k0_off34 (k0_t9 : Fin k0_t9_loop.trips) : Fin 3 → Nat :=
  let c0_i32_711 : BitVec 32 := 0#32
  let c2_i32_700 : BitVec 32 := 2#32
  let c0_i32_344 : BitVec 32 := 0#32
  let c1_i32_346 : BitVec 32 := 1#32
  let arg13 : BitVec 32 := Scf.iv c0_i32_344 c1_i32_346 k0_t9
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c112_713 : Index := 112#32
  ![v1326.toNat, 1, 112]

def k0_chk31 (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v596] : Fin 3 → IVec S16 32) a x).toNat < S224x2x128.size a) ∧
  (∀ a x, ((![v1336, v1350, v600] : Fin 3 → IVec S16 32) a x).toNat < S224x2x128.size a) ∧
  (∀ a x, ((![v1338, v1350, v604] : Fin 3 → IVec S16 32) a x).toNat < S224x2x128.size a) ∧
  (∀ a x, ((![v1340, v1350, v608] : Fin 3 → IVec S16 32) a x).toNat < S224x2x128.size a) ∧
  (∀ a x, ((![v1342, v1350, v612] : Fin 3 → IVec S16 32) a x).toNat < S224x2x128.size a) ∧
  (∀ a x, ((![v1344, v1350, v616] : Fin 3 → IVec S16 32) a x).toNat < S224x2x128.size a) ∧
  (∀ a x, ((![v1346, v1350, v620] : Fin 3 → IVec S16 32) a x).toNat < S224x2x128.size a)
theorem k0_idx211_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw31 : k0_chk31 v596 v600 v604 v608 v612 v616 v620 v1334 v1336 v1338 v1340 v1342 v1344 v1346 v1350), ∀ a x, ((![v1334, v1350, v596] : Fin 3 → IVec S16 32) a x).toNat < S224x2x128.size a := fun v596 v600 v604 v608 v612 v616 v620 v1334 v1336 v1338 v1340 v1342 v1344 v1346 v1350 k0_hw31 => k0_hw31.1
theorem k0_idx212_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw31 : k0_chk31 v596 v600 v604 v608 v612 v616 v620 v1334 v1336 v1338 v1340 v1342 v1344 v1346 v1350), ∀ a x, ((![v1336, v1350, v600] : Fin 3 → IVec S16 32) a x).toNat < S224x2x128.size a := fun v596 v600 v604 v608 v612 v616 v620 v1334 v1336 v1338 v1340 v1342 v1344 v1346 v1350 k0_hw31 => k0_hw31.2.1
theorem k0_idx213_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw31 : k0_chk31 v596 v600 v604 v608 v612 v616 v620 v1334 v1336 v1338 v1340 v1342 v1344 v1346 v1350), ∀ a x, ((![v1338, v1350, v604] : Fin 3 → IVec S16 32) a x).toNat < S224x2x128.size a := fun v596 v600 v604 v608 v612 v616 v620 v1334 v1336 v1338 v1340 v1342 v1344 v1346 v1350 k0_hw31 => k0_hw31.2.2.1
theorem k0_idx214_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw31 : k0_chk31 v596 v600 v604 v608 v612 v616 v620 v1334 v1336 v1338 v1340 v1342 v1344 v1346 v1350), ∀ a x, ((![v1340, v1350, v608] : Fin 3 → IVec S16 32) a x).toNat < S224x2x128.size a := fun v596 v600 v604 v608 v612 v616 v620 v1334 v1336 v1338 v1340 v1342 v1344 v1346 v1350 k0_hw31 => k0_hw31.2.2.2.1
theorem k0_idx215_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw31 : k0_chk31 v596 v600 v604 v608 v612 v616 v620 v1334 v1336 v1338 v1340 v1342 v1344 v1346 v1350), ∀ a x, ((![v1342, v1350, v612] : Fin 3 → IVec S16 32) a x).toNat < S224x2x128.size a := fun v596 v600 v604 v608 v612 v616 v620 v1334 v1336 v1338 v1340 v1342 v1344 v1346 v1350 k0_hw31 => k0_hw31.2.2.2.2.1
theorem k0_idx216_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw31 : k0_chk31 v596 v600 v604 v608 v612 v616 v620 v1334 v1336 v1338 v1340 v1342 v1344 v1346 v1350), ∀ a x, ((![v1344, v1350, v616] : Fin 3 → IVec S16 32) a x).toNat < S224x2x128.size a := fun v596 v600 v604 v608 v612 v616 v620 v1334 v1336 v1338 v1340 v1342 v1344 v1346 v1350 k0_hw31 => k0_hw31.2.2.2.2.2.1
theorem k0_idx217_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw31 : k0_chk31 v596 v600 v604 v608 v612 v616 v620 v1334 v1336 v1338 v1340 v1342 v1344 v1346 v1350), ∀ a x, ((![v1346, v1350, v620] : Fin 3 → IVec S16 32) a x).toNat < S224x2x128.size a := fun v596 v600 v604 v608 v612 v616 v620 v1334 v1336 v1338 v1340 v1342 v1344 v1346 v1350 k0_hw31 => k0_hw31.2.2.2.2.2.2
def k0_off35 (k0_t9 : Fin k0_t9_loop.trips) : Fin 3 → Nat :=
  let c0_i32_721 : BitVec 32 := 0#32
  let c2_i32_714 : BitVec 32 := 2#32
  let c0_i32_344 : BitVec 32 := 0#32
  let c1_i32_346 : BitVec 32 := 1#32
  let arg13 : BitVec 32 := Scf.iv c0_i32_344 c1_i32_346 k0_t9
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c112_723 : Index := 112#32
  ![v1367.toNat, 0, 112]

def k0_chk32 (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v596] : Fin 3 → IVec S16 32) a x).toNat < S224x2x128.size a) ∧
  (∀ a x, ((![v1336, v1373, v600] : Fin 3 → IVec S16 32) a x).toNat < S224x2x128.size a) ∧
  (∀ a x, ((![v1338, v1373, v604] : Fin 3 → IVec S16 32) a x).toNat < S224x2x128.size a) ∧
  (∀ a x, ((![v1340, v1373, v608] : Fin 3 → IVec S16 32) a x).toNat < S224x2x128.size a) ∧
  (∀ a x, ((![v1342, v1373, v612] : Fin 3 → IVec S16 32) a x).toNat < S224x2x128.size a) ∧
  (∀ a x, ((![v1344, v1373, v616] : Fin 3 → IVec S16 32) a x).toNat < S224x2x128.size a) ∧
  (∀ a x, ((![v1346, v1373, v620] : Fin 3 → IVec S16 32) a x).toNat < S224x2x128.size a)
theorem k0_idx218_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw32 : k0_chk32 v596 v600 v604 v608 v612 v616 v620 v1334 v1336 v1338 v1340 v1342 v1344 v1346 v1373), ∀ a x, ((![v1334, v1373, v596] : Fin 3 → IVec S16 32) a x).toNat < S224x2x128.size a := fun v596 v600 v604 v608 v612 v616 v620 v1334 v1336 v1338 v1340 v1342 v1344 v1346 v1373 k0_hw32 => k0_hw32.1
theorem k0_idx219_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw32 : k0_chk32 v596 v600 v604 v608 v612 v616 v620 v1334 v1336 v1338 v1340 v1342 v1344 v1346 v1373), ∀ a x, ((![v1336, v1373, v600] : Fin 3 → IVec S16 32) a x).toNat < S224x2x128.size a := fun v596 v600 v604 v608 v612 v616 v620 v1334 v1336 v1338 v1340 v1342 v1344 v1346 v1373 k0_hw32 => k0_hw32.2.1
theorem k0_idx220_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw32 : k0_chk32 v596 v600 v604 v608 v612 v616 v620 v1334 v1336 v1338 v1340 v1342 v1344 v1346 v1373), ∀ a x, ((![v1338, v1373, v604] : Fin 3 → IVec S16 32) a x).toNat < S224x2x128.size a := fun v596 v600 v604 v608 v612 v616 v620 v1334 v1336 v1338 v1340 v1342 v1344 v1346 v1373 k0_hw32 => k0_hw32.2.2.1
theorem k0_idx221_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw32 : k0_chk32 v596 v600 v604 v608 v612 v616 v620 v1334 v1336 v1338 v1340 v1342 v1344 v1346 v1373), ∀ a x, ((![v1340, v1373, v608] : Fin 3 → IVec S16 32) a x).toNat < S224x2x128.size a := fun v596 v600 v604 v608 v612 v616 v620 v1334 v1336 v1338 v1340 v1342 v1344 v1346 v1373 k0_hw32 => k0_hw32.2.2.2.1
theorem k0_idx222_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw32 : k0_chk32 v596 v600 v604 v608 v612 v616 v620 v1334 v1336 v1338 v1340 v1342 v1344 v1346 v1373), ∀ a x, ((![v1342, v1373, v612] : Fin 3 → IVec S16 32) a x).toNat < S224x2x128.size a := fun v596 v600 v604 v608 v612 v616 v620 v1334 v1336 v1338 v1340 v1342 v1344 v1346 v1373 k0_hw32 => k0_hw32.2.2.2.2.1
theorem k0_idx223_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw32 : k0_chk32 v596 v600 v604 v608 v612 v616 v620 v1334 v1336 v1338 v1340 v1342 v1344 v1346 v1373), ∀ a x, ((![v1344, v1373, v616] : Fin 3 → IVec S16 32) a x).toNat < S224x2x128.size a := fun v596 v600 v604 v608 v612 v616 v620 v1334 v1336 v1338 v1340 v1342 v1344 v1346 v1373 k0_hw32 => k0_hw32.2.2.2.2.2.1
theorem k0_idx224_inb : ∀ (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw32 : k0_chk32 v596 v600 v604 v608 v612 v616 v620 v1334 v1336 v1338 v1340 v1342 v1344 v1346 v1373), ∀ a x, ((![v1346, v1373, v620] : Fin 3 → IVec S16 32) a x).toNat < S224x2x128.size a := fun v596 v600 v604 v608 v612 v616 v620 v1334 v1336 v1338 v1340 v1342 v1344 v1346 v1373 k0_hw32 => k0_hw32.2.2.2.2.2.2
def k0_off36 (k0_t9 : Fin k0_t9_loop.trips) : Fin 3 → Nat :=
  let c0_i32_727 : BitVec 32 := 0#32
  let c2_i32_714 : BitVec 32 := 2#32
  let c0_i32_344 : BitVec 32 := 0#32
  let c1_i32_346 : BitVec 32 := 1#32
  let arg13 : BitVec 32 := Scf.iv c0_i32_344 c1_i32_346 k0_t9
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c112_729 : Index := 112#32
  ![v1390.toNat, 1, 112]
def k0_cond2 (i : grid0.Coords) (k0_t1 : Fin (k0_t1_loop i).trips) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let v638 : BitVec 32 := Scalar.addi v4 v33
  let c1_i32_349 : BitVec 32 := 1#32
  let v639 : BitVec 32 := Scalar.addi v638 c1_i32_349
  let c16_i32_350 : BitVec 32 := 16#32
  let v640 : BitVec 32 := Scalar.muli v639 c16_i32_350
  let c40962_i32_351 : BitVec 32 := 40962#32
  let v641 : BitVec 1 := Scalar.cmpi .sle v640 c40962_i32_351
  let v642 : BitVec 32 := Scalar.extui v641
  let c0_i32_352 : BitVec 32 := 0#32
  let v643 : BitVec 1 := Scalar.cmpi .ne v642 c0_i32_352
  v643

def k0_off37 (i : grid0.Coords) (k0_t1 : Fin (k0_t1_loop i).trips) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let v636 : BitVec 32 := Scalar.addi v4 v33
  let c16_i32_348 : BitVec 32 := 16#32
  let v637 : BitVec 32 := Scalar.muli v636 c16_i32_348
  let c0_i32_703 : BitVec 32 := 0#32
  let c0_i32_704 : BitVec 32 := 0#32
  ![v637.toNat, 0, 0]
def k0_off38 (i : grid0.Coords) (k0_t1 : Fin (k0_t1_loop i).trips) : Fin 1 → Nat :=
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let c1_i32_355 : BitVec 32 := 1#32
  let v649 : BitVec 32 := Scalar.addi v33 c1_i32_355
  let c112_i32_356 : BitVec 32 := 112#32
  let v650 : BitVec 32 := Scalar.muli v649 c112_i32_356
  ![v650.toNat]
def k0_cond4 (i : grid0.Coords) (k0_t1 : Fin (k0_t1_loop i).trips) : BitVec 1 :=
  let c0_i32_8 : BitVec 32 := 0#32
  let c1_i32_9 : BitVec 32 := 1#32
  let arg12 : BitVec 32 := Scf.iv c0_i32_8 c1_i32_9 k0_t1
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let c1_i32_363 : BitVec 32 := 1#32
  let v654 : BitVec 32 := Scalar.subi v5 c1_i32_363
  let v655 : BitVec 1 := Scalar.cmpi .slt arg12 v654
  let v656 : BitVec 32 := Scalar.extui v655
  let c0_i32_364 : BitVec 32 := 0#32
  let v657 : BitVec 1 := Scalar.cmpi .ne v656 c0_i32_364
  v657

def k0_off39 (i : grid0.Coords) (k0_t1 : Fin (k0_t1_loop i).trips) : Fin 1 → Nat :=
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let c2_i32_700 : BitVec 32 := 2#32
  let v1265 : BitVec 32 := Scalar.addi v33 c2_i32_700
  let c112_i32_701 : BitVec 32 := 112#32
  let v1266 : BitVec 32 := Scalar.muli v1265 c112_i32_701
  ![v1266.toNat]
def k0_cond5 (i : grid0.Coords) (k0_t1 : Fin (k0_t1_loop i).trips) : BitVec 1 :=
  let c0_i32_8 : BitVec 32 := 0#32
  let c1_i32_9 : BitVec 32 := 1#32
  let arg12 : BitVec 32 := Scf.iv c0_i32_8 c1_i32_9 k0_t1
  let c0_i32_365 : BitVec 32 := 0#32
  let v658 : BitVec 1 := Scalar.cmpi .sgt arg12 c0_i32_365
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let v33 : BitVec 32 := Scalar.muli c2_i32_19 arg12
  let c1_i32_366 : BitVec 32 := 1#32
  let v659 : BitVec 32 := Scalar.subi v33 c1_i32_366
  let v660 : BitVec 32 := Scalar.addi v4 v659
  let c1_i32_367 : BitVec 32 := 1#32
  let v661 : BitVec 32 := Scalar.addi v660 c1_i32_367
  let c16_i32_368 : BitVec 32 := 16#32
  let v662 : BitVec 32 := Scalar.muli v661 c16_i32_368
  let c40962_i32_369 : BitVec 32 := 40962#32
  let v663 : BitVec 1 := Scalar.cmpi .sle v662 c40962_i32_369
  let v664 : BitVec 1 := Scalar.andi v658 v663
  let v665 : BitVec 32 := Scalar.extui v664
  let c0_i32_370 : BitVec 32 := 0#32
  let v666 : BitVec 1 := Scalar.cmpi .ne v665 c0_i32_370
  v666

def k0_off40 (i : grid0.Coords) (k0_t1 : Fin (k0_t1_loop i).trips) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let c1_i32_700 : BitVec 32 := 1#32
  let v1265 : BitVec 32 := Scalar.subi v33 c1_i32_700
  let v1266 : BitVec 32 := Scalar.addi v4 v1265
  let c16_i32_701 : BitVec 32 := 16#32
  let v1267 : BitVec 32 := Scalar.muli v1266 c16_i32_701
  let c0_i32_705 : BitVec 32 := 0#32
  let c0_i32_706 : BitVec 32 := 0#32
  ![v1267.toNat, 0, 0]
@[reducible] def k0_t10_loop : Scf.Loop 32 :=
  let c0_i32_408 : BitVec 32 := 0#32
  let c8_i32_409 : BitVec 32 := 8#32
  let v740 : BitVec 32 := Scalar.addi c0_i32_408 c8_i32_409
  let c1_i32_410 : BitVec 32 := 1#32
  ⟨c0_i32_408, v740, c1_i32_410⟩

def k0_chk33 (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v701] : Fin 3 → IVec S16 32) a x).toNat < S224x2x128.size a) ∧
  (∀ a x, ((![v1272, v1286, v705] : Fin 3 → IVec S16 32) a x).toNat < S224x2x128.size a) ∧
  (∀ a x, ((![v1274, v1286, v709] : Fin 3 → IVec S16 32) a x).toNat < S224x2x128.size a) ∧
  (∀ a x, ((![v1276, v1286, v713] : Fin 3 → IVec S16 32) a x).toNat < S224x2x128.size a) ∧
  (∀ a x, ((![v1278, v1286, v717] : Fin 3 → IVec S16 32) a x).toNat < S224x2x128.size a) ∧
  (∀ a x, ((![v1280, v1286, v721] : Fin 3 → IVec S16 32) a x).toNat < S224x2x128.size a) ∧
  (∀ a x, ((![v1282, v1286, v725] : Fin 3 → IVec S16 32) a x).toNat < S224x2x128.size a)
theorem k0_idx225_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw33 : k0_chk33 v701 v705 v709 v713 v717 v721 v725 v1270 v1272 v1274 v1276 v1278 v1280 v1282 v1286), ∀ a x, ((![v1270, v1286, v701] : Fin 3 → IVec S16 32) a x).toNat < S224x2x128.size a := fun v701 v705 v709 v713 v717 v721 v725 v1270 v1272 v1274 v1276 v1278 v1280 v1282 v1286 k0_hw33 => k0_hw33.1
theorem k0_idx226_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw33 : k0_chk33 v701 v705 v709 v713 v717 v721 v725 v1270 v1272 v1274 v1276 v1278 v1280 v1282 v1286), ∀ a x, ((![v1272, v1286, v705] : Fin 3 → IVec S16 32) a x).toNat < S224x2x128.size a := fun v701 v705 v709 v713 v717 v721 v725 v1270 v1272 v1274 v1276 v1278 v1280 v1282 v1286 k0_hw33 => k0_hw33.2.1
theorem k0_idx227_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw33 : k0_chk33 v701 v705 v709 v713 v717 v721 v725 v1270 v1272 v1274 v1276 v1278 v1280 v1282 v1286), ∀ a x, ((![v1274, v1286, v709] : Fin 3 → IVec S16 32) a x).toNat < S224x2x128.size a := fun v701 v705 v709 v713 v717 v721 v725 v1270 v1272 v1274 v1276 v1278 v1280 v1282 v1286 k0_hw33 => k0_hw33.2.2.1
theorem k0_idx228_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw33 : k0_chk33 v701 v705 v709 v713 v717 v721 v725 v1270 v1272 v1274 v1276 v1278 v1280 v1282 v1286), ∀ a x, ((![v1276, v1286, v713] : Fin 3 → IVec S16 32) a x).toNat < S224x2x128.size a := fun v701 v705 v709 v713 v717 v721 v725 v1270 v1272 v1274 v1276 v1278 v1280 v1282 v1286 k0_hw33 => k0_hw33.2.2.2.1
theorem k0_idx229_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw33 : k0_chk33 v701 v705 v709 v713 v717 v721 v725 v1270 v1272 v1274 v1276 v1278 v1280 v1282 v1286), ∀ a x, ((![v1278, v1286, v717] : Fin 3 → IVec S16 32) a x).toNat < S224x2x128.size a := fun v701 v705 v709 v713 v717 v721 v725 v1270 v1272 v1274 v1276 v1278 v1280 v1282 v1286 k0_hw33 => k0_hw33.2.2.2.2.1
theorem k0_idx230_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw33 : k0_chk33 v701 v705 v709 v713 v717 v721 v725 v1270 v1272 v1274 v1276 v1278 v1280 v1282 v1286), ∀ a x, ((![v1280, v1286, v721] : Fin 3 → IVec S16 32) a x).toNat < S224x2x128.size a := fun v701 v705 v709 v713 v717 v721 v725 v1270 v1272 v1274 v1276 v1278 v1280 v1282 v1286 k0_hw33 => k0_hw33.2.2.2.2.2.1
theorem k0_idx231_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw33 : k0_chk33 v701 v705 v709 v713 v717 v721 v725 v1270 v1272 v1274 v1276 v1278 v1280 v1282 v1286), ∀ a x, ((![v1282, v1286, v725] : Fin 3 → IVec S16 32) a x).toNat < S224x2x128.size a := fun v701 v705 v709 v713 v717 v721 v725 v1270 v1272 v1274 v1276 v1278 v1280 v1282 v1286 k0_hw33 => k0_hw33.2.2.2.2.2.2
def k0_off41 (k0_t10 : Fin k0_t10_loop.trips) : Fin 3 → Nat :=
  let c16_i32_706 : BitVec 32 := 16#32
  let c2_i32_700 : BitVec 32 := 2#32
  let c0_i32_408 : BitVec 32 := 0#32
  let c1_i32_410 : BitVec 32 := 1#32
  let arg13 : BitVec 32 := Scf.iv c0_i32_408 c1_i32_410 k0_t10
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c0 : Index := 0#32
  ![v1303.toNat, 0, 0]

def k0_chk34 (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v701] : Fin 3 → IVec S16 32) a x).toNat < S224x2x128.size a) ∧
  (∀ a x, ((![v1272, v1309, v705] : Fin 3 → IVec S16 32) a x).toNat < S224x2x128.size a) ∧
  (∀ a x, ((![v1274, v1309, v709] : Fin 3 → IVec S16 32) a x).toNat < S224x2x128.size a) ∧
  (∀ a x, ((![v1276, v1309, v713] : Fin 3 → IVec S16 32) a x).toNat < S224x2x128.size a) ∧
  (∀ a x, ((![v1278, v1309, v717] : Fin 3 → IVec S16 32) a x).toNat < S224x2x128.size a) ∧
  (∀ a x, ((![v1280, v1309, v721] : Fin 3 → IVec S16 32) a x).toNat < S224x2x128.size a) ∧
  (∀ a x, ((![v1282, v1309, v725] : Fin 3 → IVec S16 32) a x).toNat < S224x2x128.size a)
theorem k0_idx232_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw34 : k0_chk34 v701 v705 v709 v713 v717 v721 v725 v1270 v1272 v1274 v1276 v1278 v1280 v1282 v1309), ∀ a x, ((![v1270, v1309, v701] : Fin 3 → IVec S16 32) a x).toNat < S224x2x128.size a := fun v701 v705 v709 v713 v717 v721 v725 v1270 v1272 v1274 v1276 v1278 v1280 v1282 v1309 k0_hw34 => k0_hw34.1
theorem k0_idx233_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw34 : k0_chk34 v701 v705 v709 v713 v717 v721 v725 v1270 v1272 v1274 v1276 v1278 v1280 v1282 v1309), ∀ a x, ((![v1272, v1309, v705] : Fin 3 → IVec S16 32) a x).toNat < S224x2x128.size a := fun v701 v705 v709 v713 v717 v721 v725 v1270 v1272 v1274 v1276 v1278 v1280 v1282 v1309 k0_hw34 => k0_hw34.2.1
theorem k0_idx234_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw34 : k0_chk34 v701 v705 v709 v713 v717 v721 v725 v1270 v1272 v1274 v1276 v1278 v1280 v1282 v1309), ∀ a x, ((![v1274, v1309, v709] : Fin 3 → IVec S16 32) a x).toNat < S224x2x128.size a := fun v701 v705 v709 v713 v717 v721 v725 v1270 v1272 v1274 v1276 v1278 v1280 v1282 v1309 k0_hw34 => k0_hw34.2.2.1
theorem k0_idx235_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw34 : k0_chk34 v701 v705 v709 v713 v717 v721 v725 v1270 v1272 v1274 v1276 v1278 v1280 v1282 v1309), ∀ a x, ((![v1276, v1309, v713] : Fin 3 → IVec S16 32) a x).toNat < S224x2x128.size a := fun v701 v705 v709 v713 v717 v721 v725 v1270 v1272 v1274 v1276 v1278 v1280 v1282 v1309 k0_hw34 => k0_hw34.2.2.2.1
theorem k0_idx236_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw34 : k0_chk34 v701 v705 v709 v713 v717 v721 v725 v1270 v1272 v1274 v1276 v1278 v1280 v1282 v1309), ∀ a x, ((![v1278, v1309, v717] : Fin 3 → IVec S16 32) a x).toNat < S224x2x128.size a := fun v701 v705 v709 v713 v717 v721 v725 v1270 v1272 v1274 v1276 v1278 v1280 v1282 v1309 k0_hw34 => k0_hw34.2.2.2.2.1
theorem k0_idx237_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw34 : k0_chk34 v701 v705 v709 v713 v717 v721 v725 v1270 v1272 v1274 v1276 v1278 v1280 v1282 v1309), ∀ a x, ((![v1280, v1309, v721] : Fin 3 → IVec S16 32) a x).toNat < S224x2x128.size a := fun v701 v705 v709 v713 v717 v721 v725 v1270 v1272 v1274 v1276 v1278 v1280 v1282 v1309 k0_hw34 => k0_hw34.2.2.2.2.2.1
theorem k0_idx238_inb : ∀ (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw34 : k0_chk34 v701 v705 v709 v713 v717 v721 v725 v1270 v1272 v1274 v1276 v1278 v1280 v1282 v1309), ∀ a x, ((![v1282, v1309, v725] : Fin 3 → IVec S16 32) a x).toNat < S224x2x128.size a := fun v701 v705 v709 v713 v717 v721 v725 v1270 v1272 v1274 v1276 v1278 v1280 v1282 v1309 k0_hw34 => k0_hw34.2.2.2.2.2.2
def k0_off42 (k0_t10 : Fin k0_t10_loop.trips) : Fin 3 → Nat :=
  let c16_i32_711 : BitVec 32 := 16#32
  let c2_i32_700 : BitVec 32 := 2#32
  let c0_i32_408 : BitVec 32 := 0#32
  let c1_i32_410 : BitVec 32 := 1#32
  let arg13 : BitVec 32 := Scf.iv c0_i32_408 c1_i32_410 k0_t10
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c0_713 : Index := 0#32
  ![v1326.toNat, 1, 0]

def k0_chk35 (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v701] : Fin 3 → IVec S16 32) a x).toNat < S224x2x128.size a) ∧
  (∀ a x, ((![v1336, v1350, v705] : Fin 3 → IVec S16 32) a x).toNat < S224x2x128.size a) ∧
  (∀ a x, ((![v1338, v1350, v709] : Fin 3 → IVec S16 32) a x).toNat < S224x2x128.size a) ∧
  (∀ a x, ((![v1340, v1350, v713] : Fin 3 → IVec S16 32) a x).toNat < S224x2x128.size a) ∧
  (∀ a x, ((![v1342, v1350, v717] : Fin 3 → IVec S16 32) a x).toNat < S224x2x128.size a) ∧
  (∀ a x, ((![v1344, v1350, v721] : Fin 3 → IVec S16 32) a x).toNat < S224x2x128.size a) ∧
  (∀ a x, ((![v1346, v1350, v725] : Fin 3 → IVec S16 32) a x).toNat < S224x2x128.size a)
theorem k0_idx239_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw35 : k0_chk35 v701 v705 v709 v713 v717 v721 v725 v1334 v1336 v1338 v1340 v1342 v1344 v1346 v1350), ∀ a x, ((![v1334, v1350, v701] : Fin 3 → IVec S16 32) a x).toNat < S224x2x128.size a := fun v701 v705 v709 v713 v717 v721 v725 v1334 v1336 v1338 v1340 v1342 v1344 v1346 v1350 k0_hw35 => k0_hw35.1
theorem k0_idx240_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw35 : k0_chk35 v701 v705 v709 v713 v717 v721 v725 v1334 v1336 v1338 v1340 v1342 v1344 v1346 v1350), ∀ a x, ((![v1336, v1350, v705] : Fin 3 → IVec S16 32) a x).toNat < S224x2x128.size a := fun v701 v705 v709 v713 v717 v721 v725 v1334 v1336 v1338 v1340 v1342 v1344 v1346 v1350 k0_hw35 => k0_hw35.2.1
theorem k0_idx241_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw35 : k0_chk35 v701 v705 v709 v713 v717 v721 v725 v1334 v1336 v1338 v1340 v1342 v1344 v1346 v1350), ∀ a x, ((![v1338, v1350, v709] : Fin 3 → IVec S16 32) a x).toNat < S224x2x128.size a := fun v701 v705 v709 v713 v717 v721 v725 v1334 v1336 v1338 v1340 v1342 v1344 v1346 v1350 k0_hw35 => k0_hw35.2.2.1
theorem k0_idx242_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw35 : k0_chk35 v701 v705 v709 v713 v717 v721 v725 v1334 v1336 v1338 v1340 v1342 v1344 v1346 v1350), ∀ a x, ((![v1340, v1350, v713] : Fin 3 → IVec S16 32) a x).toNat < S224x2x128.size a := fun v701 v705 v709 v713 v717 v721 v725 v1334 v1336 v1338 v1340 v1342 v1344 v1346 v1350 k0_hw35 => k0_hw35.2.2.2.1
theorem k0_idx243_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw35 : k0_chk35 v701 v705 v709 v713 v717 v721 v725 v1334 v1336 v1338 v1340 v1342 v1344 v1346 v1350), ∀ a x, ((![v1342, v1350, v717] : Fin 3 → IVec S16 32) a x).toNat < S224x2x128.size a := fun v701 v705 v709 v713 v717 v721 v725 v1334 v1336 v1338 v1340 v1342 v1344 v1346 v1350 k0_hw35 => k0_hw35.2.2.2.2.1
theorem k0_idx244_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw35 : k0_chk35 v701 v705 v709 v713 v717 v721 v725 v1334 v1336 v1338 v1340 v1342 v1344 v1346 v1350), ∀ a x, ((![v1344, v1350, v721] : Fin 3 → IVec S16 32) a x).toNat < S224x2x128.size a := fun v701 v705 v709 v713 v717 v721 v725 v1334 v1336 v1338 v1340 v1342 v1344 v1346 v1350 k0_hw35 => k0_hw35.2.2.2.2.2.1
theorem k0_idx245_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw35 : k0_chk35 v701 v705 v709 v713 v717 v721 v725 v1334 v1336 v1338 v1340 v1342 v1344 v1346 v1350), ∀ a x, ((![v1346, v1350, v725] : Fin 3 → IVec S16 32) a x).toNat < S224x2x128.size a := fun v701 v705 v709 v713 v717 v721 v725 v1334 v1336 v1338 v1340 v1342 v1344 v1346 v1350 k0_hw35 => k0_hw35.2.2.2.2.2.2
def k0_off43 (k0_t10 : Fin k0_t10_loop.trips) : Fin 3 → Nat :=
  let c16_i32_721 : BitVec 32 := 16#32
  let c2_i32_714 : BitVec 32 := 2#32
  let c0_i32_408 : BitVec 32 := 0#32
  let c1_i32_410 : BitVec 32 := 1#32
  let arg13 : BitVec 32 := Scf.iv c0_i32_408 c1_i32_410 k0_t10
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c0_723 : Index := 0#32
  ![v1367.toNat, 0, 0]

def k0_chk36 (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v701] : Fin 3 → IVec S16 32) a x).toNat < S224x2x128.size a) ∧
  (∀ a x, ((![v1336, v1373, v705] : Fin 3 → IVec S16 32) a x).toNat < S224x2x128.size a) ∧
  (∀ a x, ((![v1338, v1373, v709] : Fin 3 → IVec S16 32) a x).toNat < S224x2x128.size a) ∧
  (∀ a x, ((![v1340, v1373, v713] : Fin 3 → IVec S16 32) a x).toNat < S224x2x128.size a) ∧
  (∀ a x, ((![v1342, v1373, v717] : Fin 3 → IVec S16 32) a x).toNat < S224x2x128.size a) ∧
  (∀ a x, ((![v1344, v1373, v721] : Fin 3 → IVec S16 32) a x).toNat < S224x2x128.size a) ∧
  (∀ a x, ((![v1346, v1373, v725] : Fin 3 → IVec S16 32) a x).toNat < S224x2x128.size a)
theorem k0_idx246_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw36 : k0_chk36 v701 v705 v709 v713 v717 v721 v725 v1334 v1336 v1338 v1340 v1342 v1344 v1346 v1373), ∀ a x, ((![v1334, v1373, v701] : Fin 3 → IVec S16 32) a x).toNat < S224x2x128.size a := fun v701 v705 v709 v713 v717 v721 v725 v1334 v1336 v1338 v1340 v1342 v1344 v1346 v1373 k0_hw36 => k0_hw36.1
theorem k0_idx247_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw36 : k0_chk36 v701 v705 v709 v713 v717 v721 v725 v1334 v1336 v1338 v1340 v1342 v1344 v1346 v1373), ∀ a x, ((![v1336, v1373, v705] : Fin 3 → IVec S16 32) a x).toNat < S224x2x128.size a := fun v701 v705 v709 v713 v717 v721 v725 v1334 v1336 v1338 v1340 v1342 v1344 v1346 v1373 k0_hw36 => k0_hw36.2.1
theorem k0_idx248_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw36 : k0_chk36 v701 v705 v709 v713 v717 v721 v725 v1334 v1336 v1338 v1340 v1342 v1344 v1346 v1373), ∀ a x, ((![v1338, v1373, v709] : Fin 3 → IVec S16 32) a x).toNat < S224x2x128.size a := fun v701 v705 v709 v713 v717 v721 v725 v1334 v1336 v1338 v1340 v1342 v1344 v1346 v1373 k0_hw36 => k0_hw36.2.2.1
theorem k0_idx249_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw36 : k0_chk36 v701 v705 v709 v713 v717 v721 v725 v1334 v1336 v1338 v1340 v1342 v1344 v1346 v1373), ∀ a x, ((![v1340, v1373, v713] : Fin 3 → IVec S16 32) a x).toNat < S224x2x128.size a := fun v701 v705 v709 v713 v717 v721 v725 v1334 v1336 v1338 v1340 v1342 v1344 v1346 v1373 k0_hw36 => k0_hw36.2.2.2.1
theorem k0_idx250_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw36 : k0_chk36 v701 v705 v709 v713 v717 v721 v725 v1334 v1336 v1338 v1340 v1342 v1344 v1346 v1373), ∀ a x, ((![v1342, v1373, v717] : Fin 3 → IVec S16 32) a x).toNat < S224x2x128.size a := fun v701 v705 v709 v713 v717 v721 v725 v1334 v1336 v1338 v1340 v1342 v1344 v1346 v1373 k0_hw36 => k0_hw36.2.2.2.2.1
theorem k0_idx251_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw36 : k0_chk36 v701 v705 v709 v713 v717 v721 v725 v1334 v1336 v1338 v1340 v1342 v1344 v1346 v1373), ∀ a x, ((![v1344, v1373, v721] : Fin 3 → IVec S16 32) a x).toNat < S224x2x128.size a := fun v701 v705 v709 v713 v717 v721 v725 v1334 v1336 v1338 v1340 v1342 v1344 v1346 v1373 k0_hw36 => k0_hw36.2.2.2.2.2.1
theorem k0_idx252_inb : ∀ (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw36 : k0_chk36 v701 v705 v709 v713 v717 v721 v725 v1334 v1336 v1338 v1340 v1342 v1344 v1346 v1373), ∀ a x, ((![v1346, v1373, v725] : Fin 3 → IVec S16 32) a x).toNat < S224x2x128.size a := fun v701 v705 v709 v713 v717 v721 v725 v1334 v1336 v1338 v1340 v1342 v1344 v1346 v1373 k0_hw36 => k0_hw36.2.2.2.2.2.2
def k0_off44 (k0_t10 : Fin k0_t10_loop.trips) : Fin 3 → Nat :=
  let c16_i32_727 : BitVec 32 := 16#32
  let c2_i32_714 : BitVec 32 := 2#32
  let c0_i32_408 : BitVec 32 := 0#32
  let c1_i32_410 : BitVec 32 := 1#32
  let arg13 : BitVec 32 := Scf.iv c0_i32_408 c1_i32_410 k0_t10
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c0_729 : Index := 0#32
  ![v1390.toNat, 1, 0]
@[reducible] def k0_t11_loop : Scf.Loop 32 :=
  let c0_i32_448 : BitVec 32 := 0#32
  let c8_i32_449 : BitVec 32 := 8#32
  let v813 : BitVec 32 := Scalar.addi c0_i32_448 c8_i32_449
  let c1_i32_450 : BitVec 32 := 1#32
  ⟨c0_i32_448, v813, c1_i32_450⟩

def k0_chk37 (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v774] : Fin 3 → IVec S16 32) a x).toNat < S224x2x128.size a) ∧
  (∀ a x, ((![v1272, v1286, v778] : Fin 3 → IVec S16 32) a x).toNat < S224x2x128.size a) ∧
  (∀ a x, ((![v1274, v1286, v782] : Fin 3 → IVec S16 32) a x).toNat < S224x2x128.size a) ∧
  (∀ a x, ((![v1276, v1286, v786] : Fin 3 → IVec S16 32) a x).toNat < S224x2x128.size a) ∧
  (∀ a x, ((![v1278, v1286, v790] : Fin 3 → IVec S16 32) a x).toNat < S224x2x128.size a) ∧
  (∀ a x, ((![v1280, v1286, v794] : Fin 3 → IVec S16 32) a x).toNat < S224x2x128.size a) ∧
  (∀ a x, ((![v1282, v1286, v798] : Fin 3 → IVec S16 32) a x).toNat < S224x2x128.size a)
theorem k0_idx253_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw37 : k0_chk37 v774 v778 v782 v786 v790 v794 v798 v1270 v1272 v1274 v1276 v1278 v1280 v1282 v1286), ∀ a x, ((![v1270, v1286, v774] : Fin 3 → IVec S16 32) a x).toNat < S224x2x128.size a := fun v774 v778 v782 v786 v790 v794 v798 v1270 v1272 v1274 v1276 v1278 v1280 v1282 v1286 k0_hw37 => k0_hw37.1
theorem k0_idx254_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw37 : k0_chk37 v774 v778 v782 v786 v790 v794 v798 v1270 v1272 v1274 v1276 v1278 v1280 v1282 v1286), ∀ a x, ((![v1272, v1286, v778] : Fin 3 → IVec S16 32) a x).toNat < S224x2x128.size a := fun v774 v778 v782 v786 v790 v794 v798 v1270 v1272 v1274 v1276 v1278 v1280 v1282 v1286 k0_hw37 => k0_hw37.2.1
theorem k0_idx255_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw37 : k0_chk37 v774 v778 v782 v786 v790 v794 v798 v1270 v1272 v1274 v1276 v1278 v1280 v1282 v1286), ∀ a x, ((![v1274, v1286, v782] : Fin 3 → IVec S16 32) a x).toNat < S224x2x128.size a := fun v774 v778 v782 v786 v790 v794 v798 v1270 v1272 v1274 v1276 v1278 v1280 v1282 v1286 k0_hw37 => k0_hw37.2.2.1
theorem k0_idx256_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw37 : k0_chk37 v774 v778 v782 v786 v790 v794 v798 v1270 v1272 v1274 v1276 v1278 v1280 v1282 v1286), ∀ a x, ((![v1276, v1286, v786] : Fin 3 → IVec S16 32) a x).toNat < S224x2x128.size a := fun v774 v778 v782 v786 v790 v794 v798 v1270 v1272 v1274 v1276 v1278 v1280 v1282 v1286 k0_hw37 => k0_hw37.2.2.2.1
theorem k0_idx257_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw37 : k0_chk37 v774 v778 v782 v786 v790 v794 v798 v1270 v1272 v1274 v1276 v1278 v1280 v1282 v1286), ∀ a x, ((![v1278, v1286, v790] : Fin 3 → IVec S16 32) a x).toNat < S224x2x128.size a := fun v774 v778 v782 v786 v790 v794 v798 v1270 v1272 v1274 v1276 v1278 v1280 v1282 v1286 k0_hw37 => k0_hw37.2.2.2.2.1
theorem k0_idx258_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw37 : k0_chk37 v774 v778 v782 v786 v790 v794 v798 v1270 v1272 v1274 v1276 v1278 v1280 v1282 v1286), ∀ a x, ((![v1280, v1286, v794] : Fin 3 → IVec S16 32) a x).toNat < S224x2x128.size a := fun v774 v778 v782 v786 v790 v794 v798 v1270 v1272 v1274 v1276 v1278 v1280 v1282 v1286 k0_hw37 => k0_hw37.2.2.2.2.2.1
theorem k0_idx259_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw37 : k0_chk37 v774 v778 v782 v786 v790 v794 v798 v1270 v1272 v1274 v1276 v1278 v1280 v1282 v1286), ∀ a x, ((![v1282, v1286, v798] : Fin 3 → IVec S16 32) a x).toNat < S224x2x128.size a := fun v774 v778 v782 v786 v790 v794 v798 v1270 v1272 v1274 v1276 v1278 v1280 v1282 v1286 k0_hw37 => k0_hw37.2.2.2.2.2.2
def k0_off45 (k0_t11 : Fin k0_t11_loop.trips) : Fin 3 → Nat :=
  let c16_i32_706 : BitVec 32 := 16#32
  let c2_i32_700 : BitVec 32 := 2#32
  let c0_i32_448 : BitVec 32 := 0#32
  let c1_i32_450 : BitVec 32 := 1#32
  let arg13 : BitVec 32 := Scf.iv c0_i32_448 c1_i32_450 k0_t11
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c16 : Index := 16#32
  ![v1303.toNat, 0, 16]

def k0_chk38 (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v774] : Fin 3 → IVec S16 32) a x).toNat < S224x2x128.size a) ∧
  (∀ a x, ((![v1272, v1309, v778] : Fin 3 → IVec S16 32) a x).toNat < S224x2x128.size a) ∧
  (∀ a x, ((![v1274, v1309, v782] : Fin 3 → IVec S16 32) a x).toNat < S224x2x128.size a) ∧
  (∀ a x, ((![v1276, v1309, v786] : Fin 3 → IVec S16 32) a x).toNat < S224x2x128.size a) ∧
  (∀ a x, ((![v1278, v1309, v790] : Fin 3 → IVec S16 32) a x).toNat < S224x2x128.size a) ∧
  (∀ a x, ((![v1280, v1309, v794] : Fin 3 → IVec S16 32) a x).toNat < S224x2x128.size a) ∧
  (∀ a x, ((![v1282, v1309, v798] : Fin 3 → IVec S16 32) a x).toNat < S224x2x128.size a)
theorem k0_idx260_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw38 : k0_chk38 v774 v778 v782 v786 v790 v794 v798 v1270 v1272 v1274 v1276 v1278 v1280 v1282 v1309), ∀ a x, ((![v1270, v1309, v774] : Fin 3 → IVec S16 32) a x).toNat < S224x2x128.size a := fun v774 v778 v782 v786 v790 v794 v798 v1270 v1272 v1274 v1276 v1278 v1280 v1282 v1309 k0_hw38 => k0_hw38.1
theorem k0_idx261_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw38 : k0_chk38 v774 v778 v782 v786 v790 v794 v798 v1270 v1272 v1274 v1276 v1278 v1280 v1282 v1309), ∀ a x, ((![v1272, v1309, v778] : Fin 3 → IVec S16 32) a x).toNat < S224x2x128.size a := fun v774 v778 v782 v786 v790 v794 v798 v1270 v1272 v1274 v1276 v1278 v1280 v1282 v1309 k0_hw38 => k0_hw38.2.1
theorem k0_idx262_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw38 : k0_chk38 v774 v778 v782 v786 v790 v794 v798 v1270 v1272 v1274 v1276 v1278 v1280 v1282 v1309), ∀ a x, ((![v1274, v1309, v782] : Fin 3 → IVec S16 32) a x).toNat < S224x2x128.size a := fun v774 v778 v782 v786 v790 v794 v798 v1270 v1272 v1274 v1276 v1278 v1280 v1282 v1309 k0_hw38 => k0_hw38.2.2.1
theorem k0_idx263_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw38 : k0_chk38 v774 v778 v782 v786 v790 v794 v798 v1270 v1272 v1274 v1276 v1278 v1280 v1282 v1309), ∀ a x, ((![v1276, v1309, v786] : Fin 3 → IVec S16 32) a x).toNat < S224x2x128.size a := fun v774 v778 v782 v786 v790 v794 v798 v1270 v1272 v1274 v1276 v1278 v1280 v1282 v1309 k0_hw38 => k0_hw38.2.2.2.1
theorem k0_idx264_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw38 : k0_chk38 v774 v778 v782 v786 v790 v794 v798 v1270 v1272 v1274 v1276 v1278 v1280 v1282 v1309), ∀ a x, ((![v1278, v1309, v790] : Fin 3 → IVec S16 32) a x).toNat < S224x2x128.size a := fun v774 v778 v782 v786 v790 v794 v798 v1270 v1272 v1274 v1276 v1278 v1280 v1282 v1309 k0_hw38 => k0_hw38.2.2.2.2.1
theorem k0_idx265_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw38 : k0_chk38 v774 v778 v782 v786 v790 v794 v798 v1270 v1272 v1274 v1276 v1278 v1280 v1282 v1309), ∀ a x, ((![v1280, v1309, v794] : Fin 3 → IVec S16 32) a x).toNat < S224x2x128.size a := fun v774 v778 v782 v786 v790 v794 v798 v1270 v1272 v1274 v1276 v1278 v1280 v1282 v1309 k0_hw38 => k0_hw38.2.2.2.2.2.1
theorem k0_idx266_inb : ∀ (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw38 : k0_chk38 v774 v778 v782 v786 v790 v794 v798 v1270 v1272 v1274 v1276 v1278 v1280 v1282 v1309), ∀ a x, ((![v1282, v1309, v798] : Fin 3 → IVec S16 32) a x).toNat < S224x2x128.size a := fun v774 v778 v782 v786 v790 v794 v798 v1270 v1272 v1274 v1276 v1278 v1280 v1282 v1309 k0_hw38 => k0_hw38.2.2.2.2.2.2
def k0_off46 (k0_t11 : Fin k0_t11_loop.trips) : Fin 3 → Nat :=
  let c16_i32_711 : BitVec 32 := 16#32
  let c2_i32_700 : BitVec 32 := 2#32
  let c0_i32_448 : BitVec 32 := 0#32
  let c1_i32_450 : BitVec 32 := 1#32
  let arg13 : BitVec 32 := Scf.iv c0_i32_448 c1_i32_450 k0_t11
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c16_713 : Index := 16#32
  ![v1326.toNat, 1, 16]

def k0_chk39 (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v774] : Fin 3 → IVec S16 32) a x).toNat < S224x2x128.size a) ∧
  (∀ a x, ((![v1336, v1350, v778] : Fin 3 → IVec S16 32) a x).toNat < S224x2x128.size a) ∧
  (∀ a x, ((![v1338, v1350, v782] : Fin 3 → IVec S16 32) a x).toNat < S224x2x128.size a) ∧
  (∀ a x, ((![v1340, v1350, v786] : Fin 3 → IVec S16 32) a x).toNat < S224x2x128.size a) ∧
  (∀ a x, ((![v1342, v1350, v790] : Fin 3 → IVec S16 32) a x).toNat < S224x2x128.size a) ∧
  (∀ a x, ((![v1344, v1350, v794] : Fin 3 → IVec S16 32) a x).toNat < S224x2x128.size a) ∧
  (∀ a x, ((![v1346, v1350, v798] : Fin 3 → IVec S16 32) a x).toNat < S224x2x128.size a)
theorem k0_idx267_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw39 : k0_chk39 v774 v778 v782 v786 v790 v794 v798 v1334 v1336 v1338 v1340 v1342 v1344 v1346 v1350), ∀ a x, ((![v1334, v1350, v774] : Fin 3 → IVec S16 32) a x).toNat < S224x2x128.size a := fun v774 v778 v782 v786 v790 v794 v798 v1334 v1336 v1338 v1340 v1342 v1344 v1346 v1350 k0_hw39 => k0_hw39.1
theorem k0_idx268_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw39 : k0_chk39 v774 v778 v782 v786 v790 v794 v798 v1334 v1336 v1338 v1340 v1342 v1344 v1346 v1350), ∀ a x, ((![v1336, v1350, v778] : Fin 3 → IVec S16 32) a x).toNat < S224x2x128.size a := fun v774 v778 v782 v786 v790 v794 v798 v1334 v1336 v1338 v1340 v1342 v1344 v1346 v1350 k0_hw39 => k0_hw39.2.1
theorem k0_idx269_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw39 : k0_chk39 v774 v778 v782 v786 v790 v794 v798 v1334 v1336 v1338 v1340 v1342 v1344 v1346 v1350), ∀ a x, ((![v1338, v1350, v782] : Fin 3 → IVec S16 32) a x).toNat < S224x2x128.size a := fun v774 v778 v782 v786 v790 v794 v798 v1334 v1336 v1338 v1340 v1342 v1344 v1346 v1350 k0_hw39 => k0_hw39.2.2.1
theorem k0_idx270_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw39 : k0_chk39 v774 v778 v782 v786 v790 v794 v798 v1334 v1336 v1338 v1340 v1342 v1344 v1346 v1350), ∀ a x, ((![v1340, v1350, v786] : Fin 3 → IVec S16 32) a x).toNat < S224x2x128.size a := fun v774 v778 v782 v786 v790 v794 v798 v1334 v1336 v1338 v1340 v1342 v1344 v1346 v1350 k0_hw39 => k0_hw39.2.2.2.1
theorem k0_idx271_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw39 : k0_chk39 v774 v778 v782 v786 v790 v794 v798 v1334 v1336 v1338 v1340 v1342 v1344 v1346 v1350), ∀ a x, ((![v1342, v1350, v790] : Fin 3 → IVec S16 32) a x).toNat < S224x2x128.size a := fun v774 v778 v782 v786 v790 v794 v798 v1334 v1336 v1338 v1340 v1342 v1344 v1346 v1350 k0_hw39 => k0_hw39.2.2.2.2.1
theorem k0_idx272_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw39 : k0_chk39 v774 v778 v782 v786 v790 v794 v798 v1334 v1336 v1338 v1340 v1342 v1344 v1346 v1350), ∀ a x, ((![v1344, v1350, v794] : Fin 3 → IVec S16 32) a x).toNat < S224x2x128.size a := fun v774 v778 v782 v786 v790 v794 v798 v1334 v1336 v1338 v1340 v1342 v1344 v1346 v1350 k0_hw39 => k0_hw39.2.2.2.2.2.1
theorem k0_idx273_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw39 : k0_chk39 v774 v778 v782 v786 v790 v794 v798 v1334 v1336 v1338 v1340 v1342 v1344 v1346 v1350), ∀ a x, ((![v1346, v1350, v798] : Fin 3 → IVec S16 32) a x).toNat < S224x2x128.size a := fun v774 v778 v782 v786 v790 v794 v798 v1334 v1336 v1338 v1340 v1342 v1344 v1346 v1350 k0_hw39 => k0_hw39.2.2.2.2.2.2
def k0_off47 (k0_t11 : Fin k0_t11_loop.trips) : Fin 3 → Nat :=
  let c16_i32_721 : BitVec 32 := 16#32
  let c2_i32_714 : BitVec 32 := 2#32
  let c0_i32_448 : BitVec 32 := 0#32
  let c1_i32_450 : BitVec 32 := 1#32
  let arg13 : BitVec 32 := Scf.iv c0_i32_448 c1_i32_450 k0_t11
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c16_723 : Index := 16#32
  ![v1367.toNat, 0, 16]

def k0_chk40 (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v774] : Fin 3 → IVec S16 32) a x).toNat < S224x2x128.size a) ∧
  (∀ a x, ((![v1336, v1373, v778] : Fin 3 → IVec S16 32) a x).toNat < S224x2x128.size a) ∧
  (∀ a x, ((![v1338, v1373, v782] : Fin 3 → IVec S16 32) a x).toNat < S224x2x128.size a) ∧
  (∀ a x, ((![v1340, v1373, v786] : Fin 3 → IVec S16 32) a x).toNat < S224x2x128.size a) ∧
  (∀ a x, ((![v1342, v1373, v790] : Fin 3 → IVec S16 32) a x).toNat < S224x2x128.size a) ∧
  (∀ a x, ((![v1344, v1373, v794] : Fin 3 → IVec S16 32) a x).toNat < S224x2x128.size a) ∧
  (∀ a x, ((![v1346, v1373, v798] : Fin 3 → IVec S16 32) a x).toNat < S224x2x128.size a)
theorem k0_idx274_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw40 : k0_chk40 v774 v778 v782 v786 v790 v794 v798 v1334 v1336 v1338 v1340 v1342 v1344 v1346 v1373), ∀ a x, ((![v1334, v1373, v774] : Fin 3 → IVec S16 32) a x).toNat < S224x2x128.size a := fun v774 v778 v782 v786 v790 v794 v798 v1334 v1336 v1338 v1340 v1342 v1344 v1346 v1373 k0_hw40 => k0_hw40.1
theorem k0_idx275_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw40 : k0_chk40 v774 v778 v782 v786 v790 v794 v798 v1334 v1336 v1338 v1340 v1342 v1344 v1346 v1373), ∀ a x, ((![v1336, v1373, v778] : Fin 3 → IVec S16 32) a x).toNat < S224x2x128.size a := fun v774 v778 v782 v786 v790 v794 v798 v1334 v1336 v1338 v1340 v1342 v1344 v1346 v1373 k0_hw40 => k0_hw40.2.1
theorem k0_idx276_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw40 : k0_chk40 v774 v778 v782 v786 v790 v794 v798 v1334 v1336 v1338 v1340 v1342 v1344 v1346 v1373), ∀ a x, ((![v1338, v1373, v782] : Fin 3 → IVec S16 32) a x).toNat < S224x2x128.size a := fun v774 v778 v782 v786 v790 v794 v798 v1334 v1336 v1338 v1340 v1342 v1344 v1346 v1373 k0_hw40 => k0_hw40.2.2.1
theorem k0_idx277_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw40 : k0_chk40 v774 v778 v782 v786 v790 v794 v798 v1334 v1336 v1338 v1340 v1342 v1344 v1346 v1373), ∀ a x, ((![v1340, v1373, v786] : Fin 3 → IVec S16 32) a x).toNat < S224x2x128.size a := fun v774 v778 v782 v786 v790 v794 v798 v1334 v1336 v1338 v1340 v1342 v1344 v1346 v1373 k0_hw40 => k0_hw40.2.2.2.1
theorem k0_idx278_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw40 : k0_chk40 v774 v778 v782 v786 v790 v794 v798 v1334 v1336 v1338 v1340 v1342 v1344 v1346 v1373), ∀ a x, ((![v1342, v1373, v790] : Fin 3 → IVec S16 32) a x).toNat < S224x2x128.size a := fun v774 v778 v782 v786 v790 v794 v798 v1334 v1336 v1338 v1340 v1342 v1344 v1346 v1373 k0_hw40 => k0_hw40.2.2.2.2.1
theorem k0_idx279_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw40 : k0_chk40 v774 v778 v782 v786 v790 v794 v798 v1334 v1336 v1338 v1340 v1342 v1344 v1346 v1373), ∀ a x, ((![v1344, v1373, v794] : Fin 3 → IVec S16 32) a x).toNat < S224x2x128.size a := fun v774 v778 v782 v786 v790 v794 v798 v1334 v1336 v1338 v1340 v1342 v1344 v1346 v1373 k0_hw40 => k0_hw40.2.2.2.2.2.1
theorem k0_idx280_inb : ∀ (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw40 : k0_chk40 v774 v778 v782 v786 v790 v794 v798 v1334 v1336 v1338 v1340 v1342 v1344 v1346 v1373), ∀ a x, ((![v1346, v1373, v798] : Fin 3 → IVec S16 32) a x).toNat < S224x2x128.size a := fun v774 v778 v782 v786 v790 v794 v798 v1334 v1336 v1338 v1340 v1342 v1344 v1346 v1373 k0_hw40 => k0_hw40.2.2.2.2.2.2
def k0_off48 (k0_t11 : Fin k0_t11_loop.trips) : Fin 3 → Nat :=
  let c16_i32_727 : BitVec 32 := 16#32
  let c2_i32_714 : BitVec 32 := 2#32
  let c0_i32_448 : BitVec 32 := 0#32
  let c1_i32_450 : BitVec 32 := 1#32
  let arg13 : BitVec 32 := Scf.iv c0_i32_448 c1_i32_450 k0_t11
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c16_729 : Index := 16#32
  ![v1390.toNat, 1, 16]
@[reducible] def k0_t12_loop : Scf.Loop 32 :=
  let c0_i32_488 : BitVec 32 := 0#32
  let c8_i32_489 : BitVec 32 := 8#32
  let v886 : BitVec 32 := Scalar.addi c0_i32_488 c8_i32_489
  let c1_i32_490 : BitVec 32 := 1#32
  ⟨c0_i32_488, v886, c1_i32_490⟩

def k0_chk41 (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v847] : Fin 3 → IVec S16 32) a x).toNat < S224x2x128.size a) ∧
  (∀ a x, ((![v1272, v1286, v851] : Fin 3 → IVec S16 32) a x).toNat < S224x2x128.size a) ∧
  (∀ a x, ((![v1274, v1286, v855] : Fin 3 → IVec S16 32) a x).toNat < S224x2x128.size a) ∧
  (∀ a x, ((![v1276, v1286, v859] : Fin 3 → IVec S16 32) a x).toNat < S224x2x128.size a) ∧
  (∀ a x, ((![v1278, v1286, v863] : Fin 3 → IVec S16 32) a x).toNat < S224x2x128.size a) ∧
  (∀ a x, ((![v1280, v1286, v867] : Fin 3 → IVec S16 32) a x).toNat < S224x2x128.size a) ∧
  (∀ a x, ((![v1282, v1286, v871] : Fin 3 → IVec S16 32) a x).toNat < S224x2x128.size a)
theorem k0_idx281_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw41 : k0_chk41 v847 v851 v855 v859 v863 v867 v871 v1270 v1272 v1274 v1276 v1278 v1280 v1282 v1286), ∀ a x, ((![v1270, v1286, v847] : Fin 3 → IVec S16 32) a x).toNat < S224x2x128.size a := fun v847 v851 v855 v859 v863 v867 v871 v1270 v1272 v1274 v1276 v1278 v1280 v1282 v1286 k0_hw41 => k0_hw41.1
theorem k0_idx282_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw41 : k0_chk41 v847 v851 v855 v859 v863 v867 v871 v1270 v1272 v1274 v1276 v1278 v1280 v1282 v1286), ∀ a x, ((![v1272, v1286, v851] : Fin 3 → IVec S16 32) a x).toNat < S224x2x128.size a := fun v847 v851 v855 v859 v863 v867 v871 v1270 v1272 v1274 v1276 v1278 v1280 v1282 v1286 k0_hw41 => k0_hw41.2.1
theorem k0_idx283_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw41 : k0_chk41 v847 v851 v855 v859 v863 v867 v871 v1270 v1272 v1274 v1276 v1278 v1280 v1282 v1286), ∀ a x, ((![v1274, v1286, v855] : Fin 3 → IVec S16 32) a x).toNat < S224x2x128.size a := fun v847 v851 v855 v859 v863 v867 v871 v1270 v1272 v1274 v1276 v1278 v1280 v1282 v1286 k0_hw41 => k0_hw41.2.2.1
theorem k0_idx284_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw41 : k0_chk41 v847 v851 v855 v859 v863 v867 v871 v1270 v1272 v1274 v1276 v1278 v1280 v1282 v1286), ∀ a x, ((![v1276, v1286, v859] : Fin 3 → IVec S16 32) a x).toNat < S224x2x128.size a := fun v847 v851 v855 v859 v863 v867 v871 v1270 v1272 v1274 v1276 v1278 v1280 v1282 v1286 k0_hw41 => k0_hw41.2.2.2.1
theorem k0_idx285_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw41 : k0_chk41 v847 v851 v855 v859 v863 v867 v871 v1270 v1272 v1274 v1276 v1278 v1280 v1282 v1286), ∀ a x, ((![v1278, v1286, v863] : Fin 3 → IVec S16 32) a x).toNat < S224x2x128.size a := fun v847 v851 v855 v859 v863 v867 v871 v1270 v1272 v1274 v1276 v1278 v1280 v1282 v1286 k0_hw41 => k0_hw41.2.2.2.2.1
theorem k0_idx286_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw41 : k0_chk41 v847 v851 v855 v859 v863 v867 v871 v1270 v1272 v1274 v1276 v1278 v1280 v1282 v1286), ∀ a x, ((![v1280, v1286, v867] : Fin 3 → IVec S16 32) a x).toNat < S224x2x128.size a := fun v847 v851 v855 v859 v863 v867 v871 v1270 v1272 v1274 v1276 v1278 v1280 v1282 v1286 k0_hw41 => k0_hw41.2.2.2.2.2.1
theorem k0_idx287_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw41 : k0_chk41 v847 v851 v855 v859 v863 v867 v871 v1270 v1272 v1274 v1276 v1278 v1280 v1282 v1286), ∀ a x, ((![v1282, v1286, v871] : Fin 3 → IVec S16 32) a x).toNat < S224x2x128.size a := fun v847 v851 v855 v859 v863 v867 v871 v1270 v1272 v1274 v1276 v1278 v1280 v1282 v1286 k0_hw41 => k0_hw41.2.2.2.2.2.2
def k0_off49 (k0_t12 : Fin k0_t12_loop.trips) : Fin 3 → Nat :=
  let c16_i32_706 : BitVec 32 := 16#32
  let c2_i32_700 : BitVec 32 := 2#32
  let c0_i32_488 : BitVec 32 := 0#32
  let c1_i32_490 : BitVec 32 := 1#32
  let arg13 : BitVec 32 := Scf.iv c0_i32_488 c1_i32_490 k0_t12
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c32 : Index := 32#32
  ![v1303.toNat, 0, 32]

def k0_chk42 (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v847] : Fin 3 → IVec S16 32) a x).toNat < S224x2x128.size a) ∧
  (∀ a x, ((![v1272, v1309, v851] : Fin 3 → IVec S16 32) a x).toNat < S224x2x128.size a) ∧
  (∀ a x, ((![v1274, v1309, v855] : Fin 3 → IVec S16 32) a x).toNat < S224x2x128.size a) ∧
  (∀ a x, ((![v1276, v1309, v859] : Fin 3 → IVec S16 32) a x).toNat < S224x2x128.size a) ∧
  (∀ a x, ((![v1278, v1309, v863] : Fin 3 → IVec S16 32) a x).toNat < S224x2x128.size a) ∧
  (∀ a x, ((![v1280, v1309, v867] : Fin 3 → IVec S16 32) a x).toNat < S224x2x128.size a) ∧
  (∀ a x, ((![v1282, v1309, v871] : Fin 3 → IVec S16 32) a x).toNat < S224x2x128.size a)
theorem k0_idx288_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw42 : k0_chk42 v847 v851 v855 v859 v863 v867 v871 v1270 v1272 v1274 v1276 v1278 v1280 v1282 v1309), ∀ a x, ((![v1270, v1309, v847] : Fin 3 → IVec S16 32) a x).toNat < S224x2x128.size a := fun v847 v851 v855 v859 v863 v867 v871 v1270 v1272 v1274 v1276 v1278 v1280 v1282 v1309 k0_hw42 => k0_hw42.1
theorem k0_idx289_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw42 : k0_chk42 v847 v851 v855 v859 v863 v867 v871 v1270 v1272 v1274 v1276 v1278 v1280 v1282 v1309), ∀ a x, ((![v1272, v1309, v851] : Fin 3 → IVec S16 32) a x).toNat < S224x2x128.size a := fun v847 v851 v855 v859 v863 v867 v871 v1270 v1272 v1274 v1276 v1278 v1280 v1282 v1309 k0_hw42 => k0_hw42.2.1
theorem k0_idx290_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw42 : k0_chk42 v847 v851 v855 v859 v863 v867 v871 v1270 v1272 v1274 v1276 v1278 v1280 v1282 v1309), ∀ a x, ((![v1274, v1309, v855] : Fin 3 → IVec S16 32) a x).toNat < S224x2x128.size a := fun v847 v851 v855 v859 v863 v867 v871 v1270 v1272 v1274 v1276 v1278 v1280 v1282 v1309 k0_hw42 => k0_hw42.2.2.1
theorem k0_idx291_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw42 : k0_chk42 v847 v851 v855 v859 v863 v867 v871 v1270 v1272 v1274 v1276 v1278 v1280 v1282 v1309), ∀ a x, ((![v1276, v1309, v859] : Fin 3 → IVec S16 32) a x).toNat < S224x2x128.size a := fun v847 v851 v855 v859 v863 v867 v871 v1270 v1272 v1274 v1276 v1278 v1280 v1282 v1309 k0_hw42 => k0_hw42.2.2.2.1
theorem k0_idx292_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw42 : k0_chk42 v847 v851 v855 v859 v863 v867 v871 v1270 v1272 v1274 v1276 v1278 v1280 v1282 v1309), ∀ a x, ((![v1278, v1309, v863] : Fin 3 → IVec S16 32) a x).toNat < S224x2x128.size a := fun v847 v851 v855 v859 v863 v867 v871 v1270 v1272 v1274 v1276 v1278 v1280 v1282 v1309 k0_hw42 => k0_hw42.2.2.2.2.1
theorem k0_idx293_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw42 : k0_chk42 v847 v851 v855 v859 v863 v867 v871 v1270 v1272 v1274 v1276 v1278 v1280 v1282 v1309), ∀ a x, ((![v1280, v1309, v867] : Fin 3 → IVec S16 32) a x).toNat < S224x2x128.size a := fun v847 v851 v855 v859 v863 v867 v871 v1270 v1272 v1274 v1276 v1278 v1280 v1282 v1309 k0_hw42 => k0_hw42.2.2.2.2.2.1
theorem k0_idx294_inb : ∀ (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw42 : k0_chk42 v847 v851 v855 v859 v863 v867 v871 v1270 v1272 v1274 v1276 v1278 v1280 v1282 v1309), ∀ a x, ((![v1282, v1309, v871] : Fin 3 → IVec S16 32) a x).toNat < S224x2x128.size a := fun v847 v851 v855 v859 v863 v867 v871 v1270 v1272 v1274 v1276 v1278 v1280 v1282 v1309 k0_hw42 => k0_hw42.2.2.2.2.2.2
def k0_off50 (k0_t12 : Fin k0_t12_loop.trips) : Fin 3 → Nat :=
  let c16_i32_711 : BitVec 32 := 16#32
  let c2_i32_700 : BitVec 32 := 2#32
  let c0_i32_488 : BitVec 32 := 0#32
  let c1_i32_490 : BitVec 32 := 1#32
  let arg13 : BitVec 32 := Scf.iv c0_i32_488 c1_i32_490 k0_t12
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c32_713 : Index := 32#32
  ![v1326.toNat, 1, 32]

def k0_chk43 (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v847] : Fin 3 → IVec S16 32) a x).toNat < S224x2x128.size a) ∧
  (∀ a x, ((![v1336, v1350, v851] : Fin 3 → IVec S16 32) a x).toNat < S224x2x128.size a) ∧
  (∀ a x, ((![v1338, v1350, v855] : Fin 3 → IVec S16 32) a x).toNat < S224x2x128.size a) ∧
  (∀ a x, ((![v1340, v1350, v859] : Fin 3 → IVec S16 32) a x).toNat < S224x2x128.size a) ∧
  (∀ a x, ((![v1342, v1350, v863] : Fin 3 → IVec S16 32) a x).toNat < S224x2x128.size a) ∧
  (∀ a x, ((![v1344, v1350, v867] : Fin 3 → IVec S16 32) a x).toNat < S224x2x128.size a) ∧
  (∀ a x, ((![v1346, v1350, v871] : Fin 3 → IVec S16 32) a x).toNat < S224x2x128.size a)
theorem k0_idx295_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw43 : k0_chk43 v847 v851 v855 v859 v863 v867 v871 v1334 v1336 v1338 v1340 v1342 v1344 v1346 v1350), ∀ a x, ((![v1334, v1350, v847] : Fin 3 → IVec S16 32) a x).toNat < S224x2x128.size a := fun v847 v851 v855 v859 v863 v867 v871 v1334 v1336 v1338 v1340 v1342 v1344 v1346 v1350 k0_hw43 => k0_hw43.1
theorem k0_idx296_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw43 : k0_chk43 v847 v851 v855 v859 v863 v867 v871 v1334 v1336 v1338 v1340 v1342 v1344 v1346 v1350), ∀ a x, ((![v1336, v1350, v851] : Fin 3 → IVec S16 32) a x).toNat < S224x2x128.size a := fun v847 v851 v855 v859 v863 v867 v871 v1334 v1336 v1338 v1340 v1342 v1344 v1346 v1350 k0_hw43 => k0_hw43.2.1
theorem k0_idx297_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw43 : k0_chk43 v847 v851 v855 v859 v863 v867 v871 v1334 v1336 v1338 v1340 v1342 v1344 v1346 v1350), ∀ a x, ((![v1338, v1350, v855] : Fin 3 → IVec S16 32) a x).toNat < S224x2x128.size a := fun v847 v851 v855 v859 v863 v867 v871 v1334 v1336 v1338 v1340 v1342 v1344 v1346 v1350 k0_hw43 => k0_hw43.2.2.1
theorem k0_idx298_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw43 : k0_chk43 v847 v851 v855 v859 v863 v867 v871 v1334 v1336 v1338 v1340 v1342 v1344 v1346 v1350), ∀ a x, ((![v1340, v1350, v859] : Fin 3 → IVec S16 32) a x).toNat < S224x2x128.size a := fun v847 v851 v855 v859 v863 v867 v871 v1334 v1336 v1338 v1340 v1342 v1344 v1346 v1350 k0_hw43 => k0_hw43.2.2.2.1
theorem k0_idx299_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw43 : k0_chk43 v847 v851 v855 v859 v863 v867 v871 v1334 v1336 v1338 v1340 v1342 v1344 v1346 v1350), ∀ a x, ((![v1342, v1350, v863] : Fin 3 → IVec S16 32) a x).toNat < S224x2x128.size a := fun v847 v851 v855 v859 v863 v867 v871 v1334 v1336 v1338 v1340 v1342 v1344 v1346 v1350 k0_hw43 => k0_hw43.2.2.2.2.1
theorem k0_idx300_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw43 : k0_chk43 v847 v851 v855 v859 v863 v867 v871 v1334 v1336 v1338 v1340 v1342 v1344 v1346 v1350), ∀ a x, ((![v1344, v1350, v867] : Fin 3 → IVec S16 32) a x).toNat < S224x2x128.size a := fun v847 v851 v855 v859 v863 v867 v871 v1334 v1336 v1338 v1340 v1342 v1344 v1346 v1350 k0_hw43 => k0_hw43.2.2.2.2.2.1
theorem k0_idx301_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw43 : k0_chk43 v847 v851 v855 v859 v863 v867 v871 v1334 v1336 v1338 v1340 v1342 v1344 v1346 v1350), ∀ a x, ((![v1346, v1350, v871] : Fin 3 → IVec S16 32) a x).toNat < S224x2x128.size a := fun v847 v851 v855 v859 v863 v867 v871 v1334 v1336 v1338 v1340 v1342 v1344 v1346 v1350 k0_hw43 => k0_hw43.2.2.2.2.2.2
def k0_off51 (k0_t12 : Fin k0_t12_loop.trips) : Fin 3 → Nat :=
  let c16_i32_721 : BitVec 32 := 16#32
  let c2_i32_714 : BitVec 32 := 2#32
  let c0_i32_488 : BitVec 32 := 0#32
  let c1_i32_490 : BitVec 32 := 1#32
  let arg13 : BitVec 32 := Scf.iv c0_i32_488 c1_i32_490 k0_t12
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c32_723 : Index := 32#32
  ![v1367.toNat, 0, 32]

def k0_chk44 (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v847] : Fin 3 → IVec S16 32) a x).toNat < S224x2x128.size a) ∧
  (∀ a x, ((![v1336, v1373, v851] : Fin 3 → IVec S16 32) a x).toNat < S224x2x128.size a) ∧
  (∀ a x, ((![v1338, v1373, v855] : Fin 3 → IVec S16 32) a x).toNat < S224x2x128.size a) ∧
  (∀ a x, ((![v1340, v1373, v859] : Fin 3 → IVec S16 32) a x).toNat < S224x2x128.size a) ∧
  (∀ a x, ((![v1342, v1373, v863] : Fin 3 → IVec S16 32) a x).toNat < S224x2x128.size a) ∧
  (∀ a x, ((![v1344, v1373, v867] : Fin 3 → IVec S16 32) a x).toNat < S224x2x128.size a) ∧
  (∀ a x, ((![v1346, v1373, v871] : Fin 3 → IVec S16 32) a x).toNat < S224x2x128.size a)
theorem k0_idx302_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw44 : k0_chk44 v847 v851 v855 v859 v863 v867 v871 v1334 v1336 v1338 v1340 v1342 v1344 v1346 v1373), ∀ a x, ((![v1334, v1373, v847] : Fin 3 → IVec S16 32) a x).toNat < S224x2x128.size a := fun v847 v851 v855 v859 v863 v867 v871 v1334 v1336 v1338 v1340 v1342 v1344 v1346 v1373 k0_hw44 => k0_hw44.1
theorem k0_idx303_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw44 : k0_chk44 v847 v851 v855 v859 v863 v867 v871 v1334 v1336 v1338 v1340 v1342 v1344 v1346 v1373), ∀ a x, ((![v1336, v1373, v851] : Fin 3 → IVec S16 32) a x).toNat < S224x2x128.size a := fun v847 v851 v855 v859 v863 v867 v871 v1334 v1336 v1338 v1340 v1342 v1344 v1346 v1373 k0_hw44 => k0_hw44.2.1
theorem k0_idx304_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw44 : k0_chk44 v847 v851 v855 v859 v863 v867 v871 v1334 v1336 v1338 v1340 v1342 v1344 v1346 v1373), ∀ a x, ((![v1338, v1373, v855] : Fin 3 → IVec S16 32) a x).toNat < S224x2x128.size a := fun v847 v851 v855 v859 v863 v867 v871 v1334 v1336 v1338 v1340 v1342 v1344 v1346 v1373 k0_hw44 => k0_hw44.2.2.1
theorem k0_idx305_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw44 : k0_chk44 v847 v851 v855 v859 v863 v867 v871 v1334 v1336 v1338 v1340 v1342 v1344 v1346 v1373), ∀ a x, ((![v1340, v1373, v859] : Fin 3 → IVec S16 32) a x).toNat < S224x2x128.size a := fun v847 v851 v855 v859 v863 v867 v871 v1334 v1336 v1338 v1340 v1342 v1344 v1346 v1373 k0_hw44 => k0_hw44.2.2.2.1
theorem k0_idx306_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw44 : k0_chk44 v847 v851 v855 v859 v863 v867 v871 v1334 v1336 v1338 v1340 v1342 v1344 v1346 v1373), ∀ a x, ((![v1342, v1373, v863] : Fin 3 → IVec S16 32) a x).toNat < S224x2x128.size a := fun v847 v851 v855 v859 v863 v867 v871 v1334 v1336 v1338 v1340 v1342 v1344 v1346 v1373 k0_hw44 => k0_hw44.2.2.2.2.1
theorem k0_idx307_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw44 : k0_chk44 v847 v851 v855 v859 v863 v867 v871 v1334 v1336 v1338 v1340 v1342 v1344 v1346 v1373), ∀ a x, ((![v1344, v1373, v867] : Fin 3 → IVec S16 32) a x).toNat < S224x2x128.size a := fun v847 v851 v855 v859 v863 v867 v871 v1334 v1336 v1338 v1340 v1342 v1344 v1346 v1373 k0_hw44 => k0_hw44.2.2.2.2.2.1
theorem k0_idx308_inb : ∀ (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw44 : k0_chk44 v847 v851 v855 v859 v863 v867 v871 v1334 v1336 v1338 v1340 v1342 v1344 v1346 v1373), ∀ a x, ((![v1346, v1373, v871] : Fin 3 → IVec S16 32) a x).toNat < S224x2x128.size a := fun v847 v851 v855 v859 v863 v867 v871 v1334 v1336 v1338 v1340 v1342 v1344 v1346 v1373 k0_hw44 => k0_hw44.2.2.2.2.2.2
def k0_off52 (k0_t12 : Fin k0_t12_loop.trips) : Fin 3 → Nat :=
  let c16_i32_727 : BitVec 32 := 16#32
  let c2_i32_714 : BitVec 32 := 2#32
  let c0_i32_488 : BitVec 32 := 0#32
  let c1_i32_490 : BitVec 32 := 1#32
  let arg13 : BitVec 32 := Scf.iv c0_i32_488 c1_i32_490 k0_t12
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c32_729 : Index := 32#32
  ![v1390.toNat, 1, 32]
@[reducible] def k0_t13_loop : Scf.Loop 32 :=
  let c0_i32_528 : BitVec 32 := 0#32
  let c8_i32_529 : BitVec 32 := 8#32
  let v959 : BitVec 32 := Scalar.addi c0_i32_528 c8_i32_529
  let c1_i32_530 : BitVec 32 := 1#32
  ⟨c0_i32_528, v959, c1_i32_530⟩

def k0_chk45 (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v920] : Fin 3 → IVec S16 32) a x).toNat < S224x2x128.size a) ∧
  (∀ a x, ((![v1272, v1286, v924] : Fin 3 → IVec S16 32) a x).toNat < S224x2x128.size a) ∧
  (∀ a x, ((![v1274, v1286, v928] : Fin 3 → IVec S16 32) a x).toNat < S224x2x128.size a) ∧
  (∀ a x, ((![v1276, v1286, v932] : Fin 3 → IVec S16 32) a x).toNat < S224x2x128.size a) ∧
  (∀ a x, ((![v1278, v1286, v936] : Fin 3 → IVec S16 32) a x).toNat < S224x2x128.size a) ∧
  (∀ a x, ((![v1280, v1286, v940] : Fin 3 → IVec S16 32) a x).toNat < S224x2x128.size a) ∧
  (∀ a x, ((![v1282, v1286, v944] : Fin 3 → IVec S16 32) a x).toNat < S224x2x128.size a)
theorem k0_idx309_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw45 : k0_chk45 v920 v924 v928 v932 v936 v940 v944 v1270 v1272 v1274 v1276 v1278 v1280 v1282 v1286), ∀ a x, ((![v1270, v1286, v920] : Fin 3 → IVec S16 32) a x).toNat < S224x2x128.size a := fun v920 v924 v928 v932 v936 v940 v944 v1270 v1272 v1274 v1276 v1278 v1280 v1282 v1286 k0_hw45 => k0_hw45.1
theorem k0_idx310_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw45 : k0_chk45 v920 v924 v928 v932 v936 v940 v944 v1270 v1272 v1274 v1276 v1278 v1280 v1282 v1286), ∀ a x, ((![v1272, v1286, v924] : Fin 3 → IVec S16 32) a x).toNat < S224x2x128.size a := fun v920 v924 v928 v932 v936 v940 v944 v1270 v1272 v1274 v1276 v1278 v1280 v1282 v1286 k0_hw45 => k0_hw45.2.1
theorem k0_idx311_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw45 : k0_chk45 v920 v924 v928 v932 v936 v940 v944 v1270 v1272 v1274 v1276 v1278 v1280 v1282 v1286), ∀ a x, ((![v1274, v1286, v928] : Fin 3 → IVec S16 32) a x).toNat < S224x2x128.size a := fun v920 v924 v928 v932 v936 v940 v944 v1270 v1272 v1274 v1276 v1278 v1280 v1282 v1286 k0_hw45 => k0_hw45.2.2.1
theorem k0_idx312_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw45 : k0_chk45 v920 v924 v928 v932 v936 v940 v944 v1270 v1272 v1274 v1276 v1278 v1280 v1282 v1286), ∀ a x, ((![v1276, v1286, v932] : Fin 3 → IVec S16 32) a x).toNat < S224x2x128.size a := fun v920 v924 v928 v932 v936 v940 v944 v1270 v1272 v1274 v1276 v1278 v1280 v1282 v1286 k0_hw45 => k0_hw45.2.2.2.1
theorem k0_idx313_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw45 : k0_chk45 v920 v924 v928 v932 v936 v940 v944 v1270 v1272 v1274 v1276 v1278 v1280 v1282 v1286), ∀ a x, ((![v1278, v1286, v936] : Fin 3 → IVec S16 32) a x).toNat < S224x2x128.size a := fun v920 v924 v928 v932 v936 v940 v944 v1270 v1272 v1274 v1276 v1278 v1280 v1282 v1286 k0_hw45 => k0_hw45.2.2.2.2.1
theorem k0_idx314_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw45 : k0_chk45 v920 v924 v928 v932 v936 v940 v944 v1270 v1272 v1274 v1276 v1278 v1280 v1282 v1286), ∀ a x, ((![v1280, v1286, v940] : Fin 3 → IVec S16 32) a x).toNat < S224x2x128.size a := fun v920 v924 v928 v932 v936 v940 v944 v1270 v1272 v1274 v1276 v1278 v1280 v1282 v1286 k0_hw45 => k0_hw45.2.2.2.2.2.1
theorem k0_idx315_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw45 : k0_chk45 v920 v924 v928 v932 v936 v940 v944 v1270 v1272 v1274 v1276 v1278 v1280 v1282 v1286), ∀ a x, ((![v1282, v1286, v944] : Fin 3 → IVec S16 32) a x).toNat < S224x2x128.size a := fun v920 v924 v928 v932 v936 v940 v944 v1270 v1272 v1274 v1276 v1278 v1280 v1282 v1286 k0_hw45 => k0_hw45.2.2.2.2.2.2
def k0_off53 (k0_t13 : Fin k0_t13_loop.trips) : Fin 3 → Nat :=
  let c16_i32_706 : BitVec 32 := 16#32
  let c2_i32_700 : BitVec 32 := 2#32
  let c0_i32_528 : BitVec 32 := 0#32
  let c1_i32_530 : BitVec 32 := 1#32
  let arg13 : BitVec 32 := Scf.iv c0_i32_528 c1_i32_530 k0_t13
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c48 : Index := 48#32
  ![v1303.toNat, 0, 48]

def k0_chk46 (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v920] : Fin 3 → IVec S16 32) a x).toNat < S224x2x128.size a) ∧
  (∀ a x, ((![v1272, v1309, v924] : Fin 3 → IVec S16 32) a x).toNat < S224x2x128.size a) ∧
  (∀ a x, ((![v1274, v1309, v928] : Fin 3 → IVec S16 32) a x).toNat < S224x2x128.size a) ∧
  (∀ a x, ((![v1276, v1309, v932] : Fin 3 → IVec S16 32) a x).toNat < S224x2x128.size a) ∧
  (∀ a x, ((![v1278, v1309, v936] : Fin 3 → IVec S16 32) a x).toNat < S224x2x128.size a) ∧
  (∀ a x, ((![v1280, v1309, v940] : Fin 3 → IVec S16 32) a x).toNat < S224x2x128.size a) ∧
  (∀ a x, ((![v1282, v1309, v944] : Fin 3 → IVec S16 32) a x).toNat < S224x2x128.size a)
theorem k0_idx316_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw46 : k0_chk46 v920 v924 v928 v932 v936 v940 v944 v1270 v1272 v1274 v1276 v1278 v1280 v1282 v1309), ∀ a x, ((![v1270, v1309, v920] : Fin 3 → IVec S16 32) a x).toNat < S224x2x128.size a := fun v920 v924 v928 v932 v936 v940 v944 v1270 v1272 v1274 v1276 v1278 v1280 v1282 v1309 k0_hw46 => k0_hw46.1
theorem k0_idx317_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw46 : k0_chk46 v920 v924 v928 v932 v936 v940 v944 v1270 v1272 v1274 v1276 v1278 v1280 v1282 v1309), ∀ a x, ((![v1272, v1309, v924] : Fin 3 → IVec S16 32) a x).toNat < S224x2x128.size a := fun v920 v924 v928 v932 v936 v940 v944 v1270 v1272 v1274 v1276 v1278 v1280 v1282 v1309 k0_hw46 => k0_hw46.2.1
theorem k0_idx318_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw46 : k0_chk46 v920 v924 v928 v932 v936 v940 v944 v1270 v1272 v1274 v1276 v1278 v1280 v1282 v1309), ∀ a x, ((![v1274, v1309, v928] : Fin 3 → IVec S16 32) a x).toNat < S224x2x128.size a := fun v920 v924 v928 v932 v936 v940 v944 v1270 v1272 v1274 v1276 v1278 v1280 v1282 v1309 k0_hw46 => k0_hw46.2.2.1
theorem k0_idx319_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw46 : k0_chk46 v920 v924 v928 v932 v936 v940 v944 v1270 v1272 v1274 v1276 v1278 v1280 v1282 v1309), ∀ a x, ((![v1276, v1309, v932] : Fin 3 → IVec S16 32) a x).toNat < S224x2x128.size a := fun v920 v924 v928 v932 v936 v940 v944 v1270 v1272 v1274 v1276 v1278 v1280 v1282 v1309 k0_hw46 => k0_hw46.2.2.2.1
theorem k0_idx320_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw46 : k0_chk46 v920 v924 v928 v932 v936 v940 v944 v1270 v1272 v1274 v1276 v1278 v1280 v1282 v1309), ∀ a x, ((![v1278, v1309, v936] : Fin 3 → IVec S16 32) a x).toNat < S224x2x128.size a := fun v920 v924 v928 v932 v936 v940 v944 v1270 v1272 v1274 v1276 v1278 v1280 v1282 v1309 k0_hw46 => k0_hw46.2.2.2.2.1
theorem k0_idx321_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw46 : k0_chk46 v920 v924 v928 v932 v936 v940 v944 v1270 v1272 v1274 v1276 v1278 v1280 v1282 v1309), ∀ a x, ((![v1280, v1309, v940] : Fin 3 → IVec S16 32) a x).toNat < S224x2x128.size a := fun v920 v924 v928 v932 v936 v940 v944 v1270 v1272 v1274 v1276 v1278 v1280 v1282 v1309 k0_hw46 => k0_hw46.2.2.2.2.2.1
theorem k0_idx322_inb : ∀ (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw46 : k0_chk46 v920 v924 v928 v932 v936 v940 v944 v1270 v1272 v1274 v1276 v1278 v1280 v1282 v1309), ∀ a x, ((![v1282, v1309, v944] : Fin 3 → IVec S16 32) a x).toNat < S224x2x128.size a := fun v920 v924 v928 v932 v936 v940 v944 v1270 v1272 v1274 v1276 v1278 v1280 v1282 v1309 k0_hw46 => k0_hw46.2.2.2.2.2.2
def k0_off54 (k0_t13 : Fin k0_t13_loop.trips) : Fin 3 → Nat :=
  let c16_i32_711 : BitVec 32 := 16#32
  let c2_i32_700 : BitVec 32 := 2#32
  let c0_i32_528 : BitVec 32 := 0#32
  let c1_i32_530 : BitVec 32 := 1#32
  let arg13 : BitVec 32 := Scf.iv c0_i32_528 c1_i32_530 k0_t13
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c48_713 : Index := 48#32
  ![v1326.toNat, 1, 48]

def k0_chk47 (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v920] : Fin 3 → IVec S16 32) a x).toNat < S224x2x128.size a) ∧
  (∀ a x, ((![v1336, v1350, v924] : Fin 3 → IVec S16 32) a x).toNat < S224x2x128.size a) ∧
  (∀ a x, ((![v1338, v1350, v928] : Fin 3 → IVec S16 32) a x).toNat < S224x2x128.size a) ∧
  (∀ a x, ((![v1340, v1350, v932] : Fin 3 → IVec S16 32) a x).toNat < S224x2x128.size a) ∧
  (∀ a x, ((![v1342, v1350, v936] : Fin 3 → IVec S16 32) a x).toNat < S224x2x128.size a) ∧
  (∀ a x, ((![v1344, v1350, v940] : Fin 3 → IVec S16 32) a x).toNat < S224x2x128.size a) ∧
  (∀ a x, ((![v1346, v1350, v944] : Fin 3 → IVec S16 32) a x).toNat < S224x2x128.size a)
theorem k0_idx323_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw47 : k0_chk47 v920 v924 v928 v932 v936 v940 v944 v1334 v1336 v1338 v1340 v1342 v1344 v1346 v1350), ∀ a x, ((![v1334, v1350, v920] : Fin 3 → IVec S16 32) a x).toNat < S224x2x128.size a := fun v920 v924 v928 v932 v936 v940 v944 v1334 v1336 v1338 v1340 v1342 v1344 v1346 v1350 k0_hw47 => k0_hw47.1
theorem k0_idx324_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw47 : k0_chk47 v920 v924 v928 v932 v936 v940 v944 v1334 v1336 v1338 v1340 v1342 v1344 v1346 v1350), ∀ a x, ((![v1336, v1350, v924] : Fin 3 → IVec S16 32) a x).toNat < S224x2x128.size a := fun v920 v924 v928 v932 v936 v940 v944 v1334 v1336 v1338 v1340 v1342 v1344 v1346 v1350 k0_hw47 => k0_hw47.2.1
theorem k0_idx325_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw47 : k0_chk47 v920 v924 v928 v932 v936 v940 v944 v1334 v1336 v1338 v1340 v1342 v1344 v1346 v1350), ∀ a x, ((![v1338, v1350, v928] : Fin 3 → IVec S16 32) a x).toNat < S224x2x128.size a := fun v920 v924 v928 v932 v936 v940 v944 v1334 v1336 v1338 v1340 v1342 v1344 v1346 v1350 k0_hw47 => k0_hw47.2.2.1
theorem k0_idx326_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw47 : k0_chk47 v920 v924 v928 v932 v936 v940 v944 v1334 v1336 v1338 v1340 v1342 v1344 v1346 v1350), ∀ a x, ((![v1340, v1350, v932] : Fin 3 → IVec S16 32) a x).toNat < S224x2x128.size a := fun v920 v924 v928 v932 v936 v940 v944 v1334 v1336 v1338 v1340 v1342 v1344 v1346 v1350 k0_hw47 => k0_hw47.2.2.2.1
theorem k0_idx327_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw47 : k0_chk47 v920 v924 v928 v932 v936 v940 v944 v1334 v1336 v1338 v1340 v1342 v1344 v1346 v1350), ∀ a x, ((![v1342, v1350, v936] : Fin 3 → IVec S16 32) a x).toNat < S224x2x128.size a := fun v920 v924 v928 v932 v936 v940 v944 v1334 v1336 v1338 v1340 v1342 v1344 v1346 v1350 k0_hw47 => k0_hw47.2.2.2.2.1
theorem k0_idx328_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw47 : k0_chk47 v920 v924 v928 v932 v936 v940 v944 v1334 v1336 v1338 v1340 v1342 v1344 v1346 v1350), ∀ a x, ((![v1344, v1350, v940] : Fin 3 → IVec S16 32) a x).toNat < S224x2x128.size a := fun v920 v924 v928 v932 v936 v940 v944 v1334 v1336 v1338 v1340 v1342 v1344 v1346 v1350 k0_hw47 => k0_hw47.2.2.2.2.2.1
theorem k0_idx329_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw47 : k0_chk47 v920 v924 v928 v932 v936 v940 v944 v1334 v1336 v1338 v1340 v1342 v1344 v1346 v1350), ∀ a x, ((![v1346, v1350, v944] : Fin 3 → IVec S16 32) a x).toNat < S224x2x128.size a := fun v920 v924 v928 v932 v936 v940 v944 v1334 v1336 v1338 v1340 v1342 v1344 v1346 v1350 k0_hw47 => k0_hw47.2.2.2.2.2.2
def k0_off55 (k0_t13 : Fin k0_t13_loop.trips) : Fin 3 → Nat :=
  let c16_i32_721 : BitVec 32 := 16#32
  let c2_i32_714 : BitVec 32 := 2#32
  let c0_i32_528 : BitVec 32 := 0#32
  let c1_i32_530 : BitVec 32 := 1#32
  let arg13 : BitVec 32 := Scf.iv c0_i32_528 c1_i32_530 k0_t13
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c48_723 : Index := 48#32
  ![v1367.toNat, 0, 48]

def k0_chk48 (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v920] : Fin 3 → IVec S16 32) a x).toNat < S224x2x128.size a) ∧
  (∀ a x, ((![v1336, v1373, v924] : Fin 3 → IVec S16 32) a x).toNat < S224x2x128.size a) ∧
  (∀ a x, ((![v1338, v1373, v928] : Fin 3 → IVec S16 32) a x).toNat < S224x2x128.size a) ∧
  (∀ a x, ((![v1340, v1373, v932] : Fin 3 → IVec S16 32) a x).toNat < S224x2x128.size a) ∧
  (∀ a x, ((![v1342, v1373, v936] : Fin 3 → IVec S16 32) a x).toNat < S224x2x128.size a) ∧
  (∀ a x, ((![v1344, v1373, v940] : Fin 3 → IVec S16 32) a x).toNat < S224x2x128.size a) ∧
  (∀ a x, ((![v1346, v1373, v944] : Fin 3 → IVec S16 32) a x).toNat < S224x2x128.size a)
theorem k0_idx330_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw48 : k0_chk48 v920 v924 v928 v932 v936 v940 v944 v1334 v1336 v1338 v1340 v1342 v1344 v1346 v1373), ∀ a x, ((![v1334, v1373, v920] : Fin 3 → IVec S16 32) a x).toNat < S224x2x128.size a := fun v920 v924 v928 v932 v936 v940 v944 v1334 v1336 v1338 v1340 v1342 v1344 v1346 v1373 k0_hw48 => k0_hw48.1
theorem k0_idx331_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw48 : k0_chk48 v920 v924 v928 v932 v936 v940 v944 v1334 v1336 v1338 v1340 v1342 v1344 v1346 v1373), ∀ a x, ((![v1336, v1373, v924] : Fin 3 → IVec S16 32) a x).toNat < S224x2x128.size a := fun v920 v924 v928 v932 v936 v940 v944 v1334 v1336 v1338 v1340 v1342 v1344 v1346 v1373 k0_hw48 => k0_hw48.2.1
theorem k0_idx332_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw48 : k0_chk48 v920 v924 v928 v932 v936 v940 v944 v1334 v1336 v1338 v1340 v1342 v1344 v1346 v1373), ∀ a x, ((![v1338, v1373, v928] : Fin 3 → IVec S16 32) a x).toNat < S224x2x128.size a := fun v920 v924 v928 v932 v936 v940 v944 v1334 v1336 v1338 v1340 v1342 v1344 v1346 v1373 k0_hw48 => k0_hw48.2.2.1
theorem k0_idx333_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw48 : k0_chk48 v920 v924 v928 v932 v936 v940 v944 v1334 v1336 v1338 v1340 v1342 v1344 v1346 v1373), ∀ a x, ((![v1340, v1373, v932] : Fin 3 → IVec S16 32) a x).toNat < S224x2x128.size a := fun v920 v924 v928 v932 v936 v940 v944 v1334 v1336 v1338 v1340 v1342 v1344 v1346 v1373 k0_hw48 => k0_hw48.2.2.2.1
theorem k0_idx334_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw48 : k0_chk48 v920 v924 v928 v932 v936 v940 v944 v1334 v1336 v1338 v1340 v1342 v1344 v1346 v1373), ∀ a x, ((![v1342, v1373, v936] : Fin 3 → IVec S16 32) a x).toNat < S224x2x128.size a := fun v920 v924 v928 v932 v936 v940 v944 v1334 v1336 v1338 v1340 v1342 v1344 v1346 v1373 k0_hw48 => k0_hw48.2.2.2.2.1
theorem k0_idx335_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw48 : k0_chk48 v920 v924 v928 v932 v936 v940 v944 v1334 v1336 v1338 v1340 v1342 v1344 v1346 v1373), ∀ a x, ((![v1344, v1373, v940] : Fin 3 → IVec S16 32) a x).toNat < S224x2x128.size a := fun v920 v924 v928 v932 v936 v940 v944 v1334 v1336 v1338 v1340 v1342 v1344 v1346 v1373 k0_hw48 => k0_hw48.2.2.2.2.2.1
theorem k0_idx336_inb : ∀ (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw48 : k0_chk48 v920 v924 v928 v932 v936 v940 v944 v1334 v1336 v1338 v1340 v1342 v1344 v1346 v1373), ∀ a x, ((![v1346, v1373, v944] : Fin 3 → IVec S16 32) a x).toNat < S224x2x128.size a := fun v920 v924 v928 v932 v936 v940 v944 v1334 v1336 v1338 v1340 v1342 v1344 v1346 v1373 k0_hw48 => k0_hw48.2.2.2.2.2.2
def k0_off56 (k0_t13 : Fin k0_t13_loop.trips) : Fin 3 → Nat :=
  let c16_i32_727 : BitVec 32 := 16#32
  let c2_i32_714 : BitVec 32 := 2#32
  let c0_i32_528 : BitVec 32 := 0#32
  let c1_i32_530 : BitVec 32 := 1#32
  let arg13 : BitVec 32 := Scf.iv c0_i32_528 c1_i32_530 k0_t13
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c48_729 : Index := 48#32
  ![v1390.toNat, 1, 48]
@[reducible] def k0_t14_loop : Scf.Loop 32 :=
  let c0_i32_568 : BitVec 32 := 0#32
  let c8_i32_569 : BitVec 32 := 8#32
  let v1032 : BitVec 32 := Scalar.addi c0_i32_568 c8_i32_569
  let c1_i32_570 : BitVec 32 := 1#32
  ⟨c0_i32_568, v1032, c1_i32_570⟩

def k0_chk49 (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v993] : Fin 3 → IVec S16 32) a x).toNat < S224x2x128.size a) ∧
  (∀ a x, ((![v1272, v1286, v997] : Fin 3 → IVec S16 32) a x).toNat < S224x2x128.size a) ∧
  (∀ a x, ((![v1274, v1286, v1001] : Fin 3 → IVec S16 32) a x).toNat < S224x2x128.size a) ∧
  (∀ a x, ((![v1276, v1286, v1005] : Fin 3 → IVec S16 32) a x).toNat < S224x2x128.size a) ∧
  (∀ a x, ((![v1278, v1286, v1009] : Fin 3 → IVec S16 32) a x).toNat < S224x2x128.size a) ∧
  (∀ a x, ((![v1280, v1286, v1013] : Fin 3 → IVec S16 32) a x).toNat < S224x2x128.size a) ∧
  (∀ a x, ((![v1282, v1286, v1017] : Fin 3 → IVec S16 32) a x).toNat < S224x2x128.size a)
theorem k0_idx337_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw49 : k0_chk49 v993 v997 v1001 v1005 v1009 v1013 v1017 v1270 v1272 v1274 v1276 v1278 v1280 v1282 v1286), ∀ a x, ((![v1270, v1286, v993] : Fin 3 → IVec S16 32) a x).toNat < S224x2x128.size a := fun v993 v997 v1001 v1005 v1009 v1013 v1017 v1270 v1272 v1274 v1276 v1278 v1280 v1282 v1286 k0_hw49 => k0_hw49.1
theorem k0_idx338_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw49 : k0_chk49 v993 v997 v1001 v1005 v1009 v1013 v1017 v1270 v1272 v1274 v1276 v1278 v1280 v1282 v1286), ∀ a x, ((![v1272, v1286, v997] : Fin 3 → IVec S16 32) a x).toNat < S224x2x128.size a := fun v993 v997 v1001 v1005 v1009 v1013 v1017 v1270 v1272 v1274 v1276 v1278 v1280 v1282 v1286 k0_hw49 => k0_hw49.2.1
theorem k0_idx339_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw49 : k0_chk49 v993 v997 v1001 v1005 v1009 v1013 v1017 v1270 v1272 v1274 v1276 v1278 v1280 v1282 v1286), ∀ a x, ((![v1274, v1286, v1001] : Fin 3 → IVec S16 32) a x).toNat < S224x2x128.size a := fun v993 v997 v1001 v1005 v1009 v1013 v1017 v1270 v1272 v1274 v1276 v1278 v1280 v1282 v1286 k0_hw49 => k0_hw49.2.2.1
theorem k0_idx340_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw49 : k0_chk49 v993 v997 v1001 v1005 v1009 v1013 v1017 v1270 v1272 v1274 v1276 v1278 v1280 v1282 v1286), ∀ a x, ((![v1276, v1286, v1005] : Fin 3 → IVec S16 32) a x).toNat < S224x2x128.size a := fun v993 v997 v1001 v1005 v1009 v1013 v1017 v1270 v1272 v1274 v1276 v1278 v1280 v1282 v1286 k0_hw49 => k0_hw49.2.2.2.1
theorem k0_idx341_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw49 : k0_chk49 v993 v997 v1001 v1005 v1009 v1013 v1017 v1270 v1272 v1274 v1276 v1278 v1280 v1282 v1286), ∀ a x, ((![v1278, v1286, v1009] : Fin 3 → IVec S16 32) a x).toNat < S224x2x128.size a := fun v993 v997 v1001 v1005 v1009 v1013 v1017 v1270 v1272 v1274 v1276 v1278 v1280 v1282 v1286 k0_hw49 => k0_hw49.2.2.2.2.1
theorem k0_idx342_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw49 : k0_chk49 v993 v997 v1001 v1005 v1009 v1013 v1017 v1270 v1272 v1274 v1276 v1278 v1280 v1282 v1286), ∀ a x, ((![v1280, v1286, v1013] : Fin 3 → IVec S16 32) a x).toNat < S224x2x128.size a := fun v993 v997 v1001 v1005 v1009 v1013 v1017 v1270 v1272 v1274 v1276 v1278 v1280 v1282 v1286 k0_hw49 => k0_hw49.2.2.2.2.2.1
theorem k0_idx343_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw49 : k0_chk49 v993 v997 v1001 v1005 v1009 v1013 v1017 v1270 v1272 v1274 v1276 v1278 v1280 v1282 v1286), ∀ a x, ((![v1282, v1286, v1017] : Fin 3 → IVec S16 32) a x).toNat < S224x2x128.size a := fun v993 v997 v1001 v1005 v1009 v1013 v1017 v1270 v1272 v1274 v1276 v1278 v1280 v1282 v1286 k0_hw49 => k0_hw49.2.2.2.2.2.2
def k0_off57 (k0_t14 : Fin k0_t14_loop.trips) : Fin 3 → Nat :=
  let c16_i32_706 : BitVec 32 := 16#32
  let c2_i32_700 : BitVec 32 := 2#32
  let c0_i32_568 : BitVec 32 := 0#32
  let c1_i32_570 : BitVec 32 := 1#32
  let arg13 : BitVec 32 := Scf.iv c0_i32_568 c1_i32_570 k0_t14
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c64 : Index := 64#32
  ![v1303.toNat, 0, 64]

def k0_chk50 (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v993] : Fin 3 → IVec S16 32) a x).toNat < S224x2x128.size a) ∧
  (∀ a x, ((![v1272, v1309, v997] : Fin 3 → IVec S16 32) a x).toNat < S224x2x128.size a) ∧
  (∀ a x, ((![v1274, v1309, v1001] : Fin 3 → IVec S16 32) a x).toNat < S224x2x128.size a) ∧
  (∀ a x, ((![v1276, v1309, v1005] : Fin 3 → IVec S16 32) a x).toNat < S224x2x128.size a) ∧
  (∀ a x, ((![v1278, v1309, v1009] : Fin 3 → IVec S16 32) a x).toNat < S224x2x128.size a) ∧
  (∀ a x, ((![v1280, v1309, v1013] : Fin 3 → IVec S16 32) a x).toNat < S224x2x128.size a) ∧
  (∀ a x, ((![v1282, v1309, v1017] : Fin 3 → IVec S16 32) a x).toNat < S224x2x128.size a)
theorem k0_idx344_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw50 : k0_chk50 v993 v997 v1001 v1005 v1009 v1013 v1017 v1270 v1272 v1274 v1276 v1278 v1280 v1282 v1309), ∀ a x, ((![v1270, v1309, v993] : Fin 3 → IVec S16 32) a x).toNat < S224x2x128.size a := fun v993 v997 v1001 v1005 v1009 v1013 v1017 v1270 v1272 v1274 v1276 v1278 v1280 v1282 v1309 k0_hw50 => k0_hw50.1
theorem k0_idx345_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw50 : k0_chk50 v993 v997 v1001 v1005 v1009 v1013 v1017 v1270 v1272 v1274 v1276 v1278 v1280 v1282 v1309), ∀ a x, ((![v1272, v1309, v997] : Fin 3 → IVec S16 32) a x).toNat < S224x2x128.size a := fun v993 v997 v1001 v1005 v1009 v1013 v1017 v1270 v1272 v1274 v1276 v1278 v1280 v1282 v1309 k0_hw50 => k0_hw50.2.1
theorem k0_idx346_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw50 : k0_chk50 v993 v997 v1001 v1005 v1009 v1013 v1017 v1270 v1272 v1274 v1276 v1278 v1280 v1282 v1309), ∀ a x, ((![v1274, v1309, v1001] : Fin 3 → IVec S16 32) a x).toNat < S224x2x128.size a := fun v993 v997 v1001 v1005 v1009 v1013 v1017 v1270 v1272 v1274 v1276 v1278 v1280 v1282 v1309 k0_hw50 => k0_hw50.2.2.1
theorem k0_idx347_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw50 : k0_chk50 v993 v997 v1001 v1005 v1009 v1013 v1017 v1270 v1272 v1274 v1276 v1278 v1280 v1282 v1309), ∀ a x, ((![v1276, v1309, v1005] : Fin 3 → IVec S16 32) a x).toNat < S224x2x128.size a := fun v993 v997 v1001 v1005 v1009 v1013 v1017 v1270 v1272 v1274 v1276 v1278 v1280 v1282 v1309 k0_hw50 => k0_hw50.2.2.2.1
theorem k0_idx348_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw50 : k0_chk50 v993 v997 v1001 v1005 v1009 v1013 v1017 v1270 v1272 v1274 v1276 v1278 v1280 v1282 v1309), ∀ a x, ((![v1278, v1309, v1009] : Fin 3 → IVec S16 32) a x).toNat < S224x2x128.size a := fun v993 v997 v1001 v1005 v1009 v1013 v1017 v1270 v1272 v1274 v1276 v1278 v1280 v1282 v1309 k0_hw50 => k0_hw50.2.2.2.2.1
theorem k0_idx349_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw50 : k0_chk50 v993 v997 v1001 v1005 v1009 v1013 v1017 v1270 v1272 v1274 v1276 v1278 v1280 v1282 v1309), ∀ a x, ((![v1280, v1309, v1013] : Fin 3 → IVec S16 32) a x).toNat < S224x2x128.size a := fun v993 v997 v1001 v1005 v1009 v1013 v1017 v1270 v1272 v1274 v1276 v1278 v1280 v1282 v1309 k0_hw50 => k0_hw50.2.2.2.2.2.1
theorem k0_idx350_inb : ∀ (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw50 : k0_chk50 v993 v997 v1001 v1005 v1009 v1013 v1017 v1270 v1272 v1274 v1276 v1278 v1280 v1282 v1309), ∀ a x, ((![v1282, v1309, v1017] : Fin 3 → IVec S16 32) a x).toNat < S224x2x128.size a := fun v993 v997 v1001 v1005 v1009 v1013 v1017 v1270 v1272 v1274 v1276 v1278 v1280 v1282 v1309 k0_hw50 => k0_hw50.2.2.2.2.2.2
def k0_off58 (k0_t14 : Fin k0_t14_loop.trips) : Fin 3 → Nat :=
  let c16_i32_711 : BitVec 32 := 16#32
  let c2_i32_700 : BitVec 32 := 2#32
  let c0_i32_568 : BitVec 32 := 0#32
  let c1_i32_570 : BitVec 32 := 1#32
  let arg13 : BitVec 32 := Scf.iv c0_i32_568 c1_i32_570 k0_t14
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c64_713 : Index := 64#32
  ![v1326.toNat, 1, 64]

def k0_chk51 (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v993] : Fin 3 → IVec S16 32) a x).toNat < S224x2x128.size a) ∧
  (∀ a x, ((![v1336, v1350, v997] : Fin 3 → IVec S16 32) a x).toNat < S224x2x128.size a) ∧
  (∀ a x, ((![v1338, v1350, v1001] : Fin 3 → IVec S16 32) a x).toNat < S224x2x128.size a) ∧
  (∀ a x, ((![v1340, v1350, v1005] : Fin 3 → IVec S16 32) a x).toNat < S224x2x128.size a) ∧
  (∀ a x, ((![v1342, v1350, v1009] : Fin 3 → IVec S16 32) a x).toNat < S224x2x128.size a) ∧
  (∀ a x, ((![v1344, v1350, v1013] : Fin 3 → IVec S16 32) a x).toNat < S224x2x128.size a) ∧
  (∀ a x, ((![v1346, v1350, v1017] : Fin 3 → IVec S16 32) a x).toNat < S224x2x128.size a)
theorem k0_idx351_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw51 : k0_chk51 v993 v997 v1001 v1005 v1009 v1013 v1017 v1334 v1336 v1338 v1340 v1342 v1344 v1346 v1350), ∀ a x, ((![v1334, v1350, v993] : Fin 3 → IVec S16 32) a x).toNat < S224x2x128.size a := fun v993 v997 v1001 v1005 v1009 v1013 v1017 v1334 v1336 v1338 v1340 v1342 v1344 v1346 v1350 k0_hw51 => k0_hw51.1
theorem k0_idx352_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw51 : k0_chk51 v993 v997 v1001 v1005 v1009 v1013 v1017 v1334 v1336 v1338 v1340 v1342 v1344 v1346 v1350), ∀ a x, ((![v1336, v1350, v997] : Fin 3 → IVec S16 32) a x).toNat < S224x2x128.size a := fun v993 v997 v1001 v1005 v1009 v1013 v1017 v1334 v1336 v1338 v1340 v1342 v1344 v1346 v1350 k0_hw51 => k0_hw51.2.1
theorem k0_idx353_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw51 : k0_chk51 v993 v997 v1001 v1005 v1009 v1013 v1017 v1334 v1336 v1338 v1340 v1342 v1344 v1346 v1350), ∀ a x, ((![v1338, v1350, v1001] : Fin 3 → IVec S16 32) a x).toNat < S224x2x128.size a := fun v993 v997 v1001 v1005 v1009 v1013 v1017 v1334 v1336 v1338 v1340 v1342 v1344 v1346 v1350 k0_hw51 => k0_hw51.2.2.1
theorem k0_idx354_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw51 : k0_chk51 v993 v997 v1001 v1005 v1009 v1013 v1017 v1334 v1336 v1338 v1340 v1342 v1344 v1346 v1350), ∀ a x, ((![v1340, v1350, v1005] : Fin 3 → IVec S16 32) a x).toNat < S224x2x128.size a := fun v993 v997 v1001 v1005 v1009 v1013 v1017 v1334 v1336 v1338 v1340 v1342 v1344 v1346 v1350 k0_hw51 => k0_hw51.2.2.2.1
theorem k0_idx355_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw51 : k0_chk51 v993 v997 v1001 v1005 v1009 v1013 v1017 v1334 v1336 v1338 v1340 v1342 v1344 v1346 v1350), ∀ a x, ((![v1342, v1350, v1009] : Fin 3 → IVec S16 32) a x).toNat < S224x2x128.size a := fun v993 v997 v1001 v1005 v1009 v1013 v1017 v1334 v1336 v1338 v1340 v1342 v1344 v1346 v1350 k0_hw51 => k0_hw51.2.2.2.2.1
theorem k0_idx356_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw51 : k0_chk51 v993 v997 v1001 v1005 v1009 v1013 v1017 v1334 v1336 v1338 v1340 v1342 v1344 v1346 v1350), ∀ a x, ((![v1344, v1350, v1013] : Fin 3 → IVec S16 32) a x).toNat < S224x2x128.size a := fun v993 v997 v1001 v1005 v1009 v1013 v1017 v1334 v1336 v1338 v1340 v1342 v1344 v1346 v1350 k0_hw51 => k0_hw51.2.2.2.2.2.1
theorem k0_idx357_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw51 : k0_chk51 v993 v997 v1001 v1005 v1009 v1013 v1017 v1334 v1336 v1338 v1340 v1342 v1344 v1346 v1350), ∀ a x, ((![v1346, v1350, v1017] : Fin 3 → IVec S16 32) a x).toNat < S224x2x128.size a := fun v993 v997 v1001 v1005 v1009 v1013 v1017 v1334 v1336 v1338 v1340 v1342 v1344 v1346 v1350 k0_hw51 => k0_hw51.2.2.2.2.2.2
def k0_off59 (k0_t14 : Fin k0_t14_loop.trips) : Fin 3 → Nat :=
  let c16_i32_721 : BitVec 32 := 16#32
  let c2_i32_714 : BitVec 32 := 2#32
  let c0_i32_568 : BitVec 32 := 0#32
  let c1_i32_570 : BitVec 32 := 1#32
  let arg13 : BitVec 32 := Scf.iv c0_i32_568 c1_i32_570 k0_t14
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c64_723 : Index := 64#32
  ![v1367.toNat, 0, 64]

def k0_chk52 (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v993] : Fin 3 → IVec S16 32) a x).toNat < S224x2x128.size a) ∧
  (∀ a x, ((![v1336, v1373, v997] : Fin 3 → IVec S16 32) a x).toNat < S224x2x128.size a) ∧
  (∀ a x, ((![v1338, v1373, v1001] : Fin 3 → IVec S16 32) a x).toNat < S224x2x128.size a) ∧
  (∀ a x, ((![v1340, v1373, v1005] : Fin 3 → IVec S16 32) a x).toNat < S224x2x128.size a) ∧
  (∀ a x, ((![v1342, v1373, v1009] : Fin 3 → IVec S16 32) a x).toNat < S224x2x128.size a) ∧
  (∀ a x, ((![v1344, v1373, v1013] : Fin 3 → IVec S16 32) a x).toNat < S224x2x128.size a) ∧
  (∀ a x, ((![v1346, v1373, v1017] : Fin 3 → IVec S16 32) a x).toNat < S224x2x128.size a)
theorem k0_idx358_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw52 : k0_chk52 v993 v997 v1001 v1005 v1009 v1013 v1017 v1334 v1336 v1338 v1340 v1342 v1344 v1346 v1373), ∀ a x, ((![v1334, v1373, v993] : Fin 3 → IVec S16 32) a x).toNat < S224x2x128.size a := fun v993 v997 v1001 v1005 v1009 v1013 v1017 v1334 v1336 v1338 v1340 v1342 v1344 v1346 v1373 k0_hw52 => k0_hw52.1
theorem k0_idx359_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw52 : k0_chk52 v993 v997 v1001 v1005 v1009 v1013 v1017 v1334 v1336 v1338 v1340 v1342 v1344 v1346 v1373), ∀ a x, ((![v1336, v1373, v997] : Fin 3 → IVec S16 32) a x).toNat < S224x2x128.size a := fun v993 v997 v1001 v1005 v1009 v1013 v1017 v1334 v1336 v1338 v1340 v1342 v1344 v1346 v1373 k0_hw52 => k0_hw52.2.1
theorem k0_idx360_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw52 : k0_chk52 v993 v997 v1001 v1005 v1009 v1013 v1017 v1334 v1336 v1338 v1340 v1342 v1344 v1346 v1373), ∀ a x, ((![v1338, v1373, v1001] : Fin 3 → IVec S16 32) a x).toNat < S224x2x128.size a := fun v993 v997 v1001 v1005 v1009 v1013 v1017 v1334 v1336 v1338 v1340 v1342 v1344 v1346 v1373 k0_hw52 => k0_hw52.2.2.1
theorem k0_idx361_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw52 : k0_chk52 v993 v997 v1001 v1005 v1009 v1013 v1017 v1334 v1336 v1338 v1340 v1342 v1344 v1346 v1373), ∀ a x, ((![v1340, v1373, v1005] : Fin 3 → IVec S16 32) a x).toNat < S224x2x128.size a := fun v993 v997 v1001 v1005 v1009 v1013 v1017 v1334 v1336 v1338 v1340 v1342 v1344 v1346 v1373 k0_hw52 => k0_hw52.2.2.2.1
theorem k0_idx362_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw52 : k0_chk52 v993 v997 v1001 v1005 v1009 v1013 v1017 v1334 v1336 v1338 v1340 v1342 v1344 v1346 v1373), ∀ a x, ((![v1342, v1373, v1009] : Fin 3 → IVec S16 32) a x).toNat < S224x2x128.size a := fun v993 v997 v1001 v1005 v1009 v1013 v1017 v1334 v1336 v1338 v1340 v1342 v1344 v1346 v1373 k0_hw52 => k0_hw52.2.2.2.2.1
theorem k0_idx363_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw52 : k0_chk52 v993 v997 v1001 v1005 v1009 v1013 v1017 v1334 v1336 v1338 v1340 v1342 v1344 v1346 v1373), ∀ a x, ((![v1344, v1373, v1013] : Fin 3 → IVec S16 32) a x).toNat < S224x2x128.size a := fun v993 v997 v1001 v1005 v1009 v1013 v1017 v1334 v1336 v1338 v1340 v1342 v1344 v1346 v1373 k0_hw52 => k0_hw52.2.2.2.2.2.1
theorem k0_idx364_inb : ∀ (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw52 : k0_chk52 v993 v997 v1001 v1005 v1009 v1013 v1017 v1334 v1336 v1338 v1340 v1342 v1344 v1346 v1373), ∀ a x, ((![v1346, v1373, v1017] : Fin 3 → IVec S16 32) a x).toNat < S224x2x128.size a := fun v993 v997 v1001 v1005 v1009 v1013 v1017 v1334 v1336 v1338 v1340 v1342 v1344 v1346 v1373 k0_hw52 => k0_hw52.2.2.2.2.2.2
def k0_off60 (k0_t14 : Fin k0_t14_loop.trips) : Fin 3 → Nat :=
  let c16_i32_727 : BitVec 32 := 16#32
  let c2_i32_714 : BitVec 32 := 2#32
  let c0_i32_568 : BitVec 32 := 0#32
  let c1_i32_570 : BitVec 32 := 1#32
  let arg13 : BitVec 32 := Scf.iv c0_i32_568 c1_i32_570 k0_t14
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c64_729 : Index := 64#32
  ![v1390.toNat, 1, 64]
@[reducible] def k0_t15_loop : Scf.Loop 32 :=
  let c0_i32_608 : BitVec 32 := 0#32
  let c8_i32_609 : BitVec 32 := 8#32
  let v1105 : BitVec 32 := Scalar.addi c0_i32_608 c8_i32_609
  let c1_i32_610 : BitVec 32 := 1#32
  ⟨c0_i32_608, v1105, c1_i32_610⟩

def k0_chk53 (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v1066] : Fin 3 → IVec S16 32) a x).toNat < S224x2x128.size a) ∧
  (∀ a x, ((![v1272, v1286, v1070] : Fin 3 → IVec S16 32) a x).toNat < S224x2x128.size a) ∧
  (∀ a x, ((![v1274, v1286, v1074] : Fin 3 → IVec S16 32) a x).toNat < S224x2x128.size a) ∧
  (∀ a x, ((![v1276, v1286, v1078] : Fin 3 → IVec S16 32) a x).toNat < S224x2x128.size a) ∧
  (∀ a x, ((![v1278, v1286, v1082] : Fin 3 → IVec S16 32) a x).toNat < S224x2x128.size a) ∧
  (∀ a x, ((![v1280, v1286, v1086] : Fin 3 → IVec S16 32) a x).toNat < S224x2x128.size a) ∧
  (∀ a x, ((![v1282, v1286, v1090] : Fin 3 → IVec S16 32) a x).toNat < S224x2x128.size a)
theorem k0_idx365_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw53 : k0_chk53 v1066 v1070 v1074 v1078 v1082 v1086 v1090 v1270 v1272 v1274 v1276 v1278 v1280 v1282 v1286), ∀ a x, ((![v1270, v1286, v1066] : Fin 3 → IVec S16 32) a x).toNat < S224x2x128.size a := fun v1066 v1070 v1074 v1078 v1082 v1086 v1090 v1270 v1272 v1274 v1276 v1278 v1280 v1282 v1286 k0_hw53 => k0_hw53.1
theorem k0_idx366_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw53 : k0_chk53 v1066 v1070 v1074 v1078 v1082 v1086 v1090 v1270 v1272 v1274 v1276 v1278 v1280 v1282 v1286), ∀ a x, ((![v1272, v1286, v1070] : Fin 3 → IVec S16 32) a x).toNat < S224x2x128.size a := fun v1066 v1070 v1074 v1078 v1082 v1086 v1090 v1270 v1272 v1274 v1276 v1278 v1280 v1282 v1286 k0_hw53 => k0_hw53.2.1
theorem k0_idx367_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw53 : k0_chk53 v1066 v1070 v1074 v1078 v1082 v1086 v1090 v1270 v1272 v1274 v1276 v1278 v1280 v1282 v1286), ∀ a x, ((![v1274, v1286, v1074] : Fin 3 → IVec S16 32) a x).toNat < S224x2x128.size a := fun v1066 v1070 v1074 v1078 v1082 v1086 v1090 v1270 v1272 v1274 v1276 v1278 v1280 v1282 v1286 k0_hw53 => k0_hw53.2.2.1
theorem k0_idx368_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw53 : k0_chk53 v1066 v1070 v1074 v1078 v1082 v1086 v1090 v1270 v1272 v1274 v1276 v1278 v1280 v1282 v1286), ∀ a x, ((![v1276, v1286, v1078] : Fin 3 → IVec S16 32) a x).toNat < S224x2x128.size a := fun v1066 v1070 v1074 v1078 v1082 v1086 v1090 v1270 v1272 v1274 v1276 v1278 v1280 v1282 v1286 k0_hw53 => k0_hw53.2.2.2.1
theorem k0_idx369_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw53 : k0_chk53 v1066 v1070 v1074 v1078 v1082 v1086 v1090 v1270 v1272 v1274 v1276 v1278 v1280 v1282 v1286), ∀ a x, ((![v1278, v1286, v1082] : Fin 3 → IVec S16 32) a x).toNat < S224x2x128.size a := fun v1066 v1070 v1074 v1078 v1082 v1086 v1090 v1270 v1272 v1274 v1276 v1278 v1280 v1282 v1286 k0_hw53 => k0_hw53.2.2.2.2.1
theorem k0_idx370_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw53 : k0_chk53 v1066 v1070 v1074 v1078 v1082 v1086 v1090 v1270 v1272 v1274 v1276 v1278 v1280 v1282 v1286), ∀ a x, ((![v1280, v1286, v1086] : Fin 3 → IVec S16 32) a x).toNat < S224x2x128.size a := fun v1066 v1070 v1074 v1078 v1082 v1086 v1090 v1270 v1272 v1274 v1276 v1278 v1280 v1282 v1286 k0_hw53 => k0_hw53.2.2.2.2.2.1
theorem k0_idx371_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw53 : k0_chk53 v1066 v1070 v1074 v1078 v1082 v1086 v1090 v1270 v1272 v1274 v1276 v1278 v1280 v1282 v1286), ∀ a x, ((![v1282, v1286, v1090] : Fin 3 → IVec S16 32) a x).toNat < S224x2x128.size a := fun v1066 v1070 v1074 v1078 v1082 v1086 v1090 v1270 v1272 v1274 v1276 v1278 v1280 v1282 v1286 k0_hw53 => k0_hw53.2.2.2.2.2.2
def k0_off61 (k0_t15 : Fin k0_t15_loop.trips) : Fin 3 → Nat :=
  let c16_i32_706 : BitVec 32 := 16#32
  let c2_i32_700 : BitVec 32 := 2#32
  let c0_i32_608 : BitVec 32 := 0#32
  let c1_i32_610 : BitVec 32 := 1#32
  let arg13 : BitVec 32 := Scf.iv c0_i32_608 c1_i32_610 k0_t15
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c80 : Index := 80#32
  ![v1303.toNat, 0, 80]

def k0_chk54 (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v1066] : Fin 3 → IVec S16 32) a x).toNat < S224x2x128.size a) ∧
  (∀ a x, ((![v1272, v1309, v1070] : Fin 3 → IVec S16 32) a x).toNat < S224x2x128.size a) ∧
  (∀ a x, ((![v1274, v1309, v1074] : Fin 3 → IVec S16 32) a x).toNat < S224x2x128.size a) ∧
  (∀ a x, ((![v1276, v1309, v1078] : Fin 3 → IVec S16 32) a x).toNat < S224x2x128.size a) ∧
  (∀ a x, ((![v1278, v1309, v1082] : Fin 3 → IVec S16 32) a x).toNat < S224x2x128.size a) ∧
  (∀ a x, ((![v1280, v1309, v1086] : Fin 3 → IVec S16 32) a x).toNat < S224x2x128.size a) ∧
  (∀ a x, ((![v1282, v1309, v1090] : Fin 3 → IVec S16 32) a x).toNat < S224x2x128.size a)
theorem k0_idx372_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw54 : k0_chk54 v1066 v1070 v1074 v1078 v1082 v1086 v1090 v1270 v1272 v1274 v1276 v1278 v1280 v1282 v1309), ∀ a x, ((![v1270, v1309, v1066] : Fin 3 → IVec S16 32) a x).toNat < S224x2x128.size a := fun v1066 v1070 v1074 v1078 v1082 v1086 v1090 v1270 v1272 v1274 v1276 v1278 v1280 v1282 v1309 k0_hw54 => k0_hw54.1
theorem k0_idx373_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw54 : k0_chk54 v1066 v1070 v1074 v1078 v1082 v1086 v1090 v1270 v1272 v1274 v1276 v1278 v1280 v1282 v1309), ∀ a x, ((![v1272, v1309, v1070] : Fin 3 → IVec S16 32) a x).toNat < S224x2x128.size a := fun v1066 v1070 v1074 v1078 v1082 v1086 v1090 v1270 v1272 v1274 v1276 v1278 v1280 v1282 v1309 k0_hw54 => k0_hw54.2.1
theorem k0_idx374_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw54 : k0_chk54 v1066 v1070 v1074 v1078 v1082 v1086 v1090 v1270 v1272 v1274 v1276 v1278 v1280 v1282 v1309), ∀ a x, ((![v1274, v1309, v1074] : Fin 3 → IVec S16 32) a x).toNat < S224x2x128.size a := fun v1066 v1070 v1074 v1078 v1082 v1086 v1090 v1270 v1272 v1274 v1276 v1278 v1280 v1282 v1309 k0_hw54 => k0_hw54.2.2.1
theorem k0_idx375_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw54 : k0_chk54 v1066 v1070 v1074 v1078 v1082 v1086 v1090 v1270 v1272 v1274 v1276 v1278 v1280 v1282 v1309), ∀ a x, ((![v1276, v1309, v1078] : Fin 3 → IVec S16 32) a x).toNat < S224x2x128.size a := fun v1066 v1070 v1074 v1078 v1082 v1086 v1090 v1270 v1272 v1274 v1276 v1278 v1280 v1282 v1309 k0_hw54 => k0_hw54.2.2.2.1
theorem k0_idx376_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw54 : k0_chk54 v1066 v1070 v1074 v1078 v1082 v1086 v1090 v1270 v1272 v1274 v1276 v1278 v1280 v1282 v1309), ∀ a x, ((![v1278, v1309, v1082] : Fin 3 → IVec S16 32) a x).toNat < S224x2x128.size a := fun v1066 v1070 v1074 v1078 v1082 v1086 v1090 v1270 v1272 v1274 v1276 v1278 v1280 v1282 v1309 k0_hw54 => k0_hw54.2.2.2.2.1
theorem k0_idx377_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw54 : k0_chk54 v1066 v1070 v1074 v1078 v1082 v1086 v1090 v1270 v1272 v1274 v1276 v1278 v1280 v1282 v1309), ∀ a x, ((![v1280, v1309, v1086] : Fin 3 → IVec S16 32) a x).toNat < S224x2x128.size a := fun v1066 v1070 v1074 v1078 v1082 v1086 v1090 v1270 v1272 v1274 v1276 v1278 v1280 v1282 v1309 k0_hw54 => k0_hw54.2.2.2.2.2.1
theorem k0_idx378_inb : ∀ (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw54 : k0_chk54 v1066 v1070 v1074 v1078 v1082 v1086 v1090 v1270 v1272 v1274 v1276 v1278 v1280 v1282 v1309), ∀ a x, ((![v1282, v1309, v1090] : Fin 3 → IVec S16 32) a x).toNat < S224x2x128.size a := fun v1066 v1070 v1074 v1078 v1082 v1086 v1090 v1270 v1272 v1274 v1276 v1278 v1280 v1282 v1309 k0_hw54 => k0_hw54.2.2.2.2.2.2
def k0_off62 (k0_t15 : Fin k0_t15_loop.trips) : Fin 3 → Nat :=
  let c16_i32_711 : BitVec 32 := 16#32
  let c2_i32_700 : BitVec 32 := 2#32
  let c0_i32_608 : BitVec 32 := 0#32
  let c1_i32_610 : BitVec 32 := 1#32
  let arg13 : BitVec 32 := Scf.iv c0_i32_608 c1_i32_610 k0_t15
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c80_713 : Index := 80#32
  ![v1326.toNat, 1, 80]

def k0_chk55 (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v1066] : Fin 3 → IVec S16 32) a x).toNat < S224x2x128.size a) ∧
  (∀ a x, ((![v1336, v1350, v1070] : Fin 3 → IVec S16 32) a x).toNat < S224x2x128.size a) ∧
  (∀ a x, ((![v1338, v1350, v1074] : Fin 3 → IVec S16 32) a x).toNat < S224x2x128.size a) ∧
  (∀ a x, ((![v1340, v1350, v1078] : Fin 3 → IVec S16 32) a x).toNat < S224x2x128.size a) ∧
  (∀ a x, ((![v1342, v1350, v1082] : Fin 3 → IVec S16 32) a x).toNat < S224x2x128.size a) ∧
  (∀ a x, ((![v1344, v1350, v1086] : Fin 3 → IVec S16 32) a x).toNat < S224x2x128.size a) ∧
  (∀ a x, ((![v1346, v1350, v1090] : Fin 3 → IVec S16 32) a x).toNat < S224x2x128.size a)
theorem k0_idx379_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw55 : k0_chk55 v1066 v1070 v1074 v1078 v1082 v1086 v1090 v1334 v1336 v1338 v1340 v1342 v1344 v1346 v1350), ∀ a x, ((![v1334, v1350, v1066] : Fin 3 → IVec S16 32) a x).toNat < S224x2x128.size a := fun v1066 v1070 v1074 v1078 v1082 v1086 v1090 v1334 v1336 v1338 v1340 v1342 v1344 v1346 v1350 k0_hw55 => k0_hw55.1
theorem k0_idx380_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw55 : k0_chk55 v1066 v1070 v1074 v1078 v1082 v1086 v1090 v1334 v1336 v1338 v1340 v1342 v1344 v1346 v1350), ∀ a x, ((![v1336, v1350, v1070] : Fin 3 → IVec S16 32) a x).toNat < S224x2x128.size a := fun v1066 v1070 v1074 v1078 v1082 v1086 v1090 v1334 v1336 v1338 v1340 v1342 v1344 v1346 v1350 k0_hw55 => k0_hw55.2.1
theorem k0_idx381_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw55 : k0_chk55 v1066 v1070 v1074 v1078 v1082 v1086 v1090 v1334 v1336 v1338 v1340 v1342 v1344 v1346 v1350), ∀ a x, ((![v1338, v1350, v1074] : Fin 3 → IVec S16 32) a x).toNat < S224x2x128.size a := fun v1066 v1070 v1074 v1078 v1082 v1086 v1090 v1334 v1336 v1338 v1340 v1342 v1344 v1346 v1350 k0_hw55 => k0_hw55.2.2.1
theorem k0_idx382_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw55 : k0_chk55 v1066 v1070 v1074 v1078 v1082 v1086 v1090 v1334 v1336 v1338 v1340 v1342 v1344 v1346 v1350), ∀ a x, ((![v1340, v1350, v1078] : Fin 3 → IVec S16 32) a x).toNat < S224x2x128.size a := fun v1066 v1070 v1074 v1078 v1082 v1086 v1090 v1334 v1336 v1338 v1340 v1342 v1344 v1346 v1350 k0_hw55 => k0_hw55.2.2.2.1
theorem k0_idx383_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw55 : k0_chk55 v1066 v1070 v1074 v1078 v1082 v1086 v1090 v1334 v1336 v1338 v1340 v1342 v1344 v1346 v1350), ∀ a x, ((![v1342, v1350, v1082] : Fin 3 → IVec S16 32) a x).toNat < S224x2x128.size a := fun v1066 v1070 v1074 v1078 v1082 v1086 v1090 v1334 v1336 v1338 v1340 v1342 v1344 v1346 v1350 k0_hw55 => k0_hw55.2.2.2.2.1
theorem k0_idx384_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw55 : k0_chk55 v1066 v1070 v1074 v1078 v1082 v1086 v1090 v1334 v1336 v1338 v1340 v1342 v1344 v1346 v1350), ∀ a x, ((![v1344, v1350, v1086] : Fin 3 → IVec S16 32) a x).toNat < S224x2x128.size a := fun v1066 v1070 v1074 v1078 v1082 v1086 v1090 v1334 v1336 v1338 v1340 v1342 v1344 v1346 v1350 k0_hw55 => k0_hw55.2.2.2.2.2.1
theorem k0_idx385_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw55 : k0_chk55 v1066 v1070 v1074 v1078 v1082 v1086 v1090 v1334 v1336 v1338 v1340 v1342 v1344 v1346 v1350), ∀ a x, ((![v1346, v1350, v1090] : Fin 3 → IVec S16 32) a x).toNat < S224x2x128.size a := fun v1066 v1070 v1074 v1078 v1082 v1086 v1090 v1334 v1336 v1338 v1340 v1342 v1344 v1346 v1350 k0_hw55 => k0_hw55.2.2.2.2.2.2
def k0_off63 (k0_t15 : Fin k0_t15_loop.trips) : Fin 3 → Nat :=
  let c16_i32_721 : BitVec 32 := 16#32
  let c2_i32_714 : BitVec 32 := 2#32
  let c0_i32_608 : BitVec 32 := 0#32
  let c1_i32_610 : BitVec 32 := 1#32
  let arg13 : BitVec 32 := Scf.iv c0_i32_608 c1_i32_610 k0_t15
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c80_723 : Index := 80#32
  ![v1367.toNat, 0, 80]

def k0_chk56 (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v1066] : Fin 3 → IVec S16 32) a x).toNat < S224x2x128.size a) ∧
  (∀ a x, ((![v1336, v1373, v1070] : Fin 3 → IVec S16 32) a x).toNat < S224x2x128.size a) ∧
  (∀ a x, ((![v1338, v1373, v1074] : Fin 3 → IVec S16 32) a x).toNat < S224x2x128.size a) ∧
  (∀ a x, ((![v1340, v1373, v1078] : Fin 3 → IVec S16 32) a x).toNat < S224x2x128.size a) ∧
  (∀ a x, ((![v1342, v1373, v1082] : Fin 3 → IVec S16 32) a x).toNat < S224x2x128.size a) ∧
  (∀ a x, ((![v1344, v1373, v1086] : Fin 3 → IVec S16 32) a x).toNat < S224x2x128.size a) ∧
  (∀ a x, ((![v1346, v1373, v1090] : Fin 3 → IVec S16 32) a x).toNat < S224x2x128.size a)
theorem k0_idx386_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw56 : k0_chk56 v1066 v1070 v1074 v1078 v1082 v1086 v1090 v1334 v1336 v1338 v1340 v1342 v1344 v1346 v1373), ∀ a x, ((![v1334, v1373, v1066] : Fin 3 → IVec S16 32) a x).toNat < S224x2x128.size a := fun v1066 v1070 v1074 v1078 v1082 v1086 v1090 v1334 v1336 v1338 v1340 v1342 v1344 v1346 v1373 k0_hw56 => k0_hw56.1
theorem k0_idx387_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw56 : k0_chk56 v1066 v1070 v1074 v1078 v1082 v1086 v1090 v1334 v1336 v1338 v1340 v1342 v1344 v1346 v1373), ∀ a x, ((![v1336, v1373, v1070] : Fin 3 → IVec S16 32) a x).toNat < S224x2x128.size a := fun v1066 v1070 v1074 v1078 v1082 v1086 v1090 v1334 v1336 v1338 v1340 v1342 v1344 v1346 v1373 k0_hw56 => k0_hw56.2.1
theorem k0_idx388_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw56 : k0_chk56 v1066 v1070 v1074 v1078 v1082 v1086 v1090 v1334 v1336 v1338 v1340 v1342 v1344 v1346 v1373), ∀ a x, ((![v1338, v1373, v1074] : Fin 3 → IVec S16 32) a x).toNat < S224x2x128.size a := fun v1066 v1070 v1074 v1078 v1082 v1086 v1090 v1334 v1336 v1338 v1340 v1342 v1344 v1346 v1373 k0_hw56 => k0_hw56.2.2.1
theorem k0_idx389_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw56 : k0_chk56 v1066 v1070 v1074 v1078 v1082 v1086 v1090 v1334 v1336 v1338 v1340 v1342 v1344 v1346 v1373), ∀ a x, ((![v1340, v1373, v1078] : Fin 3 → IVec S16 32) a x).toNat < S224x2x128.size a := fun v1066 v1070 v1074 v1078 v1082 v1086 v1090 v1334 v1336 v1338 v1340 v1342 v1344 v1346 v1373 k0_hw56 => k0_hw56.2.2.2.1
theorem k0_idx390_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw56 : k0_chk56 v1066 v1070 v1074 v1078 v1082 v1086 v1090 v1334 v1336 v1338 v1340 v1342 v1344 v1346 v1373), ∀ a x, ((![v1342, v1373, v1082] : Fin 3 → IVec S16 32) a x).toNat < S224x2x128.size a := fun v1066 v1070 v1074 v1078 v1082 v1086 v1090 v1334 v1336 v1338 v1340 v1342 v1344 v1346 v1373 k0_hw56 => k0_hw56.2.2.2.2.1
theorem k0_idx391_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw56 : k0_chk56 v1066 v1070 v1074 v1078 v1082 v1086 v1090 v1334 v1336 v1338 v1340 v1342 v1344 v1346 v1373), ∀ a x, ((![v1344, v1373, v1086] : Fin 3 → IVec S16 32) a x).toNat < S224x2x128.size a := fun v1066 v1070 v1074 v1078 v1082 v1086 v1090 v1334 v1336 v1338 v1340 v1342 v1344 v1346 v1373 k0_hw56 => k0_hw56.2.2.2.2.2.1
theorem k0_idx392_inb : ∀ (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw56 : k0_chk56 v1066 v1070 v1074 v1078 v1082 v1086 v1090 v1334 v1336 v1338 v1340 v1342 v1344 v1346 v1373), ∀ a x, ((![v1346, v1373, v1090] : Fin 3 → IVec S16 32) a x).toNat < S224x2x128.size a := fun v1066 v1070 v1074 v1078 v1082 v1086 v1090 v1334 v1336 v1338 v1340 v1342 v1344 v1346 v1373 k0_hw56 => k0_hw56.2.2.2.2.2.2
def k0_off64 (k0_t15 : Fin k0_t15_loop.trips) : Fin 3 → Nat :=
  let c16_i32_727 : BitVec 32 := 16#32
  let c2_i32_714 : BitVec 32 := 2#32
  let c0_i32_608 : BitVec 32 := 0#32
  let c1_i32_610 : BitVec 32 := 1#32
  let arg13 : BitVec 32 := Scf.iv c0_i32_608 c1_i32_610 k0_t15
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c80_729 : Index := 80#32
  ![v1390.toNat, 1, 80]
@[reducible] def k0_t16_loop : Scf.Loop 32 :=
  let c0_i32_648 : BitVec 32 := 0#32
  let c8_i32_649 : BitVec 32 := 8#32
  let v1178 : BitVec 32 := Scalar.addi c0_i32_648 c8_i32_649
  let c1_i32_650 : BitVec 32 := 1#32
  ⟨c0_i32_648, v1178, c1_i32_650⟩

def k0_chk57 (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v1139] : Fin 3 → IVec S16 32) a x).toNat < S224x2x128.size a) ∧
  (∀ a x, ((![v1272, v1286, v1143] : Fin 3 → IVec S16 32) a x).toNat < S224x2x128.size a) ∧
  (∀ a x, ((![v1274, v1286, v1147] : Fin 3 → IVec S16 32) a x).toNat < S224x2x128.size a) ∧
  (∀ a x, ((![v1276, v1286, v1151] : Fin 3 → IVec S16 32) a x).toNat < S224x2x128.size a) ∧
  (∀ a x, ((![v1278, v1286, v1155] : Fin 3 → IVec S16 32) a x).toNat < S224x2x128.size a) ∧
  (∀ a x, ((![v1280, v1286, v1159] : Fin 3 → IVec S16 32) a x).toNat < S224x2x128.size a) ∧
  (∀ a x, ((![v1282, v1286, v1163] : Fin 3 → IVec S16 32) a x).toNat < S224x2x128.size a)
theorem k0_idx393_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw57 : k0_chk57 v1139 v1143 v1147 v1151 v1155 v1159 v1163 v1270 v1272 v1274 v1276 v1278 v1280 v1282 v1286), ∀ a x, ((![v1270, v1286, v1139] : Fin 3 → IVec S16 32) a x).toNat < S224x2x128.size a := fun v1139 v1143 v1147 v1151 v1155 v1159 v1163 v1270 v1272 v1274 v1276 v1278 v1280 v1282 v1286 k0_hw57 => k0_hw57.1
theorem k0_idx394_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw57 : k0_chk57 v1139 v1143 v1147 v1151 v1155 v1159 v1163 v1270 v1272 v1274 v1276 v1278 v1280 v1282 v1286), ∀ a x, ((![v1272, v1286, v1143] : Fin 3 → IVec S16 32) a x).toNat < S224x2x128.size a := fun v1139 v1143 v1147 v1151 v1155 v1159 v1163 v1270 v1272 v1274 v1276 v1278 v1280 v1282 v1286 k0_hw57 => k0_hw57.2.1
theorem k0_idx395_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw57 : k0_chk57 v1139 v1143 v1147 v1151 v1155 v1159 v1163 v1270 v1272 v1274 v1276 v1278 v1280 v1282 v1286), ∀ a x, ((![v1274, v1286, v1147] : Fin 3 → IVec S16 32) a x).toNat < S224x2x128.size a := fun v1139 v1143 v1147 v1151 v1155 v1159 v1163 v1270 v1272 v1274 v1276 v1278 v1280 v1282 v1286 k0_hw57 => k0_hw57.2.2.1
theorem k0_idx396_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw57 : k0_chk57 v1139 v1143 v1147 v1151 v1155 v1159 v1163 v1270 v1272 v1274 v1276 v1278 v1280 v1282 v1286), ∀ a x, ((![v1276, v1286, v1151] : Fin 3 → IVec S16 32) a x).toNat < S224x2x128.size a := fun v1139 v1143 v1147 v1151 v1155 v1159 v1163 v1270 v1272 v1274 v1276 v1278 v1280 v1282 v1286 k0_hw57 => k0_hw57.2.2.2.1
theorem k0_idx397_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw57 : k0_chk57 v1139 v1143 v1147 v1151 v1155 v1159 v1163 v1270 v1272 v1274 v1276 v1278 v1280 v1282 v1286), ∀ a x, ((![v1278, v1286, v1155] : Fin 3 → IVec S16 32) a x).toNat < S224x2x128.size a := fun v1139 v1143 v1147 v1151 v1155 v1159 v1163 v1270 v1272 v1274 v1276 v1278 v1280 v1282 v1286 k0_hw57 => k0_hw57.2.2.2.2.1
theorem k0_idx398_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw57 : k0_chk57 v1139 v1143 v1147 v1151 v1155 v1159 v1163 v1270 v1272 v1274 v1276 v1278 v1280 v1282 v1286), ∀ a x, ((![v1280, v1286, v1159] : Fin 3 → IVec S16 32) a x).toNat < S224x2x128.size a := fun v1139 v1143 v1147 v1151 v1155 v1159 v1163 v1270 v1272 v1274 v1276 v1278 v1280 v1282 v1286 k0_hw57 => k0_hw57.2.2.2.2.2.1
theorem k0_idx399_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw57 : k0_chk57 v1139 v1143 v1147 v1151 v1155 v1159 v1163 v1270 v1272 v1274 v1276 v1278 v1280 v1282 v1286), ∀ a x, ((![v1282, v1286, v1163] : Fin 3 → IVec S16 32) a x).toNat < S224x2x128.size a := fun v1139 v1143 v1147 v1151 v1155 v1159 v1163 v1270 v1272 v1274 v1276 v1278 v1280 v1282 v1286 k0_hw57 => k0_hw57.2.2.2.2.2.2
def k0_off65 (k0_t16 : Fin k0_t16_loop.trips) : Fin 3 → Nat :=
  let c16_i32_706 : BitVec 32 := 16#32
  let c2_i32_700 : BitVec 32 := 2#32
  let c0_i32_648 : BitVec 32 := 0#32
  let c1_i32_650 : BitVec 32 := 1#32
  let arg13 : BitVec 32 := Scf.iv c0_i32_648 c1_i32_650 k0_t16
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c96 : Index := 96#32
  ![v1303.toNat, 0, 96]

def k0_chk58 (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v1139] : Fin 3 → IVec S16 32) a x).toNat < S224x2x128.size a) ∧
  (∀ a x, ((![v1272, v1309, v1143] : Fin 3 → IVec S16 32) a x).toNat < S224x2x128.size a) ∧
  (∀ a x, ((![v1274, v1309, v1147] : Fin 3 → IVec S16 32) a x).toNat < S224x2x128.size a) ∧
  (∀ a x, ((![v1276, v1309, v1151] : Fin 3 → IVec S16 32) a x).toNat < S224x2x128.size a) ∧
  (∀ a x, ((![v1278, v1309, v1155] : Fin 3 → IVec S16 32) a x).toNat < S224x2x128.size a) ∧
  (∀ a x, ((![v1280, v1309, v1159] : Fin 3 → IVec S16 32) a x).toNat < S224x2x128.size a) ∧
  (∀ a x, ((![v1282, v1309, v1163] : Fin 3 → IVec S16 32) a x).toNat < S224x2x128.size a)
theorem k0_idx400_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw58 : k0_chk58 v1139 v1143 v1147 v1151 v1155 v1159 v1163 v1270 v1272 v1274 v1276 v1278 v1280 v1282 v1309), ∀ a x, ((![v1270, v1309, v1139] : Fin 3 → IVec S16 32) a x).toNat < S224x2x128.size a := fun v1139 v1143 v1147 v1151 v1155 v1159 v1163 v1270 v1272 v1274 v1276 v1278 v1280 v1282 v1309 k0_hw58 => k0_hw58.1
theorem k0_idx401_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw58 : k0_chk58 v1139 v1143 v1147 v1151 v1155 v1159 v1163 v1270 v1272 v1274 v1276 v1278 v1280 v1282 v1309), ∀ a x, ((![v1272, v1309, v1143] : Fin 3 → IVec S16 32) a x).toNat < S224x2x128.size a := fun v1139 v1143 v1147 v1151 v1155 v1159 v1163 v1270 v1272 v1274 v1276 v1278 v1280 v1282 v1309 k0_hw58 => k0_hw58.2.1
theorem k0_idx402_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw58 : k0_chk58 v1139 v1143 v1147 v1151 v1155 v1159 v1163 v1270 v1272 v1274 v1276 v1278 v1280 v1282 v1309), ∀ a x, ((![v1274, v1309, v1147] : Fin 3 → IVec S16 32) a x).toNat < S224x2x128.size a := fun v1139 v1143 v1147 v1151 v1155 v1159 v1163 v1270 v1272 v1274 v1276 v1278 v1280 v1282 v1309 k0_hw58 => k0_hw58.2.2.1
theorem k0_idx403_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw58 : k0_chk58 v1139 v1143 v1147 v1151 v1155 v1159 v1163 v1270 v1272 v1274 v1276 v1278 v1280 v1282 v1309), ∀ a x, ((![v1276, v1309, v1151] : Fin 3 → IVec S16 32) a x).toNat < S224x2x128.size a := fun v1139 v1143 v1147 v1151 v1155 v1159 v1163 v1270 v1272 v1274 v1276 v1278 v1280 v1282 v1309 k0_hw58 => k0_hw58.2.2.2.1
theorem k0_idx404_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw58 : k0_chk58 v1139 v1143 v1147 v1151 v1155 v1159 v1163 v1270 v1272 v1274 v1276 v1278 v1280 v1282 v1309), ∀ a x, ((![v1278, v1309, v1155] : Fin 3 → IVec S16 32) a x).toNat < S224x2x128.size a := fun v1139 v1143 v1147 v1151 v1155 v1159 v1163 v1270 v1272 v1274 v1276 v1278 v1280 v1282 v1309 k0_hw58 => k0_hw58.2.2.2.2.1
theorem k0_idx405_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw58 : k0_chk58 v1139 v1143 v1147 v1151 v1155 v1159 v1163 v1270 v1272 v1274 v1276 v1278 v1280 v1282 v1309), ∀ a x, ((![v1280, v1309, v1159] : Fin 3 → IVec S16 32) a x).toNat < S224x2x128.size a := fun v1139 v1143 v1147 v1151 v1155 v1159 v1163 v1270 v1272 v1274 v1276 v1278 v1280 v1282 v1309 k0_hw58 => k0_hw58.2.2.2.2.2.1
theorem k0_idx406_inb : ∀ (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw58 : k0_chk58 v1139 v1143 v1147 v1151 v1155 v1159 v1163 v1270 v1272 v1274 v1276 v1278 v1280 v1282 v1309), ∀ a x, ((![v1282, v1309, v1163] : Fin 3 → IVec S16 32) a x).toNat < S224x2x128.size a := fun v1139 v1143 v1147 v1151 v1155 v1159 v1163 v1270 v1272 v1274 v1276 v1278 v1280 v1282 v1309 k0_hw58 => k0_hw58.2.2.2.2.2.2
def k0_off66 (k0_t16 : Fin k0_t16_loop.trips) : Fin 3 → Nat :=
  let c16_i32_711 : BitVec 32 := 16#32
  let c2_i32_700 : BitVec 32 := 2#32
  let c0_i32_648 : BitVec 32 := 0#32
  let c1_i32_650 : BitVec 32 := 1#32
  let arg13 : BitVec 32 := Scf.iv c0_i32_648 c1_i32_650 k0_t16
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c96_713 : Index := 96#32
  ![v1326.toNat, 1, 96]

def k0_chk59 (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v1139] : Fin 3 → IVec S16 32) a x).toNat < S224x2x128.size a) ∧
  (∀ a x, ((![v1336, v1350, v1143] : Fin 3 → IVec S16 32) a x).toNat < S224x2x128.size a) ∧
  (∀ a x, ((![v1338, v1350, v1147] : Fin 3 → IVec S16 32) a x).toNat < S224x2x128.size a) ∧
  (∀ a x, ((![v1340, v1350, v1151] : Fin 3 → IVec S16 32) a x).toNat < S224x2x128.size a) ∧
  (∀ a x, ((![v1342, v1350, v1155] : Fin 3 → IVec S16 32) a x).toNat < S224x2x128.size a) ∧
  (∀ a x, ((![v1344, v1350, v1159] : Fin 3 → IVec S16 32) a x).toNat < S224x2x128.size a) ∧
  (∀ a x, ((![v1346, v1350, v1163] : Fin 3 → IVec S16 32) a x).toNat < S224x2x128.size a)
theorem k0_idx407_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw59 : k0_chk59 v1139 v1143 v1147 v1151 v1155 v1159 v1163 v1334 v1336 v1338 v1340 v1342 v1344 v1346 v1350), ∀ a x, ((![v1334, v1350, v1139] : Fin 3 → IVec S16 32) a x).toNat < S224x2x128.size a := fun v1139 v1143 v1147 v1151 v1155 v1159 v1163 v1334 v1336 v1338 v1340 v1342 v1344 v1346 v1350 k0_hw59 => k0_hw59.1
theorem k0_idx408_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw59 : k0_chk59 v1139 v1143 v1147 v1151 v1155 v1159 v1163 v1334 v1336 v1338 v1340 v1342 v1344 v1346 v1350), ∀ a x, ((![v1336, v1350, v1143] : Fin 3 → IVec S16 32) a x).toNat < S224x2x128.size a := fun v1139 v1143 v1147 v1151 v1155 v1159 v1163 v1334 v1336 v1338 v1340 v1342 v1344 v1346 v1350 k0_hw59 => k0_hw59.2.1
theorem k0_idx409_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw59 : k0_chk59 v1139 v1143 v1147 v1151 v1155 v1159 v1163 v1334 v1336 v1338 v1340 v1342 v1344 v1346 v1350), ∀ a x, ((![v1338, v1350, v1147] : Fin 3 → IVec S16 32) a x).toNat < S224x2x128.size a := fun v1139 v1143 v1147 v1151 v1155 v1159 v1163 v1334 v1336 v1338 v1340 v1342 v1344 v1346 v1350 k0_hw59 => k0_hw59.2.2.1
theorem k0_idx410_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw59 : k0_chk59 v1139 v1143 v1147 v1151 v1155 v1159 v1163 v1334 v1336 v1338 v1340 v1342 v1344 v1346 v1350), ∀ a x, ((![v1340, v1350, v1151] : Fin 3 → IVec S16 32) a x).toNat < S224x2x128.size a := fun v1139 v1143 v1147 v1151 v1155 v1159 v1163 v1334 v1336 v1338 v1340 v1342 v1344 v1346 v1350 k0_hw59 => k0_hw59.2.2.2.1
theorem k0_idx411_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw59 : k0_chk59 v1139 v1143 v1147 v1151 v1155 v1159 v1163 v1334 v1336 v1338 v1340 v1342 v1344 v1346 v1350), ∀ a x, ((![v1342, v1350, v1155] : Fin 3 → IVec S16 32) a x).toNat < S224x2x128.size a := fun v1139 v1143 v1147 v1151 v1155 v1159 v1163 v1334 v1336 v1338 v1340 v1342 v1344 v1346 v1350 k0_hw59 => k0_hw59.2.2.2.2.1
theorem k0_idx412_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw59 : k0_chk59 v1139 v1143 v1147 v1151 v1155 v1159 v1163 v1334 v1336 v1338 v1340 v1342 v1344 v1346 v1350), ∀ a x, ((![v1344, v1350, v1159] : Fin 3 → IVec S16 32) a x).toNat < S224x2x128.size a := fun v1139 v1143 v1147 v1151 v1155 v1159 v1163 v1334 v1336 v1338 v1340 v1342 v1344 v1346 v1350 k0_hw59 => k0_hw59.2.2.2.2.2.1
theorem k0_idx413_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw59 : k0_chk59 v1139 v1143 v1147 v1151 v1155 v1159 v1163 v1334 v1336 v1338 v1340 v1342 v1344 v1346 v1350), ∀ a x, ((![v1346, v1350, v1163] : Fin 3 → IVec S16 32) a x).toNat < S224x2x128.size a := fun v1139 v1143 v1147 v1151 v1155 v1159 v1163 v1334 v1336 v1338 v1340 v1342 v1344 v1346 v1350 k0_hw59 => k0_hw59.2.2.2.2.2.2
def k0_off67 (k0_t16 : Fin k0_t16_loop.trips) : Fin 3 → Nat :=
  let c16_i32_721 : BitVec 32 := 16#32
  let c2_i32_714 : BitVec 32 := 2#32
  let c0_i32_648 : BitVec 32 := 0#32
  let c1_i32_650 : BitVec 32 := 1#32
  let arg13 : BitVec 32 := Scf.iv c0_i32_648 c1_i32_650 k0_t16
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c96_723 : Index := 96#32
  ![v1367.toNat, 0, 96]

def k0_chk60 (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v1139] : Fin 3 → IVec S16 32) a x).toNat < S224x2x128.size a) ∧
  (∀ a x, ((![v1336, v1373, v1143] : Fin 3 → IVec S16 32) a x).toNat < S224x2x128.size a) ∧
  (∀ a x, ((![v1338, v1373, v1147] : Fin 3 → IVec S16 32) a x).toNat < S224x2x128.size a) ∧
  (∀ a x, ((![v1340, v1373, v1151] : Fin 3 → IVec S16 32) a x).toNat < S224x2x128.size a) ∧
  (∀ a x, ((![v1342, v1373, v1155] : Fin 3 → IVec S16 32) a x).toNat < S224x2x128.size a) ∧
  (∀ a x, ((![v1344, v1373, v1159] : Fin 3 → IVec S16 32) a x).toNat < S224x2x128.size a) ∧
  (∀ a x, ((![v1346, v1373, v1163] : Fin 3 → IVec S16 32) a x).toNat < S224x2x128.size a)
theorem k0_idx414_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw60 : k0_chk60 v1139 v1143 v1147 v1151 v1155 v1159 v1163 v1334 v1336 v1338 v1340 v1342 v1344 v1346 v1373), ∀ a x, ((![v1334, v1373, v1139] : Fin 3 → IVec S16 32) a x).toNat < S224x2x128.size a := fun v1139 v1143 v1147 v1151 v1155 v1159 v1163 v1334 v1336 v1338 v1340 v1342 v1344 v1346 v1373 k0_hw60 => k0_hw60.1
theorem k0_idx415_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw60 : k0_chk60 v1139 v1143 v1147 v1151 v1155 v1159 v1163 v1334 v1336 v1338 v1340 v1342 v1344 v1346 v1373), ∀ a x, ((![v1336, v1373, v1143] : Fin 3 → IVec S16 32) a x).toNat < S224x2x128.size a := fun v1139 v1143 v1147 v1151 v1155 v1159 v1163 v1334 v1336 v1338 v1340 v1342 v1344 v1346 v1373 k0_hw60 => k0_hw60.2.1
theorem k0_idx416_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw60 : k0_chk60 v1139 v1143 v1147 v1151 v1155 v1159 v1163 v1334 v1336 v1338 v1340 v1342 v1344 v1346 v1373), ∀ a x, ((![v1338, v1373, v1147] : Fin 3 → IVec S16 32) a x).toNat < S224x2x128.size a := fun v1139 v1143 v1147 v1151 v1155 v1159 v1163 v1334 v1336 v1338 v1340 v1342 v1344 v1346 v1373 k0_hw60 => k0_hw60.2.2.1
theorem k0_idx417_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw60 : k0_chk60 v1139 v1143 v1147 v1151 v1155 v1159 v1163 v1334 v1336 v1338 v1340 v1342 v1344 v1346 v1373), ∀ a x, ((![v1340, v1373, v1151] : Fin 3 → IVec S16 32) a x).toNat < S224x2x128.size a := fun v1139 v1143 v1147 v1151 v1155 v1159 v1163 v1334 v1336 v1338 v1340 v1342 v1344 v1346 v1373 k0_hw60 => k0_hw60.2.2.2.1
theorem k0_idx418_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw60 : k0_chk60 v1139 v1143 v1147 v1151 v1155 v1159 v1163 v1334 v1336 v1338 v1340 v1342 v1344 v1346 v1373), ∀ a x, ((![v1342, v1373, v1155] : Fin 3 → IVec S16 32) a x).toNat < S224x2x128.size a := fun v1139 v1143 v1147 v1151 v1155 v1159 v1163 v1334 v1336 v1338 v1340 v1342 v1344 v1346 v1373 k0_hw60 => k0_hw60.2.2.2.2.1
theorem k0_idx419_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw60 : k0_chk60 v1139 v1143 v1147 v1151 v1155 v1159 v1163 v1334 v1336 v1338 v1340 v1342 v1344 v1346 v1373), ∀ a x, ((![v1344, v1373, v1159] : Fin 3 → IVec S16 32) a x).toNat < S224x2x128.size a := fun v1139 v1143 v1147 v1151 v1155 v1159 v1163 v1334 v1336 v1338 v1340 v1342 v1344 v1346 v1373 k0_hw60 => k0_hw60.2.2.2.2.2.1
theorem k0_idx420_inb : ∀ (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw60 : k0_chk60 v1139 v1143 v1147 v1151 v1155 v1159 v1163 v1334 v1336 v1338 v1340 v1342 v1344 v1346 v1373), ∀ a x, ((![v1346, v1373, v1163] : Fin 3 → IVec S16 32) a x).toNat < S224x2x128.size a := fun v1139 v1143 v1147 v1151 v1155 v1159 v1163 v1334 v1336 v1338 v1340 v1342 v1344 v1346 v1373 k0_hw60 => k0_hw60.2.2.2.2.2.2
def k0_off68 (k0_t16 : Fin k0_t16_loop.trips) : Fin 3 → Nat :=
  let c16_i32_727 : BitVec 32 := 16#32
  let c2_i32_714 : BitVec 32 := 2#32
  let c0_i32_648 : BitVec 32 := 0#32
  let c1_i32_650 : BitVec 32 := 1#32
  let arg13 : BitVec 32 := Scf.iv c0_i32_648 c1_i32_650 k0_t16
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c96_729 : Index := 96#32
  ![v1390.toNat, 1, 96]
@[reducible] def k0_t17_loop : Scf.Loop 32 :=
  let c0_i32_688 : BitVec 32 := 0#32
  let c8_i32_689 : BitVec 32 := 8#32
  let v1251 : BitVec 32 := Scalar.addi c0_i32_688 c8_i32_689
  let c1_i32_690 : BitVec 32 := 1#32
  ⟨c0_i32_688, v1251, c1_i32_690⟩

def k0_chk61 (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v1212] : Fin 3 → IVec S16 32) a x).toNat < S224x2x128.size a) ∧
  (∀ a x, ((![v1272, v1286, v1216] : Fin 3 → IVec S16 32) a x).toNat < S224x2x128.size a) ∧
  (∀ a x, ((![v1274, v1286, v1220] : Fin 3 → IVec S16 32) a x).toNat < S224x2x128.size a) ∧
  (∀ a x, ((![v1276, v1286, v1224] : Fin 3 → IVec S16 32) a x).toNat < S224x2x128.size a) ∧
  (∀ a x, ((![v1278, v1286, v1228] : Fin 3 → IVec S16 32) a x).toNat < S224x2x128.size a) ∧
  (∀ a x, ((![v1280, v1286, v1232] : Fin 3 → IVec S16 32) a x).toNat < S224x2x128.size a) ∧
  (∀ a x, ((![v1282, v1286, v1236] : Fin 3 → IVec S16 32) a x).toNat < S224x2x128.size a)
theorem k0_idx421_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw61 : k0_chk61 v1212 v1216 v1220 v1224 v1228 v1232 v1236 v1270 v1272 v1274 v1276 v1278 v1280 v1282 v1286), ∀ a x, ((![v1270, v1286, v1212] : Fin 3 → IVec S16 32) a x).toNat < S224x2x128.size a := fun v1212 v1216 v1220 v1224 v1228 v1232 v1236 v1270 v1272 v1274 v1276 v1278 v1280 v1282 v1286 k0_hw61 => k0_hw61.1
theorem k0_idx422_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw61 : k0_chk61 v1212 v1216 v1220 v1224 v1228 v1232 v1236 v1270 v1272 v1274 v1276 v1278 v1280 v1282 v1286), ∀ a x, ((![v1272, v1286, v1216] : Fin 3 → IVec S16 32) a x).toNat < S224x2x128.size a := fun v1212 v1216 v1220 v1224 v1228 v1232 v1236 v1270 v1272 v1274 v1276 v1278 v1280 v1282 v1286 k0_hw61 => k0_hw61.2.1
theorem k0_idx423_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw61 : k0_chk61 v1212 v1216 v1220 v1224 v1228 v1232 v1236 v1270 v1272 v1274 v1276 v1278 v1280 v1282 v1286), ∀ a x, ((![v1274, v1286, v1220] : Fin 3 → IVec S16 32) a x).toNat < S224x2x128.size a := fun v1212 v1216 v1220 v1224 v1228 v1232 v1236 v1270 v1272 v1274 v1276 v1278 v1280 v1282 v1286 k0_hw61 => k0_hw61.2.2.1
theorem k0_idx424_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw61 : k0_chk61 v1212 v1216 v1220 v1224 v1228 v1232 v1236 v1270 v1272 v1274 v1276 v1278 v1280 v1282 v1286), ∀ a x, ((![v1276, v1286, v1224] : Fin 3 → IVec S16 32) a x).toNat < S224x2x128.size a := fun v1212 v1216 v1220 v1224 v1228 v1232 v1236 v1270 v1272 v1274 v1276 v1278 v1280 v1282 v1286 k0_hw61 => k0_hw61.2.2.2.1
theorem k0_idx425_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw61 : k0_chk61 v1212 v1216 v1220 v1224 v1228 v1232 v1236 v1270 v1272 v1274 v1276 v1278 v1280 v1282 v1286), ∀ a x, ((![v1278, v1286, v1228] : Fin 3 → IVec S16 32) a x).toNat < S224x2x128.size a := fun v1212 v1216 v1220 v1224 v1228 v1232 v1236 v1270 v1272 v1274 v1276 v1278 v1280 v1282 v1286 k0_hw61 => k0_hw61.2.2.2.2.1
theorem k0_idx426_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw61 : k0_chk61 v1212 v1216 v1220 v1224 v1228 v1232 v1236 v1270 v1272 v1274 v1276 v1278 v1280 v1282 v1286), ∀ a x, ((![v1280, v1286, v1232] : Fin 3 → IVec S16 32) a x).toNat < S224x2x128.size a := fun v1212 v1216 v1220 v1224 v1228 v1232 v1236 v1270 v1272 v1274 v1276 v1278 v1280 v1282 v1286 k0_hw61 => k0_hw61.2.2.2.2.2.1
theorem k0_idx427_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw61 : k0_chk61 v1212 v1216 v1220 v1224 v1228 v1232 v1236 v1270 v1272 v1274 v1276 v1278 v1280 v1282 v1286), ∀ a x, ((![v1282, v1286, v1236] : Fin 3 → IVec S16 32) a x).toNat < S224x2x128.size a := fun v1212 v1216 v1220 v1224 v1228 v1232 v1236 v1270 v1272 v1274 v1276 v1278 v1280 v1282 v1286 k0_hw61 => k0_hw61.2.2.2.2.2.2
def k0_off69 (k0_t17 : Fin k0_t17_loop.trips) : Fin 3 → Nat :=
  let c16_i32_706 : BitVec 32 := 16#32
  let c2_i32_700 : BitVec 32 := 2#32
  let c0_i32_688 : BitVec 32 := 0#32
  let c1_i32_690 : BitVec 32 := 1#32
  let arg13 : BitVec 32 := Scf.iv c0_i32_688 c1_i32_690 k0_t17
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c112 : Index := 112#32
  ![v1303.toNat, 0, 112]

def k0_chk62 (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v1212] : Fin 3 → IVec S16 32) a x).toNat < S224x2x128.size a) ∧
  (∀ a x, ((![v1272, v1309, v1216] : Fin 3 → IVec S16 32) a x).toNat < S224x2x128.size a) ∧
  (∀ a x, ((![v1274, v1309, v1220] : Fin 3 → IVec S16 32) a x).toNat < S224x2x128.size a) ∧
  (∀ a x, ((![v1276, v1309, v1224] : Fin 3 → IVec S16 32) a x).toNat < S224x2x128.size a) ∧
  (∀ a x, ((![v1278, v1309, v1228] : Fin 3 → IVec S16 32) a x).toNat < S224x2x128.size a) ∧
  (∀ a x, ((![v1280, v1309, v1232] : Fin 3 → IVec S16 32) a x).toNat < S224x2x128.size a) ∧
  (∀ a x, ((![v1282, v1309, v1236] : Fin 3 → IVec S16 32) a x).toNat < S224x2x128.size a)
theorem k0_idx428_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw62 : k0_chk62 v1212 v1216 v1220 v1224 v1228 v1232 v1236 v1270 v1272 v1274 v1276 v1278 v1280 v1282 v1309), ∀ a x, ((![v1270, v1309, v1212] : Fin 3 → IVec S16 32) a x).toNat < S224x2x128.size a := fun v1212 v1216 v1220 v1224 v1228 v1232 v1236 v1270 v1272 v1274 v1276 v1278 v1280 v1282 v1309 k0_hw62 => k0_hw62.1
theorem k0_idx429_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw62 : k0_chk62 v1212 v1216 v1220 v1224 v1228 v1232 v1236 v1270 v1272 v1274 v1276 v1278 v1280 v1282 v1309), ∀ a x, ((![v1272, v1309, v1216] : Fin 3 → IVec S16 32) a x).toNat < S224x2x128.size a := fun v1212 v1216 v1220 v1224 v1228 v1232 v1236 v1270 v1272 v1274 v1276 v1278 v1280 v1282 v1309 k0_hw62 => k0_hw62.2.1
theorem k0_idx430_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw62 : k0_chk62 v1212 v1216 v1220 v1224 v1228 v1232 v1236 v1270 v1272 v1274 v1276 v1278 v1280 v1282 v1309), ∀ a x, ((![v1274, v1309, v1220] : Fin 3 → IVec S16 32) a x).toNat < S224x2x128.size a := fun v1212 v1216 v1220 v1224 v1228 v1232 v1236 v1270 v1272 v1274 v1276 v1278 v1280 v1282 v1309 k0_hw62 => k0_hw62.2.2.1
theorem k0_idx431_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw62 : k0_chk62 v1212 v1216 v1220 v1224 v1228 v1232 v1236 v1270 v1272 v1274 v1276 v1278 v1280 v1282 v1309), ∀ a x, ((![v1276, v1309, v1224] : Fin 3 → IVec S16 32) a x).toNat < S224x2x128.size a := fun v1212 v1216 v1220 v1224 v1228 v1232 v1236 v1270 v1272 v1274 v1276 v1278 v1280 v1282 v1309 k0_hw62 => k0_hw62.2.2.2.1
theorem k0_idx432_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw62 : k0_chk62 v1212 v1216 v1220 v1224 v1228 v1232 v1236 v1270 v1272 v1274 v1276 v1278 v1280 v1282 v1309), ∀ a x, ((![v1278, v1309, v1228] : Fin 3 → IVec S16 32) a x).toNat < S224x2x128.size a := fun v1212 v1216 v1220 v1224 v1228 v1232 v1236 v1270 v1272 v1274 v1276 v1278 v1280 v1282 v1309 k0_hw62 => k0_hw62.2.2.2.2.1
theorem k0_idx433_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw62 : k0_chk62 v1212 v1216 v1220 v1224 v1228 v1232 v1236 v1270 v1272 v1274 v1276 v1278 v1280 v1282 v1309), ∀ a x, ((![v1280, v1309, v1232] : Fin 3 → IVec S16 32) a x).toNat < S224x2x128.size a := fun v1212 v1216 v1220 v1224 v1228 v1232 v1236 v1270 v1272 v1274 v1276 v1278 v1280 v1282 v1309 k0_hw62 => k0_hw62.2.2.2.2.2.1
theorem k0_idx434_inb : ∀ (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw62 : k0_chk62 v1212 v1216 v1220 v1224 v1228 v1232 v1236 v1270 v1272 v1274 v1276 v1278 v1280 v1282 v1309), ∀ a x, ((![v1282, v1309, v1236] : Fin 3 → IVec S16 32) a x).toNat < S224x2x128.size a := fun v1212 v1216 v1220 v1224 v1228 v1232 v1236 v1270 v1272 v1274 v1276 v1278 v1280 v1282 v1309 k0_hw62 => k0_hw62.2.2.2.2.2.2
def k0_off70 (k0_t17 : Fin k0_t17_loop.trips) : Fin 3 → Nat :=
  let c16_i32_711 : BitVec 32 := 16#32
  let c2_i32_700 : BitVec 32 := 2#32
  let c0_i32_688 : BitVec 32 := 0#32
  let c1_i32_690 : BitVec 32 := 1#32
  let arg13 : BitVec 32 := Scf.iv c0_i32_688 c1_i32_690 k0_t17
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c112_713 : Index := 112#32
  ![v1326.toNat, 1, 112]

def k0_chk63 (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v1212] : Fin 3 → IVec S16 32) a x).toNat < S224x2x128.size a) ∧
  (∀ a x, ((![v1336, v1350, v1216] : Fin 3 → IVec S16 32) a x).toNat < S224x2x128.size a) ∧
  (∀ a x, ((![v1338, v1350, v1220] : Fin 3 → IVec S16 32) a x).toNat < S224x2x128.size a) ∧
  (∀ a x, ((![v1340, v1350, v1224] : Fin 3 → IVec S16 32) a x).toNat < S224x2x128.size a) ∧
  (∀ a x, ((![v1342, v1350, v1228] : Fin 3 → IVec S16 32) a x).toNat < S224x2x128.size a) ∧
  (∀ a x, ((![v1344, v1350, v1232] : Fin 3 → IVec S16 32) a x).toNat < S224x2x128.size a) ∧
  (∀ a x, ((![v1346, v1350, v1236] : Fin 3 → IVec S16 32) a x).toNat < S224x2x128.size a)
theorem k0_idx435_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw63 : k0_chk63 v1212 v1216 v1220 v1224 v1228 v1232 v1236 v1334 v1336 v1338 v1340 v1342 v1344 v1346 v1350), ∀ a x, ((![v1334, v1350, v1212] : Fin 3 → IVec S16 32) a x).toNat < S224x2x128.size a := fun v1212 v1216 v1220 v1224 v1228 v1232 v1236 v1334 v1336 v1338 v1340 v1342 v1344 v1346 v1350 k0_hw63 => k0_hw63.1
theorem k0_idx436_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw63 : k0_chk63 v1212 v1216 v1220 v1224 v1228 v1232 v1236 v1334 v1336 v1338 v1340 v1342 v1344 v1346 v1350), ∀ a x, ((![v1336, v1350, v1216] : Fin 3 → IVec S16 32) a x).toNat < S224x2x128.size a := fun v1212 v1216 v1220 v1224 v1228 v1232 v1236 v1334 v1336 v1338 v1340 v1342 v1344 v1346 v1350 k0_hw63 => k0_hw63.2.1
theorem k0_idx437_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw63 : k0_chk63 v1212 v1216 v1220 v1224 v1228 v1232 v1236 v1334 v1336 v1338 v1340 v1342 v1344 v1346 v1350), ∀ a x, ((![v1338, v1350, v1220] : Fin 3 → IVec S16 32) a x).toNat < S224x2x128.size a := fun v1212 v1216 v1220 v1224 v1228 v1232 v1236 v1334 v1336 v1338 v1340 v1342 v1344 v1346 v1350 k0_hw63 => k0_hw63.2.2.1
theorem k0_idx438_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw63 : k0_chk63 v1212 v1216 v1220 v1224 v1228 v1232 v1236 v1334 v1336 v1338 v1340 v1342 v1344 v1346 v1350), ∀ a x, ((![v1340, v1350, v1224] : Fin 3 → IVec S16 32) a x).toNat < S224x2x128.size a := fun v1212 v1216 v1220 v1224 v1228 v1232 v1236 v1334 v1336 v1338 v1340 v1342 v1344 v1346 v1350 k0_hw63 => k0_hw63.2.2.2.1
theorem k0_idx439_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw63 : k0_chk63 v1212 v1216 v1220 v1224 v1228 v1232 v1236 v1334 v1336 v1338 v1340 v1342 v1344 v1346 v1350), ∀ a x, ((![v1342, v1350, v1228] : Fin 3 → IVec S16 32) a x).toNat < S224x2x128.size a := fun v1212 v1216 v1220 v1224 v1228 v1232 v1236 v1334 v1336 v1338 v1340 v1342 v1344 v1346 v1350 k0_hw63 => k0_hw63.2.2.2.2.1
theorem k0_idx440_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw63 : k0_chk63 v1212 v1216 v1220 v1224 v1228 v1232 v1236 v1334 v1336 v1338 v1340 v1342 v1344 v1346 v1350), ∀ a x, ((![v1344, v1350, v1232] : Fin 3 → IVec S16 32) a x).toNat < S224x2x128.size a := fun v1212 v1216 v1220 v1224 v1228 v1232 v1236 v1334 v1336 v1338 v1340 v1342 v1344 v1346 v1350 k0_hw63 => k0_hw63.2.2.2.2.2.1
theorem k0_idx441_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw63 : k0_chk63 v1212 v1216 v1220 v1224 v1228 v1232 v1236 v1334 v1336 v1338 v1340 v1342 v1344 v1346 v1350), ∀ a x, ((![v1346, v1350, v1236] : Fin 3 → IVec S16 32) a x).toNat < S224x2x128.size a := fun v1212 v1216 v1220 v1224 v1228 v1232 v1236 v1334 v1336 v1338 v1340 v1342 v1344 v1346 v1350 k0_hw63 => k0_hw63.2.2.2.2.2.2
def k0_off71 (k0_t17 : Fin k0_t17_loop.trips) : Fin 3 → Nat :=
  let c16_i32_721 : BitVec 32 := 16#32
  let c2_i32_714 : BitVec 32 := 2#32
  let c0_i32_688 : BitVec 32 := 0#32
  let c1_i32_690 : BitVec 32 := 1#32
  let arg13 : BitVec 32 := Scf.iv c0_i32_688 c1_i32_690 k0_t17
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c112_723 : Index := 112#32
  ![v1367.toNat, 0, 112]

def k0_chk64 (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v1212] : Fin 3 → IVec S16 32) a x).toNat < S224x2x128.size a) ∧
  (∀ a x, ((![v1336, v1373, v1216] : Fin 3 → IVec S16 32) a x).toNat < S224x2x128.size a) ∧
  (∀ a x, ((![v1338, v1373, v1220] : Fin 3 → IVec S16 32) a x).toNat < S224x2x128.size a) ∧
  (∀ a x, ((![v1340, v1373, v1224] : Fin 3 → IVec S16 32) a x).toNat < S224x2x128.size a) ∧
  (∀ a x, ((![v1342, v1373, v1228] : Fin 3 → IVec S16 32) a x).toNat < S224x2x128.size a) ∧
  (∀ a x, ((![v1344, v1373, v1232] : Fin 3 → IVec S16 32) a x).toNat < S224x2x128.size a) ∧
  (∀ a x, ((![v1346, v1373, v1236] : Fin 3 → IVec S16 32) a x).toNat < S224x2x128.size a)
theorem k0_idx442_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw64 : k0_chk64 v1212 v1216 v1220 v1224 v1228 v1232 v1236 v1334 v1336 v1338 v1340 v1342 v1344 v1346 v1373), ∀ a x, ((![v1334, v1373, v1212] : Fin 3 → IVec S16 32) a x).toNat < S224x2x128.size a := fun v1212 v1216 v1220 v1224 v1228 v1232 v1236 v1334 v1336 v1338 v1340 v1342 v1344 v1346 v1373 k0_hw64 => k0_hw64.1
theorem k0_idx443_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw64 : k0_chk64 v1212 v1216 v1220 v1224 v1228 v1232 v1236 v1334 v1336 v1338 v1340 v1342 v1344 v1346 v1373), ∀ a x, ((![v1336, v1373, v1216] : Fin 3 → IVec S16 32) a x).toNat < S224x2x128.size a := fun v1212 v1216 v1220 v1224 v1228 v1232 v1236 v1334 v1336 v1338 v1340 v1342 v1344 v1346 v1373 k0_hw64 => k0_hw64.2.1
theorem k0_idx444_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw64 : k0_chk64 v1212 v1216 v1220 v1224 v1228 v1232 v1236 v1334 v1336 v1338 v1340 v1342 v1344 v1346 v1373), ∀ a x, ((![v1338, v1373, v1220] : Fin 3 → IVec S16 32) a x).toNat < S224x2x128.size a := fun v1212 v1216 v1220 v1224 v1228 v1232 v1236 v1334 v1336 v1338 v1340 v1342 v1344 v1346 v1373 k0_hw64 => k0_hw64.2.2.1
theorem k0_idx445_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw64 : k0_chk64 v1212 v1216 v1220 v1224 v1228 v1232 v1236 v1334 v1336 v1338 v1340 v1342 v1344 v1346 v1373), ∀ a x, ((![v1340, v1373, v1224] : Fin 3 → IVec S16 32) a x).toNat < S224x2x128.size a := fun v1212 v1216 v1220 v1224 v1228 v1232 v1236 v1334 v1336 v1338 v1340 v1342 v1344 v1346 v1373 k0_hw64 => k0_hw64.2.2.2.1
theorem k0_idx446_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw64 : k0_chk64 v1212 v1216 v1220 v1224 v1228 v1232 v1236 v1334 v1336 v1338 v1340 v1342 v1344 v1346 v1373), ∀ a x, ((![v1342, v1373, v1228] : Fin 3 → IVec S16 32) a x).toNat < S224x2x128.size a := fun v1212 v1216 v1220 v1224 v1228 v1232 v1236 v1334 v1336 v1338 v1340 v1342 v1344 v1346 v1373 k0_hw64 => k0_hw64.2.2.2.2.1
theorem k0_idx447_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw64 : k0_chk64 v1212 v1216 v1220 v1224 v1228 v1232 v1236 v1334 v1336 v1338 v1340 v1342 v1344 v1346 v1373), ∀ a x, ((![v1344, v1373, v1232] : Fin 3 → IVec S16 32) a x).toNat < S224x2x128.size a := fun v1212 v1216 v1220 v1224 v1228 v1232 v1236 v1334 v1336 v1338 v1340 v1342 v1344 v1346 v1373 k0_hw64 => k0_hw64.2.2.2.2.2.1
theorem k0_idx448_inb : ∀ (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw64 : k0_chk64 v1212 v1216 v1220 v1224 v1228 v1232 v1236 v1334 v1336 v1338 v1340 v1342 v1344 v1346 v1373), ∀ a x, ((![v1346, v1373, v1236] : Fin 3 → IVec S16 32) a x).toNat < S224x2x128.size a := fun v1212 v1216 v1220 v1224 v1228 v1232 v1236 v1334 v1336 v1338 v1340 v1342 v1344 v1346 v1373 k0_hw64 => k0_hw64.2.2.2.2.2.2
def k0_off72 (k0_t17 : Fin k0_t17_loop.trips) : Fin 3 → Nat :=
  let c16_i32_727 : BitVec 32 := 16#32
  let c2_i32_714 : BitVec 32 := 2#32
  let c0_i32_688 : BitVec 32 := 0#32
  let c1_i32_690 : BitVec 32 := 1#32
  let arg13 : BitVec 32 := Scf.iv c0_i32_688 c1_i32_690 k0_t17
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c112_729 : Index := 112#32
  ![v1390.toNat, 1, 112]
def k0_cond6 (i : grid0.Coords) (k0_t1 : Fin (k0_t1_loop i).trips) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let c1_i32_371 : BitVec 32 := 1#32
  let v667 : BitVec 32 := Scalar.addi v33 c1_i32_371
  let v1254 : BitVec 32 := Scalar.addi v4 v667
  let c1_i32_693 : BitVec 32 := 1#32
  let v1255 : BitVec 32 := Scalar.addi v1254 c1_i32_693
  let c16_i32_694 : BitVec 32 := 16#32
  let v1256 : BitVec 32 := Scalar.muli v1255 c16_i32_694
  let c40962_i32_695 : BitVec 32 := 40962#32
  let v1257 : BitVec 1 := Scalar.cmpi .sle v1256 c40962_i32_695
  let v1258 : BitVec 32 := Scalar.extui v1257
  let c0_i32_696 : BitVec 32 := 0#32
  let v1259 : BitVec 1 := Scalar.cmpi .ne v1258 c0_i32_696
  v1259

def k0_off73 (i : grid0.Coords) (k0_t1 : Fin (k0_t1_loop i).trips) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c1_i32_9 : BitVec 32 := 1#32
  let arg12 : BitVec 32 := Scf.iv c0_i32_8 c1_i32_9 k0_t1
  let v33 : BitVec 32 := Scalar.muli c2_i32_19 arg12
  let c1_i32_371 : BitVec 32 := 1#32
  let v667 : BitVec 32 := Scalar.addi v33 c1_i32_371
  let v1252 : BitVec 32 := Scalar.addi v4 v667
  let c16_i32_692 : BitVec 32 := 16#32
  let v1253 : BitVec 32 := Scalar.muli v1252 c16_i32_692
  let c0_i32_703 : BitVec 32 := 0#32
  let c0_i32_704 : BitVec 32 := 0#32
  ![v1253.toNat, 0, 0]
@[reducible] def k0_t18_loop (i : grid0.Coords) : Scf.Loop 32 :=
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let v14 : BitVec 32 := Scalar.addi c0_i32_8 v13
  let c1_i32_10 : BitVec 32 := 1#32
  ⟨v17, v14, c1_i32_10⟩
def k0_off74 (i : grid0.Coords) (k0_t18 : Fin (k0_t18_loop i).trips) : Fin 1 → Nat :=
  let c2_i32_19 : BitVec 32 := 2#32
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let c112_i32_20 : BitVec 32 := 112#32
  let v34 : BitVec 32 := Scalar.muli v33 c112_i32_20
  ![v34.toNat]
def k0_off75 (i : grid0.Coords) (k0_t18 : Fin (k0_t18_loop i).trips) : Fin 1 → Nat :=
  let c2_i32_19 : BitVec 32 := 2#32
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let c1_i32_27 : BitVec 32 := 1#32
  let v38 : BitVec 32 := Scalar.addi v33 c1_i32_27
  let c112_i32_28 : BitVec 32 := 112#32
  let v39 : BitVec 32 := Scalar.muli v38 c112_i32_28
  ![v39.toNat]
def k0_cond8 (i : grid0.Coords) (k0_t18 : Fin (k0_t18_loop i).trips) : BitVec 1 :=
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let c0_i32_35 : BitVec 32 := 0#32
  let v43 : BitVec 1 := Scalar.cmpi .sgt arg12 c0_i32_35
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let v33 : BitVec 32 := Scalar.muli c2_i32_19 arg12
  let c2_i32_36 : BitVec 32 := 2#32
  let v44 : BitVec 32 := Scalar.subi v33 c2_i32_36
  let v45 : BitVec 32 := Scalar.addi v4 v44
  let c1_i32_37 : BitVec 32 := 1#32
  let v46 : BitVec 32 := Scalar.addi v45 c1_i32_37
  let c16_i32_38 : BitVec 32 := 16#32
  let v47 : BitVec 32 := Scalar.muli v46 c16_i32_38
  let c40962_i32_39 : BitVec 32 := 40962#32
  let v48 : BitVec 1 := Scalar.cmpi .sle v47 c40962_i32_39
  let v49 : BitVec 1 := Scalar.andi v43 v48
  let v50 : BitVec 32 := Scalar.extui v49
  let c0_i32_40 : BitVec 32 := 0#32
  let v51 : BitVec 1 := Scalar.cmpi .ne v50 c0_i32_40
  v51

def k0_off76 (i : grid0.Coords) (k0_t18 : Fin (k0_t18_loop i).trips) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let c2_i32_700 : BitVec 32 := 2#32
  let v1265 : BitVec 32 := Scalar.subi v33 c2_i32_700
  let v1266 : BitVec 32 := Scalar.addi v4 v1265
  let c16_i32_701 : BitVec 32 := 16#32
  let v1267 : BitVec 32 := Scalar.muli v1266 c16_i32_701
  let c0_i32_705 : BitVec 32 := 0#32
  let c0_i32_706 : BitVec 32 := 0#32
  ![v1267.toNat, 0, 0]
@[reducible] def k0_t19_loop : Scf.Loop 32 :=
  let c0_i32_71 : BitVec 32 := 0#32
  let c8_i32 : BitVec 32 := 8#32
  let v124 : BitVec 32 := Scalar.addi c0_i32_71 c8_i32
  let c1_i32_72 : BitVec 32 := 1#32
  ⟨c0_i32_71, v124, c1_i32_72⟩

def k0_chk65 (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v85] : Fin 3 → IVec S16 32) a x).toNat < S224x2x128.size a) ∧
  (∀ a x, ((![v1272, v1286, v89] : Fin 3 → IVec S16 32) a x).toNat < S224x2x128.size a) ∧
  (∀ a x, ((![v1274, v1286, v93] : Fin 3 → IVec S16 32) a x).toNat < S224x2x128.size a) ∧
  (∀ a x, ((![v1276, v1286, v97] : Fin 3 → IVec S16 32) a x).toNat < S224x2x128.size a) ∧
  (∀ a x, ((![v1278, v1286, v101] : Fin 3 → IVec S16 32) a x).toNat < S224x2x128.size a) ∧
  (∀ a x, ((![v1280, v1286, v105] : Fin 3 → IVec S16 32) a x).toNat < S224x2x128.size a) ∧
  (∀ a x, ((![v1282, v1286, v109] : Fin 3 → IVec S16 32) a x).toNat < S224x2x128.size a)
theorem k0_idx449_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw65 : k0_chk65 i k0_t18 v85 v89 v93 v97 v101 v105 v109 v1270 v1272 v1274 v1276 v1278 v1280 v1282 v1286), ∀ a x, ((![v1270, v1286, v85] : Fin 3 → IVec S16 32) a x).toNat < S224x2x128.size a := fun i k0_t18 v85 v89 v93 v97 v101 v105 v109 v1270 v1272 v1274 v1276 v1278 v1280 v1282 v1286 k0_hw65 => k0_hw65.1
theorem k0_idx450_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw65 : k0_chk65 i k0_t18 v85 v89 v93 v97 v101 v105 v109 v1270 v1272 v1274 v1276 v1278 v1280 v1282 v1286), ∀ a x, ((![v1272, v1286, v89] : Fin 3 → IVec S16 32) a x).toNat < S224x2x128.size a := fun i k0_t18 v85 v89 v93 v97 v101 v105 v109 v1270 v1272 v1274 v1276 v1278 v1280 v1282 v1286 k0_hw65 => k0_hw65.2.1
theorem k0_idx451_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw65 : k0_chk65 i k0_t18 v85 v89 v93 v97 v101 v105 v109 v1270 v1272 v1274 v1276 v1278 v1280 v1282 v1286), ∀ a x, ((![v1274, v1286, v93] : Fin 3 → IVec S16 32) a x).toNat < S224x2x128.size a := fun i k0_t18 v85 v89 v93 v97 v101 v105 v109 v1270 v1272 v1274 v1276 v1278 v1280 v1282 v1286 k0_hw65 => k0_hw65.2.2.1
theorem k0_idx452_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw65 : k0_chk65 i k0_t18 v85 v89 v93 v97 v101 v105 v109 v1270 v1272 v1274 v1276 v1278 v1280 v1282 v1286), ∀ a x, ((![v1276, v1286, v97] : Fin 3 → IVec S16 32) a x).toNat < S224x2x128.size a := fun i k0_t18 v85 v89 v93 v97 v101 v105 v109 v1270 v1272 v1274 v1276 v1278 v1280 v1282 v1286 k0_hw65 => k0_hw65.2.2.2.1
theorem k0_idx453_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw65 : k0_chk65 i k0_t18 v85 v89 v93 v97 v101 v105 v109 v1270 v1272 v1274 v1276 v1278 v1280 v1282 v1286), ∀ a x, ((![v1278, v1286, v101] : Fin 3 → IVec S16 32) a x).toNat < S224x2x128.size a := fun i k0_t18 v85 v89 v93 v97 v101 v105 v109 v1270 v1272 v1274 v1276 v1278 v1280 v1282 v1286 k0_hw65 => k0_hw65.2.2.2.2.1
theorem k0_idx454_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw65 : k0_chk65 i k0_t18 v85 v89 v93 v97 v101 v105 v109 v1270 v1272 v1274 v1276 v1278 v1280 v1282 v1286), ∀ a x, ((![v1280, v1286, v105] : Fin 3 → IVec S16 32) a x).toNat < S224x2x128.size a := fun i k0_t18 v85 v89 v93 v97 v101 v105 v109 v1270 v1272 v1274 v1276 v1278 v1280 v1282 v1286 k0_hw65 => k0_hw65.2.2.2.2.2.1
theorem k0_idx455_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw65 : k0_chk65 i k0_t18 v85 v89 v93 v97 v101 v105 v109 v1270 v1272 v1274 v1276 v1278 v1280 v1282 v1286), ∀ a x, ((![v1282, v1286, v109] : Fin 3 → IVec S16 32) a x).toNat < S224x2x128.size a := fun i k0_t18 v85 v89 v93 v97 v101 v105 v109 v1270 v1272 v1274 v1276 v1278 v1280 v1282 v1286 k0_hw65 => k0_hw65.2.2.2.2.2.2
def k0_off77 (k0_t19 : Fin k0_t19_loop.trips) : Fin 3 → Nat :=
  let c0_i32_706 : BitVec 32 := 0#32
  let c2_i32_700 : BitVec 32 := 2#32
  let c0_i32_71 : BitVec 32 := 0#32
  let c1_i32_72 : BitVec 32 := 1#32
  let arg13 : BitVec 32 := Scf.iv c0_i32_71 c1_i32_72 k0_t19
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c0 : Index := 0#32
  ![v1303.toNat, 0, 0]

def k0_chk66 (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v85] : Fin 3 → IVec S16 32) a x).toNat < S224x2x128.size a) ∧
  (∀ a x, ((![v1272, v1309, v89] : Fin 3 → IVec S16 32) a x).toNat < S224x2x128.size a) ∧
  (∀ a x, ((![v1274, v1309, v93] : Fin 3 → IVec S16 32) a x).toNat < S224x2x128.size a) ∧
  (∀ a x, ((![v1276, v1309, v97] : Fin 3 → IVec S16 32) a x).toNat < S224x2x128.size a) ∧
  (∀ a x, ((![v1278, v1309, v101] : Fin 3 → IVec S16 32) a x).toNat < S224x2x128.size a) ∧
  (∀ a x, ((![v1280, v1309, v105] : Fin 3 → IVec S16 32) a x).toNat < S224x2x128.size a) ∧
  (∀ a x, ((![v1282, v1309, v109] : Fin 3 → IVec S16 32) a x).toNat < S224x2x128.size a)
theorem k0_idx456_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw66 : k0_chk66 i k0_t18 v85 v89 v93 v97 v101 v105 v109 v1270 v1272 v1274 v1276 v1278 v1280 v1282 v1309), ∀ a x, ((![v1270, v1309, v85] : Fin 3 → IVec S16 32) a x).toNat < S224x2x128.size a := fun i k0_t18 v85 v89 v93 v97 v101 v105 v109 v1270 v1272 v1274 v1276 v1278 v1280 v1282 v1309 k0_hw66 => k0_hw66.1
theorem k0_idx457_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw66 : k0_chk66 i k0_t18 v85 v89 v93 v97 v101 v105 v109 v1270 v1272 v1274 v1276 v1278 v1280 v1282 v1309), ∀ a x, ((![v1272, v1309, v89] : Fin 3 → IVec S16 32) a x).toNat < S224x2x128.size a := fun i k0_t18 v85 v89 v93 v97 v101 v105 v109 v1270 v1272 v1274 v1276 v1278 v1280 v1282 v1309 k0_hw66 => k0_hw66.2.1
theorem k0_idx458_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw66 : k0_chk66 i k0_t18 v85 v89 v93 v97 v101 v105 v109 v1270 v1272 v1274 v1276 v1278 v1280 v1282 v1309), ∀ a x, ((![v1274, v1309, v93] : Fin 3 → IVec S16 32) a x).toNat < S224x2x128.size a := fun i k0_t18 v85 v89 v93 v97 v101 v105 v109 v1270 v1272 v1274 v1276 v1278 v1280 v1282 v1309 k0_hw66 => k0_hw66.2.2.1
theorem k0_idx459_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw66 : k0_chk66 i k0_t18 v85 v89 v93 v97 v101 v105 v109 v1270 v1272 v1274 v1276 v1278 v1280 v1282 v1309), ∀ a x, ((![v1276, v1309, v97] : Fin 3 → IVec S16 32) a x).toNat < S224x2x128.size a := fun i k0_t18 v85 v89 v93 v97 v101 v105 v109 v1270 v1272 v1274 v1276 v1278 v1280 v1282 v1309 k0_hw66 => k0_hw66.2.2.2.1
theorem k0_idx460_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw66 : k0_chk66 i k0_t18 v85 v89 v93 v97 v101 v105 v109 v1270 v1272 v1274 v1276 v1278 v1280 v1282 v1309), ∀ a x, ((![v1278, v1309, v101] : Fin 3 → IVec S16 32) a x).toNat < S224x2x128.size a := fun i k0_t18 v85 v89 v93 v97 v101 v105 v109 v1270 v1272 v1274 v1276 v1278 v1280 v1282 v1309 k0_hw66 => k0_hw66.2.2.2.2.1
theorem k0_idx461_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw66 : k0_chk66 i k0_t18 v85 v89 v93 v97 v101 v105 v109 v1270 v1272 v1274 v1276 v1278 v1280 v1282 v1309), ∀ a x, ((![v1280, v1309, v105] : Fin 3 → IVec S16 32) a x).toNat < S224x2x128.size a := fun i k0_t18 v85 v89 v93 v97 v101 v105 v109 v1270 v1272 v1274 v1276 v1278 v1280 v1282 v1309 k0_hw66 => k0_hw66.2.2.2.2.2.1
theorem k0_idx462_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw66 : k0_chk66 i k0_t18 v85 v89 v93 v97 v101 v105 v109 v1270 v1272 v1274 v1276 v1278 v1280 v1282 v1309), ∀ a x, ((![v1282, v1309, v109] : Fin 3 → IVec S16 32) a x).toNat < S224x2x128.size a := fun i k0_t18 v85 v89 v93 v97 v101 v105 v109 v1270 v1272 v1274 v1276 v1278 v1280 v1282 v1309 k0_hw66 => k0_hw66.2.2.2.2.2.2
def k0_off78 (k0_t19 : Fin k0_t19_loop.trips) : Fin 3 → Nat :=
  let c0_i32_711 : BitVec 32 := 0#32
  let c2_i32_700 : BitVec 32 := 2#32
  let c0_i32_71 : BitVec 32 := 0#32
  let c1_i32_72 : BitVec 32 := 1#32
  let arg13 : BitVec 32 := Scf.iv c0_i32_71 c1_i32_72 k0_t19
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c0_713 : Index := 0#32
  ![v1326.toNat, 1, 0]

def k0_chk67 (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v85] : Fin 3 → IVec S16 32) a x).toNat < S224x2x128.size a) ∧
  (∀ a x, ((![v1336, v1350, v89] : Fin 3 → IVec S16 32) a x).toNat < S224x2x128.size a) ∧
  (∀ a x, ((![v1338, v1350, v93] : Fin 3 → IVec S16 32) a x).toNat < S224x2x128.size a) ∧
  (∀ a x, ((![v1340, v1350, v97] : Fin 3 → IVec S16 32) a x).toNat < S224x2x128.size a) ∧
  (∀ a x, ((![v1342, v1350, v101] : Fin 3 → IVec S16 32) a x).toNat < S224x2x128.size a) ∧
  (∀ a x, ((![v1344, v1350, v105] : Fin 3 → IVec S16 32) a x).toNat < S224x2x128.size a) ∧
  (∀ a x, ((![v1346, v1350, v109] : Fin 3 → IVec S16 32) a x).toNat < S224x2x128.size a)
theorem k0_idx463_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw67 : k0_chk67 i k0_t18 v85 v89 v93 v97 v101 v105 v109 v1334 v1336 v1338 v1340 v1342 v1344 v1346 v1350), ∀ a x, ((![v1334, v1350, v85] : Fin 3 → IVec S16 32) a x).toNat < S224x2x128.size a := fun i k0_t18 v85 v89 v93 v97 v101 v105 v109 v1334 v1336 v1338 v1340 v1342 v1344 v1346 v1350 k0_hw67 => k0_hw67.1
theorem k0_idx464_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw67 : k0_chk67 i k0_t18 v85 v89 v93 v97 v101 v105 v109 v1334 v1336 v1338 v1340 v1342 v1344 v1346 v1350), ∀ a x, ((![v1336, v1350, v89] : Fin 3 → IVec S16 32) a x).toNat < S224x2x128.size a := fun i k0_t18 v85 v89 v93 v97 v101 v105 v109 v1334 v1336 v1338 v1340 v1342 v1344 v1346 v1350 k0_hw67 => k0_hw67.2.1
theorem k0_idx465_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw67 : k0_chk67 i k0_t18 v85 v89 v93 v97 v101 v105 v109 v1334 v1336 v1338 v1340 v1342 v1344 v1346 v1350), ∀ a x, ((![v1338, v1350, v93] : Fin 3 → IVec S16 32) a x).toNat < S224x2x128.size a := fun i k0_t18 v85 v89 v93 v97 v101 v105 v109 v1334 v1336 v1338 v1340 v1342 v1344 v1346 v1350 k0_hw67 => k0_hw67.2.2.1
theorem k0_idx466_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw67 : k0_chk67 i k0_t18 v85 v89 v93 v97 v101 v105 v109 v1334 v1336 v1338 v1340 v1342 v1344 v1346 v1350), ∀ a x, ((![v1340, v1350, v97] : Fin 3 → IVec S16 32) a x).toNat < S224x2x128.size a := fun i k0_t18 v85 v89 v93 v97 v101 v105 v109 v1334 v1336 v1338 v1340 v1342 v1344 v1346 v1350 k0_hw67 => k0_hw67.2.2.2.1
theorem k0_idx467_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw67 : k0_chk67 i k0_t18 v85 v89 v93 v97 v101 v105 v109 v1334 v1336 v1338 v1340 v1342 v1344 v1346 v1350), ∀ a x, ((![v1342, v1350, v101] : Fin 3 → IVec S16 32) a x).toNat < S224x2x128.size a := fun i k0_t18 v85 v89 v93 v97 v101 v105 v109 v1334 v1336 v1338 v1340 v1342 v1344 v1346 v1350 k0_hw67 => k0_hw67.2.2.2.2.1
theorem k0_idx468_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw67 : k0_chk67 i k0_t18 v85 v89 v93 v97 v101 v105 v109 v1334 v1336 v1338 v1340 v1342 v1344 v1346 v1350), ∀ a x, ((![v1344, v1350, v105] : Fin 3 → IVec S16 32) a x).toNat < S224x2x128.size a := fun i k0_t18 v85 v89 v93 v97 v101 v105 v109 v1334 v1336 v1338 v1340 v1342 v1344 v1346 v1350 k0_hw67 => k0_hw67.2.2.2.2.2.1
theorem k0_idx469_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw67 : k0_chk67 i k0_t18 v85 v89 v93 v97 v101 v105 v109 v1334 v1336 v1338 v1340 v1342 v1344 v1346 v1350), ∀ a x, ((![v1346, v1350, v109] : Fin 3 → IVec S16 32) a x).toNat < S224x2x128.size a := fun i k0_t18 v85 v89 v93 v97 v101 v105 v109 v1334 v1336 v1338 v1340 v1342 v1344 v1346 v1350 k0_hw67 => k0_hw67.2.2.2.2.2.2
def k0_off79 (k0_t19 : Fin k0_t19_loop.trips) : Fin 3 → Nat :=
  let c0_i32_721 : BitVec 32 := 0#32
  let c2_i32_714 : BitVec 32 := 2#32
  let c0_i32_71 : BitVec 32 := 0#32
  let c1_i32_72 : BitVec 32 := 1#32
  let arg13 : BitVec 32 := Scf.iv c0_i32_71 c1_i32_72 k0_t19
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c0_723 : Index := 0#32
  ![v1367.toNat, 0, 0]

def k0_chk68 (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v85] : Fin 3 → IVec S16 32) a x).toNat < S224x2x128.size a) ∧
  (∀ a x, ((![v1336, v1373, v89] : Fin 3 → IVec S16 32) a x).toNat < S224x2x128.size a) ∧
  (∀ a x, ((![v1338, v1373, v93] : Fin 3 → IVec S16 32) a x).toNat < S224x2x128.size a) ∧
  (∀ a x, ((![v1340, v1373, v97] : Fin 3 → IVec S16 32) a x).toNat < S224x2x128.size a) ∧
  (∀ a x, ((![v1342, v1373, v101] : Fin 3 → IVec S16 32) a x).toNat < S224x2x128.size a) ∧
  (∀ a x, ((![v1344, v1373, v105] : Fin 3 → IVec S16 32) a x).toNat < S224x2x128.size a) ∧
  (∀ a x, ((![v1346, v1373, v109] : Fin 3 → IVec S16 32) a x).toNat < S224x2x128.size a)
theorem k0_idx470_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw68 : k0_chk68 i k0_t18 v85 v89 v93 v97 v101 v105 v109 v1334 v1336 v1338 v1340 v1342 v1344 v1346 v1373), ∀ a x, ((![v1334, v1373, v85] : Fin 3 → IVec S16 32) a x).toNat < S224x2x128.size a := fun i k0_t18 v85 v89 v93 v97 v101 v105 v109 v1334 v1336 v1338 v1340 v1342 v1344 v1346 v1373 k0_hw68 => k0_hw68.1
theorem k0_idx471_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw68 : k0_chk68 i k0_t18 v85 v89 v93 v97 v101 v105 v109 v1334 v1336 v1338 v1340 v1342 v1344 v1346 v1373), ∀ a x, ((![v1336, v1373, v89] : Fin 3 → IVec S16 32) a x).toNat < S224x2x128.size a := fun i k0_t18 v85 v89 v93 v97 v101 v105 v109 v1334 v1336 v1338 v1340 v1342 v1344 v1346 v1373 k0_hw68 => k0_hw68.2.1
theorem k0_idx472_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw68 : k0_chk68 i k0_t18 v85 v89 v93 v97 v101 v105 v109 v1334 v1336 v1338 v1340 v1342 v1344 v1346 v1373), ∀ a x, ((![v1338, v1373, v93] : Fin 3 → IVec S16 32) a x).toNat < S224x2x128.size a := fun i k0_t18 v85 v89 v93 v97 v101 v105 v109 v1334 v1336 v1338 v1340 v1342 v1344 v1346 v1373 k0_hw68 => k0_hw68.2.2.1
theorem k0_idx473_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw68 : k0_chk68 i k0_t18 v85 v89 v93 v97 v101 v105 v109 v1334 v1336 v1338 v1340 v1342 v1344 v1346 v1373), ∀ a x, ((![v1340, v1373, v97] : Fin 3 → IVec S16 32) a x).toNat < S224x2x128.size a := fun i k0_t18 v85 v89 v93 v97 v101 v105 v109 v1334 v1336 v1338 v1340 v1342 v1344 v1346 v1373 k0_hw68 => k0_hw68.2.2.2.1
theorem k0_idx474_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw68 : k0_chk68 i k0_t18 v85 v89 v93 v97 v101 v105 v109 v1334 v1336 v1338 v1340 v1342 v1344 v1346 v1373), ∀ a x, ((![v1342, v1373, v101] : Fin 3 → IVec S16 32) a x).toNat < S224x2x128.size a := fun i k0_t18 v85 v89 v93 v97 v101 v105 v109 v1334 v1336 v1338 v1340 v1342 v1344 v1346 v1373 k0_hw68 => k0_hw68.2.2.2.2.1
theorem k0_idx475_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw68 : k0_chk68 i k0_t18 v85 v89 v93 v97 v101 v105 v109 v1334 v1336 v1338 v1340 v1342 v1344 v1346 v1373), ∀ a x, ((![v1344, v1373, v105] : Fin 3 → IVec S16 32) a x).toNat < S224x2x128.size a := fun i k0_t18 v85 v89 v93 v97 v101 v105 v109 v1334 v1336 v1338 v1340 v1342 v1344 v1346 v1373 k0_hw68 => k0_hw68.2.2.2.2.2.1
theorem k0_idx476_inb : ∀ (i : grid0.Coords) (k0_t18 : Fin (k0_t18_loop i).trips) (v85 : IVec S16 32) (v89 : IVec S16 32) (v93 : IVec S16 32) (v97 : IVec S16 32) (v101 : IVec S16 32) (v105 : IVec S16 32) (v109 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw68 : k0_chk68 i k0_t18 v85 v89 v93 v97 v101 v105 v109 v1334 v1336 v1338 v1340 v1342 v1344 v1346 v1373), ∀ a x, ((![v1346, v1373, v109] : Fin 3 → IVec S16 32) a x).toNat < S224x2x128.size a := fun i k0_t18 v85 v89 v93 v97 v101 v105 v109 v1334 v1336 v1338 v1340 v1342 v1344 v1346 v1373 k0_hw68 => k0_hw68.2.2.2.2.2.2
def k0_off80 (k0_t19 : Fin k0_t19_loop.trips) : Fin 3 → Nat :=
  let c0_i32_727 : BitVec 32 := 0#32
  let c2_i32_714 : BitVec 32 := 2#32
  let c0_i32_71 : BitVec 32 := 0#32
  let c1_i32_72 : BitVec 32 := 1#32
  let arg13 : BitVec 32 := Scf.iv c0_i32_71 c1_i32_72 k0_t19
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c0_729 : Index := 0#32
  ![v1390.toNat, 1, 0]
@[reducible] def k0_t20_loop : Scf.Loop 32 :=
  let c0_i32_110 : BitVec 32 := 0#32
  let c8_i32_111 : BitVec 32 := 8#32
  let v197 : BitVec 32 := Scalar.addi c0_i32_110 c8_i32_111
  let c1_i32_112 : BitVec 32 := 1#32
  ⟨c0_i32_110, v197, c1_i32_112⟩

def k0_chk69 (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v158] : Fin 3 → IVec S16 32) a x).toNat < S224x2x128.size a) ∧
  (∀ a x, ((![v1272, v1286, v162] : Fin 3 → IVec S16 32) a x).toNat < S224x2x128.size a) ∧
  (∀ a x, ((![v1274, v1286, v166] : Fin 3 → IVec S16 32) a x).toNat < S224x2x128.size a) ∧
  (∀ a x, ((![v1276, v1286, v170] : Fin 3 → IVec S16 32) a x).toNat < S224x2x128.size a) ∧
  (∀ a x, ((![v1278, v1286, v174] : Fin 3 → IVec S16 32) a x).toNat < S224x2x128.size a) ∧
  (∀ a x, ((![v1280, v1286, v178] : Fin 3 → IVec S16 32) a x).toNat < S224x2x128.size a) ∧
  (∀ a x, ((![v1282, v1286, v182] : Fin 3 → IVec S16 32) a x).toNat < S224x2x128.size a)
theorem k0_idx477_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw69 : k0_chk69 i k0_t18 v158 v162 v166 v170 v174 v178 v182 v1270 v1272 v1274 v1276 v1278 v1280 v1282 v1286), ∀ a x, ((![v1270, v1286, v158] : Fin 3 → IVec S16 32) a x).toNat < S224x2x128.size a := fun i k0_t18 v158 v162 v166 v170 v174 v178 v182 v1270 v1272 v1274 v1276 v1278 v1280 v1282 v1286 k0_hw69 => k0_hw69.1
theorem k0_idx478_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw69 : k0_chk69 i k0_t18 v158 v162 v166 v170 v174 v178 v182 v1270 v1272 v1274 v1276 v1278 v1280 v1282 v1286), ∀ a x, ((![v1272, v1286, v162] : Fin 3 → IVec S16 32) a x).toNat < S224x2x128.size a := fun i k0_t18 v158 v162 v166 v170 v174 v178 v182 v1270 v1272 v1274 v1276 v1278 v1280 v1282 v1286 k0_hw69 => k0_hw69.2.1
theorem k0_idx479_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw69 : k0_chk69 i k0_t18 v158 v162 v166 v170 v174 v178 v182 v1270 v1272 v1274 v1276 v1278 v1280 v1282 v1286), ∀ a x, ((![v1274, v1286, v166] : Fin 3 → IVec S16 32) a x).toNat < S224x2x128.size a := fun i k0_t18 v158 v162 v166 v170 v174 v178 v182 v1270 v1272 v1274 v1276 v1278 v1280 v1282 v1286 k0_hw69 => k0_hw69.2.2.1
theorem k0_idx480_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw69 : k0_chk69 i k0_t18 v158 v162 v166 v170 v174 v178 v182 v1270 v1272 v1274 v1276 v1278 v1280 v1282 v1286), ∀ a x, ((![v1276, v1286, v170] : Fin 3 → IVec S16 32) a x).toNat < S224x2x128.size a := fun i k0_t18 v158 v162 v166 v170 v174 v178 v182 v1270 v1272 v1274 v1276 v1278 v1280 v1282 v1286 k0_hw69 => k0_hw69.2.2.2.1
theorem k0_idx481_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw69 : k0_chk69 i k0_t18 v158 v162 v166 v170 v174 v178 v182 v1270 v1272 v1274 v1276 v1278 v1280 v1282 v1286), ∀ a x, ((![v1278, v1286, v174] : Fin 3 → IVec S16 32) a x).toNat < S224x2x128.size a := fun i k0_t18 v158 v162 v166 v170 v174 v178 v182 v1270 v1272 v1274 v1276 v1278 v1280 v1282 v1286 k0_hw69 => k0_hw69.2.2.2.2.1
theorem k0_idx482_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw69 : k0_chk69 i k0_t18 v158 v162 v166 v170 v174 v178 v182 v1270 v1272 v1274 v1276 v1278 v1280 v1282 v1286), ∀ a x, ((![v1280, v1286, v178] : Fin 3 → IVec S16 32) a x).toNat < S224x2x128.size a := fun i k0_t18 v158 v162 v166 v170 v174 v178 v182 v1270 v1272 v1274 v1276 v1278 v1280 v1282 v1286 k0_hw69 => k0_hw69.2.2.2.2.2.1
theorem k0_idx483_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw69 : k0_chk69 i k0_t18 v158 v162 v166 v170 v174 v178 v182 v1270 v1272 v1274 v1276 v1278 v1280 v1282 v1286), ∀ a x, ((![v1282, v1286, v182] : Fin 3 → IVec S16 32) a x).toNat < S224x2x128.size a := fun i k0_t18 v158 v162 v166 v170 v174 v178 v182 v1270 v1272 v1274 v1276 v1278 v1280 v1282 v1286 k0_hw69 => k0_hw69.2.2.2.2.2.2
def k0_off81 (k0_t20 : Fin k0_t20_loop.trips) : Fin 3 → Nat :=
  let c0_i32_706 : BitVec 32 := 0#32
  let c2_i32_700 : BitVec 32 := 2#32
  let c0_i32_110 : BitVec 32 := 0#32
  let c1_i32_112 : BitVec 32 := 1#32
  let arg13 : BitVec 32 := Scf.iv c0_i32_110 c1_i32_112 k0_t20
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c16 : Index := 16#32
  ![v1303.toNat, 0, 16]

def k0_chk70 (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v158] : Fin 3 → IVec S16 32) a x).toNat < S224x2x128.size a) ∧
  (∀ a x, ((![v1272, v1309, v162] : Fin 3 → IVec S16 32) a x).toNat < S224x2x128.size a) ∧
  (∀ a x, ((![v1274, v1309, v166] : Fin 3 → IVec S16 32) a x).toNat < S224x2x128.size a) ∧
  (∀ a x, ((![v1276, v1309, v170] : Fin 3 → IVec S16 32) a x).toNat < S224x2x128.size a) ∧
  (∀ a x, ((![v1278, v1309, v174] : Fin 3 → IVec S16 32) a x).toNat < S224x2x128.size a) ∧
  (∀ a x, ((![v1280, v1309, v178] : Fin 3 → IVec S16 32) a x).toNat < S224x2x128.size a) ∧
  (∀ a x, ((![v1282, v1309, v182] : Fin 3 → IVec S16 32) a x).toNat < S224x2x128.size a)
theorem k0_idx484_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw70 : k0_chk70 i k0_t18 v158 v162 v166 v170 v174 v178 v182 v1270 v1272 v1274 v1276 v1278 v1280 v1282 v1309), ∀ a x, ((![v1270, v1309, v158] : Fin 3 → IVec S16 32) a x).toNat < S224x2x128.size a := fun i k0_t18 v158 v162 v166 v170 v174 v178 v182 v1270 v1272 v1274 v1276 v1278 v1280 v1282 v1309 k0_hw70 => k0_hw70.1
theorem k0_idx485_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw70 : k0_chk70 i k0_t18 v158 v162 v166 v170 v174 v178 v182 v1270 v1272 v1274 v1276 v1278 v1280 v1282 v1309), ∀ a x, ((![v1272, v1309, v162] : Fin 3 → IVec S16 32) a x).toNat < S224x2x128.size a := fun i k0_t18 v158 v162 v166 v170 v174 v178 v182 v1270 v1272 v1274 v1276 v1278 v1280 v1282 v1309 k0_hw70 => k0_hw70.2.1
theorem k0_idx486_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw70 : k0_chk70 i k0_t18 v158 v162 v166 v170 v174 v178 v182 v1270 v1272 v1274 v1276 v1278 v1280 v1282 v1309), ∀ a x, ((![v1274, v1309, v166] : Fin 3 → IVec S16 32) a x).toNat < S224x2x128.size a := fun i k0_t18 v158 v162 v166 v170 v174 v178 v182 v1270 v1272 v1274 v1276 v1278 v1280 v1282 v1309 k0_hw70 => k0_hw70.2.2.1
theorem k0_idx487_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw70 : k0_chk70 i k0_t18 v158 v162 v166 v170 v174 v178 v182 v1270 v1272 v1274 v1276 v1278 v1280 v1282 v1309), ∀ a x, ((![v1276, v1309, v170] : Fin 3 → IVec S16 32) a x).toNat < S224x2x128.size a := fun i k0_t18 v158 v162 v166 v170 v174 v178 v182 v1270 v1272 v1274 v1276 v1278 v1280 v1282 v1309 k0_hw70 => k0_hw70.2.2.2.1
theorem k0_idx488_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw70 : k0_chk70 i k0_t18 v158 v162 v166 v170 v174 v178 v182 v1270 v1272 v1274 v1276 v1278 v1280 v1282 v1309), ∀ a x, ((![v1278, v1309, v174] : Fin 3 → IVec S16 32) a x).toNat < S224x2x128.size a := fun i k0_t18 v158 v162 v166 v170 v174 v178 v182 v1270 v1272 v1274 v1276 v1278 v1280 v1282 v1309 k0_hw70 => k0_hw70.2.2.2.2.1
theorem k0_idx489_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw70 : k0_chk70 i k0_t18 v158 v162 v166 v170 v174 v178 v182 v1270 v1272 v1274 v1276 v1278 v1280 v1282 v1309), ∀ a x, ((![v1280, v1309, v178] : Fin 3 → IVec S16 32) a x).toNat < S224x2x128.size a := fun i k0_t18 v158 v162 v166 v170 v174 v178 v182 v1270 v1272 v1274 v1276 v1278 v1280 v1282 v1309 k0_hw70 => k0_hw70.2.2.2.2.2.1
theorem k0_idx490_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw70 : k0_chk70 i k0_t18 v158 v162 v166 v170 v174 v178 v182 v1270 v1272 v1274 v1276 v1278 v1280 v1282 v1309), ∀ a x, ((![v1282, v1309, v182] : Fin 3 → IVec S16 32) a x).toNat < S224x2x128.size a := fun i k0_t18 v158 v162 v166 v170 v174 v178 v182 v1270 v1272 v1274 v1276 v1278 v1280 v1282 v1309 k0_hw70 => k0_hw70.2.2.2.2.2.2
def k0_off82 (k0_t20 : Fin k0_t20_loop.trips) : Fin 3 → Nat :=
  let c0_i32_711 : BitVec 32 := 0#32
  let c2_i32_700 : BitVec 32 := 2#32
  let c0_i32_110 : BitVec 32 := 0#32
  let c1_i32_112 : BitVec 32 := 1#32
  let arg13 : BitVec 32 := Scf.iv c0_i32_110 c1_i32_112 k0_t20
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c16_713 : Index := 16#32
  ![v1326.toNat, 1, 16]

def k0_chk71 (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v158] : Fin 3 → IVec S16 32) a x).toNat < S224x2x128.size a) ∧
  (∀ a x, ((![v1336, v1350, v162] : Fin 3 → IVec S16 32) a x).toNat < S224x2x128.size a) ∧
  (∀ a x, ((![v1338, v1350, v166] : Fin 3 → IVec S16 32) a x).toNat < S224x2x128.size a) ∧
  (∀ a x, ((![v1340, v1350, v170] : Fin 3 → IVec S16 32) a x).toNat < S224x2x128.size a) ∧
  (∀ a x, ((![v1342, v1350, v174] : Fin 3 → IVec S16 32) a x).toNat < S224x2x128.size a) ∧
  (∀ a x, ((![v1344, v1350, v178] : Fin 3 → IVec S16 32) a x).toNat < S224x2x128.size a) ∧
  (∀ a x, ((![v1346, v1350, v182] : Fin 3 → IVec S16 32) a x).toNat < S224x2x128.size a)
theorem k0_idx491_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw71 : k0_chk71 i k0_t18 v158 v162 v166 v170 v174 v178 v182 v1334 v1336 v1338 v1340 v1342 v1344 v1346 v1350), ∀ a x, ((![v1334, v1350, v158] : Fin 3 → IVec S16 32) a x).toNat < S224x2x128.size a := fun i k0_t18 v158 v162 v166 v170 v174 v178 v182 v1334 v1336 v1338 v1340 v1342 v1344 v1346 v1350 k0_hw71 => k0_hw71.1
theorem k0_idx492_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw71 : k0_chk71 i k0_t18 v158 v162 v166 v170 v174 v178 v182 v1334 v1336 v1338 v1340 v1342 v1344 v1346 v1350), ∀ a x, ((![v1336, v1350, v162] : Fin 3 → IVec S16 32) a x).toNat < S224x2x128.size a := fun i k0_t18 v158 v162 v166 v170 v174 v178 v182 v1334 v1336 v1338 v1340 v1342 v1344 v1346 v1350 k0_hw71 => k0_hw71.2.1
theorem k0_idx493_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw71 : k0_chk71 i k0_t18 v158 v162 v166 v170 v174 v178 v182 v1334 v1336 v1338 v1340 v1342 v1344 v1346 v1350), ∀ a x, ((![v1338, v1350, v166] : Fin 3 → IVec S16 32) a x).toNat < S224x2x128.size a := fun i k0_t18 v158 v162 v166 v170 v174 v178 v182 v1334 v1336 v1338 v1340 v1342 v1344 v1346 v1350 k0_hw71 => k0_hw71.2.2.1
theorem k0_idx494_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw71 : k0_chk71 i k0_t18 v158 v162 v166 v170 v174 v178 v182 v1334 v1336 v1338 v1340 v1342 v1344 v1346 v1350), ∀ a x, ((![v1340, v1350, v170] : Fin 3 → IVec S16 32) a x).toNat < S224x2x128.size a := fun i k0_t18 v158 v162 v166 v170 v174 v178 v182 v1334 v1336 v1338 v1340 v1342 v1344 v1346 v1350 k0_hw71 => k0_hw71.2.2.2.1
theorem k0_idx495_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw71 : k0_chk71 i k0_t18 v158 v162 v166 v170 v174 v178 v182 v1334 v1336 v1338 v1340 v1342 v1344 v1346 v1350), ∀ a x, ((![v1342, v1350, v174] : Fin 3 → IVec S16 32) a x).toNat < S224x2x128.size a := fun i k0_t18 v158 v162 v166 v170 v174 v178 v182 v1334 v1336 v1338 v1340 v1342 v1344 v1346 v1350 k0_hw71 => k0_hw71.2.2.2.2.1
theorem k0_idx496_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw71 : k0_chk71 i k0_t18 v158 v162 v166 v170 v174 v178 v182 v1334 v1336 v1338 v1340 v1342 v1344 v1346 v1350), ∀ a x, ((![v1344, v1350, v178] : Fin 3 → IVec S16 32) a x).toNat < S224x2x128.size a := fun i k0_t18 v158 v162 v166 v170 v174 v178 v182 v1334 v1336 v1338 v1340 v1342 v1344 v1346 v1350 k0_hw71 => k0_hw71.2.2.2.2.2.1
theorem k0_idx497_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw71 : k0_chk71 i k0_t18 v158 v162 v166 v170 v174 v178 v182 v1334 v1336 v1338 v1340 v1342 v1344 v1346 v1350), ∀ a x, ((![v1346, v1350, v182] : Fin 3 → IVec S16 32) a x).toNat < S224x2x128.size a := fun i k0_t18 v158 v162 v166 v170 v174 v178 v182 v1334 v1336 v1338 v1340 v1342 v1344 v1346 v1350 k0_hw71 => k0_hw71.2.2.2.2.2.2
def k0_off83 (k0_t20 : Fin k0_t20_loop.trips) : Fin 3 → Nat :=
  let c0_i32_721 : BitVec 32 := 0#32
  let c2_i32_714 : BitVec 32 := 2#32
  let c0_i32_110 : BitVec 32 := 0#32
  let c1_i32_112 : BitVec 32 := 1#32
  let arg13 : BitVec 32 := Scf.iv c0_i32_110 c1_i32_112 k0_t20
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c16_723 : Index := 16#32
  ![v1367.toNat, 0, 16]

def k0_chk72 (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v158] : Fin 3 → IVec S16 32) a x).toNat < S224x2x128.size a) ∧
  (∀ a x, ((![v1336, v1373, v162] : Fin 3 → IVec S16 32) a x).toNat < S224x2x128.size a) ∧
  (∀ a x, ((![v1338, v1373, v166] : Fin 3 → IVec S16 32) a x).toNat < S224x2x128.size a) ∧
  (∀ a x, ((![v1340, v1373, v170] : Fin 3 → IVec S16 32) a x).toNat < S224x2x128.size a) ∧
  (∀ a x, ((![v1342, v1373, v174] : Fin 3 → IVec S16 32) a x).toNat < S224x2x128.size a) ∧
  (∀ a x, ((![v1344, v1373, v178] : Fin 3 → IVec S16 32) a x).toNat < S224x2x128.size a) ∧
  (∀ a x, ((![v1346, v1373, v182] : Fin 3 → IVec S16 32) a x).toNat < S224x2x128.size a)
theorem k0_idx498_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw72 : k0_chk72 i k0_t18 v158 v162 v166 v170 v174 v178 v182 v1334 v1336 v1338 v1340 v1342 v1344 v1346 v1373), ∀ a x, ((![v1334, v1373, v158] : Fin 3 → IVec S16 32) a x).toNat < S224x2x128.size a := fun i k0_t18 v158 v162 v166 v170 v174 v178 v182 v1334 v1336 v1338 v1340 v1342 v1344 v1346 v1373 k0_hw72 => k0_hw72.1
theorem k0_idx499_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw72 : k0_chk72 i k0_t18 v158 v162 v166 v170 v174 v178 v182 v1334 v1336 v1338 v1340 v1342 v1344 v1346 v1373), ∀ a x, ((![v1336, v1373, v162] : Fin 3 → IVec S16 32) a x).toNat < S224x2x128.size a := fun i k0_t18 v158 v162 v166 v170 v174 v178 v182 v1334 v1336 v1338 v1340 v1342 v1344 v1346 v1373 k0_hw72 => k0_hw72.2.1
theorem k0_idx500_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw72 : k0_chk72 i k0_t18 v158 v162 v166 v170 v174 v178 v182 v1334 v1336 v1338 v1340 v1342 v1344 v1346 v1373), ∀ a x, ((![v1338, v1373, v166] : Fin 3 → IVec S16 32) a x).toNat < S224x2x128.size a := fun i k0_t18 v158 v162 v166 v170 v174 v178 v182 v1334 v1336 v1338 v1340 v1342 v1344 v1346 v1373 k0_hw72 => k0_hw72.2.2.1
theorem k0_idx501_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw72 : k0_chk72 i k0_t18 v158 v162 v166 v170 v174 v178 v182 v1334 v1336 v1338 v1340 v1342 v1344 v1346 v1373), ∀ a x, ((![v1340, v1373, v170] : Fin 3 → IVec S16 32) a x).toNat < S224x2x128.size a := fun i k0_t18 v158 v162 v166 v170 v174 v178 v182 v1334 v1336 v1338 v1340 v1342 v1344 v1346 v1373 k0_hw72 => k0_hw72.2.2.2.1
theorem k0_idx502_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw72 : k0_chk72 i k0_t18 v158 v162 v166 v170 v174 v178 v182 v1334 v1336 v1338 v1340 v1342 v1344 v1346 v1373), ∀ a x, ((![v1342, v1373, v174] : Fin 3 → IVec S16 32) a x).toNat < S224x2x128.size a := fun i k0_t18 v158 v162 v166 v170 v174 v178 v182 v1334 v1336 v1338 v1340 v1342 v1344 v1346 v1373 k0_hw72 => k0_hw72.2.2.2.2.1
theorem k0_idx503_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw72 : k0_chk72 i k0_t18 v158 v162 v166 v170 v174 v178 v182 v1334 v1336 v1338 v1340 v1342 v1344 v1346 v1373), ∀ a x, ((![v1344, v1373, v178] : Fin 3 → IVec S16 32) a x).toNat < S224x2x128.size a := fun i k0_t18 v158 v162 v166 v170 v174 v178 v182 v1334 v1336 v1338 v1340 v1342 v1344 v1346 v1373 k0_hw72 => k0_hw72.2.2.2.2.2.1
theorem k0_idx504_inb : ∀ (i : grid0.Coords) (k0_t18 : Fin (k0_t18_loop i).trips) (v158 : IVec S16 32) (v162 : IVec S16 32) (v166 : IVec S16 32) (v170 : IVec S16 32) (v174 : IVec S16 32) (v178 : IVec S16 32) (v182 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw72 : k0_chk72 i k0_t18 v158 v162 v166 v170 v174 v178 v182 v1334 v1336 v1338 v1340 v1342 v1344 v1346 v1373), ∀ a x, ((![v1346, v1373, v182] : Fin 3 → IVec S16 32) a x).toNat < S224x2x128.size a := fun i k0_t18 v158 v162 v166 v170 v174 v178 v182 v1334 v1336 v1338 v1340 v1342 v1344 v1346 v1373 k0_hw72 => k0_hw72.2.2.2.2.2.2
def k0_off84 (k0_t20 : Fin k0_t20_loop.trips) : Fin 3 → Nat :=
  let c0_i32_727 : BitVec 32 := 0#32
  let c2_i32_714 : BitVec 32 := 2#32
  let c0_i32_110 : BitVec 32 := 0#32
  let c1_i32_112 : BitVec 32 := 1#32
  let arg13 : BitVec 32 := Scf.iv c0_i32_110 c1_i32_112 k0_t20
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c16_729 : Index := 16#32
  ![v1390.toNat, 1, 16]
@[reducible] def k0_t21_loop : Scf.Loop 32 :=
  let c0_i32_149 : BitVec 32 := 0#32
  let c8_i32_150 : BitVec 32 := 8#32
  let v270 : BitVec 32 := Scalar.addi c0_i32_149 c8_i32_150
  let c1_i32_151 : BitVec 32 := 1#32
  ⟨c0_i32_149, v270, c1_i32_151⟩

def k0_chk73 (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v231] : Fin 3 → IVec S16 32) a x).toNat < S224x2x128.size a) ∧
  (∀ a x, ((![v1272, v1286, v235] : Fin 3 → IVec S16 32) a x).toNat < S224x2x128.size a) ∧
  (∀ a x, ((![v1274, v1286, v239] : Fin 3 → IVec S16 32) a x).toNat < S224x2x128.size a) ∧
  (∀ a x, ((![v1276, v1286, v243] : Fin 3 → IVec S16 32) a x).toNat < S224x2x128.size a) ∧
  (∀ a x, ((![v1278, v1286, v247] : Fin 3 → IVec S16 32) a x).toNat < S224x2x128.size a) ∧
  (∀ a x, ((![v1280, v1286, v251] : Fin 3 → IVec S16 32) a x).toNat < S224x2x128.size a) ∧
  (∀ a x, ((![v1282, v1286, v255] : Fin 3 → IVec S16 32) a x).toNat < S224x2x128.size a)
theorem k0_idx505_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw73 : k0_chk73 i k0_t18 v231 v235 v239 v243 v247 v251 v255 v1270 v1272 v1274 v1276 v1278 v1280 v1282 v1286), ∀ a x, ((![v1270, v1286, v231] : Fin 3 → IVec S16 32) a x).toNat < S224x2x128.size a := fun i k0_t18 v231 v235 v239 v243 v247 v251 v255 v1270 v1272 v1274 v1276 v1278 v1280 v1282 v1286 k0_hw73 => k0_hw73.1
theorem k0_idx506_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw73 : k0_chk73 i k0_t18 v231 v235 v239 v243 v247 v251 v255 v1270 v1272 v1274 v1276 v1278 v1280 v1282 v1286), ∀ a x, ((![v1272, v1286, v235] : Fin 3 → IVec S16 32) a x).toNat < S224x2x128.size a := fun i k0_t18 v231 v235 v239 v243 v247 v251 v255 v1270 v1272 v1274 v1276 v1278 v1280 v1282 v1286 k0_hw73 => k0_hw73.2.1
theorem k0_idx507_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw73 : k0_chk73 i k0_t18 v231 v235 v239 v243 v247 v251 v255 v1270 v1272 v1274 v1276 v1278 v1280 v1282 v1286), ∀ a x, ((![v1274, v1286, v239] : Fin 3 → IVec S16 32) a x).toNat < S224x2x128.size a := fun i k0_t18 v231 v235 v239 v243 v247 v251 v255 v1270 v1272 v1274 v1276 v1278 v1280 v1282 v1286 k0_hw73 => k0_hw73.2.2.1
theorem k0_idx508_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw73 : k0_chk73 i k0_t18 v231 v235 v239 v243 v247 v251 v255 v1270 v1272 v1274 v1276 v1278 v1280 v1282 v1286), ∀ a x, ((![v1276, v1286, v243] : Fin 3 → IVec S16 32) a x).toNat < S224x2x128.size a := fun i k0_t18 v231 v235 v239 v243 v247 v251 v255 v1270 v1272 v1274 v1276 v1278 v1280 v1282 v1286 k0_hw73 => k0_hw73.2.2.2.1
theorem k0_idx509_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw73 : k0_chk73 i k0_t18 v231 v235 v239 v243 v247 v251 v255 v1270 v1272 v1274 v1276 v1278 v1280 v1282 v1286), ∀ a x, ((![v1278, v1286, v247] : Fin 3 → IVec S16 32) a x).toNat < S224x2x128.size a := fun i k0_t18 v231 v235 v239 v243 v247 v251 v255 v1270 v1272 v1274 v1276 v1278 v1280 v1282 v1286 k0_hw73 => k0_hw73.2.2.2.2.1
theorem k0_idx510_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw73 : k0_chk73 i k0_t18 v231 v235 v239 v243 v247 v251 v255 v1270 v1272 v1274 v1276 v1278 v1280 v1282 v1286), ∀ a x, ((![v1280, v1286, v251] : Fin 3 → IVec S16 32) a x).toNat < S224x2x128.size a := fun i k0_t18 v231 v235 v239 v243 v247 v251 v255 v1270 v1272 v1274 v1276 v1278 v1280 v1282 v1286 k0_hw73 => k0_hw73.2.2.2.2.2.1
theorem k0_idx511_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw73 : k0_chk73 i k0_t18 v231 v235 v239 v243 v247 v251 v255 v1270 v1272 v1274 v1276 v1278 v1280 v1282 v1286), ∀ a x, ((![v1282, v1286, v255] : Fin 3 → IVec S16 32) a x).toNat < S224x2x128.size a := fun i k0_t18 v231 v235 v239 v243 v247 v251 v255 v1270 v1272 v1274 v1276 v1278 v1280 v1282 v1286 k0_hw73 => k0_hw73.2.2.2.2.2.2
def k0_off85 (k0_t21 : Fin k0_t21_loop.trips) : Fin 3 → Nat :=
  let c0_i32_706 : BitVec 32 := 0#32
  let c2_i32_700 : BitVec 32 := 2#32
  let c0_i32_149 : BitVec 32 := 0#32
  let c1_i32_151 : BitVec 32 := 1#32
  let arg13 : BitVec 32 := Scf.iv c0_i32_149 c1_i32_151 k0_t21
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c32 : Index := 32#32
  ![v1303.toNat, 0, 32]

def k0_chk74 (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v231] : Fin 3 → IVec S16 32) a x).toNat < S224x2x128.size a) ∧
  (∀ a x, ((![v1272, v1309, v235] : Fin 3 → IVec S16 32) a x).toNat < S224x2x128.size a) ∧
  (∀ a x, ((![v1274, v1309, v239] : Fin 3 → IVec S16 32) a x).toNat < S224x2x128.size a) ∧
  (∀ a x, ((![v1276, v1309, v243] : Fin 3 → IVec S16 32) a x).toNat < S224x2x128.size a) ∧
  (∀ a x, ((![v1278, v1309, v247] : Fin 3 → IVec S16 32) a x).toNat < S224x2x128.size a) ∧
  (∀ a x, ((![v1280, v1309, v251] : Fin 3 → IVec S16 32) a x).toNat < S224x2x128.size a) ∧
  (∀ a x, ((![v1282, v1309, v255] : Fin 3 → IVec S16 32) a x).toNat < S224x2x128.size a)
theorem k0_idx512_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw74 : k0_chk74 i k0_t18 v231 v235 v239 v243 v247 v251 v255 v1270 v1272 v1274 v1276 v1278 v1280 v1282 v1309), ∀ a x, ((![v1270, v1309, v231] : Fin 3 → IVec S16 32) a x).toNat < S224x2x128.size a := fun i k0_t18 v231 v235 v239 v243 v247 v251 v255 v1270 v1272 v1274 v1276 v1278 v1280 v1282 v1309 k0_hw74 => k0_hw74.1
theorem k0_idx513_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw74 : k0_chk74 i k0_t18 v231 v235 v239 v243 v247 v251 v255 v1270 v1272 v1274 v1276 v1278 v1280 v1282 v1309), ∀ a x, ((![v1272, v1309, v235] : Fin 3 → IVec S16 32) a x).toNat < S224x2x128.size a := fun i k0_t18 v231 v235 v239 v243 v247 v251 v255 v1270 v1272 v1274 v1276 v1278 v1280 v1282 v1309 k0_hw74 => k0_hw74.2.1
theorem k0_idx514_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw74 : k0_chk74 i k0_t18 v231 v235 v239 v243 v247 v251 v255 v1270 v1272 v1274 v1276 v1278 v1280 v1282 v1309), ∀ a x, ((![v1274, v1309, v239] : Fin 3 → IVec S16 32) a x).toNat < S224x2x128.size a := fun i k0_t18 v231 v235 v239 v243 v247 v251 v255 v1270 v1272 v1274 v1276 v1278 v1280 v1282 v1309 k0_hw74 => k0_hw74.2.2.1
theorem k0_idx515_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw74 : k0_chk74 i k0_t18 v231 v235 v239 v243 v247 v251 v255 v1270 v1272 v1274 v1276 v1278 v1280 v1282 v1309), ∀ a x, ((![v1276, v1309, v243] : Fin 3 → IVec S16 32) a x).toNat < S224x2x128.size a := fun i k0_t18 v231 v235 v239 v243 v247 v251 v255 v1270 v1272 v1274 v1276 v1278 v1280 v1282 v1309 k0_hw74 => k0_hw74.2.2.2.1
theorem k0_idx516_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw74 : k0_chk74 i k0_t18 v231 v235 v239 v243 v247 v251 v255 v1270 v1272 v1274 v1276 v1278 v1280 v1282 v1309), ∀ a x, ((![v1278, v1309, v247] : Fin 3 → IVec S16 32) a x).toNat < S224x2x128.size a := fun i k0_t18 v231 v235 v239 v243 v247 v251 v255 v1270 v1272 v1274 v1276 v1278 v1280 v1282 v1309 k0_hw74 => k0_hw74.2.2.2.2.1
theorem k0_idx517_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw74 : k0_chk74 i k0_t18 v231 v235 v239 v243 v247 v251 v255 v1270 v1272 v1274 v1276 v1278 v1280 v1282 v1309), ∀ a x, ((![v1280, v1309, v251] : Fin 3 → IVec S16 32) a x).toNat < S224x2x128.size a := fun i k0_t18 v231 v235 v239 v243 v247 v251 v255 v1270 v1272 v1274 v1276 v1278 v1280 v1282 v1309 k0_hw74 => k0_hw74.2.2.2.2.2.1
theorem k0_idx518_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw74 : k0_chk74 i k0_t18 v231 v235 v239 v243 v247 v251 v255 v1270 v1272 v1274 v1276 v1278 v1280 v1282 v1309), ∀ a x, ((![v1282, v1309, v255] : Fin 3 → IVec S16 32) a x).toNat < S224x2x128.size a := fun i k0_t18 v231 v235 v239 v243 v247 v251 v255 v1270 v1272 v1274 v1276 v1278 v1280 v1282 v1309 k0_hw74 => k0_hw74.2.2.2.2.2.2
def k0_off86 (k0_t21 : Fin k0_t21_loop.trips) : Fin 3 → Nat :=
  let c0_i32_711 : BitVec 32 := 0#32
  let c2_i32_700 : BitVec 32 := 2#32
  let c0_i32_149 : BitVec 32 := 0#32
  let c1_i32_151 : BitVec 32 := 1#32
  let arg13 : BitVec 32 := Scf.iv c0_i32_149 c1_i32_151 k0_t21
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c32_713 : Index := 32#32
  ![v1326.toNat, 1, 32]

def k0_chk75 (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v231] : Fin 3 → IVec S16 32) a x).toNat < S224x2x128.size a) ∧
  (∀ a x, ((![v1336, v1350, v235] : Fin 3 → IVec S16 32) a x).toNat < S224x2x128.size a) ∧
  (∀ a x, ((![v1338, v1350, v239] : Fin 3 → IVec S16 32) a x).toNat < S224x2x128.size a) ∧
  (∀ a x, ((![v1340, v1350, v243] : Fin 3 → IVec S16 32) a x).toNat < S224x2x128.size a) ∧
  (∀ a x, ((![v1342, v1350, v247] : Fin 3 → IVec S16 32) a x).toNat < S224x2x128.size a) ∧
  (∀ a x, ((![v1344, v1350, v251] : Fin 3 → IVec S16 32) a x).toNat < S224x2x128.size a) ∧
  (∀ a x, ((![v1346, v1350, v255] : Fin 3 → IVec S16 32) a x).toNat < S224x2x128.size a)
theorem k0_idx519_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw75 : k0_chk75 i k0_t18 v231 v235 v239 v243 v247 v251 v255 v1334 v1336 v1338 v1340 v1342 v1344 v1346 v1350), ∀ a x, ((![v1334, v1350, v231] : Fin 3 → IVec S16 32) a x).toNat < S224x2x128.size a := fun i k0_t18 v231 v235 v239 v243 v247 v251 v255 v1334 v1336 v1338 v1340 v1342 v1344 v1346 v1350 k0_hw75 => k0_hw75.1
theorem k0_idx520_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw75 : k0_chk75 i k0_t18 v231 v235 v239 v243 v247 v251 v255 v1334 v1336 v1338 v1340 v1342 v1344 v1346 v1350), ∀ a x, ((![v1336, v1350, v235] : Fin 3 → IVec S16 32) a x).toNat < S224x2x128.size a := fun i k0_t18 v231 v235 v239 v243 v247 v251 v255 v1334 v1336 v1338 v1340 v1342 v1344 v1346 v1350 k0_hw75 => k0_hw75.2.1
theorem k0_idx521_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw75 : k0_chk75 i k0_t18 v231 v235 v239 v243 v247 v251 v255 v1334 v1336 v1338 v1340 v1342 v1344 v1346 v1350), ∀ a x, ((![v1338, v1350, v239] : Fin 3 → IVec S16 32) a x).toNat < S224x2x128.size a := fun i k0_t18 v231 v235 v239 v243 v247 v251 v255 v1334 v1336 v1338 v1340 v1342 v1344 v1346 v1350 k0_hw75 => k0_hw75.2.2.1
theorem k0_idx522_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw75 : k0_chk75 i k0_t18 v231 v235 v239 v243 v247 v251 v255 v1334 v1336 v1338 v1340 v1342 v1344 v1346 v1350), ∀ a x, ((![v1340, v1350, v243] : Fin 3 → IVec S16 32) a x).toNat < S224x2x128.size a := fun i k0_t18 v231 v235 v239 v243 v247 v251 v255 v1334 v1336 v1338 v1340 v1342 v1344 v1346 v1350 k0_hw75 => k0_hw75.2.2.2.1
theorem k0_idx523_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw75 : k0_chk75 i k0_t18 v231 v235 v239 v243 v247 v251 v255 v1334 v1336 v1338 v1340 v1342 v1344 v1346 v1350), ∀ a x, ((![v1342, v1350, v247] : Fin 3 → IVec S16 32) a x).toNat < S224x2x128.size a := fun i k0_t18 v231 v235 v239 v243 v247 v251 v255 v1334 v1336 v1338 v1340 v1342 v1344 v1346 v1350 k0_hw75 => k0_hw75.2.2.2.2.1
theorem k0_idx524_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw75 : k0_chk75 i k0_t18 v231 v235 v239 v243 v247 v251 v255 v1334 v1336 v1338 v1340 v1342 v1344 v1346 v1350), ∀ a x, ((![v1344, v1350, v251] : Fin 3 → IVec S16 32) a x).toNat < S224x2x128.size a := fun i k0_t18 v231 v235 v239 v243 v247 v251 v255 v1334 v1336 v1338 v1340 v1342 v1344 v1346 v1350 k0_hw75 => k0_hw75.2.2.2.2.2.1
theorem k0_idx525_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw75 : k0_chk75 i k0_t18 v231 v235 v239 v243 v247 v251 v255 v1334 v1336 v1338 v1340 v1342 v1344 v1346 v1350), ∀ a x, ((![v1346, v1350, v255] : Fin 3 → IVec S16 32) a x).toNat < S224x2x128.size a := fun i k0_t18 v231 v235 v239 v243 v247 v251 v255 v1334 v1336 v1338 v1340 v1342 v1344 v1346 v1350 k0_hw75 => k0_hw75.2.2.2.2.2.2
def k0_off87 (k0_t21 : Fin k0_t21_loop.trips) : Fin 3 → Nat :=
  let c0_i32_721 : BitVec 32 := 0#32
  let c2_i32_714 : BitVec 32 := 2#32
  let c0_i32_149 : BitVec 32 := 0#32
  let c1_i32_151 : BitVec 32 := 1#32
  let arg13 : BitVec 32 := Scf.iv c0_i32_149 c1_i32_151 k0_t21
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c32_723 : Index := 32#32
  ![v1367.toNat, 0, 32]

def k0_chk76 (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v231] : Fin 3 → IVec S16 32) a x).toNat < S224x2x128.size a) ∧
  (∀ a x, ((![v1336, v1373, v235] : Fin 3 → IVec S16 32) a x).toNat < S224x2x128.size a) ∧
  (∀ a x, ((![v1338, v1373, v239] : Fin 3 → IVec S16 32) a x).toNat < S224x2x128.size a) ∧
  (∀ a x, ((![v1340, v1373, v243] : Fin 3 → IVec S16 32) a x).toNat < S224x2x128.size a) ∧
  (∀ a x, ((![v1342, v1373, v247] : Fin 3 → IVec S16 32) a x).toNat < S224x2x128.size a) ∧
  (∀ a x, ((![v1344, v1373, v251] : Fin 3 → IVec S16 32) a x).toNat < S224x2x128.size a) ∧
  (∀ a x, ((![v1346, v1373, v255] : Fin 3 → IVec S16 32) a x).toNat < S224x2x128.size a)
theorem k0_idx526_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw76 : k0_chk76 i k0_t18 v231 v235 v239 v243 v247 v251 v255 v1334 v1336 v1338 v1340 v1342 v1344 v1346 v1373), ∀ a x, ((![v1334, v1373, v231] : Fin 3 → IVec S16 32) a x).toNat < S224x2x128.size a := fun i k0_t18 v231 v235 v239 v243 v247 v251 v255 v1334 v1336 v1338 v1340 v1342 v1344 v1346 v1373 k0_hw76 => k0_hw76.1
theorem k0_idx527_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw76 : k0_chk76 i k0_t18 v231 v235 v239 v243 v247 v251 v255 v1334 v1336 v1338 v1340 v1342 v1344 v1346 v1373), ∀ a x, ((![v1336, v1373, v235] : Fin 3 → IVec S16 32) a x).toNat < S224x2x128.size a := fun i k0_t18 v231 v235 v239 v243 v247 v251 v255 v1334 v1336 v1338 v1340 v1342 v1344 v1346 v1373 k0_hw76 => k0_hw76.2.1
theorem k0_idx528_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw76 : k0_chk76 i k0_t18 v231 v235 v239 v243 v247 v251 v255 v1334 v1336 v1338 v1340 v1342 v1344 v1346 v1373), ∀ a x, ((![v1338, v1373, v239] : Fin 3 → IVec S16 32) a x).toNat < S224x2x128.size a := fun i k0_t18 v231 v235 v239 v243 v247 v251 v255 v1334 v1336 v1338 v1340 v1342 v1344 v1346 v1373 k0_hw76 => k0_hw76.2.2.1
theorem k0_idx529_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw76 : k0_chk76 i k0_t18 v231 v235 v239 v243 v247 v251 v255 v1334 v1336 v1338 v1340 v1342 v1344 v1346 v1373), ∀ a x, ((![v1340, v1373, v243] : Fin 3 → IVec S16 32) a x).toNat < S224x2x128.size a := fun i k0_t18 v231 v235 v239 v243 v247 v251 v255 v1334 v1336 v1338 v1340 v1342 v1344 v1346 v1373 k0_hw76 => k0_hw76.2.2.2.1
theorem k0_idx530_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw76 : k0_chk76 i k0_t18 v231 v235 v239 v243 v247 v251 v255 v1334 v1336 v1338 v1340 v1342 v1344 v1346 v1373), ∀ a x, ((![v1342, v1373, v247] : Fin 3 → IVec S16 32) a x).toNat < S224x2x128.size a := fun i k0_t18 v231 v235 v239 v243 v247 v251 v255 v1334 v1336 v1338 v1340 v1342 v1344 v1346 v1373 k0_hw76 => k0_hw76.2.2.2.2.1
theorem k0_idx531_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw76 : k0_chk76 i k0_t18 v231 v235 v239 v243 v247 v251 v255 v1334 v1336 v1338 v1340 v1342 v1344 v1346 v1373), ∀ a x, ((![v1344, v1373, v251] : Fin 3 → IVec S16 32) a x).toNat < S224x2x128.size a := fun i k0_t18 v231 v235 v239 v243 v247 v251 v255 v1334 v1336 v1338 v1340 v1342 v1344 v1346 v1373 k0_hw76 => k0_hw76.2.2.2.2.2.1
theorem k0_idx532_inb : ∀ (i : grid0.Coords) (k0_t18 : Fin (k0_t18_loop i).trips) (v231 : IVec S16 32) (v235 : IVec S16 32) (v239 : IVec S16 32) (v243 : IVec S16 32) (v247 : IVec S16 32) (v251 : IVec S16 32) (v255 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw76 : k0_chk76 i k0_t18 v231 v235 v239 v243 v247 v251 v255 v1334 v1336 v1338 v1340 v1342 v1344 v1346 v1373), ∀ a x, ((![v1346, v1373, v255] : Fin 3 → IVec S16 32) a x).toNat < S224x2x128.size a := fun i k0_t18 v231 v235 v239 v243 v247 v251 v255 v1334 v1336 v1338 v1340 v1342 v1344 v1346 v1373 k0_hw76 => k0_hw76.2.2.2.2.2.2
def k0_off88 (k0_t21 : Fin k0_t21_loop.trips) : Fin 3 → Nat :=
  let c0_i32_727 : BitVec 32 := 0#32
  let c2_i32_714 : BitVec 32 := 2#32
  let c0_i32_149 : BitVec 32 := 0#32
  let c1_i32_151 : BitVec 32 := 1#32
  let arg13 : BitVec 32 := Scf.iv c0_i32_149 c1_i32_151 k0_t21
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c32_729 : Index := 32#32
  ![v1390.toNat, 1, 32]
@[reducible] def k0_t22_loop : Scf.Loop 32 :=
  let c0_i32_188 : BitVec 32 := 0#32
  let c8_i32_189 : BitVec 32 := 8#32
  let v343 : BitVec 32 := Scalar.addi c0_i32_188 c8_i32_189
  let c1_i32_190 : BitVec 32 := 1#32
  ⟨c0_i32_188, v343, c1_i32_190⟩

def k0_chk77 (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v304] : Fin 3 → IVec S16 32) a x).toNat < S224x2x128.size a) ∧
  (∀ a x, ((![v1272, v1286, v308] : Fin 3 → IVec S16 32) a x).toNat < S224x2x128.size a) ∧
  (∀ a x, ((![v1274, v1286, v312] : Fin 3 → IVec S16 32) a x).toNat < S224x2x128.size a) ∧
  (∀ a x, ((![v1276, v1286, v316] : Fin 3 → IVec S16 32) a x).toNat < S224x2x128.size a) ∧
  (∀ a x, ((![v1278, v1286, v320] : Fin 3 → IVec S16 32) a x).toNat < S224x2x128.size a) ∧
  (∀ a x, ((![v1280, v1286, v324] : Fin 3 → IVec S16 32) a x).toNat < S224x2x128.size a) ∧
  (∀ a x, ((![v1282, v1286, v328] : Fin 3 → IVec S16 32) a x).toNat < S224x2x128.size a)
theorem k0_idx533_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw77 : k0_chk77 i k0_t18 v304 v308 v312 v316 v320 v324 v328 v1270 v1272 v1274 v1276 v1278 v1280 v1282 v1286), ∀ a x, ((![v1270, v1286, v304] : Fin 3 → IVec S16 32) a x).toNat < S224x2x128.size a := fun i k0_t18 v304 v308 v312 v316 v320 v324 v328 v1270 v1272 v1274 v1276 v1278 v1280 v1282 v1286 k0_hw77 => k0_hw77.1
theorem k0_idx534_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw77 : k0_chk77 i k0_t18 v304 v308 v312 v316 v320 v324 v328 v1270 v1272 v1274 v1276 v1278 v1280 v1282 v1286), ∀ a x, ((![v1272, v1286, v308] : Fin 3 → IVec S16 32) a x).toNat < S224x2x128.size a := fun i k0_t18 v304 v308 v312 v316 v320 v324 v328 v1270 v1272 v1274 v1276 v1278 v1280 v1282 v1286 k0_hw77 => k0_hw77.2.1
theorem k0_idx535_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw77 : k0_chk77 i k0_t18 v304 v308 v312 v316 v320 v324 v328 v1270 v1272 v1274 v1276 v1278 v1280 v1282 v1286), ∀ a x, ((![v1274, v1286, v312] : Fin 3 → IVec S16 32) a x).toNat < S224x2x128.size a := fun i k0_t18 v304 v308 v312 v316 v320 v324 v328 v1270 v1272 v1274 v1276 v1278 v1280 v1282 v1286 k0_hw77 => k0_hw77.2.2.1
theorem k0_idx536_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw77 : k0_chk77 i k0_t18 v304 v308 v312 v316 v320 v324 v328 v1270 v1272 v1274 v1276 v1278 v1280 v1282 v1286), ∀ a x, ((![v1276, v1286, v316] : Fin 3 → IVec S16 32) a x).toNat < S224x2x128.size a := fun i k0_t18 v304 v308 v312 v316 v320 v324 v328 v1270 v1272 v1274 v1276 v1278 v1280 v1282 v1286 k0_hw77 => k0_hw77.2.2.2.1
theorem k0_idx537_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw77 : k0_chk77 i k0_t18 v304 v308 v312 v316 v320 v324 v328 v1270 v1272 v1274 v1276 v1278 v1280 v1282 v1286), ∀ a x, ((![v1278, v1286, v320] : Fin 3 → IVec S16 32) a x).toNat < S224x2x128.size a := fun i k0_t18 v304 v308 v312 v316 v320 v324 v328 v1270 v1272 v1274 v1276 v1278 v1280 v1282 v1286 k0_hw77 => k0_hw77.2.2.2.2.1
theorem k0_idx538_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw77 : k0_chk77 i k0_t18 v304 v308 v312 v316 v320 v324 v328 v1270 v1272 v1274 v1276 v1278 v1280 v1282 v1286), ∀ a x, ((![v1280, v1286, v324] : Fin 3 → IVec S16 32) a x).toNat < S224x2x128.size a := fun i k0_t18 v304 v308 v312 v316 v320 v324 v328 v1270 v1272 v1274 v1276 v1278 v1280 v1282 v1286 k0_hw77 => k0_hw77.2.2.2.2.2.1
theorem k0_idx539_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw77 : k0_chk77 i k0_t18 v304 v308 v312 v316 v320 v324 v328 v1270 v1272 v1274 v1276 v1278 v1280 v1282 v1286), ∀ a x, ((![v1282, v1286, v328] : Fin 3 → IVec S16 32) a x).toNat < S224x2x128.size a := fun i k0_t18 v304 v308 v312 v316 v320 v324 v328 v1270 v1272 v1274 v1276 v1278 v1280 v1282 v1286 k0_hw77 => k0_hw77.2.2.2.2.2.2
def k0_off89 (k0_t22 : Fin k0_t22_loop.trips) : Fin 3 → Nat :=
  let c0_i32_706 : BitVec 32 := 0#32
  let c2_i32_700 : BitVec 32 := 2#32
  let c0_i32_188 : BitVec 32 := 0#32
  let c1_i32_190 : BitVec 32 := 1#32
  let arg13 : BitVec 32 := Scf.iv c0_i32_188 c1_i32_190 k0_t22
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c48 : Index := 48#32
  ![v1303.toNat, 0, 48]

def k0_chk78 (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v304] : Fin 3 → IVec S16 32) a x).toNat < S224x2x128.size a) ∧
  (∀ a x, ((![v1272, v1309, v308] : Fin 3 → IVec S16 32) a x).toNat < S224x2x128.size a) ∧
  (∀ a x, ((![v1274, v1309, v312] : Fin 3 → IVec S16 32) a x).toNat < S224x2x128.size a) ∧
  (∀ a x, ((![v1276, v1309, v316] : Fin 3 → IVec S16 32) a x).toNat < S224x2x128.size a) ∧
  (∀ a x, ((![v1278, v1309, v320] : Fin 3 → IVec S16 32) a x).toNat < S224x2x128.size a) ∧
  (∀ a x, ((![v1280, v1309, v324] : Fin 3 → IVec S16 32) a x).toNat < S224x2x128.size a) ∧
  (∀ a x, ((![v1282, v1309, v328] : Fin 3 → IVec S16 32) a x).toNat < S224x2x128.size a)
theorem k0_idx540_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw78 : k0_chk78 i k0_t18 v304 v308 v312 v316 v320 v324 v328 v1270 v1272 v1274 v1276 v1278 v1280 v1282 v1309), ∀ a x, ((![v1270, v1309, v304] : Fin 3 → IVec S16 32) a x).toNat < S224x2x128.size a := fun i k0_t18 v304 v308 v312 v316 v320 v324 v328 v1270 v1272 v1274 v1276 v1278 v1280 v1282 v1309 k0_hw78 => k0_hw78.1
theorem k0_idx541_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw78 : k0_chk78 i k0_t18 v304 v308 v312 v316 v320 v324 v328 v1270 v1272 v1274 v1276 v1278 v1280 v1282 v1309), ∀ a x, ((![v1272, v1309, v308] : Fin 3 → IVec S16 32) a x).toNat < S224x2x128.size a := fun i k0_t18 v304 v308 v312 v316 v320 v324 v328 v1270 v1272 v1274 v1276 v1278 v1280 v1282 v1309 k0_hw78 => k0_hw78.2.1
theorem k0_idx542_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw78 : k0_chk78 i k0_t18 v304 v308 v312 v316 v320 v324 v328 v1270 v1272 v1274 v1276 v1278 v1280 v1282 v1309), ∀ a x, ((![v1274, v1309, v312] : Fin 3 → IVec S16 32) a x).toNat < S224x2x128.size a := fun i k0_t18 v304 v308 v312 v316 v320 v324 v328 v1270 v1272 v1274 v1276 v1278 v1280 v1282 v1309 k0_hw78 => k0_hw78.2.2.1
theorem k0_idx543_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw78 : k0_chk78 i k0_t18 v304 v308 v312 v316 v320 v324 v328 v1270 v1272 v1274 v1276 v1278 v1280 v1282 v1309), ∀ a x, ((![v1276, v1309, v316] : Fin 3 → IVec S16 32) a x).toNat < S224x2x128.size a := fun i k0_t18 v304 v308 v312 v316 v320 v324 v328 v1270 v1272 v1274 v1276 v1278 v1280 v1282 v1309 k0_hw78 => k0_hw78.2.2.2.1
theorem k0_idx544_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw78 : k0_chk78 i k0_t18 v304 v308 v312 v316 v320 v324 v328 v1270 v1272 v1274 v1276 v1278 v1280 v1282 v1309), ∀ a x, ((![v1278, v1309, v320] : Fin 3 → IVec S16 32) a x).toNat < S224x2x128.size a := fun i k0_t18 v304 v308 v312 v316 v320 v324 v328 v1270 v1272 v1274 v1276 v1278 v1280 v1282 v1309 k0_hw78 => k0_hw78.2.2.2.2.1
theorem k0_idx545_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw78 : k0_chk78 i k0_t18 v304 v308 v312 v316 v320 v324 v328 v1270 v1272 v1274 v1276 v1278 v1280 v1282 v1309), ∀ a x, ((![v1280, v1309, v324] : Fin 3 → IVec S16 32) a x).toNat < S224x2x128.size a := fun i k0_t18 v304 v308 v312 v316 v320 v324 v328 v1270 v1272 v1274 v1276 v1278 v1280 v1282 v1309 k0_hw78 => k0_hw78.2.2.2.2.2.1
theorem k0_idx546_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw78 : k0_chk78 i k0_t18 v304 v308 v312 v316 v320 v324 v328 v1270 v1272 v1274 v1276 v1278 v1280 v1282 v1309), ∀ a x, ((![v1282, v1309, v328] : Fin 3 → IVec S16 32) a x).toNat < S224x2x128.size a := fun i k0_t18 v304 v308 v312 v316 v320 v324 v328 v1270 v1272 v1274 v1276 v1278 v1280 v1282 v1309 k0_hw78 => k0_hw78.2.2.2.2.2.2
def k0_off90 (k0_t22 : Fin k0_t22_loop.trips) : Fin 3 → Nat :=
  let c0_i32_711 : BitVec 32 := 0#32
  let c2_i32_700 : BitVec 32 := 2#32
  let c0_i32_188 : BitVec 32 := 0#32
  let c1_i32_190 : BitVec 32 := 1#32
  let arg13 : BitVec 32 := Scf.iv c0_i32_188 c1_i32_190 k0_t22
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c48_713 : Index := 48#32
  ![v1326.toNat, 1, 48]

def k0_chk79 (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v304] : Fin 3 → IVec S16 32) a x).toNat < S224x2x128.size a) ∧
  (∀ a x, ((![v1336, v1350, v308] : Fin 3 → IVec S16 32) a x).toNat < S224x2x128.size a) ∧
  (∀ a x, ((![v1338, v1350, v312] : Fin 3 → IVec S16 32) a x).toNat < S224x2x128.size a) ∧
  (∀ a x, ((![v1340, v1350, v316] : Fin 3 → IVec S16 32) a x).toNat < S224x2x128.size a) ∧
  (∀ a x, ((![v1342, v1350, v320] : Fin 3 → IVec S16 32) a x).toNat < S224x2x128.size a) ∧
  (∀ a x, ((![v1344, v1350, v324] : Fin 3 → IVec S16 32) a x).toNat < S224x2x128.size a) ∧
  (∀ a x, ((![v1346, v1350, v328] : Fin 3 → IVec S16 32) a x).toNat < S224x2x128.size a)
theorem k0_idx547_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw79 : k0_chk79 i k0_t18 v304 v308 v312 v316 v320 v324 v328 v1334 v1336 v1338 v1340 v1342 v1344 v1346 v1350), ∀ a x, ((![v1334, v1350, v304] : Fin 3 → IVec S16 32) a x).toNat < S224x2x128.size a := fun i k0_t18 v304 v308 v312 v316 v320 v324 v328 v1334 v1336 v1338 v1340 v1342 v1344 v1346 v1350 k0_hw79 => k0_hw79.1
theorem k0_idx548_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw79 : k0_chk79 i k0_t18 v304 v308 v312 v316 v320 v324 v328 v1334 v1336 v1338 v1340 v1342 v1344 v1346 v1350), ∀ a x, ((![v1336, v1350, v308] : Fin 3 → IVec S16 32) a x).toNat < S224x2x128.size a := fun i k0_t18 v304 v308 v312 v316 v320 v324 v328 v1334 v1336 v1338 v1340 v1342 v1344 v1346 v1350 k0_hw79 => k0_hw79.2.1
theorem k0_idx549_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw79 : k0_chk79 i k0_t18 v304 v308 v312 v316 v320 v324 v328 v1334 v1336 v1338 v1340 v1342 v1344 v1346 v1350), ∀ a x, ((![v1338, v1350, v312] : Fin 3 → IVec S16 32) a x).toNat < S224x2x128.size a := fun i k0_t18 v304 v308 v312 v316 v320 v324 v328 v1334 v1336 v1338 v1340 v1342 v1344 v1346 v1350 k0_hw79 => k0_hw79.2.2.1
theorem k0_idx550_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw79 : k0_chk79 i k0_t18 v304 v308 v312 v316 v320 v324 v328 v1334 v1336 v1338 v1340 v1342 v1344 v1346 v1350), ∀ a x, ((![v1340, v1350, v316] : Fin 3 → IVec S16 32) a x).toNat < S224x2x128.size a := fun i k0_t18 v304 v308 v312 v316 v320 v324 v328 v1334 v1336 v1338 v1340 v1342 v1344 v1346 v1350 k0_hw79 => k0_hw79.2.2.2.1
theorem k0_idx551_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw79 : k0_chk79 i k0_t18 v304 v308 v312 v316 v320 v324 v328 v1334 v1336 v1338 v1340 v1342 v1344 v1346 v1350), ∀ a x, ((![v1342, v1350, v320] : Fin 3 → IVec S16 32) a x).toNat < S224x2x128.size a := fun i k0_t18 v304 v308 v312 v316 v320 v324 v328 v1334 v1336 v1338 v1340 v1342 v1344 v1346 v1350 k0_hw79 => k0_hw79.2.2.2.2.1
theorem k0_idx552_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw79 : k0_chk79 i k0_t18 v304 v308 v312 v316 v320 v324 v328 v1334 v1336 v1338 v1340 v1342 v1344 v1346 v1350), ∀ a x, ((![v1344, v1350, v324] : Fin 3 → IVec S16 32) a x).toNat < S224x2x128.size a := fun i k0_t18 v304 v308 v312 v316 v320 v324 v328 v1334 v1336 v1338 v1340 v1342 v1344 v1346 v1350 k0_hw79 => k0_hw79.2.2.2.2.2.1
theorem k0_idx553_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw79 : k0_chk79 i k0_t18 v304 v308 v312 v316 v320 v324 v328 v1334 v1336 v1338 v1340 v1342 v1344 v1346 v1350), ∀ a x, ((![v1346, v1350, v328] : Fin 3 → IVec S16 32) a x).toNat < S224x2x128.size a := fun i k0_t18 v304 v308 v312 v316 v320 v324 v328 v1334 v1336 v1338 v1340 v1342 v1344 v1346 v1350 k0_hw79 => k0_hw79.2.2.2.2.2.2
def k0_off91 (k0_t22 : Fin k0_t22_loop.trips) : Fin 3 → Nat :=
  let c0_i32_721 : BitVec 32 := 0#32
  let c2_i32_714 : BitVec 32 := 2#32
  let c0_i32_188 : BitVec 32 := 0#32
  let c1_i32_190 : BitVec 32 := 1#32
  let arg13 : BitVec 32 := Scf.iv c0_i32_188 c1_i32_190 k0_t22
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c48_723 : Index := 48#32
  ![v1367.toNat, 0, 48]

def k0_chk80 (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v304] : Fin 3 → IVec S16 32) a x).toNat < S224x2x128.size a) ∧
  (∀ a x, ((![v1336, v1373, v308] : Fin 3 → IVec S16 32) a x).toNat < S224x2x128.size a) ∧
  (∀ a x, ((![v1338, v1373, v312] : Fin 3 → IVec S16 32) a x).toNat < S224x2x128.size a) ∧
  (∀ a x, ((![v1340, v1373, v316] : Fin 3 → IVec S16 32) a x).toNat < S224x2x128.size a) ∧
  (∀ a x, ((![v1342, v1373, v320] : Fin 3 → IVec S16 32) a x).toNat < S224x2x128.size a) ∧
  (∀ a x, ((![v1344, v1373, v324] : Fin 3 → IVec S16 32) a x).toNat < S224x2x128.size a) ∧
  (∀ a x, ((![v1346, v1373, v328] : Fin 3 → IVec S16 32) a x).toNat < S224x2x128.size a)
theorem k0_idx554_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw80 : k0_chk80 i k0_t18 v304 v308 v312 v316 v320 v324 v328 v1334 v1336 v1338 v1340 v1342 v1344 v1346 v1373), ∀ a x, ((![v1334, v1373, v304] : Fin 3 → IVec S16 32) a x).toNat < S224x2x128.size a := fun i k0_t18 v304 v308 v312 v316 v320 v324 v328 v1334 v1336 v1338 v1340 v1342 v1344 v1346 v1373 k0_hw80 => k0_hw80.1
theorem k0_idx555_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw80 : k0_chk80 i k0_t18 v304 v308 v312 v316 v320 v324 v328 v1334 v1336 v1338 v1340 v1342 v1344 v1346 v1373), ∀ a x, ((![v1336, v1373, v308] : Fin 3 → IVec S16 32) a x).toNat < S224x2x128.size a := fun i k0_t18 v304 v308 v312 v316 v320 v324 v328 v1334 v1336 v1338 v1340 v1342 v1344 v1346 v1373 k0_hw80 => k0_hw80.2.1
theorem k0_idx556_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw80 : k0_chk80 i k0_t18 v304 v308 v312 v316 v320 v324 v328 v1334 v1336 v1338 v1340 v1342 v1344 v1346 v1373), ∀ a x, ((![v1338, v1373, v312] : Fin 3 → IVec S16 32) a x).toNat < S224x2x128.size a := fun i k0_t18 v304 v308 v312 v316 v320 v324 v328 v1334 v1336 v1338 v1340 v1342 v1344 v1346 v1373 k0_hw80 => k0_hw80.2.2.1
theorem k0_idx557_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw80 : k0_chk80 i k0_t18 v304 v308 v312 v316 v320 v324 v328 v1334 v1336 v1338 v1340 v1342 v1344 v1346 v1373), ∀ a x, ((![v1340, v1373, v316] : Fin 3 → IVec S16 32) a x).toNat < S224x2x128.size a := fun i k0_t18 v304 v308 v312 v316 v320 v324 v328 v1334 v1336 v1338 v1340 v1342 v1344 v1346 v1373 k0_hw80 => k0_hw80.2.2.2.1
theorem k0_idx558_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw80 : k0_chk80 i k0_t18 v304 v308 v312 v316 v320 v324 v328 v1334 v1336 v1338 v1340 v1342 v1344 v1346 v1373), ∀ a x, ((![v1342, v1373, v320] : Fin 3 → IVec S16 32) a x).toNat < S224x2x128.size a := fun i k0_t18 v304 v308 v312 v316 v320 v324 v328 v1334 v1336 v1338 v1340 v1342 v1344 v1346 v1373 k0_hw80 => k0_hw80.2.2.2.2.1
theorem k0_idx559_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw80 : k0_chk80 i k0_t18 v304 v308 v312 v316 v320 v324 v328 v1334 v1336 v1338 v1340 v1342 v1344 v1346 v1373), ∀ a x, ((![v1344, v1373, v324] : Fin 3 → IVec S16 32) a x).toNat < S224x2x128.size a := fun i k0_t18 v304 v308 v312 v316 v320 v324 v328 v1334 v1336 v1338 v1340 v1342 v1344 v1346 v1373 k0_hw80 => k0_hw80.2.2.2.2.2.1
theorem k0_idx560_inb : ∀ (i : grid0.Coords) (k0_t18 : Fin (k0_t18_loop i).trips) (v304 : IVec S16 32) (v308 : IVec S16 32) (v312 : IVec S16 32) (v316 : IVec S16 32) (v320 : IVec S16 32) (v324 : IVec S16 32) (v328 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw80 : k0_chk80 i k0_t18 v304 v308 v312 v316 v320 v324 v328 v1334 v1336 v1338 v1340 v1342 v1344 v1346 v1373), ∀ a x, ((![v1346, v1373, v328] : Fin 3 → IVec S16 32) a x).toNat < S224x2x128.size a := fun i k0_t18 v304 v308 v312 v316 v320 v324 v328 v1334 v1336 v1338 v1340 v1342 v1344 v1346 v1373 k0_hw80 => k0_hw80.2.2.2.2.2.2
def k0_off92 (k0_t22 : Fin k0_t22_loop.trips) : Fin 3 → Nat :=
  let c0_i32_727 : BitVec 32 := 0#32
  let c2_i32_714 : BitVec 32 := 2#32
  let c0_i32_188 : BitVec 32 := 0#32
  let c1_i32_190 : BitVec 32 := 1#32
  let arg13 : BitVec 32 := Scf.iv c0_i32_188 c1_i32_190 k0_t22
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c48_729 : Index := 48#32
  ![v1390.toNat, 1, 48]
@[reducible] def k0_t23_loop : Scf.Loop 32 :=
  let c0_i32_227 : BitVec 32 := 0#32
  let c8_i32_228 : BitVec 32 := 8#32
  let v416 : BitVec 32 := Scalar.addi c0_i32_227 c8_i32_228
  let c1_i32_229 : BitVec 32 := 1#32
  ⟨c0_i32_227, v416, c1_i32_229⟩

def k0_chk81 (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v377] : Fin 3 → IVec S16 32) a x).toNat < S224x2x128.size a) ∧
  (∀ a x, ((![v1272, v1286, v381] : Fin 3 → IVec S16 32) a x).toNat < S224x2x128.size a) ∧
  (∀ a x, ((![v1274, v1286, v385] : Fin 3 → IVec S16 32) a x).toNat < S224x2x128.size a) ∧
  (∀ a x, ((![v1276, v1286, v389] : Fin 3 → IVec S16 32) a x).toNat < S224x2x128.size a) ∧
  (∀ a x, ((![v1278, v1286, v393] : Fin 3 → IVec S16 32) a x).toNat < S224x2x128.size a) ∧
  (∀ a x, ((![v1280, v1286, v397] : Fin 3 → IVec S16 32) a x).toNat < S224x2x128.size a) ∧
  (∀ a x, ((![v1282, v1286, v401] : Fin 3 → IVec S16 32) a x).toNat < S224x2x128.size a)
theorem k0_idx561_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw81 : k0_chk81 i k0_t18 v377 v381 v385 v389 v393 v397 v401 v1270 v1272 v1274 v1276 v1278 v1280 v1282 v1286), ∀ a x, ((![v1270, v1286, v377] : Fin 3 → IVec S16 32) a x).toNat < S224x2x128.size a := fun i k0_t18 v377 v381 v385 v389 v393 v397 v401 v1270 v1272 v1274 v1276 v1278 v1280 v1282 v1286 k0_hw81 => k0_hw81.1
theorem k0_idx562_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw81 : k0_chk81 i k0_t18 v377 v381 v385 v389 v393 v397 v401 v1270 v1272 v1274 v1276 v1278 v1280 v1282 v1286), ∀ a x, ((![v1272, v1286, v381] : Fin 3 → IVec S16 32) a x).toNat < S224x2x128.size a := fun i k0_t18 v377 v381 v385 v389 v393 v397 v401 v1270 v1272 v1274 v1276 v1278 v1280 v1282 v1286 k0_hw81 => k0_hw81.2.1
theorem k0_idx563_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw81 : k0_chk81 i k0_t18 v377 v381 v385 v389 v393 v397 v401 v1270 v1272 v1274 v1276 v1278 v1280 v1282 v1286), ∀ a x, ((![v1274, v1286, v385] : Fin 3 → IVec S16 32) a x).toNat < S224x2x128.size a := fun i k0_t18 v377 v381 v385 v389 v393 v397 v401 v1270 v1272 v1274 v1276 v1278 v1280 v1282 v1286 k0_hw81 => k0_hw81.2.2.1
theorem k0_idx564_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw81 : k0_chk81 i k0_t18 v377 v381 v385 v389 v393 v397 v401 v1270 v1272 v1274 v1276 v1278 v1280 v1282 v1286), ∀ a x, ((![v1276, v1286, v389] : Fin 3 → IVec S16 32) a x).toNat < S224x2x128.size a := fun i k0_t18 v377 v381 v385 v389 v393 v397 v401 v1270 v1272 v1274 v1276 v1278 v1280 v1282 v1286 k0_hw81 => k0_hw81.2.2.2.1
theorem k0_idx565_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw81 : k0_chk81 i k0_t18 v377 v381 v385 v389 v393 v397 v401 v1270 v1272 v1274 v1276 v1278 v1280 v1282 v1286), ∀ a x, ((![v1278, v1286, v393] : Fin 3 → IVec S16 32) a x).toNat < S224x2x128.size a := fun i k0_t18 v377 v381 v385 v389 v393 v397 v401 v1270 v1272 v1274 v1276 v1278 v1280 v1282 v1286 k0_hw81 => k0_hw81.2.2.2.2.1
theorem k0_idx566_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw81 : k0_chk81 i k0_t18 v377 v381 v385 v389 v393 v397 v401 v1270 v1272 v1274 v1276 v1278 v1280 v1282 v1286), ∀ a x, ((![v1280, v1286, v397] : Fin 3 → IVec S16 32) a x).toNat < S224x2x128.size a := fun i k0_t18 v377 v381 v385 v389 v393 v397 v401 v1270 v1272 v1274 v1276 v1278 v1280 v1282 v1286 k0_hw81 => k0_hw81.2.2.2.2.2.1
theorem k0_idx567_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw81 : k0_chk81 i k0_t18 v377 v381 v385 v389 v393 v397 v401 v1270 v1272 v1274 v1276 v1278 v1280 v1282 v1286), ∀ a x, ((![v1282, v1286, v401] : Fin 3 → IVec S16 32) a x).toNat < S224x2x128.size a := fun i k0_t18 v377 v381 v385 v389 v393 v397 v401 v1270 v1272 v1274 v1276 v1278 v1280 v1282 v1286 k0_hw81 => k0_hw81.2.2.2.2.2.2
def k0_off93 (k0_t23 : Fin k0_t23_loop.trips) : Fin 3 → Nat :=
  let c0_i32_706 : BitVec 32 := 0#32
  let c2_i32_700 : BitVec 32 := 2#32
  let c0_i32_227 : BitVec 32 := 0#32
  let c1_i32_229 : BitVec 32 := 1#32
  let arg13 : BitVec 32 := Scf.iv c0_i32_227 c1_i32_229 k0_t23
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c64 : Index := 64#32
  ![v1303.toNat, 0, 64]

def k0_chk82 (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v377] : Fin 3 → IVec S16 32) a x).toNat < S224x2x128.size a) ∧
  (∀ a x, ((![v1272, v1309, v381] : Fin 3 → IVec S16 32) a x).toNat < S224x2x128.size a) ∧
  (∀ a x, ((![v1274, v1309, v385] : Fin 3 → IVec S16 32) a x).toNat < S224x2x128.size a) ∧
  (∀ a x, ((![v1276, v1309, v389] : Fin 3 → IVec S16 32) a x).toNat < S224x2x128.size a) ∧
  (∀ a x, ((![v1278, v1309, v393] : Fin 3 → IVec S16 32) a x).toNat < S224x2x128.size a) ∧
  (∀ a x, ((![v1280, v1309, v397] : Fin 3 → IVec S16 32) a x).toNat < S224x2x128.size a) ∧
  (∀ a x, ((![v1282, v1309, v401] : Fin 3 → IVec S16 32) a x).toNat < S224x2x128.size a)
theorem k0_idx568_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw82 : k0_chk82 i k0_t18 v377 v381 v385 v389 v393 v397 v401 v1270 v1272 v1274 v1276 v1278 v1280 v1282 v1309), ∀ a x, ((![v1270, v1309, v377] : Fin 3 → IVec S16 32) a x).toNat < S224x2x128.size a := fun i k0_t18 v377 v381 v385 v389 v393 v397 v401 v1270 v1272 v1274 v1276 v1278 v1280 v1282 v1309 k0_hw82 => k0_hw82.1
theorem k0_idx569_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw82 : k0_chk82 i k0_t18 v377 v381 v385 v389 v393 v397 v401 v1270 v1272 v1274 v1276 v1278 v1280 v1282 v1309), ∀ a x, ((![v1272, v1309, v381] : Fin 3 → IVec S16 32) a x).toNat < S224x2x128.size a := fun i k0_t18 v377 v381 v385 v389 v393 v397 v401 v1270 v1272 v1274 v1276 v1278 v1280 v1282 v1309 k0_hw82 => k0_hw82.2.1
theorem k0_idx570_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw82 : k0_chk82 i k0_t18 v377 v381 v385 v389 v393 v397 v401 v1270 v1272 v1274 v1276 v1278 v1280 v1282 v1309), ∀ a x, ((![v1274, v1309, v385] : Fin 3 → IVec S16 32) a x).toNat < S224x2x128.size a := fun i k0_t18 v377 v381 v385 v389 v393 v397 v401 v1270 v1272 v1274 v1276 v1278 v1280 v1282 v1309 k0_hw82 => k0_hw82.2.2.1
theorem k0_idx571_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw82 : k0_chk82 i k0_t18 v377 v381 v385 v389 v393 v397 v401 v1270 v1272 v1274 v1276 v1278 v1280 v1282 v1309), ∀ a x, ((![v1276, v1309, v389] : Fin 3 → IVec S16 32) a x).toNat < S224x2x128.size a := fun i k0_t18 v377 v381 v385 v389 v393 v397 v401 v1270 v1272 v1274 v1276 v1278 v1280 v1282 v1309 k0_hw82 => k0_hw82.2.2.2.1
theorem k0_idx572_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw82 : k0_chk82 i k0_t18 v377 v381 v385 v389 v393 v397 v401 v1270 v1272 v1274 v1276 v1278 v1280 v1282 v1309), ∀ a x, ((![v1278, v1309, v393] : Fin 3 → IVec S16 32) a x).toNat < S224x2x128.size a := fun i k0_t18 v377 v381 v385 v389 v393 v397 v401 v1270 v1272 v1274 v1276 v1278 v1280 v1282 v1309 k0_hw82 => k0_hw82.2.2.2.2.1
theorem k0_idx573_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw82 : k0_chk82 i k0_t18 v377 v381 v385 v389 v393 v397 v401 v1270 v1272 v1274 v1276 v1278 v1280 v1282 v1309), ∀ a x, ((![v1280, v1309, v397] : Fin 3 → IVec S16 32) a x).toNat < S224x2x128.size a := fun i k0_t18 v377 v381 v385 v389 v393 v397 v401 v1270 v1272 v1274 v1276 v1278 v1280 v1282 v1309 k0_hw82 => k0_hw82.2.2.2.2.2.1
theorem k0_idx574_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw82 : k0_chk82 i k0_t18 v377 v381 v385 v389 v393 v397 v401 v1270 v1272 v1274 v1276 v1278 v1280 v1282 v1309), ∀ a x, ((![v1282, v1309, v401] : Fin 3 → IVec S16 32) a x).toNat < S224x2x128.size a := fun i k0_t18 v377 v381 v385 v389 v393 v397 v401 v1270 v1272 v1274 v1276 v1278 v1280 v1282 v1309 k0_hw82 => k0_hw82.2.2.2.2.2.2
def k0_off94 (k0_t23 : Fin k0_t23_loop.trips) : Fin 3 → Nat :=
  let c0_i32_711 : BitVec 32 := 0#32
  let c2_i32_700 : BitVec 32 := 2#32
  let c0_i32_227 : BitVec 32 := 0#32
  let c1_i32_229 : BitVec 32 := 1#32
  let arg13 : BitVec 32 := Scf.iv c0_i32_227 c1_i32_229 k0_t23
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c64_713 : Index := 64#32
  ![v1326.toNat, 1, 64]

def k0_chk83 (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v377] : Fin 3 → IVec S16 32) a x).toNat < S224x2x128.size a) ∧
  (∀ a x, ((![v1336, v1350, v381] : Fin 3 → IVec S16 32) a x).toNat < S224x2x128.size a) ∧
  (∀ a x, ((![v1338, v1350, v385] : Fin 3 → IVec S16 32) a x).toNat < S224x2x128.size a) ∧
  (∀ a x, ((![v1340, v1350, v389] : Fin 3 → IVec S16 32) a x).toNat < S224x2x128.size a) ∧
  (∀ a x, ((![v1342, v1350, v393] : Fin 3 → IVec S16 32) a x).toNat < S224x2x128.size a) ∧
  (∀ a x, ((![v1344, v1350, v397] : Fin 3 → IVec S16 32) a x).toNat < S224x2x128.size a) ∧
  (∀ a x, ((![v1346, v1350, v401] : Fin 3 → IVec S16 32) a x).toNat < S224x2x128.size a)
theorem k0_idx575_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw83 : k0_chk83 i k0_t18 v377 v381 v385 v389 v393 v397 v401 v1334 v1336 v1338 v1340 v1342 v1344 v1346 v1350), ∀ a x, ((![v1334, v1350, v377] : Fin 3 → IVec S16 32) a x).toNat < S224x2x128.size a := fun i k0_t18 v377 v381 v385 v389 v393 v397 v401 v1334 v1336 v1338 v1340 v1342 v1344 v1346 v1350 k0_hw83 => k0_hw83.1
theorem k0_idx576_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw83 : k0_chk83 i k0_t18 v377 v381 v385 v389 v393 v397 v401 v1334 v1336 v1338 v1340 v1342 v1344 v1346 v1350), ∀ a x, ((![v1336, v1350, v381] : Fin 3 → IVec S16 32) a x).toNat < S224x2x128.size a := fun i k0_t18 v377 v381 v385 v389 v393 v397 v401 v1334 v1336 v1338 v1340 v1342 v1344 v1346 v1350 k0_hw83 => k0_hw83.2.1
theorem k0_idx577_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw83 : k0_chk83 i k0_t18 v377 v381 v385 v389 v393 v397 v401 v1334 v1336 v1338 v1340 v1342 v1344 v1346 v1350), ∀ a x, ((![v1338, v1350, v385] : Fin 3 → IVec S16 32) a x).toNat < S224x2x128.size a := fun i k0_t18 v377 v381 v385 v389 v393 v397 v401 v1334 v1336 v1338 v1340 v1342 v1344 v1346 v1350 k0_hw83 => k0_hw83.2.2.1
theorem k0_idx578_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw83 : k0_chk83 i k0_t18 v377 v381 v385 v389 v393 v397 v401 v1334 v1336 v1338 v1340 v1342 v1344 v1346 v1350), ∀ a x, ((![v1340, v1350, v389] : Fin 3 → IVec S16 32) a x).toNat < S224x2x128.size a := fun i k0_t18 v377 v381 v385 v389 v393 v397 v401 v1334 v1336 v1338 v1340 v1342 v1344 v1346 v1350 k0_hw83 => k0_hw83.2.2.2.1
theorem k0_idx579_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw83 : k0_chk83 i k0_t18 v377 v381 v385 v389 v393 v397 v401 v1334 v1336 v1338 v1340 v1342 v1344 v1346 v1350), ∀ a x, ((![v1342, v1350, v393] : Fin 3 → IVec S16 32) a x).toNat < S224x2x128.size a := fun i k0_t18 v377 v381 v385 v389 v393 v397 v401 v1334 v1336 v1338 v1340 v1342 v1344 v1346 v1350 k0_hw83 => k0_hw83.2.2.2.2.1
theorem k0_idx580_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw83 : k0_chk83 i k0_t18 v377 v381 v385 v389 v393 v397 v401 v1334 v1336 v1338 v1340 v1342 v1344 v1346 v1350), ∀ a x, ((![v1344, v1350, v397] : Fin 3 → IVec S16 32) a x).toNat < S224x2x128.size a := fun i k0_t18 v377 v381 v385 v389 v393 v397 v401 v1334 v1336 v1338 v1340 v1342 v1344 v1346 v1350 k0_hw83 => k0_hw83.2.2.2.2.2.1
theorem k0_idx581_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw83 : k0_chk83 i k0_t18 v377 v381 v385 v389 v393 v397 v401 v1334 v1336 v1338 v1340 v1342 v1344 v1346 v1350), ∀ a x, ((![v1346, v1350, v401] : Fin 3 → IVec S16 32) a x).toNat < S224x2x128.size a := fun i k0_t18 v377 v381 v385 v389 v393 v397 v401 v1334 v1336 v1338 v1340 v1342 v1344 v1346 v1350 k0_hw83 => k0_hw83.2.2.2.2.2.2
def k0_off95 (k0_t23 : Fin k0_t23_loop.trips) : Fin 3 → Nat :=
  let c0_i32_721 : BitVec 32 := 0#32
  let c2_i32_714 : BitVec 32 := 2#32
  let c0_i32_227 : BitVec 32 := 0#32
  let c1_i32_229 : BitVec 32 := 1#32
  let arg13 : BitVec 32 := Scf.iv c0_i32_227 c1_i32_229 k0_t23
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c64_723 : Index := 64#32
  ![v1367.toNat, 0, 64]

def k0_chk84 (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v377] : Fin 3 → IVec S16 32) a x).toNat < S224x2x128.size a) ∧
  (∀ a x, ((![v1336, v1373, v381] : Fin 3 → IVec S16 32) a x).toNat < S224x2x128.size a) ∧
  (∀ a x, ((![v1338, v1373, v385] : Fin 3 → IVec S16 32) a x).toNat < S224x2x128.size a) ∧
  (∀ a x, ((![v1340, v1373, v389] : Fin 3 → IVec S16 32) a x).toNat < S224x2x128.size a) ∧
  (∀ a x, ((![v1342, v1373, v393] : Fin 3 → IVec S16 32) a x).toNat < S224x2x128.size a) ∧
  (∀ a x, ((![v1344, v1373, v397] : Fin 3 → IVec S16 32) a x).toNat < S224x2x128.size a) ∧
  (∀ a x, ((![v1346, v1373, v401] : Fin 3 → IVec S16 32) a x).toNat < S224x2x128.size a)
theorem k0_idx582_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw84 : k0_chk84 i k0_t18 v377 v381 v385 v389 v393 v397 v401 v1334 v1336 v1338 v1340 v1342 v1344 v1346 v1373), ∀ a x, ((![v1334, v1373, v377] : Fin 3 → IVec S16 32) a x).toNat < S224x2x128.size a := fun i k0_t18 v377 v381 v385 v389 v393 v397 v401 v1334 v1336 v1338 v1340 v1342 v1344 v1346 v1373 k0_hw84 => k0_hw84.1
theorem k0_idx583_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw84 : k0_chk84 i k0_t18 v377 v381 v385 v389 v393 v397 v401 v1334 v1336 v1338 v1340 v1342 v1344 v1346 v1373), ∀ a x, ((![v1336, v1373, v381] : Fin 3 → IVec S16 32) a x).toNat < S224x2x128.size a := fun i k0_t18 v377 v381 v385 v389 v393 v397 v401 v1334 v1336 v1338 v1340 v1342 v1344 v1346 v1373 k0_hw84 => k0_hw84.2.1
theorem k0_idx584_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw84 : k0_chk84 i k0_t18 v377 v381 v385 v389 v393 v397 v401 v1334 v1336 v1338 v1340 v1342 v1344 v1346 v1373), ∀ a x, ((![v1338, v1373, v385] : Fin 3 → IVec S16 32) a x).toNat < S224x2x128.size a := fun i k0_t18 v377 v381 v385 v389 v393 v397 v401 v1334 v1336 v1338 v1340 v1342 v1344 v1346 v1373 k0_hw84 => k0_hw84.2.2.1
theorem k0_idx585_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw84 : k0_chk84 i k0_t18 v377 v381 v385 v389 v393 v397 v401 v1334 v1336 v1338 v1340 v1342 v1344 v1346 v1373), ∀ a x, ((![v1340, v1373, v389] : Fin 3 → IVec S16 32) a x).toNat < S224x2x128.size a := fun i k0_t18 v377 v381 v385 v389 v393 v397 v401 v1334 v1336 v1338 v1340 v1342 v1344 v1346 v1373 k0_hw84 => k0_hw84.2.2.2.1
theorem k0_idx586_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw84 : k0_chk84 i k0_t18 v377 v381 v385 v389 v393 v397 v401 v1334 v1336 v1338 v1340 v1342 v1344 v1346 v1373), ∀ a x, ((![v1342, v1373, v393] : Fin 3 → IVec S16 32) a x).toNat < S224x2x128.size a := fun i k0_t18 v377 v381 v385 v389 v393 v397 v401 v1334 v1336 v1338 v1340 v1342 v1344 v1346 v1373 k0_hw84 => k0_hw84.2.2.2.2.1
theorem k0_idx587_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw84 : k0_chk84 i k0_t18 v377 v381 v385 v389 v393 v397 v401 v1334 v1336 v1338 v1340 v1342 v1344 v1346 v1373), ∀ a x, ((![v1344, v1373, v397] : Fin 3 → IVec S16 32) a x).toNat < S224x2x128.size a := fun i k0_t18 v377 v381 v385 v389 v393 v397 v401 v1334 v1336 v1338 v1340 v1342 v1344 v1346 v1373 k0_hw84 => k0_hw84.2.2.2.2.2.1
theorem k0_idx588_inb : ∀ (i : grid0.Coords) (k0_t18 : Fin (k0_t18_loop i).trips) (v377 : IVec S16 32) (v381 : IVec S16 32) (v385 : IVec S16 32) (v389 : IVec S16 32) (v393 : IVec S16 32) (v397 : IVec S16 32) (v401 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw84 : k0_chk84 i k0_t18 v377 v381 v385 v389 v393 v397 v401 v1334 v1336 v1338 v1340 v1342 v1344 v1346 v1373), ∀ a x, ((![v1346, v1373, v401] : Fin 3 → IVec S16 32) a x).toNat < S224x2x128.size a := fun i k0_t18 v377 v381 v385 v389 v393 v397 v401 v1334 v1336 v1338 v1340 v1342 v1344 v1346 v1373 k0_hw84 => k0_hw84.2.2.2.2.2.2
def k0_off96 (k0_t23 : Fin k0_t23_loop.trips) : Fin 3 → Nat :=
  let c0_i32_727 : BitVec 32 := 0#32
  let c2_i32_714 : BitVec 32 := 2#32
  let c0_i32_227 : BitVec 32 := 0#32
  let c1_i32_229 : BitVec 32 := 1#32
  let arg13 : BitVec 32 := Scf.iv c0_i32_227 c1_i32_229 k0_t23
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c64_729 : Index := 64#32
  ![v1390.toNat, 1, 64]
@[reducible] def k0_t24_loop : Scf.Loop 32 :=
  let c0_i32_266 : BitVec 32 := 0#32
  let c8_i32_267 : BitVec 32 := 8#32
  let v489 : BitVec 32 := Scalar.addi c0_i32_266 c8_i32_267
  let c1_i32_268 : BitVec 32 := 1#32
  ⟨c0_i32_266, v489, c1_i32_268⟩

def k0_chk85 (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v450] : Fin 3 → IVec S16 32) a x).toNat < S224x2x128.size a) ∧
  (∀ a x, ((![v1272, v1286, v454] : Fin 3 → IVec S16 32) a x).toNat < S224x2x128.size a) ∧
  (∀ a x, ((![v1274, v1286, v458] : Fin 3 → IVec S16 32) a x).toNat < S224x2x128.size a) ∧
  (∀ a x, ((![v1276, v1286, v462] : Fin 3 → IVec S16 32) a x).toNat < S224x2x128.size a) ∧
  (∀ a x, ((![v1278, v1286, v466] : Fin 3 → IVec S16 32) a x).toNat < S224x2x128.size a) ∧
  (∀ a x, ((![v1280, v1286, v470] : Fin 3 → IVec S16 32) a x).toNat < S224x2x128.size a) ∧
  (∀ a x, ((![v1282, v1286, v474] : Fin 3 → IVec S16 32) a x).toNat < S224x2x128.size a)
theorem k0_idx589_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw85 : k0_chk85 i k0_t18 v450 v454 v458 v462 v466 v470 v474 v1270 v1272 v1274 v1276 v1278 v1280 v1282 v1286), ∀ a x, ((![v1270, v1286, v450] : Fin 3 → IVec S16 32) a x).toNat < S224x2x128.size a := fun i k0_t18 v450 v454 v458 v462 v466 v470 v474 v1270 v1272 v1274 v1276 v1278 v1280 v1282 v1286 k0_hw85 => k0_hw85.1
theorem k0_idx590_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw85 : k0_chk85 i k0_t18 v450 v454 v458 v462 v466 v470 v474 v1270 v1272 v1274 v1276 v1278 v1280 v1282 v1286), ∀ a x, ((![v1272, v1286, v454] : Fin 3 → IVec S16 32) a x).toNat < S224x2x128.size a := fun i k0_t18 v450 v454 v458 v462 v466 v470 v474 v1270 v1272 v1274 v1276 v1278 v1280 v1282 v1286 k0_hw85 => k0_hw85.2.1
theorem k0_idx591_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw85 : k0_chk85 i k0_t18 v450 v454 v458 v462 v466 v470 v474 v1270 v1272 v1274 v1276 v1278 v1280 v1282 v1286), ∀ a x, ((![v1274, v1286, v458] : Fin 3 → IVec S16 32) a x).toNat < S224x2x128.size a := fun i k0_t18 v450 v454 v458 v462 v466 v470 v474 v1270 v1272 v1274 v1276 v1278 v1280 v1282 v1286 k0_hw85 => k0_hw85.2.2.1
theorem k0_idx592_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw85 : k0_chk85 i k0_t18 v450 v454 v458 v462 v466 v470 v474 v1270 v1272 v1274 v1276 v1278 v1280 v1282 v1286), ∀ a x, ((![v1276, v1286, v462] : Fin 3 → IVec S16 32) a x).toNat < S224x2x128.size a := fun i k0_t18 v450 v454 v458 v462 v466 v470 v474 v1270 v1272 v1274 v1276 v1278 v1280 v1282 v1286 k0_hw85 => k0_hw85.2.2.2.1
theorem k0_idx593_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw85 : k0_chk85 i k0_t18 v450 v454 v458 v462 v466 v470 v474 v1270 v1272 v1274 v1276 v1278 v1280 v1282 v1286), ∀ a x, ((![v1278, v1286, v466] : Fin 3 → IVec S16 32) a x).toNat < S224x2x128.size a := fun i k0_t18 v450 v454 v458 v462 v466 v470 v474 v1270 v1272 v1274 v1276 v1278 v1280 v1282 v1286 k0_hw85 => k0_hw85.2.2.2.2.1
theorem k0_idx594_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw85 : k0_chk85 i k0_t18 v450 v454 v458 v462 v466 v470 v474 v1270 v1272 v1274 v1276 v1278 v1280 v1282 v1286), ∀ a x, ((![v1280, v1286, v470] : Fin 3 → IVec S16 32) a x).toNat < S224x2x128.size a := fun i k0_t18 v450 v454 v458 v462 v466 v470 v474 v1270 v1272 v1274 v1276 v1278 v1280 v1282 v1286 k0_hw85 => k0_hw85.2.2.2.2.2.1
theorem k0_idx595_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw85 : k0_chk85 i k0_t18 v450 v454 v458 v462 v466 v470 v474 v1270 v1272 v1274 v1276 v1278 v1280 v1282 v1286), ∀ a x, ((![v1282, v1286, v474] : Fin 3 → IVec S16 32) a x).toNat < S224x2x128.size a := fun i k0_t18 v450 v454 v458 v462 v466 v470 v474 v1270 v1272 v1274 v1276 v1278 v1280 v1282 v1286 k0_hw85 => k0_hw85.2.2.2.2.2.2
def k0_off97 (k0_t24 : Fin k0_t24_loop.trips) : Fin 3 → Nat :=
  let c0_i32_706 : BitVec 32 := 0#32
  let c2_i32_700 : BitVec 32 := 2#32
  let c0_i32_266 : BitVec 32 := 0#32
  let c1_i32_268 : BitVec 32 := 1#32
  let arg13 : BitVec 32 := Scf.iv c0_i32_266 c1_i32_268 k0_t24
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c80 : Index := 80#32
  ![v1303.toNat, 0, 80]

def k0_chk86 (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v450] : Fin 3 → IVec S16 32) a x).toNat < S224x2x128.size a) ∧
  (∀ a x, ((![v1272, v1309, v454] : Fin 3 → IVec S16 32) a x).toNat < S224x2x128.size a) ∧
  (∀ a x, ((![v1274, v1309, v458] : Fin 3 → IVec S16 32) a x).toNat < S224x2x128.size a) ∧
  (∀ a x, ((![v1276, v1309, v462] : Fin 3 → IVec S16 32) a x).toNat < S224x2x128.size a) ∧
  (∀ a x, ((![v1278, v1309, v466] : Fin 3 → IVec S16 32) a x).toNat < S224x2x128.size a) ∧
  (∀ a x, ((![v1280, v1309, v470] : Fin 3 → IVec S16 32) a x).toNat < S224x2x128.size a) ∧
  (∀ a x, ((![v1282, v1309, v474] : Fin 3 → IVec S16 32) a x).toNat < S224x2x128.size a)
theorem k0_idx596_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw86 : k0_chk86 i k0_t18 v450 v454 v458 v462 v466 v470 v474 v1270 v1272 v1274 v1276 v1278 v1280 v1282 v1309), ∀ a x, ((![v1270, v1309, v450] : Fin 3 → IVec S16 32) a x).toNat < S224x2x128.size a := fun i k0_t18 v450 v454 v458 v462 v466 v470 v474 v1270 v1272 v1274 v1276 v1278 v1280 v1282 v1309 k0_hw86 => k0_hw86.1
theorem k0_idx597_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw86 : k0_chk86 i k0_t18 v450 v454 v458 v462 v466 v470 v474 v1270 v1272 v1274 v1276 v1278 v1280 v1282 v1309), ∀ a x, ((![v1272, v1309, v454] : Fin 3 → IVec S16 32) a x).toNat < S224x2x128.size a := fun i k0_t18 v450 v454 v458 v462 v466 v470 v474 v1270 v1272 v1274 v1276 v1278 v1280 v1282 v1309 k0_hw86 => k0_hw86.2.1
theorem k0_idx598_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw86 : k0_chk86 i k0_t18 v450 v454 v458 v462 v466 v470 v474 v1270 v1272 v1274 v1276 v1278 v1280 v1282 v1309), ∀ a x, ((![v1274, v1309, v458] : Fin 3 → IVec S16 32) a x).toNat < S224x2x128.size a := fun i k0_t18 v450 v454 v458 v462 v466 v470 v474 v1270 v1272 v1274 v1276 v1278 v1280 v1282 v1309 k0_hw86 => k0_hw86.2.2.1
theorem k0_idx599_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw86 : k0_chk86 i k0_t18 v450 v454 v458 v462 v466 v470 v474 v1270 v1272 v1274 v1276 v1278 v1280 v1282 v1309), ∀ a x, ((![v1276, v1309, v462] : Fin 3 → IVec S16 32) a x).toNat < S224x2x128.size a := fun i k0_t18 v450 v454 v458 v462 v466 v470 v474 v1270 v1272 v1274 v1276 v1278 v1280 v1282 v1309 k0_hw86 => k0_hw86.2.2.2.1
theorem k0_idx600_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw86 : k0_chk86 i k0_t18 v450 v454 v458 v462 v466 v470 v474 v1270 v1272 v1274 v1276 v1278 v1280 v1282 v1309), ∀ a x, ((![v1278, v1309, v466] : Fin 3 → IVec S16 32) a x).toNat < S224x2x128.size a := fun i k0_t18 v450 v454 v458 v462 v466 v470 v474 v1270 v1272 v1274 v1276 v1278 v1280 v1282 v1309 k0_hw86 => k0_hw86.2.2.2.2.1
theorem k0_idx601_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw86 : k0_chk86 i k0_t18 v450 v454 v458 v462 v466 v470 v474 v1270 v1272 v1274 v1276 v1278 v1280 v1282 v1309), ∀ a x, ((![v1280, v1309, v470] : Fin 3 → IVec S16 32) a x).toNat < S224x2x128.size a := fun i k0_t18 v450 v454 v458 v462 v466 v470 v474 v1270 v1272 v1274 v1276 v1278 v1280 v1282 v1309 k0_hw86 => k0_hw86.2.2.2.2.2.1
theorem k0_idx602_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw86 : k0_chk86 i k0_t18 v450 v454 v458 v462 v466 v470 v474 v1270 v1272 v1274 v1276 v1278 v1280 v1282 v1309), ∀ a x, ((![v1282, v1309, v474] : Fin 3 → IVec S16 32) a x).toNat < S224x2x128.size a := fun i k0_t18 v450 v454 v458 v462 v466 v470 v474 v1270 v1272 v1274 v1276 v1278 v1280 v1282 v1309 k0_hw86 => k0_hw86.2.2.2.2.2.2
def k0_off98 (k0_t24 : Fin k0_t24_loop.trips) : Fin 3 → Nat :=
  let c0_i32_711 : BitVec 32 := 0#32
  let c2_i32_700 : BitVec 32 := 2#32
  let c0_i32_266 : BitVec 32 := 0#32
  let c1_i32_268 : BitVec 32 := 1#32
  let arg13 : BitVec 32 := Scf.iv c0_i32_266 c1_i32_268 k0_t24
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c80_713 : Index := 80#32
  ![v1326.toNat, 1, 80]

def k0_chk87 (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v450] : Fin 3 → IVec S16 32) a x).toNat < S224x2x128.size a) ∧
  (∀ a x, ((![v1336, v1350, v454] : Fin 3 → IVec S16 32) a x).toNat < S224x2x128.size a) ∧
  (∀ a x, ((![v1338, v1350, v458] : Fin 3 → IVec S16 32) a x).toNat < S224x2x128.size a) ∧
  (∀ a x, ((![v1340, v1350, v462] : Fin 3 → IVec S16 32) a x).toNat < S224x2x128.size a) ∧
  (∀ a x, ((![v1342, v1350, v466] : Fin 3 → IVec S16 32) a x).toNat < S224x2x128.size a) ∧
  (∀ a x, ((![v1344, v1350, v470] : Fin 3 → IVec S16 32) a x).toNat < S224x2x128.size a) ∧
  (∀ a x, ((![v1346, v1350, v474] : Fin 3 → IVec S16 32) a x).toNat < S224x2x128.size a)
theorem k0_idx603_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw87 : k0_chk87 i k0_t18 v450 v454 v458 v462 v466 v470 v474 v1334 v1336 v1338 v1340 v1342 v1344 v1346 v1350), ∀ a x, ((![v1334, v1350, v450] : Fin 3 → IVec S16 32) a x).toNat < S224x2x128.size a := fun i k0_t18 v450 v454 v458 v462 v466 v470 v474 v1334 v1336 v1338 v1340 v1342 v1344 v1346 v1350 k0_hw87 => k0_hw87.1
theorem k0_idx604_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw87 : k0_chk87 i k0_t18 v450 v454 v458 v462 v466 v470 v474 v1334 v1336 v1338 v1340 v1342 v1344 v1346 v1350), ∀ a x, ((![v1336, v1350, v454] : Fin 3 → IVec S16 32) a x).toNat < S224x2x128.size a := fun i k0_t18 v450 v454 v458 v462 v466 v470 v474 v1334 v1336 v1338 v1340 v1342 v1344 v1346 v1350 k0_hw87 => k0_hw87.2.1
theorem k0_idx605_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw87 : k0_chk87 i k0_t18 v450 v454 v458 v462 v466 v470 v474 v1334 v1336 v1338 v1340 v1342 v1344 v1346 v1350), ∀ a x, ((![v1338, v1350, v458] : Fin 3 → IVec S16 32) a x).toNat < S224x2x128.size a := fun i k0_t18 v450 v454 v458 v462 v466 v470 v474 v1334 v1336 v1338 v1340 v1342 v1344 v1346 v1350 k0_hw87 => k0_hw87.2.2.1
theorem k0_idx606_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw87 : k0_chk87 i k0_t18 v450 v454 v458 v462 v466 v470 v474 v1334 v1336 v1338 v1340 v1342 v1344 v1346 v1350), ∀ a x, ((![v1340, v1350, v462] : Fin 3 → IVec S16 32) a x).toNat < S224x2x128.size a := fun i k0_t18 v450 v454 v458 v462 v466 v470 v474 v1334 v1336 v1338 v1340 v1342 v1344 v1346 v1350 k0_hw87 => k0_hw87.2.2.2.1
theorem k0_idx607_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw87 : k0_chk87 i k0_t18 v450 v454 v458 v462 v466 v470 v474 v1334 v1336 v1338 v1340 v1342 v1344 v1346 v1350), ∀ a x, ((![v1342, v1350, v466] : Fin 3 → IVec S16 32) a x).toNat < S224x2x128.size a := fun i k0_t18 v450 v454 v458 v462 v466 v470 v474 v1334 v1336 v1338 v1340 v1342 v1344 v1346 v1350 k0_hw87 => k0_hw87.2.2.2.2.1
theorem k0_idx608_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw87 : k0_chk87 i k0_t18 v450 v454 v458 v462 v466 v470 v474 v1334 v1336 v1338 v1340 v1342 v1344 v1346 v1350), ∀ a x, ((![v1344, v1350, v470] : Fin 3 → IVec S16 32) a x).toNat < S224x2x128.size a := fun i k0_t18 v450 v454 v458 v462 v466 v470 v474 v1334 v1336 v1338 v1340 v1342 v1344 v1346 v1350 k0_hw87 => k0_hw87.2.2.2.2.2.1
theorem k0_idx609_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw87 : k0_chk87 i k0_t18 v450 v454 v458 v462 v466 v470 v474 v1334 v1336 v1338 v1340 v1342 v1344 v1346 v1350), ∀ a x, ((![v1346, v1350, v474] : Fin 3 → IVec S16 32) a x).toNat < S224x2x128.size a := fun i k0_t18 v450 v454 v458 v462 v466 v470 v474 v1334 v1336 v1338 v1340 v1342 v1344 v1346 v1350 k0_hw87 => k0_hw87.2.2.2.2.2.2
def k0_off99 (k0_t24 : Fin k0_t24_loop.trips) : Fin 3 → Nat :=
  let c0_i32_721 : BitVec 32 := 0#32
  let c2_i32_714 : BitVec 32 := 2#32
  let c0_i32_266 : BitVec 32 := 0#32
  let c1_i32_268 : BitVec 32 := 1#32
  let arg13 : BitVec 32 := Scf.iv c0_i32_266 c1_i32_268 k0_t24
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c80_723 : Index := 80#32
  ![v1367.toNat, 0, 80]

def k0_chk88 (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v450] : Fin 3 → IVec S16 32) a x).toNat < S224x2x128.size a) ∧
  (∀ a x, ((![v1336, v1373, v454] : Fin 3 → IVec S16 32) a x).toNat < S224x2x128.size a) ∧
  (∀ a x, ((![v1338, v1373, v458] : Fin 3 → IVec S16 32) a x).toNat < S224x2x128.size a) ∧
  (∀ a x, ((![v1340, v1373, v462] : Fin 3 → IVec S16 32) a x).toNat < S224x2x128.size a) ∧
  (∀ a x, ((![v1342, v1373, v466] : Fin 3 → IVec S16 32) a x).toNat < S224x2x128.size a) ∧
  (∀ a x, ((![v1344, v1373, v470] : Fin 3 → IVec S16 32) a x).toNat < S224x2x128.size a) ∧
  (∀ a x, ((![v1346, v1373, v474] : Fin 3 → IVec S16 32) a x).toNat < S224x2x128.size a)
theorem k0_idx610_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw88 : k0_chk88 i k0_t18 v450 v454 v458 v462 v466 v470 v474 v1334 v1336 v1338 v1340 v1342 v1344 v1346 v1373), ∀ a x, ((![v1334, v1373, v450] : Fin 3 → IVec S16 32) a x).toNat < S224x2x128.size a := fun i k0_t18 v450 v454 v458 v462 v466 v470 v474 v1334 v1336 v1338 v1340 v1342 v1344 v1346 v1373 k0_hw88 => k0_hw88.1
theorem k0_idx611_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw88 : k0_chk88 i k0_t18 v450 v454 v458 v462 v466 v470 v474 v1334 v1336 v1338 v1340 v1342 v1344 v1346 v1373), ∀ a x, ((![v1336, v1373, v454] : Fin 3 → IVec S16 32) a x).toNat < S224x2x128.size a := fun i k0_t18 v450 v454 v458 v462 v466 v470 v474 v1334 v1336 v1338 v1340 v1342 v1344 v1346 v1373 k0_hw88 => k0_hw88.2.1
theorem k0_idx612_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw88 : k0_chk88 i k0_t18 v450 v454 v458 v462 v466 v470 v474 v1334 v1336 v1338 v1340 v1342 v1344 v1346 v1373), ∀ a x, ((![v1338, v1373, v458] : Fin 3 → IVec S16 32) a x).toNat < S224x2x128.size a := fun i k0_t18 v450 v454 v458 v462 v466 v470 v474 v1334 v1336 v1338 v1340 v1342 v1344 v1346 v1373 k0_hw88 => k0_hw88.2.2.1
theorem k0_idx613_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw88 : k0_chk88 i k0_t18 v450 v454 v458 v462 v466 v470 v474 v1334 v1336 v1338 v1340 v1342 v1344 v1346 v1373), ∀ a x, ((![v1340, v1373, v462] : Fin 3 → IVec S16 32) a x).toNat < S224x2x128.size a := fun i k0_t18 v450 v454 v458 v462 v466 v470 v474 v1334 v1336 v1338 v1340 v1342 v1344 v1346 v1373 k0_hw88 => k0_hw88.2.2.2.1
theorem k0_idx614_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw88 : k0_chk88 i k0_t18 v450 v454 v458 v462 v466 v470 v474 v1334 v1336 v1338 v1340 v1342 v1344 v1346 v1373), ∀ a x, ((![v1342, v1373, v466] : Fin 3 → IVec S16 32) a x).toNat < S224x2x128.size a := fun i k0_t18 v450 v454 v458 v462 v466 v470 v474 v1334 v1336 v1338 v1340 v1342 v1344 v1346 v1373 k0_hw88 => k0_hw88.2.2.2.2.1
theorem k0_idx615_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw88 : k0_chk88 i k0_t18 v450 v454 v458 v462 v466 v470 v474 v1334 v1336 v1338 v1340 v1342 v1344 v1346 v1373), ∀ a x, ((![v1344, v1373, v470] : Fin 3 → IVec S16 32) a x).toNat < S224x2x128.size a := fun i k0_t18 v450 v454 v458 v462 v466 v470 v474 v1334 v1336 v1338 v1340 v1342 v1344 v1346 v1373 k0_hw88 => k0_hw88.2.2.2.2.2.1
theorem k0_idx616_inb : ∀ (i : grid0.Coords) (k0_t18 : Fin (k0_t18_loop i).trips) (v450 : IVec S16 32) (v454 : IVec S16 32) (v458 : IVec S16 32) (v462 : IVec S16 32) (v466 : IVec S16 32) (v470 : IVec S16 32) (v474 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw88 : k0_chk88 i k0_t18 v450 v454 v458 v462 v466 v470 v474 v1334 v1336 v1338 v1340 v1342 v1344 v1346 v1373), ∀ a x, ((![v1346, v1373, v474] : Fin 3 → IVec S16 32) a x).toNat < S224x2x128.size a := fun i k0_t18 v450 v454 v458 v462 v466 v470 v474 v1334 v1336 v1338 v1340 v1342 v1344 v1346 v1373 k0_hw88 => k0_hw88.2.2.2.2.2.2
def k0_off100 (k0_t24 : Fin k0_t24_loop.trips) : Fin 3 → Nat :=
  let c0_i32_727 : BitVec 32 := 0#32
  let c2_i32_714 : BitVec 32 := 2#32
  let c0_i32_266 : BitVec 32 := 0#32
  let c1_i32_268 : BitVec 32 := 1#32
  let arg13 : BitVec 32 := Scf.iv c0_i32_266 c1_i32_268 k0_t24
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c80_729 : Index := 80#32
  ![v1390.toNat, 1, 80]
@[reducible] def k0_t25_loop : Scf.Loop 32 :=
  let c0_i32_305 : BitVec 32 := 0#32
  let c8_i32_306 : BitVec 32 := 8#32
  let v562 : BitVec 32 := Scalar.addi c0_i32_305 c8_i32_306
  let c1_i32_307 : BitVec 32 := 1#32
  ⟨c0_i32_305, v562, c1_i32_307⟩

def k0_chk89 (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v523] : Fin 3 → IVec S16 32) a x).toNat < S224x2x128.size a) ∧
  (∀ a x, ((![v1272, v1286, v527] : Fin 3 → IVec S16 32) a x).toNat < S224x2x128.size a) ∧
  (∀ a x, ((![v1274, v1286, v531] : Fin 3 → IVec S16 32) a x).toNat < S224x2x128.size a) ∧
  (∀ a x, ((![v1276, v1286, v535] : Fin 3 → IVec S16 32) a x).toNat < S224x2x128.size a) ∧
  (∀ a x, ((![v1278, v1286, v539] : Fin 3 → IVec S16 32) a x).toNat < S224x2x128.size a) ∧
  (∀ a x, ((![v1280, v1286, v543] : Fin 3 → IVec S16 32) a x).toNat < S224x2x128.size a) ∧
  (∀ a x, ((![v1282, v1286, v547] : Fin 3 → IVec S16 32) a x).toNat < S224x2x128.size a)
theorem k0_idx617_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw89 : k0_chk89 i k0_t18 v523 v527 v531 v535 v539 v543 v547 v1270 v1272 v1274 v1276 v1278 v1280 v1282 v1286), ∀ a x, ((![v1270, v1286, v523] : Fin 3 → IVec S16 32) a x).toNat < S224x2x128.size a := fun i k0_t18 v523 v527 v531 v535 v539 v543 v547 v1270 v1272 v1274 v1276 v1278 v1280 v1282 v1286 k0_hw89 => k0_hw89.1
theorem k0_idx618_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw89 : k0_chk89 i k0_t18 v523 v527 v531 v535 v539 v543 v547 v1270 v1272 v1274 v1276 v1278 v1280 v1282 v1286), ∀ a x, ((![v1272, v1286, v527] : Fin 3 → IVec S16 32) a x).toNat < S224x2x128.size a := fun i k0_t18 v523 v527 v531 v535 v539 v543 v547 v1270 v1272 v1274 v1276 v1278 v1280 v1282 v1286 k0_hw89 => k0_hw89.2.1
theorem k0_idx619_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw89 : k0_chk89 i k0_t18 v523 v527 v531 v535 v539 v543 v547 v1270 v1272 v1274 v1276 v1278 v1280 v1282 v1286), ∀ a x, ((![v1274, v1286, v531] : Fin 3 → IVec S16 32) a x).toNat < S224x2x128.size a := fun i k0_t18 v523 v527 v531 v535 v539 v543 v547 v1270 v1272 v1274 v1276 v1278 v1280 v1282 v1286 k0_hw89 => k0_hw89.2.2.1
theorem k0_idx620_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw89 : k0_chk89 i k0_t18 v523 v527 v531 v535 v539 v543 v547 v1270 v1272 v1274 v1276 v1278 v1280 v1282 v1286), ∀ a x, ((![v1276, v1286, v535] : Fin 3 → IVec S16 32) a x).toNat < S224x2x128.size a := fun i k0_t18 v523 v527 v531 v535 v539 v543 v547 v1270 v1272 v1274 v1276 v1278 v1280 v1282 v1286 k0_hw89 => k0_hw89.2.2.2.1
theorem k0_idx621_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw89 : k0_chk89 i k0_t18 v523 v527 v531 v535 v539 v543 v547 v1270 v1272 v1274 v1276 v1278 v1280 v1282 v1286), ∀ a x, ((![v1278, v1286, v539] : Fin 3 → IVec S16 32) a x).toNat < S224x2x128.size a := fun i k0_t18 v523 v527 v531 v535 v539 v543 v547 v1270 v1272 v1274 v1276 v1278 v1280 v1282 v1286 k0_hw89 => k0_hw89.2.2.2.2.1
theorem k0_idx622_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw89 : k0_chk89 i k0_t18 v523 v527 v531 v535 v539 v543 v547 v1270 v1272 v1274 v1276 v1278 v1280 v1282 v1286), ∀ a x, ((![v1280, v1286, v543] : Fin 3 → IVec S16 32) a x).toNat < S224x2x128.size a := fun i k0_t18 v523 v527 v531 v535 v539 v543 v547 v1270 v1272 v1274 v1276 v1278 v1280 v1282 v1286 k0_hw89 => k0_hw89.2.2.2.2.2.1
theorem k0_idx623_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw89 : k0_chk89 i k0_t18 v523 v527 v531 v535 v539 v543 v547 v1270 v1272 v1274 v1276 v1278 v1280 v1282 v1286), ∀ a x, ((![v1282, v1286, v547] : Fin 3 → IVec S16 32) a x).toNat < S224x2x128.size a := fun i k0_t18 v523 v527 v531 v535 v539 v543 v547 v1270 v1272 v1274 v1276 v1278 v1280 v1282 v1286 k0_hw89 => k0_hw89.2.2.2.2.2.2
def k0_off101 (k0_t25 : Fin k0_t25_loop.trips) : Fin 3 → Nat :=
  let c0_i32_706 : BitVec 32 := 0#32
  let c2_i32_700 : BitVec 32 := 2#32
  let c0_i32_305 : BitVec 32 := 0#32
  let c1_i32_307 : BitVec 32 := 1#32
  let arg13 : BitVec 32 := Scf.iv c0_i32_305 c1_i32_307 k0_t25
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c96 : Index := 96#32
  ![v1303.toNat, 0, 96]

def k0_chk90 (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v523] : Fin 3 → IVec S16 32) a x).toNat < S224x2x128.size a) ∧
  (∀ a x, ((![v1272, v1309, v527] : Fin 3 → IVec S16 32) a x).toNat < S224x2x128.size a) ∧
  (∀ a x, ((![v1274, v1309, v531] : Fin 3 → IVec S16 32) a x).toNat < S224x2x128.size a) ∧
  (∀ a x, ((![v1276, v1309, v535] : Fin 3 → IVec S16 32) a x).toNat < S224x2x128.size a) ∧
  (∀ a x, ((![v1278, v1309, v539] : Fin 3 → IVec S16 32) a x).toNat < S224x2x128.size a) ∧
  (∀ a x, ((![v1280, v1309, v543] : Fin 3 → IVec S16 32) a x).toNat < S224x2x128.size a) ∧
  (∀ a x, ((![v1282, v1309, v547] : Fin 3 → IVec S16 32) a x).toNat < S224x2x128.size a)
theorem k0_idx624_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw90 : k0_chk90 i k0_t18 v523 v527 v531 v535 v539 v543 v547 v1270 v1272 v1274 v1276 v1278 v1280 v1282 v1309), ∀ a x, ((![v1270, v1309, v523] : Fin 3 → IVec S16 32) a x).toNat < S224x2x128.size a := fun i k0_t18 v523 v527 v531 v535 v539 v543 v547 v1270 v1272 v1274 v1276 v1278 v1280 v1282 v1309 k0_hw90 => k0_hw90.1
theorem k0_idx625_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw90 : k0_chk90 i k0_t18 v523 v527 v531 v535 v539 v543 v547 v1270 v1272 v1274 v1276 v1278 v1280 v1282 v1309), ∀ a x, ((![v1272, v1309, v527] : Fin 3 → IVec S16 32) a x).toNat < S224x2x128.size a := fun i k0_t18 v523 v527 v531 v535 v539 v543 v547 v1270 v1272 v1274 v1276 v1278 v1280 v1282 v1309 k0_hw90 => k0_hw90.2.1
theorem k0_idx626_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw90 : k0_chk90 i k0_t18 v523 v527 v531 v535 v539 v543 v547 v1270 v1272 v1274 v1276 v1278 v1280 v1282 v1309), ∀ a x, ((![v1274, v1309, v531] : Fin 3 → IVec S16 32) a x).toNat < S224x2x128.size a := fun i k0_t18 v523 v527 v531 v535 v539 v543 v547 v1270 v1272 v1274 v1276 v1278 v1280 v1282 v1309 k0_hw90 => k0_hw90.2.2.1
theorem k0_idx627_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw90 : k0_chk90 i k0_t18 v523 v527 v531 v535 v539 v543 v547 v1270 v1272 v1274 v1276 v1278 v1280 v1282 v1309), ∀ a x, ((![v1276, v1309, v535] : Fin 3 → IVec S16 32) a x).toNat < S224x2x128.size a := fun i k0_t18 v523 v527 v531 v535 v539 v543 v547 v1270 v1272 v1274 v1276 v1278 v1280 v1282 v1309 k0_hw90 => k0_hw90.2.2.2.1
theorem k0_idx628_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw90 : k0_chk90 i k0_t18 v523 v527 v531 v535 v539 v543 v547 v1270 v1272 v1274 v1276 v1278 v1280 v1282 v1309), ∀ a x, ((![v1278, v1309, v539] : Fin 3 → IVec S16 32) a x).toNat < S224x2x128.size a := fun i k0_t18 v523 v527 v531 v535 v539 v543 v547 v1270 v1272 v1274 v1276 v1278 v1280 v1282 v1309 k0_hw90 => k0_hw90.2.2.2.2.1
theorem k0_idx629_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw90 : k0_chk90 i k0_t18 v523 v527 v531 v535 v539 v543 v547 v1270 v1272 v1274 v1276 v1278 v1280 v1282 v1309), ∀ a x, ((![v1280, v1309, v543] : Fin 3 → IVec S16 32) a x).toNat < S224x2x128.size a := fun i k0_t18 v523 v527 v531 v535 v539 v543 v547 v1270 v1272 v1274 v1276 v1278 v1280 v1282 v1309 k0_hw90 => k0_hw90.2.2.2.2.2.1
theorem k0_idx630_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw90 : k0_chk90 i k0_t18 v523 v527 v531 v535 v539 v543 v547 v1270 v1272 v1274 v1276 v1278 v1280 v1282 v1309), ∀ a x, ((![v1282, v1309, v547] : Fin 3 → IVec S16 32) a x).toNat < S224x2x128.size a := fun i k0_t18 v523 v527 v531 v535 v539 v543 v547 v1270 v1272 v1274 v1276 v1278 v1280 v1282 v1309 k0_hw90 => k0_hw90.2.2.2.2.2.2
def k0_off102 (k0_t25 : Fin k0_t25_loop.trips) : Fin 3 → Nat :=
  let c0_i32_711 : BitVec 32 := 0#32
  let c2_i32_700 : BitVec 32 := 2#32
  let c0_i32_305 : BitVec 32 := 0#32
  let c1_i32_307 : BitVec 32 := 1#32
  let arg13 : BitVec 32 := Scf.iv c0_i32_305 c1_i32_307 k0_t25
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c96_713 : Index := 96#32
  ![v1326.toNat, 1, 96]

def k0_chk91 (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v523] : Fin 3 → IVec S16 32) a x).toNat < S224x2x128.size a) ∧
  (∀ a x, ((![v1336, v1350, v527] : Fin 3 → IVec S16 32) a x).toNat < S224x2x128.size a) ∧
  (∀ a x, ((![v1338, v1350, v531] : Fin 3 → IVec S16 32) a x).toNat < S224x2x128.size a) ∧
  (∀ a x, ((![v1340, v1350, v535] : Fin 3 → IVec S16 32) a x).toNat < S224x2x128.size a) ∧
  (∀ a x, ((![v1342, v1350, v539] : Fin 3 → IVec S16 32) a x).toNat < S224x2x128.size a) ∧
  (∀ a x, ((![v1344, v1350, v543] : Fin 3 → IVec S16 32) a x).toNat < S224x2x128.size a) ∧
  (∀ a x, ((![v1346, v1350, v547] : Fin 3 → IVec S16 32) a x).toNat < S224x2x128.size a)
theorem k0_idx631_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw91 : k0_chk91 i k0_t18 v523 v527 v531 v535 v539 v543 v547 v1334 v1336 v1338 v1340 v1342 v1344 v1346 v1350), ∀ a x, ((![v1334, v1350, v523] : Fin 3 → IVec S16 32) a x).toNat < S224x2x128.size a := fun i k0_t18 v523 v527 v531 v535 v539 v543 v547 v1334 v1336 v1338 v1340 v1342 v1344 v1346 v1350 k0_hw91 => k0_hw91.1
theorem k0_idx632_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw91 : k0_chk91 i k0_t18 v523 v527 v531 v535 v539 v543 v547 v1334 v1336 v1338 v1340 v1342 v1344 v1346 v1350), ∀ a x, ((![v1336, v1350, v527] : Fin 3 → IVec S16 32) a x).toNat < S224x2x128.size a := fun i k0_t18 v523 v527 v531 v535 v539 v543 v547 v1334 v1336 v1338 v1340 v1342 v1344 v1346 v1350 k0_hw91 => k0_hw91.2.1
theorem k0_idx633_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw91 : k0_chk91 i k0_t18 v523 v527 v531 v535 v539 v543 v547 v1334 v1336 v1338 v1340 v1342 v1344 v1346 v1350), ∀ a x, ((![v1338, v1350, v531] : Fin 3 → IVec S16 32) a x).toNat < S224x2x128.size a := fun i k0_t18 v523 v527 v531 v535 v539 v543 v547 v1334 v1336 v1338 v1340 v1342 v1344 v1346 v1350 k0_hw91 => k0_hw91.2.2.1
theorem k0_idx634_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw91 : k0_chk91 i k0_t18 v523 v527 v531 v535 v539 v543 v547 v1334 v1336 v1338 v1340 v1342 v1344 v1346 v1350), ∀ a x, ((![v1340, v1350, v535] : Fin 3 → IVec S16 32) a x).toNat < S224x2x128.size a := fun i k0_t18 v523 v527 v531 v535 v539 v543 v547 v1334 v1336 v1338 v1340 v1342 v1344 v1346 v1350 k0_hw91 => k0_hw91.2.2.2.1
theorem k0_idx635_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw91 : k0_chk91 i k0_t18 v523 v527 v531 v535 v539 v543 v547 v1334 v1336 v1338 v1340 v1342 v1344 v1346 v1350), ∀ a x, ((![v1342, v1350, v539] : Fin 3 → IVec S16 32) a x).toNat < S224x2x128.size a := fun i k0_t18 v523 v527 v531 v535 v539 v543 v547 v1334 v1336 v1338 v1340 v1342 v1344 v1346 v1350 k0_hw91 => k0_hw91.2.2.2.2.1
theorem k0_idx636_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw91 : k0_chk91 i k0_t18 v523 v527 v531 v535 v539 v543 v547 v1334 v1336 v1338 v1340 v1342 v1344 v1346 v1350), ∀ a x, ((![v1344, v1350, v543] : Fin 3 → IVec S16 32) a x).toNat < S224x2x128.size a := fun i k0_t18 v523 v527 v531 v535 v539 v543 v547 v1334 v1336 v1338 v1340 v1342 v1344 v1346 v1350 k0_hw91 => k0_hw91.2.2.2.2.2.1
theorem k0_idx637_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw91 : k0_chk91 i k0_t18 v523 v527 v531 v535 v539 v543 v547 v1334 v1336 v1338 v1340 v1342 v1344 v1346 v1350), ∀ a x, ((![v1346, v1350, v547] : Fin 3 → IVec S16 32) a x).toNat < S224x2x128.size a := fun i k0_t18 v523 v527 v531 v535 v539 v543 v547 v1334 v1336 v1338 v1340 v1342 v1344 v1346 v1350 k0_hw91 => k0_hw91.2.2.2.2.2.2
def k0_off103 (k0_t25 : Fin k0_t25_loop.trips) : Fin 3 → Nat :=
  let c0_i32_721 : BitVec 32 := 0#32
  let c2_i32_714 : BitVec 32 := 2#32
  let c0_i32_305 : BitVec 32 := 0#32
  let c1_i32_307 : BitVec 32 := 1#32
  let arg13 : BitVec 32 := Scf.iv c0_i32_305 c1_i32_307 k0_t25
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c96_723 : Index := 96#32
  ![v1367.toNat, 0, 96]

def k0_chk92 (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v523] : Fin 3 → IVec S16 32) a x).toNat < S224x2x128.size a) ∧
  (∀ a x, ((![v1336, v1373, v527] : Fin 3 → IVec S16 32) a x).toNat < S224x2x128.size a) ∧
  (∀ a x, ((![v1338, v1373, v531] : Fin 3 → IVec S16 32) a x).toNat < S224x2x128.size a) ∧
  (∀ a x, ((![v1340, v1373, v535] : Fin 3 → IVec S16 32) a x).toNat < S224x2x128.size a) ∧
  (∀ a x, ((![v1342, v1373, v539] : Fin 3 → IVec S16 32) a x).toNat < S224x2x128.size a) ∧
  (∀ a x, ((![v1344, v1373, v543] : Fin 3 → IVec S16 32) a x).toNat < S224x2x128.size a) ∧
  (∀ a x, ((![v1346, v1373, v547] : Fin 3 → IVec S16 32) a x).toNat < S224x2x128.size a)
theorem k0_idx638_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw92 : k0_chk92 i k0_t18 v523 v527 v531 v535 v539 v543 v547 v1334 v1336 v1338 v1340 v1342 v1344 v1346 v1373), ∀ a x, ((![v1334, v1373, v523] : Fin 3 → IVec S16 32) a x).toNat < S224x2x128.size a := fun i k0_t18 v523 v527 v531 v535 v539 v543 v547 v1334 v1336 v1338 v1340 v1342 v1344 v1346 v1373 k0_hw92 => k0_hw92.1
theorem k0_idx639_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw92 : k0_chk92 i k0_t18 v523 v527 v531 v535 v539 v543 v547 v1334 v1336 v1338 v1340 v1342 v1344 v1346 v1373), ∀ a x, ((![v1336, v1373, v527] : Fin 3 → IVec S16 32) a x).toNat < S224x2x128.size a := fun i k0_t18 v523 v527 v531 v535 v539 v543 v547 v1334 v1336 v1338 v1340 v1342 v1344 v1346 v1373 k0_hw92 => k0_hw92.2.1
theorem k0_idx640_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw92 : k0_chk92 i k0_t18 v523 v527 v531 v535 v539 v543 v547 v1334 v1336 v1338 v1340 v1342 v1344 v1346 v1373), ∀ a x, ((![v1338, v1373, v531] : Fin 3 → IVec S16 32) a x).toNat < S224x2x128.size a := fun i k0_t18 v523 v527 v531 v535 v539 v543 v547 v1334 v1336 v1338 v1340 v1342 v1344 v1346 v1373 k0_hw92 => k0_hw92.2.2.1
theorem k0_idx641_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw92 : k0_chk92 i k0_t18 v523 v527 v531 v535 v539 v543 v547 v1334 v1336 v1338 v1340 v1342 v1344 v1346 v1373), ∀ a x, ((![v1340, v1373, v535] : Fin 3 → IVec S16 32) a x).toNat < S224x2x128.size a := fun i k0_t18 v523 v527 v531 v535 v539 v543 v547 v1334 v1336 v1338 v1340 v1342 v1344 v1346 v1373 k0_hw92 => k0_hw92.2.2.2.1
theorem k0_idx642_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw92 : k0_chk92 i k0_t18 v523 v527 v531 v535 v539 v543 v547 v1334 v1336 v1338 v1340 v1342 v1344 v1346 v1373), ∀ a x, ((![v1342, v1373, v539] : Fin 3 → IVec S16 32) a x).toNat < S224x2x128.size a := fun i k0_t18 v523 v527 v531 v535 v539 v543 v547 v1334 v1336 v1338 v1340 v1342 v1344 v1346 v1373 k0_hw92 => k0_hw92.2.2.2.2.1
theorem k0_idx643_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw92 : k0_chk92 i k0_t18 v523 v527 v531 v535 v539 v543 v547 v1334 v1336 v1338 v1340 v1342 v1344 v1346 v1373), ∀ a x, ((![v1344, v1373, v543] : Fin 3 → IVec S16 32) a x).toNat < S224x2x128.size a := fun i k0_t18 v523 v527 v531 v535 v539 v543 v547 v1334 v1336 v1338 v1340 v1342 v1344 v1346 v1373 k0_hw92 => k0_hw92.2.2.2.2.2.1
theorem k0_idx644_inb : ∀ (i : grid0.Coords) (k0_t18 : Fin (k0_t18_loop i).trips) (v523 : IVec S16 32) (v527 : IVec S16 32) (v531 : IVec S16 32) (v535 : IVec S16 32) (v539 : IVec S16 32) (v543 : IVec S16 32) (v547 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw92 : k0_chk92 i k0_t18 v523 v527 v531 v535 v539 v543 v547 v1334 v1336 v1338 v1340 v1342 v1344 v1346 v1373), ∀ a x, ((![v1346, v1373, v547] : Fin 3 → IVec S16 32) a x).toNat < S224x2x128.size a := fun i k0_t18 v523 v527 v531 v535 v539 v543 v547 v1334 v1336 v1338 v1340 v1342 v1344 v1346 v1373 k0_hw92 => k0_hw92.2.2.2.2.2.2
def k0_off104 (k0_t25 : Fin k0_t25_loop.trips) : Fin 3 → Nat :=
  let c0_i32_727 : BitVec 32 := 0#32
  let c2_i32_714 : BitVec 32 := 2#32
  let c0_i32_305 : BitVec 32 := 0#32
  let c1_i32_307 : BitVec 32 := 1#32
  let arg13 : BitVec 32 := Scf.iv c0_i32_305 c1_i32_307 k0_t25
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c96_729 : Index := 96#32
  ![v1390.toNat, 1, 96]
@[reducible] def k0_t26_loop : Scf.Loop 32 :=
  let c0_i32_344 : BitVec 32 := 0#32
  let c8_i32_345 : BitVec 32 := 8#32
  let v635 : BitVec 32 := Scalar.addi c0_i32_344 c8_i32_345
  let c1_i32_346 : BitVec 32 := 1#32
  ⟨c0_i32_344, v635, c1_i32_346⟩

def k0_chk93 (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v596] : Fin 3 → IVec S16 32) a x).toNat < S224x2x128.size a) ∧
  (∀ a x, ((![v1272, v1286, v600] : Fin 3 → IVec S16 32) a x).toNat < S224x2x128.size a) ∧
  (∀ a x, ((![v1274, v1286, v604] : Fin 3 → IVec S16 32) a x).toNat < S224x2x128.size a) ∧
  (∀ a x, ((![v1276, v1286, v608] : Fin 3 → IVec S16 32) a x).toNat < S224x2x128.size a) ∧
  (∀ a x, ((![v1278, v1286, v612] : Fin 3 → IVec S16 32) a x).toNat < S224x2x128.size a) ∧
  (∀ a x, ((![v1280, v1286, v616] : Fin 3 → IVec S16 32) a x).toNat < S224x2x128.size a) ∧
  (∀ a x, ((![v1282, v1286, v620] : Fin 3 → IVec S16 32) a x).toNat < S224x2x128.size a)
theorem k0_idx645_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw93 : k0_chk93 i k0_t18 v596 v600 v604 v608 v612 v616 v620 v1270 v1272 v1274 v1276 v1278 v1280 v1282 v1286), ∀ a x, ((![v1270, v1286, v596] : Fin 3 → IVec S16 32) a x).toNat < S224x2x128.size a := fun i k0_t18 v596 v600 v604 v608 v612 v616 v620 v1270 v1272 v1274 v1276 v1278 v1280 v1282 v1286 k0_hw93 => k0_hw93.1
theorem k0_idx646_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw93 : k0_chk93 i k0_t18 v596 v600 v604 v608 v612 v616 v620 v1270 v1272 v1274 v1276 v1278 v1280 v1282 v1286), ∀ a x, ((![v1272, v1286, v600] : Fin 3 → IVec S16 32) a x).toNat < S224x2x128.size a := fun i k0_t18 v596 v600 v604 v608 v612 v616 v620 v1270 v1272 v1274 v1276 v1278 v1280 v1282 v1286 k0_hw93 => k0_hw93.2.1
theorem k0_idx647_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw93 : k0_chk93 i k0_t18 v596 v600 v604 v608 v612 v616 v620 v1270 v1272 v1274 v1276 v1278 v1280 v1282 v1286), ∀ a x, ((![v1274, v1286, v604] : Fin 3 → IVec S16 32) a x).toNat < S224x2x128.size a := fun i k0_t18 v596 v600 v604 v608 v612 v616 v620 v1270 v1272 v1274 v1276 v1278 v1280 v1282 v1286 k0_hw93 => k0_hw93.2.2.1
theorem k0_idx648_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw93 : k0_chk93 i k0_t18 v596 v600 v604 v608 v612 v616 v620 v1270 v1272 v1274 v1276 v1278 v1280 v1282 v1286), ∀ a x, ((![v1276, v1286, v608] : Fin 3 → IVec S16 32) a x).toNat < S224x2x128.size a := fun i k0_t18 v596 v600 v604 v608 v612 v616 v620 v1270 v1272 v1274 v1276 v1278 v1280 v1282 v1286 k0_hw93 => k0_hw93.2.2.2.1
theorem k0_idx649_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw93 : k0_chk93 i k0_t18 v596 v600 v604 v608 v612 v616 v620 v1270 v1272 v1274 v1276 v1278 v1280 v1282 v1286), ∀ a x, ((![v1278, v1286, v612] : Fin 3 → IVec S16 32) a x).toNat < S224x2x128.size a := fun i k0_t18 v596 v600 v604 v608 v612 v616 v620 v1270 v1272 v1274 v1276 v1278 v1280 v1282 v1286 k0_hw93 => k0_hw93.2.2.2.2.1
theorem k0_idx650_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw93 : k0_chk93 i k0_t18 v596 v600 v604 v608 v612 v616 v620 v1270 v1272 v1274 v1276 v1278 v1280 v1282 v1286), ∀ a x, ((![v1280, v1286, v616] : Fin 3 → IVec S16 32) a x).toNat < S224x2x128.size a := fun i k0_t18 v596 v600 v604 v608 v612 v616 v620 v1270 v1272 v1274 v1276 v1278 v1280 v1282 v1286 k0_hw93 => k0_hw93.2.2.2.2.2.1
theorem k0_idx651_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw93 : k0_chk93 i k0_t18 v596 v600 v604 v608 v612 v616 v620 v1270 v1272 v1274 v1276 v1278 v1280 v1282 v1286), ∀ a x, ((![v1282, v1286, v620] : Fin 3 → IVec S16 32) a x).toNat < S224x2x128.size a := fun i k0_t18 v596 v600 v604 v608 v612 v616 v620 v1270 v1272 v1274 v1276 v1278 v1280 v1282 v1286 k0_hw93 => k0_hw93.2.2.2.2.2.2
def k0_off105 (k0_t26 : Fin k0_t26_loop.trips) : Fin 3 → Nat :=
  let c0_i32_706 : BitVec 32 := 0#32
  let c2_i32_700 : BitVec 32 := 2#32
  let c0_i32_344 : BitVec 32 := 0#32
  let c1_i32_346 : BitVec 32 := 1#32
  let arg13 : BitVec 32 := Scf.iv c0_i32_344 c1_i32_346 k0_t26
  let v1265 : BitVec 32 := Scalar.muli c2_i32_700 arg13
  let c0_i32_701 : BitVec 32 := 0#32
  let v1266 : BitVec 32 := Scalar.addi v1265 c0_i32_701
  let v1302 : BitVec 32 := Scalar.addi c0_i32_706 v1266
  let v1303 : Index := Scalar.indexCast v1302
  let c0_i32_707 : BitVec 32 := 0#32
  let v1304 : Index := Scalar.indexCast c0_i32_707
  let c112 : Index := 112#32
  ![v1303.toNat, 0, 112]

def k0_chk94 (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v596] : Fin 3 → IVec S16 32) a x).toNat < S224x2x128.size a) ∧
  (∀ a x, ((![v1272, v1309, v600] : Fin 3 → IVec S16 32) a x).toNat < S224x2x128.size a) ∧
  (∀ a x, ((![v1274, v1309, v604] : Fin 3 → IVec S16 32) a x).toNat < S224x2x128.size a) ∧
  (∀ a x, ((![v1276, v1309, v608] : Fin 3 → IVec S16 32) a x).toNat < S224x2x128.size a) ∧
  (∀ a x, ((![v1278, v1309, v612] : Fin 3 → IVec S16 32) a x).toNat < S224x2x128.size a) ∧
  (∀ a x, ((![v1280, v1309, v616] : Fin 3 → IVec S16 32) a x).toNat < S224x2x128.size a) ∧
  (∀ a x, ((![v1282, v1309, v620] : Fin 3 → IVec S16 32) a x).toNat < S224x2x128.size a)
theorem k0_idx652_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw94 : k0_chk94 i k0_t18 v596 v600 v604 v608 v612 v616 v620 v1270 v1272 v1274 v1276 v1278 v1280 v1282 v1309), ∀ a x, ((![v1270, v1309, v596] : Fin 3 → IVec S16 32) a x).toNat < S224x2x128.size a := fun i k0_t18 v596 v600 v604 v608 v612 v616 v620 v1270 v1272 v1274 v1276 v1278 v1280 v1282 v1309 k0_hw94 => k0_hw94.1
theorem k0_idx653_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw94 : k0_chk94 i k0_t18 v596 v600 v604 v608 v612 v616 v620 v1270 v1272 v1274 v1276 v1278 v1280 v1282 v1309), ∀ a x, ((![v1272, v1309, v600] : Fin 3 → IVec S16 32) a x).toNat < S224x2x128.size a := fun i k0_t18 v596 v600 v604 v608 v612 v616 v620 v1270 v1272 v1274 v1276 v1278 v1280 v1282 v1309 k0_hw94 => k0_hw94.2.1
theorem k0_idx654_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw94 : k0_chk94 i k0_t18 v596 v600 v604 v608 v612 v616 v620 v1270 v1272 v1274 v1276 v1278 v1280 v1282 v1309), ∀ a x, ((![v1274, v1309, v604] : Fin 3 → IVec S16 32) a x).toNat < S224x2x128.size a := fun i k0_t18 v596 v600 v604 v608 v612 v616 v620 v1270 v1272 v1274 v1276 v1278 v1280 v1282 v1309 k0_hw94 => k0_hw94.2.2.1
theorem k0_idx655_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw94 : k0_chk94 i k0_t18 v596 v600 v604 v608 v612 v616 v620 v1270 v1272 v1274 v1276 v1278 v1280 v1282 v1309), ∀ a x, ((![v1276, v1309, v608] : Fin 3 → IVec S16 32) a x).toNat < S224x2x128.size a := fun i k0_t18 v596 v600 v604 v608 v612 v616 v620 v1270 v1272 v1274 v1276 v1278 v1280 v1282 v1309 k0_hw94 => k0_hw94.2.2.2.1
theorem k0_idx656_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw94 : k0_chk94 i k0_t18 v596 v600 v604 v608 v612 v616 v620 v1270 v1272 v1274 v1276 v1278 v1280 v1282 v1309), ∀ a x, ((![v1278, v1309, v612] : Fin 3 → IVec S16 32) a x).toNat < S224x2x128.size a := fun i k0_t18 v596 v600 v604 v608 v612 v616 v620 v1270 v1272 v1274 v1276 v1278 v1280 v1282 v1309 k0_hw94 => k0_hw94.2.2.2.2.1
theorem k0_idx657_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw94 : k0_chk94 i k0_t18 v596 v600 v604 v608 v612 v616 v620 v1270 v1272 v1274 v1276 v1278 v1280 v1282 v1309), ∀ a x, ((![v1280, v1309, v616] : Fin 3 → IVec S16 32) a x).toNat < S224x2x128.size a := fun i k0_t18 v596 v600 v604 v608 v612 v616 v620 v1270 v1272 v1274 v1276 v1278 v1280 v1282 v1309 k0_hw94 => k0_hw94.2.2.2.2.2.1
theorem k0_idx658_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw94 : k0_chk94 i k0_t18 v596 v600 v604 v608 v612 v616 v620 v1270 v1272 v1274 v1276 v1278 v1280 v1282 v1309), ∀ a x, ((![v1282, v1309, v620] : Fin 3 → IVec S16 32) a x).toNat < S224x2x128.size a := fun i k0_t18 v596 v600 v604 v608 v612 v616 v620 v1270 v1272 v1274 v1276 v1278 v1280 v1282 v1309 k0_hw94 => k0_hw94.2.2.2.2.2.2
def k0_off106 (k0_t26 : Fin k0_t26_loop.trips) : Fin 3 → Nat :=
  let c0_i32_711 : BitVec 32 := 0#32
  let c2_i32_700 : BitVec 32 := 2#32
  let c0_i32_344 : BitVec 32 := 0#32
  let c1_i32_346 : BitVec 32 := 1#32
  let arg13 : BitVec 32 := Scf.iv c0_i32_344 c1_i32_346 k0_t26
  let v1265 : BitVec 32 := Scalar.muli c2_i32_700 arg13
  let c0_i32_701 : BitVec 32 := 0#32
  let v1266 : BitVec 32 := Scalar.addi v1265 c0_i32_701
  let v1325 : BitVec 32 := Scalar.addi c0_i32_711 v1266
  let v1326 : Index := Scalar.indexCast v1325
  let c1_i32_712 : BitVec 32 := 1#32
  let v1327 : Index := Scalar.indexCast c1_i32_712
  let c112_713 : Index := 112#32
  ![v1326.toNat, 1, 112]

def k0_chk95 (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v596] : Fin 3 → IVec S16 32) a x).toNat < S224x2x128.size a) ∧
  (∀ a x, ((![v1336, v1350, v600] : Fin 3 → IVec S16 32) a x).toNat < S224x2x128.size a) ∧
  (∀ a x, ((![v1338, v1350, v604] : Fin 3 → IVec S16 32) a x).toNat < S224x2x128.size a) ∧
  (∀ a x, ((![v1340, v1350, v608] : Fin 3 → IVec S16 32) a x).toNat < S224x2x128.size a) ∧
  (∀ a x, ((![v1342, v1350, v612] : Fin 3 → IVec S16 32) a x).toNat < S224x2x128.size a) ∧
  (∀ a x, ((![v1344, v1350, v616] : Fin 3 → IVec S16 32) a x).toNat < S224x2x128.size a) ∧
  (∀ a x, ((![v1346, v1350, v620] : Fin 3 → IVec S16 32) a x).toNat < S224x2x128.size a)
theorem k0_idx659_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw95 : k0_chk95 i k0_t18 v596 v600 v604 v608 v612 v616 v620 v1334 v1336 v1338 v1340 v1342 v1344 v1346 v1350), ∀ a x, ((![v1334, v1350, v596] : Fin 3 → IVec S16 32) a x).toNat < S224x2x128.size a := fun i k0_t18 v596 v600 v604 v608 v612 v616 v620 v1334 v1336 v1338 v1340 v1342 v1344 v1346 v1350 k0_hw95 => k0_hw95.1
theorem k0_idx660_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw95 : k0_chk95 i k0_t18 v596 v600 v604 v608 v612 v616 v620 v1334 v1336 v1338 v1340 v1342 v1344 v1346 v1350), ∀ a x, ((![v1336, v1350, v600] : Fin 3 → IVec S16 32) a x).toNat < S224x2x128.size a := fun i k0_t18 v596 v600 v604 v608 v612 v616 v620 v1334 v1336 v1338 v1340 v1342 v1344 v1346 v1350 k0_hw95 => k0_hw95.2.1
theorem k0_idx661_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw95 : k0_chk95 i k0_t18 v596 v600 v604 v608 v612 v616 v620 v1334 v1336 v1338 v1340 v1342 v1344 v1346 v1350), ∀ a x, ((![v1338, v1350, v604] : Fin 3 → IVec S16 32) a x).toNat < S224x2x128.size a := fun i k0_t18 v596 v600 v604 v608 v612 v616 v620 v1334 v1336 v1338 v1340 v1342 v1344 v1346 v1350 k0_hw95 => k0_hw95.2.2.1
theorem k0_idx662_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw95 : k0_chk95 i k0_t18 v596 v600 v604 v608 v612 v616 v620 v1334 v1336 v1338 v1340 v1342 v1344 v1346 v1350), ∀ a x, ((![v1340, v1350, v608] : Fin 3 → IVec S16 32) a x).toNat < S224x2x128.size a := fun i k0_t18 v596 v600 v604 v608 v612 v616 v620 v1334 v1336 v1338 v1340 v1342 v1344 v1346 v1350 k0_hw95 => k0_hw95.2.2.2.1
theorem k0_idx663_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw95 : k0_chk95 i k0_t18 v596 v600 v604 v608 v612 v616 v620 v1334 v1336 v1338 v1340 v1342 v1344 v1346 v1350), ∀ a x, ((![v1342, v1350, v612] : Fin 3 → IVec S16 32) a x).toNat < S224x2x128.size a := fun i k0_t18 v596 v600 v604 v608 v612 v616 v620 v1334 v1336 v1338 v1340 v1342 v1344 v1346 v1350 k0_hw95 => k0_hw95.2.2.2.2.1
theorem k0_idx664_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw95 : k0_chk95 i k0_t18 v596 v600 v604 v608 v612 v616 v620 v1334 v1336 v1338 v1340 v1342 v1344 v1346 v1350), ∀ a x, ((![v1344, v1350, v616] : Fin 3 → IVec S16 32) a x).toNat < S224x2x128.size a := fun i k0_t18 v596 v600 v604 v608 v612 v616 v620 v1334 v1336 v1338 v1340 v1342 v1344 v1346 v1350 k0_hw95 => k0_hw95.2.2.2.2.2.1
theorem k0_idx665_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw95 : k0_chk95 i k0_t18 v596 v600 v604 v608 v612 v616 v620 v1334 v1336 v1338 v1340 v1342 v1344 v1346 v1350), ∀ a x, ((![v1346, v1350, v620] : Fin 3 → IVec S16 32) a x).toNat < S224x2x128.size a := fun i k0_t18 v596 v600 v604 v608 v612 v616 v620 v1334 v1336 v1338 v1340 v1342 v1344 v1346 v1350 k0_hw95 => k0_hw95.2.2.2.2.2.2
def k0_off107 (k0_t26 : Fin k0_t26_loop.trips) : Fin 3 → Nat :=
  let c0_i32_721 : BitVec 32 := 0#32
  let c2_i32_714 : BitVec 32 := 2#32
  let c0_i32_344 : BitVec 32 := 0#32
  let c1_i32_346 : BitVec 32 := 1#32
  let arg13 : BitVec 32 := Scf.iv c0_i32_344 c1_i32_346 k0_t26
  let v1329 : BitVec 32 := Scalar.muli c2_i32_714 arg13
  let c1_i32_715 : BitVec 32 := 1#32
  let v1330 : BitVec 32 := Scalar.addi v1329 c1_i32_715
  let v1366 : BitVec 32 := Scalar.addi c0_i32_721 v1330
  let v1367 : Index := Scalar.indexCast v1366
  let c0_i32_722 : BitVec 32 := 0#32
  let v1368 : Index := Scalar.indexCast c0_i32_722
  let c112_723 : Index := 112#32
  ![v1367.toNat, 0, 112]

def k0_chk96 (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v596] : Fin 3 → IVec S16 32) a x).toNat < S224x2x128.size a) ∧
  (∀ a x, ((![v1336, v1373, v600] : Fin 3 → IVec S16 32) a x).toNat < S224x2x128.size a) ∧
  (∀ a x, ((![v1338, v1373, v604] : Fin 3 → IVec S16 32) a x).toNat < S224x2x128.size a) ∧
  (∀ a x, ((![v1340, v1373, v608] : Fin 3 → IVec S16 32) a x).toNat < S224x2x128.size a) ∧
  (∀ a x, ((![v1342, v1373, v612] : Fin 3 → IVec S16 32) a x).toNat < S224x2x128.size a) ∧
  (∀ a x, ((![v1344, v1373, v616] : Fin 3 → IVec S16 32) a x).toNat < S224x2x128.size a) ∧
  (∀ a x, ((![v1346, v1373, v620] : Fin 3 → IVec S16 32) a x).toNat < S224x2x128.size a)
theorem k0_idx666_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw96 : k0_chk96 i k0_t18 v596 v600 v604 v608 v612 v616 v620 v1334 v1336 v1338 v1340 v1342 v1344 v1346 v1373), ∀ a x, ((![v1334, v1373, v596] : Fin 3 → IVec S16 32) a x).toNat < S224x2x128.size a := fun i k0_t18 v596 v600 v604 v608 v612 v616 v620 v1334 v1336 v1338 v1340 v1342 v1344 v1346 v1373 k0_hw96 => k0_hw96.1
theorem k0_idx667_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw96 : k0_chk96 i k0_t18 v596 v600 v604 v608 v612 v616 v620 v1334 v1336 v1338 v1340 v1342 v1344 v1346 v1373), ∀ a x, ((![v1336, v1373, v600] : Fin 3 → IVec S16 32) a x).toNat < S224x2x128.size a := fun i k0_t18 v596 v600 v604 v608 v612 v616 v620 v1334 v1336 v1338 v1340 v1342 v1344 v1346 v1373 k0_hw96 => k0_hw96.2.1
theorem k0_idx668_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw96 : k0_chk96 i k0_t18 v596 v600 v604 v608 v612 v616 v620 v1334 v1336 v1338 v1340 v1342 v1344 v1346 v1373), ∀ a x, ((![v1338, v1373, v604] : Fin 3 → IVec S16 32) a x).toNat < S224x2x128.size a := fun i k0_t18 v596 v600 v604 v608 v612 v616 v620 v1334 v1336 v1338 v1340 v1342 v1344 v1346 v1373 k0_hw96 => k0_hw96.2.2.1
theorem k0_idx669_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw96 : k0_chk96 i k0_t18 v596 v600 v604 v608 v612 v616 v620 v1334 v1336 v1338 v1340 v1342 v1344 v1346 v1373), ∀ a x, ((![v1340, v1373, v608] : Fin 3 → IVec S16 32) a x).toNat < S224x2x128.size a := fun i k0_t18 v596 v600 v604 v608 v612 v616 v620 v1334 v1336 v1338 v1340 v1342 v1344 v1346 v1373 k0_hw96 => k0_hw96.2.2.2.1
theorem k0_idx670_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw96 : k0_chk96 i k0_t18 v596 v600 v604 v608 v612 v616 v620 v1334 v1336 v1338 v1340 v1342 v1344 v1346 v1373), ∀ a x, ((![v1342, v1373, v612] : Fin 3 → IVec S16 32) a x).toNat < S224x2x128.size a := fun i k0_t18 v596 v600 v604 v608 v612 v616 v620 v1334 v1336 v1338 v1340 v1342 v1344 v1346 v1373 k0_hw96 => k0_hw96.2.2.2.2.1
theorem k0_idx671_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw96 : k0_chk96 i k0_t18 v596 v600 v604 v608 v612 v616 v620 v1334 v1336 v1338 v1340 v1342 v1344 v1346 v1373), ∀ a x, ((![v1344, v1373, v616] : Fin 3 → IVec S16 32) a x).toNat < S224x2x128.size a := fun i k0_t18 v596 v600 v604 v608 v612 v616 v620 v1334 v1336 v1338 v1340 v1342 v1344 v1346 v1373 k0_hw96 => k0_hw96.2.2.2.2.2.1
theorem k0_idx672_inb : ∀ (i : grid0.Coords) (k0_t18 : Fin (k0_t18_loop i).trips) (v596 : IVec S16 32) (v600 : IVec S16 32) (v604 : IVec S16 32) (v608 : IVec S16 32) (v612 : IVec S16 32) (v616 : IVec S16 32) (v620 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw96 : k0_chk96 i k0_t18 v596 v600 v604 v608 v612 v616 v620 v1334 v1336 v1338 v1340 v1342 v1344 v1346 v1373), ∀ a x, ((![v1346, v1373, v620] : Fin 3 → IVec S16 32) a x).toNat < S224x2x128.size a := fun i k0_t18 v596 v600 v604 v608 v612 v616 v620 v1334 v1336 v1338 v1340 v1342 v1344 v1346 v1373 k0_hw96 => k0_hw96.2.2.2.2.2.2
def k0_off108 (k0_t26 : Fin k0_t26_loop.trips) : Fin 3 → Nat :=
  let c0_i32_727 : BitVec 32 := 0#32
  let c2_i32_714 : BitVec 32 := 2#32
  let c0_i32_344 : BitVec 32 := 0#32
  let c1_i32_346 : BitVec 32 := 1#32
  let arg13 : BitVec 32 := Scf.iv c0_i32_344 c1_i32_346 k0_t26
  let v1329 : BitVec 32 := Scalar.muli c2_i32_714 arg13
  let c1_i32_715 : BitVec 32 := 1#32
  let v1330 : BitVec 32 := Scalar.addi v1329 c1_i32_715
  let v1389 : BitVec 32 := Scalar.addi c0_i32_727 v1330
  let v1390 : Index := Scalar.indexCast v1389
  let c1_i32_728 : BitVec 32 := 1#32
  let v1391 : Index := Scalar.indexCast c1_i32_728
  let c112_729 : Index := 112#32
  ![v1390.toNat, 1, 112]
def k0_cond9 (i : grid0.Coords) (k0_t18 : Fin (k0_t18_loop i).trips) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let v638 : BitVec 32 := Scalar.addi v4 v33
  let c1_i32_349 : BitVec 32 := 1#32
  let v639 : BitVec 32 := Scalar.addi v638 c1_i32_349
  let c16_i32_350 : BitVec 32 := 16#32
  let v640 : BitVec 32 := Scalar.muli v639 c16_i32_350
  let c40962_i32_351 : BitVec 32 := 40962#32
  let v641 : BitVec 1 := Scalar.cmpi .sle v640 c40962_i32_351
  let v642 : BitVec 32 := Scalar.extui v641
  let c0_i32_352 : BitVec 32 := 0#32
  let v643 : BitVec 1 := Scalar.cmpi .ne v642 c0_i32_352
  v643

def k0_off109 (i : grid0.Coords) (k0_t18 : Fin (k0_t18_loop i).trips) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let v636 : BitVec 32 := Scalar.addi v4 v33
  let c16_i32_348 : BitVec 32 := 16#32
  let v637 : BitVec 32 := Scalar.muli v636 c16_i32_348
  let c0_i32_703 : BitVec 32 := 0#32
  let c0_i32_704 : BitVec 32 := 0#32
  ![v637.toNat, 0, 0]
def k0_off110 (i : grid0.Coords) (k0_t18 : Fin (k0_t18_loop i).trips) : Fin 1 → Nat :=
  let c2_i32_19 : BitVec 32 := 2#32
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let c1_i32_355 : BitVec 32 := 1#32
  let v649 : BitVec 32 := Scalar.addi v33 c1_i32_355
  let c112_i32_356 : BitVec 32 := 112#32
  let v650 : BitVec 32 := Scalar.muli v649 c112_i32_356
  ![v650.toNat]
def k0_cond11 (i : grid0.Coords) (k0_t18 : Fin (k0_t18_loop i).trips) : BitVec 1 :=
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let c1_i32_363 : BitVec 32 := 1#32
  let v654 : BitVec 32 := Scalar.subi v5 c1_i32_363
  let v655 : BitVec 1 := Scalar.cmpi .slt arg12 v654
  let v656 : BitVec 32 := Scalar.extui v655
  let c0_i32_364 : BitVec 32 := 0#32
  let v657 : BitVec 1 := Scalar.cmpi .ne v656 c0_i32_364
  v657

def k0_off111 (i : grid0.Coords) (k0_t18 : Fin (k0_t18_loop i).trips) : Fin 1 → Nat :=
  let c2_i32_19 : BitVec 32 := 2#32
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let c2_i32_700 : BitVec 32 := 2#32
  let v1265 : BitVec 32 := Scalar.addi v33 c2_i32_700
  let c112_i32_701 : BitVec 32 := 112#32
  let v1266 : BitVec 32 := Scalar.muli v1265 c112_i32_701
  ![v1266.toNat]
def k0_cond12 (i : grid0.Coords) (k0_t18 : Fin (k0_t18_loop i).trips) : BitVec 1 :=
  let c0_i32_8 : BitVec 32 := 0#32
  let arg0 : BitVec 32 := BitVec.ofNat 32 (i 0).val
  let c0_i32 : BitVec 32 := 0#32
  let v0 : BitVec 1 := Scalar.cmpi .eq arg0 c0_i32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let c0_i32_365 : BitVec 32 := 0#32
  let v658 : BitVec 1 := Scalar.cmpi .sgt arg12 c0_i32_365
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let v33 : BitVec 32 := Scalar.muli c2_i32_19 arg12
  let c1_i32_366 : BitVec 32 := 1#32
  let v659 : BitVec 32 := Scalar.subi v33 c1_i32_366
  let v660 : BitVec 32 := Scalar.addi v4 v659
  let c1_i32_367 : BitVec 32 := 1#32
  let v661 : BitVec 32 := Scalar.addi v660 c1_i32_367
  let c16_i32_368 : BitVec 32 := 16#32
  let v662 : BitVec 32 := Scalar.muli v661 c16_i32_368
  let c40962_i32_369 : BitVec 32 := 40962#32
  let v663 : BitVec 1 := Scalar.cmpi .sle v662 c40962_i32_369
  let v664 : BitVec 1 := Scalar.andi v658 v663
  let v665 : BitVec 32 := Scalar.extui v664
  let c0_i32_370 : BitVec 32 := 0#32
  let v666 : BitVec 1 := Scalar.cmpi .ne v665 c0_i32_370
  v666

def k0_off112 (i : grid0.Coords) (k0_t18 : Fin (k0_t18_loop i).trips) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let c1_i32_700 : BitVec 32 := 1#32
  let v1265 : BitVec 32 := Scalar.subi v33 c1_i32_700
  let v1266 : BitVec 32 := Scalar.addi v4 v1265
  let c16_i32_701 : BitVec 32 := 16#32
  let v1267 : BitVec 32 := Scalar.muli v1266 c16_i32_701
  let c0_i32_705 : BitVec 32 := 0#32
  let c0_i32_706 : BitVec 32 := 0#32
  ![v1267.toNat, 0, 0]
@[reducible] def k0_t27_loop : Scf.Loop 32 :=
  let c0_i32_408 : BitVec 32 := 0#32
  let c8_i32_409 : BitVec 32 := 8#32
  let v740 : BitVec 32 := Scalar.addi c0_i32_408 c8_i32_409
  let c1_i32_410 : BitVec 32 := 1#32
  ⟨c0_i32_408, v740, c1_i32_410⟩

def k0_chk97 (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v701] : Fin 3 → IVec S16 32) a x).toNat < S224x2x128.size a) ∧
  (∀ a x, ((![v1272, v1286, v705] : Fin 3 → IVec S16 32) a x).toNat < S224x2x128.size a) ∧
  (∀ a x, ((![v1274, v1286, v709] : Fin 3 → IVec S16 32) a x).toNat < S224x2x128.size a) ∧
  (∀ a x, ((![v1276, v1286, v713] : Fin 3 → IVec S16 32) a x).toNat < S224x2x128.size a) ∧
  (∀ a x, ((![v1278, v1286, v717] : Fin 3 → IVec S16 32) a x).toNat < S224x2x128.size a) ∧
  (∀ a x, ((![v1280, v1286, v721] : Fin 3 → IVec S16 32) a x).toNat < S224x2x128.size a) ∧
  (∀ a x, ((![v1282, v1286, v725] : Fin 3 → IVec S16 32) a x).toNat < S224x2x128.size a)
theorem k0_idx673_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw97 : k0_chk97 i k0_t18 v701 v705 v709 v713 v717 v721 v725 v1270 v1272 v1274 v1276 v1278 v1280 v1282 v1286), ∀ a x, ((![v1270, v1286, v701] : Fin 3 → IVec S16 32) a x).toNat < S224x2x128.size a := fun i k0_t18 v701 v705 v709 v713 v717 v721 v725 v1270 v1272 v1274 v1276 v1278 v1280 v1282 v1286 k0_hw97 => k0_hw97.1
theorem k0_idx674_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw97 : k0_chk97 i k0_t18 v701 v705 v709 v713 v717 v721 v725 v1270 v1272 v1274 v1276 v1278 v1280 v1282 v1286), ∀ a x, ((![v1272, v1286, v705] : Fin 3 → IVec S16 32) a x).toNat < S224x2x128.size a := fun i k0_t18 v701 v705 v709 v713 v717 v721 v725 v1270 v1272 v1274 v1276 v1278 v1280 v1282 v1286 k0_hw97 => k0_hw97.2.1
theorem k0_idx675_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw97 : k0_chk97 i k0_t18 v701 v705 v709 v713 v717 v721 v725 v1270 v1272 v1274 v1276 v1278 v1280 v1282 v1286), ∀ a x, ((![v1274, v1286, v709] : Fin 3 → IVec S16 32) a x).toNat < S224x2x128.size a := fun i k0_t18 v701 v705 v709 v713 v717 v721 v725 v1270 v1272 v1274 v1276 v1278 v1280 v1282 v1286 k0_hw97 => k0_hw97.2.2.1
theorem k0_idx676_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw97 : k0_chk97 i k0_t18 v701 v705 v709 v713 v717 v721 v725 v1270 v1272 v1274 v1276 v1278 v1280 v1282 v1286), ∀ a x, ((![v1276, v1286, v713] : Fin 3 → IVec S16 32) a x).toNat < S224x2x128.size a := fun i k0_t18 v701 v705 v709 v713 v717 v721 v725 v1270 v1272 v1274 v1276 v1278 v1280 v1282 v1286 k0_hw97 => k0_hw97.2.2.2.1
theorem k0_idx677_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw97 : k0_chk97 i k0_t18 v701 v705 v709 v713 v717 v721 v725 v1270 v1272 v1274 v1276 v1278 v1280 v1282 v1286), ∀ a x, ((![v1278, v1286, v717] : Fin 3 → IVec S16 32) a x).toNat < S224x2x128.size a := fun i k0_t18 v701 v705 v709 v713 v717 v721 v725 v1270 v1272 v1274 v1276 v1278 v1280 v1282 v1286 k0_hw97 => k0_hw97.2.2.2.2.1
theorem k0_idx678_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw97 : k0_chk97 i k0_t18 v701 v705 v709 v713 v717 v721 v725 v1270 v1272 v1274 v1276 v1278 v1280 v1282 v1286), ∀ a x, ((![v1280, v1286, v721] : Fin 3 → IVec S16 32) a x).toNat < S224x2x128.size a := fun i k0_t18 v701 v705 v709 v713 v717 v721 v725 v1270 v1272 v1274 v1276 v1278 v1280 v1282 v1286 k0_hw97 => k0_hw97.2.2.2.2.2.1
theorem k0_idx679_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw97 : k0_chk97 i k0_t18 v701 v705 v709 v713 v717 v721 v725 v1270 v1272 v1274 v1276 v1278 v1280 v1282 v1286), ∀ a x, ((![v1282, v1286, v725] : Fin 3 → IVec S16 32) a x).toNat < S224x2x128.size a := fun i k0_t18 v701 v705 v709 v713 v717 v721 v725 v1270 v1272 v1274 v1276 v1278 v1280 v1282 v1286 k0_hw97 => k0_hw97.2.2.2.2.2.2
def k0_off113 (k0_t27 : Fin k0_t27_loop.trips) : Fin 3 → Nat :=
  let c16_i32_706 : BitVec 32 := 16#32
  let c2_i32_700 : BitVec 32 := 2#32
  let c0_i32_408 : BitVec 32 := 0#32
  let c1_i32_410 : BitVec 32 := 1#32
  let arg13 : BitVec 32 := Scf.iv c0_i32_408 c1_i32_410 k0_t27
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c0 : Index := 0#32
  ![v1303.toNat, 0, 0]

def k0_chk98 (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v701] : Fin 3 → IVec S16 32) a x).toNat < S224x2x128.size a) ∧
  (∀ a x, ((![v1272, v1309, v705] : Fin 3 → IVec S16 32) a x).toNat < S224x2x128.size a) ∧
  (∀ a x, ((![v1274, v1309, v709] : Fin 3 → IVec S16 32) a x).toNat < S224x2x128.size a) ∧
  (∀ a x, ((![v1276, v1309, v713] : Fin 3 → IVec S16 32) a x).toNat < S224x2x128.size a) ∧
  (∀ a x, ((![v1278, v1309, v717] : Fin 3 → IVec S16 32) a x).toNat < S224x2x128.size a) ∧
  (∀ a x, ((![v1280, v1309, v721] : Fin 3 → IVec S16 32) a x).toNat < S224x2x128.size a) ∧
  (∀ a x, ((![v1282, v1309, v725] : Fin 3 → IVec S16 32) a x).toNat < S224x2x128.size a)
theorem k0_idx680_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw98 : k0_chk98 i k0_t18 v701 v705 v709 v713 v717 v721 v725 v1270 v1272 v1274 v1276 v1278 v1280 v1282 v1309), ∀ a x, ((![v1270, v1309, v701] : Fin 3 → IVec S16 32) a x).toNat < S224x2x128.size a := fun i k0_t18 v701 v705 v709 v713 v717 v721 v725 v1270 v1272 v1274 v1276 v1278 v1280 v1282 v1309 k0_hw98 => k0_hw98.1
theorem k0_idx681_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw98 : k0_chk98 i k0_t18 v701 v705 v709 v713 v717 v721 v725 v1270 v1272 v1274 v1276 v1278 v1280 v1282 v1309), ∀ a x, ((![v1272, v1309, v705] : Fin 3 → IVec S16 32) a x).toNat < S224x2x128.size a := fun i k0_t18 v701 v705 v709 v713 v717 v721 v725 v1270 v1272 v1274 v1276 v1278 v1280 v1282 v1309 k0_hw98 => k0_hw98.2.1
theorem k0_idx682_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw98 : k0_chk98 i k0_t18 v701 v705 v709 v713 v717 v721 v725 v1270 v1272 v1274 v1276 v1278 v1280 v1282 v1309), ∀ a x, ((![v1274, v1309, v709] : Fin 3 → IVec S16 32) a x).toNat < S224x2x128.size a := fun i k0_t18 v701 v705 v709 v713 v717 v721 v725 v1270 v1272 v1274 v1276 v1278 v1280 v1282 v1309 k0_hw98 => k0_hw98.2.2.1
theorem k0_idx683_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw98 : k0_chk98 i k0_t18 v701 v705 v709 v713 v717 v721 v725 v1270 v1272 v1274 v1276 v1278 v1280 v1282 v1309), ∀ a x, ((![v1276, v1309, v713] : Fin 3 → IVec S16 32) a x).toNat < S224x2x128.size a := fun i k0_t18 v701 v705 v709 v713 v717 v721 v725 v1270 v1272 v1274 v1276 v1278 v1280 v1282 v1309 k0_hw98 => k0_hw98.2.2.2.1
theorem k0_idx684_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw98 : k0_chk98 i k0_t18 v701 v705 v709 v713 v717 v721 v725 v1270 v1272 v1274 v1276 v1278 v1280 v1282 v1309), ∀ a x, ((![v1278, v1309, v717] : Fin 3 → IVec S16 32) a x).toNat < S224x2x128.size a := fun i k0_t18 v701 v705 v709 v713 v717 v721 v725 v1270 v1272 v1274 v1276 v1278 v1280 v1282 v1309 k0_hw98 => k0_hw98.2.2.2.2.1
theorem k0_idx685_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw98 : k0_chk98 i k0_t18 v701 v705 v709 v713 v717 v721 v725 v1270 v1272 v1274 v1276 v1278 v1280 v1282 v1309), ∀ a x, ((![v1280, v1309, v721] : Fin 3 → IVec S16 32) a x).toNat < S224x2x128.size a := fun i k0_t18 v701 v705 v709 v713 v717 v721 v725 v1270 v1272 v1274 v1276 v1278 v1280 v1282 v1309 k0_hw98 => k0_hw98.2.2.2.2.2.1
theorem k0_idx686_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw98 : k0_chk98 i k0_t18 v701 v705 v709 v713 v717 v721 v725 v1270 v1272 v1274 v1276 v1278 v1280 v1282 v1309), ∀ a x, ((![v1282, v1309, v725] : Fin 3 → IVec S16 32) a x).toNat < S224x2x128.size a := fun i k0_t18 v701 v705 v709 v713 v717 v721 v725 v1270 v1272 v1274 v1276 v1278 v1280 v1282 v1309 k0_hw98 => k0_hw98.2.2.2.2.2.2
def k0_off114 (k0_t27 : Fin k0_t27_loop.trips) : Fin 3 → Nat :=
  let c16_i32_711 : BitVec 32 := 16#32
  let c2_i32_700 : BitVec 32 := 2#32
  let c0_i32_408 : BitVec 32 := 0#32
  let c1_i32_410 : BitVec 32 := 1#32
  let arg13 : BitVec 32 := Scf.iv c0_i32_408 c1_i32_410 k0_t27
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c0_713 : Index := 0#32
  ![v1326.toNat, 1, 0]

def k0_chk99 (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v701] : Fin 3 → IVec S16 32) a x).toNat < S224x2x128.size a) ∧
  (∀ a x, ((![v1336, v1350, v705] : Fin 3 → IVec S16 32) a x).toNat < S224x2x128.size a) ∧
  (∀ a x, ((![v1338, v1350, v709] : Fin 3 → IVec S16 32) a x).toNat < S224x2x128.size a) ∧
  (∀ a x, ((![v1340, v1350, v713] : Fin 3 → IVec S16 32) a x).toNat < S224x2x128.size a) ∧
  (∀ a x, ((![v1342, v1350, v717] : Fin 3 → IVec S16 32) a x).toNat < S224x2x128.size a) ∧
  (∀ a x, ((![v1344, v1350, v721] : Fin 3 → IVec S16 32) a x).toNat < S224x2x128.size a) ∧
  (∀ a x, ((![v1346, v1350, v725] : Fin 3 → IVec S16 32) a x).toNat < S224x2x128.size a)
theorem k0_idx687_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw99 : k0_chk99 i k0_t18 v701 v705 v709 v713 v717 v721 v725 v1334 v1336 v1338 v1340 v1342 v1344 v1346 v1350), ∀ a x, ((![v1334, v1350, v701] : Fin 3 → IVec S16 32) a x).toNat < S224x2x128.size a := fun i k0_t18 v701 v705 v709 v713 v717 v721 v725 v1334 v1336 v1338 v1340 v1342 v1344 v1346 v1350 k0_hw99 => k0_hw99.1
theorem k0_idx688_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw99 : k0_chk99 i k0_t18 v701 v705 v709 v713 v717 v721 v725 v1334 v1336 v1338 v1340 v1342 v1344 v1346 v1350), ∀ a x, ((![v1336, v1350, v705] : Fin 3 → IVec S16 32) a x).toNat < S224x2x128.size a := fun i k0_t18 v701 v705 v709 v713 v717 v721 v725 v1334 v1336 v1338 v1340 v1342 v1344 v1346 v1350 k0_hw99 => k0_hw99.2.1
theorem k0_idx689_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw99 : k0_chk99 i k0_t18 v701 v705 v709 v713 v717 v721 v725 v1334 v1336 v1338 v1340 v1342 v1344 v1346 v1350), ∀ a x, ((![v1338, v1350, v709] : Fin 3 → IVec S16 32) a x).toNat < S224x2x128.size a := fun i k0_t18 v701 v705 v709 v713 v717 v721 v725 v1334 v1336 v1338 v1340 v1342 v1344 v1346 v1350 k0_hw99 => k0_hw99.2.2.1
theorem k0_idx690_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw99 : k0_chk99 i k0_t18 v701 v705 v709 v713 v717 v721 v725 v1334 v1336 v1338 v1340 v1342 v1344 v1346 v1350), ∀ a x, ((![v1340, v1350, v713] : Fin 3 → IVec S16 32) a x).toNat < S224x2x128.size a := fun i k0_t18 v701 v705 v709 v713 v717 v721 v725 v1334 v1336 v1338 v1340 v1342 v1344 v1346 v1350 k0_hw99 => k0_hw99.2.2.2.1
theorem k0_idx691_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw99 : k0_chk99 i k0_t18 v701 v705 v709 v713 v717 v721 v725 v1334 v1336 v1338 v1340 v1342 v1344 v1346 v1350), ∀ a x, ((![v1342, v1350, v717] : Fin 3 → IVec S16 32) a x).toNat < S224x2x128.size a := fun i k0_t18 v701 v705 v709 v713 v717 v721 v725 v1334 v1336 v1338 v1340 v1342 v1344 v1346 v1350 k0_hw99 => k0_hw99.2.2.2.2.1
theorem k0_idx692_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw99 : k0_chk99 i k0_t18 v701 v705 v709 v713 v717 v721 v725 v1334 v1336 v1338 v1340 v1342 v1344 v1346 v1350), ∀ a x, ((![v1344, v1350, v721] : Fin 3 → IVec S16 32) a x).toNat < S224x2x128.size a := fun i k0_t18 v701 v705 v709 v713 v717 v721 v725 v1334 v1336 v1338 v1340 v1342 v1344 v1346 v1350 k0_hw99 => k0_hw99.2.2.2.2.2.1
theorem k0_idx693_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw99 : k0_chk99 i k0_t18 v701 v705 v709 v713 v717 v721 v725 v1334 v1336 v1338 v1340 v1342 v1344 v1346 v1350), ∀ a x, ((![v1346, v1350, v725] : Fin 3 → IVec S16 32) a x).toNat < S224x2x128.size a := fun i k0_t18 v701 v705 v709 v713 v717 v721 v725 v1334 v1336 v1338 v1340 v1342 v1344 v1346 v1350 k0_hw99 => k0_hw99.2.2.2.2.2.2
def k0_off115 (k0_t27 : Fin k0_t27_loop.trips) : Fin 3 → Nat :=
  let c16_i32_721 : BitVec 32 := 16#32
  let c2_i32_714 : BitVec 32 := 2#32
  let c0_i32_408 : BitVec 32 := 0#32
  let c1_i32_410 : BitVec 32 := 1#32
  let arg13 : BitVec 32 := Scf.iv c0_i32_408 c1_i32_410 k0_t27
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c0_723 : Index := 0#32
  ![v1367.toNat, 0, 0]

def k0_chk100 (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v701] : Fin 3 → IVec S16 32) a x).toNat < S224x2x128.size a) ∧
  (∀ a x, ((![v1336, v1373, v705] : Fin 3 → IVec S16 32) a x).toNat < S224x2x128.size a) ∧
  (∀ a x, ((![v1338, v1373, v709] : Fin 3 → IVec S16 32) a x).toNat < S224x2x128.size a) ∧
  (∀ a x, ((![v1340, v1373, v713] : Fin 3 → IVec S16 32) a x).toNat < S224x2x128.size a) ∧
  (∀ a x, ((![v1342, v1373, v717] : Fin 3 → IVec S16 32) a x).toNat < S224x2x128.size a) ∧
  (∀ a x, ((![v1344, v1373, v721] : Fin 3 → IVec S16 32) a x).toNat < S224x2x128.size a) ∧
  (∀ a x, ((![v1346, v1373, v725] : Fin 3 → IVec S16 32) a x).toNat < S224x2x128.size a)
theorem k0_idx694_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw100 : k0_chk100 i k0_t18 v701 v705 v709 v713 v717 v721 v725 v1334 v1336 v1338 v1340 v1342 v1344 v1346 v1373), ∀ a x, ((![v1334, v1373, v701] : Fin 3 → IVec S16 32) a x).toNat < S224x2x128.size a := fun i k0_t18 v701 v705 v709 v713 v717 v721 v725 v1334 v1336 v1338 v1340 v1342 v1344 v1346 v1373 k0_hw100 => k0_hw100.1
theorem k0_idx695_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw100 : k0_chk100 i k0_t18 v701 v705 v709 v713 v717 v721 v725 v1334 v1336 v1338 v1340 v1342 v1344 v1346 v1373), ∀ a x, ((![v1336, v1373, v705] : Fin 3 → IVec S16 32) a x).toNat < S224x2x128.size a := fun i k0_t18 v701 v705 v709 v713 v717 v721 v725 v1334 v1336 v1338 v1340 v1342 v1344 v1346 v1373 k0_hw100 => k0_hw100.2.1
theorem k0_idx696_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw100 : k0_chk100 i k0_t18 v701 v705 v709 v713 v717 v721 v725 v1334 v1336 v1338 v1340 v1342 v1344 v1346 v1373), ∀ a x, ((![v1338, v1373, v709] : Fin 3 → IVec S16 32) a x).toNat < S224x2x128.size a := fun i k0_t18 v701 v705 v709 v713 v717 v721 v725 v1334 v1336 v1338 v1340 v1342 v1344 v1346 v1373 k0_hw100 => k0_hw100.2.2.1
theorem k0_idx697_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw100 : k0_chk100 i k0_t18 v701 v705 v709 v713 v717 v721 v725 v1334 v1336 v1338 v1340 v1342 v1344 v1346 v1373), ∀ a x, ((![v1340, v1373, v713] : Fin 3 → IVec S16 32) a x).toNat < S224x2x128.size a := fun i k0_t18 v701 v705 v709 v713 v717 v721 v725 v1334 v1336 v1338 v1340 v1342 v1344 v1346 v1373 k0_hw100 => k0_hw100.2.2.2.1
theorem k0_idx698_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw100 : k0_chk100 i k0_t18 v701 v705 v709 v713 v717 v721 v725 v1334 v1336 v1338 v1340 v1342 v1344 v1346 v1373), ∀ a x, ((![v1342, v1373, v717] : Fin 3 → IVec S16 32) a x).toNat < S224x2x128.size a := fun i k0_t18 v701 v705 v709 v713 v717 v721 v725 v1334 v1336 v1338 v1340 v1342 v1344 v1346 v1373 k0_hw100 => k0_hw100.2.2.2.2.1
theorem k0_idx699_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw100 : k0_chk100 i k0_t18 v701 v705 v709 v713 v717 v721 v725 v1334 v1336 v1338 v1340 v1342 v1344 v1346 v1373), ∀ a x, ((![v1344, v1373, v721] : Fin 3 → IVec S16 32) a x).toNat < S224x2x128.size a := fun i k0_t18 v701 v705 v709 v713 v717 v721 v725 v1334 v1336 v1338 v1340 v1342 v1344 v1346 v1373 k0_hw100 => k0_hw100.2.2.2.2.2.1
theorem k0_idx700_inb : ∀ (i : grid0.Coords) (k0_t18 : Fin (k0_t18_loop i).trips) (v701 : IVec S16 32) (v705 : IVec S16 32) (v709 : IVec S16 32) (v713 : IVec S16 32) (v717 : IVec S16 32) (v721 : IVec S16 32) (v725 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw100 : k0_chk100 i k0_t18 v701 v705 v709 v713 v717 v721 v725 v1334 v1336 v1338 v1340 v1342 v1344 v1346 v1373), ∀ a x, ((![v1346, v1373, v725] : Fin 3 → IVec S16 32) a x).toNat < S224x2x128.size a := fun i k0_t18 v701 v705 v709 v713 v717 v721 v725 v1334 v1336 v1338 v1340 v1342 v1344 v1346 v1373 k0_hw100 => k0_hw100.2.2.2.2.2.2
def k0_off116 (k0_t27 : Fin k0_t27_loop.trips) : Fin 3 → Nat :=
  let c16_i32_727 : BitVec 32 := 16#32
  let c2_i32_714 : BitVec 32 := 2#32
  let c0_i32_408 : BitVec 32 := 0#32
  let c1_i32_410 : BitVec 32 := 1#32
  let arg13 : BitVec 32 := Scf.iv c0_i32_408 c1_i32_410 k0_t27
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c0_729 : Index := 0#32
  ![v1390.toNat, 1, 0]
@[reducible] def k0_t28_loop : Scf.Loop 32 :=
  let c0_i32_448 : BitVec 32 := 0#32
  let c8_i32_449 : BitVec 32 := 8#32
  let v813 : BitVec 32 := Scalar.addi c0_i32_448 c8_i32_449
  let c1_i32_450 : BitVec 32 := 1#32
  ⟨c0_i32_448, v813, c1_i32_450⟩

def k0_chk101 (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v774] : Fin 3 → IVec S16 32) a x).toNat < S224x2x128.size a) ∧
  (∀ a x, ((![v1272, v1286, v778] : Fin 3 → IVec S16 32) a x).toNat < S224x2x128.size a) ∧
  (∀ a x, ((![v1274, v1286, v782] : Fin 3 → IVec S16 32) a x).toNat < S224x2x128.size a) ∧
  (∀ a x, ((![v1276, v1286, v786] : Fin 3 → IVec S16 32) a x).toNat < S224x2x128.size a) ∧
  (∀ a x, ((![v1278, v1286, v790] : Fin 3 → IVec S16 32) a x).toNat < S224x2x128.size a) ∧
  (∀ a x, ((![v1280, v1286, v794] : Fin 3 → IVec S16 32) a x).toNat < S224x2x128.size a) ∧
  (∀ a x, ((![v1282, v1286, v798] : Fin 3 → IVec S16 32) a x).toNat < S224x2x128.size a)
theorem k0_idx701_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw101 : k0_chk101 i k0_t18 v774 v778 v782 v786 v790 v794 v798 v1270 v1272 v1274 v1276 v1278 v1280 v1282 v1286), ∀ a x, ((![v1270, v1286, v774] : Fin 3 → IVec S16 32) a x).toNat < S224x2x128.size a := fun i k0_t18 v774 v778 v782 v786 v790 v794 v798 v1270 v1272 v1274 v1276 v1278 v1280 v1282 v1286 k0_hw101 => k0_hw101.1
theorem k0_idx702_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw101 : k0_chk101 i k0_t18 v774 v778 v782 v786 v790 v794 v798 v1270 v1272 v1274 v1276 v1278 v1280 v1282 v1286), ∀ a x, ((![v1272, v1286, v778] : Fin 3 → IVec S16 32) a x).toNat < S224x2x128.size a := fun i k0_t18 v774 v778 v782 v786 v790 v794 v798 v1270 v1272 v1274 v1276 v1278 v1280 v1282 v1286 k0_hw101 => k0_hw101.2.1
theorem k0_idx703_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw101 : k0_chk101 i k0_t18 v774 v778 v782 v786 v790 v794 v798 v1270 v1272 v1274 v1276 v1278 v1280 v1282 v1286), ∀ a x, ((![v1274, v1286, v782] : Fin 3 → IVec S16 32) a x).toNat < S224x2x128.size a := fun i k0_t18 v774 v778 v782 v786 v790 v794 v798 v1270 v1272 v1274 v1276 v1278 v1280 v1282 v1286 k0_hw101 => k0_hw101.2.2.1
theorem k0_idx704_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw101 : k0_chk101 i k0_t18 v774 v778 v782 v786 v790 v794 v798 v1270 v1272 v1274 v1276 v1278 v1280 v1282 v1286), ∀ a x, ((![v1276, v1286, v786] : Fin 3 → IVec S16 32) a x).toNat < S224x2x128.size a := fun i k0_t18 v774 v778 v782 v786 v790 v794 v798 v1270 v1272 v1274 v1276 v1278 v1280 v1282 v1286 k0_hw101 => k0_hw101.2.2.2.1
theorem k0_idx705_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw101 : k0_chk101 i k0_t18 v774 v778 v782 v786 v790 v794 v798 v1270 v1272 v1274 v1276 v1278 v1280 v1282 v1286), ∀ a x, ((![v1278, v1286, v790] : Fin 3 → IVec S16 32) a x).toNat < S224x2x128.size a := fun i k0_t18 v774 v778 v782 v786 v790 v794 v798 v1270 v1272 v1274 v1276 v1278 v1280 v1282 v1286 k0_hw101 => k0_hw101.2.2.2.2.1
theorem k0_idx706_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw101 : k0_chk101 i k0_t18 v774 v778 v782 v786 v790 v794 v798 v1270 v1272 v1274 v1276 v1278 v1280 v1282 v1286), ∀ a x, ((![v1280, v1286, v794] : Fin 3 → IVec S16 32) a x).toNat < S224x2x128.size a := fun i k0_t18 v774 v778 v782 v786 v790 v794 v798 v1270 v1272 v1274 v1276 v1278 v1280 v1282 v1286 k0_hw101 => k0_hw101.2.2.2.2.2.1
theorem k0_idx707_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw101 : k0_chk101 i k0_t18 v774 v778 v782 v786 v790 v794 v798 v1270 v1272 v1274 v1276 v1278 v1280 v1282 v1286), ∀ a x, ((![v1282, v1286, v798] : Fin 3 → IVec S16 32) a x).toNat < S224x2x128.size a := fun i k0_t18 v774 v778 v782 v786 v790 v794 v798 v1270 v1272 v1274 v1276 v1278 v1280 v1282 v1286 k0_hw101 => k0_hw101.2.2.2.2.2.2
def k0_off117 (k0_t28 : Fin k0_t28_loop.trips) : Fin 3 → Nat :=
  let c16_i32_706 : BitVec 32 := 16#32
  let c2_i32_700 : BitVec 32 := 2#32
  let c0_i32_448 : BitVec 32 := 0#32
  let c1_i32_450 : BitVec 32 := 1#32
  let arg13 : BitVec 32 := Scf.iv c0_i32_448 c1_i32_450 k0_t28
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c16 : Index := 16#32
  ![v1303.toNat, 0, 16]

def k0_chk102 (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v774] : Fin 3 → IVec S16 32) a x).toNat < S224x2x128.size a) ∧
  (∀ a x, ((![v1272, v1309, v778] : Fin 3 → IVec S16 32) a x).toNat < S224x2x128.size a) ∧
  (∀ a x, ((![v1274, v1309, v782] : Fin 3 → IVec S16 32) a x).toNat < S224x2x128.size a) ∧
  (∀ a x, ((![v1276, v1309, v786] : Fin 3 → IVec S16 32) a x).toNat < S224x2x128.size a) ∧
  (∀ a x, ((![v1278, v1309, v790] : Fin 3 → IVec S16 32) a x).toNat < S224x2x128.size a) ∧
  (∀ a x, ((![v1280, v1309, v794] : Fin 3 → IVec S16 32) a x).toNat < S224x2x128.size a) ∧
  (∀ a x, ((![v1282, v1309, v798] : Fin 3 → IVec S16 32) a x).toNat < S224x2x128.size a)
theorem k0_idx708_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw102 : k0_chk102 i k0_t18 v774 v778 v782 v786 v790 v794 v798 v1270 v1272 v1274 v1276 v1278 v1280 v1282 v1309), ∀ a x, ((![v1270, v1309, v774] : Fin 3 → IVec S16 32) a x).toNat < S224x2x128.size a := fun i k0_t18 v774 v778 v782 v786 v790 v794 v798 v1270 v1272 v1274 v1276 v1278 v1280 v1282 v1309 k0_hw102 => k0_hw102.1
theorem k0_idx709_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw102 : k0_chk102 i k0_t18 v774 v778 v782 v786 v790 v794 v798 v1270 v1272 v1274 v1276 v1278 v1280 v1282 v1309), ∀ a x, ((![v1272, v1309, v778] : Fin 3 → IVec S16 32) a x).toNat < S224x2x128.size a := fun i k0_t18 v774 v778 v782 v786 v790 v794 v798 v1270 v1272 v1274 v1276 v1278 v1280 v1282 v1309 k0_hw102 => k0_hw102.2.1
theorem k0_idx710_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw102 : k0_chk102 i k0_t18 v774 v778 v782 v786 v790 v794 v798 v1270 v1272 v1274 v1276 v1278 v1280 v1282 v1309), ∀ a x, ((![v1274, v1309, v782] : Fin 3 → IVec S16 32) a x).toNat < S224x2x128.size a := fun i k0_t18 v774 v778 v782 v786 v790 v794 v798 v1270 v1272 v1274 v1276 v1278 v1280 v1282 v1309 k0_hw102 => k0_hw102.2.2.1
theorem k0_idx711_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw102 : k0_chk102 i k0_t18 v774 v778 v782 v786 v790 v794 v798 v1270 v1272 v1274 v1276 v1278 v1280 v1282 v1309), ∀ a x, ((![v1276, v1309, v786] : Fin 3 → IVec S16 32) a x).toNat < S224x2x128.size a := fun i k0_t18 v774 v778 v782 v786 v790 v794 v798 v1270 v1272 v1274 v1276 v1278 v1280 v1282 v1309 k0_hw102 => k0_hw102.2.2.2.1
theorem k0_idx712_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw102 : k0_chk102 i k0_t18 v774 v778 v782 v786 v790 v794 v798 v1270 v1272 v1274 v1276 v1278 v1280 v1282 v1309), ∀ a x, ((![v1278, v1309, v790] : Fin 3 → IVec S16 32) a x).toNat < S224x2x128.size a := fun i k0_t18 v774 v778 v782 v786 v790 v794 v798 v1270 v1272 v1274 v1276 v1278 v1280 v1282 v1309 k0_hw102 => k0_hw102.2.2.2.2.1
theorem k0_idx713_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw102 : k0_chk102 i k0_t18 v774 v778 v782 v786 v790 v794 v798 v1270 v1272 v1274 v1276 v1278 v1280 v1282 v1309), ∀ a x, ((![v1280, v1309, v794] : Fin 3 → IVec S16 32) a x).toNat < S224x2x128.size a := fun i k0_t18 v774 v778 v782 v786 v790 v794 v798 v1270 v1272 v1274 v1276 v1278 v1280 v1282 v1309 k0_hw102 => k0_hw102.2.2.2.2.2.1
theorem k0_idx714_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw102 : k0_chk102 i k0_t18 v774 v778 v782 v786 v790 v794 v798 v1270 v1272 v1274 v1276 v1278 v1280 v1282 v1309), ∀ a x, ((![v1282, v1309, v798] : Fin 3 → IVec S16 32) a x).toNat < S224x2x128.size a := fun i k0_t18 v774 v778 v782 v786 v790 v794 v798 v1270 v1272 v1274 v1276 v1278 v1280 v1282 v1309 k0_hw102 => k0_hw102.2.2.2.2.2.2
def k0_off118 (k0_t28 : Fin k0_t28_loop.trips) : Fin 3 → Nat :=
  let c16_i32_711 : BitVec 32 := 16#32
  let c2_i32_700 : BitVec 32 := 2#32
  let c0_i32_448 : BitVec 32 := 0#32
  let c1_i32_450 : BitVec 32 := 1#32
  let arg13 : BitVec 32 := Scf.iv c0_i32_448 c1_i32_450 k0_t28
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c16_713 : Index := 16#32
  ![v1326.toNat, 1, 16]

def k0_chk103 (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v774] : Fin 3 → IVec S16 32) a x).toNat < S224x2x128.size a) ∧
  (∀ a x, ((![v1336, v1350, v778] : Fin 3 → IVec S16 32) a x).toNat < S224x2x128.size a) ∧
  (∀ a x, ((![v1338, v1350, v782] : Fin 3 → IVec S16 32) a x).toNat < S224x2x128.size a) ∧
  (∀ a x, ((![v1340, v1350, v786] : Fin 3 → IVec S16 32) a x).toNat < S224x2x128.size a) ∧
  (∀ a x, ((![v1342, v1350, v790] : Fin 3 → IVec S16 32) a x).toNat < S224x2x128.size a) ∧
  (∀ a x, ((![v1344, v1350, v794] : Fin 3 → IVec S16 32) a x).toNat < S224x2x128.size a) ∧
  (∀ a x, ((![v1346, v1350, v798] : Fin 3 → IVec S16 32) a x).toNat < S224x2x128.size a)
theorem k0_idx715_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw103 : k0_chk103 i k0_t18 v774 v778 v782 v786 v790 v794 v798 v1334 v1336 v1338 v1340 v1342 v1344 v1346 v1350), ∀ a x, ((![v1334, v1350, v774] : Fin 3 → IVec S16 32) a x).toNat < S224x2x128.size a := fun i k0_t18 v774 v778 v782 v786 v790 v794 v798 v1334 v1336 v1338 v1340 v1342 v1344 v1346 v1350 k0_hw103 => k0_hw103.1
theorem k0_idx716_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw103 : k0_chk103 i k0_t18 v774 v778 v782 v786 v790 v794 v798 v1334 v1336 v1338 v1340 v1342 v1344 v1346 v1350), ∀ a x, ((![v1336, v1350, v778] : Fin 3 → IVec S16 32) a x).toNat < S224x2x128.size a := fun i k0_t18 v774 v778 v782 v786 v790 v794 v798 v1334 v1336 v1338 v1340 v1342 v1344 v1346 v1350 k0_hw103 => k0_hw103.2.1
theorem k0_idx717_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw103 : k0_chk103 i k0_t18 v774 v778 v782 v786 v790 v794 v798 v1334 v1336 v1338 v1340 v1342 v1344 v1346 v1350), ∀ a x, ((![v1338, v1350, v782] : Fin 3 → IVec S16 32) a x).toNat < S224x2x128.size a := fun i k0_t18 v774 v778 v782 v786 v790 v794 v798 v1334 v1336 v1338 v1340 v1342 v1344 v1346 v1350 k0_hw103 => k0_hw103.2.2.1
theorem k0_idx718_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw103 : k0_chk103 i k0_t18 v774 v778 v782 v786 v790 v794 v798 v1334 v1336 v1338 v1340 v1342 v1344 v1346 v1350), ∀ a x, ((![v1340, v1350, v786] : Fin 3 → IVec S16 32) a x).toNat < S224x2x128.size a := fun i k0_t18 v774 v778 v782 v786 v790 v794 v798 v1334 v1336 v1338 v1340 v1342 v1344 v1346 v1350 k0_hw103 => k0_hw103.2.2.2.1
theorem k0_idx719_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw103 : k0_chk103 i k0_t18 v774 v778 v782 v786 v790 v794 v798 v1334 v1336 v1338 v1340 v1342 v1344 v1346 v1350), ∀ a x, ((![v1342, v1350, v790] : Fin 3 → IVec S16 32) a x).toNat < S224x2x128.size a := fun i k0_t18 v774 v778 v782 v786 v790 v794 v798 v1334 v1336 v1338 v1340 v1342 v1344 v1346 v1350 k0_hw103 => k0_hw103.2.2.2.2.1
theorem k0_idx720_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw103 : k0_chk103 i k0_t18 v774 v778 v782 v786 v790 v794 v798 v1334 v1336 v1338 v1340 v1342 v1344 v1346 v1350), ∀ a x, ((![v1344, v1350, v794] : Fin 3 → IVec S16 32) a x).toNat < S224x2x128.size a := fun i k0_t18 v774 v778 v782 v786 v790 v794 v798 v1334 v1336 v1338 v1340 v1342 v1344 v1346 v1350 k0_hw103 => k0_hw103.2.2.2.2.2.1
theorem k0_idx721_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw103 : k0_chk103 i k0_t18 v774 v778 v782 v786 v790 v794 v798 v1334 v1336 v1338 v1340 v1342 v1344 v1346 v1350), ∀ a x, ((![v1346, v1350, v798] : Fin 3 → IVec S16 32) a x).toNat < S224x2x128.size a := fun i k0_t18 v774 v778 v782 v786 v790 v794 v798 v1334 v1336 v1338 v1340 v1342 v1344 v1346 v1350 k0_hw103 => k0_hw103.2.2.2.2.2.2
def k0_off119 (k0_t28 : Fin k0_t28_loop.trips) : Fin 3 → Nat :=
  let c16_i32_721 : BitVec 32 := 16#32
  let c2_i32_714 : BitVec 32 := 2#32
  let c0_i32_448 : BitVec 32 := 0#32
  let c1_i32_450 : BitVec 32 := 1#32
  let arg13 : BitVec 32 := Scf.iv c0_i32_448 c1_i32_450 k0_t28
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c16_723 : Index := 16#32
  ![v1367.toNat, 0, 16]

def k0_chk104 (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v774] : Fin 3 → IVec S16 32) a x).toNat < S224x2x128.size a) ∧
  (∀ a x, ((![v1336, v1373, v778] : Fin 3 → IVec S16 32) a x).toNat < S224x2x128.size a) ∧
  (∀ a x, ((![v1338, v1373, v782] : Fin 3 → IVec S16 32) a x).toNat < S224x2x128.size a) ∧
  (∀ a x, ((![v1340, v1373, v786] : Fin 3 → IVec S16 32) a x).toNat < S224x2x128.size a) ∧
  (∀ a x, ((![v1342, v1373, v790] : Fin 3 → IVec S16 32) a x).toNat < S224x2x128.size a) ∧
  (∀ a x, ((![v1344, v1373, v794] : Fin 3 → IVec S16 32) a x).toNat < S224x2x128.size a) ∧
  (∀ a x, ((![v1346, v1373, v798] : Fin 3 → IVec S16 32) a x).toNat < S224x2x128.size a)
theorem k0_idx722_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw104 : k0_chk104 i k0_t18 v774 v778 v782 v786 v790 v794 v798 v1334 v1336 v1338 v1340 v1342 v1344 v1346 v1373), ∀ a x, ((![v1334, v1373, v774] : Fin 3 → IVec S16 32) a x).toNat < S224x2x128.size a := fun i k0_t18 v774 v778 v782 v786 v790 v794 v798 v1334 v1336 v1338 v1340 v1342 v1344 v1346 v1373 k0_hw104 => k0_hw104.1
theorem k0_idx723_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw104 : k0_chk104 i k0_t18 v774 v778 v782 v786 v790 v794 v798 v1334 v1336 v1338 v1340 v1342 v1344 v1346 v1373), ∀ a x, ((![v1336, v1373, v778] : Fin 3 → IVec S16 32) a x).toNat < S224x2x128.size a := fun i k0_t18 v774 v778 v782 v786 v790 v794 v798 v1334 v1336 v1338 v1340 v1342 v1344 v1346 v1373 k0_hw104 => k0_hw104.2.1
theorem k0_idx724_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw104 : k0_chk104 i k0_t18 v774 v778 v782 v786 v790 v794 v798 v1334 v1336 v1338 v1340 v1342 v1344 v1346 v1373), ∀ a x, ((![v1338, v1373, v782] : Fin 3 → IVec S16 32) a x).toNat < S224x2x128.size a := fun i k0_t18 v774 v778 v782 v786 v790 v794 v798 v1334 v1336 v1338 v1340 v1342 v1344 v1346 v1373 k0_hw104 => k0_hw104.2.2.1
theorem k0_idx725_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw104 : k0_chk104 i k0_t18 v774 v778 v782 v786 v790 v794 v798 v1334 v1336 v1338 v1340 v1342 v1344 v1346 v1373), ∀ a x, ((![v1340, v1373, v786] : Fin 3 → IVec S16 32) a x).toNat < S224x2x128.size a := fun i k0_t18 v774 v778 v782 v786 v790 v794 v798 v1334 v1336 v1338 v1340 v1342 v1344 v1346 v1373 k0_hw104 => k0_hw104.2.2.2.1
theorem k0_idx726_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw104 : k0_chk104 i k0_t18 v774 v778 v782 v786 v790 v794 v798 v1334 v1336 v1338 v1340 v1342 v1344 v1346 v1373), ∀ a x, ((![v1342, v1373, v790] : Fin 3 → IVec S16 32) a x).toNat < S224x2x128.size a := fun i k0_t18 v774 v778 v782 v786 v790 v794 v798 v1334 v1336 v1338 v1340 v1342 v1344 v1346 v1373 k0_hw104 => k0_hw104.2.2.2.2.1
theorem k0_idx727_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw104 : k0_chk104 i k0_t18 v774 v778 v782 v786 v790 v794 v798 v1334 v1336 v1338 v1340 v1342 v1344 v1346 v1373), ∀ a x, ((![v1344, v1373, v794] : Fin 3 → IVec S16 32) a x).toNat < S224x2x128.size a := fun i k0_t18 v774 v778 v782 v786 v790 v794 v798 v1334 v1336 v1338 v1340 v1342 v1344 v1346 v1373 k0_hw104 => k0_hw104.2.2.2.2.2.1
theorem k0_idx728_inb : ∀ (i : grid0.Coords) (k0_t18 : Fin (k0_t18_loop i).trips) (v774 : IVec S16 32) (v778 : IVec S16 32) (v782 : IVec S16 32) (v786 : IVec S16 32) (v790 : IVec S16 32) (v794 : IVec S16 32) (v798 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw104 : k0_chk104 i k0_t18 v774 v778 v782 v786 v790 v794 v798 v1334 v1336 v1338 v1340 v1342 v1344 v1346 v1373), ∀ a x, ((![v1346, v1373, v798] : Fin 3 → IVec S16 32) a x).toNat < S224x2x128.size a := fun i k0_t18 v774 v778 v782 v786 v790 v794 v798 v1334 v1336 v1338 v1340 v1342 v1344 v1346 v1373 k0_hw104 => k0_hw104.2.2.2.2.2.2
def k0_off120 (k0_t28 : Fin k0_t28_loop.trips) : Fin 3 → Nat :=
  let c16_i32_727 : BitVec 32 := 16#32
  let c2_i32_714 : BitVec 32 := 2#32
  let c0_i32_448 : BitVec 32 := 0#32
  let c1_i32_450 : BitVec 32 := 1#32
  let arg13 : BitVec 32 := Scf.iv c0_i32_448 c1_i32_450 k0_t28
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c16_729 : Index := 16#32
  ![v1390.toNat, 1, 16]
@[reducible] def k0_t29_loop : Scf.Loop 32 :=
  let c0_i32_488 : BitVec 32 := 0#32
  let c8_i32_489 : BitVec 32 := 8#32
  let v886 : BitVec 32 := Scalar.addi c0_i32_488 c8_i32_489
  let c1_i32_490 : BitVec 32 := 1#32
  ⟨c0_i32_488, v886, c1_i32_490⟩

def k0_chk105 (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v847] : Fin 3 → IVec S16 32) a x).toNat < S224x2x128.size a) ∧
  (∀ a x, ((![v1272, v1286, v851] : Fin 3 → IVec S16 32) a x).toNat < S224x2x128.size a) ∧
  (∀ a x, ((![v1274, v1286, v855] : Fin 3 → IVec S16 32) a x).toNat < S224x2x128.size a) ∧
  (∀ a x, ((![v1276, v1286, v859] : Fin 3 → IVec S16 32) a x).toNat < S224x2x128.size a) ∧
  (∀ a x, ((![v1278, v1286, v863] : Fin 3 → IVec S16 32) a x).toNat < S224x2x128.size a) ∧
  (∀ a x, ((![v1280, v1286, v867] : Fin 3 → IVec S16 32) a x).toNat < S224x2x128.size a) ∧
  (∀ a x, ((![v1282, v1286, v871] : Fin 3 → IVec S16 32) a x).toNat < S224x2x128.size a)
theorem k0_idx729_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw105 : k0_chk105 i k0_t18 v847 v851 v855 v859 v863 v867 v871 v1270 v1272 v1274 v1276 v1278 v1280 v1282 v1286), ∀ a x, ((![v1270, v1286, v847] : Fin 3 → IVec S16 32) a x).toNat < S224x2x128.size a := fun i k0_t18 v847 v851 v855 v859 v863 v867 v871 v1270 v1272 v1274 v1276 v1278 v1280 v1282 v1286 k0_hw105 => k0_hw105.1
theorem k0_idx730_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw105 : k0_chk105 i k0_t18 v847 v851 v855 v859 v863 v867 v871 v1270 v1272 v1274 v1276 v1278 v1280 v1282 v1286), ∀ a x, ((![v1272, v1286, v851] : Fin 3 → IVec S16 32) a x).toNat < S224x2x128.size a := fun i k0_t18 v847 v851 v855 v859 v863 v867 v871 v1270 v1272 v1274 v1276 v1278 v1280 v1282 v1286 k0_hw105 => k0_hw105.2.1
theorem k0_idx731_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw105 : k0_chk105 i k0_t18 v847 v851 v855 v859 v863 v867 v871 v1270 v1272 v1274 v1276 v1278 v1280 v1282 v1286), ∀ a x, ((![v1274, v1286, v855] : Fin 3 → IVec S16 32) a x).toNat < S224x2x128.size a := fun i k0_t18 v847 v851 v855 v859 v863 v867 v871 v1270 v1272 v1274 v1276 v1278 v1280 v1282 v1286 k0_hw105 => k0_hw105.2.2.1
theorem k0_idx732_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw105 : k0_chk105 i k0_t18 v847 v851 v855 v859 v863 v867 v871 v1270 v1272 v1274 v1276 v1278 v1280 v1282 v1286), ∀ a x, ((![v1276, v1286, v859] : Fin 3 → IVec S16 32) a x).toNat < S224x2x128.size a := fun i k0_t18 v847 v851 v855 v859 v863 v867 v871 v1270 v1272 v1274 v1276 v1278 v1280 v1282 v1286 k0_hw105 => k0_hw105.2.2.2.1
theorem k0_idx733_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw105 : k0_chk105 i k0_t18 v847 v851 v855 v859 v863 v867 v871 v1270 v1272 v1274 v1276 v1278 v1280 v1282 v1286), ∀ a x, ((![v1278, v1286, v863] : Fin 3 → IVec S16 32) a x).toNat < S224x2x128.size a := fun i k0_t18 v847 v851 v855 v859 v863 v867 v871 v1270 v1272 v1274 v1276 v1278 v1280 v1282 v1286 k0_hw105 => k0_hw105.2.2.2.2.1
theorem k0_idx734_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw105 : k0_chk105 i k0_t18 v847 v851 v855 v859 v863 v867 v871 v1270 v1272 v1274 v1276 v1278 v1280 v1282 v1286), ∀ a x, ((![v1280, v1286, v867] : Fin 3 → IVec S16 32) a x).toNat < S224x2x128.size a := fun i k0_t18 v847 v851 v855 v859 v863 v867 v871 v1270 v1272 v1274 v1276 v1278 v1280 v1282 v1286 k0_hw105 => k0_hw105.2.2.2.2.2.1
theorem k0_idx735_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw105 : k0_chk105 i k0_t18 v847 v851 v855 v859 v863 v867 v871 v1270 v1272 v1274 v1276 v1278 v1280 v1282 v1286), ∀ a x, ((![v1282, v1286, v871] : Fin 3 → IVec S16 32) a x).toNat < S224x2x128.size a := fun i k0_t18 v847 v851 v855 v859 v863 v867 v871 v1270 v1272 v1274 v1276 v1278 v1280 v1282 v1286 k0_hw105 => k0_hw105.2.2.2.2.2.2
def k0_off121 (k0_t29 : Fin k0_t29_loop.trips) : Fin 3 → Nat :=
  let c16_i32_706 : BitVec 32 := 16#32
  let c2_i32_700 : BitVec 32 := 2#32
  let c0_i32_488 : BitVec 32 := 0#32
  let c1_i32_490 : BitVec 32 := 1#32
  let arg13 : BitVec 32 := Scf.iv c0_i32_488 c1_i32_490 k0_t29
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c32 : Index := 32#32
  ![v1303.toNat, 0, 32]

def k0_chk106 (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v847] : Fin 3 → IVec S16 32) a x).toNat < S224x2x128.size a) ∧
  (∀ a x, ((![v1272, v1309, v851] : Fin 3 → IVec S16 32) a x).toNat < S224x2x128.size a) ∧
  (∀ a x, ((![v1274, v1309, v855] : Fin 3 → IVec S16 32) a x).toNat < S224x2x128.size a) ∧
  (∀ a x, ((![v1276, v1309, v859] : Fin 3 → IVec S16 32) a x).toNat < S224x2x128.size a) ∧
  (∀ a x, ((![v1278, v1309, v863] : Fin 3 → IVec S16 32) a x).toNat < S224x2x128.size a) ∧
  (∀ a x, ((![v1280, v1309, v867] : Fin 3 → IVec S16 32) a x).toNat < S224x2x128.size a) ∧
  (∀ a x, ((![v1282, v1309, v871] : Fin 3 → IVec S16 32) a x).toNat < S224x2x128.size a)
theorem k0_idx736_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw106 : k0_chk106 i k0_t18 v847 v851 v855 v859 v863 v867 v871 v1270 v1272 v1274 v1276 v1278 v1280 v1282 v1309), ∀ a x, ((![v1270, v1309, v847] : Fin 3 → IVec S16 32) a x).toNat < S224x2x128.size a := fun i k0_t18 v847 v851 v855 v859 v863 v867 v871 v1270 v1272 v1274 v1276 v1278 v1280 v1282 v1309 k0_hw106 => k0_hw106.1
theorem k0_idx737_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw106 : k0_chk106 i k0_t18 v847 v851 v855 v859 v863 v867 v871 v1270 v1272 v1274 v1276 v1278 v1280 v1282 v1309), ∀ a x, ((![v1272, v1309, v851] : Fin 3 → IVec S16 32) a x).toNat < S224x2x128.size a := fun i k0_t18 v847 v851 v855 v859 v863 v867 v871 v1270 v1272 v1274 v1276 v1278 v1280 v1282 v1309 k0_hw106 => k0_hw106.2.1
theorem k0_idx738_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw106 : k0_chk106 i k0_t18 v847 v851 v855 v859 v863 v867 v871 v1270 v1272 v1274 v1276 v1278 v1280 v1282 v1309), ∀ a x, ((![v1274, v1309, v855] : Fin 3 → IVec S16 32) a x).toNat < S224x2x128.size a := fun i k0_t18 v847 v851 v855 v859 v863 v867 v871 v1270 v1272 v1274 v1276 v1278 v1280 v1282 v1309 k0_hw106 => k0_hw106.2.2.1
theorem k0_idx739_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw106 : k0_chk106 i k0_t18 v847 v851 v855 v859 v863 v867 v871 v1270 v1272 v1274 v1276 v1278 v1280 v1282 v1309), ∀ a x, ((![v1276, v1309, v859] : Fin 3 → IVec S16 32) a x).toNat < S224x2x128.size a := fun i k0_t18 v847 v851 v855 v859 v863 v867 v871 v1270 v1272 v1274 v1276 v1278 v1280 v1282 v1309 k0_hw106 => k0_hw106.2.2.2.1
theorem k0_idx740_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw106 : k0_chk106 i k0_t18 v847 v851 v855 v859 v863 v867 v871 v1270 v1272 v1274 v1276 v1278 v1280 v1282 v1309), ∀ a x, ((![v1278, v1309, v863] : Fin 3 → IVec S16 32) a x).toNat < S224x2x128.size a := fun i k0_t18 v847 v851 v855 v859 v863 v867 v871 v1270 v1272 v1274 v1276 v1278 v1280 v1282 v1309 k0_hw106 => k0_hw106.2.2.2.2.1
theorem k0_idx741_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw106 : k0_chk106 i k0_t18 v847 v851 v855 v859 v863 v867 v871 v1270 v1272 v1274 v1276 v1278 v1280 v1282 v1309), ∀ a x, ((![v1280, v1309, v867] : Fin 3 → IVec S16 32) a x).toNat < S224x2x128.size a := fun i k0_t18 v847 v851 v855 v859 v863 v867 v871 v1270 v1272 v1274 v1276 v1278 v1280 v1282 v1309 k0_hw106 => k0_hw106.2.2.2.2.2.1
theorem k0_idx742_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw106 : k0_chk106 i k0_t18 v847 v851 v855 v859 v863 v867 v871 v1270 v1272 v1274 v1276 v1278 v1280 v1282 v1309), ∀ a x, ((![v1282, v1309, v871] : Fin 3 → IVec S16 32) a x).toNat < S224x2x128.size a := fun i k0_t18 v847 v851 v855 v859 v863 v867 v871 v1270 v1272 v1274 v1276 v1278 v1280 v1282 v1309 k0_hw106 => k0_hw106.2.2.2.2.2.2
def k0_off122 (k0_t29 : Fin k0_t29_loop.trips) : Fin 3 → Nat :=
  let c16_i32_711 : BitVec 32 := 16#32
  let c2_i32_700 : BitVec 32 := 2#32
  let c0_i32_488 : BitVec 32 := 0#32
  let c1_i32_490 : BitVec 32 := 1#32
  let arg13 : BitVec 32 := Scf.iv c0_i32_488 c1_i32_490 k0_t29
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c32_713 : Index := 32#32
  ![v1326.toNat, 1, 32]

def k0_chk107 (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v847] : Fin 3 → IVec S16 32) a x).toNat < S224x2x128.size a) ∧
  (∀ a x, ((![v1336, v1350, v851] : Fin 3 → IVec S16 32) a x).toNat < S224x2x128.size a) ∧
  (∀ a x, ((![v1338, v1350, v855] : Fin 3 → IVec S16 32) a x).toNat < S224x2x128.size a) ∧
  (∀ a x, ((![v1340, v1350, v859] : Fin 3 → IVec S16 32) a x).toNat < S224x2x128.size a) ∧
  (∀ a x, ((![v1342, v1350, v863] : Fin 3 → IVec S16 32) a x).toNat < S224x2x128.size a) ∧
  (∀ a x, ((![v1344, v1350, v867] : Fin 3 → IVec S16 32) a x).toNat < S224x2x128.size a) ∧
  (∀ a x, ((![v1346, v1350, v871] : Fin 3 → IVec S16 32) a x).toNat < S224x2x128.size a)
theorem k0_idx743_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw107 : k0_chk107 i k0_t18 v847 v851 v855 v859 v863 v867 v871 v1334 v1336 v1338 v1340 v1342 v1344 v1346 v1350), ∀ a x, ((![v1334, v1350, v847] : Fin 3 → IVec S16 32) a x).toNat < S224x2x128.size a := fun i k0_t18 v847 v851 v855 v859 v863 v867 v871 v1334 v1336 v1338 v1340 v1342 v1344 v1346 v1350 k0_hw107 => k0_hw107.1
theorem k0_idx744_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw107 : k0_chk107 i k0_t18 v847 v851 v855 v859 v863 v867 v871 v1334 v1336 v1338 v1340 v1342 v1344 v1346 v1350), ∀ a x, ((![v1336, v1350, v851] : Fin 3 → IVec S16 32) a x).toNat < S224x2x128.size a := fun i k0_t18 v847 v851 v855 v859 v863 v867 v871 v1334 v1336 v1338 v1340 v1342 v1344 v1346 v1350 k0_hw107 => k0_hw107.2.1
theorem k0_idx745_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw107 : k0_chk107 i k0_t18 v847 v851 v855 v859 v863 v867 v871 v1334 v1336 v1338 v1340 v1342 v1344 v1346 v1350), ∀ a x, ((![v1338, v1350, v855] : Fin 3 → IVec S16 32) a x).toNat < S224x2x128.size a := fun i k0_t18 v847 v851 v855 v859 v863 v867 v871 v1334 v1336 v1338 v1340 v1342 v1344 v1346 v1350 k0_hw107 => k0_hw107.2.2.1
theorem k0_idx746_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw107 : k0_chk107 i k0_t18 v847 v851 v855 v859 v863 v867 v871 v1334 v1336 v1338 v1340 v1342 v1344 v1346 v1350), ∀ a x, ((![v1340, v1350, v859] : Fin 3 → IVec S16 32) a x).toNat < S224x2x128.size a := fun i k0_t18 v847 v851 v855 v859 v863 v867 v871 v1334 v1336 v1338 v1340 v1342 v1344 v1346 v1350 k0_hw107 => k0_hw107.2.2.2.1
theorem k0_idx747_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw107 : k0_chk107 i k0_t18 v847 v851 v855 v859 v863 v867 v871 v1334 v1336 v1338 v1340 v1342 v1344 v1346 v1350), ∀ a x, ((![v1342, v1350, v863] : Fin 3 → IVec S16 32) a x).toNat < S224x2x128.size a := fun i k0_t18 v847 v851 v855 v859 v863 v867 v871 v1334 v1336 v1338 v1340 v1342 v1344 v1346 v1350 k0_hw107 => k0_hw107.2.2.2.2.1
theorem k0_idx748_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw107 : k0_chk107 i k0_t18 v847 v851 v855 v859 v863 v867 v871 v1334 v1336 v1338 v1340 v1342 v1344 v1346 v1350), ∀ a x, ((![v1344, v1350, v867] : Fin 3 → IVec S16 32) a x).toNat < S224x2x128.size a := fun i k0_t18 v847 v851 v855 v859 v863 v867 v871 v1334 v1336 v1338 v1340 v1342 v1344 v1346 v1350 k0_hw107 => k0_hw107.2.2.2.2.2.1
theorem k0_idx749_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw107 : k0_chk107 i k0_t18 v847 v851 v855 v859 v863 v867 v871 v1334 v1336 v1338 v1340 v1342 v1344 v1346 v1350), ∀ a x, ((![v1346, v1350, v871] : Fin 3 → IVec S16 32) a x).toNat < S224x2x128.size a := fun i k0_t18 v847 v851 v855 v859 v863 v867 v871 v1334 v1336 v1338 v1340 v1342 v1344 v1346 v1350 k0_hw107 => k0_hw107.2.2.2.2.2.2
def k0_off123 (k0_t29 : Fin k0_t29_loop.trips) : Fin 3 → Nat :=
  let c16_i32_721 : BitVec 32 := 16#32
  let c2_i32_714 : BitVec 32 := 2#32
  let c0_i32_488 : BitVec 32 := 0#32
  let c1_i32_490 : BitVec 32 := 1#32
  let arg13 : BitVec 32 := Scf.iv c0_i32_488 c1_i32_490 k0_t29
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c32_723 : Index := 32#32
  ![v1367.toNat, 0, 32]

def k0_chk108 (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v847] : Fin 3 → IVec S16 32) a x).toNat < S224x2x128.size a) ∧
  (∀ a x, ((![v1336, v1373, v851] : Fin 3 → IVec S16 32) a x).toNat < S224x2x128.size a) ∧
  (∀ a x, ((![v1338, v1373, v855] : Fin 3 → IVec S16 32) a x).toNat < S224x2x128.size a) ∧
  (∀ a x, ((![v1340, v1373, v859] : Fin 3 → IVec S16 32) a x).toNat < S224x2x128.size a) ∧
  (∀ a x, ((![v1342, v1373, v863] : Fin 3 → IVec S16 32) a x).toNat < S224x2x128.size a) ∧
  (∀ a x, ((![v1344, v1373, v867] : Fin 3 → IVec S16 32) a x).toNat < S224x2x128.size a) ∧
  (∀ a x, ((![v1346, v1373, v871] : Fin 3 → IVec S16 32) a x).toNat < S224x2x128.size a)
theorem k0_idx750_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw108 : k0_chk108 i k0_t18 v847 v851 v855 v859 v863 v867 v871 v1334 v1336 v1338 v1340 v1342 v1344 v1346 v1373), ∀ a x, ((![v1334, v1373, v847] : Fin 3 → IVec S16 32) a x).toNat < S224x2x128.size a := fun i k0_t18 v847 v851 v855 v859 v863 v867 v871 v1334 v1336 v1338 v1340 v1342 v1344 v1346 v1373 k0_hw108 => k0_hw108.1
theorem k0_idx751_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw108 : k0_chk108 i k0_t18 v847 v851 v855 v859 v863 v867 v871 v1334 v1336 v1338 v1340 v1342 v1344 v1346 v1373), ∀ a x, ((![v1336, v1373, v851] : Fin 3 → IVec S16 32) a x).toNat < S224x2x128.size a := fun i k0_t18 v847 v851 v855 v859 v863 v867 v871 v1334 v1336 v1338 v1340 v1342 v1344 v1346 v1373 k0_hw108 => k0_hw108.2.1
theorem k0_idx752_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw108 : k0_chk108 i k0_t18 v847 v851 v855 v859 v863 v867 v871 v1334 v1336 v1338 v1340 v1342 v1344 v1346 v1373), ∀ a x, ((![v1338, v1373, v855] : Fin 3 → IVec S16 32) a x).toNat < S224x2x128.size a := fun i k0_t18 v847 v851 v855 v859 v863 v867 v871 v1334 v1336 v1338 v1340 v1342 v1344 v1346 v1373 k0_hw108 => k0_hw108.2.2.1
theorem k0_idx753_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw108 : k0_chk108 i k0_t18 v847 v851 v855 v859 v863 v867 v871 v1334 v1336 v1338 v1340 v1342 v1344 v1346 v1373), ∀ a x, ((![v1340, v1373, v859] : Fin 3 → IVec S16 32) a x).toNat < S224x2x128.size a := fun i k0_t18 v847 v851 v855 v859 v863 v867 v871 v1334 v1336 v1338 v1340 v1342 v1344 v1346 v1373 k0_hw108 => k0_hw108.2.2.2.1
theorem k0_idx754_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw108 : k0_chk108 i k0_t18 v847 v851 v855 v859 v863 v867 v871 v1334 v1336 v1338 v1340 v1342 v1344 v1346 v1373), ∀ a x, ((![v1342, v1373, v863] : Fin 3 → IVec S16 32) a x).toNat < S224x2x128.size a := fun i k0_t18 v847 v851 v855 v859 v863 v867 v871 v1334 v1336 v1338 v1340 v1342 v1344 v1346 v1373 k0_hw108 => k0_hw108.2.2.2.2.1
theorem k0_idx755_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw108 : k0_chk108 i k0_t18 v847 v851 v855 v859 v863 v867 v871 v1334 v1336 v1338 v1340 v1342 v1344 v1346 v1373), ∀ a x, ((![v1344, v1373, v867] : Fin 3 → IVec S16 32) a x).toNat < S224x2x128.size a := fun i k0_t18 v847 v851 v855 v859 v863 v867 v871 v1334 v1336 v1338 v1340 v1342 v1344 v1346 v1373 k0_hw108 => k0_hw108.2.2.2.2.2.1
theorem k0_idx756_inb : ∀ (i : grid0.Coords) (k0_t18 : Fin (k0_t18_loop i).trips) (v847 : IVec S16 32) (v851 : IVec S16 32) (v855 : IVec S16 32) (v859 : IVec S16 32) (v863 : IVec S16 32) (v867 : IVec S16 32) (v871 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw108 : k0_chk108 i k0_t18 v847 v851 v855 v859 v863 v867 v871 v1334 v1336 v1338 v1340 v1342 v1344 v1346 v1373), ∀ a x, ((![v1346, v1373, v871] : Fin 3 → IVec S16 32) a x).toNat < S224x2x128.size a := fun i k0_t18 v847 v851 v855 v859 v863 v867 v871 v1334 v1336 v1338 v1340 v1342 v1344 v1346 v1373 k0_hw108 => k0_hw108.2.2.2.2.2.2
def k0_off124 (k0_t29 : Fin k0_t29_loop.trips) : Fin 3 → Nat :=
  let c16_i32_727 : BitVec 32 := 16#32
  let c2_i32_714 : BitVec 32 := 2#32
  let c0_i32_488 : BitVec 32 := 0#32
  let c1_i32_490 : BitVec 32 := 1#32
  let arg13 : BitVec 32 := Scf.iv c0_i32_488 c1_i32_490 k0_t29
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c32_729 : Index := 32#32
  ![v1390.toNat, 1, 32]
@[reducible] def k0_t30_loop : Scf.Loop 32 :=
  let c0_i32_528 : BitVec 32 := 0#32
  let c8_i32_529 : BitVec 32 := 8#32
  let v959 : BitVec 32 := Scalar.addi c0_i32_528 c8_i32_529
  let c1_i32_530 : BitVec 32 := 1#32
  ⟨c0_i32_528, v959, c1_i32_530⟩

def k0_chk109 (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v920] : Fin 3 → IVec S16 32) a x).toNat < S224x2x128.size a) ∧
  (∀ a x, ((![v1272, v1286, v924] : Fin 3 → IVec S16 32) a x).toNat < S224x2x128.size a) ∧
  (∀ a x, ((![v1274, v1286, v928] : Fin 3 → IVec S16 32) a x).toNat < S224x2x128.size a) ∧
  (∀ a x, ((![v1276, v1286, v932] : Fin 3 → IVec S16 32) a x).toNat < S224x2x128.size a) ∧
  (∀ a x, ((![v1278, v1286, v936] : Fin 3 → IVec S16 32) a x).toNat < S224x2x128.size a) ∧
  (∀ a x, ((![v1280, v1286, v940] : Fin 3 → IVec S16 32) a x).toNat < S224x2x128.size a) ∧
  (∀ a x, ((![v1282, v1286, v944] : Fin 3 → IVec S16 32) a x).toNat < S224x2x128.size a)
theorem k0_idx757_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw109 : k0_chk109 i k0_t18 v920 v924 v928 v932 v936 v940 v944 v1270 v1272 v1274 v1276 v1278 v1280 v1282 v1286), ∀ a x, ((![v1270, v1286, v920] : Fin 3 → IVec S16 32) a x).toNat < S224x2x128.size a := fun i k0_t18 v920 v924 v928 v932 v936 v940 v944 v1270 v1272 v1274 v1276 v1278 v1280 v1282 v1286 k0_hw109 => k0_hw109.1
theorem k0_idx758_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw109 : k0_chk109 i k0_t18 v920 v924 v928 v932 v936 v940 v944 v1270 v1272 v1274 v1276 v1278 v1280 v1282 v1286), ∀ a x, ((![v1272, v1286, v924] : Fin 3 → IVec S16 32) a x).toNat < S224x2x128.size a := fun i k0_t18 v920 v924 v928 v932 v936 v940 v944 v1270 v1272 v1274 v1276 v1278 v1280 v1282 v1286 k0_hw109 => k0_hw109.2.1
theorem k0_idx759_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw109 : k0_chk109 i k0_t18 v920 v924 v928 v932 v936 v940 v944 v1270 v1272 v1274 v1276 v1278 v1280 v1282 v1286), ∀ a x, ((![v1274, v1286, v928] : Fin 3 → IVec S16 32) a x).toNat < S224x2x128.size a := fun i k0_t18 v920 v924 v928 v932 v936 v940 v944 v1270 v1272 v1274 v1276 v1278 v1280 v1282 v1286 k0_hw109 => k0_hw109.2.2.1
theorem k0_idx760_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw109 : k0_chk109 i k0_t18 v920 v924 v928 v932 v936 v940 v944 v1270 v1272 v1274 v1276 v1278 v1280 v1282 v1286), ∀ a x, ((![v1276, v1286, v932] : Fin 3 → IVec S16 32) a x).toNat < S224x2x128.size a := fun i k0_t18 v920 v924 v928 v932 v936 v940 v944 v1270 v1272 v1274 v1276 v1278 v1280 v1282 v1286 k0_hw109 => k0_hw109.2.2.2.1
theorem k0_idx761_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw109 : k0_chk109 i k0_t18 v920 v924 v928 v932 v936 v940 v944 v1270 v1272 v1274 v1276 v1278 v1280 v1282 v1286), ∀ a x, ((![v1278, v1286, v936] : Fin 3 → IVec S16 32) a x).toNat < S224x2x128.size a := fun i k0_t18 v920 v924 v928 v932 v936 v940 v944 v1270 v1272 v1274 v1276 v1278 v1280 v1282 v1286 k0_hw109 => k0_hw109.2.2.2.2.1
theorem k0_idx762_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw109 : k0_chk109 i k0_t18 v920 v924 v928 v932 v936 v940 v944 v1270 v1272 v1274 v1276 v1278 v1280 v1282 v1286), ∀ a x, ((![v1280, v1286, v940] : Fin 3 → IVec S16 32) a x).toNat < S224x2x128.size a := fun i k0_t18 v920 v924 v928 v932 v936 v940 v944 v1270 v1272 v1274 v1276 v1278 v1280 v1282 v1286 k0_hw109 => k0_hw109.2.2.2.2.2.1
theorem k0_idx763_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw109 : k0_chk109 i k0_t18 v920 v924 v928 v932 v936 v940 v944 v1270 v1272 v1274 v1276 v1278 v1280 v1282 v1286), ∀ a x, ((![v1282, v1286, v944] : Fin 3 → IVec S16 32) a x).toNat < S224x2x128.size a := fun i k0_t18 v920 v924 v928 v932 v936 v940 v944 v1270 v1272 v1274 v1276 v1278 v1280 v1282 v1286 k0_hw109 => k0_hw109.2.2.2.2.2.2
def k0_off125 (k0_t30 : Fin k0_t30_loop.trips) : Fin 3 → Nat :=
  let c16_i32_706 : BitVec 32 := 16#32
  let c2_i32_700 : BitVec 32 := 2#32
  let c0_i32_528 : BitVec 32 := 0#32
  let c1_i32_530 : BitVec 32 := 1#32
  let arg13 : BitVec 32 := Scf.iv c0_i32_528 c1_i32_530 k0_t30
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c48 : Index := 48#32
  ![v1303.toNat, 0, 48]

def k0_chk110 (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v920] : Fin 3 → IVec S16 32) a x).toNat < S224x2x128.size a) ∧
  (∀ a x, ((![v1272, v1309, v924] : Fin 3 → IVec S16 32) a x).toNat < S224x2x128.size a) ∧
  (∀ a x, ((![v1274, v1309, v928] : Fin 3 → IVec S16 32) a x).toNat < S224x2x128.size a) ∧
  (∀ a x, ((![v1276, v1309, v932] : Fin 3 → IVec S16 32) a x).toNat < S224x2x128.size a) ∧
  (∀ a x, ((![v1278, v1309, v936] : Fin 3 → IVec S16 32) a x).toNat < S224x2x128.size a) ∧
  (∀ a x, ((![v1280, v1309, v940] : Fin 3 → IVec S16 32) a x).toNat < S224x2x128.size a) ∧
  (∀ a x, ((![v1282, v1309, v944] : Fin 3 → IVec S16 32) a x).toNat < S224x2x128.size a)
theorem k0_idx764_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw110 : k0_chk110 i k0_t18 v920 v924 v928 v932 v936 v940 v944 v1270 v1272 v1274 v1276 v1278 v1280 v1282 v1309), ∀ a x, ((![v1270, v1309, v920] : Fin 3 → IVec S16 32) a x).toNat < S224x2x128.size a := fun i k0_t18 v920 v924 v928 v932 v936 v940 v944 v1270 v1272 v1274 v1276 v1278 v1280 v1282 v1309 k0_hw110 => k0_hw110.1
theorem k0_idx765_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw110 : k0_chk110 i k0_t18 v920 v924 v928 v932 v936 v940 v944 v1270 v1272 v1274 v1276 v1278 v1280 v1282 v1309), ∀ a x, ((![v1272, v1309, v924] : Fin 3 → IVec S16 32) a x).toNat < S224x2x128.size a := fun i k0_t18 v920 v924 v928 v932 v936 v940 v944 v1270 v1272 v1274 v1276 v1278 v1280 v1282 v1309 k0_hw110 => k0_hw110.2.1
theorem k0_idx766_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw110 : k0_chk110 i k0_t18 v920 v924 v928 v932 v936 v940 v944 v1270 v1272 v1274 v1276 v1278 v1280 v1282 v1309), ∀ a x, ((![v1274, v1309, v928] : Fin 3 → IVec S16 32) a x).toNat < S224x2x128.size a := fun i k0_t18 v920 v924 v928 v932 v936 v940 v944 v1270 v1272 v1274 v1276 v1278 v1280 v1282 v1309 k0_hw110 => k0_hw110.2.2.1
theorem k0_idx767_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw110 : k0_chk110 i k0_t18 v920 v924 v928 v932 v936 v940 v944 v1270 v1272 v1274 v1276 v1278 v1280 v1282 v1309), ∀ a x, ((![v1276, v1309, v932] : Fin 3 → IVec S16 32) a x).toNat < S224x2x128.size a := fun i k0_t18 v920 v924 v928 v932 v936 v940 v944 v1270 v1272 v1274 v1276 v1278 v1280 v1282 v1309 k0_hw110 => k0_hw110.2.2.2.1
theorem k0_idx768_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw110 : k0_chk110 i k0_t18 v920 v924 v928 v932 v936 v940 v944 v1270 v1272 v1274 v1276 v1278 v1280 v1282 v1309), ∀ a x, ((![v1278, v1309, v936] : Fin 3 → IVec S16 32) a x).toNat < S224x2x128.size a := fun i k0_t18 v920 v924 v928 v932 v936 v940 v944 v1270 v1272 v1274 v1276 v1278 v1280 v1282 v1309 k0_hw110 => k0_hw110.2.2.2.2.1
theorem k0_idx769_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw110 : k0_chk110 i k0_t18 v920 v924 v928 v932 v936 v940 v944 v1270 v1272 v1274 v1276 v1278 v1280 v1282 v1309), ∀ a x, ((![v1280, v1309, v940] : Fin 3 → IVec S16 32) a x).toNat < S224x2x128.size a := fun i k0_t18 v920 v924 v928 v932 v936 v940 v944 v1270 v1272 v1274 v1276 v1278 v1280 v1282 v1309 k0_hw110 => k0_hw110.2.2.2.2.2.1
theorem k0_idx770_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw110 : k0_chk110 i k0_t18 v920 v924 v928 v932 v936 v940 v944 v1270 v1272 v1274 v1276 v1278 v1280 v1282 v1309), ∀ a x, ((![v1282, v1309, v944] : Fin 3 → IVec S16 32) a x).toNat < S224x2x128.size a := fun i k0_t18 v920 v924 v928 v932 v936 v940 v944 v1270 v1272 v1274 v1276 v1278 v1280 v1282 v1309 k0_hw110 => k0_hw110.2.2.2.2.2.2
def k0_off126 (k0_t30 : Fin k0_t30_loop.trips) : Fin 3 → Nat :=
  let c16_i32_711 : BitVec 32 := 16#32
  let c2_i32_700 : BitVec 32 := 2#32
  let c0_i32_528 : BitVec 32 := 0#32
  let c1_i32_530 : BitVec 32 := 1#32
  let arg13 : BitVec 32 := Scf.iv c0_i32_528 c1_i32_530 k0_t30
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c48_713 : Index := 48#32
  ![v1326.toNat, 1, 48]

def k0_chk111 (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v920] : Fin 3 → IVec S16 32) a x).toNat < S224x2x128.size a) ∧
  (∀ a x, ((![v1336, v1350, v924] : Fin 3 → IVec S16 32) a x).toNat < S224x2x128.size a) ∧
  (∀ a x, ((![v1338, v1350, v928] : Fin 3 → IVec S16 32) a x).toNat < S224x2x128.size a) ∧
  (∀ a x, ((![v1340, v1350, v932] : Fin 3 → IVec S16 32) a x).toNat < S224x2x128.size a) ∧
  (∀ a x, ((![v1342, v1350, v936] : Fin 3 → IVec S16 32) a x).toNat < S224x2x128.size a) ∧
  (∀ a x, ((![v1344, v1350, v940] : Fin 3 → IVec S16 32) a x).toNat < S224x2x128.size a) ∧
  (∀ a x, ((![v1346, v1350, v944] : Fin 3 → IVec S16 32) a x).toNat < S224x2x128.size a)
theorem k0_idx771_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw111 : k0_chk111 i k0_t18 v920 v924 v928 v932 v936 v940 v944 v1334 v1336 v1338 v1340 v1342 v1344 v1346 v1350), ∀ a x, ((![v1334, v1350, v920] : Fin 3 → IVec S16 32) a x).toNat < S224x2x128.size a := fun i k0_t18 v920 v924 v928 v932 v936 v940 v944 v1334 v1336 v1338 v1340 v1342 v1344 v1346 v1350 k0_hw111 => k0_hw111.1
theorem k0_idx772_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw111 : k0_chk111 i k0_t18 v920 v924 v928 v932 v936 v940 v944 v1334 v1336 v1338 v1340 v1342 v1344 v1346 v1350), ∀ a x, ((![v1336, v1350, v924] : Fin 3 → IVec S16 32) a x).toNat < S224x2x128.size a := fun i k0_t18 v920 v924 v928 v932 v936 v940 v944 v1334 v1336 v1338 v1340 v1342 v1344 v1346 v1350 k0_hw111 => k0_hw111.2.1
theorem k0_idx773_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw111 : k0_chk111 i k0_t18 v920 v924 v928 v932 v936 v940 v944 v1334 v1336 v1338 v1340 v1342 v1344 v1346 v1350), ∀ a x, ((![v1338, v1350, v928] : Fin 3 → IVec S16 32) a x).toNat < S224x2x128.size a := fun i k0_t18 v920 v924 v928 v932 v936 v940 v944 v1334 v1336 v1338 v1340 v1342 v1344 v1346 v1350 k0_hw111 => k0_hw111.2.2.1
theorem k0_idx774_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw111 : k0_chk111 i k0_t18 v920 v924 v928 v932 v936 v940 v944 v1334 v1336 v1338 v1340 v1342 v1344 v1346 v1350), ∀ a x, ((![v1340, v1350, v932] : Fin 3 → IVec S16 32) a x).toNat < S224x2x128.size a := fun i k0_t18 v920 v924 v928 v932 v936 v940 v944 v1334 v1336 v1338 v1340 v1342 v1344 v1346 v1350 k0_hw111 => k0_hw111.2.2.2.1
theorem k0_idx775_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw111 : k0_chk111 i k0_t18 v920 v924 v928 v932 v936 v940 v944 v1334 v1336 v1338 v1340 v1342 v1344 v1346 v1350), ∀ a x, ((![v1342, v1350, v936] : Fin 3 → IVec S16 32) a x).toNat < S224x2x128.size a := fun i k0_t18 v920 v924 v928 v932 v936 v940 v944 v1334 v1336 v1338 v1340 v1342 v1344 v1346 v1350 k0_hw111 => k0_hw111.2.2.2.2.1
theorem k0_idx776_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw111 : k0_chk111 i k0_t18 v920 v924 v928 v932 v936 v940 v944 v1334 v1336 v1338 v1340 v1342 v1344 v1346 v1350), ∀ a x, ((![v1344, v1350, v940] : Fin 3 → IVec S16 32) a x).toNat < S224x2x128.size a := fun i k0_t18 v920 v924 v928 v932 v936 v940 v944 v1334 v1336 v1338 v1340 v1342 v1344 v1346 v1350 k0_hw111 => k0_hw111.2.2.2.2.2.1
theorem k0_idx777_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw111 : k0_chk111 i k0_t18 v920 v924 v928 v932 v936 v940 v944 v1334 v1336 v1338 v1340 v1342 v1344 v1346 v1350), ∀ a x, ((![v1346, v1350, v944] : Fin 3 → IVec S16 32) a x).toNat < S224x2x128.size a := fun i k0_t18 v920 v924 v928 v932 v936 v940 v944 v1334 v1336 v1338 v1340 v1342 v1344 v1346 v1350 k0_hw111 => k0_hw111.2.2.2.2.2.2
def k0_off127 (k0_t30 : Fin k0_t30_loop.trips) : Fin 3 → Nat :=
  let c16_i32_721 : BitVec 32 := 16#32
  let c2_i32_714 : BitVec 32 := 2#32
  let c0_i32_528 : BitVec 32 := 0#32
  let c1_i32_530 : BitVec 32 := 1#32
  let arg13 : BitVec 32 := Scf.iv c0_i32_528 c1_i32_530 k0_t30
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c48_723 : Index := 48#32
  ![v1367.toNat, 0, 48]

def k0_chk112 (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v920] : Fin 3 → IVec S16 32) a x).toNat < S224x2x128.size a) ∧
  (∀ a x, ((![v1336, v1373, v924] : Fin 3 → IVec S16 32) a x).toNat < S224x2x128.size a) ∧
  (∀ a x, ((![v1338, v1373, v928] : Fin 3 → IVec S16 32) a x).toNat < S224x2x128.size a) ∧
  (∀ a x, ((![v1340, v1373, v932] : Fin 3 → IVec S16 32) a x).toNat < S224x2x128.size a) ∧
  (∀ a x, ((![v1342, v1373, v936] : Fin 3 → IVec S16 32) a x).toNat < S224x2x128.size a) ∧
  (∀ a x, ((![v1344, v1373, v940] : Fin 3 → IVec S16 32) a x).toNat < S224x2x128.size a) ∧
  (∀ a x, ((![v1346, v1373, v944] : Fin 3 → IVec S16 32) a x).toNat < S224x2x128.size a)
theorem k0_idx778_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw112 : k0_chk112 i k0_t18 v920 v924 v928 v932 v936 v940 v944 v1334 v1336 v1338 v1340 v1342 v1344 v1346 v1373), ∀ a x, ((![v1334, v1373, v920] : Fin 3 → IVec S16 32) a x).toNat < S224x2x128.size a := fun i k0_t18 v920 v924 v928 v932 v936 v940 v944 v1334 v1336 v1338 v1340 v1342 v1344 v1346 v1373 k0_hw112 => k0_hw112.1
theorem k0_idx779_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw112 : k0_chk112 i k0_t18 v920 v924 v928 v932 v936 v940 v944 v1334 v1336 v1338 v1340 v1342 v1344 v1346 v1373), ∀ a x, ((![v1336, v1373, v924] : Fin 3 → IVec S16 32) a x).toNat < S224x2x128.size a := fun i k0_t18 v920 v924 v928 v932 v936 v940 v944 v1334 v1336 v1338 v1340 v1342 v1344 v1346 v1373 k0_hw112 => k0_hw112.2.1
theorem k0_idx780_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw112 : k0_chk112 i k0_t18 v920 v924 v928 v932 v936 v940 v944 v1334 v1336 v1338 v1340 v1342 v1344 v1346 v1373), ∀ a x, ((![v1338, v1373, v928] : Fin 3 → IVec S16 32) a x).toNat < S224x2x128.size a := fun i k0_t18 v920 v924 v928 v932 v936 v940 v944 v1334 v1336 v1338 v1340 v1342 v1344 v1346 v1373 k0_hw112 => k0_hw112.2.2.1
theorem k0_idx781_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw112 : k0_chk112 i k0_t18 v920 v924 v928 v932 v936 v940 v944 v1334 v1336 v1338 v1340 v1342 v1344 v1346 v1373), ∀ a x, ((![v1340, v1373, v932] : Fin 3 → IVec S16 32) a x).toNat < S224x2x128.size a := fun i k0_t18 v920 v924 v928 v932 v936 v940 v944 v1334 v1336 v1338 v1340 v1342 v1344 v1346 v1373 k0_hw112 => k0_hw112.2.2.2.1
theorem k0_idx782_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw112 : k0_chk112 i k0_t18 v920 v924 v928 v932 v936 v940 v944 v1334 v1336 v1338 v1340 v1342 v1344 v1346 v1373), ∀ a x, ((![v1342, v1373, v936] : Fin 3 → IVec S16 32) a x).toNat < S224x2x128.size a := fun i k0_t18 v920 v924 v928 v932 v936 v940 v944 v1334 v1336 v1338 v1340 v1342 v1344 v1346 v1373 k0_hw112 => k0_hw112.2.2.2.2.1
theorem k0_idx783_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw112 : k0_chk112 i k0_t18 v920 v924 v928 v932 v936 v940 v944 v1334 v1336 v1338 v1340 v1342 v1344 v1346 v1373), ∀ a x, ((![v1344, v1373, v940] : Fin 3 → IVec S16 32) a x).toNat < S224x2x128.size a := fun i k0_t18 v920 v924 v928 v932 v936 v940 v944 v1334 v1336 v1338 v1340 v1342 v1344 v1346 v1373 k0_hw112 => k0_hw112.2.2.2.2.2.1
theorem k0_idx784_inb : ∀ (i : grid0.Coords) (k0_t18 : Fin (k0_t18_loop i).trips) (v920 : IVec S16 32) (v924 : IVec S16 32) (v928 : IVec S16 32) (v932 : IVec S16 32) (v936 : IVec S16 32) (v940 : IVec S16 32) (v944 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw112 : k0_chk112 i k0_t18 v920 v924 v928 v932 v936 v940 v944 v1334 v1336 v1338 v1340 v1342 v1344 v1346 v1373), ∀ a x, ((![v1346, v1373, v944] : Fin 3 → IVec S16 32) a x).toNat < S224x2x128.size a := fun i k0_t18 v920 v924 v928 v932 v936 v940 v944 v1334 v1336 v1338 v1340 v1342 v1344 v1346 v1373 k0_hw112 => k0_hw112.2.2.2.2.2.2
def k0_off128 (k0_t30 : Fin k0_t30_loop.trips) : Fin 3 → Nat :=
  let c16_i32_727 : BitVec 32 := 16#32
  let c2_i32_714 : BitVec 32 := 2#32
  let c0_i32_528 : BitVec 32 := 0#32
  let c1_i32_530 : BitVec 32 := 1#32
  let arg13 : BitVec 32 := Scf.iv c0_i32_528 c1_i32_530 k0_t30
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c48_729 : Index := 48#32
  ![v1390.toNat, 1, 48]
@[reducible] def k0_t31_loop : Scf.Loop 32 :=
  let c0_i32_568 : BitVec 32 := 0#32
  let c8_i32_569 : BitVec 32 := 8#32
  let v1032 : BitVec 32 := Scalar.addi c0_i32_568 c8_i32_569
  let c1_i32_570 : BitVec 32 := 1#32
  ⟨c0_i32_568, v1032, c1_i32_570⟩

def k0_chk113 (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v993] : Fin 3 → IVec S16 32) a x).toNat < S224x2x128.size a) ∧
  (∀ a x, ((![v1272, v1286, v997] : Fin 3 → IVec S16 32) a x).toNat < S224x2x128.size a) ∧
  (∀ a x, ((![v1274, v1286, v1001] : Fin 3 → IVec S16 32) a x).toNat < S224x2x128.size a) ∧
  (∀ a x, ((![v1276, v1286, v1005] : Fin 3 → IVec S16 32) a x).toNat < S224x2x128.size a) ∧
  (∀ a x, ((![v1278, v1286, v1009] : Fin 3 → IVec S16 32) a x).toNat < S224x2x128.size a) ∧
  (∀ a x, ((![v1280, v1286, v1013] : Fin 3 → IVec S16 32) a x).toNat < S224x2x128.size a) ∧
  (∀ a x, ((![v1282, v1286, v1017] : Fin 3 → IVec S16 32) a x).toNat < S224x2x128.size a)
theorem k0_idx785_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw113 : k0_chk113 i k0_t18 v993 v997 v1001 v1005 v1009 v1013 v1017 v1270 v1272 v1274 v1276 v1278 v1280 v1282 v1286), ∀ a x, ((![v1270, v1286, v993] : Fin 3 → IVec S16 32) a x).toNat < S224x2x128.size a := fun i k0_t18 v993 v997 v1001 v1005 v1009 v1013 v1017 v1270 v1272 v1274 v1276 v1278 v1280 v1282 v1286 k0_hw113 => k0_hw113.1
theorem k0_idx786_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw113 : k0_chk113 i k0_t18 v993 v997 v1001 v1005 v1009 v1013 v1017 v1270 v1272 v1274 v1276 v1278 v1280 v1282 v1286), ∀ a x, ((![v1272, v1286, v997] : Fin 3 → IVec S16 32) a x).toNat < S224x2x128.size a := fun i k0_t18 v993 v997 v1001 v1005 v1009 v1013 v1017 v1270 v1272 v1274 v1276 v1278 v1280 v1282 v1286 k0_hw113 => k0_hw113.2.1
theorem k0_idx787_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw113 : k0_chk113 i k0_t18 v993 v997 v1001 v1005 v1009 v1013 v1017 v1270 v1272 v1274 v1276 v1278 v1280 v1282 v1286), ∀ a x, ((![v1274, v1286, v1001] : Fin 3 → IVec S16 32) a x).toNat < S224x2x128.size a := fun i k0_t18 v993 v997 v1001 v1005 v1009 v1013 v1017 v1270 v1272 v1274 v1276 v1278 v1280 v1282 v1286 k0_hw113 => k0_hw113.2.2.1
theorem k0_idx788_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw113 : k0_chk113 i k0_t18 v993 v997 v1001 v1005 v1009 v1013 v1017 v1270 v1272 v1274 v1276 v1278 v1280 v1282 v1286), ∀ a x, ((![v1276, v1286, v1005] : Fin 3 → IVec S16 32) a x).toNat < S224x2x128.size a := fun i k0_t18 v993 v997 v1001 v1005 v1009 v1013 v1017 v1270 v1272 v1274 v1276 v1278 v1280 v1282 v1286 k0_hw113 => k0_hw113.2.2.2.1
theorem k0_idx789_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw113 : k0_chk113 i k0_t18 v993 v997 v1001 v1005 v1009 v1013 v1017 v1270 v1272 v1274 v1276 v1278 v1280 v1282 v1286), ∀ a x, ((![v1278, v1286, v1009] : Fin 3 → IVec S16 32) a x).toNat < S224x2x128.size a := fun i k0_t18 v993 v997 v1001 v1005 v1009 v1013 v1017 v1270 v1272 v1274 v1276 v1278 v1280 v1282 v1286 k0_hw113 => k0_hw113.2.2.2.2.1
theorem k0_idx790_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw113 : k0_chk113 i k0_t18 v993 v997 v1001 v1005 v1009 v1013 v1017 v1270 v1272 v1274 v1276 v1278 v1280 v1282 v1286), ∀ a x, ((![v1280, v1286, v1013] : Fin 3 → IVec S16 32) a x).toNat < S224x2x128.size a := fun i k0_t18 v993 v997 v1001 v1005 v1009 v1013 v1017 v1270 v1272 v1274 v1276 v1278 v1280 v1282 v1286 k0_hw113 => k0_hw113.2.2.2.2.2.1
theorem k0_idx791_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw113 : k0_chk113 i k0_t18 v993 v997 v1001 v1005 v1009 v1013 v1017 v1270 v1272 v1274 v1276 v1278 v1280 v1282 v1286), ∀ a x, ((![v1282, v1286, v1017] : Fin 3 → IVec S16 32) a x).toNat < S224x2x128.size a := fun i k0_t18 v993 v997 v1001 v1005 v1009 v1013 v1017 v1270 v1272 v1274 v1276 v1278 v1280 v1282 v1286 k0_hw113 => k0_hw113.2.2.2.2.2.2
def k0_off129 (k0_t31 : Fin k0_t31_loop.trips) : Fin 3 → Nat :=
  let c16_i32_706 : BitVec 32 := 16#32
  let c2_i32_700 : BitVec 32 := 2#32
  let c0_i32_568 : BitVec 32 := 0#32
  let c1_i32_570 : BitVec 32 := 1#32
  let arg13 : BitVec 32 := Scf.iv c0_i32_568 c1_i32_570 k0_t31
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c64 : Index := 64#32
  ![v1303.toNat, 0, 64]

def k0_chk114 (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v993] : Fin 3 → IVec S16 32) a x).toNat < S224x2x128.size a) ∧
  (∀ a x, ((![v1272, v1309, v997] : Fin 3 → IVec S16 32) a x).toNat < S224x2x128.size a) ∧
  (∀ a x, ((![v1274, v1309, v1001] : Fin 3 → IVec S16 32) a x).toNat < S224x2x128.size a) ∧
  (∀ a x, ((![v1276, v1309, v1005] : Fin 3 → IVec S16 32) a x).toNat < S224x2x128.size a) ∧
  (∀ a x, ((![v1278, v1309, v1009] : Fin 3 → IVec S16 32) a x).toNat < S224x2x128.size a) ∧
  (∀ a x, ((![v1280, v1309, v1013] : Fin 3 → IVec S16 32) a x).toNat < S224x2x128.size a) ∧
  (∀ a x, ((![v1282, v1309, v1017] : Fin 3 → IVec S16 32) a x).toNat < S224x2x128.size a)
theorem k0_idx792_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw114 : k0_chk114 i k0_t18 v993 v997 v1001 v1005 v1009 v1013 v1017 v1270 v1272 v1274 v1276 v1278 v1280 v1282 v1309), ∀ a x, ((![v1270, v1309, v993] : Fin 3 → IVec S16 32) a x).toNat < S224x2x128.size a := fun i k0_t18 v993 v997 v1001 v1005 v1009 v1013 v1017 v1270 v1272 v1274 v1276 v1278 v1280 v1282 v1309 k0_hw114 => k0_hw114.1
theorem k0_idx793_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw114 : k0_chk114 i k0_t18 v993 v997 v1001 v1005 v1009 v1013 v1017 v1270 v1272 v1274 v1276 v1278 v1280 v1282 v1309), ∀ a x, ((![v1272, v1309, v997] : Fin 3 → IVec S16 32) a x).toNat < S224x2x128.size a := fun i k0_t18 v993 v997 v1001 v1005 v1009 v1013 v1017 v1270 v1272 v1274 v1276 v1278 v1280 v1282 v1309 k0_hw114 => k0_hw114.2.1
theorem k0_idx794_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw114 : k0_chk114 i k0_t18 v993 v997 v1001 v1005 v1009 v1013 v1017 v1270 v1272 v1274 v1276 v1278 v1280 v1282 v1309), ∀ a x, ((![v1274, v1309, v1001] : Fin 3 → IVec S16 32) a x).toNat < S224x2x128.size a := fun i k0_t18 v993 v997 v1001 v1005 v1009 v1013 v1017 v1270 v1272 v1274 v1276 v1278 v1280 v1282 v1309 k0_hw114 => k0_hw114.2.2.1
theorem k0_idx795_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw114 : k0_chk114 i k0_t18 v993 v997 v1001 v1005 v1009 v1013 v1017 v1270 v1272 v1274 v1276 v1278 v1280 v1282 v1309), ∀ a x, ((![v1276, v1309, v1005] : Fin 3 → IVec S16 32) a x).toNat < S224x2x128.size a := fun i k0_t18 v993 v997 v1001 v1005 v1009 v1013 v1017 v1270 v1272 v1274 v1276 v1278 v1280 v1282 v1309 k0_hw114 => k0_hw114.2.2.2.1
theorem k0_idx796_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw114 : k0_chk114 i k0_t18 v993 v997 v1001 v1005 v1009 v1013 v1017 v1270 v1272 v1274 v1276 v1278 v1280 v1282 v1309), ∀ a x, ((![v1278, v1309, v1009] : Fin 3 → IVec S16 32) a x).toNat < S224x2x128.size a := fun i k0_t18 v993 v997 v1001 v1005 v1009 v1013 v1017 v1270 v1272 v1274 v1276 v1278 v1280 v1282 v1309 k0_hw114 => k0_hw114.2.2.2.2.1
theorem k0_idx797_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw114 : k0_chk114 i k0_t18 v993 v997 v1001 v1005 v1009 v1013 v1017 v1270 v1272 v1274 v1276 v1278 v1280 v1282 v1309), ∀ a x, ((![v1280, v1309, v1013] : Fin 3 → IVec S16 32) a x).toNat < S224x2x128.size a := fun i k0_t18 v993 v997 v1001 v1005 v1009 v1013 v1017 v1270 v1272 v1274 v1276 v1278 v1280 v1282 v1309 k0_hw114 => k0_hw114.2.2.2.2.2.1
theorem k0_idx798_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw114 : k0_chk114 i k0_t18 v993 v997 v1001 v1005 v1009 v1013 v1017 v1270 v1272 v1274 v1276 v1278 v1280 v1282 v1309), ∀ a x, ((![v1282, v1309, v1017] : Fin 3 → IVec S16 32) a x).toNat < S224x2x128.size a := fun i k0_t18 v993 v997 v1001 v1005 v1009 v1013 v1017 v1270 v1272 v1274 v1276 v1278 v1280 v1282 v1309 k0_hw114 => k0_hw114.2.2.2.2.2.2
def k0_off130 (k0_t31 : Fin k0_t31_loop.trips) : Fin 3 → Nat :=
  let c16_i32_711 : BitVec 32 := 16#32
  let c2_i32_700 : BitVec 32 := 2#32
  let c0_i32_568 : BitVec 32 := 0#32
  let c1_i32_570 : BitVec 32 := 1#32
  let arg13 : BitVec 32 := Scf.iv c0_i32_568 c1_i32_570 k0_t31
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c64_713 : Index := 64#32
  ![v1326.toNat, 1, 64]

def k0_chk115 (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v993] : Fin 3 → IVec S16 32) a x).toNat < S224x2x128.size a) ∧
  (∀ a x, ((![v1336, v1350, v997] : Fin 3 → IVec S16 32) a x).toNat < S224x2x128.size a) ∧
  (∀ a x, ((![v1338, v1350, v1001] : Fin 3 → IVec S16 32) a x).toNat < S224x2x128.size a) ∧
  (∀ a x, ((![v1340, v1350, v1005] : Fin 3 → IVec S16 32) a x).toNat < S224x2x128.size a) ∧
  (∀ a x, ((![v1342, v1350, v1009] : Fin 3 → IVec S16 32) a x).toNat < S224x2x128.size a) ∧
  (∀ a x, ((![v1344, v1350, v1013] : Fin 3 → IVec S16 32) a x).toNat < S224x2x128.size a) ∧
  (∀ a x, ((![v1346, v1350, v1017] : Fin 3 → IVec S16 32) a x).toNat < S224x2x128.size a)
theorem k0_idx799_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw115 : k0_chk115 i k0_t18 v993 v997 v1001 v1005 v1009 v1013 v1017 v1334 v1336 v1338 v1340 v1342 v1344 v1346 v1350), ∀ a x, ((![v1334, v1350, v993] : Fin 3 → IVec S16 32) a x).toNat < S224x2x128.size a := fun i k0_t18 v993 v997 v1001 v1005 v1009 v1013 v1017 v1334 v1336 v1338 v1340 v1342 v1344 v1346 v1350 k0_hw115 => k0_hw115.1
theorem k0_idx800_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw115 : k0_chk115 i k0_t18 v993 v997 v1001 v1005 v1009 v1013 v1017 v1334 v1336 v1338 v1340 v1342 v1344 v1346 v1350), ∀ a x, ((![v1336, v1350, v997] : Fin 3 → IVec S16 32) a x).toNat < S224x2x128.size a := fun i k0_t18 v993 v997 v1001 v1005 v1009 v1013 v1017 v1334 v1336 v1338 v1340 v1342 v1344 v1346 v1350 k0_hw115 => k0_hw115.2.1
theorem k0_idx801_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw115 : k0_chk115 i k0_t18 v993 v997 v1001 v1005 v1009 v1013 v1017 v1334 v1336 v1338 v1340 v1342 v1344 v1346 v1350), ∀ a x, ((![v1338, v1350, v1001] : Fin 3 → IVec S16 32) a x).toNat < S224x2x128.size a := fun i k0_t18 v993 v997 v1001 v1005 v1009 v1013 v1017 v1334 v1336 v1338 v1340 v1342 v1344 v1346 v1350 k0_hw115 => k0_hw115.2.2.1
theorem k0_idx802_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw115 : k0_chk115 i k0_t18 v993 v997 v1001 v1005 v1009 v1013 v1017 v1334 v1336 v1338 v1340 v1342 v1344 v1346 v1350), ∀ a x, ((![v1340, v1350, v1005] : Fin 3 → IVec S16 32) a x).toNat < S224x2x128.size a := fun i k0_t18 v993 v997 v1001 v1005 v1009 v1013 v1017 v1334 v1336 v1338 v1340 v1342 v1344 v1346 v1350 k0_hw115 => k0_hw115.2.2.2.1
theorem k0_idx803_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw115 : k0_chk115 i k0_t18 v993 v997 v1001 v1005 v1009 v1013 v1017 v1334 v1336 v1338 v1340 v1342 v1344 v1346 v1350), ∀ a x, ((![v1342, v1350, v1009] : Fin 3 → IVec S16 32) a x).toNat < S224x2x128.size a := fun i k0_t18 v993 v997 v1001 v1005 v1009 v1013 v1017 v1334 v1336 v1338 v1340 v1342 v1344 v1346 v1350 k0_hw115 => k0_hw115.2.2.2.2.1
theorem k0_idx804_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw115 : k0_chk115 i k0_t18 v993 v997 v1001 v1005 v1009 v1013 v1017 v1334 v1336 v1338 v1340 v1342 v1344 v1346 v1350), ∀ a x, ((![v1344, v1350, v1013] : Fin 3 → IVec S16 32) a x).toNat < S224x2x128.size a := fun i k0_t18 v993 v997 v1001 v1005 v1009 v1013 v1017 v1334 v1336 v1338 v1340 v1342 v1344 v1346 v1350 k0_hw115 => k0_hw115.2.2.2.2.2.1
theorem k0_idx805_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw115 : k0_chk115 i k0_t18 v993 v997 v1001 v1005 v1009 v1013 v1017 v1334 v1336 v1338 v1340 v1342 v1344 v1346 v1350), ∀ a x, ((![v1346, v1350, v1017] : Fin 3 → IVec S16 32) a x).toNat < S224x2x128.size a := fun i k0_t18 v993 v997 v1001 v1005 v1009 v1013 v1017 v1334 v1336 v1338 v1340 v1342 v1344 v1346 v1350 k0_hw115 => k0_hw115.2.2.2.2.2.2
def k0_off131 (k0_t31 : Fin k0_t31_loop.trips) : Fin 3 → Nat :=
  let c16_i32_721 : BitVec 32 := 16#32
  let c2_i32_714 : BitVec 32 := 2#32
  let c0_i32_568 : BitVec 32 := 0#32
  let c1_i32_570 : BitVec 32 := 1#32
  let arg13 : BitVec 32 := Scf.iv c0_i32_568 c1_i32_570 k0_t31
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c64_723 : Index := 64#32
  ![v1367.toNat, 0, 64]

def k0_chk116 (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v993] : Fin 3 → IVec S16 32) a x).toNat < S224x2x128.size a) ∧
  (∀ a x, ((![v1336, v1373, v997] : Fin 3 → IVec S16 32) a x).toNat < S224x2x128.size a) ∧
  (∀ a x, ((![v1338, v1373, v1001] : Fin 3 → IVec S16 32) a x).toNat < S224x2x128.size a) ∧
  (∀ a x, ((![v1340, v1373, v1005] : Fin 3 → IVec S16 32) a x).toNat < S224x2x128.size a) ∧
  (∀ a x, ((![v1342, v1373, v1009] : Fin 3 → IVec S16 32) a x).toNat < S224x2x128.size a) ∧
  (∀ a x, ((![v1344, v1373, v1013] : Fin 3 → IVec S16 32) a x).toNat < S224x2x128.size a) ∧
  (∀ a x, ((![v1346, v1373, v1017] : Fin 3 → IVec S16 32) a x).toNat < S224x2x128.size a)
theorem k0_idx806_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw116 : k0_chk116 i k0_t18 v993 v997 v1001 v1005 v1009 v1013 v1017 v1334 v1336 v1338 v1340 v1342 v1344 v1346 v1373), ∀ a x, ((![v1334, v1373, v993] : Fin 3 → IVec S16 32) a x).toNat < S224x2x128.size a := fun i k0_t18 v993 v997 v1001 v1005 v1009 v1013 v1017 v1334 v1336 v1338 v1340 v1342 v1344 v1346 v1373 k0_hw116 => k0_hw116.1
theorem k0_idx807_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw116 : k0_chk116 i k0_t18 v993 v997 v1001 v1005 v1009 v1013 v1017 v1334 v1336 v1338 v1340 v1342 v1344 v1346 v1373), ∀ a x, ((![v1336, v1373, v997] : Fin 3 → IVec S16 32) a x).toNat < S224x2x128.size a := fun i k0_t18 v993 v997 v1001 v1005 v1009 v1013 v1017 v1334 v1336 v1338 v1340 v1342 v1344 v1346 v1373 k0_hw116 => k0_hw116.2.1
theorem k0_idx808_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw116 : k0_chk116 i k0_t18 v993 v997 v1001 v1005 v1009 v1013 v1017 v1334 v1336 v1338 v1340 v1342 v1344 v1346 v1373), ∀ a x, ((![v1338, v1373, v1001] : Fin 3 → IVec S16 32) a x).toNat < S224x2x128.size a := fun i k0_t18 v993 v997 v1001 v1005 v1009 v1013 v1017 v1334 v1336 v1338 v1340 v1342 v1344 v1346 v1373 k0_hw116 => k0_hw116.2.2.1
theorem k0_idx809_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw116 : k0_chk116 i k0_t18 v993 v997 v1001 v1005 v1009 v1013 v1017 v1334 v1336 v1338 v1340 v1342 v1344 v1346 v1373), ∀ a x, ((![v1340, v1373, v1005] : Fin 3 → IVec S16 32) a x).toNat < S224x2x128.size a := fun i k0_t18 v993 v997 v1001 v1005 v1009 v1013 v1017 v1334 v1336 v1338 v1340 v1342 v1344 v1346 v1373 k0_hw116 => k0_hw116.2.2.2.1
theorem k0_idx810_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw116 : k0_chk116 i k0_t18 v993 v997 v1001 v1005 v1009 v1013 v1017 v1334 v1336 v1338 v1340 v1342 v1344 v1346 v1373), ∀ a x, ((![v1342, v1373, v1009] : Fin 3 → IVec S16 32) a x).toNat < S224x2x128.size a := fun i k0_t18 v993 v997 v1001 v1005 v1009 v1013 v1017 v1334 v1336 v1338 v1340 v1342 v1344 v1346 v1373 k0_hw116 => k0_hw116.2.2.2.2.1
theorem k0_idx811_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw116 : k0_chk116 i k0_t18 v993 v997 v1001 v1005 v1009 v1013 v1017 v1334 v1336 v1338 v1340 v1342 v1344 v1346 v1373), ∀ a x, ((![v1344, v1373, v1013] : Fin 3 → IVec S16 32) a x).toNat < S224x2x128.size a := fun i k0_t18 v993 v997 v1001 v1005 v1009 v1013 v1017 v1334 v1336 v1338 v1340 v1342 v1344 v1346 v1373 k0_hw116 => k0_hw116.2.2.2.2.2.1
theorem k0_idx812_inb : ∀ (i : grid0.Coords) (k0_t18 : Fin (k0_t18_loop i).trips) (v993 : IVec S16 32) (v997 : IVec S16 32) (v1001 : IVec S16 32) (v1005 : IVec S16 32) (v1009 : IVec S16 32) (v1013 : IVec S16 32) (v1017 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw116 : k0_chk116 i k0_t18 v993 v997 v1001 v1005 v1009 v1013 v1017 v1334 v1336 v1338 v1340 v1342 v1344 v1346 v1373), ∀ a x, ((![v1346, v1373, v1017] : Fin 3 → IVec S16 32) a x).toNat < S224x2x128.size a := fun i k0_t18 v993 v997 v1001 v1005 v1009 v1013 v1017 v1334 v1336 v1338 v1340 v1342 v1344 v1346 v1373 k0_hw116 => k0_hw116.2.2.2.2.2.2
def k0_off132 (k0_t31 : Fin k0_t31_loop.trips) : Fin 3 → Nat :=
  let c16_i32_727 : BitVec 32 := 16#32
  let c2_i32_714 : BitVec 32 := 2#32
  let c0_i32_568 : BitVec 32 := 0#32
  let c1_i32_570 : BitVec 32 := 1#32
  let arg13 : BitVec 32 := Scf.iv c0_i32_568 c1_i32_570 k0_t31
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c64_729 : Index := 64#32
  ![v1390.toNat, 1, 64]
@[reducible] def k0_t32_loop : Scf.Loop 32 :=
  let c0_i32_608 : BitVec 32 := 0#32
  let c8_i32_609 : BitVec 32 := 8#32
  let v1105 : BitVec 32 := Scalar.addi c0_i32_608 c8_i32_609
  let c1_i32_610 : BitVec 32 := 1#32
  ⟨c0_i32_608, v1105, c1_i32_610⟩

def k0_chk117 (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v1066] : Fin 3 → IVec S16 32) a x).toNat < S224x2x128.size a) ∧
  (∀ a x, ((![v1272, v1286, v1070] : Fin 3 → IVec S16 32) a x).toNat < S224x2x128.size a) ∧
  (∀ a x, ((![v1274, v1286, v1074] : Fin 3 → IVec S16 32) a x).toNat < S224x2x128.size a) ∧
  (∀ a x, ((![v1276, v1286, v1078] : Fin 3 → IVec S16 32) a x).toNat < S224x2x128.size a) ∧
  (∀ a x, ((![v1278, v1286, v1082] : Fin 3 → IVec S16 32) a x).toNat < S224x2x128.size a) ∧
  (∀ a x, ((![v1280, v1286, v1086] : Fin 3 → IVec S16 32) a x).toNat < S224x2x128.size a) ∧
  (∀ a x, ((![v1282, v1286, v1090] : Fin 3 → IVec S16 32) a x).toNat < S224x2x128.size a)
theorem k0_idx813_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw117 : k0_chk117 i k0_t18 v1066 v1070 v1074 v1078 v1082 v1086 v1090 v1270 v1272 v1274 v1276 v1278 v1280 v1282 v1286), ∀ a x, ((![v1270, v1286, v1066] : Fin 3 → IVec S16 32) a x).toNat < S224x2x128.size a := fun i k0_t18 v1066 v1070 v1074 v1078 v1082 v1086 v1090 v1270 v1272 v1274 v1276 v1278 v1280 v1282 v1286 k0_hw117 => k0_hw117.1
theorem k0_idx814_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw117 : k0_chk117 i k0_t18 v1066 v1070 v1074 v1078 v1082 v1086 v1090 v1270 v1272 v1274 v1276 v1278 v1280 v1282 v1286), ∀ a x, ((![v1272, v1286, v1070] : Fin 3 → IVec S16 32) a x).toNat < S224x2x128.size a := fun i k0_t18 v1066 v1070 v1074 v1078 v1082 v1086 v1090 v1270 v1272 v1274 v1276 v1278 v1280 v1282 v1286 k0_hw117 => k0_hw117.2.1
theorem k0_idx815_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw117 : k0_chk117 i k0_t18 v1066 v1070 v1074 v1078 v1082 v1086 v1090 v1270 v1272 v1274 v1276 v1278 v1280 v1282 v1286), ∀ a x, ((![v1274, v1286, v1074] : Fin 3 → IVec S16 32) a x).toNat < S224x2x128.size a := fun i k0_t18 v1066 v1070 v1074 v1078 v1082 v1086 v1090 v1270 v1272 v1274 v1276 v1278 v1280 v1282 v1286 k0_hw117 => k0_hw117.2.2.1
theorem k0_idx816_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw117 : k0_chk117 i k0_t18 v1066 v1070 v1074 v1078 v1082 v1086 v1090 v1270 v1272 v1274 v1276 v1278 v1280 v1282 v1286), ∀ a x, ((![v1276, v1286, v1078] : Fin 3 → IVec S16 32) a x).toNat < S224x2x128.size a := fun i k0_t18 v1066 v1070 v1074 v1078 v1082 v1086 v1090 v1270 v1272 v1274 v1276 v1278 v1280 v1282 v1286 k0_hw117 => k0_hw117.2.2.2.1
theorem k0_idx817_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw117 : k0_chk117 i k0_t18 v1066 v1070 v1074 v1078 v1082 v1086 v1090 v1270 v1272 v1274 v1276 v1278 v1280 v1282 v1286), ∀ a x, ((![v1278, v1286, v1082] : Fin 3 → IVec S16 32) a x).toNat < S224x2x128.size a := fun i k0_t18 v1066 v1070 v1074 v1078 v1082 v1086 v1090 v1270 v1272 v1274 v1276 v1278 v1280 v1282 v1286 k0_hw117 => k0_hw117.2.2.2.2.1
theorem k0_idx818_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw117 : k0_chk117 i k0_t18 v1066 v1070 v1074 v1078 v1082 v1086 v1090 v1270 v1272 v1274 v1276 v1278 v1280 v1282 v1286), ∀ a x, ((![v1280, v1286, v1086] : Fin 3 → IVec S16 32) a x).toNat < S224x2x128.size a := fun i k0_t18 v1066 v1070 v1074 v1078 v1082 v1086 v1090 v1270 v1272 v1274 v1276 v1278 v1280 v1282 v1286 k0_hw117 => k0_hw117.2.2.2.2.2.1
theorem k0_idx819_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw117 : k0_chk117 i k0_t18 v1066 v1070 v1074 v1078 v1082 v1086 v1090 v1270 v1272 v1274 v1276 v1278 v1280 v1282 v1286), ∀ a x, ((![v1282, v1286, v1090] : Fin 3 → IVec S16 32) a x).toNat < S224x2x128.size a := fun i k0_t18 v1066 v1070 v1074 v1078 v1082 v1086 v1090 v1270 v1272 v1274 v1276 v1278 v1280 v1282 v1286 k0_hw117 => k0_hw117.2.2.2.2.2.2
def k0_off133 (k0_t32 : Fin k0_t32_loop.trips) : Fin 3 → Nat :=
  let c16_i32_706 : BitVec 32 := 16#32
  let c2_i32_700 : BitVec 32 := 2#32
  let c0_i32_608 : BitVec 32 := 0#32
  let c1_i32_610 : BitVec 32 := 1#32
  let arg13 : BitVec 32 := Scf.iv c0_i32_608 c1_i32_610 k0_t32
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c80 : Index := 80#32
  ![v1303.toNat, 0, 80]

def k0_chk118 (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v1066] : Fin 3 → IVec S16 32) a x).toNat < S224x2x128.size a) ∧
  (∀ a x, ((![v1272, v1309, v1070] : Fin 3 → IVec S16 32) a x).toNat < S224x2x128.size a) ∧
  (∀ a x, ((![v1274, v1309, v1074] : Fin 3 → IVec S16 32) a x).toNat < S224x2x128.size a) ∧
  (∀ a x, ((![v1276, v1309, v1078] : Fin 3 → IVec S16 32) a x).toNat < S224x2x128.size a) ∧
  (∀ a x, ((![v1278, v1309, v1082] : Fin 3 → IVec S16 32) a x).toNat < S224x2x128.size a) ∧
  (∀ a x, ((![v1280, v1309, v1086] : Fin 3 → IVec S16 32) a x).toNat < S224x2x128.size a) ∧
  (∀ a x, ((![v1282, v1309, v1090] : Fin 3 → IVec S16 32) a x).toNat < S224x2x128.size a)
theorem k0_idx820_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw118 : k0_chk118 i k0_t18 v1066 v1070 v1074 v1078 v1082 v1086 v1090 v1270 v1272 v1274 v1276 v1278 v1280 v1282 v1309), ∀ a x, ((![v1270, v1309, v1066] : Fin 3 → IVec S16 32) a x).toNat < S224x2x128.size a := fun i k0_t18 v1066 v1070 v1074 v1078 v1082 v1086 v1090 v1270 v1272 v1274 v1276 v1278 v1280 v1282 v1309 k0_hw118 => k0_hw118.1
theorem k0_idx821_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw118 : k0_chk118 i k0_t18 v1066 v1070 v1074 v1078 v1082 v1086 v1090 v1270 v1272 v1274 v1276 v1278 v1280 v1282 v1309), ∀ a x, ((![v1272, v1309, v1070] : Fin 3 → IVec S16 32) a x).toNat < S224x2x128.size a := fun i k0_t18 v1066 v1070 v1074 v1078 v1082 v1086 v1090 v1270 v1272 v1274 v1276 v1278 v1280 v1282 v1309 k0_hw118 => k0_hw118.2.1
theorem k0_idx822_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw118 : k0_chk118 i k0_t18 v1066 v1070 v1074 v1078 v1082 v1086 v1090 v1270 v1272 v1274 v1276 v1278 v1280 v1282 v1309), ∀ a x, ((![v1274, v1309, v1074] : Fin 3 → IVec S16 32) a x).toNat < S224x2x128.size a := fun i k0_t18 v1066 v1070 v1074 v1078 v1082 v1086 v1090 v1270 v1272 v1274 v1276 v1278 v1280 v1282 v1309 k0_hw118 => k0_hw118.2.2.1
theorem k0_idx823_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw118 : k0_chk118 i k0_t18 v1066 v1070 v1074 v1078 v1082 v1086 v1090 v1270 v1272 v1274 v1276 v1278 v1280 v1282 v1309), ∀ a x, ((![v1276, v1309, v1078] : Fin 3 → IVec S16 32) a x).toNat < S224x2x128.size a := fun i k0_t18 v1066 v1070 v1074 v1078 v1082 v1086 v1090 v1270 v1272 v1274 v1276 v1278 v1280 v1282 v1309 k0_hw118 => k0_hw118.2.2.2.1
theorem k0_idx824_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw118 : k0_chk118 i k0_t18 v1066 v1070 v1074 v1078 v1082 v1086 v1090 v1270 v1272 v1274 v1276 v1278 v1280 v1282 v1309), ∀ a x, ((![v1278, v1309, v1082] : Fin 3 → IVec S16 32) a x).toNat < S224x2x128.size a := fun i k0_t18 v1066 v1070 v1074 v1078 v1082 v1086 v1090 v1270 v1272 v1274 v1276 v1278 v1280 v1282 v1309 k0_hw118 => k0_hw118.2.2.2.2.1
theorem k0_idx825_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw118 : k0_chk118 i k0_t18 v1066 v1070 v1074 v1078 v1082 v1086 v1090 v1270 v1272 v1274 v1276 v1278 v1280 v1282 v1309), ∀ a x, ((![v1280, v1309, v1086] : Fin 3 → IVec S16 32) a x).toNat < S224x2x128.size a := fun i k0_t18 v1066 v1070 v1074 v1078 v1082 v1086 v1090 v1270 v1272 v1274 v1276 v1278 v1280 v1282 v1309 k0_hw118 => k0_hw118.2.2.2.2.2.1
theorem k0_idx826_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw118 : k0_chk118 i k0_t18 v1066 v1070 v1074 v1078 v1082 v1086 v1090 v1270 v1272 v1274 v1276 v1278 v1280 v1282 v1309), ∀ a x, ((![v1282, v1309, v1090] : Fin 3 → IVec S16 32) a x).toNat < S224x2x128.size a := fun i k0_t18 v1066 v1070 v1074 v1078 v1082 v1086 v1090 v1270 v1272 v1274 v1276 v1278 v1280 v1282 v1309 k0_hw118 => k0_hw118.2.2.2.2.2.2
def k0_off134 (k0_t32 : Fin k0_t32_loop.trips) : Fin 3 → Nat :=
  let c16_i32_711 : BitVec 32 := 16#32
  let c2_i32_700 : BitVec 32 := 2#32
  let c0_i32_608 : BitVec 32 := 0#32
  let c1_i32_610 : BitVec 32 := 1#32
  let arg13 : BitVec 32 := Scf.iv c0_i32_608 c1_i32_610 k0_t32
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c80_713 : Index := 80#32
  ![v1326.toNat, 1, 80]

def k0_chk119 (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v1066] : Fin 3 → IVec S16 32) a x).toNat < S224x2x128.size a) ∧
  (∀ a x, ((![v1336, v1350, v1070] : Fin 3 → IVec S16 32) a x).toNat < S224x2x128.size a) ∧
  (∀ a x, ((![v1338, v1350, v1074] : Fin 3 → IVec S16 32) a x).toNat < S224x2x128.size a) ∧
  (∀ a x, ((![v1340, v1350, v1078] : Fin 3 → IVec S16 32) a x).toNat < S224x2x128.size a) ∧
  (∀ a x, ((![v1342, v1350, v1082] : Fin 3 → IVec S16 32) a x).toNat < S224x2x128.size a) ∧
  (∀ a x, ((![v1344, v1350, v1086] : Fin 3 → IVec S16 32) a x).toNat < S224x2x128.size a) ∧
  (∀ a x, ((![v1346, v1350, v1090] : Fin 3 → IVec S16 32) a x).toNat < S224x2x128.size a)
theorem k0_idx827_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw119 : k0_chk119 i k0_t18 v1066 v1070 v1074 v1078 v1082 v1086 v1090 v1334 v1336 v1338 v1340 v1342 v1344 v1346 v1350), ∀ a x, ((![v1334, v1350, v1066] : Fin 3 → IVec S16 32) a x).toNat < S224x2x128.size a := fun i k0_t18 v1066 v1070 v1074 v1078 v1082 v1086 v1090 v1334 v1336 v1338 v1340 v1342 v1344 v1346 v1350 k0_hw119 => k0_hw119.1
theorem k0_idx828_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw119 : k0_chk119 i k0_t18 v1066 v1070 v1074 v1078 v1082 v1086 v1090 v1334 v1336 v1338 v1340 v1342 v1344 v1346 v1350), ∀ a x, ((![v1336, v1350, v1070] : Fin 3 → IVec S16 32) a x).toNat < S224x2x128.size a := fun i k0_t18 v1066 v1070 v1074 v1078 v1082 v1086 v1090 v1334 v1336 v1338 v1340 v1342 v1344 v1346 v1350 k0_hw119 => k0_hw119.2.1
theorem k0_idx829_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw119 : k0_chk119 i k0_t18 v1066 v1070 v1074 v1078 v1082 v1086 v1090 v1334 v1336 v1338 v1340 v1342 v1344 v1346 v1350), ∀ a x, ((![v1338, v1350, v1074] : Fin 3 → IVec S16 32) a x).toNat < S224x2x128.size a := fun i k0_t18 v1066 v1070 v1074 v1078 v1082 v1086 v1090 v1334 v1336 v1338 v1340 v1342 v1344 v1346 v1350 k0_hw119 => k0_hw119.2.2.1
theorem k0_idx830_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw119 : k0_chk119 i k0_t18 v1066 v1070 v1074 v1078 v1082 v1086 v1090 v1334 v1336 v1338 v1340 v1342 v1344 v1346 v1350), ∀ a x, ((![v1340, v1350, v1078] : Fin 3 → IVec S16 32) a x).toNat < S224x2x128.size a := fun i k0_t18 v1066 v1070 v1074 v1078 v1082 v1086 v1090 v1334 v1336 v1338 v1340 v1342 v1344 v1346 v1350 k0_hw119 => k0_hw119.2.2.2.1
theorem k0_idx831_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw119 : k0_chk119 i k0_t18 v1066 v1070 v1074 v1078 v1082 v1086 v1090 v1334 v1336 v1338 v1340 v1342 v1344 v1346 v1350), ∀ a x, ((![v1342, v1350, v1082] : Fin 3 → IVec S16 32) a x).toNat < S224x2x128.size a := fun i k0_t18 v1066 v1070 v1074 v1078 v1082 v1086 v1090 v1334 v1336 v1338 v1340 v1342 v1344 v1346 v1350 k0_hw119 => k0_hw119.2.2.2.2.1
theorem k0_idx832_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw119 : k0_chk119 i k0_t18 v1066 v1070 v1074 v1078 v1082 v1086 v1090 v1334 v1336 v1338 v1340 v1342 v1344 v1346 v1350), ∀ a x, ((![v1344, v1350, v1086] : Fin 3 → IVec S16 32) a x).toNat < S224x2x128.size a := fun i k0_t18 v1066 v1070 v1074 v1078 v1082 v1086 v1090 v1334 v1336 v1338 v1340 v1342 v1344 v1346 v1350 k0_hw119 => k0_hw119.2.2.2.2.2.1
theorem k0_idx833_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw119 : k0_chk119 i k0_t18 v1066 v1070 v1074 v1078 v1082 v1086 v1090 v1334 v1336 v1338 v1340 v1342 v1344 v1346 v1350), ∀ a x, ((![v1346, v1350, v1090] : Fin 3 → IVec S16 32) a x).toNat < S224x2x128.size a := fun i k0_t18 v1066 v1070 v1074 v1078 v1082 v1086 v1090 v1334 v1336 v1338 v1340 v1342 v1344 v1346 v1350 k0_hw119 => k0_hw119.2.2.2.2.2.2
def k0_off135 (k0_t32 : Fin k0_t32_loop.trips) : Fin 3 → Nat :=
  let c16_i32_721 : BitVec 32 := 16#32
  let c2_i32_714 : BitVec 32 := 2#32
  let c0_i32_608 : BitVec 32 := 0#32
  let c1_i32_610 : BitVec 32 := 1#32
  let arg13 : BitVec 32 := Scf.iv c0_i32_608 c1_i32_610 k0_t32
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c80_723 : Index := 80#32
  ![v1367.toNat, 0, 80]

def k0_chk120 (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v1066] : Fin 3 → IVec S16 32) a x).toNat < S224x2x128.size a) ∧
  (∀ a x, ((![v1336, v1373, v1070] : Fin 3 → IVec S16 32) a x).toNat < S224x2x128.size a) ∧
  (∀ a x, ((![v1338, v1373, v1074] : Fin 3 → IVec S16 32) a x).toNat < S224x2x128.size a) ∧
  (∀ a x, ((![v1340, v1373, v1078] : Fin 3 → IVec S16 32) a x).toNat < S224x2x128.size a) ∧
  (∀ a x, ((![v1342, v1373, v1082] : Fin 3 → IVec S16 32) a x).toNat < S224x2x128.size a) ∧
  (∀ a x, ((![v1344, v1373, v1086] : Fin 3 → IVec S16 32) a x).toNat < S224x2x128.size a) ∧
  (∀ a x, ((![v1346, v1373, v1090] : Fin 3 → IVec S16 32) a x).toNat < S224x2x128.size a)
theorem k0_idx834_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw120 : k0_chk120 i k0_t18 v1066 v1070 v1074 v1078 v1082 v1086 v1090 v1334 v1336 v1338 v1340 v1342 v1344 v1346 v1373), ∀ a x, ((![v1334, v1373, v1066] : Fin 3 → IVec S16 32) a x).toNat < S224x2x128.size a := fun i k0_t18 v1066 v1070 v1074 v1078 v1082 v1086 v1090 v1334 v1336 v1338 v1340 v1342 v1344 v1346 v1373 k0_hw120 => k0_hw120.1
theorem k0_idx835_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw120 : k0_chk120 i k0_t18 v1066 v1070 v1074 v1078 v1082 v1086 v1090 v1334 v1336 v1338 v1340 v1342 v1344 v1346 v1373), ∀ a x, ((![v1336, v1373, v1070] : Fin 3 → IVec S16 32) a x).toNat < S224x2x128.size a := fun i k0_t18 v1066 v1070 v1074 v1078 v1082 v1086 v1090 v1334 v1336 v1338 v1340 v1342 v1344 v1346 v1373 k0_hw120 => k0_hw120.2.1
theorem k0_idx836_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw120 : k0_chk120 i k0_t18 v1066 v1070 v1074 v1078 v1082 v1086 v1090 v1334 v1336 v1338 v1340 v1342 v1344 v1346 v1373), ∀ a x, ((![v1338, v1373, v1074] : Fin 3 → IVec S16 32) a x).toNat < S224x2x128.size a := fun i k0_t18 v1066 v1070 v1074 v1078 v1082 v1086 v1090 v1334 v1336 v1338 v1340 v1342 v1344 v1346 v1373 k0_hw120 => k0_hw120.2.2.1
theorem k0_idx837_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw120 : k0_chk120 i k0_t18 v1066 v1070 v1074 v1078 v1082 v1086 v1090 v1334 v1336 v1338 v1340 v1342 v1344 v1346 v1373), ∀ a x, ((![v1340, v1373, v1078] : Fin 3 → IVec S16 32) a x).toNat < S224x2x128.size a := fun i k0_t18 v1066 v1070 v1074 v1078 v1082 v1086 v1090 v1334 v1336 v1338 v1340 v1342 v1344 v1346 v1373 k0_hw120 => k0_hw120.2.2.2.1
theorem k0_idx838_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw120 : k0_chk120 i k0_t18 v1066 v1070 v1074 v1078 v1082 v1086 v1090 v1334 v1336 v1338 v1340 v1342 v1344 v1346 v1373), ∀ a x, ((![v1342, v1373, v1082] : Fin 3 → IVec S16 32) a x).toNat < S224x2x128.size a := fun i k0_t18 v1066 v1070 v1074 v1078 v1082 v1086 v1090 v1334 v1336 v1338 v1340 v1342 v1344 v1346 v1373 k0_hw120 => k0_hw120.2.2.2.2.1
theorem k0_idx839_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw120 : k0_chk120 i k0_t18 v1066 v1070 v1074 v1078 v1082 v1086 v1090 v1334 v1336 v1338 v1340 v1342 v1344 v1346 v1373), ∀ a x, ((![v1344, v1373, v1086] : Fin 3 → IVec S16 32) a x).toNat < S224x2x128.size a := fun i k0_t18 v1066 v1070 v1074 v1078 v1082 v1086 v1090 v1334 v1336 v1338 v1340 v1342 v1344 v1346 v1373 k0_hw120 => k0_hw120.2.2.2.2.2.1
theorem k0_idx840_inb : ∀ (i : grid0.Coords) (k0_t18 : Fin (k0_t18_loop i).trips) (v1066 : IVec S16 32) (v1070 : IVec S16 32) (v1074 : IVec S16 32) (v1078 : IVec S16 32) (v1082 : IVec S16 32) (v1086 : IVec S16 32) (v1090 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw120 : k0_chk120 i k0_t18 v1066 v1070 v1074 v1078 v1082 v1086 v1090 v1334 v1336 v1338 v1340 v1342 v1344 v1346 v1373), ∀ a x, ((![v1346, v1373, v1090] : Fin 3 → IVec S16 32) a x).toNat < S224x2x128.size a := fun i k0_t18 v1066 v1070 v1074 v1078 v1082 v1086 v1090 v1334 v1336 v1338 v1340 v1342 v1344 v1346 v1373 k0_hw120 => k0_hw120.2.2.2.2.2.2
def k0_off136 (k0_t32 : Fin k0_t32_loop.trips) : Fin 3 → Nat :=
  let c16_i32_727 : BitVec 32 := 16#32
  let c2_i32_714 : BitVec 32 := 2#32
  let c0_i32_608 : BitVec 32 := 0#32
  let c1_i32_610 : BitVec 32 := 1#32
  let arg13 : BitVec 32 := Scf.iv c0_i32_608 c1_i32_610 k0_t32
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c80_729 : Index := 80#32
  ![v1390.toNat, 1, 80]
@[reducible] def k0_t33_loop : Scf.Loop 32 :=
  let c0_i32_648 : BitVec 32 := 0#32
  let c8_i32_649 : BitVec 32 := 8#32
  let v1178 : BitVec 32 := Scalar.addi c0_i32_648 c8_i32_649
  let c1_i32_650 : BitVec 32 := 1#32
  ⟨c0_i32_648, v1178, c1_i32_650⟩

def k0_chk121 (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v1139] : Fin 3 → IVec S16 32) a x).toNat < S224x2x128.size a) ∧
  (∀ a x, ((![v1272, v1286, v1143] : Fin 3 → IVec S16 32) a x).toNat < S224x2x128.size a) ∧
  (∀ a x, ((![v1274, v1286, v1147] : Fin 3 → IVec S16 32) a x).toNat < S224x2x128.size a) ∧
  (∀ a x, ((![v1276, v1286, v1151] : Fin 3 → IVec S16 32) a x).toNat < S224x2x128.size a) ∧
  (∀ a x, ((![v1278, v1286, v1155] : Fin 3 → IVec S16 32) a x).toNat < S224x2x128.size a) ∧
  (∀ a x, ((![v1280, v1286, v1159] : Fin 3 → IVec S16 32) a x).toNat < S224x2x128.size a) ∧
  (∀ a x, ((![v1282, v1286, v1163] : Fin 3 → IVec S16 32) a x).toNat < S224x2x128.size a)
theorem k0_idx841_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw121 : k0_chk121 i k0_t18 v1139 v1143 v1147 v1151 v1155 v1159 v1163 v1270 v1272 v1274 v1276 v1278 v1280 v1282 v1286), ∀ a x, ((![v1270, v1286, v1139] : Fin 3 → IVec S16 32) a x).toNat < S224x2x128.size a := fun i k0_t18 v1139 v1143 v1147 v1151 v1155 v1159 v1163 v1270 v1272 v1274 v1276 v1278 v1280 v1282 v1286 k0_hw121 => k0_hw121.1
theorem k0_idx842_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw121 : k0_chk121 i k0_t18 v1139 v1143 v1147 v1151 v1155 v1159 v1163 v1270 v1272 v1274 v1276 v1278 v1280 v1282 v1286), ∀ a x, ((![v1272, v1286, v1143] : Fin 3 → IVec S16 32) a x).toNat < S224x2x128.size a := fun i k0_t18 v1139 v1143 v1147 v1151 v1155 v1159 v1163 v1270 v1272 v1274 v1276 v1278 v1280 v1282 v1286 k0_hw121 => k0_hw121.2.1
theorem k0_idx843_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw121 : k0_chk121 i k0_t18 v1139 v1143 v1147 v1151 v1155 v1159 v1163 v1270 v1272 v1274 v1276 v1278 v1280 v1282 v1286), ∀ a x, ((![v1274, v1286, v1147] : Fin 3 → IVec S16 32) a x).toNat < S224x2x128.size a := fun i k0_t18 v1139 v1143 v1147 v1151 v1155 v1159 v1163 v1270 v1272 v1274 v1276 v1278 v1280 v1282 v1286 k0_hw121 => k0_hw121.2.2.1
theorem k0_idx844_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw121 : k0_chk121 i k0_t18 v1139 v1143 v1147 v1151 v1155 v1159 v1163 v1270 v1272 v1274 v1276 v1278 v1280 v1282 v1286), ∀ a x, ((![v1276, v1286, v1151] : Fin 3 → IVec S16 32) a x).toNat < S224x2x128.size a := fun i k0_t18 v1139 v1143 v1147 v1151 v1155 v1159 v1163 v1270 v1272 v1274 v1276 v1278 v1280 v1282 v1286 k0_hw121 => k0_hw121.2.2.2.1
theorem k0_idx845_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw121 : k0_chk121 i k0_t18 v1139 v1143 v1147 v1151 v1155 v1159 v1163 v1270 v1272 v1274 v1276 v1278 v1280 v1282 v1286), ∀ a x, ((![v1278, v1286, v1155] : Fin 3 → IVec S16 32) a x).toNat < S224x2x128.size a := fun i k0_t18 v1139 v1143 v1147 v1151 v1155 v1159 v1163 v1270 v1272 v1274 v1276 v1278 v1280 v1282 v1286 k0_hw121 => k0_hw121.2.2.2.2.1
theorem k0_idx846_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw121 : k0_chk121 i k0_t18 v1139 v1143 v1147 v1151 v1155 v1159 v1163 v1270 v1272 v1274 v1276 v1278 v1280 v1282 v1286), ∀ a x, ((![v1280, v1286, v1159] : Fin 3 → IVec S16 32) a x).toNat < S224x2x128.size a := fun i k0_t18 v1139 v1143 v1147 v1151 v1155 v1159 v1163 v1270 v1272 v1274 v1276 v1278 v1280 v1282 v1286 k0_hw121 => k0_hw121.2.2.2.2.2.1
theorem k0_idx847_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw121 : k0_chk121 i k0_t18 v1139 v1143 v1147 v1151 v1155 v1159 v1163 v1270 v1272 v1274 v1276 v1278 v1280 v1282 v1286), ∀ a x, ((![v1282, v1286, v1163] : Fin 3 → IVec S16 32) a x).toNat < S224x2x128.size a := fun i k0_t18 v1139 v1143 v1147 v1151 v1155 v1159 v1163 v1270 v1272 v1274 v1276 v1278 v1280 v1282 v1286 k0_hw121 => k0_hw121.2.2.2.2.2.2
def k0_off137 (k0_t33 : Fin k0_t33_loop.trips) : Fin 3 → Nat :=
  let c16_i32_706 : BitVec 32 := 16#32
  let c2_i32_700 : BitVec 32 := 2#32
  let c0_i32_648 : BitVec 32 := 0#32
  let c1_i32_650 : BitVec 32 := 1#32
  let arg13 : BitVec 32 := Scf.iv c0_i32_648 c1_i32_650 k0_t33
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c96 : Index := 96#32
  ![v1303.toNat, 0, 96]

def k0_chk122 (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v1139] : Fin 3 → IVec S16 32) a x).toNat < S224x2x128.size a) ∧
  (∀ a x, ((![v1272, v1309, v1143] : Fin 3 → IVec S16 32) a x).toNat < S224x2x128.size a) ∧
  (∀ a x, ((![v1274, v1309, v1147] : Fin 3 → IVec S16 32) a x).toNat < S224x2x128.size a) ∧
  (∀ a x, ((![v1276, v1309, v1151] : Fin 3 → IVec S16 32) a x).toNat < S224x2x128.size a) ∧
  (∀ a x, ((![v1278, v1309, v1155] : Fin 3 → IVec S16 32) a x).toNat < S224x2x128.size a) ∧
  (∀ a x, ((![v1280, v1309, v1159] : Fin 3 → IVec S16 32) a x).toNat < S224x2x128.size a) ∧
  (∀ a x, ((![v1282, v1309, v1163] : Fin 3 → IVec S16 32) a x).toNat < S224x2x128.size a)
theorem k0_idx848_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw122 : k0_chk122 i k0_t18 v1139 v1143 v1147 v1151 v1155 v1159 v1163 v1270 v1272 v1274 v1276 v1278 v1280 v1282 v1309), ∀ a x, ((![v1270, v1309, v1139] : Fin 3 → IVec S16 32) a x).toNat < S224x2x128.size a := fun i k0_t18 v1139 v1143 v1147 v1151 v1155 v1159 v1163 v1270 v1272 v1274 v1276 v1278 v1280 v1282 v1309 k0_hw122 => k0_hw122.1
theorem k0_idx849_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw122 : k0_chk122 i k0_t18 v1139 v1143 v1147 v1151 v1155 v1159 v1163 v1270 v1272 v1274 v1276 v1278 v1280 v1282 v1309), ∀ a x, ((![v1272, v1309, v1143] : Fin 3 → IVec S16 32) a x).toNat < S224x2x128.size a := fun i k0_t18 v1139 v1143 v1147 v1151 v1155 v1159 v1163 v1270 v1272 v1274 v1276 v1278 v1280 v1282 v1309 k0_hw122 => k0_hw122.2.1
theorem k0_idx850_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw122 : k0_chk122 i k0_t18 v1139 v1143 v1147 v1151 v1155 v1159 v1163 v1270 v1272 v1274 v1276 v1278 v1280 v1282 v1309), ∀ a x, ((![v1274, v1309, v1147] : Fin 3 → IVec S16 32) a x).toNat < S224x2x128.size a := fun i k0_t18 v1139 v1143 v1147 v1151 v1155 v1159 v1163 v1270 v1272 v1274 v1276 v1278 v1280 v1282 v1309 k0_hw122 => k0_hw122.2.2.1
theorem k0_idx851_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw122 : k0_chk122 i k0_t18 v1139 v1143 v1147 v1151 v1155 v1159 v1163 v1270 v1272 v1274 v1276 v1278 v1280 v1282 v1309), ∀ a x, ((![v1276, v1309, v1151] : Fin 3 → IVec S16 32) a x).toNat < S224x2x128.size a := fun i k0_t18 v1139 v1143 v1147 v1151 v1155 v1159 v1163 v1270 v1272 v1274 v1276 v1278 v1280 v1282 v1309 k0_hw122 => k0_hw122.2.2.2.1
theorem k0_idx852_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw122 : k0_chk122 i k0_t18 v1139 v1143 v1147 v1151 v1155 v1159 v1163 v1270 v1272 v1274 v1276 v1278 v1280 v1282 v1309), ∀ a x, ((![v1278, v1309, v1155] : Fin 3 → IVec S16 32) a x).toNat < S224x2x128.size a := fun i k0_t18 v1139 v1143 v1147 v1151 v1155 v1159 v1163 v1270 v1272 v1274 v1276 v1278 v1280 v1282 v1309 k0_hw122 => k0_hw122.2.2.2.2.1
theorem k0_idx853_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw122 : k0_chk122 i k0_t18 v1139 v1143 v1147 v1151 v1155 v1159 v1163 v1270 v1272 v1274 v1276 v1278 v1280 v1282 v1309), ∀ a x, ((![v1280, v1309, v1159] : Fin 3 → IVec S16 32) a x).toNat < S224x2x128.size a := fun i k0_t18 v1139 v1143 v1147 v1151 v1155 v1159 v1163 v1270 v1272 v1274 v1276 v1278 v1280 v1282 v1309 k0_hw122 => k0_hw122.2.2.2.2.2.1
theorem k0_idx854_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw122 : k0_chk122 i k0_t18 v1139 v1143 v1147 v1151 v1155 v1159 v1163 v1270 v1272 v1274 v1276 v1278 v1280 v1282 v1309), ∀ a x, ((![v1282, v1309, v1163] : Fin 3 → IVec S16 32) a x).toNat < S224x2x128.size a := fun i k0_t18 v1139 v1143 v1147 v1151 v1155 v1159 v1163 v1270 v1272 v1274 v1276 v1278 v1280 v1282 v1309 k0_hw122 => k0_hw122.2.2.2.2.2.2
def k0_off138 (k0_t33 : Fin k0_t33_loop.trips) : Fin 3 → Nat :=
  let c16_i32_711 : BitVec 32 := 16#32
  let c2_i32_700 : BitVec 32 := 2#32
  let c0_i32_648 : BitVec 32 := 0#32
  let c1_i32_650 : BitVec 32 := 1#32
  let arg13 : BitVec 32 := Scf.iv c0_i32_648 c1_i32_650 k0_t33
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c96_713 : Index := 96#32
  ![v1326.toNat, 1, 96]

def k0_chk123 (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v1139] : Fin 3 → IVec S16 32) a x).toNat < S224x2x128.size a) ∧
  (∀ a x, ((![v1336, v1350, v1143] : Fin 3 → IVec S16 32) a x).toNat < S224x2x128.size a) ∧
  (∀ a x, ((![v1338, v1350, v1147] : Fin 3 → IVec S16 32) a x).toNat < S224x2x128.size a) ∧
  (∀ a x, ((![v1340, v1350, v1151] : Fin 3 → IVec S16 32) a x).toNat < S224x2x128.size a) ∧
  (∀ a x, ((![v1342, v1350, v1155] : Fin 3 → IVec S16 32) a x).toNat < S224x2x128.size a) ∧
  (∀ a x, ((![v1344, v1350, v1159] : Fin 3 → IVec S16 32) a x).toNat < S224x2x128.size a) ∧
  (∀ a x, ((![v1346, v1350, v1163] : Fin 3 → IVec S16 32) a x).toNat < S224x2x128.size a)
theorem k0_idx855_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw123 : k0_chk123 i k0_t18 v1139 v1143 v1147 v1151 v1155 v1159 v1163 v1334 v1336 v1338 v1340 v1342 v1344 v1346 v1350), ∀ a x, ((![v1334, v1350, v1139] : Fin 3 → IVec S16 32) a x).toNat < S224x2x128.size a := fun i k0_t18 v1139 v1143 v1147 v1151 v1155 v1159 v1163 v1334 v1336 v1338 v1340 v1342 v1344 v1346 v1350 k0_hw123 => k0_hw123.1
theorem k0_idx856_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw123 : k0_chk123 i k0_t18 v1139 v1143 v1147 v1151 v1155 v1159 v1163 v1334 v1336 v1338 v1340 v1342 v1344 v1346 v1350), ∀ a x, ((![v1336, v1350, v1143] : Fin 3 → IVec S16 32) a x).toNat < S224x2x128.size a := fun i k0_t18 v1139 v1143 v1147 v1151 v1155 v1159 v1163 v1334 v1336 v1338 v1340 v1342 v1344 v1346 v1350 k0_hw123 => k0_hw123.2.1
theorem k0_idx857_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw123 : k0_chk123 i k0_t18 v1139 v1143 v1147 v1151 v1155 v1159 v1163 v1334 v1336 v1338 v1340 v1342 v1344 v1346 v1350), ∀ a x, ((![v1338, v1350, v1147] : Fin 3 → IVec S16 32) a x).toNat < S224x2x128.size a := fun i k0_t18 v1139 v1143 v1147 v1151 v1155 v1159 v1163 v1334 v1336 v1338 v1340 v1342 v1344 v1346 v1350 k0_hw123 => k0_hw123.2.2.1
theorem k0_idx858_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw123 : k0_chk123 i k0_t18 v1139 v1143 v1147 v1151 v1155 v1159 v1163 v1334 v1336 v1338 v1340 v1342 v1344 v1346 v1350), ∀ a x, ((![v1340, v1350, v1151] : Fin 3 → IVec S16 32) a x).toNat < S224x2x128.size a := fun i k0_t18 v1139 v1143 v1147 v1151 v1155 v1159 v1163 v1334 v1336 v1338 v1340 v1342 v1344 v1346 v1350 k0_hw123 => k0_hw123.2.2.2.1
theorem k0_idx859_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw123 : k0_chk123 i k0_t18 v1139 v1143 v1147 v1151 v1155 v1159 v1163 v1334 v1336 v1338 v1340 v1342 v1344 v1346 v1350), ∀ a x, ((![v1342, v1350, v1155] : Fin 3 → IVec S16 32) a x).toNat < S224x2x128.size a := fun i k0_t18 v1139 v1143 v1147 v1151 v1155 v1159 v1163 v1334 v1336 v1338 v1340 v1342 v1344 v1346 v1350 k0_hw123 => k0_hw123.2.2.2.2.1
theorem k0_idx860_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw123 : k0_chk123 i k0_t18 v1139 v1143 v1147 v1151 v1155 v1159 v1163 v1334 v1336 v1338 v1340 v1342 v1344 v1346 v1350), ∀ a x, ((![v1344, v1350, v1159] : Fin 3 → IVec S16 32) a x).toNat < S224x2x128.size a := fun i k0_t18 v1139 v1143 v1147 v1151 v1155 v1159 v1163 v1334 v1336 v1338 v1340 v1342 v1344 v1346 v1350 k0_hw123 => k0_hw123.2.2.2.2.2.1
theorem k0_idx861_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw123 : k0_chk123 i k0_t18 v1139 v1143 v1147 v1151 v1155 v1159 v1163 v1334 v1336 v1338 v1340 v1342 v1344 v1346 v1350), ∀ a x, ((![v1346, v1350, v1163] : Fin 3 → IVec S16 32) a x).toNat < S224x2x128.size a := fun i k0_t18 v1139 v1143 v1147 v1151 v1155 v1159 v1163 v1334 v1336 v1338 v1340 v1342 v1344 v1346 v1350 k0_hw123 => k0_hw123.2.2.2.2.2.2
def k0_off139 (k0_t33 : Fin k0_t33_loop.trips) : Fin 3 → Nat :=
  let c16_i32_721 : BitVec 32 := 16#32
  let c2_i32_714 : BitVec 32 := 2#32
  let c0_i32_648 : BitVec 32 := 0#32
  let c1_i32_650 : BitVec 32 := 1#32
  let arg13 : BitVec 32 := Scf.iv c0_i32_648 c1_i32_650 k0_t33
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c96_723 : Index := 96#32
  ![v1367.toNat, 0, 96]

def k0_chk124 (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v1139] : Fin 3 → IVec S16 32) a x).toNat < S224x2x128.size a) ∧
  (∀ a x, ((![v1336, v1373, v1143] : Fin 3 → IVec S16 32) a x).toNat < S224x2x128.size a) ∧
  (∀ a x, ((![v1338, v1373, v1147] : Fin 3 → IVec S16 32) a x).toNat < S224x2x128.size a) ∧
  (∀ a x, ((![v1340, v1373, v1151] : Fin 3 → IVec S16 32) a x).toNat < S224x2x128.size a) ∧
  (∀ a x, ((![v1342, v1373, v1155] : Fin 3 → IVec S16 32) a x).toNat < S224x2x128.size a) ∧
  (∀ a x, ((![v1344, v1373, v1159] : Fin 3 → IVec S16 32) a x).toNat < S224x2x128.size a) ∧
  (∀ a x, ((![v1346, v1373, v1163] : Fin 3 → IVec S16 32) a x).toNat < S224x2x128.size a)
theorem k0_idx862_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw124 : k0_chk124 i k0_t18 v1139 v1143 v1147 v1151 v1155 v1159 v1163 v1334 v1336 v1338 v1340 v1342 v1344 v1346 v1373), ∀ a x, ((![v1334, v1373, v1139] : Fin 3 → IVec S16 32) a x).toNat < S224x2x128.size a := fun i k0_t18 v1139 v1143 v1147 v1151 v1155 v1159 v1163 v1334 v1336 v1338 v1340 v1342 v1344 v1346 v1373 k0_hw124 => k0_hw124.1
theorem k0_idx863_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw124 : k0_chk124 i k0_t18 v1139 v1143 v1147 v1151 v1155 v1159 v1163 v1334 v1336 v1338 v1340 v1342 v1344 v1346 v1373), ∀ a x, ((![v1336, v1373, v1143] : Fin 3 → IVec S16 32) a x).toNat < S224x2x128.size a := fun i k0_t18 v1139 v1143 v1147 v1151 v1155 v1159 v1163 v1334 v1336 v1338 v1340 v1342 v1344 v1346 v1373 k0_hw124 => k0_hw124.2.1
theorem k0_idx864_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw124 : k0_chk124 i k0_t18 v1139 v1143 v1147 v1151 v1155 v1159 v1163 v1334 v1336 v1338 v1340 v1342 v1344 v1346 v1373), ∀ a x, ((![v1338, v1373, v1147] : Fin 3 → IVec S16 32) a x).toNat < S224x2x128.size a := fun i k0_t18 v1139 v1143 v1147 v1151 v1155 v1159 v1163 v1334 v1336 v1338 v1340 v1342 v1344 v1346 v1373 k0_hw124 => k0_hw124.2.2.1
theorem k0_idx865_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw124 : k0_chk124 i k0_t18 v1139 v1143 v1147 v1151 v1155 v1159 v1163 v1334 v1336 v1338 v1340 v1342 v1344 v1346 v1373), ∀ a x, ((![v1340, v1373, v1151] : Fin 3 → IVec S16 32) a x).toNat < S224x2x128.size a := fun i k0_t18 v1139 v1143 v1147 v1151 v1155 v1159 v1163 v1334 v1336 v1338 v1340 v1342 v1344 v1346 v1373 k0_hw124 => k0_hw124.2.2.2.1
theorem k0_idx866_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw124 : k0_chk124 i k0_t18 v1139 v1143 v1147 v1151 v1155 v1159 v1163 v1334 v1336 v1338 v1340 v1342 v1344 v1346 v1373), ∀ a x, ((![v1342, v1373, v1155] : Fin 3 → IVec S16 32) a x).toNat < S224x2x128.size a := fun i k0_t18 v1139 v1143 v1147 v1151 v1155 v1159 v1163 v1334 v1336 v1338 v1340 v1342 v1344 v1346 v1373 k0_hw124 => k0_hw124.2.2.2.2.1
theorem k0_idx867_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw124 : k0_chk124 i k0_t18 v1139 v1143 v1147 v1151 v1155 v1159 v1163 v1334 v1336 v1338 v1340 v1342 v1344 v1346 v1373), ∀ a x, ((![v1344, v1373, v1159] : Fin 3 → IVec S16 32) a x).toNat < S224x2x128.size a := fun i k0_t18 v1139 v1143 v1147 v1151 v1155 v1159 v1163 v1334 v1336 v1338 v1340 v1342 v1344 v1346 v1373 k0_hw124 => k0_hw124.2.2.2.2.2.1
theorem k0_idx868_inb : ∀ (i : grid0.Coords) (k0_t18 : Fin (k0_t18_loop i).trips) (v1139 : IVec S16 32) (v1143 : IVec S16 32) (v1147 : IVec S16 32) (v1151 : IVec S16 32) (v1155 : IVec S16 32) (v1159 : IVec S16 32) (v1163 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw124 : k0_chk124 i k0_t18 v1139 v1143 v1147 v1151 v1155 v1159 v1163 v1334 v1336 v1338 v1340 v1342 v1344 v1346 v1373), ∀ a x, ((![v1346, v1373, v1163] : Fin 3 → IVec S16 32) a x).toNat < S224x2x128.size a := fun i k0_t18 v1139 v1143 v1147 v1151 v1155 v1159 v1163 v1334 v1336 v1338 v1340 v1342 v1344 v1346 v1373 k0_hw124 => k0_hw124.2.2.2.2.2.2
def k0_off140 (k0_t33 : Fin k0_t33_loop.trips) : Fin 3 → Nat :=
  let c16_i32_727 : BitVec 32 := 16#32
  let c2_i32_714 : BitVec 32 := 2#32
  let c0_i32_648 : BitVec 32 := 0#32
  let c1_i32_650 : BitVec 32 := 1#32
  let arg13 : BitVec 32 := Scf.iv c0_i32_648 c1_i32_650 k0_t33
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c96_729 : Index := 96#32
  ![v1390.toNat, 1, 96]
@[reducible] def k0_t34_loop : Scf.Loop 32 :=
  let c0_i32_688 : BitVec 32 := 0#32
  let c8_i32_689 : BitVec 32 := 8#32
  let v1251 : BitVec 32 := Scalar.addi c0_i32_688 c8_i32_689
  let c1_i32_690 : BitVec 32 := 1#32
  ⟨c0_i32_688, v1251, c1_i32_690⟩

def k0_chk125 (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) : Prop :=
  (∀ a x, ((![v1270, v1286, v1212] : Fin 3 → IVec S16 32) a x).toNat < S224x2x128.size a) ∧
  (∀ a x, ((![v1272, v1286, v1216] : Fin 3 → IVec S16 32) a x).toNat < S224x2x128.size a) ∧
  (∀ a x, ((![v1274, v1286, v1220] : Fin 3 → IVec S16 32) a x).toNat < S224x2x128.size a) ∧
  (∀ a x, ((![v1276, v1286, v1224] : Fin 3 → IVec S16 32) a x).toNat < S224x2x128.size a) ∧
  (∀ a x, ((![v1278, v1286, v1228] : Fin 3 → IVec S16 32) a x).toNat < S224x2x128.size a) ∧
  (∀ a x, ((![v1280, v1286, v1232] : Fin 3 → IVec S16 32) a x).toNat < S224x2x128.size a) ∧
  (∀ a x, ((![v1282, v1286, v1236] : Fin 3 → IVec S16 32) a x).toNat < S224x2x128.size a)
theorem k0_idx869_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw125 : k0_chk125 i k0_t18 v1212 v1216 v1220 v1224 v1228 v1232 v1236 v1270 v1272 v1274 v1276 v1278 v1280 v1282 v1286), ∀ a x, ((![v1270, v1286, v1212] : Fin 3 → IVec S16 32) a x).toNat < S224x2x128.size a := fun i k0_t18 v1212 v1216 v1220 v1224 v1228 v1232 v1236 v1270 v1272 v1274 v1276 v1278 v1280 v1282 v1286 k0_hw125 => k0_hw125.1
theorem k0_idx870_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw125 : k0_chk125 i k0_t18 v1212 v1216 v1220 v1224 v1228 v1232 v1236 v1270 v1272 v1274 v1276 v1278 v1280 v1282 v1286), ∀ a x, ((![v1272, v1286, v1216] : Fin 3 → IVec S16 32) a x).toNat < S224x2x128.size a := fun i k0_t18 v1212 v1216 v1220 v1224 v1228 v1232 v1236 v1270 v1272 v1274 v1276 v1278 v1280 v1282 v1286 k0_hw125 => k0_hw125.2.1
theorem k0_idx871_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw125 : k0_chk125 i k0_t18 v1212 v1216 v1220 v1224 v1228 v1232 v1236 v1270 v1272 v1274 v1276 v1278 v1280 v1282 v1286), ∀ a x, ((![v1274, v1286, v1220] : Fin 3 → IVec S16 32) a x).toNat < S224x2x128.size a := fun i k0_t18 v1212 v1216 v1220 v1224 v1228 v1232 v1236 v1270 v1272 v1274 v1276 v1278 v1280 v1282 v1286 k0_hw125 => k0_hw125.2.2.1
theorem k0_idx872_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw125 : k0_chk125 i k0_t18 v1212 v1216 v1220 v1224 v1228 v1232 v1236 v1270 v1272 v1274 v1276 v1278 v1280 v1282 v1286), ∀ a x, ((![v1276, v1286, v1224] : Fin 3 → IVec S16 32) a x).toNat < S224x2x128.size a := fun i k0_t18 v1212 v1216 v1220 v1224 v1228 v1232 v1236 v1270 v1272 v1274 v1276 v1278 v1280 v1282 v1286 k0_hw125 => k0_hw125.2.2.2.1
theorem k0_idx873_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw125 : k0_chk125 i k0_t18 v1212 v1216 v1220 v1224 v1228 v1232 v1236 v1270 v1272 v1274 v1276 v1278 v1280 v1282 v1286), ∀ a x, ((![v1278, v1286, v1228] : Fin 3 → IVec S16 32) a x).toNat < S224x2x128.size a := fun i k0_t18 v1212 v1216 v1220 v1224 v1228 v1232 v1236 v1270 v1272 v1274 v1276 v1278 v1280 v1282 v1286 k0_hw125 => k0_hw125.2.2.2.2.1
theorem k0_idx874_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw125 : k0_chk125 i k0_t18 v1212 v1216 v1220 v1224 v1228 v1232 v1236 v1270 v1272 v1274 v1276 v1278 v1280 v1282 v1286), ∀ a x, ((![v1280, v1286, v1232] : Fin 3 → IVec S16 32) a x).toNat < S224x2x128.size a := fun i k0_t18 v1212 v1216 v1220 v1224 v1228 v1232 v1236 v1270 v1272 v1274 v1276 v1278 v1280 v1282 v1286 k0_hw125 => k0_hw125.2.2.2.2.2.1
theorem k0_idx875_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1286 : IVec S16 32) (k0_hw125 : k0_chk125 i k0_t18 v1212 v1216 v1220 v1224 v1228 v1232 v1236 v1270 v1272 v1274 v1276 v1278 v1280 v1282 v1286), ∀ a x, ((![v1282, v1286, v1236] : Fin 3 → IVec S16 32) a x).toNat < S224x2x128.size a := fun i k0_t18 v1212 v1216 v1220 v1224 v1228 v1232 v1236 v1270 v1272 v1274 v1276 v1278 v1280 v1282 v1286 k0_hw125 => k0_hw125.2.2.2.2.2.2
def k0_off141 (k0_t34 : Fin k0_t34_loop.trips) : Fin 3 → Nat :=
  let c16_i32_706 : BitVec 32 := 16#32
  let c2_i32_700 : BitVec 32 := 2#32
  let c0_i32_688 : BitVec 32 := 0#32
  let c1_i32_690 : BitVec 32 := 1#32
  let arg13 : BitVec 32 := Scf.iv c0_i32_688 c1_i32_690 k0_t34
  let v1265 : BitVec 32 := Scalar.muli c2_i32_700 arg13
  let c0_i32_701 : BitVec 32 := 0#32
  let v1266 : BitVec 32 := Scalar.addi v1265 c0_i32_701
  let v1302 : BitVec 32 := Scalar.addi c16_i32_706 v1266
  let v1303 : Index := Scalar.indexCast v1302
  let c0_i32_707 : BitVec 32 := 0#32
  let v1304 : Index := Scalar.indexCast c0_i32_707
  let c112 : Index := 112#32
  ![v1303.toNat, 0, 112]

def k0_chk126 (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) : Prop :=
  (∀ a x, ((![v1270, v1309, v1212] : Fin 3 → IVec S16 32) a x).toNat < S224x2x128.size a) ∧
  (∀ a x, ((![v1272, v1309, v1216] : Fin 3 → IVec S16 32) a x).toNat < S224x2x128.size a) ∧
  (∀ a x, ((![v1274, v1309, v1220] : Fin 3 → IVec S16 32) a x).toNat < S224x2x128.size a) ∧
  (∀ a x, ((![v1276, v1309, v1224] : Fin 3 → IVec S16 32) a x).toNat < S224x2x128.size a) ∧
  (∀ a x, ((![v1278, v1309, v1228] : Fin 3 → IVec S16 32) a x).toNat < S224x2x128.size a) ∧
  (∀ a x, ((![v1280, v1309, v1232] : Fin 3 → IVec S16 32) a x).toNat < S224x2x128.size a) ∧
  (∀ a x, ((![v1282, v1309, v1236] : Fin 3 → IVec S16 32) a x).toNat < S224x2x128.size a)
theorem k0_idx876_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw126 : k0_chk126 i k0_t18 v1212 v1216 v1220 v1224 v1228 v1232 v1236 v1270 v1272 v1274 v1276 v1278 v1280 v1282 v1309), ∀ a x, ((![v1270, v1309, v1212] : Fin 3 → IVec S16 32) a x).toNat < S224x2x128.size a := fun i k0_t18 v1212 v1216 v1220 v1224 v1228 v1232 v1236 v1270 v1272 v1274 v1276 v1278 v1280 v1282 v1309 k0_hw126 => k0_hw126.1
theorem k0_idx877_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw126 : k0_chk126 i k0_t18 v1212 v1216 v1220 v1224 v1228 v1232 v1236 v1270 v1272 v1274 v1276 v1278 v1280 v1282 v1309), ∀ a x, ((![v1272, v1309, v1216] : Fin 3 → IVec S16 32) a x).toNat < S224x2x128.size a := fun i k0_t18 v1212 v1216 v1220 v1224 v1228 v1232 v1236 v1270 v1272 v1274 v1276 v1278 v1280 v1282 v1309 k0_hw126 => k0_hw126.2.1
theorem k0_idx878_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw126 : k0_chk126 i k0_t18 v1212 v1216 v1220 v1224 v1228 v1232 v1236 v1270 v1272 v1274 v1276 v1278 v1280 v1282 v1309), ∀ a x, ((![v1274, v1309, v1220] : Fin 3 → IVec S16 32) a x).toNat < S224x2x128.size a := fun i k0_t18 v1212 v1216 v1220 v1224 v1228 v1232 v1236 v1270 v1272 v1274 v1276 v1278 v1280 v1282 v1309 k0_hw126 => k0_hw126.2.2.1
theorem k0_idx879_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw126 : k0_chk126 i k0_t18 v1212 v1216 v1220 v1224 v1228 v1232 v1236 v1270 v1272 v1274 v1276 v1278 v1280 v1282 v1309), ∀ a x, ((![v1276, v1309, v1224] : Fin 3 → IVec S16 32) a x).toNat < S224x2x128.size a := fun i k0_t18 v1212 v1216 v1220 v1224 v1228 v1232 v1236 v1270 v1272 v1274 v1276 v1278 v1280 v1282 v1309 k0_hw126 => k0_hw126.2.2.2.1
theorem k0_idx880_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw126 : k0_chk126 i k0_t18 v1212 v1216 v1220 v1224 v1228 v1232 v1236 v1270 v1272 v1274 v1276 v1278 v1280 v1282 v1309), ∀ a x, ((![v1278, v1309, v1228] : Fin 3 → IVec S16 32) a x).toNat < S224x2x128.size a := fun i k0_t18 v1212 v1216 v1220 v1224 v1228 v1232 v1236 v1270 v1272 v1274 v1276 v1278 v1280 v1282 v1309 k0_hw126 => k0_hw126.2.2.2.2.1
theorem k0_idx881_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw126 : k0_chk126 i k0_t18 v1212 v1216 v1220 v1224 v1228 v1232 v1236 v1270 v1272 v1274 v1276 v1278 v1280 v1282 v1309), ∀ a x, ((![v1280, v1309, v1232] : Fin 3 → IVec S16 32) a x).toNat < S224x2x128.size a := fun i k0_t18 v1212 v1216 v1220 v1224 v1228 v1232 v1236 v1270 v1272 v1274 v1276 v1278 v1280 v1282 v1309 k0_hw126 => k0_hw126.2.2.2.2.2.1
theorem k0_idx882_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1270 : IVec S16 32) (v1272 : IVec S16 32) (v1274 : IVec S16 32) (v1276 : IVec S16 32) (v1278 : IVec S16 32) (v1280 : IVec S16 32) (v1282 : IVec S16 32) (v1309 : IVec S16 32) (k0_hw126 : k0_chk126 i k0_t18 v1212 v1216 v1220 v1224 v1228 v1232 v1236 v1270 v1272 v1274 v1276 v1278 v1280 v1282 v1309), ∀ a x, ((![v1282, v1309, v1236] : Fin 3 → IVec S16 32) a x).toNat < S224x2x128.size a := fun i k0_t18 v1212 v1216 v1220 v1224 v1228 v1232 v1236 v1270 v1272 v1274 v1276 v1278 v1280 v1282 v1309 k0_hw126 => k0_hw126.2.2.2.2.2.2
def k0_off142 (k0_t34 : Fin k0_t34_loop.trips) : Fin 3 → Nat :=
  let c16_i32_711 : BitVec 32 := 16#32
  let c2_i32_700 : BitVec 32 := 2#32
  let c0_i32_688 : BitVec 32 := 0#32
  let c1_i32_690 : BitVec 32 := 1#32
  let arg13 : BitVec 32 := Scf.iv c0_i32_688 c1_i32_690 k0_t34
  let v1265 : BitVec 32 := Scalar.muli c2_i32_700 arg13
  let c0_i32_701 : BitVec 32 := 0#32
  let v1266 : BitVec 32 := Scalar.addi v1265 c0_i32_701
  let v1325 : BitVec 32 := Scalar.addi c16_i32_711 v1266
  let v1326 : Index := Scalar.indexCast v1325
  let c1_i32_712 : BitVec 32 := 1#32
  let v1327 : Index := Scalar.indexCast c1_i32_712
  let c112_713 : Index := 112#32
  ![v1326.toNat, 1, 112]

def k0_chk127 (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) : Prop :=
  (∀ a x, ((![v1334, v1350, v1212] : Fin 3 → IVec S16 32) a x).toNat < S224x2x128.size a) ∧
  (∀ a x, ((![v1336, v1350, v1216] : Fin 3 → IVec S16 32) a x).toNat < S224x2x128.size a) ∧
  (∀ a x, ((![v1338, v1350, v1220] : Fin 3 → IVec S16 32) a x).toNat < S224x2x128.size a) ∧
  (∀ a x, ((![v1340, v1350, v1224] : Fin 3 → IVec S16 32) a x).toNat < S224x2x128.size a) ∧
  (∀ a x, ((![v1342, v1350, v1228] : Fin 3 → IVec S16 32) a x).toNat < S224x2x128.size a) ∧
  (∀ a x, ((![v1344, v1350, v1232] : Fin 3 → IVec S16 32) a x).toNat < S224x2x128.size a) ∧
  (∀ a x, ((![v1346, v1350, v1236] : Fin 3 → IVec S16 32) a x).toNat < S224x2x128.size a)
theorem k0_idx883_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw127 : k0_chk127 i k0_t18 v1212 v1216 v1220 v1224 v1228 v1232 v1236 v1334 v1336 v1338 v1340 v1342 v1344 v1346 v1350), ∀ a x, ((![v1334, v1350, v1212] : Fin 3 → IVec S16 32) a x).toNat < S224x2x128.size a := fun i k0_t18 v1212 v1216 v1220 v1224 v1228 v1232 v1236 v1334 v1336 v1338 v1340 v1342 v1344 v1346 v1350 k0_hw127 => k0_hw127.1
theorem k0_idx884_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw127 : k0_chk127 i k0_t18 v1212 v1216 v1220 v1224 v1228 v1232 v1236 v1334 v1336 v1338 v1340 v1342 v1344 v1346 v1350), ∀ a x, ((![v1336, v1350, v1216] : Fin 3 → IVec S16 32) a x).toNat < S224x2x128.size a := fun i k0_t18 v1212 v1216 v1220 v1224 v1228 v1232 v1236 v1334 v1336 v1338 v1340 v1342 v1344 v1346 v1350 k0_hw127 => k0_hw127.2.1
theorem k0_idx885_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw127 : k0_chk127 i k0_t18 v1212 v1216 v1220 v1224 v1228 v1232 v1236 v1334 v1336 v1338 v1340 v1342 v1344 v1346 v1350), ∀ a x, ((![v1338, v1350, v1220] : Fin 3 → IVec S16 32) a x).toNat < S224x2x128.size a := fun i k0_t18 v1212 v1216 v1220 v1224 v1228 v1232 v1236 v1334 v1336 v1338 v1340 v1342 v1344 v1346 v1350 k0_hw127 => k0_hw127.2.2.1
theorem k0_idx886_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw127 : k0_chk127 i k0_t18 v1212 v1216 v1220 v1224 v1228 v1232 v1236 v1334 v1336 v1338 v1340 v1342 v1344 v1346 v1350), ∀ a x, ((![v1340, v1350, v1224] : Fin 3 → IVec S16 32) a x).toNat < S224x2x128.size a := fun i k0_t18 v1212 v1216 v1220 v1224 v1228 v1232 v1236 v1334 v1336 v1338 v1340 v1342 v1344 v1346 v1350 k0_hw127 => k0_hw127.2.2.2.1
theorem k0_idx887_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw127 : k0_chk127 i k0_t18 v1212 v1216 v1220 v1224 v1228 v1232 v1236 v1334 v1336 v1338 v1340 v1342 v1344 v1346 v1350), ∀ a x, ((![v1342, v1350, v1228] : Fin 3 → IVec S16 32) a x).toNat < S224x2x128.size a := fun i k0_t18 v1212 v1216 v1220 v1224 v1228 v1232 v1236 v1334 v1336 v1338 v1340 v1342 v1344 v1346 v1350 k0_hw127 => k0_hw127.2.2.2.2.1
theorem k0_idx888_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw127 : k0_chk127 i k0_t18 v1212 v1216 v1220 v1224 v1228 v1232 v1236 v1334 v1336 v1338 v1340 v1342 v1344 v1346 v1350), ∀ a x, ((![v1344, v1350, v1232] : Fin 3 → IVec S16 32) a x).toNat < S224x2x128.size a := fun i k0_t18 v1212 v1216 v1220 v1224 v1228 v1232 v1236 v1334 v1336 v1338 v1340 v1342 v1344 v1346 v1350 k0_hw127 => k0_hw127.2.2.2.2.2.1
theorem k0_idx889_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1350 : IVec S16 32) (k0_hw127 : k0_chk127 i k0_t18 v1212 v1216 v1220 v1224 v1228 v1232 v1236 v1334 v1336 v1338 v1340 v1342 v1344 v1346 v1350), ∀ a x, ((![v1346, v1350, v1236] : Fin 3 → IVec S16 32) a x).toNat < S224x2x128.size a := fun i k0_t18 v1212 v1216 v1220 v1224 v1228 v1232 v1236 v1334 v1336 v1338 v1340 v1342 v1344 v1346 v1350 k0_hw127 => k0_hw127.2.2.2.2.2.2
def k0_off143 (k0_t34 : Fin k0_t34_loop.trips) : Fin 3 → Nat :=
  let c16_i32_721 : BitVec 32 := 16#32
  let c2_i32_714 : BitVec 32 := 2#32
  let c0_i32_688 : BitVec 32 := 0#32
  let c1_i32_690 : BitVec 32 := 1#32
  let arg13 : BitVec 32 := Scf.iv c0_i32_688 c1_i32_690 k0_t34
  let v1329 : BitVec 32 := Scalar.muli c2_i32_714 arg13
  let c1_i32_715 : BitVec 32 := 1#32
  let v1330 : BitVec 32 := Scalar.addi v1329 c1_i32_715
  let v1366 : BitVec 32 := Scalar.addi c16_i32_721 v1330
  let v1367 : Index := Scalar.indexCast v1366
  let c0_i32_722 : BitVec 32 := 0#32
  let v1368 : Index := Scalar.indexCast c0_i32_722
  let c112_723 : Index := 112#32
  ![v1367.toNat, 0, 112]

def k0_chk128 (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) : Prop :=
  (∀ a x, ((![v1334, v1373, v1212] : Fin 3 → IVec S16 32) a x).toNat < S224x2x128.size a) ∧
  (∀ a x, ((![v1336, v1373, v1216] : Fin 3 → IVec S16 32) a x).toNat < S224x2x128.size a) ∧
  (∀ a x, ((![v1338, v1373, v1220] : Fin 3 → IVec S16 32) a x).toNat < S224x2x128.size a) ∧
  (∀ a x, ((![v1340, v1373, v1224] : Fin 3 → IVec S16 32) a x).toNat < S224x2x128.size a) ∧
  (∀ a x, ((![v1342, v1373, v1228] : Fin 3 → IVec S16 32) a x).toNat < S224x2x128.size a) ∧
  (∀ a x, ((![v1344, v1373, v1232] : Fin 3 → IVec S16 32) a x).toNat < S224x2x128.size a) ∧
  (∀ a x, ((![v1346, v1373, v1236] : Fin 3 → IVec S16 32) a x).toNat < S224x2x128.size a)
theorem k0_idx890_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw128 : k0_chk128 i k0_t18 v1212 v1216 v1220 v1224 v1228 v1232 v1236 v1334 v1336 v1338 v1340 v1342 v1344 v1346 v1373), ∀ a x, ((![v1334, v1373, v1212] : Fin 3 → IVec S16 32) a x).toNat < S224x2x128.size a := fun i k0_t18 v1212 v1216 v1220 v1224 v1228 v1232 v1236 v1334 v1336 v1338 v1340 v1342 v1344 v1346 v1373 k0_hw128 => k0_hw128.1
theorem k0_idx891_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw128 : k0_chk128 i k0_t18 v1212 v1216 v1220 v1224 v1228 v1232 v1236 v1334 v1336 v1338 v1340 v1342 v1344 v1346 v1373), ∀ a x, ((![v1336, v1373, v1216] : Fin 3 → IVec S16 32) a x).toNat < S224x2x128.size a := fun i k0_t18 v1212 v1216 v1220 v1224 v1228 v1232 v1236 v1334 v1336 v1338 v1340 v1342 v1344 v1346 v1373 k0_hw128 => k0_hw128.2.1
theorem k0_idx892_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw128 : k0_chk128 i k0_t18 v1212 v1216 v1220 v1224 v1228 v1232 v1236 v1334 v1336 v1338 v1340 v1342 v1344 v1346 v1373), ∀ a x, ((![v1338, v1373, v1220] : Fin 3 → IVec S16 32) a x).toNat < S224x2x128.size a := fun i k0_t18 v1212 v1216 v1220 v1224 v1228 v1232 v1236 v1334 v1336 v1338 v1340 v1342 v1344 v1346 v1373 k0_hw128 => k0_hw128.2.2.1
theorem k0_idx893_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw128 : k0_chk128 i k0_t18 v1212 v1216 v1220 v1224 v1228 v1232 v1236 v1334 v1336 v1338 v1340 v1342 v1344 v1346 v1373), ∀ a x, ((![v1340, v1373, v1224] : Fin 3 → IVec S16 32) a x).toNat < S224x2x128.size a := fun i k0_t18 v1212 v1216 v1220 v1224 v1228 v1232 v1236 v1334 v1336 v1338 v1340 v1342 v1344 v1346 v1373 k0_hw128 => k0_hw128.2.2.2.1
theorem k0_idx894_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw128 : k0_chk128 i k0_t18 v1212 v1216 v1220 v1224 v1228 v1232 v1236 v1334 v1336 v1338 v1340 v1342 v1344 v1346 v1373), ∀ a x, ((![v1342, v1373, v1228] : Fin 3 → IVec S16 32) a x).toNat < S224x2x128.size a := fun i k0_t18 v1212 v1216 v1220 v1224 v1228 v1232 v1236 v1334 v1336 v1338 v1340 v1342 v1344 v1346 v1373 k0_hw128 => k0_hw128.2.2.2.2.1
theorem k0_idx895_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw128 : k0_chk128 i k0_t18 v1212 v1216 v1220 v1224 v1228 v1232 v1236 v1334 v1336 v1338 v1340 v1342 v1344 v1346 v1373), ∀ a x, ((![v1344, v1373, v1232] : Fin 3 → IVec S16 32) a x).toNat < S224x2x128.size a := fun i k0_t18 v1212 v1216 v1220 v1224 v1228 v1232 v1236 v1334 v1336 v1338 v1340 v1342 v1344 v1346 v1373 k0_hw128 => k0_hw128.2.2.2.2.2.1
theorem k0_idx896_inb : ∀ (i : grid0.Coords) (k0_t18 : Fin (k0_t18_loop i).trips) (v1212 : IVec S16 32) (v1216 : IVec S16 32) (v1220 : IVec S16 32) (v1224 : IVec S16 32) (v1228 : IVec S16 32) (v1232 : IVec S16 32) (v1236 : IVec S16 32) (v1334 : IVec S16 32) (v1336 : IVec S16 32) (v1338 : IVec S16 32) (v1340 : IVec S16 32) (v1342 : IVec S16 32) (v1344 : IVec S16 32) (v1346 : IVec S16 32) (v1373 : IVec S16 32) (k0_hw128 : k0_chk128 i k0_t18 v1212 v1216 v1220 v1224 v1228 v1232 v1236 v1334 v1336 v1338 v1340 v1342 v1344 v1346 v1373), ∀ a x, ((![v1346, v1373, v1236] : Fin 3 → IVec S16 32) a x).toNat < S224x2x128.size a := fun i k0_t18 v1212 v1216 v1220 v1224 v1228 v1232 v1236 v1334 v1336 v1338 v1340 v1342 v1344 v1346 v1373 k0_hw128 => k0_hw128.2.2.2.2.2.2
def k0_off144 (k0_t34 : Fin k0_t34_loop.trips) : Fin 3 → Nat :=
  let c16_i32_727 : BitVec 32 := 16#32
  let c2_i32_714 : BitVec 32 := 2#32
  let c0_i32_688 : BitVec 32 := 0#32
  let c1_i32_690 : BitVec 32 := 1#32
  let arg13 : BitVec 32 := Scf.iv c0_i32_688 c1_i32_690 k0_t34
  let v1329 : BitVec 32 := Scalar.muli c2_i32_714 arg13
  let c1_i32_715 : BitVec 32 := 1#32
  let v1330 : BitVec 32 := Scalar.addi v1329 c1_i32_715
  let v1389 : BitVec 32 := Scalar.addi c16_i32_727 v1330
  let v1390 : Index := Scalar.indexCast v1389
  let c1_i32_728 : BitVec 32 := 1#32
  let v1391 : Index := Scalar.indexCast c1_i32_728
  let c112_729 : Index := 112#32
  ![v1390.toNat, 1, 112]
def k0_cond13 (i : grid0.Coords) (k0_t18 : Fin (k0_t18_loop i).trips) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let c1_i32_371 : BitVec 32 := 1#32
  let v667 : BitVec 32 := Scalar.addi v33 c1_i32_371
  let v1254 : BitVec 32 := Scalar.addi v4 v667
  let c1_i32_693 : BitVec 32 := 1#32
  let v1255 : BitVec 32 := Scalar.addi v1254 c1_i32_693
  let c16_i32_694 : BitVec 32 := 16#32
  let v1256 : BitVec 32 := Scalar.muli v1255 c16_i32_694
  let c40962_i32_695 : BitVec 32 := 40962#32
  let v1257 : BitVec 1 := Scalar.cmpi .sle v1256 c40962_i32_695
  let v1258 : BitVec 32 := Scalar.extui v1257
  let c0_i32_696 : BitVec 32 := 0#32
  let v1259 : BitVec 1 := Scalar.cmpi .ne v1258 c0_i32_696
  v1259

def k0_off145 (i : grid0.Coords) (k0_t18 : Fin (k0_t18_loop i).trips) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32_19 : BitVec 32 := 2#32
  let c0_i32_8 : BitVec 32 := 0#32
  let c54_i32_0 : BitVec 32 := 54#32
  let c27_i32 : BitVec 32 := 27#32
  let v5 : BitVec 32 := Scalar.select v0 c54_i32_0 c27_i32
  let v13 : BitVec 32 := Scalar.subi v5 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg12 : BitVec 32 := Scf.iv v17 c1_i32_10 k0_t18
  let v33 : BitVec 32 := Scalar.muli c2_i32_19 arg12
  let c1_i32_371 : BitVec 32 := 1#32
  let v667 : BitVec 32 := Scalar.addi v33 c1_i32_371
  let v1252 : BitVec 32 := Scalar.addi v4 v667
  let c16_i32_692 : BitVec 32 := 16#32
  let v1253 : BitVec 32 := Scalar.muli v1252 c16_i32_692
  let c0_i32_703 : BitVec 32 := 0#32
  let c0_i32_704 : BitVec 32 := 0#32
  ![v1253.toNat, 0, 0]
def k0_cond15 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32 : BitVec 32 := 2#32
  let c54_i32_0 : BitVec 32 := 54#32
  let c27_i32 : BitVec 32 := 27#32
  let v5 : BitVec 32 := Scalar.select v0 c54_i32_0 c27_i32
  let v18 : BitVec 32 := Scalar.muli c2_i32 v5
  let c2_i32_11 : BitVec 32 := 2#32
  let v19 : BitVec 32 := Scalar.subi v18 c2_i32_11
  let v20 : BitVec 32 := Scalar.addi v4 v19
  let c1_i32_12 : BitVec 32 := 1#32
  let v21 : BitVec 32 := Scalar.addi v20 c1_i32_12
  let c16_i32 : BitVec 32 := 16#32
  let v22 : BitVec 32 := Scalar.muli v21 c16_i32
  let c40962_i32 : BitVec 32 := 40962#32
  let v23 : BitVec 1 := Scalar.cmpi .sle v22 c40962_i32
  let v24 : BitVec 32 := Scalar.extui v23
  let c0_i32_13 : BitVec 32 := 0#32
  let v25 : BitVec 1 := Scalar.cmpi .ne v24 c0_i32_13
  v25

def k0_off146 (i : grid0.Coords) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32 : BitVec 32 := 2#32
  let c54_i32_0 : BitVec 32 := 54#32
  let c27_i32 : BitVec 32 := 27#32
  let v5 : BitVec 32 := Scalar.select v0 c54_i32_0 c27_i32
  let v18 : BitVec 32 := Scalar.muli c2_i32 v5
  let c2_i32_19 : BitVec 32 := 2#32
  let v33 : BitVec 32 := Scalar.subi v18 c2_i32_19
  let v34 : BitVec 32 := Scalar.addi v4 v33
  let c16_i32_20 : BitVec 32 := 16#32
  let v35 : BitVec 32 := Scalar.muli v34 c16_i32_20
  let c0_i32_24 : BitVec 32 := 0#32
  let c0_i32_25 : BitVec 32 := 0#32
  ![v35.toNat, 0, 0]
def k0_cond16 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32 : BitVec 32 := 2#32
  let c54_i32_0 : BitVec 32 := 54#32
  let c27_i32 : BitVec 32 := 27#32
  let v5 : BitVec 32 := Scalar.select v0 c54_i32_0 c27_i32
  let v18 : BitVec 32 := Scalar.muli c2_i32 v5
  let c1_i32_14 : BitVec 32 := 1#32
  let v26 : BitVec 32 := Scalar.subi v18 c1_i32_14
  let v27 : BitVec 32 := Scalar.addi v4 v26
  let c1_i32_15 : BitVec 32 := 1#32
  let v28 : BitVec 32 := Scalar.addi v27 c1_i32_15
  let c16_i32_16 : BitVec 32 := 16#32
  let v29 : BitVec 32 := Scalar.muli v28 c16_i32_16
  let c40962_i32_17 : BitVec 32 := 40962#32
  let v30 : BitVec 1 := Scalar.cmpi .sle v29 c40962_i32_17
  let v31 : BitVec 32 := Scalar.extui v30
  let c0_i32_18 : BitVec 32 := 0#32
  let v32 : BitVec 1 := Scalar.cmpi .ne v31 c0_i32_18
  v32

def k0_off147 (i : grid0.Coords) : Fin 3 → Nat :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c108_i32 : BitVec 32 := 108#32
  let v1 : BitVec 32 := Scalar.muli arg1 c108_i32
  let c1728_i32 : BitVec 32 := 1728#32
  let c54_i32 : BitVec 32 := 54#32
  let v2 : BitVec 32 := Scalar.muli arg1 c54_i32
  let v3 : BitVec 32 := Scalar.addi c1728_i32 v2
  let v4 : BitVec 32 := Scalar.select v0 v1 v3
  let c2_i32 : BitVec 32 := 2#32
  let c54_i32_0 : BitVec 32 := 54#32
  let c27_i32 : BitVec 32 := 27#32
  let v5 : BitVec 32 := Scalar.select v0 c54_i32_0 c27_i32
  let v18 : BitVec 32 := Scalar.muli c2_i32 v5
  let c1_i32_19 : BitVec 32 := 1#32
  let v33 : BitVec 32 := Scalar.subi v18 c1_i32_19
  let v34 : BitVec 32 := Scalar.addi v4 v33
  let c16_i32_20 : BitVec 32 := 16#32
  let v35 : BitVec 32 := Scalar.muli v34 c16_i32_20
  let c0_i32_24 : BitVec 32 := 0#32
  let c0_i32_25 : BitVec 32 := 0#32
  ![v35.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "seventh" => some ((7⁻¹ : ℝ) : EReal)
  | _ => none
-- ==== ReferenceIdeal.lean ====
abbrev S163842x128x2 : Shape := ⟨3, ![163842, 128, 2]⟩
abbrev S286734 : Shape := ⟨1, ![286734]⟩
abbrev S_ : Shape := ⟨0, ![]⟩
abbrev S286734x1 : Shape := ⟨2, ![286734, 1]⟩
abbrev S286734x128x2 : Shape := ⟨3, ![286734, 128, 2]⟩
abbrev S40962x128x7x2 : Shape := ⟨4, ![40962, 128, 7, 2]⟩
abbrev S40962x128x2x7 : Shape := ⟨4, ![40962, 128, 2, 7]⟩
abbrev S40962x2x128x7 : Shape := ⟨4, ![40962, 2, 128, 7]⟩
abbrev S2x40962x128x7 : Shape := ⟨4, ![2, 40962, 128, 7]⟩
abbrev S2x40962x128 : Shape := ⟨3, ![2, 40962, 128]⟩
abbrev S40962x2x128 : Shape := ⟨3, ![40962, 2, 128]⟩
abbrev S40962x128x2 : Shape := ⟨3, ![40962, 128, 2]⟩

abbrev nBuf : Space → Nat
  | .hbm => 22
  | .vmem => 0
  | .smem => 0
  | _ => 0

abbrev bufTy : (tb : Table) → Fin (tcTables nBuf tb) → BufTy
  | .hbm, ⟨0, _⟩ => ⟨S163842x128x2, .f32⟩
  | .hbm, ⟨1, _⟩ => ⟨S286734, .i32⟩
  | .hbm, ⟨2, _⟩ => ⟨S_, .i32⟩
  | .hbm, ⟨3, _⟩ => ⟨S286734, .i32⟩
  | .hbm, ⟨4, _⟩ => ⟨S286734, .i1⟩
  | .hbm, ⟨5, _⟩ => ⟨S_, .i32⟩
  | .hbm, ⟨6, _⟩ => ⟨S286734, .i32⟩
  | .hbm, ⟨7, _⟩ => ⟨S286734, .i32⟩
  | .hbm, ⟨8, _⟩ => ⟨S286734, .i32⟩
  | .hbm, ⟨9, _⟩ => ⟨S286734x1, .i32⟩
  | .hbm, ⟨10, _⟩ => ⟨S286734x128x2, .f32⟩
  | .hbm, ⟨11, _⟩ => ⟨S40962x128x7x2, .f32⟩
  | .hbm, ⟨12, _⟩ => ⟨S40962x128x2x7, .f32⟩
  | .hbm, ⟨13, _⟩ => ⟨S40962x2x128x7, .f32⟩
  | .hbm, ⟨14, _⟩ => ⟨S2x40962x128x7, .f32⟩
  | .hbm, ⟨15, _⟩ => ⟨S_, .f32⟩
  | .hbm, ⟨16, _⟩ => ⟨S2x40962x128, .f32⟩
  | .hbm, ⟨17, _⟩ => ⟨S_, .f32⟩
  | .hbm, ⟨18, _⟩ => ⟨S2x40962x128, .f32⟩
  | .hbm, ⟨19, _⟩ => ⟨S2x40962x128, .f32⟩
  | .hbm, ⟨20, _⟩ => ⟨S40962x2x128, .f32⟩
  | .hbm, ⟨21, _⟩ => ⟨S40962x128x2, .f32⟩
  | _, _ => ⟨S163842x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Shadow.lean ====
/-
  A buffer that is filled in two regions and read as a whole.

  The kernel gathers rows into one half of a buffer while it loads vectors from the other half, and each such load
  names the whole buffer. So nobody may hold a half outright while its gather is in flight. Here every element's
  share is cut in two: the LEFT half travels with the region (with the code that reads it, or with the rows of the
  stream that fills it), the RIGHT half of the whole buffer stays in an invariant, the SHADOW. A row's write opens
  the shadow, joins the two halves of the row, writes and splits again; a load opens it and reads at the right half.
  At the end the shadow is closed for good: one exclusive token per row says that no row is in flight.
-/
module

public import Idealize.ShloMosaic.Lib.Transfers
public import Idealize.ShloMosaic.Lib.SparseCore.Ops
public import Idealize.ShloMosaic.Lib.SparseCore.Stream

@[expose] public section

noncomputable section

namespace Cert.Proof.Pool

open Idealize.ShloMosaic Idealize.ShloMosaic.SparseCore
open Idealize.SL Idealize.SL.RA
open Idealize.SL.BI (sProp Storable bigSep)
open scoped Idealize.SL.BI
open Idealize.SL.BI.BIBase Idealize.SL.BI.Laws Idealize.SL.Sem Idealize.SL.ProofMode

variable {nD : Nat} {τ : Topo} {sig : RefSig} {Ix : Type} [DecidableEq Ix] {F : FTy → Type} {Name : Type} [DecidableEq Name]
variable {U : Type} [URA U] {Lvl : Type} [Preorder Lvl]

local notation "𝕄" => MT nD τ sig Ix (Elt F) Name U Lvl

variable (EC : UEmb Counters (MT nD τ sig Ix (Elt F) Name U Lvl))

/-- The half share that travels with a region. -/
abbrev lSh : PosShare TreeShare := fullShare.left
/-- The half share that the shadow keeps. -/
abbrev rSh : PosShare TreeShare := fullShare.right

/-- The tokens of one region, one per row. -/
def toks {o : ℕ} (δ : Fin o → ℕ) : sProp 𝕄 := bigSep Finset.univ fun k => Transfers.tok EC (δ k)

/-- What the invariant keeps: the right half of the whole buffer, or (once closed for good) every token. -/
def shadowBody {o : ℕ} (ℓ : Loc nD τ sig) (δ : Fin 2 → Fin o → ℕ) : sProp 𝕄 :=
  iprop((∃ f : Buf (Elt F) ℓ, ℓ ↦[Finset.univ]{rSh} f) ∨ (toks EC (δ 0) ∗ toks EC (δ 1)))

instance shadowBody_storable [EC.LandsIn (upEmb : UEmb _ 𝕄)] {o : ℕ} (ℓ : Loc nD τ sig) (δ : Fin 2 → Fin o → ℕ) :
    Storable (upEmb : UEmb _ 𝕄) (shadowBody (F := F) EC ℓ δ) := by
  unfold shadowBody toks Transfers.tok count; infer_instance

/-- The two halves of a full share. -/
theorem halves {ℓ : Loc nD τ sig} (I : Finset (Idx ℓ)) (f : Buf (Elt F) ℓ) :
    (ℓ ↦[I]{fullShare} f : sProp 𝕄) ⊣⊢ iprop((ℓ ↦[I]{lSh} f) ∗ ℓ ↦[I]{rSh} f) :=
  pointsTo_share (PosShare.mem_left_op_right fullShare)

/-- A row's token excludes the closed shadow. -/
theorem closed_false {o : ℕ} (δ : Fin 2 → Fin o → ℕ) (b : Fin 2) (k : Fin o) :
    iprop(Transfers.tok EC (δ b k) ∗ toks EC (δ 0) ∗ toks EC (δ 1)) ⊢ (False : sProp 𝕄) := by
  have h : ∀ b', iprop(Transfers.tok EC (δ b' k) ∗ toks EC (δ b')) ⊢ (False : sProp 𝕄) := fun b' => by
    unfold toks
    iintro ⟨H, Hs⟩
    ihave H' := (show (bigSep _ _ : sProp 𝕄) ⊢ _ from BI.bigSep_elim (Finset.mem_univ k)) $$ Hs
    iapply (Transfers.tok_tok_false EC (δ b' k))
    isplitl [H] <;> iassumption
  iintro ⟨H, H0, H1⟩
  obtain rfl | rfl : b = 0 ∨ b = 1 := by omega
  · iapply (h 0); isplitl [H] <;> iassumption
  · iapply (h 1); isplitl [H] <;> iassumption

/-- A token per index of a finite type, all at once. -/
theorem tok_alloc {o : ℕ} : ∀ s : Finset (Fin o), (BI.emp : sProp 𝕄) ⊢ |==> ∃ δ : Fin o → ℕ, bigSep s fun k => Transfers.tok EC (δ k) := by
  intro s
  induction s using Finset.induction_on with
  | empty => iintro _; imodintro; iexists fun _ => 0; rw [BI.bigSep_empty]; iempintro
  | insert k s hk ih =>
    iintro _
    imod ih $$ [] with ⟨%δ, H⟩; · iempintro
    imod (count_alloc EC ∅) $$ [] with ⟨%γ, -, -, Hγ⟩; · iempintro
    imodintro
    iexists Function.update δ k γ
    iapply (Entails.of_eq (show iprop(Transfers.tok EC (Function.update δ k γ k) ∗ bigSep s fun j => Transfers.tok EC (Function.update δ k γ j)) = (bigSep (insert k s) (fun j => Transfers.tok EC (Function.update δ k γ j)) : sProp 𝕄) from (BI.bigSep_insert (Φ := fun j => (Transfers.tok EC (Function.update δ k γ j) : sProp 𝕄)) hk).symm))
    rw [Function.update_self]
    isplitl [Hγ]; · iexact Hγ
    iapply (Entails.of_eq (BI.bigSep_congr fun j hj => by
      rw [Function.update_of_ne (fun h : j = k => hk (h ▸ hj))])) $$ H

/-- The shadow is set up: from the whole buffer held outright, the left half of it, the shadow and every token. -/
theorem shadow_alloc [Infinite Name] [EC.LandsIn (upEmb : UEmb _ 𝕄)] (o : ℕ) {ℓ : Loc nD τ sig} (f : Buf (Elt F) ℓ) {E : Set Name} :
    (ℓ ↦[Finset.univ]{fullShare} f : sProp 𝕄)
      ⊢ |={E}=> iprop(∃ (ι : Name) (δ : Fin 2 → Fin o → ℕ), inv ι (shadowBody EC ℓ δ) ∗ (ℓ ↦[Finset.univ]{lSh} f) ∗ toks EC (δ 0) ∗ toks EC (δ 1)) := by
  iintro H
  ihave H' := (halves _ _).1 $$ H
  icases H' with ⟨Hl, Hr⟩
  imod (tok_alloc EC (Finset.univ : Finset (Fin o))) $$ [] with ⟨%δ₀, H0⟩; · iempintro
  imod (tok_alloc EC (Finset.univ : Finset (Fin o))) $$ [] with ⟨%δ₁, H1⟩; · iempintro
  imod (inv_alloc (P := shadowBody EC ℓ ![δ₀, δ₁]) (E := E)) $$ [Hr] with ⟨%ι, Hinv⟩
  · unfold shadowBody; ileft; iexists f; iexact Hr
  imodintro
  iexists ι, ![δ₀, δ₁]
  unfold toks
  isplitl [Hinv]; · iexact Hinv
  isplitl [Hl]; · iexact Hl
  isplitl [H0]; · iexact H0
  iexact H1

/-- The shadow is closed for good: with the left half of the whole buffer and every token, the buffer outright. -/
theorem shadow_close [EC.LandsIn (upEmb : UEmb _ 𝕄)] {o : ℕ} (ho : 0 < o) {ℓ : Loc nD τ sig} {f : Buf (Elt F) ℓ} {δ : Fin 2 → Fin o → ℕ} {ι : Name} :
    iprop(inv ι (shadowBody EC ℓ δ) ∗ (ℓ ↦[Finset.univ]{lSh} f) ∗ toks EC (δ 0) ∗ toks EC (δ 1))
      ⊢ (|={Set.univ}=> (ℓ ↦[Finset.univ]{fullShare} f) : sProp 𝕄) := by
  iintro ⟨Hinv, Hl, H0, H1⟩
  imod (inv_acc (Set.mem_univ ι)) $$ Hinv with ⟨Hb, Hclose⟩
  unfold shadowBody
  icases Hb with (⟨%f', Hr⟩ | ⟨Hd0, Hd1⟩)
  · ihave Hc := Hclose $$ [H0 H1]
    · iright; isplitl [H0] <;> iassumption
    imod Hc
    imodintro
    ihave %hag := pointsTo_agree $$ [Hl Hr]
    · isplitl [Hl] <;> iassumption
    iapply (halves _ _).2
    isplitl [Hl]; · iexact Hl
    iapply (Entails.of_eq (pointsTo_congr fun i hi => ((hag i (by simpa using hi)).1).symm)) $$ Hr
  · iexfalso
    unfold toks
    ihave H' := (show (bigSep _ _ : sProp 𝕄) ⊢ _ from BI.bigSep_elim (Finset.mem_univ (⟨0, ho⟩ : Fin o))) $$ H0
    iapply (closed_false (F := F) EC δ 0 ⟨0, ho⟩)
    unfold toks
    isplitl [H']; · iexact H'
    isplitl [Hd0] <;> iassumption

variable (c : Thread nD τ) {sp : Space} {s : Shape} {e : EltTy}

/-- Opening the shadow for a write of a view's elements whose left half and token are at hand, and closing it again. -/
theorem shadow_writeUpdate [EC.LandsIn (upEmb : UEmb _ 𝕄)] {o : ℕ} {v : View sig c.2.kind sp s e} {w : s.Idx → Elt F e} {fd : Buf (Elt F) (v.loc c)}
    {δ : Fin 2 → Fin o → ℕ} {ι : Name} (b : Fin 2) (k : Fin o) :
    iprop(inv ι (shadowBody EC (v.loc c) δ) ∗ (v.loc c ↦[v.set]{lSh} fd) ∗ Transfers.tok EC (δ b k))
      ⊢ writeUpdate c v w iprop((v.loc c ↦[v.set]{lSh} (v.write (Elt F) fd w Finset.univ)) ∗ Transfers.tok EC (δ b k)) := by
  rw [writeUpdate, writeUpdateFrom_def]
  iintro ⟨#Hinv, Hpt, Ht⟩
  iexists (fun M => iprop((v.loc c ↦[v.set]{lSh} (v.write (Elt F) fd w M)) ∗ Transfers.tok EC (δ b k)))
  simp only [View.write_empty]
  isplitl [Hpt Ht]; · isplitl [Hpt] <;> iassumption
  isplitr
  · rw [writeSteps_def]
    imodintro
    iintro %M %M' ⟨Hpt, Ht⟩
    rw [← View.write_write_union]
    imod (inv_acc (Set.mem_univ ι)) $$ Hinv with ⟨Hb, Hclose⟩
    unfold shadowBody
    icases Hb with (⟨%f', Hr⟩ | ⟨Hd0, Hd1⟩)
    · imodintro
      -- the row's part of the right half, and the rest of it
      ihave Hr' := (Entails.of_eq (show (v.loc c ↦[Finset.univ]{rSh} f' : sProp 𝕄) = v.loc c ↦[v.set ∪ Finset.univ \ v.set]{rSh} f' from by
        rw [Finset.union_sdiff_of_subset (Finset.subset_univ _)])) $$ Hr
      ihave Hr'' := (pointsTo_union Finset.disjoint_sdiff).1 $$ Hr'
      icases Hr'' with ⟨Hrow, Hrest⟩
      ihave %hag := pointsTo_agree $$ [Hpt Hrow]
      · isplitl [Hpt] <;> iassumption
      ihave Hrow' := (Entails.of_eq (pointsTo_congr (ℓ := v.loc c) (I := v.set) (q := rSh) (f := f') (g := v.write (Elt F) fd w M) fun i hi => ((hag i (by simpa using hi)).1).symm)) $$ Hrow
      ihave Hfull := (halves _ _).2 $$ [Hpt Hrow']
      · isplitl [Hpt] <;> iassumption
      rw [storeSpec_apply]
      iexists v.set, (v.write (Elt F) fd w M)
      isplitl [Hfull]; · iexact Hfull
      isplitr; · ipureintro; exact fun i hi => v.setOn_subset_set _ hi
      iintro Hfull
      ihave Hf' := (halves _ _).1 $$ Hfull
      icases Hf' with ⟨Hl, Hrow⟩
      ihave Hj := (pointsTo_join Finset.disjoint_sdiff) $$ [Hrow Hrest]
      · isplitl [Hrow] <;> iassumption
      ihave Hc := Hclose $$ [Hj]
      · ileft
        iexists _
        iapply (Entails.of_eq (congrArg (fun S => (v.loc c ↦[S]{rSh} _ : sProp 𝕄)) (Finset.union_sdiff_of_subset (Finset.subset_univ _)))) $$ Hj
      imod Hc
      imodintro
      isplitl [Hl] <;> iassumption
    · iexfalso
      iapply (closed_false (F := F) EC δ b k)
      isplitl [Ht]; · iexact Ht
      isplitl [Hd0] <;> iassumption
  · iintro H; iexact H

/-- The rows of a view held at one share, each written through its row view, are the view held at that share and
    written with the payload that the rows' payloads make up. -/
theorem rows_join (v : View sig c.2.kind sp s e) (a : Fin s.rank) (q : PosShare TreeShare) (f : Buf (Elt F) (v.loc c))
    (w : (k : Fin (s.size a)) → (s.rowShape a).Idx → Elt F e) (W : s.Idx → Elt F e) (hW : ∀ k j, w k j = W ((s.rowRect a k).emb j)) :
    bigSep Finset.univ (fun k => v.loc c ↦[(v.slice (s.rowRect a k)).set]{q} ((v.slice (s.rowRect a k)).write (Elt F) f (w k) Finset.univ))
      ⊢ (v.loc c ↦[v.set]{q} (v.write (Elt F) f W Finset.univ) : sProp 𝕄) := by
  rw [pointsTo_rows c v a q]
  refine BI.bigSep_mono fun k _ => Entails.of_eq (pointsTo_congr fun i hi => ?_)
  obtain ⟨j, -, rfl⟩ := Finset.mem_map.mp hi
  have h1 := View.write_emb_of_mem (Val := Elt F) (v := v.slice (s.rowRect a k)) f (w k) (Finset.mem_univ j)
  have h2 := View.write_emb_of_mem (Val := Elt F) (v := v) f W (Finset.mem_univ ((s.rowRect a k).emb j))
  rw [h1]
  change _ = v.write (Elt F) f W Finset.univ (v.emb ((s.rowRect a k).emb j))
  rw [h2, hW k j]

/-- The gather into a region of the shadowed buffer, its DMA semaphore held at zero: holding a share of the source, the
    LEFT half of the region, every token of the region and a share of the list, all of whose words are in range,
    the tile issues the stream and goes on with its flight, which delivers the left half of the region written with
    the gathered rows and everything else back. -/
theorem wp_gather_shadow [Infinite Name] [EC.LandsIn (upEmb : UEmb _ 𝕄)] {Λ : Labels} {defs : Defs nD τ sig (Elt F) Λ} (𝒱 : Variants)
    (bd : Option 𝒱.V) {s₀ si : Shape} {a : Nat} {α : Type} {Q : α → sProp 𝕄}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ix : Ix) (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis)
    {δ : Fin 2 → Fin (s.size hg.axis') → ℕ} {ι : Name} (b : Fin 2) :
    iprop(inv ι (shadowBody EC (dst.view.loc c) δ) ∗ (src.view.loc c ↦[src.view.set]{q} fs)
        ∗ (dst.view.loc c ↦[dst.view.set]{lSh} fd) ∗ toks EC (δ b)
        ∗ (offs.view.loc c ↦[offs.view.set]{qo} fo) ∗ semVal (c, SemLoc.dma sem) 0)
      ⊢ iprop((Transfers.Flight EC c (.dma sem) ix N
                iprop(((dst.view.loc c ↦[dst.view.set]{lSh}
                        (dst.view.write (Elt F) fd (gatherPayload hg (src.view.read (Elt F) fs) (rows (offs.view.read (Elt F) fo) hn hin)) Finset.univ)) ∗ toks EC (δ b))
                  ∗ (src.view.loc c ↦[src.view.set]{q} fs) ∗ (offs.view.loc c ↦[offs.view.set]{qo} fo))
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := Shape.size_pos_of_numel_pos hs _
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let rv : Fin (s.size hg.axis') → View sig c.2.kind .vmem (s.rowShape hg.axis') e := fun j => dst.view.slice (s.rowRect hg.axis' j)
  let am : Fin (s.size hg.axis') → ℕ := fun j => (dst.slice (s.rowRect hg.axis' j) (s.stride_rowRect hg.axis' j)).view.dmaCredit
  have ham : ∀ j, 0 < am j := fun j => View.dmaCredit_pos _ (rowShape_numel_pos hs _)
  let qk : Fin (s.size hg.axis') → PosShare TreeShare := pieceOf q _ ho
  let w : (j : Fin (s.size hg.axis')) → (s.rowShape hg.axis').Idx → Elt F e := fun j i => src.view.read (Elt F) fs (hg.rowIdx (r j) i)
  -- what row `j` delivers
  let R : Fin (s.size hg.axis') → sProp 𝕄 := fun j =>
    iprop((dst.view.loc c ↦[(rv j).set]{lSh} ((rv j).write (Elt F) fd (w j) Finset.univ)) ∗ Transfers.tok EC (δ b j))
  let D : Fin (s.size hg.axis') → sProp 𝕄 := fun j =>
    iprop((R j ∗ S.heldEntry qo fo j) ∗ (src.view.loc c ↦[src.view.set]{qk j} fs))
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hW : ∀ j i, w j i = gatherPayload hg (src.view.read (Elt F) fs) r ((s.rowRect hg.axis' j).emb i) := fun j i => by
    unfold gatherPayload; rw [Shape.Gathers.idx_rowRect_emb]
  have hD : ∀ j, Storable (upEmb : UEmb _ 𝕄) (D j) := fun j => by
    change Storable (upEmb : UEmb _ 𝕄) iprop((((dst.view.loc c ↦[(rv j).set]{lSh} ((rv j).write (Elt F) fd (w j) Finset.univ)) ∗ count EC (δ b j) 0) ∗ S.heldEntry qo fo j) ∗ (src.view.loc c ↦[src.view.set]{qk j} fs))
    unfold count
    infer_instance
  iintro ⟨#Hsh, Hs, Hd, Ht, Ho, Hv⟩ Hk
  imod (Transfers.stream_alloc EC ham D (g := (c, SemLoc.dma sem))) $$ Hv with ⟨%γ, %η, %κ, #Hinv, Hγ, Hη⟩
  ihave Hd' := (Entails.of_eq (pointsTo_rows c dst.view hg.axis' lSh fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ix N hA hrd hN) $$ [Hd' Ht Ho' Hs' Hγ]
  · have hrow : ∀ j, iprop((inv ι (shadowBody EC (dst.view.loc c) δ) ∗ inv κ (Transfers.streamBody EC (c, SemLoc.dma sem) am D γ η))
          ∗ (((((dst.view.loc c ↦[(rv j).set]{lSh} fd) ∗ Transfers.tok EC (δ b j)) ∗ S.heldEntry qo fo j)
          ∗ (src.view.loc c ↦[src.view.set]{qk j} fs)) ∗ count EC (γ j) 0))
        ⊢ iprop(S.heldEntry qo fo j ∗ (S.heldEntry qo fo j -∗ rowRes c (rd j))) := fun j => by
      iintro ⟨⟨#Hsh, #Hinv⟩, ⟨⟨⟨Hr, Ht⟩, He⟩, Hsq⟩, Hγj⟩
      isplitl [He]; · iexact He
      iintro He
      unfold rowRes
      iexists qk j, fs, iprop(R j ∗ S.heldEntry qo fo j)
      isplitl [Hsq]; · iexact Hsq
      isplitl [Hr Ht He]
      · iapply writeUpdate_frame
        isplitl [Hr Ht]
        · iapply (shadow_writeUpdate EC c (v := rv j) (ι := ι) b j)
          isplitr; · iexact Hsh
          isplitl [Hr] <;> iassumption
        · iexact He
      · iapply (Transfers.stream_creditUpdate EC (a := am) (D := D) (δ := η) j)
        isplitr; · iexact Hinv
        iexact Hγj
    unfold Stream.res toks
    ihave H0 := Transfers.bigSep_sep_in _ _ _ $$ [Hd' Ht]; · isplitl [Hd'] <;> iassumption
    ihave H1 := Transfers.bigSep_sep_in _ _ _ $$ [H0 Ho']; · isplitl [H0] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr
    · isplitr
      · iexact Hsh
      · iexact Hinv
    iexact H3
  · have hjoin : bigSep Finset.univ D
        ⊢ iprop(((dst.view.loc c ↦[dst.view.set]{lSh}
                  (dst.view.write (Elt F) fd (gatherPayload hg (src.view.read (Elt F) fs) (rows (offs.view.read (Elt F) fo) hn hin)) Finset.univ)) ∗ toks EC (δ b))
            ∗ (src.view.loc c ↦[src.view.set]{q} fs) ∗ (offs.view.loc c ↦[offs.view.set]{qo} fo)) := by
      iintro HD
      ihave H1 := Transfers.bigSep_sep_out _ _ _ $$ HD
      icases H1 with ⟨H2, Hsrc⟩
      ihave H3 := Transfers.bigSep_sep_out _ _ _ $$ H2
      icases H3 with ⟨H4, Hoffs⟩
      ihave H5 := Transfers.bigSep_sep_out _ _ _ $$ H4
      icases H5 with ⟨Hrows, Htk⟩
      isplitl [Hrows Htk]
      · isplitl [Hrows]
        · iapply (show bigSep Finset.univ (fun j => dst.view.loc c ↦[(rv j).set]{lSh} ((rv j).write (Elt F) fd (w j) Finset.univ)) ⊢ _ from rows_join c dst.view hg.axis' lSh fd w _ hW) $$ Hrows
        · unfold toks; iexact Htk
      isplitl [Hsrc]; · iapply (Entails.of_eq (pointsTo_piecesOf (src.view.set) fs ho q).symm) $$ Hsrc
      iapply (Entails.of_eq (pointsTo_entries c offs.view S.entry hen qo fo).symm) $$ Hoffs
    iintro Hcred
    iapply Hk
    iapply (Transfers.Flight_mono EC c hjoin)
    iapply (Transfers.stream_flight EC (a := am) hN)
    isplitr; · iexact Hinv
    isplitl [Hη] <;> iassumption

/-- A load of vectors from the whole of the shadowed buffer, holding the left half of some of its elements and a row's
    token: what is loaded is taken from contents that agree with the held ones on the held elements. -/
theorem wp_loadIdx_shadow [FloatOps F] [EC.LandsIn (upEmb : UEmb _ 𝕄)] {Λ : Labels} {defs : Defs nD τ sig (Elt F) Λ} (𝒱 : Variants)
    (bd : Option 𝒱.V) {α : Type} {Q : α → sProp 𝕄} {t : Shape} {base : Memref sig c.2.kind .vmem s e} {idxs : Fin s.rank → IVec t 32}
    {h : ∀ a x, (idxs a x).toNat < s.size a} {hl : base.view.Loads} {k : Vec F t e → Prog (TpuEff nD τ sig (Elt F) Λ c.2) α}
    {o : ℕ} {δ : Fin 2 → Fin o → ℕ} {ι : Name} (b : Fin 2) (j : Fin o)
    {S : Finset (Idx (base.view.loc c))} {g : Buf (Elt F) (base.view.loc c)} :
    iprop(inv ι (shadowBody EC (base.view.loc c) δ) ∗ (base.view.loc c ↦[S]{lSh} g) ∗ Transfers.tok EC (δ b j))
      ⊢ iprop((∀ f : Buf (Elt F) (base.view.loc c), ⌜∀ i ∈ S, f i = g i⌝ -∗ ((base.view.loc c ↦[S]{lSh} g) ∗ Transfers.tok EC (δ b j))
          -∗ wp frame (wpE defs 𝒱 c bd) Set.univ (k (loadIdx ((base.access (.whole s)).read (Elt F) f) idxs h)) Q)
        -∗ wp frame (wpE defs 𝒱 c bd) Set.univ (vectorLoadIdx base idxs h hl >>= k) Q) := by
  rw [vectorLoadIdx_bind]
  iintro ⟨#Hinv, Hpt, Ht⟩ Hk
  imod (inv_acc (Set.mem_univ ι)) $$ Hinv with ⟨Hb, Hclose⟩
  unfold shadowBody
  icases Hb with (⟨%f, Hr⟩ | ⟨Hd0, Hd1⟩)
  · imodintro
    ihave %hag := pointsTo_agree $$ [Hpt Hr]
    · isplitl [Hpt] <;> iassumption
    iapply (fp_load c (S := Finset.univ) (q := rSh) (f := f) (Finset.subset_univ _)) $$ Hr
    iintro Hr
    ihave Hc := Hclose $$ [Hr]
    · ileft; iexists f; iexact Hr
    imod Hc
    imodintro
    iapply Hk $$ %f [] [Hpt Ht]
    · ipureintro; exact fun i hi => ((hag i (by simpa using hi)).1).symm
    · isplitl [Hpt] <;> iassumption
  · iexfalso
    iapply (closed_false (F := F) EC δ b j)
    isplitl [Ht]; · iexact Ht
    isplitl [Hd0] <;> iassumption

end Cert.Proof.Pool
end
-- ==== Proof.Group.lean ====
/-
  The kernel's inner programs in closed form: one group of sixteen lanes (`grp`), one trip of a pooling loop (`trip`), one
  pooling loop (`pool`), one half of the output buffer (`poolHalf`), and the body of the outer loop as a sequence of
  these with its copies (`pair`). Pair.lean says that the generated body is `pair`.
-/
module

public import proofs.«01_k».proof.Defs
public import proofs.«01_k».proof.Proof.Gen.KernelIdeal
public import proofs.«01_k».proof.Proof.Gen.KernelIdeal.Skeleton
public import proofs.«01_k».proof.Proof.Shadow

@[expose] public section

noncomputable section

namespace Cert.Proof.Pool

open Cert.KernelIdeal Cert.KernelIdeal.Gen
open Idealize.ShloMosaic Idealize.SL.Sem

variable {F : FTy → Type} [FloatOps F] [Named F]

/-- The seven index triples of a group lie inside the gathered rows' buffer. -/
def chk7 (C R : Fin 7 → IVec S16 32) (bv : IVec S16 32) : Prop :=
  (∀ a x, ((![R 0, bv, C 0] : Fin 3 → IVec S16 32) a x).toNat < S224x2x128.size a) ∧
  (∀ a x, ((![R 1, bv, C 1] : Fin 3 → IVec S16 32) a x).toNat < S224x2x128.size a) ∧
  (∀ a x, ((![R 2, bv, C 2] : Fin 3 → IVec S16 32) a x).toNat < S224x2x128.size a) ∧
  (∀ a x, ((![R 3, bv, C 3] : Fin 3 → IVec S16 32) a x).toNat < S224x2x128.size a) ∧
  (∀ a x, ((![R 4, bv, C 4] : Fin 3 → IVec S16 32) a x).toNat < S224x2x128.size a) ∧
  (∀ a x, ((![R 5, bv, C 5] : Fin 3 → IVec S16 32) a x).toNat < S224x2x128.size a) ∧
  (∀ a x, ((![R 6, bv, C 6] : Fin 3 → IVec S16 32) a x).toNat < S224x2x128.size a)

instance chk7.dec (C R : Fin 7 → IVec S16 32) (bv : IVec S16 32) : Decidable (chk7 C R bv) :=
  decidable_of_iff' _ (Iff.of_eq (chk7.eq_1 C R bv))

/-- The mean of seven vectors, in the kernel's order of additions. -/
def mean7 (v0 v1 v2 v3 v4 v5 v6 : Vec F S16 .f32) : FVec F S16 .f32 :=
  mulf (addf (addf (addf v0 v1) (addf v2 v3)) (addf (addf v4 v5) v6)) (broadcast S16 (Named.named κ "seventh" 0x3E124925#32))

/-- One group: seven vectors gathered from the buffer of rows, their mean stored as sixteen lanes of the output buffer. -/
def grp (i : grid0.Coords) (arg6 : Memref sig .scVector .vmem S224x2x128 .f32) (arg7 : Memref sig .scVector .vmem S32x2x128 .f32)
    (C R : Fin 7 → IVec S16 32) (bv : IVec S16 32) (off : Fin 3 → ℕ) (inb : ∀ a, off a + S1x1x16.size a ≤ S32x2x128.size a) :
    Prog (TpuEff nD τ sig (Elt F) Λ₀ (.scVector ((i 0).castLE hcore0) ((i 1).castLE hsub0))) Unit := do
  have hw : chk7 C R bv := (← Prog.lift (TpuEff.assume (chk7 C R bv) (chk7.dec C R bv))).down
  let v0 : Vec F S16 .f32 ← SparseCore.vectorLoadIdx arg6 ![R 0, bv, C 0] hw.1 (View.loads_vmem h_S224x2x128)
  let v1 : Vec F S16 .f32 ← SparseCore.vectorLoadIdx arg6 ![R 1, bv, C 1] hw.2.1 (View.loads_vmem h_S224x2x128)
  let v2 : Vec F S16 .f32 ← SparseCore.vectorLoadIdx arg6 ![R 2, bv, C 2] hw.2.2.1 (View.loads_vmem h_S224x2x128)
  let v3 : Vec F S16 .f32 ← SparseCore.vectorLoadIdx arg6 ![R 3, bv, C 3] hw.2.2.2.1 (View.loads_vmem h_S224x2x128)
  let v4 : Vec F S16 .f32 ← SparseCore.vectorLoadIdx arg6 ![R 4, bv, C 4] hw.2.2.2.2.1 (View.loads_vmem h_S224x2x128)
  let v5 : Vec F S16 .f32 ← SparseCore.vectorLoadIdx arg6 ![R 5, bv, C 5] hw.2.2.2.2.2.1 (View.loads_vmem h_S224x2x128)
  let v6 : Vec F S16 .f32 ← SparseCore.vectorLoadIdx arg6 ![R 6, bv, C 6] hw.2.2.2.2.2.2 (View.loads_vmem h_S224x2x128)
  let _ld : Vec F S1x1x16 .f32 ← Prog.lift (.load arg7 (Rect.unit (s := S32x2x128) off S1x1x16.size inb).toLoadRect (View.loadsAt_vmem h_S1x1x16))
  Prog.lift (.store arg7 (Rect.unit (s := S32x2x128) off S1x1x16.size inb) (shapeCast S1x1x16 (mean7 v0 v1 v2 v3 v4 v5 v6) shapeCasts_S16_S1x1x16) Finset.univ (View.stores_vmem_bits_univ h_S1x1x16 rfl) (.inl rfl))

/-- The row vectors of a node: the loop's row vectors plus the node's first row, `base + 7 * n`. -/
def rowsAt (R : Fin 7 → IVec S16 32) (base n : BitVec 32) : Fin 7 → IVec S16 32 :=
  fun k => addi (R k) (broadcast S16 (Scalar.addi base (Scalar.muli 7#32 n)))

/-- The batch index as a vector. -/
def batch (v9 : IVec S16 32) (b : BitVec 32) : IVec S16 32 := addi (broadcast S16 b) (muli (broadcast S16 0#32) v9)

/-- One trip of a pooling loop: two nodes, and for each the two batch entries. -/
def trip (i : grid0.Coords) (arg6 : Memref sig .scVector .vmem S224x2x128 .f32) (arg7 : Memref sig .scVector .vmem S32x2x128 .f32)
    (C R : Fin 7 → IVec S16 32) (v9 : IVec S16 32) (base iv : BitVec 32) (o00 o01 o10 o11 : Fin 3 → ℕ)
    (h00 : ∀ a, o00 a + S1x1x16.size a ≤ S32x2x128.size a) (h01 : ∀ a, o01 a + S1x1x16.size a ≤ S32x2x128.size a)
    (h10 : ∀ a, o10 a + S1x1x16.size a ≤ S32x2x128.size a) (h11 : ∀ a, o11 a + S1x1x16.size a ≤ S32x2x128.size a) :
    Prog (TpuEff nD τ sig (Elt F) Λ₀ (.scVector ((i 0).castLE hcore0) ((i 1).castLE hsub0))) Unit := do
  grp i arg6 arg7 C (rowsAt R base (Scalar.addi (Scalar.muli 2#32 iv) 0#32)) (batch v9 0#32) o00 h00
  grp i arg6 arg7 C (rowsAt R base (Scalar.addi (Scalar.muli 2#32 iv) 0#32)) (batch v9 1#32) o01 h01
  grp i arg6 arg7 C (rowsAt R base (Scalar.addi (Scalar.muli 2#32 iv) 1#32)) (batch v9 0#32) o10 h10
  grp i arg6 arg7 C (rowsAt R base (Scalar.addi (Scalar.muli 2#32 iv) 1#32)) (batch v9 1#32) o11 h11

/-- The lane positions of the group of sixteen lanes that starts at word `B` of a node's 896 gathered words. -/
def lanePos (v9 : IVec S16 32) (B : BitVec 32) (k : Fin 7) : IVec S16 32 :=
  addi (addi (broadcast S16 B) v9) (broadcast S16 (BitVec.ofNat 32 k.val))

/-- Which of the node's seven rows each lane reads. -/
def rowVec (v9 : IVec S16 32) (B : BitVec 32) : Fin 7 → IVec S16 32 := fun k => shrui (lanePos v9 B k) (broadcast S16 7#32)

/-- Which column of that row each lane reads. -/
def colVec (v9 : IVec S16 32) (B : BitVec 32) : Fin 7 → IVec S16 32 := fun k => andi (lanePos v9 B k) (broadcast S16 127#32)

/-- The offsets of the four stores of a trip, inside the output buffer. -/
structure Offs where
  o : Fin k0_t2_loop.trips → Fin 4 → Fin 3 → ℕ
  h0 : ∀ t a, o t 0 a + S1x1x16.size a ≤ S32x2x128.size a
  h1 : ∀ t a, o t 1 a + S1x1x16.size a ≤ S32x2x128.size a
  h2 : ∀ t a, o t 2 a + S1x1x16.size a ≤ S32x2x128.size a
  h3 : ∀ t a, o t 3 a + S1x1x16.size a ≤ S32x2x128.size a

/-- A pooling loop: sixteen nodes, two a trip, for the group of lanes that starts at word `B`. -/
def pool (i : grid0.Coords) (arg6 : Memref sig .scVector .vmem S224x2x128 .f32) (arg7 : Memref sig .scVector .vmem S32x2x128 .f32)
    (base B : BitVec 32) (O : Offs) :
    Prog (TpuEff nD τ sig (Elt F) Λ₀ (.scVector ((i 0).castLE hcore0) ((i 1).castLE hsub0))) Unit :=
  Scf.Loop.for k0_t2_loop k0_t2_ok ⟨⟩ fun t _ =>
    trip i arg6 arg7 (colVec k0_pay1241 B) (rowVec k0_pay1241 B) k0_pay1241 base (Scf.iv 0#32 1#32 t) (O.o t 0) (O.o t 1) (O.o t 2) (O.o t 3)
      (O.h0 t) (O.h1 t) (O.h2 t) (O.h3 t)

/-- The stores' offsets of each pooling loop: eight loops for each half of the output buffer. -/
def offs : Fin 2 → Fin 8 → Offs :=
  ![![⟨fun t => ![k0_off5 t, k0_off6 t, k0_off7 t, k0_off8 t], k0_off5_inb, k0_off6_inb, k0_off7_inb, k0_off8_inb⟩,
      ⟨fun t => ![k0_off9 t, k0_off10 t, k0_off11 t, k0_off12 t], k0_off9_inb, k0_off10_inb, k0_off11_inb, k0_off12_inb⟩,
      ⟨fun t => ![k0_off13 t, k0_off14 t, k0_off15 t, k0_off16 t], k0_off13_inb, k0_off14_inb, k0_off15_inb, k0_off16_inb⟩,
      ⟨fun t => ![k0_off17 t, k0_off18 t, k0_off19 t, k0_off20 t], k0_off17_inb, k0_off18_inb, k0_off19_inb, k0_off20_inb⟩,
      ⟨fun t => ![k0_off21 t, k0_off22 t, k0_off23 t, k0_off24 t], k0_off21_inb, k0_off22_inb, k0_off23_inb, k0_off24_inb⟩,
      ⟨fun t => ![k0_off25 t, k0_off26 t, k0_off27 t, k0_off28 t], k0_off25_inb, k0_off26_inb, k0_off27_inb, k0_off28_inb⟩,
      ⟨fun t => ![k0_off29 t, k0_off30 t, k0_off31 t, k0_off32 t], k0_off29_inb, k0_off30_inb, k0_off31_inb, k0_off32_inb⟩,
      ⟨fun t => ![k0_off33 t, k0_off34 t, k0_off35 t, k0_off36 t], k0_off33_inb, k0_off34_inb, k0_off35_inb, k0_off36_inb⟩],
    ![⟨fun t => ![k0_off41 t, k0_off42 t, k0_off43 t, k0_off44 t], k0_off41_inb, k0_off42_inb, k0_off43_inb, k0_off44_inb⟩,
      ⟨fun t => ![k0_off45 t, k0_off46 t, k0_off47 t, k0_off48 t], k0_off45_inb, k0_off46_inb, k0_off47_inb, k0_off48_inb⟩,
      ⟨fun t => ![k0_off49 t, k0_off50 t, k0_off51 t, k0_off52 t], k0_off49_inb, k0_off50_inb, k0_off51_inb, k0_off52_inb⟩,
      ⟨fun t => ![k0_off53 t, k0_off54 t, k0_off55 t, k0_off56 t], k0_off53_inb, k0_off54_inb, k0_off55_inb, k0_off56_inb⟩,
      ⟨fun t => ![k0_off57 t, k0_off58 t, k0_off59 t, k0_off60 t], k0_off57_inb, k0_off58_inb, k0_off59_inb, k0_off60_inb⟩,
      ⟨fun t => ![k0_off61 t, k0_off62 t, k0_off63 t, k0_off64 t], k0_off61_inb, k0_off62_inb, k0_off63_inb, k0_off64_inb⟩,
      ⟨fun t => ![k0_off65 t, k0_off66 t, k0_off67 t, k0_off68 t], k0_off65_inb, k0_off66_inb, k0_off67_inb, k0_off68_inb⟩,
      ⟨fun t => ![k0_off69 t, k0_off70 t, k0_off71 t, k0_off72 t], k0_off69_inb, k0_off70_inb, k0_off71_inb, k0_off72_inb⟩]]

/-- Half `b` of the output buffer from the gathered rows, one group of lanes after the other. -/
def poolHalf (i : grid0.Coords) (arg6 : Memref sig .scVector .vmem S224x2x128 .f32) (arg7 : Memref sig .scVector .vmem S32x2x128 .f32) (b : Fin 2) (base : BitVec 32) :
    Prog (TpuEff nD τ sig (Elt F) Λ₀ (.scVector ((i 0).castLE hcore0) ((i 1).castLE hsub0))) Unit := do
  pool i arg6 arg7 base 0#32 (offs b 0)
  pool i arg6 arg7 base 112#32 (offs b 1)
  pool i arg6 arg7 base 224#32 (offs b 2)
  pool i arg6 arg7 base 336#32 (offs b 3)
  pool i arg6 arg7 base 448#32 (offs b 4)
  pool i arg6 arg7 base 560#32 (offs b 5)
  pool i arg6 arg7 base 672#32 (offs b 6)
  pool i arg6 arg7 base 784#32 (offs b 7)

/-- An action under a condition. -/
def opt {E : Type → Type} (c : Prop) [Decidable c] (a : c → Prog E Unit) : Prog E Unit := if h : c then a h else pure ⟨⟩

/-- An action under a condition, and what follows it, as one choice. -/
theorem opt_bind {E : Type → Type} {α : Type} (c : Prop) [Decidable c] (a : c → Prog E Unit) (k : Unit → Prog E α) :
    opt c a >>= k = if h : c then a h >>= k else k ⟨⟩ := by
  unfold opt
  split <;> simp only [pure_bind]

/-- A choice between an action and nothing is the action under its condition. -/
theorem opt_pure {E : Type → Type} {α : Type} (c : Prop) [Decidable c] (a : c → Prog E Unit) (v : α) :
    (if h : c then a h >>= fun _ => pure v else pure v) = opt c a >>= fun _ => pure v := by
  rw [opt_bind]

/-- The start of a pair: chunk `2 * t`'s rows are waited for, the next gather is started, and the first half of the output buffer is claimed back. -/
def pairStart (i : grid0.Coords) (arg2 : Memref sig .scVector .hbm S163842x2x128 .f32) (harg2 : arg2.IsWhole) (arg3 : Memref sig .scVector .hbm S297472 .i32) (harg3 : arg3.IsWhole) (arg4 : Memref sig .scVector .hbm S40962x2x128 .f32) (harg4 : arg4.IsWhole) (arg5 : Memref sig .scVector .vmem S12096 .i32) (harg5 : arg5.IsWhole) (arg6 : Memref sig .scVector .vmem S224x2x128 .f32) (harg6 : arg6.IsWhole) (arg7 : Memref sig .scVector .vmem S32x2x128 .f32) (harg7 : arg7.IsWhole) (arg8 : DmaSems sig S_) (arg9 : DmaSems sig S_) (arg10 : DmaSems sig S_) (arg11 : DmaSems sig S_) (v33_r0 : DmaSems sig S_) (v1265_r1 : DmaSems sig S_) (v1265_r2 : DmaSems sig S_) (v1265_r3 : DmaSems sig S_) (v1265_r4 : DmaSems sig S_) (v4 : BitVec 32) (t : Fin (k0_t1_loop i).trips) :
    Prog (TpuEff nD τ sig (Elt F) Λ₀ (.scVector ((i 0).castLE hcore0) ((i 1).castLE hsub0))) Unit := do
  SparseCore.waitIndirectGather arg8.sem (arg2.slice (Rect.unit (s := S163842x2x128) ![0, 0, 0] S163842x2x128.size inb_S163842x2x128_S163842x2x128_0_0_0) (fun _ => rfl)) (arg6.slice (Rect.unit (s := S224x2x128) ![0, 0, 0] S112x2x128.size inb_S224x2x128_S112x2x128_0_0_0) (fun _ => rfl)) (View.wordExact_bits rfl) (View.wordExact_bits rfl)
  SparseCore.enqueueIndirectGather rfl (arg2.slice (Rect.unit (s := S163842x2x128) ![0, 0, 0] S163842x2x128.size inb_S163842x2x128_S163842x2x128_0_0_0) (fun _ => rfl)) (arg6.slice (Rect.unit (s := S224x2x128) ![112, 0, 0] S112x2x128.size inb_S224x2x128_S112x2x128_112_0_0) (fun _ => rfl)) gathers_S163842x2x128_S112x2x128 (arg5.slice (Rect.unit (s := S12096) (k0_off3 i t) S112.size (k0_off3_inb i t)) (fun _ => rfl)) rfl arg9.sem (View.wordExact_bits rfl) rfl (Or.inl rfl)
  opt (k0_cond1 i t = 1#1) fun h1 => Prog.lift (.waitDma2 arg10.sem (arg7.slice (Rect.unit (s := S32x2x128) ![0, 0, 0] S16x2x128.size inb_S32x2x128_S16x2x128_0_0_0) (fun _ => rfl)) (arg4.slice (Rect.unit (s := S40962x2x128) (k0_off4 i t) S16x2x128.size (k0_off4_inb i t h1)) (fun _ => rfl)) (View.wordExact_bits rfl) (View.wordExact_bits rfl))

/-- The middle of a pair: the first half goes out, chunk `2 * t + 1`'s rows are waited for, the next gather is started, and the second half is claimed back. -/
def pairMid (i : grid0.Coords) (arg2 : Memref sig .scVector .hbm S163842x2x128 .f32) (harg2 : arg2.IsWhole) (arg3 : Memref sig .scVector .hbm S297472 .i32) (harg3 : arg3.IsWhole) (arg4 : Memref sig .scVector .hbm S40962x2x128 .f32) (harg4 : arg4.IsWhole) (arg5 : Memref sig .scVector .vmem S12096 .i32) (harg5 : arg5.IsWhole) (arg6 : Memref sig .scVector .vmem S224x2x128 .f32) (harg6 : arg6.IsWhole) (arg7 : Memref sig .scVector .vmem S32x2x128 .f32) (harg7 : arg7.IsWhole) (arg8 : DmaSems sig S_) (arg9 : DmaSems sig S_) (arg10 : DmaSems sig S_) (arg11 : DmaSems sig S_) (v33_r0 : DmaSems sig S_) (v1265_r1 : DmaSems sig S_) (v1265_r2 : DmaSems sig S_) (v1265_r3 : DmaSems sig S_) (v1265_r4 : DmaSems sig S_) (v4 : BitVec 32) (t : Fin (k0_t1_loop i).trips) :
    Prog (TpuEff nD τ sig (Elt F) Λ₀ (.scVector ((i 0).castLE hcore0) ((i 1).castLE hsub0))) Unit := do
  opt (k0_cond2 i t = 1#1) fun h2 => Prog.lift (.enqueueDma (arg7.slice (Rect.unit (s := S32x2x128) ![0, 0, 0] S16x2x128.size inb_S32x2x128_S16x2x128_0_0_0) (fun _ => rfl)) (.here (arg4.slice (Rect.unit (s := S40962x2x128) (k0_off37 i t) S16x2x128.size (k0_off37_inb i t h2)) (fun _ => rfl))) (.dma arg10.sem) (View.wordExact_bits rfl) (View.wordExact_bits rfl) ⟨Or.inl rfl, trivial⟩)
  opt (Scalar.cmpi .ne (Scalar.extui (Scalar.cmpi .eq (Scalar.muli (Scalar.addi v4 (Scalar.muli 2#32 (Scf.iv 0#32 1#32 t))) 16#32) 40960#32) : BitVec 32) 0#32 = 1#1) fun _h3 => do
    Prog.lift (.enqueueDma (arg7.slice (Rect.unit (s := S32x2x128) ![0, 0, 0] S2x2x128.size inb_S32x2x128_S2x2x128_0_0_0) (fun _ => rfl)) (.here (arg4.slice (Rect.unit (s := S40962x2x128) ![40960, 0, 0] S2x2x128.size inb_S40962x2x128_S2x2x128_40960_0_0) (fun _ => rfl))) (.dma v1265_r1.sem) (View.wordExact_bits rfl) (View.wordExact_bits rfl) ⟨Or.inl rfl, trivial⟩)
    Prog.lift (.waitDma2 v1265_r1.sem (arg7.slice (Rect.unit (s := S32x2x128) ![0, 0, 0] S2x2x128.size inb_S32x2x128_S2x2x128_0_0_0) (fun _ => rfl)) (arg4.slice (Rect.unit (s := S40962x2x128) ![40960, 0, 0] S2x2x128.size inb_S40962x2x128_S2x2x128_40960_0_0) (fun _ => rfl)) (View.wordExact_bits rfl) (View.wordExact_bits rfl))
  SparseCore.waitIndirectGather arg9.sem (arg2.slice (Rect.unit (s := S163842x2x128) ![0, 0, 0] S163842x2x128.size inb_S163842x2x128_S163842x2x128_0_0_0) (fun _ => rfl)) (arg6.slice (Rect.unit (s := S224x2x128) ![112, 0, 0] S112x2x128.size inb_S224x2x128_S112x2x128_112_0_0) (fun _ => rfl)) (View.wordExact_bits rfl) (View.wordExact_bits rfl)
  opt (k0_cond4 i t = 1#1) fun h4 => SparseCore.enqueueIndirectGather rfl (arg2.slice (Rect.unit (s := S163842x2x128) ![0, 0, 0] S163842x2x128.size inb_S163842x2x128_S163842x2x128_0_0_0) (fun _ => rfl)) (arg6.slice (Rect.unit (s := S224x2x128) ![0, 0, 0] S112x2x128.size inb_S224x2x128_S112x2x128_0_0_0) (fun _ => rfl)) gathers_S163842x2x128_S112x2x128 (arg5.slice (Rect.unit (s := S12096) (k0_off39 i t) S112.size (k0_off39_inb i t h4)) (fun _ => rfl)) rfl arg8.sem (View.wordExact_bits rfl) rfl (Or.inl rfl)
  opt (k0_cond5 i t = 1#1) fun h5 => Prog.lift (.waitDma2 arg11.sem (arg7.slice (Rect.unit (s := S32x2x128) ![16, 0, 0] S16x2x128.size inb_S32x2x128_S16x2x128_16_0_0) (fun _ => rfl)) (arg4.slice (Rect.unit (s := S40962x2x128) (k0_off40 i t) S16x2x128.size (k0_off40_inb i t h5)) (fun _ => rfl)) (View.wordExact_bits rfl) (View.wordExact_bits rfl))

/-- The end of a pair: the second half goes out. -/
def pairEnd (i : grid0.Coords) (arg2 : Memref sig .scVector .hbm S163842x2x128 .f32) (harg2 : arg2.IsWhole) (arg3 : Memref sig .scVector .hbm S297472 .i32) (harg3 : arg3.IsWhole) (arg4 : Memref sig .scVector .hbm S40962x2x128 .f32) (harg4 : arg4.IsWhole) (arg5 : Memref sig .scVector .vmem S12096 .i32) (harg5 : arg5.IsWhole) (arg6 : Memref sig .scVector .vmem S224x2x128 .f32) (harg6 : arg6.IsWhole) (arg7 : Memref sig .scVector .vmem S32x2x128 .f32) (harg7 : arg7.IsWhole) (arg8 : DmaSems sig S_) (arg9 : DmaSems sig S_) (arg10 : DmaSems sig S_) (arg11 : DmaSems sig S_) (v33_r0 : DmaSems sig S_) (v1265_r1 : DmaSems sig S_) (v1265_r2 : DmaSems sig S_) (v1265_r3 : DmaSems sig S_) (v1265_r4 : DmaSems sig S_) (v4 : BitVec 32) (t : Fin (k0_t1_loop i).trips) :
    Prog (TpuEff nD τ sig (Elt F) Λ₀ (.scVector ((i 0).castLE hcore0) ((i 1).castLE hsub0))) Unit := do
  opt (k0_cond6 i t = 1#1) fun h6 => Prog.lift (.enqueueDma (arg7.slice (Rect.unit (s := S32x2x128) ![16, 0, 0] S16x2x128.size inb_S32x2x128_S16x2x128_16_0_0) (fun _ => rfl)) (.here (arg4.slice (Rect.unit (s := S40962x2x128) (k0_off73 i t) S16x2x128.size (k0_off73_inb i t h6)) (fun _ => rfl))) (.dma arg11.sem) (View.wordExact_bits rfl) (View.wordExact_bits rfl) ⟨Or.inl rfl, trivial⟩)
  opt (Scalar.cmpi .ne (Scalar.extui (Scalar.cmpi .eq (Scalar.muli (Scalar.addi v4 (Scalar.addi (Scalar.muli 2#32 (Scf.iv 0#32 1#32 t)) 1#32)) 16#32) 40960#32) : BitVec 32) 0#32 = 1#1) fun _h7 => do
    Prog.lift (.enqueueDma (arg7.slice (Rect.unit (s := S32x2x128) ![16, 0, 0] S2x2x128.size inb_S32x2x128_S2x2x128_16_0_0) (fun _ => rfl)) (.here (arg4.slice (Rect.unit (s := S40962x2x128) ![40960, 0, 0] S2x2x128.size inb_S40962x2x128_S2x2x128_40960_0_0) (fun _ => rfl))) (.dma v1265_r2.sem) (View.wordExact_bits rfl) (View.wordExact_bits rfl) ⟨Or.inl rfl, trivial⟩)
    Prog.lift (.waitDma2 v1265_r2.sem (arg7.slice (Rect.unit (s := S32x2x128) ![16, 0, 0] S2x2x128.size inb_S32x2x128_S2x2x128_16_0_0) (fun _ => rfl)) (arg4.slice (Rect.unit (s := S40962x2x128) ![40960, 0, 0] S2x2x128.size inb_S40962x2x128_S2x2x128_40960_0_0) (fun _ => rfl)) (View.wordExact_bits rfl) (View.wordExact_bits rfl))
    pure ⟨⟩

/-- One pair of chunks. -/
def pair (i : grid0.Coords) (arg2 : Memref sig .scVector .hbm S163842x2x128 .f32) (harg2 : arg2.IsWhole) (arg3 : Memref sig .scVector .hbm S297472 .i32) (harg3 : arg3.IsWhole) (arg4 : Memref sig .scVector .hbm S40962x2x128 .f32) (harg4 : arg4.IsWhole) (arg5 : Memref sig .scVector .vmem S12096 .i32) (harg5 : arg5.IsWhole) (arg6 : Memref sig .scVector .vmem S224x2x128 .f32) (harg6 : arg6.IsWhole) (arg7 : Memref sig .scVector .vmem S32x2x128 .f32) (harg7 : arg7.IsWhole) (arg8 : DmaSems sig S_) (arg9 : DmaSems sig S_) (arg10 : DmaSems sig S_) (arg11 : DmaSems sig S_) (v33_r0 : DmaSems sig S_) (v1265_r1 : DmaSems sig S_) (v1265_r2 : DmaSems sig S_) (v1265_r3 : DmaSems sig S_) (v1265_r4 : DmaSems sig S_) (v4 : BitVec 32) (t : Fin (k0_t1_loop i).trips) :
    Prog (TpuEff nD τ sig (Elt F) Λ₀ (.scVector ((i 0).castLE hcore0) ((i 1).castLE hsub0))) Unit := do
  pairStart i arg2 harg2 arg3 harg3 arg4 harg4 arg5 harg5 arg6 harg6 arg7 harg7 arg8 arg9 arg10 arg11 v33_r0 v1265_r1 v1265_r2 v1265_r3 v1265_r4 v4 t
  poolHalf i arg6 arg7 0 0#32
  pairMid i arg2 harg2 arg3 harg3 arg4 harg4 arg5 harg5 arg6 harg6 arg7 harg7 arg8 arg9 arg10 arg11 v33_r0 v1265_r1 v1265_r2 v1265_r3 v1265_r4 v4 t
  poolHalf i arg6 arg7 1 112#32
  pairEnd i arg2 harg2 arg3 harg3 arg4 harg4 arg5 harg5 arg6 harg6 arg7 harg7 arg8 arg9 arg10 arg11 v33_r0 v1265_r1 v1265_r2 v1265_r3 v1265_r4 v4 t

end Cert.Proof.Pool
end
-- ==== Proof.Values.lean ====
/-
  The values: what the gathered rows' buffer and the output buffer hold for a chunk, and the pooled array, all read off
  the array `x2` of rows and the list `no2` of row numbers. Row `n` of the pooled array, batch entry `bb`, lane `l` is
  the mean of the seven words `7 * l, …, 7 * l + 6` of the 896 words that node `n`'s seven rows hold in a row.
-/
module

public import proofs.«01_k».proof.Proof.Group

@[expose] public section

noncomputable section

namespace Cert.Proof.Pool

open Cert.KernelIdeal Cert.KernelIdeal.Gen
open Idealize.ShloMosaic

variable {F : FTy → Type} [FloatOps F] [Named F]

/-- The mean of seven words, in the kernel's order of additions. -/
def mean1 (a : Fin 7 → F .f32) : F .f32 :=
  FloatOps.mulf (FloatOps.addf (FloatOps.addf (FloatOps.addf (a 0) (a 1)) (FloatOps.addf (a 2) (a 3)))
    (FloatOps.addf (FloatOps.addf (a 4) (a 5)) (a 6))) (Named.named κ "seventh" 0x3E124925#32)

/-- Entry `n` of the list of row numbers. -/
def numAt (no : S297472.Idx → BitVec 32) (n : ℕ) : ℕ := (no fun | 0 => ⟨n % 297472, Nat.mod_lt _ (by decide)⟩).toNat

/-- The word of `x2` at row `r`, batch entry `bb`, column `c`. -/
def xAt (x : S163842x2x128.Idx → F .f32) (r bb c : ℕ) : F .f32 :=
  x fun
    | 0 => ⟨r % 163842, Nat.mod_lt _ (by decide)⟩
    | 1 => ⟨bb % 2, Nat.mod_lt _ (by decide)⟩
    | 2 => ⟨c % 128, Nat.mod_lt _ (by decide)⟩

/-- The pooled word of node `n`, batch entry `bb`, lane `l`. -/
def node (x : S163842x2x128.Idx → F .f32) (no : S297472.Idx → BitVec 32) (n bb l : ℕ) : F .f32 :=
  mean1 fun k => xAt x (numAt no (7 * n + (7 * l + k.val) / 128)) bb ((7 * l + k.val) % 128)

/-- The pooled array. -/
def pooled (x : S163842x2x128.Idx → F .f32) (no : S297472.Idx → BitVec 32) : S40962x2x128.Idx → F .f32 :=
  fun p => node x no (p 0).val (p 1).val (p 2).val

/-- What half `b` of the gathered rows' buffer holds of chunk `k`. -/
def gathered (x : S163842x2x128.Idx → F .f32) (no : S297472.Idx → BitVec 32) (k : ℕ) (b : Fin 2) : S224x2x128.Idx → F .f32 :=
  fun p => xAt x (numAt no (112 * k + ((p 0).val - 112 * b.val))) (p 1).val (p 2).val

/-- What half `b` of the output buffer holds of chunk `k` when it is pooled. -/
def pooledBuf (x : S163842x2x128.Idx → F .f32) (no : S297472.Idx → BitVec 32) (k : ℕ) (b : Fin 2) : S32x2x128.Idx → F .f32 :=
  fun p => node x no (16 * k + ((p 0).val - 16 * b.val)) (p 1).val (p 2).val

/-! ## The index vectors -/

/-- Lane `x`, as an index of a vector of sixteen lanes. -/
def lane (x : Fin 16) : S16.Idx := fun | 0 => x

/-- The row, among a node's seven, of the word that lane `x` reads in place `k`. -/
theorem rowVec_toNat : ∀ (g : Fin 8) (k : Fin 7) (x : Fin 16),
    (rowVec k0_pay1241 (BitVec.ofNat 32 (112 * g.val)) k (lane x)).toNat = (112 * g.val + 7 * x.val + k.val) / 128 := by
  decide +kernel

/-- The column of the word that lane `x` reads in place `k`. -/
theorem colVec_toNat : ∀ (g : Fin 8) (k : Fin 7) (x : Fin 16),
    (colVec k0_pay1241 (BitVec.ofNat 32 (112 * g.val)) k (lane x)).toNat = (112 * g.val + 7 * x.val + k.val) % 128 := by
  decide +kernel

/-- Every lane reads the same batch entry. -/
theorem batch_toNat : ∀ (b : Fin 2) (x : Fin 16), (batch k0_pay1241 (BitVec.ofNat 32 b.val) (lane x)).toNat = b.val := by
  decide +kernel

/-- Every index of a vector of sixteen lanes is a lane. -/
theorem lane_eq (x : S16.Idx) : x = lane (x 0) := by
  funext a
  match a with
  | 0 => rfl

/-- The row of the buffer that a lane reads: the half's, the node's, and the one among the node's seven. -/
theorem rowsAt_toNat (g : Fin 8) (k : Fin 7) (x : S16.Idx) (b : Fin 2) (t : Fin 8) (n : Fin 2) :
    (rowsAt (rowVec k0_pay1241 (BitVec.ofNat 32 (112 * g.val))) (BitVec.ofNat 32 (112 * b.val))
      (Scalar.addi (Scalar.muli 2#32 (Scf.iv 0#32 1#32 t.val)) (BitVec.ofNat 32 n.val)) k x).toNat
      = 112 * b.val + 7 * (2 * t.val + n.val) + (112 * g.val + 7 * (x 0).val + k.val) / 128 := by
  have h := rowVec_toNat g k (x 0)
  rw [← lane_eq x] at h
  have ht : (Scalar.addi (BitVec.ofNat 32 (112 * b.val)) (Scalar.muli 7#32 (Scalar.addi (Scalar.muli 2#32 (Scf.iv 0#32 1#32 t.val)) (BitVec.ofNat 32 n.val)))).toNat
      = 112 * b.val + 7 * (2 * t.val + n.val) := by
    revert b t n; decide +kernel
  have hx : (x 0).val < 16 := (x 0).isLt
  show (BitVec.add (rowVec _ _ k x) (Scalar.addi _ _)).toNat = _
  rw [show ∀ a b : BitVec 32, (BitVec.add a b).toNat = (a.toNat + b.toNat) % 2 ^ 32 from fun a b => BitVec.toNat_add a b, h, ht]
  omega

end Cert.Proof.Pool
end
-- ==== Proof.Pool.lean ====
/-
  The run of the pooling loops on a vector subcore: a group of sixteen lanes, a trip, a loop, a half of the output buffer.
  Each statement says which words of the output buffer are pooled afterwards. The gathered rows are read through the
  invariant of Shadow.lean, since the buffer's other half takes a copy in flight meanwhile.
-/
module

public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The variants of a tile's loops: there are none. -/
abbrev 𝒱₀ : Variants := Variants.none

/-- The launch's ghost state. -/
abbrev UH : Type := URounds (GSem nD τ sig) ℕ
/-- The ghost state: the launch's and the counters. -/
abbrev UU : Type := UH × Counters

local notation "𝕄" => MT nD τ sig (HIx 1) (Elt F) ℕ UU ℕ

local notation "xV" => (Memref.whole Cert.KernelIdeal.main_v0_scv : Memref Cert.KernelIdeal.sig Kind.scVector Space.hbm Cert.KernelIdeal.S163842x2x128 EltTy.f32)
local notation "nV" => (Memref.whole Cert.KernelIdeal.main_v2_scv : Memref Cert.KernelIdeal.sig Kind.scVector Space.hbm Cert.KernelIdeal.S297472 EltTy.i32)
local notation "oV" => (Memref.whole Cert.KernelIdeal.main_v3_scv : Memref Cert.KernelIdeal.sig Kind.scVector Space.hbm Cert.KernelIdeal.S40962x2x128 EltTy.f32)
local notation "sV" => (Memref.whole Cert.KernelIdeal.cc0_scratch0 : Memref Cert.KernelIdeal.sig Kind.scVector Space.vmem Cert.KernelIdeal.S12096 EltTy.i32)
local notation "gV" => (Memref.whole Cert.KernelIdeal.cc0_scratch1 : Memref Cert.KernelIdeal.sig Kind.scVector Space.vmem Cert.KernelIdeal.S224x2x128 EltTy.f32)
local notation "rV" => (Memref.whole Cert.KernelIdeal.cc0_scratch2 : Memref Cert.KernelIdeal.sig Kind.scVector Space.vmem Cert.KernelIdeal.S32x2x128 EltTy.f32)

/-- A tile's SparseCore. -/
abbrev cV (i : grid0.Coords) : Fin τ.nSC := (i 0).castLE hcore0
/-- A tile's number. -/
abbrev jV (i : grid0.Coords) : Fin τ.nSub := (i 1).castLE hsub0

/-- The rows of half `b` of the gathered rows' buffer. -/
def gHalf (b : Fin 2) : Finset S224x2x128.Idx := Finset.univ.filter fun p => 112 * b.val ≤ (p 0).val ∧ (p 0).val < 112 * b.val + 112

/-- The rows of half `b` of the output buffer. -/
def rHalf (b : Fin 2) : Finset S32x2x128.Idx := Finset.univ.filter fun p => 16 * b.val ≤ (p 0).val ∧ (p 0).val < 16 * b.val + 16

variable (x : S163842x2x128.Idx → F .f32) (no : S297472.Idx → BitVec 32)

/-! ## One group -/

/-- The sixteen words that a group stores. -/
def words (r bb g : ℕ) (p : S32x2x128.Idx) : Prop := (p 0).val = r ∧ (p 1).val = bb ∧ 16 * g ≤ (p 2).val ∧ (p 2).val < 16 * g + 16

/-- A store through a rectangle of a whole buffer, at a word. -/
theorem write_rect (f : S32x2x128.Idx → F .f32) (off : Fin 3 → ℕ) (inb : ∀ a, off a + S1x1x16.size a ≤ S32x2x128.size a)
    (w : S1x1x16.Idx → F .f32) (r bb g : ℕ) (hoff : off = ![r, bb, 16 * g]) (want : S32x2x128.Idx → F .f32)
    (hw : ∀ y : S1x1x16.Idx, ∀ p : S32x2x128.Idx, (p 0).val = r → (p 1).val = bb → (p 2).val = 16 * g + (y 2).val → w y = want p) (p : S32x2x128.Idx) :
    (words r bb g p → ((rV).access (Rect.unit (s := S32x2x128) off S1x1x16.size inb)).write (Elt F) f w Finset.univ p = want p)
      ∧ (¬ words r bb g p → ((rV).access (Rect.unit (s := S32x2x128) off S1x1x16.size inb)).write (Elt F) f w Finset.univ p = f p) := by
  subst hoff
  constructor
  · rintro ⟨h0, h1, h2, h3⟩
    let y : S1x1x16.Idx := fun
      | 0 => ⟨0, by decide⟩
      | 1 => ⟨0, by decide⟩
      | 2 => ⟨(p 2).val - 16 * g, by show _ < 16; omega⟩
    have hp : ((rV).access (Rect.unit (s := S32x2x128) ![r, bb, 16 * g] S1x1x16.size inb)).emb y = p := by
      funext a
      apply Fin.ext
      show (![r, bb, 16 * g] : Fin 3 → ℕ) a + 1 * (y a).val = (p a).val
      match a with
      | 0 => show r + 1 * 0 = _; omega
      | 1 => show bb + 1 * 0 = _; omega
      | 2 => show 16 * g + 1 * ((p 2).val - 16 * g) = _; omega
    have h := View.write_emb_of_mem (v := ((rV).access (Rect.unit (s := S32x2x128) ![r, bb, 16 * g] S1x1x16.size inb))) (Val := Elt F) f w
      (M := Finset.univ) (x := y) (Finset.mem_univ _)
    rw [hp] at h
    refine h.trans ((cast_eq _ _).trans (hw y p h0 h1 ?_))
    show (p 2).val = 16 * g + ((p 2).val - 16 * g)
    omega
  · intro hn
    refine View.write_of_not_mem _ _ _ fun h => hn ?_
    have hm : p ∈ (Rect.unit (s := S32x2x128) ![r, bb, 16 * g] S1x1x16.size inb).set := by
      have := h
      rw [View.setOn_univ] at this
      rwa [show ((rV).access (Rect.unit (s := S32x2x128) ![r, bb, 16 * g] S1x1x16.size inb)).set = _ from View.set_slice_whole _ _] at this
    rw [Rect.mem_set_unit] at hm
    have h0 := hm 0
    have h1 := hm 1
    have h2 := hm 2
    change r ≤ _ ∧ _ < r + 1 at h0
    change bb ≤ _ ∧ _ < bb + 1 at h1
    change 16 * g ≤ _ ∧ _ < 16 * g + 16 at h2
    exact ⟨by omega, by omega, h2.1, h2.2⟩

/-- A row of sixteen words, read as a vector, has its words in order. -/
theorem lane_cast : ∀ y : S1x1x16.Idx, Shape.reshapeEquiv shapeCasts_S16_S1x1x16 y = lane (y 2) := by decide +kernel

/-- What a group's vector holds at a lane, read off contents that are the chunk's rows on the half. -/
theorem load_lane {kc : ℕ} {b : Fin 2} {r bb g : ℕ} {R C bv : IVec S16 32} (k : Fin 7) (hr : 16 * b.val ≤ r ∧ r < 16 * b.val + 16) (hbb : bb < 2) (hg : g < 8)
    (hR : ∀ y, (R y).toNat = 7 * r + (112 * g + 7 * (y 0).val + k.val) / 128) (hC : ∀ y, (C y).toNat = (112 * g + 7 * (y 0).val + k.val) % 128)
    (hb : ∀ y, (bv y).toNat = bb) (h : ∀ a y, ((![R, bv, C] : Fin 3 → IVec S16 32) a y).toNat < S224x2x128.size a)
    (f : S224x2x128.Idx → F .f32) (hf : ∀ p ∈ gHalf b, f p = gathered x no kc b p) (y : S16.Idx) :
    loadIdx (((gV).access (Rect.whole S224x2x128)).read (Elt F) f) ![R, bv, C] h y
      = xAt x (numAt no (7 * (16 * kc + (r - 16 * b.val)) + (7 * (16 * g + (y 0).val) + k.val) / 128)) bb ((7 * (16 * g + (y 0).val) + k.val) % 128) := by
  have hy : (y 0).val < 16 := (y 0).isLt
  have hk := k.isLt
  have e0 : ((idxAt (s := S224x2x128) ![R, bv, C] h y) 0).val = 7 * r + (112 * g + 7 * (y 0).val + k.val) / 128 := hR y
  have e1 : ((idxAt (s := S224x2x128) ![R, bv, C] h y) 1).val = bb := hb y
  have e2 : ((idxAt (s := S224x2x128) ![R, bv, C] h y) 2).val = (112 * g + 7 * (y 0).val + k.val) % 128 := hC y
  have hm : idxAt (s := S224x2x128) ![R, bv, C] h y ∈ gHalf b := by
    rw [gHalf, Finset.mem_filter]
    refine ⟨Finset.mem_univ _, ?_⟩
    rw [e0]
    omega
  unfold loadIdx
  rw [show View.read (Elt F) ((gV).access (Rect.whole S224x2x128)) f = f from Memref.read_access_whole _ _ _, hf _ hm]
  unfold gathered
  rw [e0, e1, e2]
  have e3 : 112 * kc + (7 * r + (112 * g + 7 * (y 0).val + k.val) / 128 - 112 * b.val) = 7 * (16 * kc + (r - 16 * b.val)) + (7 * (16 * g + (y 0).val) + k.val) / 128 := by omega
  have e4 : (112 * g + 7 * (y 0).val + k.val) % 128 = (7 * (16 * g + (y 0).val) + k.val) % 128 := by congr 1; omega
  rw [e3, e4]

section Run

variable (d : Dev nD) (i : grid0.Coords)

/-- Where a tile keeps the gathered rows. -/
abbrev gLoc : Loc nD τ sig := (V d (cV i) (jV i)).loc cc0_scratch1
/-- Where a tile keeps the pooled rows. -/
abbrev rLoc : Loc nD τ sig := (V d (cV i) (jV i)).loc cc0_scratch2

/-- The chunk's rows in half `b` of the gathered rows' buffer, and a token that the half is not being closed. -/
def rowsOf (δ : Fin 2 → Fin 112 → ℕ) (kc : ℕ) (b : Fin 2) : sProp 𝕄 :=
  iprop((gLoc d i ↦[gHalf b]{lSh} gathered x no kc b) ∗ Transfers.tok countersEmb (δ b 0))

/-- A store of sixteen lanes to a row of a half stays in the half. -/
theorem access_sub (b : Fin 2) (r bb g : ℕ) (hr : 16 * b.val ≤ r ∧ r < 16 * b.val + 16) (off : Fin 3 → ℕ) (hoff : off = ![r, bb, 16 * g])
    (inb : ∀ a, off a + S1x1x16.size a ≤ S32x2x128.size a) :
    ((rV).access (Rect.unit (s := S32x2x128) off S1x1x16.size inb)).set ⊆ rHalf b := by
  subst hoff
  intro p hp
  rw [show ((rV).access (Rect.unit (s := S32x2x128) ![r, bb, 16 * g] S1x1x16.size inb)).set = _ from View.set_slice_whole _ _, Rect.mem_set_unit] at hp
  have h0 := hp 0
  change r ≤ _ ∧ _ < r + 1 at h0
  rw [rHalf, Finset.mem_filter]
  exact ⟨Finset.mem_univ _, by omega⟩

set_option maxHeartbeats 1000000 in
/-- A group stores the chunk's pooled words on its sixteen words of the output buffer and leaves the others. -/
theorem wp_grp {α : Type} {Q : α → sProp 𝕄} {k : Unit → Prog (TpuEff nD τ sig (Elt F) Λ₀ (.scVector (cV i) (jV i))) α}
    {δ : Fin 2 → Fin 112 → ℕ} {ι : ℕ} {kc : ℕ} {b : Fin 2} {r bb g : ℕ} {C R : Fin 7 → IVec S16 32} {bv : IVec S16 32}
    (hr : 16 * b.val ≤ r ∧ r < 16 * b.val + 16) (hbb : bb < 2) (hg : g < 8)
    (hR : ∀ k y, (R k y).toNat = 7 * r + (112 * g + 7 * (y 0).val + k.val) / 128) (hC : ∀ k y, (C k y).toNat = (112 * g + 7 * (y 0).val + k.val) % 128)
    (hb : ∀ y, (bv y).toNat = bb) {off : Fin 3 → ℕ} {inb : ∀ a, off a + S1x1x16.size a ≤ S32x2x128.size a} (hoff : off = ![r, bb, 16 * g])
    (f : S32x2x128.Idx → F .f32) :
    iprop(inv ι (shadowBody countersEmb (gLoc d i) δ) ∗ rowsOf x no d i δ kc b ∗ (rLoc d i ↦[rHalf b]{fullShare} f))
      ⊢ iprop((rowsOf x no d i δ kc b ∗ (∃ f' : S32x2x128.Idx → F .f32,
            ⌜∀ p, (words r bb g p → f' p = pooledBuf x no kc b p) ∧ (¬ words r bb g p → f' p = f p)⌝ ∗ (rLoc d i ↦[rHalf b]{fullShare} f'))
          -∗ wp frame (wpE (defs₀ (F := F)) 𝒱₀ (V d (cV i) (jV i)) none) Set.univ (k ⟨⟩) Q)
        -∗ wp frame (wpE (defs₀ (F := F)) 𝒱₀ (V d (cV i) (jV i)) none) Set.univ (grp i gV rV C R bv off inb >>= k) Q) := by
  have hchk1 : ∀ k : Fin 7, ∀ a y, ((![R k, bv, C k] : Fin 3 → IVec S16 32) a y).toNat < S224x2x128.size a := by
    intro k a y
    have hy : (y 0).val < 16 := (y 0).isLt
    have hk := k.isLt
    have hb2 := b.isLt
    match a with
    | 0 => show (R k y).toNat < 224; rw [hR]; omega
    | 1 => show (bv y).toNat < 2; rw [hb]; exact hbb
    | 2 => show (C k y).toNat < 128; rw [hC]; omega
  have hchk : chk7 C R bv := ⟨hchk1 0, hchk1 1, hchk1 2, hchk1 3, hchk1 4, hchk1 5, hchk1 6⟩
  unfold grp rowsOf
  simp only [bind_assoc]
  iintro ⟨#Hinv, ⟨Hg, Ht⟩, Hr⟩ Hk
  iapply (wp_assume 𝒱₀ (V d (cV i) (jV i)) none Set.univ hchk)
  iapply (wp_loadIdx_shadow countersEmb (V d (cV i) (jV i)) (base := gV) (hl := View.loads_vmem h_S224x2x128) (ι := ι) (δ := δ) (S := gHalf b) (g := gathered x no kc b) 𝒱₀ none b 0) $$ [Hg Ht]
  · isplitr; · iexact Hinv
    isplitl [Hg] <;> iassumption
  iintro %f0 %hf0 ⟨Hg, Ht⟩
  iapply (wp_loadIdx_shadow countersEmb (V d (cV i) (jV i)) (base := gV) (hl := View.loads_vmem h_S224x2x128) (ι := ι) (δ := δ) (S := gHalf b) (g := gathered x no kc b) 𝒱₀ none b 0) $$ [Hg Ht]
  · isplitr; · iexact Hinv
    isplitl [Hg] <;> iassumption
  iintro %f1 %hf1 ⟨Hg, Ht⟩
  iapply (wp_loadIdx_shadow countersEmb (V d (cV i) (jV i)) (base := gV) (hl := View.loads_vmem h_S224x2x128) (ι := ι) (δ := δ) (S := gHalf b) (g := gathered x no kc b) 𝒱₀ none b 0) $$ [Hg Ht]
  · isplitr; · iexact Hinv
    isplitl [Hg] <;> iassumption
  iintro %f2 %hf2 ⟨Hg, Ht⟩
  iapply (wp_loadIdx_shadow countersEmb (V d (cV i) (jV i)) (base := gV) (hl := View.loads_vmem h_S224x2x128) (ι := ι) (δ := δ) (S := gHalf b) (g := gathered x no kc b) 𝒱₀ none b 0) $$ [Hg Ht]
  · isplitr; · iexact Hinv
    isplitl [Hg] <;> iassumption
  iintro %f3 %hf3 ⟨Hg, Ht⟩
  iapply (wp_loadIdx_shadow countersEmb (V d (cV i) (jV i)) (base := gV) (hl := View.loads_vmem h_S224x2x128) (ι := ι) (δ := δ) (S := gHalf b) (g := gathered x no kc b) 𝒱₀ none b 0) $$ [Hg Ht]
  · isplitr; · iexact Hinv
    isplitl [Hg] <;> iassumption
  iintro %f4 %hf4 ⟨Hg, Ht⟩
  iapply (wp_loadIdx_shadow countersEmb (V d (cV i) (jV i)) (base := gV) (hl := View.loads_vmem h_S224x2x128) (ι := ι) (δ := δ) (S := gHalf b) (g := gathered x no kc b) 𝒱₀ none b 0) $$ [Hg Ht]
  · isplitr; · iexact Hinv
    isplitl [Hg] <;> iassumption
  iintro %f5 %hf5 ⟨Hg, Ht⟩
  iapply (wp_loadIdx_shadow countersEmb (V d (cV i) (jV i)) (base := gV) (hl := View.loads_vmem h_S224x2x128) (ι := ι) (δ := δ) (S := gHalf b) (g := gathered x no kc b) 𝒱₀ none b 0) $$ [Hg Ht]
  · isplitr; · iexact Hinv
    isplitl [Hg] <;> iassumption
  iintro %f6 %hf6 ⟨Hg, Ht⟩
  iapply (wp_load_rect 𝒱₀ (V d (cV i) (jV i)) none Set.univ (access_sub b r bb g hr off hoff inb)) $$ Hr
  iintro Hr
  iapply (wp_store 𝒱₀ (V d (cV i) (jV i)) none Set.univ (by rw [View.setOn_univ]; exact access_sub b r bb g hr off hoff inb)) $$ Hr
  iintro Hr
  iapply Hk
  isplitl [Hg Ht]; · isplitl [Hg] <;> iassumption
  iexists _
  isplitr
  swap; · iexact Hr
  ipureintro
  refine write_rect f off inb _ r bb g hoff (pooledBuf x no kc b) ?_
  intro y p h0 h1 h2
  unfold shapeCast
  rw [lane_cast]
  unfold pooledBuf node
  rw [h0, h1, h2]
  have e := fun (k : Fin 7) (f : S224x2x128.Idx → F .f32) (hf : ∀ p ∈ gHalf b, f p = gathered x no kc b p) =>
    load_lane x no k hr hbb hg (hR k) (hC k) hb (hchk1 k) f hf (lane (y 2))
  refine Eq.trans ?_ (congrArg mean1 (funext fun k : Fin 7 => e k (![f0, f1, f2, f3, f4, f5, f6] k) ?_))
  · rfl
  · match k with
    | 0 => exact hf0
    | 1 => exact hf1
    | 2 => exact hf2
    | 3 => exact hf3
    | 4 => exact hf4
    | 5 => exact hf5
    | 6 => exact hf6

end Run

end Cert.Proof.Pool
end
-- ==== Proof.Half.lean ====
/-
  Half of the output buffer: a trip of a pooling loop, a pooling loop, and the eight loops of a half, each from the
  chunk's rows to the pooled words.
-/
module

public import proofs.«01_k».proof.Proof.Pool

@[expose] public section

noncomputable section

namespace Cert.Proof.Pool

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (SparseCore.Cfg.HIx 1) (Elt F) ℕ UU ℕ
local notation "gV" => (Memref.whole cc0_scratch1 : Memref Cert.KernelIdeal.sig Kind.scVector Space.vmem Cert.KernelIdeal.S224x2x128 EltTy.f32)
local notation "rV" => (Memref.whole cc0_scratch2 : Memref Cert.KernelIdeal.sig Kind.scVector Space.vmem Cert.KernelIdeal.S32x2x128 EltTy.f32)

variable (x : S163842x2x128.Idx → F .f32) (no : S297472.Idx → BitVec 32)

/-- The stores' offsets in closed form: trip `t` of loop `g` of half `b` stores the rows `16b+2t` and `16b+2t+1`, the
    two batch entries of each, at the words from `16g` on. -/
theorem offs_eq : ∀ (b : Fin 2) (g : Fin 8) (t : Fin k0_t2_loop.trips) (n : Fin 4),
    (offs b g).o t n = ![16 * b.val + (2 * t.val + n.val / 2), n.val % 2, 16 * g.val] := by decide +kernel

variable (d : Dev nD) (i : grid0.Coords)

/-- Half `b` of the output buffer, with chunk `kc`'s pooled words at the places `D`. -/
def outHalf (kc : ℕ) (b : Fin 2) (D : S32x2x128.Idx → Prop) : sProp 𝕄 :=
  iprop(∃ f : S32x2x128.Idx → F .f32, ⌜∀ p ∈ rHalf b, D p → f p = pooledBuf x no kc b p⌝ ∗ (rLoc d i ↦[rHalf b]{fullShare} f))

/-- What holds of many words of the half holds of fewer. -/
theorem outHalf_mono {kc : ℕ} {b : Fin 2} {D D' : S32x2x128.Idx → Prop} (h : ∀ p ∈ rHalf b, D' p → D p) :
    outHalf x no d i kc b D ⊢ outHalf x no d i kc b D' := by
  unfold outHalf
  iintro ⟨%f, %hf, Hr⟩
  iexists f
  isplitr; · ipureintro; exact fun p hp hd => hf p hp (h p hp hd)
  iexact Hr

/-- A group adds its sixteen words to the places that hold pooled words. -/
theorem wp_grp_out {α : Type} {Q : α → sProp 𝕄} {k : Unit → Prog (TpuEff nD τ sig (Elt F) Λ₀ (.scVector (cV i) (jV i))) α}
    {δ : Fin 2 → Fin 112 → ℕ} {ι : ℕ} {kc : ℕ} (b : Fin 2) (g : Fin 8) (t : Fin 8) (n bb : Fin 2) (D : S32x2x128.Idx → Prop)
    {off : Fin 3 → ℕ} {inb : ∀ a, off a + S1x1x16.size a ≤ S32x2x128.size a} (hoff : off = ![16 * b.val + (2 * t.val + n.val), bb.val, 16 * g.val]) :
    iprop(inv ι (shadowBody countersEmb (gLoc d i) δ) ∗ rowsOf x no d i δ kc b ∗ outHalf x no d i kc b D)
      ⊢ iprop((rowsOf x no d i δ kc b ∗ outHalf x no d i kc b (fun p => D p ∨ words (16 * b.val + (2 * t.val + n.val)) bb.val g.val p)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (grp i gV rV (colVec k0_pay1241 (BitVec.ofNat 32 (112 * g.val)))
            (rowsAt (rowVec k0_pay1241 (BitVec.ofNat 32 (112 * g.val))) (BitVec.ofNat 32 (112 * b.val))
              (Scalar.addi (Scalar.muli 2#32 (Scf.iv 0#32 1#32 t.val)) (BitVec.ofNat 32 n.val)))
            (batch k0_pay1241 (BitVec.ofNat 32 bb.val)) off inb >>= k) Q) := by
  have ht := t.isLt
  have hn := n.isLt
  unfold outHalf
  iintro ⟨#Hinv, Hg, ⟨%f, %hf, Hr⟩⟩ Hk
  iapply (wp_grp x no d i (ι := ι) (kc := kc) (b := b) (g := g.val) (bb := bb.val) (r := 16 * b.val + (2 * t.val + n.val)) ⟨by omega, by omega⟩ bb.isLt g.isLt
    (fun k y => by rw [rowsAt_toNat]; omega) (fun k y => by rw [lane_eq y]; exact colVec_toNat g k (y 0))
    (fun y => by rw [lane_eq y]; exact batch_toNat bb (y 0)) hoff f) $$ [Hg Hr]
  · isplitr; · iexact Hinv
    isplitl [Hg] <;> iassumption
  iintro ⟨Hg, ⟨%f', %hf', Hr⟩⟩
  iapply Hk
  isplitl [Hg]; · iexact Hg
  iexists f'
  isplitr
  swap; · iexact Hr
  ipureintro
  rintro p hp hD
  by_cases hw : words (16 * b.val + (2 * t.val + n.val)) bb.val g.val p
  · exact (hf' p).1 hw
  · rw [(hf' p).2 hw]
    exact hf p hp (hD.resolve_right hw)

/-- The places done before trip `t` of loop `g`. -/
def doneAt (b : Fin 2) (g t : ℕ) (p : S32x2x128.Idx) : Prop :=
  (p 2).val < 16 * g ∨ ((p 2).val < 16 * g + 16 ∧ (p 0).val < 16 * b.val + 2 * t)

/-- A pooling loop: the places done grow by a group of lanes. -/
theorem wp_pool {α : Type} {Q : α → sProp 𝕄} {k : Unit → Prog (TpuEff nD τ sig (Elt F) Λ₀ (.scVector (cV i) (jV i))) α}
    {δ : Fin 2 → Fin 112 → ℕ} {ι : ℕ} {kc : ℕ} (b : Fin 2) (g : Fin 8) (m m' : ℕ) (hm : g.val = m) (hm' : m + 1 = m') :
    iprop(inv ι (shadowBody countersEmb (gLoc d i) δ) ∗ rowsOf x no d i δ kc b ∗ outHalf x no d i kc b (doneAt b m 0))
      ⊢ iprop((rowsOf x no d i δ kc b ∗ outHalf x no d i kc b (doneAt b m' 0)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (pool i gV rV (BitVec.ofNat 32 (112 * b.val)) (BitVec.ofNat 32 (112 * g.val)) (offs b g) >>= k) Q) := by
  subst hm hm'
  iintro ⟨#Hinv, Hg, Ho⟩ Hk
  unfold pool
  iapply (Scf.wp_for_bind _ _ _ _ _ _ k0_t2_ok _ _
    (fun t _ => iprop(inv ι (shadowBody countersEmb (gLoc d i) δ) ∗ rowsOf x no d i δ kc b ∗ outHalf x no d i kc b (doneAt b g.val t))) ?_) $$ [Hg Ho]
  · intro t _
    rw [← bind_pure (trip ..)]
    unfold trip
    simp only [bind_assoc]
    iintro ⟨#Hinv, Hg, Ho⟩
    iapply (wp_grp_out x no d i (ι := ι) (kc := kc) b g t 0 0 _ (offs_eq b g t 0)) $$ [Hg Ho]
    · isplitr; · iexact Hinv
      isplitl [Hg] <;> iassumption
    iintro ⟨Hg, Ho⟩
    iapply (wp_grp_out x no d i (ι := ι) (kc := kc) b g t 0 1 _ (offs_eq b g t 1)) $$ [Hg Ho]
    · isplitr; · iexact Hinv
      isplitl [Hg] <;> iassumption
    iintro ⟨Hg, Ho⟩
    iapply (wp_grp_out x no d i (ι := ι) (kc := kc) b g t 1 0 _ (offs_eq b g t 2)) $$ [Hg Ho]
    · isplitr; · iexact Hinv
      isplitl [Hg] <;> iassumption
    iintro ⟨Hg, Ho⟩
    iapply (wp_grp_out x no d i (ι := ι) (kc := kc) b g t 1 1 _ (offs_eq b g t 3)) $$ [Hg Ho]
    · isplitr; · iexact Hinv
      isplitl [Hg] <;> iassumption
    iintro ⟨Hg, Ho⟩
    simp only [wp_pure]
    imodintro
    isplitr; · iexact Hinv
    isplitl [Hg]; · iexact Hg
    iapply (outHalf_mono x no d i (kc := kc) (b := b)
      (D := fun p => (((doneAt b g.val t.val p ∨ _) ∨ _) ∨ _) ∨ _) (fun p hp h => ?_)) $$ Ho
    have h1 := (p 1).isLt
    change (p 1).val < 2 at h1
    unfold doneAt at h ⊢
    unfold words
    simp only [Fin.val_zero, Fin.val_one]
    omega
  · isplitr; · iexact Hinv
    isplitl [Hg]; · iexact Hg
    iexact Ho
  iintro %_ ⟨-, Hg, Ho⟩
  iapply Hk
  isplitl [Hg]; · iexact Hg
  iapply (outHalf_mono x no d i (kc := kc) (b := b) (D := doneAt b g.val (Scf.trips k0_t2_loop.lb k0_t2_loop.ub k0_t2_loop.st)) (fun p hp h => ?_)) $$ Ho
  rw [rHalf, Finset.mem_filter] at hp
  rw [show Scf.trips k0_t2_loop.lb k0_t2_loop.ub k0_t2_loop.st = 8 from by decide]
  unfold doneAt at h ⊢
  omega

/-- The eight loops of a half: from the chunk's gathered rows, the half holds the chunk's pooled words. -/
theorem wp_poolHalf {α : Type} {Q : α → sProp 𝕄} {k : Unit → Prog (TpuEff nD τ sig (Elt F) Λ₀ (.scVector (cV i) (jV i))) α}
    {δ : Fin 2 → Fin 112 → ℕ} {ι : ℕ} {kc : ℕ} (b : Fin 2) (f : S32x2x128.Idx → F .f32) :
    iprop(inv ι (shadowBody countersEmb (gLoc d i) δ) ∗ rowsOf x no d i δ kc b ∗ (rLoc d i ↦[rHalf b]{fullShare} f))
      ⊢ iprop((rowsOf x no d i δ kc b ∗ (rLoc d i ↦[rHalf b]{fullShare} pooledBuf x no kc b)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (poolHalf i gV rV b (BitVec.ofNat 32 (112 * b.val)) >>= k) Q) := by
  iintro ⟨#Hinv, Hg, Ho⟩ Hk
  ihave Ho : (outHalf x no d i kc b (doneAt b 0 0)) $$ [Ho]
  · unfold outHalf
    iexists f
    isplitr
    swap; · iexact Ho
    ipureintro
    intro p hp h
    rw [rHalf, Finset.mem_filter] at hp
    unfold doneAt at h
    omega
  unfold poolHalf
  simp only [bind_assoc]
  iapply (wp_pool x no d i (ι := ι) (kc := kc) b 0 0 1 rfl rfl) $$ [Hg Ho]
  · isplitr; · iexact Hinv
    isplitl [Hg] <;> iassumption
  iintro ⟨Hg, Ho⟩
  iapply (wp_pool x no d i (ι := ι) (kc := kc) b 1 1 2 rfl rfl) $$ [Hg Ho]
  · isplitr; · iexact Hinv
    isplitl [Hg] <;> iassumption
  iintro ⟨Hg, Ho⟩
  iapply (wp_pool x no d i (ι := ι) (kc := kc) b 2 2 3 rfl rfl) $$ [Hg Ho]
  · isplitr; · iexact Hinv
    isplitl [Hg] <;> iassumption
  iintro ⟨Hg, Ho⟩
  iapply (wp_pool x no d i (ι := ι) (kc := kc) b 3 3 4 rfl rfl) $$ [Hg Ho]
  · isplitr; · iexact Hinv
    isplitl [Hg] <;> iassumption
  iintro ⟨Hg, Ho⟩
  iapply (wp_pool x no d i (ι := ι) (kc := kc) b 4 4 5 rfl rfl) $$ [Hg Ho]
  · isplitr; · iexact Hinv
    isplitl [Hg] <;> iassumption
  iintro ⟨Hg, Ho⟩
  iapply (wp_pool x no d i (ι := ι) (kc := kc) b 5 5 6 rfl rfl) $$ [Hg Ho]
  · isplitr; · iexact Hinv
    isplitl [Hg] <;> iassumption
  iintro ⟨Hg, Ho⟩
  iapply (wp_pool x no d i (ι := ι) (kc := kc) b 6 6 7 rfl rfl) $$ [Hg Ho]
  · isplitr; · iexact Hinv
    isplitl [Hg] <;> iassumption
  iintro ⟨Hg, Ho⟩
  iapply (wp_pool x no d i (ι := ι) (kc := kc) b 7 7 8 rfl rfl) $$ [Hg Ho]
  · isplitr; · iexact Hinv
    isplitl [Hg] <;> iassumption
  iintro ⟨Hg, Ho⟩
  iapply Hk
  isplitl [Hg]; · iexact Hg
  unfold outHalf
  icases Ho with ⟨%f', %hf', Ho⟩
  have e : (rLoc d i ↦[rHalf b]{fullShare} f' : sProp 𝕄) = rLoc d i ↦[rHalf b]{fullShare} pooledBuf x no kc b :=
    pointsTo_congr fun p hp => hf' p hp (by
      have h2 : (p 2).val < 128 := (p 2).isLt
      left; show (p 2).val < 16 * 8; omega)
  rw [← e]
  iexact Ho

end Cert.Proof.Pool
end
-- ==== Proof.Chunk.lean ====
/-
  The copies of a chunk: the gather of its rows into a half of the buffer of rows, and the copy of the pooled half to the
  chunk's rows of the output, each with the assertion that holds while it is in flight.
-/
module

public import proofs.«01_k».proof.Proof.Half

@[expose] public section

noncomputable section

namespace Cert.Proof.Pool

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (SparseCore.Cfg.HIx 1) (Elt F) ℕ UU ℕ
local notation "gV" => (Memref.whole cc0_scratch1 : Memref Cert.KernelIdeal.sig Kind.scVector Space.vmem Cert.KernelIdeal.S224x2x128 EltTy.f32)
local notation "rV" => (Memref.whole cc0_scratch2 : Memref Cert.KernelIdeal.sig Kind.scVector Space.vmem Cert.KernelIdeal.S32x2x128 EltTy.f32)
local notation "xV" => (Memref.whole Cert.KernelIdeal.main_v0_scv : Memref Cert.KernelIdeal.sig Kind.scVector Space.hbm Cert.KernelIdeal.S163842x2x128 EltTy.f32)
local notation "nV" => (Memref.whole Cert.KernelIdeal.main_v2_scv : Memref Cert.KernelIdeal.sig Kind.scVector Space.hbm Cert.KernelIdeal.S297472 EltTy.i32)
local notation "oV" => (Memref.whole Cert.KernelIdeal.main_v3_scv : Memref Cert.KernelIdeal.sig Kind.scVector Space.hbm Cert.KernelIdeal.S40962x2x128 EltTy.f32)
local notation "sV" => (Memref.whole Cert.KernelIdeal.cc0_scratch0 : Memref Cert.KernelIdeal.sig Kind.scVector Space.vmem Cert.KernelIdeal.S12096 EltTy.i32)

variable (x : S163842x2x128.Idx → F .f32) (no : S297472.Idx → BitVec 32)
variable (d : Dev nD) (i : grid0.Coords)

/-! ## The sets of the slices -/

/-- The rows `lo` to `hi` of the output, without `hi`. -/
def oRows (lo hi : ℕ) : Finset S40962x2x128.Idx := Finset.univ.filter fun p => lo ≤ (p 0).val ∧ (p 0).val < hi

/-- The slice of the buffer of gathered rows that a gather fills is the half's words. -/
theorem set_gSlice (b : Fin 2) (off : Fin 3 → ℕ) (hoff : off = ![112 * b.val, 0, 0]) (inb : ∀ a, off a + S112x2x128.size a ≤ S224x2x128.size a) :
    ((gV).slice (Rect.unit (s := S224x2x128) off S112x2x128.size inb) (fun _ => rfl)).view.set = gHalf b := by
  subst hoff
  refine (View.set_slice_whole _ _).trans (Finset.ext fun p => ?_)
  rw [Rect.mem_set_unit, gHalf, Finset.mem_filter]
  constructor
  · intro h
    exact ⟨Finset.mem_univ _, h 0⟩
  · rintro ⟨-, h⟩ a
    match a with
    | 0 => exact h
    | 1 => have := (p 1).isLt; exact ⟨Nat.zero_le _, by show (p 1).val < 0 + 2; change (p 1).val < 2 at this; omega⟩
    | 2 => have := (p 2).isLt; exact ⟨Nat.zero_le _, by show (p 2).val < 0 + 128; change (p 2).val < 128 at this; omega⟩

/-- The slice of the output buffer that is copied out is the half's words. -/
theorem set_rSlice (b : Fin 2) (off : Fin 3 → ℕ) (hoff : off = ![16 * b.val, 0, 0]) (inb : ∀ a, off a + S16x2x128.size a ≤ S32x2x128.size a) :
    ((rV).slice (Rect.unit (s := S32x2x128) off S16x2x128.size inb) (fun _ => rfl)).view.set = rHalf b := by
  subst hoff
  refine (View.set_slice_whole _ _).trans (Finset.ext fun p => ?_)
  rw [Rect.mem_set_unit, rHalf, Finset.mem_filter]
  constructor
  · intro h
    exact ⟨Finset.mem_univ _, h 0⟩
  · rintro ⟨-, h⟩ a
    match a with
    | 0 => exact h
    | 1 => have := (p 1).isLt; exact ⟨Nat.zero_le _, by show (p 1).val < 0 + 2; change (p 1).val < 2 at this; omega⟩
    | 2 => have := (p 2).isLt; exact ⟨Nat.zero_le _, by show (p 2).val < 0 + 128; change (p 2).val < 128 at this; omega⟩

/-- The slice that the last chunk is copied out from is the half's first two rows. -/
theorem set_rSlice2 (b : Fin 2) (off : Fin 3 → ℕ) (hoff : off = ![16 * b.val, 0, 0]) (inb : ∀ a, off a + S2x2x128.size a ≤ S32x2x128.size a) :
    ((rV).slice (Rect.unit (s := S32x2x128) off S2x2x128.size inb) (fun _ => rfl)).view.set ⊆ rHalf b := by
  subst hoff
  rw [show ((rV).slice (Rect.unit (s := S32x2x128) ![16 * b.val, 0, 0] S2x2x128.size inb) (fun _ => rfl)).view.set = _ from View.set_slice_whole _ _]
  intro p hp
  rw [Rect.mem_set_unit] at hp
  rw [rHalf, Finset.mem_filter]
  have h := hp 0
  change 16 * b.val ≤ (p 0).val ∧ (p 0).val < 16 * b.val + 2 at h
  exact ⟨Finset.mem_univ _, by omega⟩

/-- The sixteen rows of the output that a chunk is copied to. -/
theorem set_oSlice (lo : ℕ) (off : Fin 3 → ℕ) (hoff : off = ![lo, 0, 0]) (inb : ∀ a, off a + S16x2x128.size a ≤ S40962x2x128.size a) :
    ((oV).slice (Rect.unit (s := S40962x2x128) off S16x2x128.size inb) (fun _ => rfl)).view.set = oRows lo (lo + 16) := by
  subst hoff
  refine (View.set_slice_whole _ _).trans (Finset.ext fun p => ?_)
  rw [Rect.mem_set_unit, oRows, Finset.mem_filter]
  constructor
  · intro h
    exact ⟨Finset.mem_univ _, h 0⟩
  · rintro ⟨-, h⟩ a
    match a with
    | 0 => exact h
    | 1 => have := (p 1).isLt; exact ⟨Nat.zero_le _, by show (p 1).val < 0 + 2; change (p 1).val < 2 at this; omega⟩
    | 2 => have := (p 2).isLt; exact ⟨Nat.zero_le _, by show (p 2).val < 0 + 128; change (p 2).val < 128 at this; omega⟩

/-- The two rows of the output that the last chunk is copied to. -/
theorem set_oSlice2 (inb : ∀ a, (![40960, 0, 0] : Fin 3 → ℕ) a + S2x2x128.size a ≤ S40962x2x128.size a) :
    ((oV).slice (Rect.unit (s := S40962x2x128) ![40960, 0, 0] S2x2x128.size inb) (fun _ => rfl)).view.set = oRows 40960 40976 := by
  refine (View.set_slice_whole _ _).trans (Finset.ext fun p => ?_)
  rw [Rect.mem_set_unit, oRows, Finset.mem_filter]
  have h0 : (p 0).val < 40962 := (p 0).isLt
  constructor
  · intro h
    have := h 0
    change 40960 ≤ (p 0).val ∧ _ at this
    exact ⟨Finset.mem_univ _, by omega⟩
  · rintro ⟨-, h⟩ a
    match a with
    | 0 => exact ⟨h.1, by show (p 0).val < 40960 + 2; omega⟩
    | 1 => have := (p 1).isLt; exact ⟨Nat.zero_le _, by show (p 1).val < 0 + 2; change (p 1).val < 2 at this; omega⟩
    | 2 => have := (p 2).isLt; exact ⟨Nat.zero_le _, by show (p 2).val < 0 + 128; change (p 2).val < 128 at this; omega⟩

/-- The slice that the gathers read is the whole array of rows. -/
theorem set_xSlice (inb : ∀ a, (![0, 0, 0] : Fin 3 → ℕ) a + S163842x2x128.size a ≤ S163842x2x128.size a) :
    ((xV).slice (Rect.unit (s := S163842x2x128) ![0, 0, 0] S163842x2x128.size inb) (fun _ => rfl)).view.set = Finset.univ := by
  refine (View.set_slice_whole _ _).trans (Finset.ext fun p => ?_)
  rw [Rect.mem_set_unit]
  refine ⟨fun _ => Finset.mem_univ _, fun _ a => ?_⟩
  match a with
  | 0 => have := (p 0).isLt; exact ⟨Nat.zero_le _, by show (p 0).val < 0 + 163842; change (p 0).val < 163842 at this; omega⟩
  | 1 => have := (p 1).isLt; exact ⟨Nat.zero_le _, by show (p 1).val < 0 + 2; change (p 1).val < 2 at this; omega⟩
  | 2 => have := (p 2).isLt; exact ⟨Nat.zero_le _, by show (p 2).val < 0 + 128; change (p 2).val < 128 at this; omega⟩

/-! ## What the copies write -/

/-- The tile's list of row numbers. -/
def listed (base : ℕ) : S12096.Idx → BitVec 32 := fun p => no fun | 0 => ⟨(112 * base + (p 0).val) % 297472, Nat.mod_lt _ (by decide)⟩

/-- The words of a slice of the tile's list. -/
theorem list_read (base : ℕ) (j : ℕ) (linb : ∀ a, (![j] : Fin 1 → ℕ) a + S112.size a ≤ S12096.size a) (y : S112.Idx) :
    ((((sV).slice (Rect.unit (s := S12096) ![j] S112.size linb) (fun _ => rfl)).view.read (Elt F) (listed no base)) y).toNat
      = numAt no (112 * base + (j + (y 0).val)) := by
  rw [show (((sV).slice (Rect.unit (s := S12096) ![j] S112.size linb) (fun _ => rfl)).view.read (Elt F) (listed no base)) y
    = listed no base (((sV).slice (Rect.unit (s := S12096) ![j] S112.size linb) (fun _ => rfl)).view.emb y) from (View.read_apply _ _).trans (cast_eq _ _)]
  unfold listed numAt
  congr 3
  funext a
  match a with
  | 0 =>
    apply Fin.ext
    show (112 * base + (j + 1 * (y 0).val)) % 297472 = (112 * base + (j + (y 0).val)) % 297472
    rw [one_mul]

/-- What the gather writes at a row of its half: the row of `x2` that the list names. -/
theorem gather_write (base kc : ℕ) (b : Fin 2) (hno : ∀ n, numAt no n < 163842)
    (xin : ∀ a, (![0, 0, 0] : Fin 3 → ℕ) a + S163842x2x128.size a ≤ S163842x2x128.size a)
    (off : Fin 3 → ℕ) (hoff : off = ![112 * b.val, 0, 0]) (inb : ∀ a, off a + S112x2x128.size a ≤ S224x2x128.size a)
    (loff : Fin 1 → ℕ) (j : ℕ) (hloff : loff = ![j]) (hj : 112 * base + j = 112 * kc) (linb : ∀ a, loff a + S112.size a ≤ S12096.size a)
    (hn : S112.numel = S112x2x128.size gathers_S163842x2x128_S112x2x128.axis')
    (hin : ∀ y, ((((sV).slice (Rect.unit (s := S12096) loff S112.size linb) (fun _ => rfl)).view.read (Elt F) (listed no base)) y).toNat
      < S163842x2x128.size gathers_S163842x2x128_S112x2x128.axis)
    (f : S224x2x128.Idx → F .f32) : ∀ p ∈ gHalf b,
    ((gV).slice (Rect.unit (s := S224x2x128) off S112x2x128.size inb) (fun _ => rfl)).view.write (Elt F) f
      (SparseCore.gatherPayload gathers_S163842x2x128_S112x2x128
        (((xV).slice (Rect.unit (s := S163842x2x128) ![0, 0, 0] S163842x2x128.size xin) (fun _ => rfl)).view.read (Elt F) x)
        (SparseCore.rows (((sV).slice (Rect.unit (s := S12096) loff S112.size linb) (fun _ => rfl)).view.read (Elt F) (listed no base)) hn hin)) Finset.univ p
      = gathered x no kc b p := by
  subst hoff hloff
  intro p hp
  rw [gHalf, Finset.mem_filter] at hp
  let y : S112x2x128.Idx := fun
    | 0 => ⟨(p 0).val - 112 * b.val, by show _ < 112; omega⟩
    | 1 => p 1
    | 2 => p 2
  have hy : ((gV).slice (Rect.unit (s := S224x2x128) ![112 * b.val, 0, 0] S112x2x128.size inb) (fun _ => rfl)).view.emb y = p := by
    funext a
    apply Fin.ext
    show (![112 * b.val, 0, 0] : Fin 3 → ℕ) a + 1 * (y a).val = (p a).val
    match a with
    | 0 => show 112 * b.val + 1 * ((p 0).val - 112 * b.val) = _; omega
    | 1 => show 0 + 1 * (p 1).val = _; omega
    | 2 => show 0 + 1 * (p 2).val = _; omega
  have h := View.write_emb_of_mem (v := ((gV).slice (Rect.unit (s := S224x2x128) ![112 * b.val, 0, 0] S112x2x128.size inb) (fun _ => rfl)).view)
    (Val := Elt F) f (SparseCore.gatherPayload gathers_S163842x2x128_S112x2x128
        (((xV).slice (Rect.unit (s := S163842x2x128) ![0, 0, 0] S163842x2x128.size xin) (fun _ => rfl)).view.read (Elt F) x)
        (SparseCore.rows (((sV).slice (Rect.unit (s := S12096) ![j] S112.size linb) (fun _ => rfl)).view.read (Elt F) (listed no base)) hn hin)) (M := Finset.univ) (x := y) (Finset.mem_univ _)
  rw [hy] at h
  refine h.trans ((cast_eq _ _).trans ?_)
  unfold SparseCore.gatherPayload gathered xAt
  refine ((View.read_apply _ _).trans (cast_eq _ _)).trans (congrArg x ?_)
  funext a
  apply Fin.ext
  match a with
  | 0 =>
    show 0 + 1 * (gathers_S163842x2x128_S112x2x128.idx _ y gathers_S163842x2x128_S112x2x128.axis).val = numAt no _ % 163842
    rw [Shape.Gathers.idx_axis, Nat.mod_eq_of_lt (hno _), zero_add, one_mul]
    unfold SparseCore.rows
    refine (list_read (F := F) no base j linb _).trans ?_
    have e : ((S112.rowMajor.symm ((y gathers_S163842x2x128_S112x2x128.axis').cast hn.symm)) 0).val = (p 0).val - 112 * b.val := by
      rw [← Shape.rowMajor_val_one, Equiv.apply_symm_apply]
      rfl
    refine congrArg (numAt no) (Eq.trans (congrArg (fun n => 112 * base + (j + n)) e) ?_)
    show 112 * base + (j + ((p 0).val - 112 * b.val)) = _
    omega
  | 1 =>
    show 0 + 1 * (gathers_S163842x2x128_S112x2x128.idx _ y 1).val = (p 1).val % 2
    rw [Shape.Gathers.idx_of_ne _ _ _ _ (by decide)]
    have := (p 1).isLt
    change (p 1).val < 2 at this
    show 0 + 1 * (p 1).val = _
    omega
  | 2 =>
    show 0 + 1 * (gathers_S163842x2x128_S112x2x128.idx _ y 2).val = (p 2).val % 128
    rw [Shape.Gathers.idx_of_ne _ _ _ _ (by decide)]
    have := (p 2).isLt
    change (p 2).val < 128 at this
    show 0 + 1 * (p 2).val = _
    omega

/-- What the copy of a pooled half writes at the chunk's rows of the output. -/
theorem out_write (kc : ℕ) (b : Fin 2) (off : Fin 3 → ℕ) (hoff : off = ![16 * b.val, 0, 0]) (inb : ∀ a, off a + S16x2x128.size a ≤ S32x2x128.size a)
    (ooff : Fin 3 → ℕ) (hooff : ooff = ![16 * kc, 0, 0]) (oinb : ∀ a, ooff a + S16x2x128.size a ≤ S40962x2x128.size a)
    (f : S40962x2x128.Idx → F .f32) : ∀ p ∈ oRows (16 * kc) (16 * kc + 16),
    ((oV).slice (Rect.unit (s := S40962x2x128) ooff S16x2x128.size oinb) (fun _ => rfl)).view.write (Elt F) f
      (((rV).slice (Rect.unit (s := S32x2x128) off S16x2x128.size inb) (fun _ => rfl)).view.read (Elt F) (pooledBuf x no kc b)) Finset.univ p = pooled x no p := by
  subst hoff hooff
  intro p hp
  rw [oRows, Finset.mem_filter] at hp
  let y : S16x2x128.Idx := fun
    | 0 => ⟨(p 0).val - 16 * kc, by show _ < 16; omega⟩
    | 1 => p 1
    | 2 => p 2
  have hy : ((oV).slice (Rect.unit (s := S40962x2x128) ![16 * kc, 0, 0] S16x2x128.size oinb) (fun _ => rfl)).view.emb y = p := by
    funext a
    apply Fin.ext
    show (![16 * kc, 0, 0] : Fin 3 → ℕ) a + 1 * (y a).val = (p a).val
    match a with
    | 0 => show 16 * kc + 1 * ((p 0).val - 16 * kc) = _; omega
    | 1 => show 0 + 1 * (p 1).val = _; omega
    | 2 => show 0 + 1 * (p 2).val = _; omega
  have h := View.write_emb_of_mem (v := ((oV).slice (Rect.unit (s := S40962x2x128) ![16 * kc, 0, 0] S16x2x128.size oinb) (fun _ => rfl)).view)
    (Val := Elt F) f (((rV).slice (Rect.unit (s := S32x2x128) ![16 * b.val, 0, 0] S16x2x128.size inb) (fun _ => rfl)).view.read (Elt F) (pooledBuf x no kc b))
    (M := Finset.univ) (x := y) (Finset.mem_univ _)
  rw [hy] at h
  refine h.trans ((cast_eq _ _).trans (((View.read_apply _ _).trans (cast_eq _ _)).trans ?_))
  unfold pooledBuf pooled
  have e0 : 16 * kc + ((16 * b.val + 1 * ((p 0).val - 16 * kc)) - 16 * b.val) = (p 0).val := by omega
  have e1 : 0 + 1 * (p 1).val = (p 1).val := by omega
  have e2 : 0 + 1 * (p 2).val = (p 2).val := by omega
  exact (congr (congr (congrArg (node x no) e0) e1) e2)

/-- The last chunk's copy writes the last two rows of the output. -/
theorem out_write2 (b : Fin 2) (off : Fin 3 → ℕ) (hoff : off = ![16 * b.val, 0, 0]) (inb : ∀ a, off a + S2x2x128.size a ≤ S32x2x128.size a)
    (oinb : ∀ a, (![40960, 0, 0] : Fin 3 → ℕ) a + S2x2x128.size a ≤ S40962x2x128.size a)
    (f : S40962x2x128.Idx → F .f32) : ∀ p ∈ oRows 40960 40976,
    ((oV).slice (Rect.unit (s := S40962x2x128) ![40960, 0, 0] S2x2x128.size oinb) (fun _ => rfl)).view.write (Elt F) f
      (((rV).slice (Rect.unit (s := S32x2x128) off S2x2x128.size inb) (fun _ => rfl)).view.read (Elt F) (pooledBuf x no 2560 b)) Finset.univ p = pooled x no p := by
  subst hoff
  intro p hp
  rw [oRows, Finset.mem_filter] at hp
  have h0 : (p 0).val < 40962 := (p 0).isLt
  let y : S2x2x128.Idx := fun
    | 0 => ⟨(p 0).val - 40960, by show _ < 2; omega⟩
    | 1 => p 1
    | 2 => p 2
  have hy : ((oV).slice (Rect.unit (s := S40962x2x128) ![40960, 0, 0] S2x2x128.size oinb) (fun _ => rfl)).view.emb y = p := by
    funext a
    apply Fin.ext
    show (![40960, 0, 0] : Fin 3 → ℕ) a + 1 * (y a).val = (p a).val
    match a with
    | 0 => show 40960 + 1 * ((p 0).val - 40960) = _; omega
    | 1 => show 0 + 1 * (p 1).val = _; omega
    | 2 => show 0 + 1 * (p 2).val = _; omega
  have h := View.write_emb_of_mem (v := ((oV).slice (Rect.unit (s := S40962x2x128) ![40960, 0, 0] S2x2x128.size oinb) (fun _ => rfl)).view)
    (Val := Elt F) f (((rV).slice (Rect.unit (s := S32x2x128) ![16 * b.val, 0, 0] S2x2x128.size inb) (fun _ => rfl)).view.read (Elt F) (pooledBuf x no 2560 b))
    (M := Finset.univ) (x := y) (Finset.mem_univ _)
  rw [hy] at h
  refine h.trans ((cast_eq _ _).trans (((View.read_apply _ _).trans (cast_eq _ _)).trans ?_))
  unfold pooledBuf pooled
  have e0 : 16 * 2560 + ((16 * b.val + 1 * ((p 0).val - 40960)) - 16 * b.val) = (p 0).val := by omega
  have e1 : 0 + 1 * (p 1).val = (p 1).val := by omega
  have e2 : 0 + 1 * (p 2).val = (p 2).val := by omega
  exact (congr (congr (congrArg (node x no) e0) e1) e2)

/-! ## The gather -/

section Copies

variable (base : ℕ) (δ : Fin 2 → Fin 112 → ℕ) (ι : ℕ) (q : PosShare TreeShare)

/-- Half `b` of the buffer of rows, at the tile's half of its share, holding chunk `kc`'s rows. -/
def rowsHeld (kc : ℕ) (b : Fin 2) : sProp 𝕄 :=
  iprop((gLoc d i ↦[gHalf b]{lSh} gathered x no kc b) ∗ toks countersEmb (δ b))

/-- Half `b` of the buffer of rows, whatever it holds. -/
def rowsFree (b : Fin 2) : sProp 𝕄 :=
  iprop((∃ f : S224x2x128.Idx → F .f32, gLoc d i ↦[gHalf b]{lSh} f) ∗ toks countersEmb (δ b))

/-- Where a tile finds the array of rows. -/
abbrev xLoc : Loc nD τ sig := (V d (cV i) (jV i)).loc main_v0_scv
/-- Where a tile finds the output. -/
abbrev oLoc : Loc nD τ sig := (V d (cV i) (jV i)).loc main_v3_scv
/-- Where a tile keeps its list of row numbers. -/
abbrev sLoc : Loc nD τ sig := (V d (cV i) (jV i)).loc cc0_scratch0

/-- What a gather reads: a share of `x2` and the tile's list. -/
def sources : sProp 𝕄 := iprop((xLoc d i ↦[Finset.univ]{q} x) ∗ (sLoc d i ↦[Finset.univ]{fullShare} listed no base))

/-- A gather's credit: the 112 rows' words. -/
abbrev gN : ℕ := ((gV).slice (Rect.unit (s := S224x2x128) ![0, 0, 0] S112x2x128.size inb_S224x2x128_S112x2x128_0_0_0) (fun _ => rfl)).view.dmaCredit

/-- A gather's credit is the sum of its rows' credits. -/
theorem gN_rows : ∑ j, (((gV).slice (Rect.unit (s := S224x2x128) ![0, 0, 0] S112x2x128.size inb_S224x2x128_S112x2x128_0_0_0) (fun _ => rfl)).slice
    (S112x2x128.rowRect gathers_S163842x2x128_S112x2x128.axis' j) (S112x2x128.stride_rowRect gathers_S163842x2x128_S112x2x128.axis' j)).view.dmaCredit = gN := by
  decide +kernel

/-- Chunk `kc`'s gather into half `b`, in flight. -/
def gFlight (kc : ℕ) (b : Fin 2) (sem : DmaSem sig) : sProp 𝕄 :=
  iprop(∃ Sd : Finset S12096.Idx, Transfers.Flight countersEmb (V d (cV i) (jV i)) (.dma sem) (default : SparseCore.Cfg.HIx 1) gN
      iprop(rowsHeld x no d i δ kc b ∗ (xLoc d i ↦[Finset.univ]{q} x) ∗ (sLoc d i ↦[Sd]{fullShare} listed no base))
    ∗ (sLoc d i ↦[Finset.univ \ Sd]{fullShare} listed no base))

set_option maxHeartbeats 4000000 in
/-- A tile starts a gather from everything it reads and a free half, and goes on with the gather in flight. -/
theorem wp_gather_start {α : Type} {Q : α → sProp 𝕄} {k : Unit → Prog (TpuEff nD τ sig (Elt F) Λ₀ (.scVector (cV i) (jV i))) α}
    (kc : ℕ) (b : Fin 2) (hno : ∀ n, numAt no n < 163842) (sem : DmaSem sig)
    (xin : ∀ a, (![0, 0, 0] : Fin 3 → ℕ) a + S163842x2x128.size a ≤ S163842x2x128.size a)
    (off : Fin 3 → ℕ) (hoff : off = ![112 * b.val, 0, 0]) (inb : ∀ a, off a + S112x2x128.size a ≤ S224x2x128.size a)
    (loff : Fin 1 → ℕ) (j : ℕ) (hloff : loff = ![j]) (hj : 112 * base + j = 112 * kc) (linb : ∀ a, loff a + S112.size a ≤ S12096.size a)
    (hn : S112.numel = S112x2x128.size gathers_S163842x2x128_S112x2x128.axis')
    (hsrc : ((xV).slice (Rect.unit (s := S163842x2x128) ![0, 0, 0] S163842x2x128.size xin) (fun _ => rfl)).view.WordExact)
    (he : EltTy.f32.bits = 32) (hsp : Space.hbm = Space.hbm ∨ Space.hbm = Space.shared) (hr : S163842x2x128.StreamRows 0) :
    iprop(inv ι (shadowBody countersEmb (gLoc d i) δ) ∗ sources x no d i base q ∗ rowsFree d i δ b ∗ semVal (V d (cV i) (jV i), SemLoc.dma sem) 0)
      ⊢ iprop((gFlight x no d i base δ q kc b sem
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (SparseCore.enqueueIndirectGather rfl ((xV).slice (Rect.unit (s := S163842x2x128) ![0, 0, 0] S163842x2x128.size xin) (fun _ => rfl))
            ((gV).slice (Rect.unit (s := S224x2x128) off S112x2x128.size inb) (fun _ => rfl)) gathers_S163842x2x128_S112x2x128
            ((sV).slice (Rect.unit (s := S12096) loff S112.size linb) (fun _ => rfl)) hn sem hsrc he hsp hr >>= k) Q) := by
  have hin : ∀ y, ((((sV).slice (Rect.unit (s := S12096) loff S112.size linb) (fun _ => rfl)).view.read (Elt F) (listed no base)) y).toNat
      < S163842x2x128.size gathers_S163842x2x128_S112x2x128.axis := by
    subst hloff
    intro y
    rw [list_read (F := F) no base j linb y]
    exact hno _
  have hN : ∑ j, (((gV).slice (Rect.unit (s := S224x2x128) off S112x2x128.size inb) (fun _ => rfl)).slice
      (S112x2x128.rowRect gathers_S163842x2x128_S112x2x128.axis' j) (S112x2x128.stride_rowRect gathers_S163842x2x128_S112x2x128.axis' j)).view.dmaCredit = gN :=
    (Finset.sum_congr rfl fun j _ => rfl).trans gN_rows
  unfold sources rowsFree
  iintro ⟨#Hinv, ⟨Hx, Hs⟩, ⟨⟨%f, Hg⟩, Ht⟩, Hsem⟩ Hk
  ihave Hss := (pointsTo_split_subset (q := fullShare) (f := listed no base) (S := Finset.univ)
    (Finset.subset_univ ((sV).slice (Rect.unit (s := S12096) loff S112.size linb) (fun _ => rfl)).view.set)).1 $$ Hs
  icases Hss with ⟨Hs, Hsr⟩
  iapply (wp_gather_shadow countersEmb (V d (cV i) (jV i)) 𝒱₀ none (default : SparseCore.Cfg.HIx 1) gN hN (by decide) hin (δ := δ) (ι := ι) b (fs := x) (fd := f)
    (q := q) (qo := fullShare)) $$ [Hx Hs Hg Ht Hsem]
  · isplitr; · iexact Hinv
    isplitl [Hx]; · rw [set_xSlice]; iexact Hx
    isplitl [Hg]; · rw [set_gSlice b off hoff inb]; iexact Hg
    isplitl [Ht]; · iexact Ht
    isplitl [Hs] <;> iassumption
  iintro Hfl
  iapply Hk
  unfold gFlight
  iexists _
  isplitl [Hfl]
  swap; · iexact Hsr
  iapply (Transfers.Flight_mono countersEmb (V d (cV i) (jV i)) ?_) $$ Hfl
  iintro ⟨⟨Hg, Ht⟩, Hx, Hs⟩
  rw [set_xSlice, set_gSlice b off hoff inb]
  unfold rowsHeld
  isplitl [Hg Ht]
  · isplitl [Hg]
    swap; · iexact Ht
    iapply (Entails.of_eq (pointsTo_congr (gather_write x no base kc b hno xin off hoff inb loff j hloff hj linb hn hin f)))
    iexact Hg
  isplitl [Hx] <;> iassumption

/-- A tile waits for a gather in flight: the half holds the chunk's rows, and what the gather read comes back. -/
theorem wp_gather_wait {α : Type} {Q : α → sProp 𝕄} {k : Unit → Prog (TpuEff nD τ sig (Elt F) Λ₀ (.scVector (cV i) (jV i))) α}
    (kc : ℕ) (b : Fin 2) (sem : DmaSem sig) {O : CellTallies nD τ sig (SparseCore.Cfg.HIx 1)} {W : Waits sig (SparseCore.Cfg.HIx 1)}
    (xin : ∀ a, (![0, 0, 0] : Fin 3 → ℕ) a + S163842x2x128.size a ≤ S163842x2x128.size a)
    (off : Fin 3 → ℕ) (inb : ∀ a, off a + S112x2x128.size a ≤ S224x2x128.size a)
    (hsrc : ((xV).slice (Rect.unit (s := S163842x2x128) ![0, 0, 0] S163842x2x128.size xin) (fun _ => rfl)).view.WordExact)
    (hdst : ((gV).slice (Rect.unit (s := S224x2x128) off S112x2x128.size inb) (fun _ => rfl)).view.WordExact) :
    iprop(gFlight x no d i base δ q kc b sem ∗ owes (V d (cV i) (jV i)) O W ∗ Transfers.MayWaits (V d (cV i) (jV i)) (default : SparseCore.Cfg.HIx 1) O)
      ⊢ iprop((rowsHeld x no d i δ kc b ∗ sources x no d i base q ∗ semVal (V d (cV i) (jV i), SemLoc.dma sem) 0
            ∗ owes (V d (cV i) (jV i)) O (insert (SemLoc.dma sem, default) W)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (SparseCore.waitIndirectGather sem ((xV).slice (Rect.unit (s := S163842x2x128) ![0, 0, 0] S163842x2x128.size xin) (fun _ => rfl))
            ((gV).slice (Rect.unit (s := S224x2x128) off S112x2x128.size inb) (fun _ => rfl)) hsrc hdst >>= k) Q) := by
  unfold gFlight
  iintro ⟨⟨%Sd, Hfl, Hsr⟩, HO, #Hmw⟩ Hk
  iapply (Transfers.wp_waitLocalO countersEmb 𝒱₀ (V d (cV i) (jV i)) none (default : SparseCore.Cfg.HIx 1) (N := gN) (hsrc := hsrc) (hdst := hdst) rfl) $$ [Hfl HO]
  · isplitl [Hfl]; · iexact Hfl
    isplitl [HO]; · iexact HO
    iapply (Transfers.MayWaits.elim (SemLoc.dma sem)) $$ Hmw
  iintro ⟨⟨Hg, Hx, Hs⟩, Hsem, HO⟩
  iapply Hk
  isplitl [Hg]; · iexact Hg
  isplitl [Hx Hs Hsr]
  · unfold sources
    isplitl [Hx]; · iexact Hx
    iapply (pointsTo_split_subset (q := fullShare) (f := listed no base) (S := Finset.univ) (Finset.subset_univ Sd)).2
    isplitl [Hs] <;> iassumption
  isplitl [Hsem] <;> iassumption

/-! ## The copies out -/

/-- Half `b` of the output buffer, whatever it holds. -/
def outFree (b : Fin 2) : sProp 𝕄 := iprop(∃ f : S32x2x128.Idx → F .f32, rLoc d i ↦[rHalf b]{fullShare} f)

/-- A chunk's rows of the output. -/
abbrev chunkRows (kc : ℕ) : Finset S40962x2x128.Idx := oRows (16 * kc) (16 * kc + 16)

/-- A copy's credit: sixteen rows' words. -/
abbrev oN : ℕ := ((oV).slice (Rect.unit (s := S40962x2x128) ![0, 0, 0] S16x2x128.size (by decide)) (fun _ => rfl)).view.dmaCredit

/-- Chunk `kc`'s copy out of half `b`, in flight. -/
def oFlight (kc : ℕ) (b : Fin 2) (sem : DmaSem sig) : sProp 𝕄 :=
  Transfers.Flight countersEmb (V d (cV i) (jV i)) (.dma sem) (default : SparseCore.Cfg.HIx 1) oN
    iprop((oLoc d i ↦[chunkRows kc]{fullShare} pooled x no) ∗ outFree d i b)

set_option maxHeartbeats 4000000 in
/-- A tile starts the copy of a pooled half to the chunk's rows. -/
theorem wp_out_start {α : Type} {Q : α → sProp 𝕄} {k : Unit → Prog (TpuEff nD τ sig (Elt F) Λ₀ (.scVector (cV i) (jV i))) α}
    (kc : ℕ) (b : Fin 2) (sem : DmaSem sig) (o : S40962x2x128.Idx → F .f32)
    (off : Fin 3 → ℕ) (hoff : off = ![16 * b.val, 0, 0]) (inb : ∀ a, off a + S16x2x128.size a ≤ S32x2x128.size a)
    (ooff : Fin 3 → ℕ) (hooff : ooff = ![16 * kc, 0, 0]) (oinb : ∀ a, ooff a + S16x2x128.size a ≤ S40962x2x128.size a)
    (hsrc : ((rV).slice (Rect.unit (s := S32x2x128) off S16x2x128.size inb) (fun _ => rfl)).view.WordExact)
    (hdst : ((oV).slice (Rect.unit (s := S40962x2x128) ooff S16x2x128.size oinb) (fun _ => rfl)).view.WordExact)
    (hsem : (DmaTarget.here ((oV).slice (Rect.unit (s := S40962x2x128) ooff S16x2x128.size oinb) (fun _ => rfl)) : DmaTarget nD τ sig (.scVector (cV i) (jV i)) .hbm S16x2x128 .f32).Typed .vmem (SemLoc.dma sem)) :
    iprop((rLoc d i ↦[rHalf b]{fullShare} pooledBuf x no kc b) ∗ (oLoc d i ↦[chunkRows kc]{fullShare} o) ∗ semVal (V d (cV i) (jV i), SemLoc.dma sem) 0)
      ⊢ iprop((oFlight x no d i kc b sem
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (Prog.lift (.enqueueDma ((rV).slice (Rect.unit (s := S32x2x128) off S16x2x128.size inb) (fun _ => rfl))
            (.here ((oV).slice (Rect.unit (s := S40962x2x128) ooff S16x2x128.size oinb) (fun _ => rfl))) (.dma sem) hsrc hdst hsem) >>= k) Q) := by
  iintro ⟨Hr, Ho, Hsem⟩ Hk
  iapply (Transfers.wp_dmaLocal countersEmb 𝒱₀ (V d (cV i) (jV i)) none (default : SparseCore.Cfg.HIx 1) oN rfl (View.dmaCredit_pos _ (show 0 < S16x2x128.numel by decide))
    (set_oSlice (16 * kc) ooff hooff oinb).subset (q := fullShare) (fs := pooledBuf x no kc b) (fd := o)) $$ [Hr Ho Hsem]
  · isplitl [Hr]; · rw [set_rSlice b off hoff inb]; iexact Hr
    isplitl [Ho] <;> iassumption
  iintro Hfl
  iapply Hk
  unfold oFlight
  iapply (Transfers.Flight_mono countersEmb (V d (cV i) (jV i)) ?_) $$ Hfl
  iintro ⟨Ho, Hr⟩
  rw [set_rSlice b off hoff inb]
  isplitl [Ho]
  · iapply (Entails.of_eq (pointsTo_congr (out_write x no kc b off hoff inb ooff hooff oinb o)))
    iexact Ho
  unfold outFree
  iexists _
  iexact Hr

/-- A tile waits for a copy out. -/
theorem wp_out_wait {α : Type} {Q : α → sProp 𝕄} {k : Unit → Prog (TpuEff nD τ sig (Elt F) Λ₀ (.scVector (cV i) (jV i))) α}
    (kc : ℕ) (b : Fin 2) (sem : DmaSem sig) {O : CellTallies nD τ sig (SparseCore.Cfg.HIx 1)} {W : Waits sig (SparseCore.Cfg.HIx 1)}
    (off : Fin 3 → ℕ) (inb : ∀ a, off a + S16x2x128.size a ≤ S32x2x128.size a)
    (ooff : Fin 3 → ℕ) (oinb : ∀ a, ooff a + S16x2x128.size a ≤ S40962x2x128.size a)
    (hsrc : ((rV).slice (Rect.unit (s := S32x2x128) off S16x2x128.size inb) (fun _ => rfl)).view.WordExact)
    (hdst : ((oV).slice (Rect.unit (s := S40962x2x128) ooff S16x2x128.size oinb) (fun _ => rfl)).view.WordExact) :
    iprop(oFlight x no d i kc b sem ∗ owes (V d (cV i) (jV i)) O W ∗ Transfers.MayWaits (V d (cV i) (jV i)) (default : SparseCore.Cfg.HIx 1) O)
      ⊢ iprop(((oLoc d i ↦[chunkRows kc]{fullShare} pooled x no) ∗ outFree d i b ∗ semVal (V d (cV i) (jV i), SemLoc.dma sem) 0
            ∗ owes (V d (cV i) (jV i)) O (insert (SemLoc.dma sem, default) W)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (Prog.lift (.waitDma2 sem ((rV).slice (Rect.unit (s := S32x2x128) off S16x2x128.size inb) (fun _ => rfl))
            ((oV).slice (Rect.unit (s := S40962x2x128) ooff S16x2x128.size oinb) (fun _ => rfl)) hsrc hdst) >>= k) Q) := by
  unfold oFlight
  iintro ⟨Hfl, HO, #Hmw⟩ Hk
  iapply (Transfers.wp_waitLocalO countersEmb 𝒱₀ (V d (cV i) (jV i)) none (default : SparseCore.Cfg.HIx 1) (N := oN) (hsrc := hsrc) (hdst := hdst) rfl) $$ [Hfl HO]
  · isplitl [Hfl]; · iexact Hfl
    isplitl [HO]; · iexact HO
    iapply (Transfers.MayWaits.elim (SemLoc.dma sem)) $$ Hmw
  iintro ⟨⟨Ho, Hr⟩, Hsem, HO⟩
  iapply Hk
  isplitl [Ho]; · iexact Ho
  isplitl [Hr]; · iexact Hr
  isplitl [Hsem] <;> iassumption

set_option maxHeartbeats 4000000 in
/-- The last chunk's two rows: the copy and its wait. -/
theorem wp_out_last {α : Type} {Q : α → sProp 𝕄} {k : Unit → Prog (TpuEff nD τ sig (Elt F) Λ₀ (.scVector (cV i) (jV i))) α}
    (b : Fin 2) (sem : DmaSem sig) (o : S40962x2x128.Idx → F .f32) {O : CellTallies nD τ sig (SparseCore.Cfg.HIx 1)} {W : Waits sig (SparseCore.Cfg.HIx 1)}
    (off : Fin 3 → ℕ) (hoff : off = ![16 * b.val, 0, 0]) (inb : ∀ a, off a + S2x2x128.size a ≤ S32x2x128.size a)
    (oinb : ∀ a, (![40960, 0, 0] : Fin 3 → ℕ) a + S2x2x128.size a ≤ S40962x2x128.size a)
    (hsrc hsrc' : ((rV).slice (Rect.unit (s := S32x2x128) off S2x2x128.size inb) (fun _ => rfl)).view.WordExact)
    (hdst hdst' : ((oV).slice (Rect.unit (s := S40962x2x128) ![40960, 0, 0] S2x2x128.size oinb) (fun _ => rfl)).view.WordExact)
    (hsem : (DmaTarget.here ((oV).slice (Rect.unit (s := S40962x2x128) ![40960, 0, 0] S2x2x128.size oinb) (fun _ => rfl)) : DmaTarget nD τ sig (.scVector (cV i) (jV i)) .hbm S2x2x128 .f32).Typed .vmem (SemLoc.dma sem)) :
    iprop((rLoc d i ↦[rHalf b]{fullShare} pooledBuf x no 2560 b) ∗ (oLoc d i ↦[chunkRows 2560]{fullShare} o) ∗ semVal (V d (cV i) (jV i), SemLoc.dma sem) 0
        ∗ owes (V d (cV i) (jV i)) O W ∗ Transfers.MayWaits (V d (cV i) (jV i)) (default : SparseCore.Cfg.HIx 1) O)
      ⊢ iprop(((oLoc d i ↦[chunkRows 2560]{fullShare} pooled x no) ∗ outFree d i b ∗ semVal (V d (cV i) (jV i), SemLoc.dma sem) 0
            ∗ owes (V d (cV i) (jV i)) O (insert (SemLoc.dma sem, default) W)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (Prog.lift (.enqueueDma ((rV).slice (Rect.unit (s := S32x2x128) off S2x2x128.size inb) (fun _ => rfl))
            (.here ((oV).slice (Rect.unit (s := S40962x2x128) ![40960, 0, 0] S2x2x128.size oinb) (fun _ => rfl))) (.dma sem) hsrc hdst hsem) >>= fun _ =>
            Prog.lift (.waitDma2 sem ((rV).slice (Rect.unit (s := S32x2x128) off S2x2x128.size inb) (fun _ => rfl))
              ((oV).slice (Rect.unit (s := S40962x2x128) ![40960, 0, 0] S2x2x128.size oinb) (fun _ => rfl)) hsrc' hdst') >>= k) Q) := by
  iintro ⟨Hr, Ho, Hsem, HO, #Hmw⟩ Hk
  ihave Hrr := (pointsTo_split_subset (q := fullShare) (f := pooledBuf x no 2560 b) (set_rSlice2 b off hoff inb)).1 $$ Hr
  icases Hrr with ⟨Hr, Hrest⟩
  iapply (Transfers.wp_dmaLocal countersEmb 𝒱₀ (V d (cV i) (jV i)) none (default : SparseCore.Cfg.HIx 1) _ rfl (View.dmaCredit_pos _ (show 0 < S2x2x128.numel by decide))
    (set_oSlice2 oinb).subset (q := fullShare) (fs := pooledBuf x no 2560 b) (fd := o)) $$ [Hr Ho Hsem]
  · isplitl [Hr]; · iexact Hr
    isplitl [Ho] <;> iassumption
  iintro Hfl
  iapply (Transfers.wp_waitLocalO countersEmb 𝒱₀ (V d (cV i) (jV i)) none (default : SparseCore.Cfg.HIx 1) (hsrc := hsrc') (hdst := hdst') rfl) $$ [Hfl HO]
  · isplitl [Hfl]; · iexact Hfl
    isplitl [HO]; · iexact HO
    iapply (Transfers.MayWaits.elim (SemLoc.dma sem)) $$ Hmw
  iintro ⟨⟨Ho, Hr⟩, Hsem, HO⟩
  iapply Hk
  isplitl [Ho]
  · iapply (Entails.of_eq (pointsTo_congr (out_write2 x no b off hoff inb oinb o)))
    iexact Ho
  isplitl [Hr Hrest]
  · unfold outFree
    iexists (pooledBuf x no 2560 b)
    iapply (pointsTo_split_subset (q := fullShare) (f := pooledBuf x no 2560 b) (set_rSlice2 b off hoff inb)).2
    isplitl [Hr] <;> iassumption
  isplitl [Hsem] <;> iassumption

end Copies

end Cert.Proof.Pool
end
-- ==== Proof.Conds.lean ====
/-
  The outer loop's conditions and offsets, as statements about natural numbers: tile `i` works on the chunks from
  `base i` on, two a trip, for `pairs i` trips; chunks up to 2559 have sixteen rows of the output, chunk 2560 has two.
-/
module

public import proofs.«01_k».proof.Proof.Chunk

@[expose] public section

noncomputable section

namespace Cert.Proof.Pool

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (SparseCore.Cfg.HIx 1) (Elt F) ℕ UU ℕ
local notation "gV" => (Memref.whole cc0_scratch1 : Memref Cert.KernelIdeal.sig Kind.scVector Space.vmem Cert.KernelIdeal.S224x2x128 EltTy.f32)
local notation "rV" => (Memref.whole cc0_scratch2 : Memref Cert.KernelIdeal.sig Kind.scVector Space.vmem Cert.KernelIdeal.S32x2x128 EltTy.f32)
local notation "xV" => (Memref.whole Cert.KernelIdeal.main_v0_scv : Memref Cert.KernelIdeal.sig Kind.scVector Space.hbm Cert.KernelIdeal.S163842x2x128 EltTy.f32)
local notation "nV" => (Memref.whole Cert.KernelIdeal.main_v2_scv : Memref Cert.KernelIdeal.sig Kind.scVector Space.hbm Cert.KernelIdeal.S297472 EltTy.i32)
local notation "oV" => (Memref.whole Cert.KernelIdeal.main_v3_scv : Memref Cert.KernelIdeal.sig Kind.scVector Space.hbm Cert.KernelIdeal.S40962x2x128 EltTy.f32)
local notation "sV" => (Memref.whole Cert.KernelIdeal.cc0_scratch0 : Memref Cert.KernelIdeal.sig Kind.scVector Space.vmem Cert.KernelIdeal.S12096 EltTy.i32)

/-- The tile's first chunk. -/
def base (i : grid0.Coords) : ℕ := if (i 0).val = 0 then 108 * (i 1).val else 54 * (i 1).val + 1728

/-- The tile's number of pairs of chunks. -/
def pairs (i : grid0.Coords) : ℕ := if (i 0).val = 0 then 54 else 27

/-- The tile's first chunk as the kernel computes it. -/
def first (i : grid0.Coords) : BitVec 32 :=
  Scalar.select (Scalar.cmpi .eq (BitVec.ofNat 32 (i 0).val) 0#32) (Scalar.muli (BitVec.ofNat 32 (i 1).val) 108#32)
    (Scalar.addi 1728#32 (Scalar.muli (BitVec.ofNat 32 (i 1).val) 54#32))

/-- The outer loop's trips are the tile's pairs. -/
theorem trips_eq : ∀ i : grid0.Coords, (k0_t1_loop i).trips = pairs i := by decide +kernel
/-- The remainder loop has no trip. -/
theorem trips18_eq : ∀ i : grid0.Coords, (k0_t18_loop i).trips = 0 := by decide +kernel

/-- When the first half's earlier copy is waited for. -/
theorem cond1_iff : ∀ (i : grid0.Coords) (t : Fin (k0_t1_loop i).trips), k0_cond1 i t = 1#1 ↔ 1 ≤ t.val ∧ base i + 2 * t.val ≤ 2561 := by decide +kernel
/-- When the first chunk of a pair is copied out as a full one. -/
theorem cond2_iff : ∀ (i : grid0.Coords) (t : Fin (k0_t1_loop i).trips), k0_cond2 i t = 1#1 ↔ base i + 2 * t.val ≤ 2559 := by decide +kernel
/-- When a pair starts the next pair's gather. -/
theorem cond4_iff : ∀ (i : grid0.Coords) (t : Fin (k0_t1_loop i).trips), k0_cond4 i t = 1#1 ↔ t.val + 1 < pairs i := by decide +kernel
/-- When the second half's earlier copy is waited for. -/
theorem cond5_iff : ∀ (i : grid0.Coords) (t : Fin (k0_t1_loop i).trips), k0_cond5 i t = 1#1 ↔ 1 ≤ t.val ∧ base i + 2 * t.val ≤ 2560 := by decide +kernel
/-- When the second chunk of a pair is copied out as a full one. -/
theorem cond6_iff : ∀ (i : grid0.Coords) (t : Fin (k0_t1_loop i).trips), k0_cond6 i t = 1#1 ↔ base i + 2 * t.val ≤ 2558 := by decide +kernel
/-- When the first half's last copy is waited for. -/
theorem cond15_iff : ∀ i : grid0.Coords, k0_cond15 i = 1#1 ↔ base i + 2 * pairs i ≤ 2561 := by decide +kernel
/-- When the second half's last copy is waited for. -/
theorem cond16_iff : ∀ i : grid0.Coords, k0_cond16 i = 1#1 ↔ base i + 2 * pairs i ≤ 2560 := by decide +kernel
/-- When the first chunk of a pair is the chunk of two rows. -/
theorem cond3_iff : ∀ (i : grid0.Coords) (t : Fin (k0_t1_loop i).trips),
    (Scalar.cmpi .ne (Scalar.extui (Scalar.cmpi .eq (Scalar.muli (Scalar.addi (first i) (Scalar.muli 2#32 (Scf.iv 0#32 1#32 t))) 16#32) 40960#32) : BitVec 32) 0#32 = 1#1)
      ↔ base i + 2 * t.val = 2560 := by decide +kernel
/-- When the second chunk of a pair is the chunk of two rows. -/
theorem cond7_iff : ∀ (i : grid0.Coords) (t : Fin (k0_t1_loop i).trips),
    (Scalar.cmpi .ne (Scalar.extui (Scalar.cmpi .eq (Scalar.muli (Scalar.addi (first i) (Scalar.addi (Scalar.muli 2#32 (Scf.iv 0#32 1#32 t)) 1#32)) 16#32) 40960#32) : BitVec 32) 0#32 = 1#1)
      ↔ base i + 2 * t.val + 1 = 2560 := by decide +kernel

end Cert.Proof.Pool
end
-- ==== Proof.Put.lean ====
/-
  Small changes of what a tile holds, and the two ends of a half of the output buffer: it is claimed back when its last
  copy has landed, and it goes out when it has been pooled.
-/
module

public import proofs.«01_k».proof.Proof.Conds

@[expose] public section

noncomputable section

namespace Cert.Proof.Pool

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (SparseCore.Cfg.HIx 1) (Elt F) ℕ UU ℕ
local notation "gV" => (Memref.whole cc0_scratch1 : Memref Cert.KernelIdeal.sig Kind.scVector Space.vmem Cert.KernelIdeal.S224x2x128 EltTy.f32)
local notation "rV" => (Memref.whole cc0_scratch2 : Memref Cert.KernelIdeal.sig Kind.scVector Space.vmem Cert.KernelIdeal.S32x2x128 EltTy.f32)
local notation "xV" => (Memref.whole Cert.KernelIdeal.main_v0_scv : Memref Cert.KernelIdeal.sig Kind.scVector Space.hbm Cert.KernelIdeal.S163842x2x128 EltTy.f32)
local notation "nV" => (Memref.whole Cert.KernelIdeal.main_v2_scv : Memref Cert.KernelIdeal.sig Kind.scVector Space.hbm Cert.KernelIdeal.S297472 EltTy.i32)
local notation "oV" => (Memref.whole Cert.KernelIdeal.main_v3_scv : Memref Cert.KernelIdeal.sig Kind.scVector Space.hbm Cert.KernelIdeal.S40962x2x128 EltTy.f32)
local notation "sV" => (Memref.whole Cert.KernelIdeal.cc0_scratch0 : Memref Cert.KernelIdeal.sig Kind.scVector Space.vmem Cert.KernelIdeal.S12096 EltTy.i32)

variable (x : S163842x2x128.Idx → F .f32) (no : S297472.Idx → BitVec 32) (o : S40962x2x128.Idx → F .f32)
variable (d : Dev nD) (i : grid0.Coords) (δ : Fin 2 → Fin 112 → ℕ) (ι : ℕ) (q : PosShare TreeShare)
variable (O : CellTallies nD τ sig (SparseCore.Cfg.HIx 1)) (W : Waits sig (SparseCore.Cfg.HIx 1))

/-! ## Small changes of what is held -/

/-- The tokens of a half, one of them apart. -/
theorem toks_one (b : Fin 2) : (toks countersEmb (δ b) : sProp 𝕄)
    = iprop(Transfers.tok countersEmb (δ b 0) ∗ bigSep (Finset.univ.erase (0 : Fin 112)) fun k => Transfers.tok countersEmb (δ b k)) := by
  unfold toks
  exact SparseCore.bigSep_erase' (Finset.mem_univ 0)

/-- A half whose rows are held is free to be gathered into. -/
theorem rowsHeld_free (kc : ℕ) (b : Fin 2) : rowsHeld x no d i δ kc b ⊢ rowsFree (F := F) d i δ b := by
  unfold rowsHeld rowsFree
  iintro ⟨Hg, Ht⟩
  isplitl [Hg]; · iexists _; iexact Hg
  iexact Ht

/-- Rows `lo` to `mid` and `mid` to `hi` of the output are rows `lo` to `hi`. -/
theorem oRows_join (f : S40962x2x128.Idx → F .f32) {lo mid hi : ℕ} (h1 : lo ≤ mid) (h2 : mid ≤ hi) :
    (oLoc d i ↦[oRows lo hi]{fullShare} f : sProp 𝕄) ⊣⊢ iprop((oLoc d i ↦[oRows lo mid]{fullShare} f) ∗ (oLoc d i ↦[oRows mid hi]{fullShare} f)) := by
  have e : oRows lo hi = oRows lo mid ∪ oRows mid hi := by
    ext p
    simp only [oRows, Finset.mem_union, Finset.mem_filter, Finset.mem_univ, _root_.true_and]
    omega
  rw [e]
  refine pointsTo_union (Finset.disjoint_left.mpr fun p hp hq => ?_)
  simp only [oRows, Finset.mem_filter, Finset.mem_univ, _root_.true_and] at hp hq
  omega

/-- What the tile owes, after waits of its own. -/
def owing : sProp 𝕄 := iprop(∃ W', ⌜∀ p ∈ W', p ∈ W ∨ p.2 = none⌝ ∗ owes (V d (cV i) (jV i)) O W')

/-- A wait on a semaphore of the tile's own leaves the tile owing what it owed. -/
theorem owing_wait {W' : Waits sig (SparseCore.Cfg.HIx 1)} (h : ∀ p ∈ W', p ∈ W ∨ p.2 = none) (sm : SemLoc sig) :
    owes (V d (cV i) (jV i)) O (insert (sm, (default : SparseCore.Cfg.HIx 1)) W') ⊢ (owing d i O W : sProp 𝕄) := by
  unfold owing
  iintro HO
  iexists _
  isplitr
  swap; · iexact HO
  ipureintro
  intro p hp
  rcases Finset.mem_insert.mp hp with hp | hp
  · exact .inr (hp ▸ rfl)
  · exact h p hp

/-- A semaphore's cell on this tile. -/
abbrev cell (sem : DmaSem sig) : GSem nD τ sig := (V d (cV i) (jV i), SemLoc.dma sem)

/-! ## A half of the output buffer between its copies -/

/-- Half `b` of the output buffer after it was copied out as chunk `kc` (`s`), or before its first copy: a whole chunk's
    copy is in flight; the others have landed or had nothing to copy. -/
def outSt (s : Prop) [Decidable s] (kc : ℕ) (b : Fin 2) (sem : DmaSem sig) : sProp 𝕄 :=
  if s then (if kc ≤ 2559 then oFlight x no d i kc b sem
    else iprop(outFree d i b ∗ semVal (cell d i sem) 0 ∗ (oLoc d i ↦[chunkRows kc]{fullShare} pooled x no)))
  else iprop(outFree d i b ∗ semVal (cell d i sem) 0)

/-- The chunk's rows of the output, pooled, if there was a chunk. -/
def outDone (s : Prop) [Decidable s] (kc : ℕ) : sProp 𝕄 := if s then oLoc d i ↦[chunkRows kc]{fullShare} pooled x no else iprop(emp)

/-- The half is claimed back: the wait, where there is a copy to wait for. -/
theorem wp_claim {α : Type} {Q : α → sProp 𝕄} {k : Unit → Prog (TpuEff nD τ sig (Elt F) Λ₀ (.scVector (cV i) (jV i))) α}
    (c s : Prop) [Decidable c] [Decidable s] (kc : ℕ) (hc : c ↔ s ∧ kc ≤ 2559) (b : Fin 2) (sem : DmaSem sig)
    (off : Fin 3 → ℕ) (inb : ∀ a, off a + S16x2x128.size a ≤ S32x2x128.size a)
    (ooff : Fin 3 → ℕ) (oinb : c → ∀ a, ooff a + S16x2x128.size a ≤ S40962x2x128.size a)
    (hsrc : ((rV).slice (Rect.unit (s := S32x2x128) off S16x2x128.size inb) (fun _ => rfl)).view.WordExact)
    (hdst : ∀ h : c, ((oV).slice (Rect.unit (s := S40962x2x128) ooff S16x2x128.size (oinb h)) (fun _ => rfl)).view.WordExact) :
    iprop(outSt x no d i s kc b sem ∗ owing d i O W ∗ Transfers.MayWaits (V d (cV i) (jV i)) (default : SparseCore.Cfg.HIx 1) O)
      ⊢ iprop((outFree d i b ∗ semVal (cell d i sem) 0 ∗ outDone x no d i s kc ∗ owing d i O W
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (opt c (fun h => Prog.lift (.waitDma2 sem ((rV).slice (Rect.unit (s := S32x2x128) off S16x2x128.size inb) (fun _ => rfl))
            ((oV).slice (Rect.unit (s := S40962x2x128) ooff S16x2x128.size (oinb h)) (fun _ => rfl)) hsrc (hdst h))) >>= k) Q) := by
  rw [opt_bind]
  by_cases h : c
  · rw [dif_pos h]
    unfold outSt outDone owing
    simp only [if_pos (hc.mp h).1, if_pos (hc.mp h).2]
    iintro ⟨Hfl, ⟨%W', %hW', HO⟩, #Hmw⟩ Hk
    iapply (wp_out_wait x no d i kc b sem off inb ooff (oinb h) hsrc (hdst h)) $$ [Hfl HO]
    · isplitl [Hfl]; · iexact Hfl
      isplitl [HO]; · iexact HO
      iexact Hmw
    iintro ⟨Ho, Hr, Hsem, HO⟩
    iapply Hk
    isplitl [Hr]; · iexact Hr
    isplitl [Hsem]; · iexact Hsem
    isplitl [Ho]; · iexact Ho
    ihave HO' := (owing_wait d i O W hW' (SemLoc.dma sem)) $$ HO
    unfold owing
    iexact HO'
  · rw [dif_neg h]
    unfold outSt outDone
    by_cases hs : s
    · have hk : ¬ kc ≤ 2559 := fun hk => h (hc.mpr ⟨hs, hk⟩)
      simp only [if_pos hs, if_neg hk]
      iintro ⟨⟨Hr, Hsem, Ho⟩, HO, -⟩ Hk
      iapply Hk
      isplitl [Hr]; · iexact Hr
      isplitl [Hsem]; · iexact Hsem
      isplitl [Ho] <;> iassumption
    · simp only [if_neg hs]
      iintro ⟨⟨Hr, Hsem⟩, HO, -⟩ Hk
      iapply Hk
      isplitl [Hr]; · iexact Hr
      isplitl [Hsem]; · iexact Hsem
      isplitr; · iempintro
      iexact HO

/-- A pooled half goes out: sixteen rows by a copy that stays in flight, the last two rows by a copy that is waited for,
    and nothing beyond the output's rows. -/
theorem wp_put {α : Type} {Q : α → sProp 𝕄} {k : Unit → Prog (TpuEff nD τ sig (Elt F) Λ₀ (.scVector (cV i) (jV i))) α}
    (c c' : Prop) [Decidable c] [Decidable c'] (kc : ℕ) (hc : c ↔ kc ≤ 2559) (hc' : c' ↔ kc = 2560) (b : Fin 2) (sem sem' : DmaSem sig)
    (off : Fin 3 → ℕ) (hoff : off = ![16 * b.val, 0, 0]) (inb : ∀ a, off a + S16x2x128.size a ≤ S32x2x128.size a)
    (ooff : Fin 3 → ℕ) (hooff : ooff = ![16 * kc, 0, 0]) (oinb : c → ∀ a, ooff a + S16x2x128.size a ≤ S40962x2x128.size a)
    (hsrc : ((rV).slice (Rect.unit (s := S32x2x128) off S16x2x128.size inb) (fun _ => rfl)).view.WordExact)
    (hdst : ∀ h : c, ((oV).slice (Rect.unit (s := S40962x2x128) ooff S16x2x128.size (oinb h)) (fun _ => rfl)).view.WordExact)
    (hsem : ∀ h : c, (DmaTarget.here ((oV).slice (Rect.unit (s := S40962x2x128) ooff S16x2x128.size (oinb h)) (fun _ => rfl)) : DmaTarget nD τ sig (.scVector (cV i) (jV i)) .hbm S16x2x128 .f32).Typed .vmem (SemLoc.dma sem))
    (inb2 : ∀ a, off a + S2x2x128.size a ≤ S32x2x128.size a)
    (oinb2 : ∀ a, (![40960, 0, 0] : Fin 3 → ℕ) a + S2x2x128.size a ≤ S40962x2x128.size a)
    (hsrc2 hsrc2' : ((rV).slice (Rect.unit (s := S32x2x128) off S2x2x128.size inb2) (fun _ => rfl)).view.WordExact)
    (hdst2 hdst2' : ((oV).slice (Rect.unit (s := S40962x2x128) ![40960, 0, 0] S2x2x128.size oinb2) (fun _ => rfl)).view.WordExact)
    (hsem2 : (DmaTarget.here ((oV).slice (Rect.unit (s := S40962x2x128) ![40960, 0, 0] S2x2x128.size oinb2) (fun _ => rfl)) : DmaTarget nD τ sig (.scVector (cV i) (jV i)) .hbm S2x2x128 .f32).Typed .vmem (SemLoc.dma sem')) :
    iprop((rLoc d i ↦[rHalf b]{fullShare} pooledBuf x no kc b) ∗ (oLoc d i ↦[chunkRows kc]{fullShare} o) ∗ semVal (cell d i sem) 0 ∗ semVal (cell d i sem') 0
        ∗ owing d i O W ∗ Transfers.MayWaits (V d (cV i) (jV i)) (default : SparseCore.Cfg.HIx 1) O)
      ⊢ iprop((outSt x no d i True kc b sem ∗ semVal (cell d i sem') 0 ∗ owing d i O W
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (opt c (fun h => Prog.lift (.enqueueDma ((rV).slice (Rect.unit (s := S32x2x128) off S16x2x128.size inb) (fun _ => rfl))
            (.here ((oV).slice (Rect.unit (s := S40962x2x128) ooff S16x2x128.size (oinb h)) (fun _ => rfl))) (.dma sem) hsrc (hdst h) (hsem h)))
            >>= fun _ => opt c' (fun _ => (Prog.lift (.enqueueDma ((rV).slice (Rect.unit (s := S32x2x128) off S2x2x128.size inb2) (fun _ => rfl))
            (.here ((oV).slice (Rect.unit (s := S40962x2x128) ![40960, 0, 0] S2x2x128.size oinb2) (fun _ => rfl))) (.dma sem') hsrc2 hdst2 hsem2) >>= fun _ =>
            Prog.lift (.waitDma2 sem' ((rV).slice (Rect.unit (s := S32x2x128) off S2x2x128.size inb2) (fun _ => rfl))
              ((oV).slice (Rect.unit (s := S40962x2x128) ![40960, 0, 0] S2x2x128.size oinb2) (fun _ => rfl)) hsrc2' hdst2'))) >>= k) Q) := by
  rw [opt_bind, opt_bind]
  unfold outSt
  by_cases h : c
  · have h1 := hc.mp h
    have h2 : ¬ c' := fun h' => by have := hc'.mp h'; omega
    rw [dif_pos h, dif_neg h2]
    simp only [if_pos h1, if_true]
    iintro ⟨Hr, Ho, Hsem, Hsem', HO, -⟩ Hk
    iapply (wp_out_start x no d i kc b sem o off hoff inb ooff hooff (oinb h) hsrc (hdst h) (hsem h)) $$ [Hr Ho Hsem]
    · isplitl [Hr]; · iexact Hr
      isplitl [Ho] <;> iassumption
    iintro Hfl
    iapply Hk
    isplitl [Hfl]; · iexact Hfl
    isplitl [Hsem'] <;> iassumption
  · have h1 : ¬ kc ≤ 2559 := fun h' => h (hc.mpr h')
    rw [dif_neg h]
    simp only [if_neg h1, if_true]
    by_cases h2 : c'
    · have h3 := hc'.mp h2
      subst h3
      rw [dif_pos h2]
      unfold owing
      iintro ⟨Hr, Ho, Hsem, Hsem', ⟨%W', %hW', HO⟩, #Hmw⟩ Hk
      iapply (wp_out_last x no d i b sem' o off hoff inb2 oinb2 hsrc2 hsrc2' hdst2 hdst2' hsem2) $$ [Hr Ho Hsem' HO]
      · isplitl [Hr]; · iexact Hr
        isplitl [Ho]; · iexact Ho
        isplitl [Hsem']; · iexact Hsem'
        isplitl [HO]; · iexact HO
        iexact Hmw
      iintro ⟨Ho, Hr, Hsem', HO⟩
      iapply Hk
      isplitl [Hr Ho Hsem]
      · isplitl [Hr]; · iexact Hr
        isplitl [Hsem] <;> iassumption
      isplitl [Hsem']; · iexact Hsem'
      ihave HO' := (owing_wait d i O W hW' (SemLoc.dma sem')) $$ HO
      unfold owing
      iexact HO'
    · rw [dif_neg h2]
      have h4 : chunkRows kc = ∅ := by
        ext p
        have h0 : (p 0).val < 40962 := (p 0).isLt
        simp only [chunkRows, oRows, Finset.mem_filter, Finset.mem_univ, _root_.true_and, Finset.notMem_empty, iff_false]
        have : kc ≠ 2560 := fun h' => h2 (hc'.mpr h')
        omega
      rw [h4, pointsTo_empty, pointsTo_empty]
      iintro ⟨Hr, Ho, Hsem, Hsem', HO, -⟩ Hk
      iapply Hk
      isplitl [Hr Ho Hsem]
      · isplitl [Hr]
        · unfold outFree
          iexists _
          iexact Hr
        isplitl [Hsem] <;> iassumption
      isplitl [Hsem'] <;> iassumption

end Cert.Proof.Pool
end
-- ==== Proof.Pair.lean ====
/-
  The generated body of the outer loop is `pair` (Group.lean): the generated parts are opened, their sequence is
  reassociated, and what is left is the same text.
-/
module

public import proofs.«01_k».proof.Defs
public import proofs.«01_k».proof.Proof.Gen.KernelIdeal
public import proofs.«01_k».proof.Proof.Gen.KernelIdeal.Skeleton
public import proofs.«01_k».proof.Proof.Group

@[expose] public section

noncomputable section

namespace Cert.Proof.Pool

open Cert.KernelIdeal Cert.KernelIdeal.Gen
open Idealize.ShloMosaic Idealize.SL.Sem

variable {F : FTy → Type} [FloatOps F] [Named F]

/-- The generated start of a pair is `pairStart`. -/
theorem part33_eq (i : grid0.Coords) (arg2 : Memref sig .scVector .hbm S163842x2x128 .f32) (harg2 : arg2.IsWhole) (arg3 : Memref sig .scVector .hbm S297472 .i32) (harg3 : arg3.IsWhole) (arg4 : Memref sig .scVector .hbm S40962x2x128 .f32) (harg4 : arg4.IsWhole) (arg5 : Memref sig .scVector .vmem S12096 .i32) (harg5 : arg5.IsWhole) (arg6 : Memref sig .scVector .vmem S224x2x128 .f32) (harg6 : arg6.IsWhole) (arg7 : Memref sig .scVector .vmem S32x2x128 .f32) (harg7 : arg7.IsWhole) (arg8 : DmaSems sig S_) (arg9 : DmaSems sig S_) (arg10 : DmaSems sig S_) (arg11 : DmaSems sig S_) (v33_r0 : DmaSems sig S_) (v1265_r1 : DmaSems sig S_) (v1265_r2 : DmaSems sig S_) (v1265_r3 : DmaSems sig S_) (v1265_r4 : DmaSems sig S_) (v4 : BitVec 32) (t : Fin (k0_t1_loop i).trips) :
    k0_part33 (F := F) i arg2 harg2 arg3 harg3 arg4 harg4 arg5 harg5 arg6 harg6 arg7 harg7 arg8 arg9 arg10 arg11 v33_r0 v1265_r1 v1265_r2 v1265_r3 v1265_r4 v4 k0_pay1241 0#32 1#32 t = (pairStart i arg2 harg2 arg3 harg3 arg4 harg4 arg5 harg5 arg6 harg6 arg7 harg7 arg8 arg9 arg10 arg11 v33_r0 v1265_r1 v1265_r2 v1265_r3 v1265_r4 v4 t >>= fun _ => pure
      ⟨Scf.iv 0#32 1#32 t, Scalar.muli 2#32 (Scf.iv 0#32 1#32 t), k0_pay321 k0_pay1241, k0_pay322 k0_pay1241, k0_pay323 k0_pay1241⟩) := by
  rw [k0_part33_eq_skeleton]
  unfold k0_part33_skel pairStart
  simp only [bind_assoc, pure_bind]
  simp only [bind_assoc, pure_bind, opt_bind]
  rfl

/-- The generated middle of a pair is `pairMid`. -/
theorem part49_eq (i : grid0.Coords) (arg2 : Memref sig .scVector .hbm S163842x2x128 .f32) (harg2 : arg2.IsWhole) (arg3 : Memref sig .scVector .hbm S297472 .i32) (harg3 : arg3.IsWhole) (arg4 : Memref sig .scVector .hbm S40962x2x128 .f32) (harg4 : arg4.IsWhole) (arg5 : Memref sig .scVector .vmem S12096 .i32) (harg5 : arg5.IsWhole) (arg6 : Memref sig .scVector .vmem S224x2x128 .f32) (harg6 : arg6.IsWhole) (arg7 : Memref sig .scVector .vmem S32x2x128 .f32) (harg7 : arg7.IsWhole) (arg8 : DmaSems sig S_) (arg9 : DmaSems sig S_) (arg10 : DmaSems sig S_) (arg11 : DmaSems sig S_) (v33_r0 : DmaSems sig S_) (v1265_r1 : DmaSems sig S_) (v1265_r2 : DmaSems sig S_) (v1265_r3 : DmaSems sig S_) (v1265_r4 : DmaSems sig S_) (v4 v5 : BitVec 32) (t : Fin (k0_t1_loop i).trips) :
    k0_part49 (F := F) i arg2 harg2 arg3 harg3 arg4 harg4 arg5 harg5 arg6 harg6 arg7 harg7 arg8 arg9 arg10 arg11 v33_r0 v1265_r1 v1265_r2 v1265_r3 v1265_r4 v4 v5 t (Scf.iv 0#32 1#32 t) (Scalar.muli 2#32 (Scf.iv 0#32 1#32 t)) = (pairMid i arg2 harg2 arg3 harg3 arg4 harg4 arg5 harg5 arg6 harg6 arg7 harg7 arg8 arg9 arg10 arg11 v33_r0 v1265_r1 v1265_r2 v1265_r3 v1265_r4 v4 t >>= fun _ => pure
      ⟨Scalar.addi (Scalar.muli 2#32 (Scf.iv 0#32 1#32 t)) 1#32, 0#32⟩) := by
  rw [k0_part49_eq_skeleton]
  unfold k0_part49_skel pairMid
  simp only [bind_assoc, pure_bind]
  simp only [bind_assoc, pure_bind, opt_bind]
  rfl

set_option maxRecDepth 65536 in
set_option maxHeartbeats 40000000 in
/-- The body of the outer loop is that pair. -/
theorem pair_eq (i : grid0.Coords) (arg2 : Memref sig .scVector .hbm S163842x2x128 .f32) (harg2 : arg2.IsWhole) (arg3 : Memref sig .scVector .hbm S297472 .i32) (harg3 : arg3.IsWhole) (arg4 : Memref sig .scVector .hbm S40962x2x128 .f32) (harg4 : arg4.IsWhole) (arg5 : Memref sig .scVector .vmem S12096 .i32) (harg5 : arg5.IsWhole) (arg6 : Memref sig .scVector .vmem S224x2x128 .f32) (harg6 : arg6.IsWhole) (arg7 : Memref sig .scVector .vmem S32x2x128 .f32) (harg7 : arg7.IsWhole) (arg8 : DmaSems sig S_) (arg9 : DmaSems sig S_) (arg10 : DmaSems sig S_) (arg11 : DmaSems sig S_) (v33_r0 : DmaSems sig S_) (v1265_r1 : DmaSems sig S_) (v1265_r2 : DmaSems sig S_) (v1265_r3 : DmaSems sig S_) (v1265_r4 : DmaSems sig S_) (v4 v5 : BitVec 32) (t : Fin (k0_t1_loop i).trips) :
    k0_t1_body (F := F) i arg2 harg2 arg3 harg3 arg4 harg4 arg5 harg5 arg6 harg6 arg7 harg7 arg8 arg9 arg10 arg11 v33_r0 v1265_r1 v1265_r2 v1265_r3 v1265_r4 v4 v5 t ⟨⟩ = pair i arg2 harg2 arg3 harg3 arg4 harg4 arg5 harg5 arg6 harg6 arg7 harg7 arg8 arg9 arg10 arg11 v33_r0 v1265_r1 v1265_r2 v1265_r3 v1265_r4 v4 t := by
  unfold k0_t1_body pair
  simp only [k0_part65_eq_skeleton, k0_part65_skel, part33_eq, part49_eq, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton,
    k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, bind_assoc, pure_bind]
  unfold k0_t2_body k0_t3_body k0_t4_body k0_t5_body k0_t6_body k0_t7_body k0_t8_body k0_t9_body k0_t10_body k0_t11_body k0_t12_body k0_t13_body k0_t14_body k0_t15_body k0_t16_body k0_t17_body poolHalf pool
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton,
    k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, bind_assoc, pure_bind, opt_pure]
  unfold pairEnd opt trip grp
  simp only [bind_assoc, pure_bind]
  rfl

end Cert.Proof.Pool
end
-- ==== Proof.Outer.lean ====
/-
  The outer loop: what a tile holds before each pair of chunks, and that a pair takes it to the next.
-/
module

public import proofs.«01_k».proof.Proof.Put
public import proofs.«01_k».proof.Proof.Pair

@[expose] public section

noncomputable section

namespace Cert.Proof.Pool

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (SparseCore.Cfg.HIx 1) (Elt F) ℕ UU ℕ
local notation "gV" => (Memref.whole cc0_scratch1 : Memref Cert.KernelIdeal.sig Kind.scVector Space.vmem Cert.KernelIdeal.S224x2x128 EltTy.f32)
local notation "rV" => (Memref.whole cc0_scratch2 : Memref Cert.KernelIdeal.sig Kind.scVector Space.vmem Cert.KernelIdeal.S32x2x128 EltTy.f32)
local notation "xV" => (Memref.whole Cert.KernelIdeal.main_v0_scv : Memref Cert.KernelIdeal.sig Kind.scVector Space.hbm Cert.KernelIdeal.S163842x2x128 EltTy.f32)
local notation "nV" => (Memref.whole Cert.KernelIdeal.main_v2_scv : Memref Cert.KernelIdeal.sig Kind.scVector Space.hbm Cert.KernelIdeal.S297472 EltTy.i32)
local notation "oV" => (Memref.whole Cert.KernelIdeal.main_v3_scv : Memref Cert.KernelIdeal.sig Kind.scVector Space.hbm Cert.KernelIdeal.S40962x2x128 EltTy.f32)
local notation "sV" => (Memref.whole Cert.KernelIdeal.cc0_scratch0 : Memref Cert.KernelIdeal.sig Kind.scVector Space.vmem Cert.KernelIdeal.S12096 EltTy.i32)

variable (x : S163842x2x128.Idx → F .f32) (no : S297472.Idx → BitVec 32) (o : S40962x2x128.Idx → F .f32)
variable (d : Dev nD) (i : grid0.Coords) (δ : Fin 2 → Fin 112 → ℕ) (ι : ℕ) (q : PosShare TreeShare)
variable (O : CellTallies nD τ sig (SparseCore.Cfg.HIx 1)) (W : Waits sig (SparseCore.Cfg.HIx 1))

/-- The first half of the buffer of rows before pair `t`: its gather is in flight, or there is no further pair. -/
def ahead (t : ℕ) : sProp 𝕄 :=
  if t < pairs i then gFlight x no d i (base i) δ q (base i + 2 * t) 0 cc0_scratch3.sem
  else iprop(sources x no d i (base i) q ∗ rowsFree d i δ 0 ∗ semVal (cell d i cc0_scratch3.sem) 0)

/-- What the tile holds before pair `t`. -/
def before (t : ℕ) : sProp 𝕄 :=
  iprop(ahead x no d i δ q t ∗ rowsFree d i δ 1 ∗ semVal (cell d i cc0_scratch4.sem) 0
    ∗ outSt x no d i (0 < t) (base i + 2 * (t - 1)) 0 cc0_scratch5.sem
    ∗ outSt x no d i (0 < t) (base i + 2 * (t - 1) + 1) 1 cc0_scratch6.sem
    ∗ (oLoc d i ↦[oRows (16 * base i) (16 * (base i + 2 * (t - 1)))]{fullShare} pooled x no)
    ∗ (oLoc d i ↦[oRows (16 * (base i + 2 * t)) (16 * (base i + 2 * pairs i))]{fullShare} o)
    ∗ semVal (cell d i cc0_scoped1.sem) 0 ∗ semVal (cell d i cc0_scoped2.sem) 0 ∗ owing d i O W)

/-- The rows still to be written, two chunks apart. -/
theorem todo_split (t : ℕ) (ht : t < pairs i) :
    (oLoc d i ↦[oRows (16 * (base i + 2 * t)) (16 * (base i + 2 * pairs i))]{fullShare} o : sProp 𝕄)
      ⊢ iprop((oLoc d i ↦[chunkRows (base i + 2 * t)]{fullShare} o) ∗ (oLoc d i ↦[chunkRows (base i + 2 * t + 1)]{fullShare} o)
        ∗ (oLoc d i ↦[oRows (16 * (base i + 2 * (t + 1))) (16 * (base i + 2 * pairs i))]{fullShare} o)) := by
  have e1 : 16 * (base i + 2 * t) + 16 = 16 * (base i + 2 * t + 1) := by omega
  have e2 : 16 * (base i + 2 * t + 1) + 16 = 16 * (base i + 2 * (t + 1)) := by omega
  unfold chunkRows
  rw [e1, e2]
  refine (oRows_join d i o (mid := 16 * (base i + 2 * t + 1)) (by omega) (by omega)).1.trans ?_
  iintro ⟨H0, H1⟩
  isplitl [H0]; · iexact H0
  iapply (oRows_join d i o (mid := 16 * (base i + 2 * (t + 1))) (by omega) (by omega)).1 $$ H1

/-- The rows written, with the two chunks that have landed. -/
theorem done_join (t : ℕ) :
    iprop((oLoc d i ↦[oRows (16 * base i) (16 * (base i + 2 * (t - 1)))]{fullShare} pooled x no)
        ∗ outDone x no d i (0 < t) (base i + 2 * (t - 1)) ∗ outDone x no d i (0 < t) (base i + 2 * (t - 1) + 1))
      ⊢ (oLoc d i ↦[oRows (16 * base i) (16 * (base i + 2 * t))]{fullShare} pooled x no : sProp 𝕄) := by
  unfold outDone
  by_cases h : 0 < t
  · simp only [if_pos h]
    have e1 : 16 * (base i + 2 * (t - 1)) + 16 = 16 * (base i + 2 * (t - 1) + 1) := by omega
    have e2 : 16 * (base i + 2 * (t - 1) + 1) + 16 = 16 * (base i + 2 * t) := by omega
    unfold chunkRows
    rw [e1, e2]
    iintro ⟨H0, H1, H2⟩
    iapply (oRows_join d i (pooled x no) (mid := 16 * (base i + 2 * (t - 1))) (by omega) (by omega)).2
    isplitl [H0]; · iexact H0
    iapply (oRows_join d i (pooled x no) (mid := 16 * (base i + 2 * (t - 1) + 1)) (by omega) (by omega)).2
    isplitl [H1] <;> iassumption
  · simp only [if_neg h]
    have e0 : t = 0 := by omega
    subst e0
    iintro ⟨H0, -⟩
    iexact H0

/-- The gather for the next pair, where there is one. -/
theorem wp_ahead {α : Type} {Q : α → sProp 𝕄} {k : Unit → Prog (TpuEff nD τ sig (Elt F) Λ₀ (.scVector (cV i) (jV i))) α}
    (hno : ∀ n, numAt no n < 163842) (t : Fin (k0_t1_loop i).trips)
    (xin : ∀ a, (![0, 0, 0] : Fin 3 → ℕ) a + S163842x2x128.size a ≤ S163842x2x128.size a)
    (inb : ∀ a, (![0, 0, 0] : Fin 3 → ℕ) a + S112x2x128.size a ≤ S224x2x128.size a)
    (linb : k0_cond4 i t = 1#1 → ∀ a, k0_off39 i t a + S112.size a ≤ S12096.size a)
    (hn : S112.numel = S112x2x128.size gathers_S163842x2x128_S112x2x128.axis')
    (hsrc : ((xV).slice (Rect.unit (s := S163842x2x128) ![0, 0, 0] S163842x2x128.size xin) (fun _ => rfl)).view.WordExact)
    (he : EltTy.f32.bits = 32) (hsp : Space.hbm = Space.hbm ∨ Space.hbm = Space.shared) (hr : S163842x2x128.StreamRows 0) :
    iprop(inv ι (shadowBody countersEmb (gLoc d i) δ) ∗ sources x no d i (base i) q ∗ rowsFree d i δ 0 ∗ semVal (cell d i cc0_scratch3.sem) 0)
      ⊢ iprop((ahead x no d i δ q (t.val + 1)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (opt (k0_cond4 i t = 1#1) (fun h4 => SparseCore.enqueueIndirectGather rfl ((xV).slice (Rect.unit (s := S163842x2x128) ![0, 0, 0] S163842x2x128.size xin) (fun _ => rfl))
            ((gV).slice (Rect.unit (s := S224x2x128) ![0, 0, 0] S112x2x128.size inb) (fun _ => rfl)) gathers_S163842x2x128_S112x2x128
            ((sV).slice (Rect.unit (s := S12096) (k0_off39 i t) S112.size (linb h4)) (fun _ => rfl)) hn cc0_scratch3.sem hsrc he hsp hr) >>= k) Q) := by
  rw [opt_bind]
  unfold ahead
  by_cases h : k0_cond4 i t = 1#1
  · rw [dif_pos h, if_pos ((cond4_iff i t).mp h)]
    exact wp_gather_start x no d i (base i) δ ι q (base i + 2 * (t.val + 1)) 0 hno cc0_scratch3.sem xin ![0, 0, 0] rfl inb
      (k0_off39 i t) (224 * t.val + 224) (k0_off39_eq i t) (by omega) (linb h) hn hsrc he hsp hr
  · rw [dif_neg h, if_neg (fun h' => h ((cond4_iff i t).mpr h'))]
    iintro ⟨-, H⟩ Hk
    iapply Hk $$ H

/-- The pooling of a half, its first row given as a word. -/
theorem wp_half {α : Type} {Q : α → sProp 𝕄} {k : Unit → Prog (TpuEff nD τ sig (Elt F) Λ₀ (.scVector (cV i) (jV i))) α}
    (kc : ℕ) (b : Fin 2) (w : BitVec 32) (hw : w = BitVec.ofNat 32 (112 * b.val)) (f : S32x2x128.Idx → F .f32) :
    iprop(inv ι (shadowBody countersEmb (gLoc d i) δ) ∗ rowsOf x no d i δ kc b ∗ (rLoc d i ↦[rHalf b]{fullShare} f))
      ⊢ iprop((rowsOf x no d i δ kc b ∗ (rLoc d i ↦[rHalf b]{fullShare} pooledBuf x no kc b)
          -∗ wp frame (wpE (defs₀ (F := F)) 𝒱₀ (V d (cV i) (jV i)) none) Set.univ (k ⟨⟩) Q)
        -∗ wp frame (wpE (defs₀ (F := F)) 𝒱₀ (V d (cV i) (jV i)) none) Set.univ (poolHalf i gV rV b w >>= k) Q) := by
  subst hw
  exact wp_poolHalf x no d i b f

set_option maxHeartbeats 4000000 in
/-- A pair takes what the tile holds to the next. -/
theorem wp_pair {α : Type} {Q : α → sProp 𝕄} {k : Unit → Prog (TpuEff nD τ sig (Elt F) Λ₀ (.scVector (cV i) (jV i))) α}
    (hno : ∀ n, numAt no n < 163842) (h2 : (xV).IsWhole) (h3 : (nV).IsWhole) (h4 : (oV).IsWhole) (h5 : (sV).IsWhole) (h6 : (gV).IsWhole) (h7 : (rV).IsWhole)
    (t : Fin (k0_t1_loop i).trips) :
    iprop(inv ι (shadowBody countersEmb (gLoc d i) δ) ∗ Transfers.MayWaits (V d (cV i) (jV i)) (default : SparseCore.Cfg.HIx 1) O ∗ before x no o d i δ q O W t.val)
      ⊢ iprop((before x no o d i δ q O W (t.val + 1)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (pair i xV h2 nV h3 oV h4 sV h5 gV h6 rV h7 cc0_scratch3 cc0_scratch4 cc0_scratch5 cc0_scratch6
            cc0_scoped0 cc0_scoped1 cc0_scoped2 cc0_scoped3 cc0_scoped4 (first i) t >>= k) Q) := by
  have ht : t.val < pairs i := trips_eq i ▸ t.isLt
  have hr : S163842x2x128.StreamRows 0 := by decide
  unfold pair pairStart pairMid pairEnd
  simp -proj only [bind_assoc, bind_pure_unit]
  unfold before ahead
  simp -proj only [if_pos ht]
  iintro ⟨#Hinv, #Hmw, Hfl, Hr1, Hs1, Ho0, Ho1, Hdone, Htodo, Hp1, Hp2, HO⟩ Hk
  ihave Htodo := (todo_split o d i t.val ht) $$ Htodo
  icases Htodo with ⟨Hc0, Hc1, Htodo⟩
  -- chunk `2 t`'s rows have been gathered
  unfold owing
  icases HO with ⟨%W1, %hW1, HO⟩
  iapply (wp_gather_wait x no d i (base i) δ q (base i + 2 * t.val) 0 cc0_scratch3.sem) $$ [Hfl HO]
  · isplitl [Hfl]; · iexact Hfl
    isplitl [HO]; · iexact HO
    iexact Hmw
  iintro ⟨Hh0, Hsrc, Hs0, HO⟩
  ihave HO := (owing_wait d i O W hW1 _) $$ HO
  -- the next gather
  iapply (wp_gather_start x no d i (base i) δ ι q (base i + 2 * t.val + 1) 1 hno cc0_scratch4.sem (off := ![112, 0, 0]) (hoff := rfl)
    (loff := k0_off3 i t) (j := 224 * t.val + 112) (hloff := k0_off3_eq i t) (hj := by omega)) $$ [Hinv Hsrc Hr1 Hs1]
  · isplitr; · iexact Hinv
    isplitl [Hsrc]; · iexact Hsrc
    isplitl [Hr1] <;> iassumption
  iintro Hfl
  -- the first half of the output buffer
  iapply (wp_claim x no d i O W (k0_cond1 i t = 1#1) (0 < t.val) (base i + 2 * (t.val - 1))
    ((cond1_iff i t).trans (by omega)) 0 cc0_scratch5.sem (off := ![0, 0, 0]) (ooff := k0_off4 i t) (oinb := k0_off4_inb i t) (inb := inb_S32x2x128_S16x2x128_0_0_0)
    (hsrc := View.wordExact_bits rfl) (hdst := fun _ => View.wordExact_bits rfl)) $$ [Ho0 HO]
  · isplitl [Ho0]; · iexact Ho0
    isplitl [HO]; · iexact HO
    iexact Hmw
  iintro ⟨Ho0, Hso0, Hd0, HO⟩
  unfold outFree rowsHeld
  icases Ho0 with ⟨%f0, Ho0⟩
  rw [toks_one δ 0]
  icases Hh0 with ⟨Hg0, Ht0, Htr0⟩
  iapply (wp_half x no d i δ ι (base i + 2 * t.val) 0 0#32 rfl f0) $$ [Hinv Hg0 Ht0 Ho0]
  · isplitr; · iexact Hinv
    isplitr [Ho0]
    · unfold rowsOf
      isplitl [Hg0] <;> iassumption
    iexact Ho0
  iintro ⟨Hg0, Ho0⟩
  unfold rowsOf
  icases Hg0 with ⟨Hg0, Ht0⟩
  iapply (wp_put x no o d i O W (k0_cond2 i t = 1#1) _ (base i + 2 * t.val) (cond2_iff i t) (cond3_iff i t) 0 cc0_scratch5.sem cc0_scoped1.sem
    (off := ![0, 0, 0]) (hoff := rfl) (ooff := k0_off37 i t) (oinb := k0_off37_inb i t) (inb := inb_S32x2x128_S16x2x128_0_0_0) (inb2 := inb_S32x2x128_S2x2x128_0_0_0)
    (hsrc := View.wordExact_bits rfl) (hdst := fun _ => View.wordExact_bits rfl) (hsem := fun _ => ⟨Or.inl rfl, trivial⟩) (hsrc2 := View.wordExact_bits rfl)
    (hsrc2' := View.wordExact_bits rfl) (hdst2 := View.wordExact_bits rfl) (hdst2' := View.wordExact_bits rfl) (hsem2 := ⟨Or.inl rfl, trivial⟩)
    (oinb2 := inb_S40962x2x128_S2x2x128_40960_0_0) (hooff := (k0_off37_eq i t).trans (by unfold base; congr 1; omega))) $$ [Ho0 Hc0 Hso0 Hp1 HO]
  · isplitl [Ho0]; · iexact Ho0
    isplitl [Hc0]; · iexact Hc0
    isplitl [Hso0]; · iexact Hso0
    isplitl [Hp1]; · iexact Hp1
    isplitl [HO]; · iexact HO
    iexact Hmw
  iintro ⟨Ho0, Hp1, HO⟩
  -- chunk `2 t + 1`'s rows have been gathered
  unfold owing
  icases HO with ⟨%W2, %hW2, HO⟩
  iapply (wp_gather_wait x no d i (base i) δ q (base i + 2 * t.val + 1) 1 cc0_scratch4.sem) $$ [Hfl HO]
  · isplitl [Hfl]; · iexact Hfl
    isplitl [HO]; · iexact HO
    iexact Hmw
  iintro ⟨Hh1, Hsrc, Hs1, HO⟩
  ihave HO := (owing_wait d i O W hW2 _) $$ HO
  -- the gather of the next pair's first chunk
  iapply (wp_ahead x no d i δ ι q hno t inb_S163842x2x128_S163842x2x128_0_0_0 inb_S224x2x128_S112x2x128_0_0_0 (k0_off39_inb i t)
    rfl (View.wordExact_bits rfl) rfl (Or.inl rfl) hr) $$ [Hinv Hsrc Hg0 Ht0 Htr0 Hs0]
  · isplitr; · iexact Hinv
    isplitl [Hsrc]; · iexact Hsrc
    isplitr [Hs0]
    · unfold rowsFree
      rw [toks_one δ 0]
      isplitl [Hg0]; · iexists _; iexact Hg0
      isplitl [Ht0] <;> iassumption
    iexact Hs0
  iintro Hahead
  -- the second half of the output buffer
  iapply (wp_claim x no d i O W (k0_cond5 i t = 1#1) (0 < t.val) (base i + 2 * (t.val - 1) + 1)
    ((cond5_iff i t).trans (by omega)) 1 cc0_scratch6.sem (off := ![16, 0, 0]) (ooff := k0_off40 i t) (oinb := k0_off40_inb i t) (inb := inb_S32x2x128_S16x2x128_16_0_0)
    (hsrc := View.wordExact_bits rfl) (hdst := fun _ => View.wordExact_bits rfl)) $$ [Ho1 HO]
  · isplitl [Ho1]; · iexact Ho1
    isplitl [HO]; · iexact HO
    iexact Hmw
  iintro ⟨Ho1, Hso1, Hd1, HO⟩
  unfold outFree rowsHeld
  icases Ho1 with ⟨%f1, Ho1⟩
  rw [toks_one δ 1]
  icases Hh1 with ⟨Hg1, Ht1, Htr1⟩
  iapply (wp_half x no d i δ ι (base i + 2 * t.val + 1) 1 112#32 rfl f1) $$ [Hinv Hg1 Ht1 Ho1]
  · isplitr; · iexact Hinv
    isplitr [Ho1]
    · unfold rowsOf
      isplitl [Hg1] <;> iassumption
    iexact Ho1
  iintro ⟨Hg1, Ho1⟩
  unfold rowsOf
  icases Hg1 with ⟨Hg1, Ht1⟩
  iapply (wp_put x no o d i O W (k0_cond6 i t = 1#1) _ (base i + 2 * t.val + 1) ((cond6_iff i t).trans (by omega)) (cond7_iff i t) 1 cc0_scratch6.sem cc0_scoped2.sem
    (off := ![16, 0, 0]) (hoff := rfl) (ooff := k0_off73 i t) (oinb := k0_off73_inb i t) (inb := inb_S32x2x128_S16x2x128_16_0_0) (inb2 := inb_S32x2x128_S2x2x128_16_0_0)
    (hsrc := View.wordExact_bits rfl) (hdst := fun _ => View.wordExact_bits rfl) (hsem := fun _ => ⟨Or.inl rfl, trivial⟩) (hsrc2 := View.wordExact_bits rfl)
    (hsrc2' := View.wordExact_bits rfl) (hdst2 := View.wordExact_bits rfl) (hdst2' := View.wordExact_bits rfl) (hsem2 := ⟨Or.inl rfl, trivial⟩)
    (oinb2 := inb_S40962x2x128_S2x2x128_40960_0_0) (hooff := (k0_off73_eq i t).trans (by unfold base; congr 1; omega))) $$ [Ho1 Hc1 Hso1 Hp2 HO]
  · isplitl [Ho1]; · iexact Ho1
    isplitl [Hc1]; · iexact Hc1
    isplitl [Hso1]; · iexact Hso1
    isplitl [Hp2]; · iexact Hp2
    isplitl [HO]; · iexact HO
    iexact Hmw
  iintro ⟨Ho1, Hp2, HO⟩
  ihave Hdone := (done_join x no d i t.val) $$ [Hdone Hd0 Hd1]
  · isplitl [Hdone]; · iexact Hdone
    isplitl [Hd0] <;> iassumption
  iapply Hk
  isplitl [Hahead]; · unfold ahead; iexact Hahead
  isplitl [Hg1 Ht1 Htr1]
  · unfold rowsFree
    rw [toks_one δ 1]
    isplitl [Hg1]; · iexists _; iexact Hg1
    isplitl [Ht1] <;> iassumption
  isplitl [Hs1]; · iexact Hs1
  simp only [Nat.add_sub_cancel, outSt, Nat.succ_pos, if_true]
  isplitl [Ho0]; · iexact Ho0
  isplitl [Ho1]; · iexact Ho1
  isplitl [Hdone]; · iexact Hdone
  isplitl [Htodo]; · iexact Htodo
  isplitl [Hp1]; · iexact Hp1
  isplitl [Hp2]; · iexact Hp2
  unfold owing
  iexact HO

end Cert.Proof.Pool
end
-- ==== Proof.Tile.lean ====
/-
  A tile's whole run: its list is fetched, the first gather is started, the pairs run, and the last copies are waited for.
-/
module

public import proofs.«01_k».proof.Proof.Outer

@[expose] public section

noncomputable section

namespace Cert.Proof.Pool

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (SparseCore.Cfg.HIx 1) (Elt F) ℕ UU ℕ
local notation "gV" => (Memref.whole cc0_scratch1 : Memref Cert.KernelIdeal.sig Kind.scVector Space.vmem Cert.KernelIdeal.S224x2x128 EltTy.f32)
local notation "rV" => (Memref.whole cc0_scratch2 : Memref Cert.KernelIdeal.sig Kind.scVector Space.vmem Cert.KernelIdeal.S32x2x128 EltTy.f32)
local notation "xV" => (Memref.whole Cert.KernelIdeal.main_v0_scv : Memref Cert.KernelIdeal.sig Kind.scVector Space.hbm Cert.KernelIdeal.S163842x2x128 EltTy.f32)
local notation "nV" => (Memref.whole Cert.KernelIdeal.main_v2_scv : Memref Cert.KernelIdeal.sig Kind.scVector Space.hbm Cert.KernelIdeal.S297472 EltTy.i32)
local notation "oV" => (Memref.whole Cert.KernelIdeal.main_v3_scv : Memref Cert.KernelIdeal.sig Kind.scVector Space.hbm Cert.KernelIdeal.S40962x2x128 EltTy.f32)
local notation "sV" => (Memref.whole Cert.KernelIdeal.cc0_scratch0 : Memref Cert.KernelIdeal.sig Kind.scVector Space.vmem Cert.KernelIdeal.S12096 EltTy.i32)

variable (x : S163842x2x128.Idx → F .f32) (no : S297472.Idx → BitVec 32) (o : S40962x2x128.Idx → F .f32)
variable (d : Dev nD) (i : grid0.Coords) (δ : Fin 2 → Fin 112 → ℕ) (ι : ℕ) (q : PosShare TreeShare)
variable (O : CellTallies nD τ sig (SparseCore.Cfg.HIx 1)) (W : Waits sig (SparseCore.Cfg.HIx 1))

/-! ## The program -/

/-- The list's window of the padded neighbour list. -/
abbrev window (i : grid0.Coords) : Memref sig .scVector .hbm S12096 .i32 := (nV).slice (Rect.unit (s := S297472) (k0_off1 i) S12096.size (k0_off1_inb i)) (fun _ => rfl)

/-- The kernel on a tile, its inner parts named. -/
def tileProg (i : grid0.Coords) : Prog (TpuEff nD τ sig (Elt F) Λ₀ (.scVector (cV i) (jV i))) PUnit := do
  Prog.lift (.enqueueDma (window i) (.here sV) (.dma cc0_scoped0.sem) (View.wordExact_bits rfl) (Memref.isWhole_whole _).wordExact ⟨Or.inl rfl, trivial⟩)
  Prog.lift (.waitDma2 cc0_scoped0.sem (window i) sV (View.wordExact_bits rfl) (Memref.isWhole_whole _).wordExact)
  SparseCore.enqueueIndirectGather rfl ((xV).slice (Rect.unit (s := S163842x2x128) ![0, 0, 0] S163842x2x128.size inb_S163842x2x128_S163842x2x128_0_0_0) (fun _ => rfl))
    ((gV).slice (Rect.unit (s := S224x2x128) ![0, 0, 0] S112x2x128.size inb_S224x2x128_S112x2x128_0_0_0) (fun _ => rfl)) gathers_S163842x2x128_S112x2x128
    ((sV).slice (Rect.unit (s := S12096) ![0] S112.size inb_S12096_S112_0) (fun _ => rfl)) rfl cc0_scratch3.sem (View.wordExact_bits rfl) rfl (Or.inl rfl)
  Scf.Loop.for (k0_t1_loop i) (k0_t1_ok i) ⟨⟩ (fun t _ => pair i xV (Memref.isWhole_whole _) nV (Memref.isWhole_whole _) oV (Memref.isWhole_whole _) sV (Memref.isWhole_whole _)
    gV (Memref.isWhole_whole _) rV (Memref.isWhole_whole _) cc0_scratch3 cc0_scratch4 cc0_scratch5 cc0_scratch6 cc0_scoped0 cc0_scoped1 cc0_scoped2 cc0_scoped3 cc0_scoped4 (first i) t)
  opt (k0_cond15 i = 1#1) fun h => Prog.lift (.waitDma2 cc0_scratch5.sem ((rV).slice (Rect.unit (s := S32x2x128) ![0, 0, 0] S16x2x128.size inb_S32x2x128_S16x2x128_0_0_0) (fun _ => rfl))
    ((oV).slice (Rect.unit (s := S40962x2x128) (k0_off146 i) S16x2x128.size (k0_off146_inb i h)) (fun _ => rfl)) (View.wordExact_bits rfl) (View.wordExact_bits rfl))
  opt (k0_cond16 i = 1#1) fun h => Prog.lift (.waitDma2 cc0_scratch6.sem ((rV).slice (Rect.unit (s := S32x2x128) ![16, 0, 0] S16x2x128.size inb_S32x2x128_S16x2x128_16_0_0) (fun _ => rfl))
    ((oV).slice (Rect.unit (s := S40962x2x128) (k0_off147 i) S16x2x128.size (k0_off147_inb i h)) (fun _ => rfl)) (View.wordExact_bits rfl) (View.wordExact_bits rfl))
  pure ⟨⟩

/-- A loop without a trip does nothing. -/
theorem loop_none {E : Type → Type} {σ : Type} (l : Scf.Loop 32) (ok : l.OK) (v : σ) (f : Fin l.trips → σ → Prog E σ) (h : l.trips = 0) :
    Scf.Loop.for l ok v f = pure v := by
  unfold Scf.Loop.for
  rw [Scf.for_eq, show List.finRange (Scf.trips l.lb l.ub l.st) = [] from List.finRange_eq_nil_iff.mpr h]
  rfl

/-- The generated body is `tileProg`. -/
theorem body_eq (i : grid0.Coords) :
    cc0__body (F := F) i xV (Memref.isWhole_whole _) nV (Memref.isWhole_whole _) oV (Memref.isWhole_whole _) sV (Memref.isWhole_whole _)
      gV (Memref.isWhole_whole _) rV (Memref.isWhole_whole _) cc0_scratch3 cc0_scratch4 cc0_scratch5 cc0_scratch6 cc0_scoped0 cc0_scoped1 cc0_scoped2 cc0_scoped3 cc0_scoped4
      = tileProg i := by
  rw [cc0__body_eq_skeleton]
  unfold cc0__body_skel
  rw [k0_part131_eq_skeleton]
  unfold k0_part131_skel tileProg
  simp -proj only [bind_assoc, pure_bind, bind_pure_unit, loop_none _ _ _ _ (trips18_eq i)]
  have e : ∀ (v4 v5 : BitVec 32), (k0_t1_body (F := F) i xV (Memref.isWhole_whole _) nV (Memref.isWhole_whole _) oV (Memref.isWhole_whole _) sV (Memref.isWhole_whole _)
      gV (Memref.isWhole_whole _) rV (Memref.isWhole_whole _) cc0_scratch3 cc0_scratch4 cc0_scratch5 cc0_scratch6 cc0_scoped0 cc0_scoped1 cc0_scoped2 cc0_scoped3 cc0_scoped4 v4 v5)
      = fun t _ => pair i xV (Memref.isWhole_whole _) nV (Memref.isWhole_whole _) oV (Memref.isWhole_whole _) sV (Memref.isWhole_whole _)
      gV (Memref.isWhole_whole _) rV (Memref.isWhole_whole _) cc0_scratch3 cc0_scratch4 cc0_scratch5 cc0_scratch6 cc0_scoped0 cc0_scoped1 cc0_scoped2 cc0_scoped3 cc0_scoped4 v4 t :=
    fun v4 v5 => funext fun t => funext fun _ => pair_eq ..
  simp -proj only [e]
  simp -proj only [opt_bind]
  unfold opt

  rfl

/-! ## The run -/

/-- The fetched list. -/
theorem list_write (fs : S12096.Idx → BitVec 32) (v : (sV).view.set ⊆ Finset.univ) : View.write (Elt F) (sV).view fs ((window i).view.read (Elt F) no) Finset.univ = listed no (base i) := by
  rw [View.write_whole_univ]
  funext p
  rw [show (window i).view.read (Elt F) no p = no ((window i).view.emb p) from (View.read_apply _ _).trans (cast_eq _ _)]
  unfold listed
  congr 1
  funext a
  match a with
  | 0 =>
    apply Fin.ext
    have h := k0_off1_inb i 0
    have hp : (p 0).val < 12096 := (p 0).isLt
    show k0_off1 i 0 + 1 * (p 0).val = (112 * base i + (p 0).val) % 297472
    rw [k0_off1_eq] at h ⊢
    change 112 * base i + 12096 ≤ 297472 at h
    show 112 * base i + 1 * (p 0).val = _
    rw [Nat.mod_eq_of_lt (by omega)]
    omega

/-- Two parts of a buffer, whatever they hold, are the buffer. -/
theorem parts_join {ℓ : Loc nD τ sig} {I J : Finset (Idx ℓ)} (q : PosShare TreeShare) (hd : Disjoint I J) (hu : I ∪ J = Finset.univ) :
    iprop((∃ f : Buf (Elt F) ℓ, ℓ ↦[I]{q} f) ∗ (∃ f : Buf (Elt F) ℓ, ℓ ↦[J]{q} f)) ⊢ (∃ f : Buf (Elt F) ℓ, ℓ ↦[Finset.univ]{q} f : sProp 𝕄) := by
  classical
  iintro ⟨⟨%f, Hf⟩, %g, Hg⟩
  iexists (fun p => if p ∈ I then f p else g p)
  have e1 : (ℓ ↦[I]{q} f : sProp 𝕄) = ℓ ↦[I]{q} (fun p => if p ∈ I then f p else g p) := pointsTo_congr fun p hp => (if_pos hp).symm
  have e2 : (ℓ ↦[J]{q} g : sProp 𝕄) = ℓ ↦[J]{q} (fun p => if p ∈ I then f p else g p) :=
    pointsTo_congr fun p hp => (if_neg (Finset.disjoint_right.mp hd hp)).symm
  have e3 : (ℓ ↦[Finset.univ]{q} (fun p => if p ∈ I then f p else g p) : sProp 𝕄) ⊣⊢ iprop((ℓ ↦[I]{q} (fun p => if p ∈ I then f p else g p)) ∗ (ℓ ↦[J]{q} (fun p => if p ∈ I then f p else g p))) := by
    rw [← hu]
    exact pointsTo_union hd
  iapply e3.2
  isplitl [Hf]
  · iapply (Entails.of_eq e1) $$ Hf
  · iapply (Entails.of_eq e2) $$ Hg

/-- The two halves of the buffer of gathered rows share no word. -/
theorem gHalf_disjoint : Disjoint (gHalf 0) (gHalf 1) := Finset.disjoint_left.mpr fun p hp hq => by
  simp only [gHalf, Finset.mem_filter, Finset.mem_univ, _root_.true_and, Fin.val_zero, Fin.val_one] at hp hq
  omega
/-- Together they are the buffer. -/
theorem gHalf_union : gHalf 0 ∪ gHalf 1 = Finset.univ := by
  ext p
  have h : (p 0).val < 224 := (p 0).isLt
  simp only [gHalf, Finset.mem_union, Finset.mem_filter, Finset.mem_univ, _root_.true_and, Fin.val_zero, Fin.val_one, iff_true]
  omega
/-- The two halves of the output buffer share no word. -/
theorem rHalf_disjoint : Disjoint (rHalf 0) (rHalf 1) := Finset.disjoint_left.mpr fun p hp hq => by
  simp only [rHalf, Finset.mem_filter, Finset.mem_univ, _root_.true_and, Fin.val_zero, Fin.val_one] at hp hq
  omega
/-- Together they are the buffer. -/
theorem rHalf_union : rHalf 0 ∪ rHalf 1 = Finset.univ := by
  ext p
  have h : (p 0).val < 32 := (p 0).isLt
  simp only [rHalf, Finset.mem_union, Finset.mem_filter, Finset.mem_univ, _root_.true_and, Fin.val_zero, Fin.val_one, iff_true]
  omega

/-- Where a tile finds the list of row numbers. -/
abbrev nLoc : Loc nD τ sig := (V d (cV i) (jV i)).loc main_v2_scv

/-- The pairs of a tile, one after the other. -/
theorem wp_pairs {α : Type} {Q : α → sProp 𝕄} {k : Unit → Prog (TpuEff nD τ sig (Elt F) Λ₀ (.scVector (cV i) (jV i))) α}
    (hno : ∀ n, numAt no n < 163842) (h2 : (xV).IsWhole) (h3 : (nV).IsWhole) (h4 : (oV).IsWhole) (h5 : (sV).IsWhole) (h6 : (gV).IsWhole) (h7 : (rV).IsWhole) :
    iprop(inv ι (shadowBody countersEmb (gLoc d i) δ) ∗ Transfers.MayWaits (V d (cV i) (jV i)) (default : SparseCore.Cfg.HIx 1) O ∗ before x no o d i δ q O W 0)
      ⊢ iprop((before x no o d i δ q O W (pairs i)
          -∗ wp frame (wpE (defs₀ (F := F)) 𝒱₀ (V d (cV i) (jV i)) none) Set.univ (k ⟨⟩) Q)
        -∗ wp frame (wpE (defs₀ (F := F)) 𝒱₀ (V d (cV i) (jV i)) none) Set.univ
          (Scf.Loop.for (k0_t1_loop i) (k0_t1_ok i) ⟨⟩ (fun t _ => pair i xV h2 nV h3 oV h4 sV h5
            gV h6 rV h7 cc0_scratch3 cc0_scratch4 cc0_scratch5 cc0_scratch6 cc0_scoped0 cc0_scoped1 cc0_scoped2 cc0_scoped3 cc0_scoped4 (first i) t) >>= k) Q) := by
  iintro ⟨#Hinv, #Hmw, H⟩ Hk
  iapply (Scf.wp_for_bind _ _ _ _ _ _ (k0_t1_ok i) _ _
    (fun t _ => iprop(inv ι (shadowBody countersEmb (gLoc d i) δ) ∗ Transfers.MayWaits (V d (cV i) (jV i)) (default : SparseCore.Cfg.HIx 1) O ∗ before x no o d i δ q O W t)) ?_) $$ [H]
  · intro t _
    rw [← bind_pure (pair ..)]
    iintro ⟨#Hinv, #Hmw, H⟩
    iapply (wp_pair x no o d i δ ι q O W hno h2 h3 h4 h5 h6 h7 t) $$ [H]
    · isplitr; · iexact Hinv
      isplitr; · iexact Hmw
      iexact H
    iintro H
    simp only [wp_pure]
    imodintro
    isplitr; · iexact Hinv
    isplitr; · iexact Hmw
    iexact H
  · isplitr; · iexact Hinv
    isplitr; · iexact Hmw
    iexact H
  iintro %_ ⟨-, -, H⟩
  rw [show Scf.trips (k0_t1_loop i).lb (k0_t1_loop i).ub (k0_t1_loop i).st = pairs i from trips_eq i]
  iapply Hk $$ H

end Cert.Proof.Pool
end
-- ==== Proof.Body.lean ====
/-
  A tile's run as the launch asks for it: from its share of the neighbour list and of `x2`, its rows of the output, its
  scratch buffers and semaphores, to the same with its rows of the output pooled.
-/
module

public import proofs.«01_k».proof.Proof.Tile
public import Idealize.ShloMosaic.Lib.SparseCore.Quiescent
public import Idealize.ShloMosaic.Lib.SparseCore.Ops
public import Idealize.ShloMosaic.Lib.Pipeline.Kit

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (SparseCore.Cfg.HIx 1) (Elt F) ℕ UU ℕ
local notation "gV" => (Memref.whole cc0_scratch1 : Memref Cert.KernelIdeal.sig Kind.scVector Space.vmem Cert.KernelIdeal.S224x2x128 EltTy.f32)
local notation "rV" => (Memref.whole cc0_scratch2 : Memref Cert.KernelIdeal.sig Kind.scVector Space.vmem Cert.KernelIdeal.S32x2x128 EltTy.f32)
local notation "xV" => (Memref.whole Cert.KernelIdeal.main_v0_scv : Memref Cert.KernelIdeal.sig Kind.scVector Space.hbm Cert.KernelIdeal.S163842x2x128 EltTy.f32)
local notation "nV" => (Memref.whole Cert.KernelIdeal.main_v2_scv : Memref Cert.KernelIdeal.sig Kind.scVector Space.hbm Cert.KernelIdeal.S297472 EltTy.i32)
local notation "oV" => (Memref.whole Cert.KernelIdeal.main_v3_scv : Memref Cert.KernelIdeal.sig Kind.scVector Space.hbm Cert.KernelIdeal.S40962x2x128 EltTy.f32)
local notation "sV" => (Memref.whole Cert.KernelIdeal.cc0_scratch0 : Memref Cert.KernelIdeal.sig Kind.scVector Space.vmem Cert.KernelIdeal.S12096 EltTy.i32)

variable (x : S163842x2x128.Idx → F .f32) (no : S297472.Idx → BitVec 32) (o : S40962x2x128.Idx → F .f32)
variable (d : Dev nD) (i : grid0.Coords) (δ : Fin 2 → Fin 112 → ℕ) (ι : ℕ) (q : PosShare TreeShare)
variable (O : CellTallies nD τ sig (SparseCore.Cfg.HIx 1)) (W : Waits sig (SparseCore.Cfg.HIx 1))

/-- The names of the program's bodies. -/
abbrev ΛP : Labels := Pipeline.Sig Λ₀ (Fin 0) fun p => (pcfgs (F := F) p).Adm
/-- The call's set-up on the two SparseCores. -/
abbrev K : SparseCore.Cfg τ sig (ΛP (F := F)) 1 := sc (F := F)

/-! ## The tile's own cells and buffers -/

/-- A scoped semaphore's cell is one of the tile's own. -/
theorem mine (s : DmaSem sig) (h : (SemLoc.dma s : SemLoc sig).isScoped .scVector = true) : cell d i s ∈ ownCells (V d (cV i) (jV i)) :=
  mem_ownCells.mpr ⟨rfl, h⟩

/-- Different semaphores have different cells. -/
theorem cell_ne {s s' : DmaSem sig} (h : s ≠ s') : cell d i s ≠ cell d i s' := fun e => h (SemLoc.dma.inj (congrArg Prod.snd e))

/-- The cells the kernel uses, the rest apart. -/
theorem sems_apart : (ownSems0 (V d (cV i) (jV i)) : sProp 𝕄)
    = iprop(semVal (cell d i cc0_scratch3.sem) 0 ∗ semVal (cell d i cc0_scratch4.sem) 0 ∗ semVal (cell d i cc0_scratch5.sem) 0
        ∗ semVal (cell d i cc0_scratch6.sem) 0 ∗ semVal (cell d i cc0_scoped0.sem) 0 ∗ semVal (cell d i cc0_scoped1.sem) 0 ∗ semVal (cell d i cc0_scoped2.sem) 0
        ∗ bigSep ((((((((ownCells (V d (cV i) (jV i))).erase (cell d i cc0_scratch3.sem)).erase (cell d i cc0_scratch4.sem)).erase (cell d i cc0_scratch5.sem)).erase
            (cell d i cc0_scratch6.sem)).erase (cell d i cc0_scoped0.sem)).erase (cell d i cc0_scoped1.sem)).erase (cell d i cc0_scoped2.sem)) fun g => semVal g 0) := by
  unfold SparseCore.Cfg.ownSems0
  rw [SparseCore.bigSep_erase' (mine d i cc0_scratch3.sem (by decide)),
    SparseCore.bigSep_erase' (i := cell d i cc0_scratch4.sem) (by repeat' first | exact mine d i _ (by decide) | refine Finset.mem_erase.mpr ⟨cell_ne d i (by decide), ?_⟩),
    SparseCore.bigSep_erase' (i := cell d i cc0_scratch5.sem) (by repeat' first | exact mine d i _ (by decide) | refine Finset.mem_erase.mpr ⟨cell_ne d i (by decide), ?_⟩),
    SparseCore.bigSep_erase' (i := cell d i cc0_scratch6.sem) (by repeat' first | exact mine d i _ (by decide) | refine Finset.mem_erase.mpr ⟨cell_ne d i (by decide), ?_⟩),
    SparseCore.bigSep_erase' (i := cell d i cc0_scoped0.sem) (by repeat' first | exact mine d i _ (by decide) | refine Finset.mem_erase.mpr ⟨cell_ne d i (by decide), ?_⟩),
    SparseCore.bigSep_erase' (i := cell d i cc0_scoped1.sem) (by repeat' first | exact mine d i _ (by decide) | refine Finset.mem_erase.mpr ⟨cell_ne d i (by decide), ?_⟩),
    SparseCore.bigSep_erase' (i := cell d i cc0_scoped2.sem) (by repeat' first | exact mine d i _ (by decide) | refine Finset.mem_erase.mpr ⟨cell_ne d i (by decide), ?_⟩)]

/-- The scratch buffers, the rest apart. -/
theorem bufs_apart : (ownBufs (V d (cV i) (jV i)) : sProp 𝕄)
    = iprop((∃ f, sLoc d i ↦{fullShare} f) ∗ (∃ f, gLoc d i ↦{fullShare} f) ∗ (∃ f, rLoc d i ↦{fullShare} f)
        ∗ bigSep ((((ownRefs (τ := τ) (.scVector (cV i) (jV i))).erase ((Proc.scVector (cV i) (jV i)).devRef cc0_scratch0)).erase
            ((Proc.scVector (cV i) (jV i)).devRef cc0_scratch1)).erase ((Proc.scVector (cV i) (jV i)).devRef cc0_scratch2))
            fun b => iprop(∃ f, ((d, b) : Loc nD τ sig) ↦{fullShare} f)) := by
  have ne : ∀ {r r' : Ref sig .scVector}, r ≠ r' → (Proc.scVector (cV i) (jV i)).devRef r ≠ (Proc.scVector (cV i) (jV i)).devRef r' :=
    fun h e => h (Proc.devRef_injective _ e)
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := Proc.scVector (cV i) (jV i)) (b := (Proc.scVector (cV i) (jV i)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
      SparseCore.Cfg.mem_ownRefs_of_owner (p := Proc.scVector (cV i) (jV i)) (b := (Proc.scVector (cV i) (jV i)).devRef cc0_scratch2) rfl⟩⟩)]

/-! ## The run -/

/-- The tile's rows of the output. -/
abbrev tileRows (i : grid0.Coords) : Finset S40962x2x128.Idx := oRows (16 * base i) (16 * (base i + 2 * pairs i))

/-- Every tile has a pair to work on. -/
theorem pairs_pos (i : grid0.Coords) : 0 < pairs i := by unfold pairs; split <;> decide

/-- The buffer of gathered rows is its two halves. -/
theorem gParts (q' : PosShare TreeShare) (f : S224x2x128.Idx → F .f32) :
    (gLoc d i ↦[Finset.univ]{q'} f : sProp 𝕄) ⊣⊢ iprop((gLoc d i ↦[gHalf 0]{q'} f) ∗ (gLoc d i ↦[gHalf 1]{q'} f)) := by
  rw [← gHalf_union]
  exact pointsTo_union gHalf_disjoint

/-- The output buffer is its two halves. -/
theorem rParts (q' : PosShare TreeShare) (f : S32x2x128.Idx → F .f32) :
    (rLoc d i ↦[Finset.univ]{q'} f : sProp 𝕄) ⊣⊢ iprop((rLoc d i ↦[rHalf 0]{q'} f) ∗ (rLoc d i ↦[rHalf 1]{q'} f)) := by
  rw [← rHalf_union]
  exact pointsTo_union rHalf_disjoint

/-- Before the first pair has been claimed back there are no rows of the output. -/
theorem oRows_none (n : ℕ) : oRows (16 * n) (16 * (n + 2 * (0 - 1))) = ∅ := by
  ext p
  simp only [oRows, Finset.mem_filter, Finset.mem_univ, _root_.true_and, Finset.notMem_empty, iff_false]
  omega

set_option maxHeartbeats 4000000 in
/-- A tile's run. -/
theorem tile_body (hno : ∀ n, numAt no n < 163842) (qn : PosShare TreeShare) (hF : (K (F := F)).Facts) (hO : ∀ g, O g none = 0) :
    iprop((levAts (K (F := F)).L (K (F := F)).lev : sProp 𝕄) ∗ emp
        ∗ ((nLoc d i ↦{qn} no) ∗ (xLoc d i ↦{q} x) ∗ (oLoc d i ↦[tileRows i]{fullShare} o))
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__body i xV (Memref.isWhole_whole _) nV (Memref.isWhole_whole _) oV (Memref.isWhole_whole _) sV (Memref.isWhole_whole _)
            gV (Memref.isWhole_whole _) rV (Memref.isWhole_whole _) cc0_scratch3 cc0_scratch4 cc0_scratch5 cc0_scratch6 cc0_scoped0 cc0_scoped1 cc0_scoped2 cc0_scoped3 cc0_scoped4)
          fun _ => iprop(((nLoc d i ↦{qn} no) ∗ (xLoc d i ↦{q} x) ∗ (oLoc d i ↦[tileRows i]{fullShare} pooled x no))
            ∗ scopedBufs (V d (cV i) (jV i)) ∗ scopedSems0 (V d (cV i) (jV i))
            ∗ ∃ W', ⌜∀ p ∈ W', p ∈ W ∨ p.2 = none⌝ ∗ owes (V d (cV i) (jV i)) O W') := by
  have hr : S163842x2x128.StreamRows 0 := by decide
  have hpos : 0 < pairs i := pairs_pos i
  rw [body_eq]
  unfold tileProg
  rw [(K (F := F)).scopedBufs_V hF d (cV i) (jV i), SparseCore.Cfg.scopedSems0_V (Val := Elt F) d (cV i) (jV i), sems_apart, bufs_apart]
  iintro ⟨#Hlv, -, ⟨Hn, Hx, Ho⟩, ⟨⟨%fs, Hs⟩, ⟨%fg, Hg⟩, ⟨%fr, Hr⟩, Hbufs⟩, ⟨Hs0, Hs1, Hso0, Hso1, Hp0, Hp1, Hp2, Hsems⟩, HO⟩
  ihave #Hmw := (show levAts (K (F := F)).L (K (F := F)).lev ⊢ Transfers.MayWaits (V d (cV i) (jV i)) (default : HIx 1) O from
    (K (F := F)).mayWaits_none (thr := V d (cV i) (jV i)) hO) $$ Hlv
  -- the list
  ihave Hnn := (pointsTo_split_subset (ℓ := nLoc d i) (q := qn) (f := no) (S := Finset.univ) (Finset.subset_univ (window i).view.set)).1 $$ Hn
  icases Hnn with ⟨Hn, Hnr⟩
  iapply (Transfers.wp_dmaLocal countersEmb 𝒱₀ (V d (cV i) (jV i)) none (default : SparseCore.Cfg.HIx 1) _ rfl (View.dmaCredit_pos _ (show 0 < S12096.numel by decide))
    (Finset.subset_univ _) (q := qn) (fs := no) (fd := fs)) $$ [Hn Hs Hp0]
  · isplitl [Hn]; · iexact Hn
    isplitl [Hs] <;> iassumption
  iintro Hfl
  iapply (Transfers.wp_waitLocalO countersEmb 𝒱₀ (V d (cV i) (jV i)) none (default : SparseCore.Cfg.HIx 1) (hsrc := View.wordExact_bits rfl) (hdst := (Memref.isWhole_whole _).wordExact) rfl) $$ [Hfl HO]
  · isplitl [Hfl]; · iexact Hfl
    isplitl [HO]; · iexact HO
    iapply (Transfers.MayWaits.elim (SemLoc.dma cc0_scoped0.sem)) $$ Hmw
  iintro ⟨⟨Hs, Hn⟩, Hp0, HO⟩
  ihave Hn := (pointsTo_split_subset (ℓ := nLoc d i) (q := qn) (f := no) (S := Finset.univ) (Finset.subset_univ (window i).view.set)).2 $$ [Hn Hnr]
  · isplitl [Hn] <;> iassumption
  ihave HO := (owing_wait d i O W (W' := W) (fun p hp => .inl hp) _) $$ HO
  ihave Hs := (Entails.of_eq (congrArg (fun f : S12096.Idx → BitVec 32 => (sLoc d i ↦[Finset.univ]{fullShare} f : sProp 𝕄))
    (list_write (F := F) no i fs (Finset.subset_univ _)))) $$ Hs
  -- the buffer of rows is shared with its gathers
  imod (shadow_alloc countersEmb 112 (ℓ := gLoc d i) fg) $$ Hg with ⟨%ι, %δ, #Hinv, Hg, Ht0, Ht1⟩
  ihave Hgg := (gParts d i lSh fg).1 $$ Hg
  icases Hgg with ⟨Hg0, Hg1⟩
  ihave Hrr := (rParts d i fullShare fr).1 $$ Hr
  icases Hrr with ⟨Hr0, Hr1⟩
  -- the first gather
  iapply (wp_gather_start x no d i (base i) δ ι q (base i + 2 * 0) 0 hno cc0_scratch3.sem inb_S163842x2x128_S163842x2x128_0_0_0
    ![0, 0, 0] rfl inb_S224x2x128_S112x2x128_0_0_0 ![0] 0 rfl (by omega) inb_S12096_S112_0 rfl (View.wordExact_bits rfl) rfl (Or.inl rfl) hr) $$ [Hx Hs Hg0 Ht0 Hs0]
  · isplitr; · iexact Hinv
    isplitl [Hx Hs]
    · unfold sources
      isplitl [Hx] <;> iassumption
    isplitl [Hg0 Ht0]
    · unfold rowsFree
      isplitl [Hg0]; · iexists fg; iexact Hg0
      iexact Ht0
    iexact Hs0
  iintro Hfl
  -- the pairs
  iapply (wp_pairs x no o d i δ ι q O W hno (Memref.isWhole_whole _) (Memref.isWhole_whole _) (Memref.isWhole_whole _) (Memref.isWhole_whole _)
    (Memref.isWhole_whole _) (Memref.isWhole_whole _)) $$ [Hfl Hg1 Ht1 Hs1 Hr0 Hr1 Hso0 Hso1 Ho Hp1 Hp2 HO]
  · isplitr; · iexact Hinv
    isplitr; · iexact Hmw
    unfold before
    isplitl [Hfl]
    · unfold ahead
      rw [if_pos hpos]
      iexact Hfl
    isplitl [Hg1 Ht1]
    · unfold rowsFree
      isplitl [Hg1]; · iexists fg; iexact Hg1
      iexact Ht1
    isplitl [Hs1]; · iexact Hs1
    isplitl [Hr0 Hso0]
    · unfold outSt outFree
      rw [if_neg (lt_irrefl 0)]
      isplitl [Hr0]; · iexists fr; iexact Hr0
      iexact Hso0
    isplitl [Hr1 Hso1]
    · unfold outSt outFree
      rw [if_neg (lt_irrefl 0)]
      isplitl [Hr1]; · iexists fr; iexact Hr1
      iexact Hso1
    isplitr
    · rw [oRows_none, pointsTo_empty]
      iempintro
    isplitl [Ho]; · iexact Ho
    isplitl [Hp1]; · iexact Hp1
    isplitl [Hp2]; · iexact Hp2
    iexact HO
  iintro H
  unfold before ahead
  rw [if_neg (lt_irrefl (pairs i))]
  icases H with ⟨⟨Hsrc, Hg0, Hs0⟩, Hg1, Hs1, Ho0, Ho1, Hdone, -, Hp1, Hp2, HO⟩
  -- the last copies
  iapply (wp_claim x no d i O W (k0_cond15 i = 1#1) (0 < pairs i) (base i + 2 * (pairs i - 1)) ((cond15_iff i).trans (by omega)) 0 cc0_scratch5.sem
    ![0, 0, 0] inb_S32x2x128_S16x2x128_0_0_0 (k0_off146 i) (k0_off146_inb i) (View.wordExact_bits rfl) (fun _ => View.wordExact_bits rfl)) $$ [Ho0 HO]
  · isplitl [Ho0]; · iexact Ho0
    isplitl [HO]; · iexact HO
    iexact Hmw
  iintro ⟨Hr0, Hso0, Hd0, HO⟩
  iapply (wp_claim x no d i O W (k0_cond16 i = 1#1) (0 < pairs i) (base i + 2 * (pairs i - 1) + 1) ((cond16_iff i).trans (by omega)) 1 cc0_scratch6.sem
    ![16, 0, 0] inb_S32x2x128_S16x2x128_16_0_0 (k0_off147 i) (k0_off147_inb i) (View.wordExact_bits rfl) (fun _ => View.wordExact_bits rfl)) $$ [Ho1 HO]
  · isplitl [Ho1]; · iexact Ho1
    isplitl [HO]; · iexact HO
    iexact Hmw
  iintro ⟨Hr1, Hso1, Hd1, HO⟩
  ihave Hdone := (done_join x no d i (pairs i)) $$ [Hdone Hd0 Hd1]
  · isplitl [Hdone]; · iexact Hdone
    isplitl [Hd0] <;> iassumption
  unfold rowsFree outFree sources
  icases Hg0 with ⟨Hg0, Ht0⟩
  icases Hg1 with ⟨Hg1, Ht1⟩
  icases Hsrc with ⟨Hx, Hs⟩
  ihave Hg := (parts_join (F := F) (ℓ := gLoc d i) lSh gHalf_disjoint gHalf_union) $$ [Hg0 Hg1]
  · isplitl [Hg0] <;> iassumption
  icases Hg with ⟨%fg', Hg⟩
  ihave Hr := (parts_join (F := F) (ℓ := rLoc d i) fullShare rHalf_disjoint rHalf_union) $$ [Hr0 Hr1]
  · isplitl [Hr0] <;> iassumption
  imod (shadow_close countersEmb (by decide) (ℓ := gLoc d i) (f := fg') (δ := δ) (ι := ι)) $$ [Hg Ht0 Ht1] with Hg
  · isplitr; · iexact Hinv
    isplitl [Hg]; · iexact Hg
    isplitl [Ht0] <;> iassumption
  simp only [wp_pure]
  imodintro
  isplitl [Hn Hx Hdone]
  · isplitl [Hn]; · iexact Hn
    isplitl [Hx] <;> iassumption
  isplitl [Hs Hg Hr Hbufs]
  · isplitl [Hs]; · iexists _; iexact Hs
    isplitl [Hg]; · iexists _; iexact Hg
    isplitl [Hr] <;> iassumption
  isplitl [Hs0 Hs1 Hso0 Hso1 Hp0 Hp1 Hp2 Hsems]
  · isplitl [Hs0]; · iexact Hs0
    isplitl [Hs1]; · iexact Hs1
    isplitl [Hso0]; · iexact Hso0
    isplitl [Hso1]; · iexact Hso1
    isplitl [Hp0]; · iexact Hp0
    isplitl [Hp1]; · iexact Hp1
    isplitl [Hp2] <;> iassumption
  unfold owing
  iexact HO

end Cert.Proof.Pool
end
-- ==== Proof.Launch.lean ====
/-
  The call on the device's tiles: what each tile takes and brings back, the split of the call's three arrays over the
  tiles, the host operations around the call, and the whole program's run.
-/
module

public import proofs.«01_k».proof.Proof.Body
public import Idealize.ShloMosaic.Lib.StableHlo.Run

@[expose] public section

noncomputable section

namespace Cert.Proof.Pool

open Cert.KernelIdeal Cert.KernelIdeal.Gen Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within held_sub_split held_congr)
open Idealize.ShloMosaic.Tactic

variable {F : FTy → Type} [FloatOps F] [Named F]

local notation "𝕄" => MT nD τ sig (SparseCore.Cfg.HIx 1) (Elt F) ℕ UU ℕ

/-! ## The program as the launch theorem sees it -/

/-- The program's bodies. -/
abbrev D : Defs nD τ sig (Elt F) (ΛP (F := F)) := Pipeline.defs pcfgs defs₀
/-- The variants of the bodies' loops: there are none. -/
abbrev 𝒱 : Variants := 𝒱₀.lift
/-- The variant the call starts with. -/
abbrev v₀ : 𝒱.V := Sum.inl none

/-- The call runs on two SparseCores. -/
theorem nCore_zero : (K (F := F)).nCore 0 = 2 := rfl
/-- The call runs on sixteen tiles of each. -/
theorem nSub_zero : (K (F := F)).nSub 0 = 16 := rfl

/-- The facts about the call's set-up. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the launch's ghost state lies. -/
abbrev EH : Emb UH (MT nD τ sig (SparseCore.Cfg.HIx 1) (Elt F) ℕ UU ℕ) := embL

variable (m : (ℓ : Loc nD τ sig) → Buf (Elt F) ℓ) (ρ : Dev nD → PrngReg)

/-! ## The arrays -/

/-- Where the first argument lies. -/
abbrev aAt (d : Dev nD) : Loc nD τ sig := (SparseCore.T d).loc main_arg0
/-- Where the second argument lies. -/
abbrev bAt (d : Dev nD) : Loc nD τ sig := (SparseCore.T d).loc main_arg1
/-- Where the array of rows lies. -/
abbrev xArr (d : Dev nD) : Loc nD τ sig := (SparseCore.T d).loc main_v0
/-- Where the padded list lies. -/
abbrev nArr (d : Dev nD) : Loc nD τ sig := (SparseCore.T d).loc main_v2
/-- Where the call's output lies. -/
abbrev oArr (d : Dev nD) : Loc nD τ sig := (SparseCore.T d).loc main_v3
/-- Where the result lies. -/
abbrev rAt (d : Dev nD) : Loc nD τ sig := (SparseCore.T d).loc main_v4

/-- The rows the kernel gathers from: the argument with its last two dimensions exchanged. -/
def rows (a : S163842x128x2.Idx → F .f32) : S163842x2x128.Idx → F .f32 :=
  transpose S163842x2x128 [0, 2, 1] a transposes_S163842x128x2_S163842x2x128_0_2_1

/-- The list of row numbers the kernel reads: the argument, zeros after it. -/
def nums (b : S286734.Idx → BitVec 32) : S297472.Idx → BitVec 32 :=
  concatenate S297472 0 [⟨S286734, b⟩, ⟨S10738, broadcastInDim S10738 ![] bcast_S_S10738 (constantI S_ 32 0#32)⟩]
    concatenates_S286734_S10738_S297472_d0

/-- The program's result: the pooled array with its last two dimensions exchanged. -/
def result (a : S163842x128x2.Idx → F .f32) (b : S286734.Idx → BitVec 32) : S40962x128x2.Idx → F .f32 :=
  transpose S40962x128x2 [0, 2, 1] (pooled (rows a) (nums b)) transposes_S40962x2x128_S40962x128x2_0_2_1

/-- The rows that the tiles read. -/
abbrev X (d : Dev nD) : S163842x2x128.Idx → F .f32 := rows (m (aAt d))
/-- The row numbers that the tiles read. -/
abbrev N (d : Dev nD) : S297472.Idx → BitVec 32 := nums (m (bAt d))

/-! ## The tiles -/

/-- The tile of SparseCore `c`, subcore `s`. -/
def coordsV (c : Fin 2) (s : Fin 16) : grid0.Coords :=
  fun | 0 => c | 1 => s | ⟨_ + 2, h⟩ => absurd h (Nat.not_lt.2 (Nat.le_add_left _ _))

/-- The first chunk of a tile, by its SparseCore and number. -/
theorem base_at (c : Fin 2) (s : Fin 16) : base (coordsV c s) = if c.val = 0 then 108 * s.val else 54 * s.val + 1728 := rfl
/-- The number of a tile's pairs, by its SparseCore. -/
theorem pairs_at (c : Fin 2) (s : Fin 16) : pairs (coordsV c s) = if c.val = 0 then 54 else 27 := rfl

/-- Which rows of the output are a tile's. -/
theorem mem_tileRows (c : Fin 2) (s : Fin 16) (p : S40962x2x128.Idx) :
    p ∈ tileRows (coordsV c s) ↔ (c.val = 0 ∧ 1728 * s.val ≤ (p 0).val ∧ (p 0).val < 1728 * s.val + 1728)
      ∨ (c.val = 1 ∧ 864 * s.val + 27648 ≤ (p 0).val ∧ (p 0).val < 864 * s.val + 28512) := by
  have hb := base_at c s
  have hn := pairs_at c s
  have hc := c.isLt
  show p ∈ oRows _ _ ↔ _
  rw [oRows, Finset.mem_filter]
  generalize base (coordsV c s) = b at *
  generalize pairs (coordsV c s) = n at *
  generalize (p 0).val = r
  simp only [Finset.mem_univ, _root_.true_and]
  split at hb <;> split at hn <;> omega

/-- No row of the output is two tiles'. -/
theorem tiles_disjoint : ∀ t ∈ (Finset.univ : Finset (Fin 2 × Fin 16)), ∀ t' ∈ (Finset.univ : Finset (Fin 2 × Fin 16)), t ≠ t' →
    Disjoint (tileRows (coordsV t.1 t.2)) (tileRows (coordsV t'.1 t'.2)) := by
  intro t _ t' _ hne
  refine Finset.disjoint_left.mpr fun p h h' => hne ?_
  rw [mem_tileRows] at h h'
  exact Prod.ext (Fin.ext (by omega)) (Fin.ext (by omega))

/-- Every row of the output is a tile's. -/
theorem tiles_cover : (Finset.univ : Finset (Fin 2 × Fin 16)).biUnion (fun t => tileRows (coordsV t.1 t.2)) = Finset.univ := by
  refine Finset.eq_univ_of_forall fun p => Finset.mem_biUnion.mpr ?_
  have hp : (p 0).val < 40962 := (p 0).isLt
  by_cases h : (p 0).val < 27648
  · exact ⟨(0, ⟨(p 0).val / 1728, by omega⟩), Finset.mem_univ _, (mem_tileRows _ _ p).mpr (.inl ⟨rfl, by simp only; omega, by simp only; omega⟩)⟩
  · exact ⟨(1, ⟨((p 0).val - 27648) / 864, by omega⟩), Finset.mem_univ _, (mem_tileRows _ _ p).mpr (.inr ⟨rfl, by simp only; omega, by simp only; omega⟩)⟩

/-- A tile's share of the two arrays that every tile reads. -/
def share (c : Fin 2) (s : Fin 16) : PosShare TreeShare := pieceOf fullShare 32 (by decide) (finProdFinEquiv (c, s))

/-- What a tile holds: its share of the list and of the rows, and its rows of the output at `f`. -/
def task (d : Dev nD) (c : Fin 2) (s : Fin 16) (f : S40962x2x128.Idx → F .f32) : sProp 𝕄 :=
  iprop((nArr d ↦{share c s} N m d) ∗ (xArr d ↦{share c s} X m d) ∗ (oArr d ↦[tileRows (coordsV c s)]{fullShare} f))

instance (d : Dev nD) (c : Fin 2) (s : Fin 16) (f : S40962x2x128.Idx → F .f32) : BI.Storable (upEmb : UEmb _ 𝕄) (task m d c s f) := by
  unfold task; infer_instance

/-- An array held whole is the tiles' shares of it. -/
theorem shares_eq (ℓ : Loc nD τ sig) (f : Buf (Elt F) ℓ) :
    (ℓ ↦{fullShare} f : sProp 𝕄) = bigSep Finset.univ fun c : Fin 2 => bigSep Finset.univ fun s : Fin 16 => ℓ ↦{share c s} f := by
  rw [← bigSep_univ_prod (fun t : Fin 2 × Fin 16 => (ℓ ↦{share t.1 t.2} f : sProp 𝕄)),
    pointsTo_piecesOf Finset.univ f (o := 32) (by decide) fullShare]
  exact bigSep_univ_equiv (finProdFinEquiv (m := 2) (n := 16)) (fun j : Fin 32 => (ℓ ↦{pieceOf fullShare 32 (by decide) j} f : sProp 𝕄))

/-- The output held whole is the tiles' rows of it. -/
theorem rows_eq (d : Dev nD) (f : S40962x2x128.Idx → F .f32) :
    (oArr d ↦{fullShare} f : sProp 𝕄)
      = bigSep Finset.univ fun c : Fin 2 => bigSep Finset.univ fun s : Fin 16 => oArr d ↦[tileRows (coordsV c s)]{fullShare} f := by
  rw [← bigSep_univ_prod (fun t : Fin 2 × Fin 16 => (oArr d ↦[tileRows (coordsV t.1 t.2)]{fullShare} f : sProp 𝕄))]
  have e := pointsTo_biUnion (Val := Elt F) (Ix := SparseCore.Cfg.HIx 1) (Name := ℕ) (U := UU) (Lvl := ℕ) (q := fullShare) (f := f)
    Finset.univ (ℓ := oArr d) (fun t : Fin 2 × Fin 16 => tileRows (coordsV t.1 t.2)) tiles_disjoint
  rw [tiles_cover] at e
  exact e

/-- The three arrays held whole are what the tiles hold. -/
theorem tasks_eq (d : Dev nD) (f : S40962x2x128.Idx → F .f32) :
    ((bigSep Finset.univ fun c : Fin 2 => bigSep Finset.univ fun s : Fin 16 => task m d c s f) : sProp 𝕄)
      = iprop((nArr d ↦{fullShare} N m d) ∗ (xArr d ↦{fullShare} X m d) ∗ (oArr d ↦{fullShare} f)) := by
  rw [shares_eq (nArr d) (N m d), shares_eq (xArr d) (X m d), rows_eq]
  unfold task
  simp only [bigSep_sep']

/-! ## What the handshakes carry -/

/-- A SparseCore takes its tiles' holdings, the output as it was; it brings them back pooled. -/
def P : (K (F := F)).Pay (nD := nD) (Val := Elt F) (Name := ℕ) (U := UU) where
  st := fun q d c => match q with
    | 0 => bigSep Finset.univ fun s : Fin 16 => task m d (Fin.cast nCore_zero c) s (m (oArr d))
  dn := fun q d c => match q with
    | 0 => bigSep Finset.univ fun s : Fin 16 => task m d (Fin.cast nCore_zero c) s (pooled (X m d) (N m d))
  go := fun q d c i => match q with
    | 0 => task m d (Fin.cast nCore_zero c) (Fin.cast nSub_zero i) (m (oArr d))
  td := fun q d c i => match q with
    | 0 => task m d (Fin.cast nCore_zero c) (Fin.cast nSub_zero i) (pooled (X m d) (N m d))
  x := fun _ _ => iprop(emp)

instance P_storable : (P (F := F) m).IsStorable where
  st q d c := match q with
    | 0 => (inferInstance : BI.Storable (upEmb : UEmb _ 𝕄) (bigSep Finset.univ fun s : Fin 16 => task m d (Fin.cast nCore_zero c) s (m (oArr d))))
  dn q d c := match q with
    | 0 => (inferInstance : BI.Storable (upEmb : UEmb _ 𝕄) (bigSep Finset.univ fun s : Fin 16 => task m d (Fin.cast nCore_zero c) s (pooled (X m d) (N m d))))
  go q d c i := match q with
    | 0 => (inferInstance : BI.Storable (upEmb : UEmb _ 𝕄) (task m d (Fin.cast nCore_zero c) (Fin.cast nSub_zero i) (m (oArr d))))
  td q d c i := match q with
    | 0 => (inferInstance : BI.Storable (upEmb : UEmb _ 𝕄) (task m d (Fin.cast nCore_zero c) (Fin.cast nSub_zero i) (pooled (X m d) (N m d))))

/-- The tiles of a SparseCore, counted by the call or by number. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The SparseCores, counted by the call or by number. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share is its tiles' shares, on the way out and on the way back. -/
theorem vecSplit : (K (F := F)).VecSplit' (P m) 0 := by
  intro d c
  show (bigSep Finset.univ fun s : Fin 16 => task m d (Fin.cast nCore_zero c) s (m (oArr d))) ⊢ |={Set.univ}=> iprop(
      (bigSep Finset.univ fun i : Fin ((K (F := F)).nSub 0) => task m d (Fin.cast nCore_zero c) (Fin.cast nSub_zero i) (m (oArr d)))
      ∗ ((bigSep Finset.univ fun i : Fin ((K (F := F)).nSub 0) => task m d (Fin.cast nCore_zero c) (Fin.cast nSub_zero i) (pooled (X m d) (N m d)))
          -∗ (bigSep Finset.univ fun s : Fin 16 => task m d (Fin.cast nCore_zero c) s (pooled (X m d) (N m d)))))
  rw [bigSep_tasks (F := F) (fun i => task m d (Fin.cast nCore_zero c) i (m (oArr d))),
    bigSep_tasks (F := F) (fun i => task m d (Fin.cast nCore_zero c) i (pooled (X m d) (N m d)))]
  iintro H; imodintro
  isplitl [H]; · iexact H
  iintro H; iexact H

end Cert.Proof.Pool
end
-- ==== Proof.Run.lean ====
/-
  The whole program's run: the tiles' tasks under the launch, the host operations around the call, and what the memory
  holds at the end.
-/
module

public import proofs.«01_k».proof.Proof.Launch

@[expose] public section

noncomputable section

namespace Cert.Proof.Pool

open Cert.KernelIdeal Cert.KernelIdeal.Gen Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within held_sub_split held_congr)
open Idealize.ShloMosaic.Tactic

variable {F : FTy → Type} [FloatOps F] [Named F]

local notation "𝕄" => MT nD τ sig (SparseCore.Cfg.HIx 1) (Elt F) ℕ UU ℕ

variable (m : (ℓ : Loc nD τ sig) → Buf (Elt F) ℓ) (ρ : Dev nD → PrngReg)

/-! ## A tile's task -/

/-- What a tile runs is the kernel's body on its arguments. -/
theorem defs₀_vector (c : Fin τ.nSC) (s : Fin τ.nSub) : defs₀ (F := F) (.scVector c s) 0 () = SparseCore.onTile hcore0 hsub0 (fun c s =>
    cc0__body (F := F) (coordsV c s)
      (Memref.whole main_v0_scv) (Memref.isWhole_whole _) (Memref.whole main_v2_scv) (Memref.isWhole_whole _) (Memref.whole main_v3_scv) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 cc0_scoped0 cc0_scoped1 cc0_scoped2 cc0_scoped3 cc0_scoped4) ⟨⟩ c s := rfl

/-- A tile's end, with its waits spelt as the launch has them. -/
theorem obl_post {thr : Thread nD τ} {A B C : sProp 𝕄} {O : CellTallies nD τ sig (SparseCore.Cfg.HIx 1)} {W : Waits sig (SparseCore.Cfg.HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every row number of the list is a row's. -/
def InRows : Prop := ∀ d n, numAt (N m d) n < 163842

set_option maxRecDepth 16384 in
/-- Every tile does its task. -/
theorem tileObl (hF : (K (F := F)).Facts) (hno : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (X m d) (N m d) (m (oArr d)) d (coordsV ⟨_, hci.1⟩ ⟨_, hci.2⟩) (share ⟨_, hci.1⟩ ⟨_, hci.2⟩) O W (hno d)
    (share ⟨_, hci.1⟩ ⟨_, hci.2⟩) hF hO).trans (wp_mono frame _ _ fun _ => obl_post)

/-! ## The launch element of the certificate's ghost state -/

/-- The ghost state at the start. -/
def u₀ : UU := (initOf (K (F := F)).hsCells (K (F := F)).hsToks, 1)

/-- Nothing, many times, is nothing. -/
theorem bigSep_emp' {I : Type} (s : Finset I) : (bigSep s fun _ => iprop(emp)) = (iprop(emp) : sProp 𝕄) := bigSep_emp_const s

/-- What the ghost state at the start gives. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host operations -/

/-- The first argument. -/
abbrev a' : DevRef τ sig := Proc.devRef .tc (main_arg0 : Ref sig .tc)
/-- The second argument. -/
abbrev b' : DevRef τ sig := Proc.devRef .tc (main_arg1 : Ref sig .tc)
/-- The rows, transposed. -/
abbrev x' : DevRef τ sig := Proc.devRef .tc (main_v0 : Ref sig .tc)
/-- The scalar zero. -/
abbrev c' : DevRef τ sig := Proc.devRef .tc (main_c : Ref sig .tc)
/-- The padding. -/
abbrev z' : DevRef τ sig := Proc.devRef .tc (main_v1 : Ref sig .tc)
/-- The padded list. -/
abbrev n' : DevRef τ sig := Proc.devRef .tc (main_v2 : Ref sig .tc)
/-- The call's output. -/
abbrev o' : DevRef τ sig := Proc.devRef .tc (main_v3 : Ref sig .tc)
/-- The result. -/
abbrev r' : DevRef τ sig := Proc.devRef .tc (main_v4 : Ref sig .tc)

/-- The host's operations before the call: the rows, the zeros and the list. -/
abbrev opX : HloOp τ sig (Elt F) := StableHlo.unary main_arg0 main_v0 ((transpose S163842x2x128 [0, 2, 1] · transposes_S163842x128x2_S163842x2x128_0_2_1) : (⟨S163842x128x2, .f32⟩ : BufTy).Contents (Elt F) → (⟨S163842x2x128, .f32⟩ : BufTy).Contents (Elt F))
/-- The scalar zero is written. -/
abbrev opC : HloOp τ sig (Elt F) := StableHlo.nullary main_c (constantI S_ 32 0#32)
/-- The padding is written. -/
abbrev opZ : HloOp τ sig (Elt F) := StableHlo.unary main_c main_v1 (broadcastInDim S10738 ![] bcast_S_S10738 : (⟨S_, .i32⟩ : BufTy).Contents (Elt F) → (⟨S10738, .i32⟩ : BufTy).Contents (Elt F))
/-- The padded list is written. -/
abbrev opN : HloOp τ sig (Elt F) := StableHlo.binary main_arg1 main_v1 main_v2 ((fun a b => concatenate S297472 0 [⟨S286734, a⟩, ⟨S10738, b⟩] concatenates_S286734_S10738_S297472_d0) : (⟨S286734, .i32⟩ : BufTy).Contents (Elt F) → (⟨S10738, .i32⟩ : BufTy).Contents (Elt F) → (⟨S297472, .i32⟩ : BufTy).Contents (Elt F))
/-- The host's operation after the call: the result. -/
abbrev opR : HloOp τ sig (Elt F) := StableHlo.unary main_v3 main_v4 ((transpose S40962x128x2 [0, 2, 1] · transposes_S40962x2x128_S40962x128x2_0_2_1) : (⟨S40962x2x128, .f32⟩ : BufTy).Contents (Elt F) → (⟨S40962x128x2, .f32⟩ : BufTy).Contents (Elt F))

/-- The TensorCore's arrays; the call's; the ones the claims speak of. -/
abbrev S8 : Finset (DevRef τ sig) := {a', b', x', c', z', n', o', r'}
/-- The buffers of the call. -/
abbrev S3 : Finset (DevRef τ sig) := {n', x', o'}
/-- The buffers that the claims are about. -/
abbrev SF : Finset (DevRef τ sig) := {a', b', r'}

/-- The valuations: at the launch, before the call, after the call, at the end. -/
def V0 (d : Dev nD) : Valuation τ sig (Elt F) := fun b => m (d, b)
/-- The buffers' contents before the call. -/
def V1 (d : Dev nD) : Valuation τ sig (Elt F) := (opN (F := F)).result ((opZ (F := F)).result ((opC (F := F)).result ((opX (F := F)).result (V0 m d))))
/-- Their contents after it. -/
def V2 (d : Dev nD) : Valuation τ sig (Elt F) := Function.update (V1 m d) o' (pooled (X m d) (N m d))
/-- Their contents at the end. -/
def V3 (d : Dev nD) : Valuation τ sig (Elt F) := (opR (F := F)).result (V2 m d)

/-- The buffers at the start are held with the memory's contents. -/
theorem unscoped_held (d : Dev nD) : (unscopedBufs d (fun b => m ((SparseCore.T d).loc b)) : sProp 𝕄) = held (SparseCore.T d) S8 (V0 m d) := by
  unfold unscopedBufs held S8
  rw [show (Finset.univ.filter fun b : Ref sig .tc => ¬ b.isScoped) = {main_arg0, main_arg1, main_v0, main_c, main_v1, main_v2, main_v3, main_v4} by decide]
  repeat rw [SparseCore.bigSep_insert' (by decide)]
  repeat rw [bigSep_singleton]
  rfl

/-- Holding the call's buffers is holding each. -/
theorem held_S3 (d : Dev nD) (U : Valuation τ sig (Elt F)) :
    (held (SparseCore.T d) S3 U : sProp 𝕄) = iprop((nArr d ↦{fullShare} U n') ∗ (xArr d ↦{fullShare} U x') ∗ (oArr d ↦{fullShare} U o')) := by
  unfold held S3
  rw [SparseCore.bigSep_insert' (by decide), SparseCore.bigSep_insert' (by decide), bigSep_singleton]

/-- Holding the claims' buffers is holding each. -/
theorem held_SF (d : Dev nD) (U : Valuation τ sig (Elt F)) :
    (held (SparseCore.T d) SF U : sProp 𝕄) = iprop((aAt d ↦{fullShare} U a') ∗ (bAt d ↦{fullShare} U b') ∗ (rAt d ↦{fullShare} U r')) := by
  unfold held SF
  rw [SparseCore.bigSep_insert' (by decide), SparseCore.bigSep_insert' (by decide), bigSep_singleton]

/-- Before the call the padded list is in place. -/
theorem V1_n (d : Dev nD) : V1 m d n' = N m d := by
  unfold V1
  rw [StableHlo.binary_result', StableHlo.unary_result', StableHlo.nullary_result',
    StableHlo.unary_result_ne' (r := main_arg1) _ _ _ _ (by decide), StableHlo.nullary_result_ne' (r := main_arg1) _ _ _ (by decide),
    StableHlo.unary_result_ne' (r := main_arg1) _ _ _ _ (by decide)]
  rfl

/-- Before the call the transposed rows are in place. -/
theorem V1_x (d : Dev nD) : V1 m d x' = X m d := by
  unfold V1
  rw [StableHlo.binary_result_ne' (r := main_v0) _ _ _ _ _ (by decide), StableHlo.unary_result_ne' (r := main_v0) _ _ _ _ (by decide),
    StableHlo.nullary_result_ne' (r := main_v0) _ _ _ (by decide), StableHlo.unary_result']
  rfl

/-- An array no operation before the call writes. -/
theorem V1_of (d : Dev nD) (r : Ref sig .tc) (hn : r ≠ main_v2) (hz : r ≠ main_v1) (hc : r ≠ main_c) (hx : r ≠ main_v0) :
    V1 m d (Proc.devRef .tc r) = m ((SparseCore.T d).loc r) := by
  unfold V1
  rw [StableHlo.binary_result_ne' (r := r) _ _ _ _ _ hn, StableHlo.unary_result_ne' (r := r) _ _ _ _ hz,
    StableHlo.nullary_result_ne' (r := r) _ _ _ hc, StableHlo.unary_result_ne' (r := r) _ _ _ _ hx]
  rfl

/-- The call changes its output alone. -/
theorem V2_of (d : Dev nD) (b : DevRef τ sig) (h : b ≠ o') : V2 m d b = V1 m d b := Function.update_of_ne h _ _

/-- At the end the result is in place. -/
theorem V3_r (d : Dev nD) : V3 m d r' = result (m (aAt d)) (m (bAt d)) := by
  unfold V3
  rw [StableHlo.unary_result']
  show transpose S40962x128x2 [0, 2, 1] (V2 m d o') _ = _
  rw [show V2 m d o' = pooled (X m d) (N m d) from Function.update_self _ _ _]
  rfl

/-- At the end the first argument is as it was. -/
theorem V3_a (d : Dev nD) : V3 m d a' = m (aAt d) := by
  unfold V3
  rw [StableHlo.unary_result_ne' (r := main_arg0) _ _ _ _ (by decide)]
  exact (V2_of m d a' (by decide)).trans (V1_of m d main_arg0 (by decide) (by decide) (by decide) (by decide))

/-- At the end the second argument is as it was. -/
theorem V3_b (d : Dev nD) : V3 m d b' = m (bAt d) := by
  unfold V3
  rw [StableHlo.unary_result_ne' (r := main_arg1) _ _ _ _ (by decide)]
  exact (V2_of m d b' (by decide)).trans (V1_of m d main_arg1 (by decide) (by decide) (by decide) (by decide))

/-! ## The whole program -/

/-- What the tiles take together is the call's buffers before it. -/
theorem st0_eq (d : Dev nD) : (bigSep Finset.univ fun c : Fin ((K (F := F)).nCore 0) => (P m).st 0 d c) = (held (SparseCore.T d) S3 (V1 m d) : sProp 𝕄) := by
  rw [held_S3, V1_n, V1_x, show V1 m d o' = m (oArr d) from V1_of m d main_v3 (by decide) (by decide) (by decide) (by decide), ← tasks_eq]
  exact bigSep_cores (F := F) fun c => bigSep Finset.univ fun s : Fin 16 => task m d c s (m (oArr d))

/-- What the tiles bring back together is the call's buffers after it. -/
theorem dn0_eq (d : Dev nD) : (bigSep Finset.univ fun c : Fin ((K (F := F)).nCore 0) => (P m).dn 0 d c) = (held (SparseCore.T d) S3 (V2 m d) : sProp 𝕄) := by
  rw [held_S3, V2_of m d n' (by decide), V2_of m d x' (by decide), V1_n, V1_x,
    show V2 m d o' = pooled (X m d) (N m d) from Function.update_self _ _ _, ← tasks_eq]
  exact bigSep_cores (F := F) fun c => bigSep Finset.univ fun s : Fin 16 => task m d c s (pooled (X m d) (N m d))

/-- What the program leaves the claims: the arguments as they were, the result at its value. -/
abbrev FIN (d : Dev nD) : sProp 𝕄 :=
  iprop((aAt d ↦{fullShare} m (aAt d)) ∗ (bAt d ↦{fullShare} m (bAt d)) ∗ (rAt d ↦{fullShare} result (m (aAt d)) (m (bAt d))))

/-- At the end, what the claims are about, and the rest. -/
theorem end_split (d : Dev nD) : (held (SparseCore.T d) S8 (V3 m d) : sProp 𝕄) = iprop(FIN m d ∗ held (SparseCore.T d) (S8 \ SF) (V3 m d)) := by
  rw [held_sub_split (SparseCore.T d) (T := SF) (S := S8) (by decide), held_SF, V3_a, V3_b, V3_r]

/-- Before the call, its buffers, and the rest. -/
theorem call_split (d : Dev nD) : (held (SparseCore.T d) S8 (V1 m d) : sProp 𝕄)
    = iprop(held (SparseCore.T d) S3 (V1 m d) ∗ held (SparseCore.T d) (S8 \ S3) (V1 m d)) :=
  held_sub_split (SparseCore.T d) (by decide) _

/-- After the call, its buffers, and the rest, which is as it was. -/
theorem call_join (d : Dev nD) : (held (SparseCore.T d) S8 (V2 m d) : sProp 𝕄)
    = iprop(held (SparseCore.T d) S3 (V2 m d) ∗ held (SparseCore.T d) (S8 \ S3) (V1 m d)) := by
  rw [held_sub_split (SparseCore.T d) (T := S3) (S := S8) (by decide),
    held_congr (SparseCore.T d) (S := S8 \ S3) (V := V2 m d) (V' := V1 m d) fun b hb => V2_of m d b fun e => by subst e; revert hb; decide]

/-- The transpose's buffers are the program's. -/
theorem hX : (opX (F := F)).bufs ⊆ S8 := show ({a', x'} : Finset (DevRef τ sig)) ⊆ S8 by decide
/-- The zero's buffer is the program's. -/
theorem hC : (opC (F := F)).bufs ⊆ S8 := show ({c'} : Finset (DevRef τ sig)) ⊆ S8 by decide
/-- The padding's buffers are the program's. -/
theorem hZ : (opZ (F := F)).bufs ⊆ S8 := show ({c', z'} : Finset (DevRef τ sig)) ⊆ S8 by decide
/-- The list's buffers are the program's. -/
theorem hN : (opN (F := F)).bufs ⊆ S8 := show ({b', z', n'} : Finset (DevRef τ sig)) ⊆ S8 by decide
/-- The last transpose's buffers are the program's. -/
theorem hR : (opR (F := F)).bufs ⊆ S8 := show ({o', r'} : Finset (DevRef τ sig)) ⊆ S8 by decide

/-- The program on a device's TensorCore: the operations before the call, the call, the operation after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := opX) (S := S8) hX (V := V0 m d)) $$ [Hb Hh]
  · isplitl [Hb] <;> iassumption
  iintro ⟨Hb, Hh⟩
  rw [wp_ret]; imodintro
  iapply (wp_hlo_within 𝒱 (SparseCore.T d) none Set.univ (op := opC) (S := S8) hC (V := (opX (F := F)).result (V0 m d))) $$ [Hb Hh]
  · isplitl [Hb] <;> iassumption
  iintro ⟨Hb, Hh⟩
  rw [wp_ret]; imodintro
  iapply (wp_hlo_within 𝒱 (SparseCore.T d) none Set.univ (op := opZ) (S := S8) hZ (V := (opC (F := F)).result ((opX (F := F)).result (V0 m d)))) $$ [Hb Hh]
  · isplitl [Hb] <;> iassumption
  iintro ⟨Hb, Hh⟩
  rw [wp_ret]; imodintro
  iapply (wp_hlo_within 𝒱 (SparseCore.T d) none Set.univ (op := opN) (S := S8) hN (V := (opZ (F := F)).result ((opC (F := F)).result ((opX (F := F)).result (V0 m d))))) $$ [Hb Hh]
  · isplitl [Hb] <;> iassumption
  iintro ⟨Hb, Hh⟩
  rw [wp_ret]; imodintro
  ihave Hh' := (show (held (SparseCore.T d) S8 ((opN (F := F)).result ((opZ (F := F)).result ((opC (F := F)).result ((opX (F := F)).result (V0 m d))))) : sProp 𝕄) ⊢ _ from
    Entails.of_eq (call_split m d)) $$ Hh
  icases Hh' with ⟨H3, Hrest⟩
  iapply ((K (F := F)).wp_run (D (F := F)) 𝒱 (EH := EH) (P := P m) κ d 0) $$ [Hst H3 Hb Hts Hrest]
  isplitr; · iexact Hctx
  isplitl [Hst]; · iexact Hst
  isplitl [H3]
  · rw [st0_eq]; iexact H3
  iintro ⟨Hst, Hdn⟩
  ihave H3 := (Entails.of_eq (dn0_eq m d)) $$ Hdn
  ihave Hh := (Entails.of_eq (call_join m d).symm) $$ [H3 Hrest]
  · isplitl [H3] <;> iassumption
  iapply (wp_hlo_within 𝒱 (SparseCore.T d) none Set.univ (op := opR) (S := S8) hR (V := V2 m d)) $$ [Hb Hh]
  · isplitl [Hb] <;> iassumption
  iintro ⟨Hb, Hh⟩
  rw [wp_ret]; imodintro; imodintro
  ihave Hh' := (show (held (SparseCore.T d) S8 ((opR (F := F)).result (V2 m d)) : sProp 𝕄) ⊢ _ from Entails.of_eq (end_split m d)) $$ Hh
  icases Hh' with ⟨HF, -⟩
  isplitl [Hst]; · iexact Hst
  isplitl [HF]; · iexact HF
  isplitl [Hb] <;> iassumption

/-- What the final memory holds on a device. -/
def fq (d : Dev nD) (s' : Phys nD τ sig (Elt F)) : Prop :=
  s'.mem.mem (aAt d) = m (aAt d) ∧ s'.mem.mem (bAt d) = m (bAt d) ∧ s'.mem.mem (rAt d) = result (m (aAt d)) (m (bAt d))

set_option maxRecDepth 16384 in
/-- The final assertion says what the memory holds. -/
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aAt d) (I := Finset.univ) (q := fullShare) (f := m (aAt d)))) $$ [HSI Ha]
  · isplitl [HSI] <;> iassumption
  icases H with ⟨%h1, HSI, -⟩
  ihave H := (persistent_entails_right (SI_pointsTo_agree (st := s') (ℓ := bAt d) (I := Finset.univ) (q := fullShare) (f := m (bAt d)))) $$ [HSI Hb]
  · isplitl [HSI] <;> iassumption
  icases H with ⟨%h2, HSI, -⟩
  ihave H := (SI_pointsTo_agree (st := s') (ℓ := rAt d) (I := Finset.univ) (q := fullShare) (f := result (m (aAt d)) (m (bAt d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The program's end: on every device the arguments as they were and the result at its value, every semaphore at zero. -/
def Ends : PUnit × MemSt nD τ sig (Elt F) → Prop := fun r =>
  (∀ c : Dev nD, r.2.mem (aAt c) = m (aAt c) ∧ r.2.mem (bAt c) = m (bAt c) ∧ r.2.mem (rAt c) = result (m (aAt c)) (m (bAt c))) ∧ r.2.sem = fun _ => 0

/-- The program runs and ends so, whenever every row number of the list is a row's. -/
theorem run_main [∀ e, Nonempty (Elt F e)] (hno : InRows m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hno)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Pool
end
-- ==== Proof.Frames.lean ====
/-
  The claims about the kernels alone: each runs, faults nowhere, leaves its arguments as they were and every semaphore
  at zero; the reference too; and the named constant is the one that the kernel's word stands for.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_in_rows
public import Idealize.ShloMosaic.Lib.ReduceAll
public import Idealize.ShloMosaic.Lib.Quiescent
public import Idealize.ShloMosaic.Lib.Pointwise.SelectCore

@[expose] public section

noncomputable section

namespace Cert.Proof.Pool

open Cert.KernelIdeal Cert.KernelIdeal.Gen
open Idealize.ShloMosaic Idealize.SL.Sem

variable {F : FTy → Type} [FloatOps F]

/-! ## The precondition -/

/-- A word that is not negative and below 163842, both as signed words, is a row's number. -/
theorem word_in_rows (v : BitVec 32) (e : IntOp.andi (IntOp.cmpi .sge v 0#32) (IntOp.cmpi .slt v 163842#32) = 1#1) : v.toNat < 163842 := by
  have conj : ∀ p q : Bool, IntOp.andi (BitVec.ofBool p) (BitVec.ofBool q) = 1#1 → p = true ∧ q = true := by decide
  obtain ⟨h0, h1⟩ := conj _ _ e
  simp only [BitVec.sle_eq_decide, BitVec.slt_eq_decide, decide_eq_true_eq, BitVec.toInt_eq_toNat_cond, BitVec.toNat_ofNat, Nat.reducePow, Nat.reduceMod] at h0 h1
  omega

/-- Under the precondition every word of the argument list is a row's number. -/
theorem arg_in_rows (a : S163842x128x2.Idx → F .f32) (b : S286734.Idx → BitVec 32) (h : Cert.Pre_in_rows.fn (F := F) a b = fun _ => 1#1)
    (j : S286734.Idx) : (b j).toNat < 163842 := by
  have : Subsingleton Cert.Pre_in_rows.S_.Idx := ⟨fun p q => funext fun k => k.elim0⟩
  exact word_in_rows _ (Host.reduce_andi_all _ _ _ _ (fun k => k.elim0) (congrFun h _) j)

/-- So every word of the list the kernel reads is one: after the argument come zeros. -/
theorem nums_in_rows (b : S286734.Idx → BitVec 32) (h : ∀ j, (b j).toNat < 163842) (n : ℕ) : numAt (nums b) n < 163842 := by
  unfold numAt nums
  refine concatenate_forall (P := fun v : BitVec 32 => v.toNat < 163842) _ _ _ _ (fun p hp => ?_) _
  rcases List.mem_cons.mp hp with rfl | hp
  · exact h
  rcases List.mem_cons.mp hp with rfl | hp
  · exact fun _ => show (0#32).toNat < 163842 by decide
  · exact nomatch hp

/-! ## The idealized kernel -/

/-- Under the precondition every number of the kernel's list is a row's. -/
theorem inRows_ideal (m : (ℓ : Loc nD τ sig) → Buf (Elt Ideal) ℓ) (h : Cert.Pre_KernelIdeal m) : InRows (F := Ideal) m :=
  fun d => nums_in_rows _ (arg_in_rows (F := Ideal) _ _ (h d))

/-- The idealized kernel's frame. -/
theorem frame_ideal : Cert.quiescent_KernelIdeal := fun m ρ hpre =>
  (θ_run Cert.KernelIdeal.defs _ _).mono (fun _ h => ⟨fun c => ⟨(h.1 c).1, (h.1 c).2.1⟩, h.2⟩) (run_main (F := Ideal) m ρ (inRows_ideal m hpre))

/-! ## The kernel -/

/-- Over the float words a named constant read as its own word: the kernel's reading of its constant. -/
@[reducible] def wordNamed (F : FTy → Type) [FloatOps F] : Named F where
  named _ _ {φ} bits := Scalar.ofBits φ bits

attribute [local instance] wordNamed

set_option maxRecDepth 100000 in
set_option maxHeartbeats 4000000 in
/-- The kernel's bodies are the idealized kernel's, the constant its own word. -/
theorem defs_eq : Cert.Kernel.defs (F := Bits) = Cert.KernelIdeal.defs (F := Bits) := rfl

set_option maxRecDepth 100000 in
set_option maxHeartbeats 4000000 in
/-- So are its threads. -/
theorem threads_eq : Cert.Kernel.threads (F := Bits) = Cert.KernelIdeal.threads (F := Bits) := rfl

/-- The kernel's frame: the idealized kernel's run, over the float words. -/
theorem frame_kernel : Cert.quiescent_Kernel := fun m ρ hpre => by
  rw [defs_eq, threads_eq]
  have hno : InRows (F := Bits) m := fun d => nums_in_rows _ (arg_in_rows (F := Bits) _ _ (hpre d))
  exact (θ_run (Cert.KernelIdeal.defs (F := Bits)) _ _).mono (fun _ h => ⟨fun c => ⟨(h.1 c).1, (h.1 c).2.1⟩, h.2⟩) (run_main (F := Bits) m ρ hno)

/-! ## The reference and the named constant -/

/-- The reference's frame, from any memory. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's frame under the precondition. -/
theorem frame_reference_pre : Cert.quiescent_ReferenceIdeal_pre_in_rows := fun m ρ _ => frame_reference m ρ trivial

/-- The named constant's value is the one the idealization is given. -/
theorem preserves : Cert.preserves_Kernel_KernelIdeal :=
  IdealRules.named_const.statement Cert.KernelIdeal.κ "seventh" .f32 0x3E124925#32 ((7⁻¹ : ℝ) : EReal) rfl

end Cert.Proof.Pool
end
-- ==== Proof.Equation.lean ====
/-
  The equation: over the extended reals the program's result is the reference's. The reference gathers whole rows, reads
  the 896 words that a node's seven rows hold in a row as seven words for each lane, adds each seven and divides by
  seven; the kernel adds the same seven in another order and multiplies by the named seventh.
-/
module

public import proofs.«01_k».proof.Proof.Frames
public import Idealize.ShloMosaic.Lib.IdealHost
public import Idealize.ShloMosaic.Lib.Pipeline.Value
public import Idealize.ShloMosaic.Lib.Pointwise.Reduce
public import Idealize.ShloMosaic.PureOps.Ideal

@[expose] public section

noncomputable section

namespace Cert.Proof.Pool

open Idealize.ShloMosaic Idealize.SL.Sem

/-! ## The constants -/

/-- The word of `7.0` denotes seven. -/
theorem seven_word : Ideal.ofBits .f32 0x40E00000#32 = ((7 : ℝ) : EReal) := by
  simp [Ideal.ofBits, Ideal.ieee, -EReal.coe_mul]; norm_num

/-- The word of `0.0` denotes zero. -/
theorem zero_word : Ideal.ofBits .f32 0x00000000#32 = 0 := by
  simp [Ideal.ofBits, Ideal.ieee]

/-- The named constant denotes a seventh. -/
theorem seventh : Named.named (F := Ideal) Cert.KernelIdeal.κ "seventh" (φ := .f32) 0x3E124925#32 = ((7⁻¹ : ℝ) : EReal) :=
  IdealRules.named_const.ideal_named_scalar _ _ _ _ rfl

/-- The kernel's mean of seven is zero and their sum, divided by seven. -/
theorem mean1_eq (a : Fin 7 → EReal) : mean1 (F := Ideal) a = Ideal.div (0 + ∑ k : Fin 7, a k) ((7 : ℝ) : EReal) := by
  rw [Ideal.div_coe (by norm_num), one_div]
  unfold mean1
  rw [seventh]
  show ((a 0 + a 1) + (a 2 + a 3) + ((a 4 + a 5) + a 6)) * ((7⁻¹ : ℝ) : EReal) = _
  congr 1
  rw [zero_add, Fin.sum_univ_seven]
  simp only [add_assoc]

/-! ## The arrays of the kernel at an index -/

section Kernel

open Cert.KernelIdeal Cert.KernelIdeal.Gen

variable (a : S163842x128x2.Idx → EReal) (b : S286734.Idx → BitVec 32)

/-- The argument array at row `r`, column `c`, batch entry `bb`. -/
def argAt (r c bb : ℕ) : EReal :=
  a fun
    | 0 => ⟨r % 163842, Nat.mod_lt _ (by decide)⟩
    | 1 => ⟨c % 128, Nat.mod_lt _ (by decide)⟩
    | 2 => ⟨bb % 2, Nat.mod_lt _ (by decide)⟩

/-- Word `n` of the argument list. -/
def wordAt (n : ℕ) : BitVec 32 := b fun | 0 => ⟨n % 286734, Nat.mod_lt _ (by decide)⟩

/-- The mean that both programs compute, of node `n`, lane `l`, batch entry `bb`. -/
def meanAt (n l bb : ℕ) : EReal :=
  Ideal.div (0 + ∑ k : Fin 7, argAt a (wordAt b (7 * n + (7 * l + k.val) / 128)).toNat ((7 * l + k.val) % 128) bb) ((7 : ℝ) : EReal)

/-- The rows the kernel reads are the argument's, with the column and the batch entry exchanged. -/
theorem rows_at (r bb c : ℕ) : xAt (F := Ideal) (rows (F := Ideal) a) r bb c = argAt a r c bb := by
  unfold xAt rows argAt
  refine transpose_apply _ _ _ _ _ fun k => ?_
  match k with
  | ⟨0, _⟩ => rfl
  | ⟨1, _⟩ => rfl
  | ⟨2, _⟩ => rfl

/-- The list the kernel reads starts with the argument's numbers. -/
theorem nums_at (n : ℕ) (h : n < 286734) : numAt (nums b) n = (wordAt b n).toNat := by
  have e : nums b (fun | 0 => ⟨n % 297472, Nat.mod_lt _ (by decide)⟩) = wordAt b n := by
    unfold nums wordAt
    refine concatenate_pair_apply_left (s₁ := S286734) (s₂ := S10738) (0 : Fin S297472.rank) b _ _ _ rfl
      (fun | 0 => ⟨n % 286734, Nat.mod_lt _ (by decide)⟩) fun k => ?_
    match k with
    | ⟨0, _⟩ => show n % 286734 = n % 297472; omega
  exact congrArg BitVec.toNat e

/-- The program's result at an index. -/
theorem result_at (p : S40962x128x2.Idx) : result (F := Ideal) a b p = meanAt a b (p 0).val (p 1).val (p 2).val := by
  have h0 : (p 0).val < 40962 := (p 0).isLt
  have h1 : (p 1).val < 128 := (p 1).isLt
  unfold result
  refine (transpose_apply _ _ _ p (ValueIdx.ix3 (n0 := 40962) (n1 := 2) (n2 := 128) (p 0) (p 2) (p 1)) fun k => ?_).trans ?_
  · match k with
    | ⟨0, _⟩ => rfl
    | ⟨1, _⟩ => rfl
    | ⟨2, _⟩ => rfl
  show node _ _ (p 0).val (p 2).val (p 1).val = _
  unfold node meanAt
  rw [mean1_eq]
  refine congrArg (fun s => Ideal.div (0 + s) _) (Finset.sum_congr rfl fun k _ => ?_)
  have hk := k.isLt
  rw [rows_at, nums_at b _ (by omega)]

end Kernel

/-! ## The reference at an index -/

section Reference

open Cert.ReferenceIdeal Cert.ReferenceIdeal.Gen

variable (a : S163842x128x2.Idx → EReal) (b : S286734.Idx → BitVec 32)

/-- The row numbers the reference gathers by: a negative one has the number of rows added. -/
abbrev wrapped : S286734x1.Idx → BitVec 32 :=
  broadcastInDim S286734x1 ![0] bcast_S286734_S286734x1_0 (select (cmpi .slt b (broadcastInDim S286734 ![] bcast_S_S286734 (constantI S_ 32 0#32)))
    (addi b (broadcastInDim S286734 ![] bcast_S_S286734 (constantI S_ 32 163842#32))) b)

/-- A row's number is not negative, so it stays. -/
theorem wrapped_at (n : Fin 286734) (h : (wordAt b n.val).toNat < 163842) : wrapped b (ValueIdx.ix2 n (0 : Fin 1)) = wordAt b n.val := by
  have hn : ¬ (wordAt b n.val).slt 0#32 = true := by
    rw [BitVec.slt_eq_decide, decide_eq_true_eq, BitVec.toInt_eq_toNat_cond]
    simp only [BitVec.toInt_zero]
    split <;> omega
  unfold wrapped
  refine (broadcastInDim_apply (s := S286734) _ _ _ _ (fun | 0 => ⟨n.val % 286734, Nat.mod_lt _ (by decide)⟩) fun k => ?_).trans ?_
  · match k with
    | ⟨0, _⟩ => exact Nat.mod_eq_of_lt n.isLt
  show (if BitVec.ofBool ((wordAt b n.val).slt 0#32) = 1#1 then _ else wordAt b n.val) = wordAt b n.val
  rw [if_neg]
  rw [Bool.not_eq_true] at hn
  rw [hn]; decide

/-- The gathered array at an index: the row whose number the index array has there. -/
theorem gather_at (n : Fin 286734) (c : Fin 128) (bb : Fin 2) (idx : S286734x1.Idx → BitVec 32) (r : ℕ) (hr : r < 163842)
    (h : (idx (ValueIdx.ix2 n (0 : Fin 1))).toInt = r) :
    Host.gather gather_S163842x128x2_S286734x1_S286734x128x2_12_0_n_n_0_1_11282 a idx (ValueIdx.ix3 n c bb) = argAt a r c.val bb.val := by
  unfold Host.gather argAt
  refine congrArg a (funext fun k => Fin.ext ?_)
  generalize hd : gather_S163842x128x2_S286734x1_S286734x128x2_12_0_n_n_0_1_11282 = d
  match k with
  | ⟨0, _⟩ =>
    show d.start _ idx 0 + d.batchCoord _ 0 + d.offCoord _ 0 = r % 163842
    subst hd
    rw [GatherDims.batchCoord_eq_zero _ _ _ (by decide), GatherDims.offCoord_eq_zero _ _ _ (by decide)]
    unfold GatherDims.start
    rw [dif_pos (by decide), Nat.mod_eq_of_lt hr]
    refine (congrArg (fun i => min (idx i).toInt.toNat 163841) (funext fun k => ?_ : _ = ValueIdx.ix2 n (0 : Fin 1))).trans ?_
    · match k with
      | ⟨0, _⟩ => rfl
      | ⟨1, _⟩ => rfl
    · show min (idx (ValueIdx.ix2 n (0 : Fin 1))).toInt.toNat 163841 = r
      rw [h]; omega
  | ⟨1, _⟩ =>
    show d.start _ idx 1 + d.batchCoord _ 1 + d.offCoord _ 1 = c.val % 128
    subst hd
    rw [GatherDims.batchCoord_eq_zero _ _ _ (by decide)]
    unfold GatherDims.start GatherDims.offCoord
    rw [dif_neg (by decide), dif_pos (by decide), Nat.mod_eq_of_lt c.isLt, Nat.zero_add]
    rfl
  | ⟨2, _⟩ =>
    show d.start _ idx 2 + d.batchCoord _ 2 + d.offCoord _ 2 = bb.val % 2
    subst hd
    rw [GatherDims.batchCoord_eq_zero _ _ _ (by decide)]
    unfold GatherDims.start GatherDims.offCoord
    rw [dif_neg (by decide), dif_pos (by decide), Nat.mod_eq_of_lt bb.isLt, Nat.zero_add]
    rfl

/-- The reference's result. -/
abbrev plain : S40962x128x2.Idx → EReal :=
  transpose S40962x128x2 [0, 2, 1] (transpose S40962x2x128 [1, 0, 2] (Host.divf (F := Ideal) (φ := .f32) (Host.reduceAdd (F := Ideal) (φ := .f32)
    (transpose S2x40962x128x7 [1, 0, 2, 3] (transpose S40962x2x128x7 [0, 2, 1, 3] (transpose S40962x128x2x7 [0, 1, 3, 2] (shapeCast S40962x128x7x2
      (Host.gather gather_S163842x128x2_S286734x1_S286734x128x2_12_0_n_n_0_1_11282 a (wrapped b))
      shapeCasts_S286734x128x2_S40962x128x7x2) transposes_S40962x128x7x2_S40962x128x2x7_0_1_3_2) transposes_S40962x128x2x7_S40962x2x128x7_0_2_1_3)
      transposes_S40962x2x128x7_S2x40962x128x7_1_0_2_3) (constant (F := Ideal) S_ .f32 0x00000000#32) reducesTo_S2x40962x128x7_S2x40962x128_d3 h_S_)
    (broadcastInDim S2x40962x128 ![] bcast_S_S2x40962x128 (constant (F := Ideal) S_ .f32 0x40E00000#32))) transposes_S2x40962x128_S40962x2x128_1_0_2)
    transposes_S40962x2x128_S40962x128x2_0_2_1

/-- The gathered words, read as seven for each lane of each node. -/
theorem seven_at (h : ∀ j, (b j).toNat < 163842) (n : Fin 40962) (l : Fin 128) (k : Fin 7) (bb : Fin 2) :
    shapeCast S40962x128x7x2 (Host.gather gather_S163842x128x2_S286734x1_S286734x128x2_12_0_n_n_0_1_11282 a (wrapped b))
        shapeCasts_S286734x128x2_S40962x128x7x2 (ValueIdx.ix4 n l k bb)
      = argAt a (wordAt b (7 * n.val + (7 * l.val + k.val) / 128)).toNat ((7 * l.val + k.val) % 128) bb.val := by
  have hn := n.isLt; have hl := l.isLt; have hk := k.isLt; have hbb := bb.isLt
  have hw : ∀ n : ℕ, (wordAt b n).toNat < 163842 := fun n => h _
  refine (shapeCast_apply _ _ _ (ValueIdx.ix3 (n0 := 286734) (n1 := 128) (n2 := 2) ⟨7 * n.val + (7 * l.val + k.val) / 128, by omega⟩
    ⟨(7 * l.val + k.val) % 128, Nat.mod_lt _ (by decide)⟩ bb) ?_).trans ?_
  · rw [Shape.rowMajor_val_three, Shape.rowMajor_val_four]
    show ((7 * n.val + (7 * l.val + k.val) / 128) * 128 + (7 * l.val + k.val) % 128) * 2 + bb.val = ((n.val * 128 + l.val) * 7 + k.val) * 2 + bb.val
    omega
  refine gather_at a _ _ _ _ _ (hw _) ?_
  rw [wrapped_at b _ (hw _), BitVec.toInt_eq_toNat_cond]
  exact if_pos (by have := hw (7 * n.val + (7 * l.val + k.val) / 128); show 2 * (wordAt b (7 * n.val + (7 * l.val + k.val) / 128)).toNat < 2 ^ 32; omega)

/-- The reference's result at an index. -/
theorem plain_at (h : ∀ j, (b j).toNat < 163842) (p : S40962x128x2.Idx) : plain a b p = meanAt a b (p 0).val (p 1).val (p 2).val := by
  unfold plain
  refine (transpose_apply _ _ _ p (ValueIdx.ix3 (n0 := 40962) (n1 := 2) (n2 := 128) (p 0) (p 2) (p 1)) fun k => ?_).trans ?_
  · match k with
    | ⟨0, _⟩ => rfl
    | ⟨1, _⟩ => rfl
    | ⟨2, _⟩ => rfl
  refine (transpose_apply _ _ _ _ (ValueIdx.ix3 (n0 := 2) (n1 := 40962) (n2 := 128) (p 2) (p 0) (p 1)) fun k => ?_).trans ?_
  · match k with
    | ⟨0, _⟩ => rfl
    | ⟨1, _⟩ => rfl
    | ⟨2, _⟩ => rfl
  rw [ValueIdx.hostDivf_apply, ValueIdx.hostReduceAdd_apply, Ideal.hostReduceAdd_r4_a3]
  have e7 : broadcastInDim S2x40962x128 ![] bcast_S_S2x40962x128 (constant (F := Ideal) S_ .f32 0x40E00000#32)
      (ValueIdx.ix3 (n0 := 2) (n1 := 40962) (n2 := 128) (p 2) (p 0) (p 1)) = ((7 : ℝ) : EReal) := seven_word
  have e0 : constant (F := Ideal) S_ .f32 0x00000000#32 (Shape.Idx.first h_S_) = 0 := zero_word
  rw [e7, e0]
  unfold meanAt
  refine congrArg (fun s => Ideal.div (0 + s) _) (Finset.sum_congr rfl fun k _ => ?_)
  refine (transpose_apply _ _ _ _ (ValueIdx.ix4 (n0 := 40962) (n1 := 2) (n2 := 128) (n3 := 7) (p 0) (p 2) (p 1) k) fun k => ?_).trans ?_
  · match k with
    | ⟨0, _⟩ => rfl
    | ⟨1, _⟩ => rfl
    | ⟨2, _⟩ => rfl
    | ⟨3, _⟩ => rfl
  refine (transpose_apply _ _ _ _ (ValueIdx.ix4 (n0 := 40962) (n1 := 128) (n2 := 2) (n3 := 7) (p 0) (p 1) (p 2) k) fun k => ?_).trans ?_
  · match k with
    | ⟨0, _⟩ => rfl
    | ⟨1, _⟩ => rfl
    | ⟨2, _⟩ => rfl
    | ⟨3, _⟩ => rfl
  refine (transpose_apply _ _ _ _ (ValueIdx.ix4 (n0 := 40962) (n1 := 128) (n2 := 7) (n3 := 2) (p 0) (p 1) k (p 2)) fun k => ?_).trans ?_
  · match k with
    | ⟨0, _⟩ => rfl
    | ⟨1, _⟩ => rfl
    | ⟨2, _⟩ => rfl
    | ⟨3, _⟩ => rfl
  exact seven_at a b h (p 0) (p 1) k (p 2)

end Reference

/-- THE EQUATION: for row numbers that are in range the program's result is the reference's. -/
theorem result_eq (a : Cert.KernelIdeal.S163842x128x2.Idx → EReal) (b : Cert.KernelIdeal.S286734.Idx → BitVec 32)
    (h : ∀ j, (b j).toNat < 163842) : plain a b = result (F := Ideal) a b :=
  funext fun p => (plain_at a b h p).trans (result_at a b p).symm

/-- The two programs, run from the same arguments, end with the same result and the arguments as they were. -/
theorem algebraic : Cert.algebraic_KernelIdeal_ReferenceIdeal := by
  intro m ρ m' ρ' hpre hagree
  refine ⟨fun c => result (F := Ideal) (m (aAt c)) (m (bAt c)),
    (θ_run Cert.KernelIdeal.defs _ _).mono (fun _ h c => ⟨(h.1 c).2.2, (h.1 c).1, (h.1 c).2.1⟩) (run_main (F := Ideal) m ρ (inRows_ideal m hpre)),
    (θ_run Cert.ReferenceIdeal.defs _ _).mono (fun _ h c => ⟨(h c).1.trans ?_, (h c).2⟩) (Cert.ReferenceIdeal.Value.run (F := Ideal) m' ρ')⟩
  rw [(hagree c).1, (hagree c).2]
  exact result_eq _ _ fun j => arg_in_rows _ _ (hpre c) j

end Cert.Proof.Pool
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_rows
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All the claims of `Cert.Claim`. -/
theorem claim : Cert.Claim := ⟨Cert.Kernel.Gen.facts, Cert.KernelIdeal.Gen.facts, Cert.ReferenceIdeal.Gen.facts, Cert.Pre_in_rows.Gen.facts,
  Pool.frame_kernel, Pool.frame_ideal, Pool.frame_reference, Pool.frame_reference_pre, Pool.preserves, Pool.algebraic⟩

end Cert.Proof

end
